-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_StackIdeal (m : (ℓ : Loc Cert.StackIdeal.nD Cert.StackIdeal.τ Cert.StackIdeal.sig) → Buf (Elt Ideal) ℓ) : Prop :=
  True

def Pre_Stack (m : (ℓ : Loc Cert.Stack.nD Cert.Stack.τ Cert.Stack.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_StackSmallIdeal (m : (ℓ : Loc Cert.StackSmallIdeal.nD Cert.StackSmallIdeal.τ Cert.StackSmallIdeal.sig) → Buf (Elt Ideal) ℓ) : Prop :=
  True

def Pre_StackSmall (m : (ℓ : Loc Cert.StackSmall.nD Cert.StackSmall.τ Cert.StackSmall.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_PlainInIdeal (m : (ℓ : Loc Cert.PlainInIdeal.nD Cert.PlainInIdeal.τ Cert.PlainInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_PlainOutIdeal (m : (ℓ : Loc Cert.PlainOutIdeal.nD Cert.PlainOutIdeal.τ Cert.PlainOutIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_PlainUpIdeal (m : (ℓ : Loc Cert.PlainUpIdeal.nD Cert.PlainUpIdeal.τ Cert.PlainUpIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_PlainDownIdeal (m : (ℓ : Loc Cert.PlainDownIdeal.nD Cert.PlainDownIdeal.τ Cert.PlainDownIdeal.sig) → Buf (Elt Ideal) ℓ) : Prop :=
  True

def Pre_AdamConvA (m : (ℓ : Loc Cert.AdamConvA.nD Cert.AdamConvA.τ Cert.AdamConvA.sig) → Buf (Elt Bits) ℓ) : Prop :=
  True

def Pre_AdamConvAIdeal (m : (ℓ : Loc Cert.AdamConvAIdeal.nD Cert.AdamConvAIdeal.τ Cert.AdamConvAIdeal.sig) → Buf (Elt Ideal) ℓ) : Prop :=
  True

def Pre_PlainConvAIdeal (m : (ℓ : Loc Cert.PlainConvAIdeal.nD Cert.PlainConvAIdeal.τ Cert.PlainConvAIdeal.sig) → Buf (Elt Ideal) ℓ) : Prop :=
  True

def Pre_AdamConvF (m : (ℓ : Loc Cert.AdamConvF.nD Cert.AdamConvF.τ Cert.AdamConvF.sig) → Buf (Elt Bits) ℓ) : Prop :=
  True

def Pre_AdamConvFIdeal (m : (ℓ : Loc Cert.AdamConvFIdeal.nD Cert.AdamConvFIdeal.τ Cert.AdamConvFIdeal.sig) → Buf (Elt Ideal) ℓ) : Prop :=
  True

def Pre_PlainConvFIdeal (m : (ℓ : Loc Cert.PlainConvFIdeal.nD Cert.PlainConvFIdeal.τ Cert.PlainConvFIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_PlainSmallIdeal (m : (ℓ : Loc Cert.PlainSmallIdeal.nD Cert.PlainSmallIdeal.τ Cert.PlainSmallIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_PlainRmsFwdIdeal (m : (ℓ : Loc Cert.PlainRmsFwdIdeal.nD Cert.PlainRmsFwdIdeal.τ Cert.PlainRmsFwdIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_PlainRmsBwdIdeal (m : (ℓ : Loc Cert.PlainRmsBwdIdeal.nD Cert.PlainRmsBwdIdeal.τ Cert.PlainRmsBwdIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_PlainLossIdeal (m : (ℓ : Loc Cert.PlainLossIdeal.nD Cert.PlainLossIdeal.τ Cert.PlainLossIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_PlainProjAIdeal (m : (ℓ : Loc Cert.PlainProjAIdeal.nD Cert.PlainProjAIdeal.τ Cert.PlainProjAIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_PlainProjZIdeal (m : (ℓ : Loc Cert.PlainProjZIdeal.nD Cert.PlainProjZIdeal.τ Cert.PlainProjZIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_PlainProjBIdeal (m : (ℓ : Loc Cert.PlainProjBIdeal.nD Cert.PlainProjBIdeal.τ Cert.PlainProjBIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_PlainOutProjIdeal (m : (ℓ : Loc Cert.PlainOutProjIdeal.nD Cert.PlainOutProjIdeal.τ Cert.PlainOutProjIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_PlainFfnUpIdeal (m : (ℓ : Loc Cert.PlainFfnUpIdeal.nD Cert.PlainFfnUpIdeal.τ Cert.PlainFfnUpIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_PlainFfnDownIdeal (m : (ℓ : Loc Cert.PlainFfnDownIdeal.nD Cert.PlainFfnDownIdeal.τ Cert.PlainFfnDownIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_PlainFfnDownDxIdeal (m : (ℓ : Loc Cert.PlainFfnDownDxIdeal.nD Cert.PlainFfnDownDxIdeal.τ Cert.PlainFfnDownDxIdeal.sig) → Buf (Elt Ideal) ℓ) : Prop :=
  True

def Pre_FfnGateDx (m : (ℓ : Loc Cert.FfnGateDx.nD Cert.FfnGateDx.τ Cert.FfnGateDx.sig) → Buf (Elt Bits) ℓ) : Prop :=
  True

def Pre_FfnGateDxIdeal (m : (ℓ : Loc Cert.FfnGateDxIdeal.nD Cert.FfnGateDxIdeal.τ Cert.FfnGateDxIdeal.sig) → Buf (Elt Ideal) ℓ) : Prop :=
  True

def Pre_PlainFfnGateDxIdeal (m : (ℓ : Loc Cert.PlainFfnGateDxIdeal.nD Cert.PlainFfnGateDxIdeal.τ Cert.PlainFfnGateDxIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_PlainFfnUpDxIdeal (m : (ℓ : Loc Cert.PlainFfnUpDxIdeal.nD Cert.PlainFfnUpDxIdeal.τ Cert.PlainFfnUpDxIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_PlainOutProjDxIdeal (m : (ℓ : Loc Cert.PlainOutProjDxIdeal.nD Cert.PlainOutProjDxIdeal.τ Cert.PlainOutProjDxIdeal.sig) → Buf (Elt Ideal) ℓ) : Prop :=
  True

def Pre_ProjADx (m : (ℓ : Loc Cert.ProjADx.nD Cert.ProjADx.τ Cert.ProjADx.sig) → Buf (Elt Bits) ℓ) : Prop :=
  True

def Pre_ProjADxIdeal (m : (ℓ : Loc Cert.ProjADxIdeal.nD Cert.ProjADxIdeal.τ Cert.ProjADxIdeal.sig) → Buf (Elt Ideal) ℓ) : Prop :=
  True

def Pre_PlainProjADxIdeal (m : (ℓ : Loc Cert.PlainProjADxIdeal.nD Cert.PlainProjADxIdeal.τ Cert.PlainProjADxIdeal.sig) → Buf (Elt Ideal) ℓ) : Prop :=
  True

def Pre_ProjZDx (m : (ℓ : Loc Cert.ProjZDx.nD Cert.ProjZDx.τ Cert.ProjZDx.sig) → Buf (Elt Bits) ℓ) : Prop :=
  True

def Pre_ProjZDxIdeal (m : (ℓ : Loc Cert.ProjZDxIdeal.nD Cert.ProjZDxIdeal.τ Cert.ProjZDxIdeal.sig) → Buf (Elt Ideal) ℓ) : Prop :=
  True

def Pre_PlainProjZDxIdeal (m : (ℓ : Loc Cert.PlainProjZDxIdeal.nD Cert.PlainProjZDxIdeal.τ Cert.PlainProjZDxIdeal.sig) → Buf (Elt Ideal) ℓ) : Prop :=
  True

def Pre_ProjBDx (m : (ℓ : Loc Cert.ProjBDx.nD Cert.ProjBDx.τ Cert.ProjBDx.sig) → Buf (Elt Bits) ℓ) : Prop :=
  True

def Pre_ProjBDxIdeal (m : (ℓ : Loc Cert.ProjBDxIdeal.nD Cert.ProjBDxIdeal.τ Cert.ProjBDxIdeal.sig) → Buf (Elt Ideal) ℓ) : Prop :=
  True

def Pre_PlainProjBDxIdeal (m : (ℓ : Loc Cert.PlainProjBDxIdeal.nD Cert.PlainProjBDxIdeal.τ Cert.PlainProjBDxIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_PlainFfnDownDwIdeal (m : (ℓ : Loc Cert.PlainFfnDownDwIdeal.nD Cert.PlainFfnDownDwIdeal.τ Cert.PlainFfnDownDwIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_PlainFfnUpDwIdeal (m : (ℓ : Loc Cert.PlainFfnUpDwIdeal.nD Cert.PlainFfnUpDwIdeal.τ Cert.PlainFfnUpDwIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_PlainOutProjDwIdeal (m : (ℓ : Loc Cert.PlainOutProjDwIdeal.nD Cert.PlainOutProjDwIdeal.τ Cert.PlainOutProjDwIdeal.sig) → Buf (Elt Ideal) ℓ) : Prop :=
  True

def Pre_ProjADw (m : (ℓ : Loc Cert.ProjADw.nD Cert.ProjADw.τ Cert.ProjADw.sig) → Buf (Elt Bits) ℓ) : Prop :=
  True

def Pre_ProjADwIdeal (m : (ℓ : Loc Cert.ProjADwIdeal.nD Cert.ProjADwIdeal.τ Cert.ProjADwIdeal.sig) → Buf (Elt Ideal) ℓ) : Prop :=
  True

def Pre_PlainProjADwIdeal (m : (ℓ : Loc Cert.PlainProjADwIdeal.nD Cert.PlainProjADwIdeal.τ Cert.PlainProjADwIdeal.sig) → Buf (Elt Ideal) ℓ) : Prop :=
  True

def Pre_ProjZDw (m : (ℓ : Loc Cert.ProjZDw.nD Cert.ProjZDw.τ Cert.ProjZDw.sig) → Buf (Elt Bits) ℓ) : Prop :=
  True

def Pre_ProjZDwIdeal (m : (ℓ : Loc Cert.ProjZDwIdeal.nD Cert.ProjZDwIdeal.τ Cert.ProjZDwIdeal.sig) → Buf (Elt Ideal) ℓ) : Prop :=
  True

def Pre_PlainProjZDwIdeal (m : (ℓ : Loc Cert.PlainProjZDwIdeal.nD Cert.PlainProjZDwIdeal.τ Cert.PlainProjZDwIdeal.sig) → Buf (Elt Ideal) ℓ) : Prop :=
  True

def Pre_ProjBDw (m : (ℓ : Loc Cert.ProjBDw.nD Cert.ProjBDw.τ Cert.ProjBDw.sig) → Buf (Elt Bits) ℓ) : Prop :=
  True

def Pre_ProjBDwIdeal (m : (ℓ : Loc Cert.ProjBDwIdeal.nD Cert.ProjBDwIdeal.τ Cert.ProjBDwIdeal.sig) → Buf (Elt Ideal) ℓ) : Prop :=
  True

def Pre_PlainProjBDwIdeal (m : (ℓ : Loc Cert.PlainProjBDwIdeal.nD Cert.PlainProjBDwIdeal.τ Cert.PlainProjBDwIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_PlainFfnActIdeal (m : (ℓ : Loc Cert.PlainFfnActIdeal.nD Cert.PlainFfnActIdeal.τ Cert.PlainFfnActIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ r.2.sem = fun _ => 0)

def quiescent_StackIdeal [hStackIdeal : Cert.StackIdeal.Facts] : Prop :=
  ∀ (m : (ℓ : Loc Cert.StackIdeal.nD Cert.StackIdeal.τ Cert.StackIdeal.sig) → Buf (Elt Ideal) ℓ) (g : Dev Cert.StackIdeal.nD → PrngReg), Pre_StackIdeal m →
    θ_run (Cert.StackIdeal.defs (F := Ideal)) (onTc (τ := Cert.StackIdeal.τ) (Cert.StackIdeal.main (F := Ideal))) ⟨m, fun _ => 0, g⟩ (fun r => (∀ c : Dev Cert.StackIdeal.nD,
      r.2.mem ((c.tc : Thread Cert.StackIdeal.nD Cert.StackIdeal.τ).loc Cert.StackIdeal.main_arg0) = m ((c.tc : Thread Cert.StackIdeal.nD Cert.StackIdeal.τ).loc Cert.StackIdeal.main_arg0)
      ∧ r.2.mem ((c.tc : Thread Cert.StackIdeal.nD Cert.StackIdeal.τ).loc Cert.StackIdeal.main_arg1) = m ((c.tc : Thread Cert.StackIdeal.nD Cert.StackIdeal.τ).loc Cert.StackIdeal.main_arg1)
      ∧ r.2.mem ((c.tc : Thread Cert.StackIdeal.nD Cert.StackIdeal.τ).loc Cert.StackIdeal.main_arg2) = m ((c.tc : Thread Cert.StackIdeal.nD Cert.StackIdeal.τ).loc Cert.StackIdeal.main_arg2)
      ∧ r.2.mem ((c.tc : Thread Cert.StackIdeal.nD Cert.StackIdeal.τ).loc Cert.StackIdeal.main_arg3) = m ((c.tc : Thread Cert.StackIdeal.nD Cert.StackIdeal.τ).loc Cert.StackIdeal.main_arg3)
      ∧ r.2.mem ((c.tc : Thread Cert.StackIdeal.nD Cert.StackIdeal.τ).loc Cert.StackIdeal.main_arg4) = m ((c.tc : Thread Cert.StackIdeal.nD Cert.StackIdeal.τ).loc Cert.StackIdeal.main_arg4)
      ∧ r.2.mem ((c.tc : Thread Cert.StackIdeal.nD Cert.StackIdeal.τ).loc Cert.StackIdeal.main_arg5) = m ((c.tc : Thread Cert.StackIdeal.nD Cert.StackIdeal.τ).loc Cert.StackIdeal.main_arg5))
      ∧ r.2.sem = fun _ => 0)

def quiescent_Stack [hStack : Cert.Stack.Facts] : Prop :=
  ∀ (m : (ℓ : Loc Cert.Stack.nD Cert.Stack.τ Cert.Stack.sig) → Buf (Elt Bits) ℓ) (g : Dev Cert.Stack.nD → PrngReg), Pre_Stack m →
    θ_run (Cert.Stack.defs (F := Bits)) (onTc (τ := Cert.Stack.τ) (Cert.Stack.main (F := Bits))) ⟨m, fun _ => 0, g⟩ (fun r => (∀ c : Dev Cert.Stack.nD,
      r.2.mem ((c.tc : Thread Cert.Stack.nD Cert.Stack.τ).loc Cert.Stack.main_arg0) = m ((c.tc : Thread Cert.Stack.nD Cert.Stack.τ).loc Cert.Stack.main_arg0)
      ∧ r.2.mem ((c.tc : Thread Cert.Stack.nD Cert.Stack.τ).loc Cert.Stack.main_arg1) = m ((c.tc : Thread Cert.Stack.nD Cert.Stack.τ).loc Cert.Stack.main_arg1)
      ∧ r.2.mem ((c.tc : Thread Cert.Stack.nD Cert.Stack.τ).loc Cert.Stack.main_arg2) = m ((c.tc : Thread Cert.Stack.nD Cert.Stack.τ).loc Cert.Stack.main_arg2)
      ∧ r.2.mem ((c.tc : Thread Cert.Stack.nD Cert.Stack.τ).loc Cert.Stack.main_arg3) = m ((c.tc : Thread Cert.Stack.nD Cert.Stack.τ).loc Cert.Stack.main_arg3)
      ∧ r.2.mem ((c.tc : Thread Cert.Stack.nD Cert.Stack.τ).loc Cert.Stack.main_arg4) = m ((c.tc : Thread Cert.Stack.nD Cert.Stack.τ).loc Cert.Stack.main_arg4)
      ∧ r.2.mem ((c.tc : Thread Cert.Stack.nD Cert.Stack.τ).loc Cert.Stack.main_arg5) = m ((c.tc : Thread Cert.Stack.nD Cert.Stack.τ).loc Cert.Stack.main_arg5))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_StackSmallIdeal [hStackSmallIdeal : Cert.StackSmallIdeal.Facts] : Prop :=
  ∀ (m : (ℓ : Loc Cert.StackSmallIdeal.nD Cert.StackSmallIdeal.τ Cert.StackSmallIdeal.sig) → Buf (Elt Ideal) ℓ) (g : Dev Cert.StackSmallIdeal.nD → PrngReg), Pre_StackSmallIdeal m →
    θ_run (Cert.StackSmallIdeal.defs (F := Ideal)) (onTc (τ := Cert.StackSmallIdeal.τ) (Cert.StackSmallIdeal.main (F := Ideal))) ⟨m, fun _ => 0, g⟩ (fun r => (∀ c : Dev Cert.StackSmallIdeal.nD,
      r.2.mem ((c.tc : Thread Cert.StackSmallIdeal.nD Cert.StackSmallIdeal.τ).loc Cert.StackSmallIdeal.main_arg0) = m ((c.tc : Thread Cert.StackSmallIdeal.nD Cert.StackSmallIdeal.τ).loc Cert.StackSmallIdeal.main_arg0))
      ∧ r.2.sem = fun _ => 0)

def quiescent_StackSmall [hStackSmall : Cert.StackSmall.Facts] : Prop :=
  ∀ (m : (ℓ : Loc Cert.StackSmall.nD Cert.StackSmall.τ Cert.StackSmall.sig) → Buf (Elt Bits) ℓ) (g : Dev Cert.StackSmall.nD → PrngReg), Pre_StackSmall m →
    θ_run (Cert.StackSmall.defs (F := Bits)) (onTc (τ := Cert.StackSmall.τ) (Cert.StackSmall.main (F := Bits))) ⟨m, fun _ => 0, g⟩ (fun r => (∀ c : Dev Cert.StackSmall.nD,
      r.2.mem ((c.tc : Thread Cert.StackSmall.nD Cert.StackSmall.τ).loc Cert.StackSmall.main_arg0) = m ((c.tc : Thread Cert.StackSmall.nD Cert.StackSmall.τ).loc Cert.StackSmall.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_PlainInIdeal [hPlainInIdeal : Cert.PlainInIdeal.Facts] : Prop :=
  ∀ (m : (ℓ : Loc Cert.PlainInIdeal.nD Cert.PlainInIdeal.τ Cert.PlainInIdeal.sig) → Buf (Elt Ideal) ℓ) (g : Dev Cert.PlainInIdeal.nD → PrngReg), Pre_PlainInIdeal m →
    θ_run (Cert.PlainInIdeal.defs (F := Ideal)) (onTc (τ := Cert.PlainInIdeal.τ) (Cert.PlainInIdeal.main (F := Ideal))) ⟨m, fun _ => 0, g⟩ (fun r => (∀ c : Dev Cert.PlainInIdeal.nD,
      r.2.mem ((c.tc : Thread Cert.PlainInIdeal.nD Cert.PlainInIdeal.τ).loc Cert.PlainInIdeal.main_arg0) = m ((c.tc : Thread Cert.PlainInIdeal.nD Cert.PlainInIdeal.τ).loc Cert.PlainInIdeal.main_arg0)
      ∧ r.2.mem ((c.tc : Thread Cert.PlainInIdeal.nD Cert.PlainInIdeal.τ).loc Cert.PlainInIdeal.main_arg1) = m ((c.tc : Thread Cert.PlainInIdeal.nD Cert.PlainInIdeal.τ).loc Cert.PlainInIdeal.main_arg1)
      ∧ r.2.mem ((c.tc : Thread Cert.PlainInIdeal.nD Cert.PlainInIdeal.τ).loc Cert.PlainInIdeal.main_arg2) = m ((c.tc : Thread Cert.PlainInIdeal.nD Cert.PlainInIdeal.τ).loc Cert.PlainInIdeal.main_arg2)
      ∧ r.2.mem ((c.tc : Thread Cert.PlainInIdeal.nD Cert.PlainInIdeal.τ).loc Cert.PlainInIdeal.main_arg3) = m ((c.tc : Thread Cert.PlainInIdeal.nD Cert.PlainInIdeal.τ).loc Cert.PlainInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_PlainOutIdeal [hPlainOutIdeal : Cert.PlainOutIdeal.Facts] : Prop :=
  ∀ (m : (ℓ : Loc Cert.PlainOutIdeal.nD Cert.PlainOutIdeal.τ Cert.PlainOutIdeal.sig) → Buf (Elt Ideal) ℓ) (g : Dev Cert.PlainOutIdeal.nD → PrngReg), Pre_PlainOutIdeal m →
    θ_run (Cert.PlainOutIdeal.defs (F := Ideal)) (onTc (τ := Cert.PlainOutIdeal.τ) (Cert.PlainOutIdeal.main (F := Ideal))) ⟨m, fun _ => 0, g⟩ (fun r => (∀ c : Dev Cert.PlainOutIdeal.nD,
      r.2.mem ((c.tc : Thread Cert.PlainOutIdeal.nD Cert.PlainOutIdeal.τ).loc Cert.PlainOutIdeal.main_arg0) = m ((c.tc : Thread Cert.PlainOutIdeal.nD Cert.PlainOutIdeal.τ).loc Cert.PlainOutIdeal.main_arg0)
      ∧ r.2.mem ((c.tc : Thread Cert.PlainOutIdeal.nD Cert.PlainOutIdeal.τ).loc Cert.PlainOutIdeal.main_arg1) = m ((c.tc : Thread Cert.PlainOutIdeal.nD Cert.PlainOutIdeal.τ).loc Cert.PlainOutIdeal.main_arg1)
      ∧ r.2.mem ((c.tc : Thread Cert.PlainOutIdeal.nD Cert.PlainOutIdeal.τ).loc Cert.PlainOutIdeal.main_arg2) = m ((c.tc : Thread Cert.PlainOutIdeal.nD Cert.PlainOutIdeal.τ).loc Cert.PlainOutIdeal.main_arg2)
      ∧ r.2.mem ((c.tc : Thread Cert.PlainOutIdeal.nD Cert.PlainOutIdeal.τ).loc Cert.PlainOutIdeal.main_arg3) = m ((c.tc : Thread Cert.PlainOutIdeal.nD Cert.PlainOutIdeal.τ).loc Cert.PlainOutIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_PlainUpIdeal [hPlainUpIdeal : Cert.PlainUpIdeal.Facts] : Prop :=
  ∀ (m : (ℓ : Loc Cert.PlainUpIdeal.nD Cert.PlainUpIdeal.τ Cert.PlainUpIdeal.sig) → Buf (Elt Ideal) ℓ) (g : Dev Cert.PlainUpIdeal.nD → PrngReg), Pre_PlainUpIdeal m →
    θ_run (Cert.PlainUpIdeal.defs (F := Ideal)) (onTc (τ := Cert.PlainUpIdeal.τ) (Cert.PlainUpIdeal.main (F := Ideal))) ⟨m, fun _ => 0, g⟩ (fun r => (∀ c : Dev Cert.PlainUpIdeal.nD,
      r.2.mem ((c.tc : Thread Cert.PlainUpIdeal.nD Cert.PlainUpIdeal.τ).loc Cert.PlainUpIdeal.main_arg0) = m ((c.tc : Thread Cert.PlainUpIdeal.nD Cert.PlainUpIdeal.τ).loc Cert.PlainUpIdeal.main_arg0)
      ∧ r.2.mem ((c.tc : Thread Cert.PlainUpIdeal.nD Cert.PlainUpIdeal.τ).loc Cert.PlainUpIdeal.main_arg1) = m ((c.tc : Thread Cert.PlainUpIdeal.nD Cert.PlainUpIdeal.τ).loc Cert.PlainUpIdeal.main_arg1)
      ∧ r.2.mem ((c.tc : Thread Cert.PlainUpIdeal.nD Cert.PlainUpIdeal.τ).loc Cert.PlainUpIdeal.main_arg2) = m ((c.tc : Thread Cert.PlainUpIdeal.nD Cert.PlainUpIdeal.τ).loc Cert.PlainUpIdeal.main_arg2)
      ∧ r.2.mem ((c.tc : Thread Cert.PlainUpIdeal.nD Cert.PlainUpIdeal.τ).loc Cert.PlainUpIdeal.main_arg3) = m ((c.tc : Thread Cert.PlainUpIdeal.nD Cert.PlainUpIdeal.τ).loc Cert.PlainUpIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_PlainDownIdeal [hPlainDownIdeal : Cert.PlainDownIdeal.Facts] : Prop :=
  ∀ (m : (ℓ : Loc Cert.PlainDownIdeal.nD Cert.PlainDownIdeal.τ Cert.PlainDownIdeal.sig) → Buf (Elt Ideal) ℓ) (g : Dev Cert.PlainDownIdeal.nD → PrngReg), Pre_PlainDownIdeal m →
    θ_run (Cert.PlainDownIdeal.defs (F := Ideal)) (onTc (τ := Cert.PlainDownIdeal.τ) (Cert.PlainDownIdeal.main (F := Ideal))) ⟨m, fun _ => 0, g⟩ (fun r => (∀ c : Dev Cert.PlainDownIdeal.nD,
      r.2.mem ((c.tc : Thread Cert.PlainDownIdeal.nD Cert.PlainDownIdeal.τ).loc Cert.PlainDownIdeal.main_arg0) = m ((c.tc : Thread Cert.PlainDownIdeal.nD Cert.PlainDownIdeal.τ).loc Cert.PlainDownIdeal.main_arg0)
      ∧ r.2.mem ((c.tc : Thread Cert.PlainDownIdeal.nD Cert.PlainDownIdeal.τ).loc Cert.PlainDownIdeal.main_arg1) = m ((c.tc : Thread Cert.PlainDownIdeal.nD Cert.PlainDownIdeal.τ).loc Cert.PlainDownIdeal.main_arg1)
      ∧ r.2.mem ((c.tc : Thread Cert.PlainDownIdeal.nD Cert.PlainDownIdeal.τ).loc Cert.PlainDownIdeal.main_arg2) = m ((c.tc : Thread Cert.PlainDownIdeal.nD Cert.PlainDownIdeal.τ).loc Cert.PlainDownIdeal.main_arg2)
      ∧ r.2.mem ((c.tc : Thread Cert.PlainDownIdeal.nD Cert.PlainDownIdeal.τ).loc Cert.PlainDownIdeal.main_arg3) = m ((c.tc : Thread Cert.PlainDownIdeal.nD Cert.PlainDownIdeal.τ).loc Cert.PlainDownIdeal.main_arg3))
      ∧ r.2.sem = fun _ => 0)

def quiescent_AdamConvA [hAdamConvA : Cert.AdamConvA.Facts] : Prop :=
  ∀ (m : (ℓ : Loc Cert.AdamConvA.nD Cert.AdamConvA.τ Cert.AdamConvA.sig) → Buf (Elt Bits) ℓ) (g : Dev Cert.AdamConvA.nD → PrngReg), Pre_AdamConvA m →
    θ_run (Cert.AdamConvA.defs (F := Bits)) (onTc (τ := Cert.AdamConvA.τ) (Cert.AdamConvA.main (F := Bits))) ⟨m, fun _ => 0, g⟩ (fun r => (∀ c : Dev Cert.AdamConvA.nD,
      r.2.mem ((c.tc : Thread Cert.AdamConvA.nD Cert.AdamConvA.τ).loc Cert.AdamConvA.main_arg0) = m ((c.tc : Thread Cert.AdamConvA.nD Cert.AdamConvA.τ).loc Cert.AdamConvA.main_arg0)
      ∧ r.2.mem ((c.tc : Thread Cert.AdamConvA.nD Cert.AdamConvA.τ).loc Cert.AdamConvA.main_arg1) = m ((c.tc : Thread Cert.AdamConvA.nD Cert.AdamConvA.τ).loc Cert.AdamConvA.main_arg1)
      ∧ r.2.mem ((c.tc : Thread Cert.AdamConvA.nD Cert.AdamConvA.τ).loc Cert.AdamConvA.main_arg2) = m ((c.tc : Thread Cert.AdamConvA.nD Cert.AdamConvA.τ).loc Cert.AdamConvA.main_arg2)
      ∧ r.2.mem ((c.tc : Thread Cert.AdamConvA.nD Cert.AdamConvA.τ).loc Cert.AdamConvA.main_arg3) = m ((c.tc : Thread Cert.AdamConvA.nD Cert.AdamConvA.τ).loc Cert.AdamConvA.main_arg3))
      ∧ r.2.sem = fun _ => 0)

def quiescent_AdamConvAIdeal [hAdamConvAIdeal : Cert.AdamConvAIdeal.Facts] : Prop :=
  ∀ (m : (ℓ : Loc Cert.AdamConvAIdeal.nD Cert.AdamConvAIdeal.τ Cert.AdamConvAIdeal.sig) → Buf (Elt Ideal) ℓ) (g : Dev Cert.AdamConvAIdeal.nD → PrngReg), Pre_AdamConvAIdeal m →
    θ_run (Cert.AdamConvAIdeal.defs (F := Ideal)) (onTc (τ := Cert.AdamConvAIdeal.τ) (Cert.AdamConvAIdeal.main (F := Ideal))) ⟨m, fun _ => 0, g⟩ (fun r => (∀ c : Dev Cert.AdamConvAIdeal.nD,
      r.2.mem ((c.tc : Thread Cert.AdamConvAIdeal.nD Cert.AdamConvAIdeal.τ).loc Cert.AdamConvAIdeal.main_arg0) = m ((c.tc : Thread Cert.AdamConvAIdeal.nD Cert.AdamConvAIdeal.τ).loc Cert.AdamConvAIdeal.main_arg0)
      ∧ r.2.mem ((c.tc : Thread Cert.AdamConvAIdeal.nD Cert.AdamConvAIdeal.τ).loc Cert.AdamConvAIdeal.main_arg1) = m ((c.tc : Thread Cert.AdamConvAIdeal.nD Cert.AdamConvAIdeal.τ).loc Cert.AdamConvAIdeal.main_arg1)
      ∧ r.2.mem ((c.tc : Thread Cert.AdamConvAIdeal.nD Cert.AdamConvAIdeal.τ).loc Cert.AdamConvAIdeal.main_arg2) = m ((c.tc : Thread Cert.AdamConvAIdeal.nD Cert.AdamConvAIdeal.τ).loc Cert.AdamConvAIdeal.main_arg2)
      ∧ r.2.mem ((c.tc : Thread Cert.AdamConvAIdeal.nD Cert.AdamConvAIdeal.τ).loc Cert.AdamConvAIdeal.main_arg3) = m ((c.tc : Thread Cert.AdamConvAIdeal.nD Cert.AdamConvAIdeal.τ).loc Cert.AdamConvAIdeal.main_arg3))
      ∧ r.2.sem = fun _ => 0)

def quiescent_PlainConvAIdeal [hPlainConvAIdeal : Cert.PlainConvAIdeal.Facts] : Prop :=
  ∀ (m : (ℓ : Loc Cert.PlainConvAIdeal.nD Cert.PlainConvAIdeal.τ Cert.PlainConvAIdeal.sig) → Buf (Elt Ideal) ℓ) (g : Dev Cert.PlainConvAIdeal.nD → PrngReg), Pre_PlainConvAIdeal m →
    θ_run (Cert.PlainConvAIdeal.defs (F := Ideal)) (onTc (τ := Cert.PlainConvAIdeal.τ) (Cert.PlainConvAIdeal.main (F := Ideal))) ⟨m, fun _ => 0, g⟩ (fun r => (∀ c : Dev Cert.PlainConvAIdeal.nD,
      r.2.mem ((c.tc : Thread Cert.PlainConvAIdeal.nD Cert.PlainConvAIdeal.τ).loc Cert.PlainConvAIdeal.main_arg0) = m ((c.tc : Thread Cert.PlainConvAIdeal.nD Cert.PlainConvAIdeal.τ).loc Cert.PlainConvAIdeal.main_arg0)
      ∧ r.2.mem ((c.tc : Thread Cert.PlainConvAIdeal.nD Cert.PlainConvAIdeal.τ).loc Cert.PlainConvAIdeal.main_arg1) = m ((c.tc : Thread Cert.PlainConvAIdeal.nD Cert.PlainConvAIdeal.τ).loc Cert.PlainConvAIdeal.main_arg1)
      ∧ r.2.mem ((c.tc : Thread Cert.PlainConvAIdeal.nD Cert.PlainConvAIdeal.τ).loc Cert.PlainConvAIdeal.main_arg2) = m ((c.tc : Thread Cert.PlainConvAIdeal.nD Cert.PlainConvAIdeal.τ).loc Cert.PlainConvAIdeal.main_arg2)
      ∧ r.2.mem ((c.tc : Thread Cert.PlainConvAIdeal.nD Cert.PlainConvAIdeal.τ).loc Cert.PlainConvAIdeal.main_arg3) = m ((c.tc : Thread Cert.PlainConvAIdeal.nD Cert.PlainConvAIdeal.τ).loc Cert.PlainConvAIdeal.main_arg3))
      ∧ r.2.sem = fun _ => 0)

def quiescent_AdamConvF [hAdamConvF : Cert.AdamConvF.Facts] : Prop :=
  ∀ (m : (ℓ : Loc Cert.AdamConvF.nD Cert.AdamConvF.τ Cert.AdamConvF.sig) → Buf (Elt Bits) ℓ) (g : Dev Cert.AdamConvF.nD → PrngReg), Pre_AdamConvF m →
    θ_run (Cert.AdamConvF.defs (F := Bits)) (onTc (τ := Cert.AdamConvF.τ) (Cert.AdamConvF.main (F := Bits))) ⟨m, fun _ => 0, g⟩ (fun r => (∀ c : Dev Cert.AdamConvF.nD,
      r.2.mem ((c.tc : Thread Cert.AdamConvF.nD Cert.AdamConvF.τ).loc Cert.AdamConvF.main_arg0) = m ((c.tc : Thread Cert.AdamConvF.nD Cert.AdamConvF.τ).loc Cert.AdamConvF.main_arg0)
      ∧ r.2.mem ((c.tc : Thread Cert.AdamConvF.nD Cert.AdamConvF.τ).loc Cert.AdamConvF.main_arg1) = m ((c.tc : Thread Cert.AdamConvF.nD Cert.AdamConvF.τ).loc Cert.AdamConvF.main_arg1)
      ∧ r.2.mem ((c.tc : Thread Cert.AdamConvF.nD Cert.AdamConvF.τ).loc Cert.AdamConvF.main_arg2) = m ((c.tc : Thread Cert.AdamConvF.nD Cert.AdamConvF.τ).loc Cert.AdamConvF.main_arg2)
      ∧ r.2.mem ((c.tc : Thread Cert.AdamConvF.nD Cert.AdamConvF.τ).loc Cert.AdamConvF.main_arg3) = m ((c.tc : Thread Cert.AdamConvF.nD Cert.AdamConvF.τ).loc Cert.AdamConvF.main_arg3))
      ∧ r.2.sem = fun _ => 0)

def quiescent_AdamConvFIdeal [hAdamConvFIdeal : Cert.AdamConvFIdeal.Facts] : Prop :=
  ∀ (m : (ℓ : Loc Cert.AdamConvFIdeal.nD Cert.AdamConvFIdeal.τ Cert.AdamConvFIdeal.sig) → Buf (Elt Ideal) ℓ) (g : Dev Cert.AdamConvFIdeal.nD → PrngReg), Pre_AdamConvFIdeal m →
    θ_run (Cert.AdamConvFIdeal.defs (F := Ideal)) (onTc (τ := Cert.AdamConvFIdeal.τ) (Cert.AdamConvFIdeal.main (F := Ideal))) ⟨m, fun _ => 0, g⟩ (fun r => (∀ c : Dev Cert.AdamConvFIdeal.nD,
      r.2.mem ((c.tc : Thread Cert.AdamConvFIdeal.nD Cert.AdamConvFIdeal.τ).loc Cert.AdamConvFIdeal.main_arg0) = m ((c.tc : Thread Cert.AdamConvFIdeal.nD Cert.AdamConvFIdeal.τ).loc Cert.AdamConvFIdeal.main_arg0)
      ∧ r.2.mem ((c.tc : Thread Cert.AdamConvFIdeal.nD Cert.AdamConvFIdeal.τ).loc Cert.AdamConvFIdeal.main_arg1) = m ((c.tc : Thread Cert.AdamConvFIdeal.nD Cert.AdamConvFIdeal.τ).loc Cert.AdamConvFIdeal.main_arg1)
      ∧ r.2.mem ((c.tc : Thread Cert.AdamConvFIdeal.nD Cert.AdamConvFIdeal.τ).loc Cert.AdamConvFIdeal.main_arg2) = m ((c.tc : Thread Cert.AdamConvFIdeal.nD Cert.AdamConvFIdeal.τ).loc Cert.AdamConvFIdeal.main_arg2)
      ∧ r.2.mem ((c.tc : Thread Cert.AdamConvFIdeal.nD Cert.AdamConvFIdeal.τ).loc Cert.AdamConvFIdeal.main_arg3) = m ((c.tc : Thread Cert.AdamConvFIdeal.nD Cert.AdamConvFIdeal.τ).loc Cert.AdamConvFIdeal.main_arg3))
      ∧ r.2.sem = fun _ => 0)

def quiescent_PlainConvFIdeal [hPlainConvFIdeal : Cert.PlainConvFIdeal.Facts] : Prop :=
  ∀ (m : (ℓ : Loc Cert.PlainConvFIdeal.nD Cert.PlainConvFIdeal.τ Cert.PlainConvFIdeal.sig) → Buf (Elt Ideal) ℓ) (g : Dev Cert.PlainConvFIdeal.nD → PrngReg), Pre_PlainConvFIdeal m →
    θ_run (Cert.PlainConvFIdeal.defs (F := Ideal)) (onTc (τ := Cert.PlainConvFIdeal.τ) (Cert.PlainConvFIdeal.main (F := Ideal))) ⟨m, fun _ => 0, g⟩ (fun r => (∀ c : Dev Cert.PlainConvFIdeal.nD,
      r.2.mem ((c.tc : Thread Cert.PlainConvFIdeal.nD Cert.PlainConvFIdeal.τ).loc Cert.PlainConvFIdeal.main_arg0) = m ((c.tc : Thread Cert.PlainConvFIdeal.nD Cert.PlainConvFIdeal.τ).loc Cert.PlainConvFIdeal.main_arg0)
      ∧ r.2.mem ((c.tc : Thread Cert.PlainConvFIdeal.nD Cert.PlainConvFIdeal.τ).loc Cert.PlainConvFIdeal.main_arg1) = m ((c.tc : Thread Cert.PlainConvFIdeal.nD Cert.PlainConvFIdeal.τ).loc Cert.PlainConvFIdeal.main_arg1)
      ∧ r.2.mem ((c.tc : Thread Cert.PlainConvFIdeal.nD Cert.PlainConvFIdeal.τ).loc Cert.PlainConvFIdeal.main_arg2) = m ((c.tc : Thread Cert.PlainConvFIdeal.nD Cert.PlainConvFIdeal.τ).loc Cert.PlainConvFIdeal.main_arg2)
      ∧ r.2.mem ((c.tc : Thread Cert.PlainConvFIdeal.nD Cert.PlainConvFIdeal.τ).loc Cert.PlainConvFIdeal.main_arg3) = m ((c.tc : Thread Cert.PlainConvFIdeal.nD Cert.PlainConvFIdeal.τ).loc Cert.PlainConvFIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_PlainSmallIdeal [hPlainSmallIdeal : Cert.PlainSmallIdeal.Facts] : Prop :=
  ∀ (m : (ℓ : Loc Cert.PlainSmallIdeal.nD Cert.PlainSmallIdeal.τ Cert.PlainSmallIdeal.sig) → Buf (Elt Ideal) ℓ) (g : Dev Cert.PlainSmallIdeal.nD → PrngReg), Pre_PlainSmallIdeal m →
    θ_run (Cert.PlainSmallIdeal.defs (F := Ideal)) (onTc (τ := Cert.PlainSmallIdeal.τ) (Cert.PlainSmallIdeal.main (F := Ideal))) ⟨m, fun _ => 0, g⟩ (fun r => (∀ c : Dev Cert.PlainSmallIdeal.nD,
      r.2.mem ((c.tc : Thread Cert.PlainSmallIdeal.nD Cert.PlainSmallIdeal.τ).loc Cert.PlainSmallIdeal.main_arg0) = m ((c.tc : Thread Cert.PlainSmallIdeal.nD Cert.PlainSmallIdeal.τ).loc Cert.PlainSmallIdeal.main_arg0)
      ∧ r.2.mem ((c.tc : Thread Cert.PlainSmallIdeal.nD Cert.PlainSmallIdeal.τ).loc Cert.PlainSmallIdeal.main_arg1) = m ((c.tc : Thread Cert.PlainSmallIdeal.nD Cert.PlainSmallIdeal.τ).loc Cert.PlainSmallIdeal.main_arg1)
      ∧ r.2.mem ((c.tc : Thread Cert.PlainSmallIdeal.nD Cert.PlainSmallIdeal.τ).loc Cert.PlainSmallIdeal.main_arg2) = m ((c.tc : Thread Cert.PlainSmallIdeal.nD Cert.PlainSmallIdeal.τ).loc Cert.PlainSmallIdeal.main_arg2)
      ∧ r.2.mem ((c.tc : Thread Cert.PlainSmallIdeal.nD Cert.PlainSmallIdeal.τ).loc Cert.PlainSmallIdeal.main_arg3) = m ((c.tc : Thread Cert.PlainSmallIdeal.nD Cert.PlainSmallIdeal.τ).loc Cert.PlainSmallIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_PlainRmsFwdIdeal [hPlainRmsFwdIdeal : Cert.PlainRmsFwdIdeal.Facts] : Prop :=
  ∀ (m : (ℓ : Loc Cert.PlainRmsFwdIdeal.nD Cert.PlainRmsFwdIdeal.τ Cert.PlainRmsFwdIdeal.sig) → Buf (Elt Ideal) ℓ) (g : Dev Cert.PlainRmsFwdIdeal.nD → PrngReg), Pre_PlainRmsFwdIdeal m →
    θ_run (Cert.PlainRmsFwdIdeal.defs (F := Ideal)) (onTc (τ := Cert.PlainRmsFwdIdeal.τ) (Cert.PlainRmsFwdIdeal.main (F := Ideal))) ⟨m, fun _ => 0, g⟩ (fun r => (∀ c : Dev Cert.PlainRmsFwdIdeal.nD,
      r.2.mem ((c.tc : Thread Cert.PlainRmsFwdIdeal.nD Cert.PlainRmsFwdIdeal.τ).loc Cert.PlainRmsFwdIdeal.main_arg0) = m ((c.tc : Thread Cert.PlainRmsFwdIdeal.nD Cert.PlainRmsFwdIdeal.τ).loc Cert.PlainRmsFwdIdeal.main_arg0)
      ∧ r.2.mem ((c.tc : Thread Cert.PlainRmsFwdIdeal.nD Cert.PlainRmsFwdIdeal.τ).loc Cert.PlainRmsFwdIdeal.main_arg1) = m ((c.tc : Thread Cert.PlainRmsFwdIdeal.nD Cert.PlainRmsFwdIdeal.τ).loc Cert.PlainRmsFwdIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_PlainRmsBwdIdeal [hPlainRmsBwdIdeal : Cert.PlainRmsBwdIdeal.Facts] : Prop :=
  ∀ (m : (ℓ : Loc Cert.PlainRmsBwdIdeal.nD Cert.PlainRmsBwdIdeal.τ Cert.PlainRmsBwdIdeal.sig) → Buf (Elt Ideal) ℓ) (g : Dev Cert.PlainRmsBwdIdeal.nD → PrngReg), Pre_PlainRmsBwdIdeal m →
    θ_run (Cert.PlainRmsBwdIdeal.defs (F := Ideal)) (onTc (τ := Cert.PlainRmsBwdIdeal.τ) (Cert.PlainRmsBwdIdeal.main (F := Ideal))) ⟨m, fun _ => 0, g⟩ (fun r => (∀ c : Dev Cert.PlainRmsBwdIdeal.nD,
      r.2.mem ((c.tc : Thread Cert.PlainRmsBwdIdeal.nD Cert.PlainRmsBwdIdeal.τ).loc Cert.PlainRmsBwdIdeal.main_arg0) = m ((c.tc : Thread Cert.PlainRmsBwdIdeal.nD Cert.PlainRmsBwdIdeal.τ).loc Cert.PlainRmsBwdIdeal.main_arg0)
      ∧ r.2.mem ((c.tc : Thread Cert.PlainRmsBwdIdeal.nD Cert.PlainRmsBwdIdeal.τ).loc Cert.PlainRmsBwdIdeal.main_arg1) = m ((c.tc : Thread Cert.PlainRmsBwdIdeal.nD Cert.PlainRmsBwdIdeal.τ).loc Cert.PlainRmsBwdIdeal.main_arg1)
      ∧ r.2.mem ((c.tc : Thread Cert.PlainRmsBwdIdeal.nD Cert.PlainRmsBwdIdeal.τ).loc Cert.PlainRmsBwdIdeal.main_arg2) = m ((c.tc : Thread Cert.PlainRmsBwdIdeal.nD Cert.PlainRmsBwdIdeal.τ).loc Cert.PlainRmsBwdIdeal.main_arg2)
      ∧ r.2.mem ((c.tc : Thread Cert.PlainRmsBwdIdeal.nD Cert.PlainRmsBwdIdeal.τ).loc Cert.PlainRmsBwdIdeal.main_arg3) = m ((c.tc : Thread Cert.PlainRmsBwdIdeal.nD Cert.PlainRmsBwdIdeal.τ).loc Cert.PlainRmsBwdIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_PlainLossIdeal [hPlainLossIdeal : Cert.PlainLossIdeal.Facts] : Prop :=
  ∀ (m : (ℓ : Loc Cert.PlainLossIdeal.nD Cert.PlainLossIdeal.τ Cert.PlainLossIdeal.sig) → Buf (Elt Ideal) ℓ) (g : Dev Cert.PlainLossIdeal.nD → PrngReg), Pre_PlainLossIdeal m →
    θ_run (Cert.PlainLossIdeal.defs (F := Ideal)) (onTc (τ := Cert.PlainLossIdeal.τ) (Cert.PlainLossIdeal.main (F := Ideal))) ⟨m, fun _ => 0, g⟩ (fun r => (∀ c : Dev Cert.PlainLossIdeal.nD,
      r.2.mem ((c.tc : Thread Cert.PlainLossIdeal.nD Cert.PlainLossIdeal.τ).loc Cert.PlainLossIdeal.main_arg0) = m ((c.tc : Thread Cert.PlainLossIdeal.nD Cert.PlainLossIdeal.τ).loc Cert.PlainLossIdeal.main_arg0)
      ∧ r.2.mem ((c.tc : Thread Cert.PlainLossIdeal.nD Cert.PlainLossIdeal.τ).loc Cert.PlainLossIdeal.main_arg1) = m ((c.tc : Thread Cert.PlainLossIdeal.nD Cert.PlainLossIdeal.τ).loc Cert.PlainLossIdeal.main_arg1)
      ∧ r.2.mem ((c.tc : Thread Cert.PlainLossIdeal.nD Cert.PlainLossIdeal.τ).loc Cert.PlainLossIdeal.main_arg2) = m ((c.tc : Thread Cert.PlainLossIdeal.nD Cert.PlainLossIdeal.τ).loc Cert.PlainLossIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_PlainProjAIdeal [hPlainProjAIdeal : Cert.PlainProjAIdeal.Facts] : Prop :=
  ∀ (m : (ℓ : Loc Cert.PlainProjAIdeal.nD Cert.PlainProjAIdeal.τ Cert.PlainProjAIdeal.sig) → Buf (Elt Ideal) ℓ) (g : Dev Cert.PlainProjAIdeal.nD → PrngReg), Pre_PlainProjAIdeal m →
    θ_run (Cert.PlainProjAIdeal.defs (F := Ideal)) (onTc (τ := Cert.PlainProjAIdeal.τ) (Cert.PlainProjAIdeal.main (F := Ideal))) ⟨m, fun _ => 0, g⟩ (fun r => (∀ c : Dev Cert.PlainProjAIdeal.nD,
      r.2.mem ((c.tc : Thread Cert.PlainProjAIdeal.nD Cert.PlainProjAIdeal.τ).loc Cert.PlainProjAIdeal.main_arg0) = m ((c.tc : Thread Cert.PlainProjAIdeal.nD Cert.PlainProjAIdeal.τ).loc Cert.PlainProjAIdeal.main_arg0)
      ∧ r.2.mem ((c.tc : Thread Cert.PlainProjAIdeal.nD Cert.PlainProjAIdeal.τ).loc Cert.PlainProjAIdeal.main_arg1) = m ((c.tc : Thread Cert.PlainProjAIdeal.nD Cert.PlainProjAIdeal.τ).loc Cert.PlainProjAIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_PlainProjZIdeal [hPlainProjZIdeal : Cert.PlainProjZIdeal.Facts] : Prop :=
  ∀ (m : (ℓ : Loc Cert.PlainProjZIdeal.nD Cert.PlainProjZIdeal.τ Cert.PlainProjZIdeal.sig) → Buf (Elt Ideal) ℓ) (g : Dev Cert.PlainProjZIdeal.nD → PrngReg), Pre_PlainProjZIdeal m →
    θ_run (Cert.PlainProjZIdeal.defs (F := Ideal)) (onTc (τ := Cert.PlainProjZIdeal.τ) (Cert.PlainProjZIdeal.main (F := Ideal))) ⟨m, fun _ => 0, g⟩ (fun r => (∀ c : Dev Cert.PlainProjZIdeal.nD,
      r.2.mem ((c.tc : Thread Cert.PlainProjZIdeal.nD Cert.PlainProjZIdeal.τ).loc Cert.PlainProjZIdeal.main_arg0) = m ((c.tc : Thread Cert.PlainProjZIdeal.nD Cert.PlainProjZIdeal.τ).loc Cert.PlainProjZIdeal.main_arg0)
      ∧ r.2.mem ((c.tc : Thread Cert.PlainProjZIdeal.nD Cert.PlainProjZIdeal.τ).loc Cert.PlainProjZIdeal.main_arg1) = m ((c.tc : Thread Cert.PlainProjZIdeal.nD Cert.PlainProjZIdeal.τ).loc Cert.PlainProjZIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_PlainProjBIdeal [hPlainProjBIdeal : Cert.PlainProjBIdeal.Facts] : Prop :=
  ∀ (m : (ℓ : Loc Cert.PlainProjBIdeal.nD Cert.PlainProjBIdeal.τ Cert.PlainProjBIdeal.sig) → Buf (Elt Ideal) ℓ) (g : Dev Cert.PlainProjBIdeal.nD → PrngReg), Pre_PlainProjBIdeal m →
    θ_run (Cert.PlainProjBIdeal.defs (F := Ideal)) (onTc (τ := Cert.PlainProjBIdeal.τ) (Cert.PlainProjBIdeal.main (F := Ideal))) ⟨m, fun _ => 0, g⟩ (fun r => (∀ c : Dev Cert.PlainProjBIdeal.nD,
      r.2.mem ((c.tc : Thread Cert.PlainProjBIdeal.nD Cert.PlainProjBIdeal.τ).loc Cert.PlainProjBIdeal.main_arg0) = m ((c.tc : Thread Cert.PlainProjBIdeal.nD Cert.PlainProjBIdeal.τ).loc Cert.PlainProjBIdeal.main_arg0)
      ∧ r.2.mem ((c.tc : Thread Cert.PlainProjBIdeal.nD Cert.PlainProjBIdeal.τ).loc Cert.PlainProjBIdeal.main_arg1) = m ((c.tc : Thread Cert.PlainProjBIdeal.nD Cert.PlainProjBIdeal.τ).loc Cert.PlainProjBIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_PlainOutProjIdeal [hPlainOutProjIdeal : Cert.PlainOutProjIdeal.Facts] : Prop :=
  ∀ (m : (ℓ : Loc Cert.PlainOutProjIdeal.nD Cert.PlainOutProjIdeal.τ Cert.PlainOutProjIdeal.sig) → Buf (Elt Ideal) ℓ) (g : Dev Cert.PlainOutProjIdeal.nD → PrngReg), Pre_PlainOutProjIdeal m →
    θ_run (Cert.PlainOutProjIdeal.defs (F := Ideal)) (onTc (τ := Cert.PlainOutProjIdeal.τ) (Cert.PlainOutProjIdeal.main (F := Ideal))) ⟨m, fun _ => 0, g⟩ (fun r => (∀ c : Dev Cert.PlainOutProjIdeal.nD,
      r.2.mem ((c.tc : Thread Cert.PlainOutProjIdeal.nD Cert.PlainOutProjIdeal.τ).loc Cert.PlainOutProjIdeal.main_arg0) = m ((c.tc : Thread Cert.PlainOutProjIdeal.nD Cert.PlainOutProjIdeal.τ).loc Cert.PlainOutProjIdeal.main_arg0)
      ∧ r.2.mem ((c.tc : Thread Cert.PlainOutProjIdeal.nD Cert.PlainOutProjIdeal.τ).loc Cert.PlainOutProjIdeal.main_arg1) = m ((c.tc : Thread Cert.PlainOutProjIdeal.nD Cert.PlainOutProjIdeal.τ).loc Cert.PlainOutProjIdeal.main_arg1)
      ∧ r.2.mem ((c.tc : Thread Cert.PlainOutProjIdeal.nD Cert.PlainOutProjIdeal.τ).loc Cert.PlainOutProjIdeal.main_arg2) = m ((c.tc : Thread Cert.PlainOutProjIdeal.nD Cert.PlainOutProjIdeal.τ).loc Cert.PlainOutProjIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_PlainFfnUpIdeal [hPlainFfnUpIdeal : Cert.PlainFfnUpIdeal.Facts] : Prop :=
  ∀ (m : (ℓ : Loc Cert.PlainFfnUpIdeal.nD Cert.PlainFfnUpIdeal.τ Cert.PlainFfnUpIdeal.sig) → Buf (Elt Ideal) ℓ) (g : Dev Cert.PlainFfnUpIdeal.nD → PrngReg), Pre_PlainFfnUpIdeal m →
    θ_run (Cert.PlainFfnUpIdeal.defs (F := Ideal)) (onTc (τ := Cert.PlainFfnUpIdeal.τ) (Cert.PlainFfnUpIdeal.main (F := Ideal))) ⟨m, fun _ => 0, g⟩ (fun r => (∀ c : Dev Cert.PlainFfnUpIdeal.nD,
      r.2.mem ((c.tc : Thread Cert.PlainFfnUpIdeal.nD Cert.PlainFfnUpIdeal.τ).loc Cert.PlainFfnUpIdeal.main_arg0) = m ((c.tc : Thread Cert.PlainFfnUpIdeal.nD Cert.PlainFfnUpIdeal.τ).loc Cert.PlainFfnUpIdeal.main_arg0)
      ∧ r.2.mem ((c.tc : Thread Cert.PlainFfnUpIdeal.nD Cert.PlainFfnUpIdeal.τ).loc Cert.PlainFfnUpIdeal.main_arg1) = m ((c.tc : Thread Cert.PlainFfnUpIdeal.nD Cert.PlainFfnUpIdeal.τ).loc Cert.PlainFfnUpIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_PlainFfnDownIdeal [hPlainFfnDownIdeal : Cert.PlainFfnDownIdeal.Facts] : Prop :=
  ∀ (m : (ℓ : Loc Cert.PlainFfnDownIdeal.nD Cert.PlainFfnDownIdeal.τ Cert.PlainFfnDownIdeal.sig) → Buf (Elt Ideal) ℓ) (g : Dev Cert.PlainFfnDownIdeal.nD → PrngReg), Pre_PlainFfnDownIdeal m →
    θ_run (Cert.PlainFfnDownIdeal.defs (F := Ideal)) (onTc (τ := Cert.PlainFfnDownIdeal.τ) (Cert.PlainFfnDownIdeal.main (F := Ideal))) ⟨m, fun _ => 0, g⟩ (fun r => (∀ c : Dev Cert.PlainFfnDownIdeal.nD,
      r.2.mem ((c.tc : Thread Cert.PlainFfnDownIdeal.nD Cert.PlainFfnDownIdeal.τ).loc Cert.PlainFfnDownIdeal.main_arg0) = m ((c.tc : Thread Cert.PlainFfnDownIdeal.nD Cert.PlainFfnDownIdeal.τ).loc Cert.PlainFfnDownIdeal.main_arg0)
      ∧ r.2.mem ((c.tc : Thread Cert.PlainFfnDownIdeal.nD Cert.PlainFfnDownIdeal.τ).loc Cert.PlainFfnDownIdeal.main_arg1) = m ((c.tc : Thread Cert.PlainFfnDownIdeal.nD Cert.PlainFfnDownIdeal.τ).loc Cert.PlainFfnDownIdeal.main_arg1)
      ∧ r.2.mem ((c.tc : Thread Cert.PlainFfnDownIdeal.nD Cert.PlainFfnDownIdeal.τ).loc Cert.PlainFfnDownIdeal.main_arg2) = m ((c.tc : Thread Cert.PlainFfnDownIdeal.nD Cert.PlainFfnDownIdeal.τ).loc Cert.PlainFfnDownIdeal.main_arg2))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_PlainFfnDownDxIdeal [hPlainFfnDownDxIdeal : Cert.PlainFfnDownDxIdeal.Facts] : Prop :=
  ∀ (m : (ℓ : Loc Cert.PlainFfnDownDxIdeal.nD Cert.PlainFfnDownDxIdeal.τ Cert.PlainFfnDownDxIdeal.sig) → Buf (Elt Ideal) ℓ) (g : Dev Cert.PlainFfnDownDxIdeal.nD → PrngReg), Pre_PlainFfnDownDxIdeal m →
    θ_run (Cert.PlainFfnDownDxIdeal.defs (F := Ideal)) (onTc (τ := Cert.PlainFfnDownDxIdeal.τ) (Cert.PlainFfnDownDxIdeal.main (F := Ideal))) ⟨m, fun _ => 0, g⟩ (fun r => (∀ c : Dev Cert.PlainFfnDownDxIdeal.nD,
      r.2.mem ((c.tc : Thread Cert.PlainFfnDownDxIdeal.nD Cert.PlainFfnDownDxIdeal.τ).loc Cert.PlainFfnDownDxIdeal.main_arg0) = m ((c.tc : Thread Cert.PlainFfnDownDxIdeal.nD Cert.PlainFfnDownDxIdeal.τ).loc Cert.PlainFfnDownDxIdeal.main_arg0)
      ∧ r.2.mem ((c.tc : Thread Cert.PlainFfnDownDxIdeal.nD Cert.PlainFfnDownDxIdeal.τ).loc Cert.PlainFfnDownDxIdeal.main_arg1) = m ((c.tc : Thread Cert.PlainFfnDownDxIdeal.nD Cert.PlainFfnDownDxIdeal.τ).loc Cert.PlainFfnDownDxIdeal.main_arg1))
      ∧ r.2.sem = fun _ => 0)

def quiescent_FfnGateDx [hFfnGateDx : Cert.FfnGateDx.Facts] : Prop :=
  ∀ (m : (ℓ : Loc Cert.FfnGateDx.nD Cert.FfnGateDx.τ Cert.FfnGateDx.sig) → Buf (Elt Bits) ℓ) (g : Dev Cert.FfnGateDx.nD → PrngReg), Pre_FfnGateDx m →
    θ_run (Cert.FfnGateDx.defs (F := Bits)) (onTc (τ := Cert.FfnGateDx.τ) (Cert.FfnGateDx.main (F := Bits))) ⟨m, fun _ => 0, g⟩ (fun r => (∀ c : Dev Cert.FfnGateDx.nD,
      r.2.mem ((c.tc : Thread Cert.FfnGateDx.nD Cert.FfnGateDx.τ).loc Cert.FfnGateDx.main_arg0) = m ((c.tc : Thread Cert.FfnGateDx.nD Cert.FfnGateDx.τ).loc Cert.FfnGateDx.main_arg0)
      ∧ r.2.mem ((c.tc : Thread Cert.FfnGateDx.nD Cert.FfnGateDx.τ).loc Cert.FfnGateDx.main_arg1) = m ((c.tc : Thread Cert.FfnGateDx.nD Cert.FfnGateDx.τ).loc Cert.FfnGateDx.main_arg1))
      ∧ r.2.sem = fun _ => 0)

def quiescent_FfnGateDxIdeal [hFfnGateDxIdeal : Cert.FfnGateDxIdeal.Facts] : Prop :=
  ∀ (m : (ℓ : Loc Cert.FfnGateDxIdeal.nD Cert.FfnGateDxIdeal.τ Cert.FfnGateDxIdeal.sig) → Buf (Elt Ideal) ℓ) (g : Dev Cert.FfnGateDxIdeal.nD → PrngReg), Pre_FfnGateDxIdeal m →
    θ_run (Cert.FfnGateDxIdeal.defs (F := Ideal)) (onTc (τ := Cert.FfnGateDxIdeal.τ) (Cert.FfnGateDxIdeal.main (F := Ideal))) ⟨m, fun _ => 0, g⟩ (fun r => (∀ c : Dev Cert.FfnGateDxIdeal.nD,
      r.2.mem ((c.tc : Thread Cert.FfnGateDxIdeal.nD Cert.FfnGateDxIdeal.τ).loc Cert.FfnGateDxIdeal.main_arg0) = m ((c.tc : Thread Cert.FfnGateDxIdeal.nD Cert.FfnGateDxIdeal.τ).loc Cert.FfnGateDxIdeal.main_arg0)
      ∧ r.2.mem ((c.tc : Thread Cert.FfnGateDxIdeal.nD Cert.FfnGateDxIdeal.τ).loc Cert.FfnGateDxIdeal.main_arg1) = m ((c.tc : Thread Cert.FfnGateDxIdeal.nD Cert.FfnGateDxIdeal.τ).loc Cert.FfnGateDxIdeal.main_arg1))
      ∧ r.2.sem = fun _ => 0)

def quiescent_PlainFfnGateDxIdeal [hPlainFfnGateDxIdeal : Cert.PlainFfnGateDxIdeal.Facts] : Prop :=
  ∀ (m : (ℓ : Loc Cert.PlainFfnGateDxIdeal.nD Cert.PlainFfnGateDxIdeal.τ Cert.PlainFfnGateDxIdeal.sig) → Buf (Elt Ideal) ℓ) (g : Dev Cert.PlainFfnGateDxIdeal.nD → PrngReg), Pre_PlainFfnGateDxIdeal m →
    θ_run (Cert.PlainFfnGateDxIdeal.defs (F := Ideal)) (onTc (τ := Cert.PlainFfnGateDxIdeal.τ) (Cert.PlainFfnGateDxIdeal.main (F := Ideal))) ⟨m, fun _ => 0, g⟩ (fun r => (∀ c : Dev Cert.PlainFfnGateDxIdeal.nD,
      r.2.mem ((c.tc : Thread Cert.PlainFfnGateDxIdeal.nD Cert.PlainFfnGateDxIdeal.τ).loc Cert.PlainFfnGateDxIdeal.main_arg0) = m ((c.tc : Thread Cert.PlainFfnGateDxIdeal.nD Cert.PlainFfnGateDxIdeal.τ).loc Cert.PlainFfnGateDxIdeal.main_arg0)
      ∧ r.2.mem ((c.tc : Thread Cert.PlainFfnGateDxIdeal.nD Cert.PlainFfnGateDxIdeal.τ).loc Cert.PlainFfnGateDxIdeal.main_arg1) = m ((c.tc : Thread Cert.PlainFfnGateDxIdeal.nD Cert.PlainFfnGateDxIdeal.τ).loc Cert.PlainFfnGateDxIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ r.2.sem = fun _ => 0)

def quiescent_PlainFfnUpDxIdeal [hPlainFfnUpDxIdeal : Cert.PlainFfnUpDxIdeal.Facts] : Prop :=
  ∀ (m : (ℓ : Loc Cert.PlainFfnUpDxIdeal.nD Cert.PlainFfnUpDxIdeal.τ Cert.PlainFfnUpDxIdeal.sig) → Buf (Elt Ideal) ℓ) (g : Dev Cert.PlainFfnUpDxIdeal.nD → PrngReg), Pre_PlainFfnUpDxIdeal m →
    θ_run (Cert.PlainFfnUpDxIdeal.defs (F := Ideal)) (onTc (τ := Cert.PlainFfnUpDxIdeal.τ) (Cert.PlainFfnUpDxIdeal.main (F := Ideal))) ⟨m, fun _ => 0, g⟩ (fun r => (∀ c : Dev Cert.PlainFfnUpDxIdeal.nD,
      r.2.mem ((c.tc : Thread Cert.PlainFfnUpDxIdeal.nD Cert.PlainFfnUpDxIdeal.τ).loc Cert.PlainFfnUpDxIdeal.main_arg0) = m ((c.tc : Thread Cert.PlainFfnUpDxIdeal.nD Cert.PlainFfnUpDxIdeal.τ).loc Cert.PlainFfnUpDxIdeal.main_arg0)
      ∧ r.2.mem ((c.tc : Thread Cert.PlainFfnUpDxIdeal.nD Cert.PlainFfnUpDxIdeal.τ).loc Cert.PlainFfnUpDxIdeal.main_arg1) = m ((c.tc : Thread Cert.PlainFfnUpDxIdeal.nD Cert.PlainFfnUpDxIdeal.τ).loc Cert.PlainFfnUpDxIdeal.main_arg1)
      ∧ r.2.mem ((c.tc : Thread Cert.PlainFfnUpDxIdeal.nD Cert.PlainFfnUpDxIdeal.τ).loc Cert.PlainFfnUpDxIdeal.main_arg2) = m ((c.tc : Thread Cert.PlainFfnUpDxIdeal.nD Cert.PlainFfnUpDxIdeal.τ).loc Cert.PlainFfnUpDxIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_PlainOutProjDxIdeal [hPlainOutProjDxIdeal : Cert.PlainOutProjDxIdeal.Facts] : Prop :=
  ∀ (m : (ℓ : Loc Cert.PlainOutProjDxIdeal.nD Cert.PlainOutProjDxIdeal.τ Cert.PlainOutProjDxIdeal.sig) → Buf (Elt Ideal) ℓ) (g : Dev Cert.PlainOutProjDxIdeal.nD → PrngReg), Pre_PlainOutProjDxIdeal m →
    θ_run (Cert.PlainOutProjDxIdeal.defs (F := Ideal)) (onTc (τ := Cert.PlainOutProjDxIdeal.τ) (Cert.PlainOutProjDxIdeal.main (F := Ideal))) ⟨m, fun _ => 0, g⟩ (fun r => (∀ c : Dev Cert.PlainOutProjDxIdeal.nD,
      r.2.mem ((c.tc : Thread Cert.PlainOutProjDxIdeal.nD Cert.PlainOutProjDxIdeal.τ).loc Cert.PlainOutProjDxIdeal.main_arg0) = m ((c.tc : Thread Cert.PlainOutProjDxIdeal.nD Cert.PlainOutProjDxIdeal.τ).loc Cert.PlainOutProjDxIdeal.main_arg0)
      ∧ r.2.mem ((c.tc : Thread Cert.PlainOutProjDxIdeal.nD Cert.PlainOutProjDxIdeal.τ).loc Cert.PlainOutProjDxIdeal.main_arg1) = m ((c.tc : Thread Cert.PlainOutProjDxIdeal.nD Cert.PlainOutProjDxIdeal.τ).loc Cert.PlainOutProjDxIdeal.main_arg1))
      ∧ r.2.sem = fun _ => 0)

def quiescent_ProjADx [hProjADx : Cert.ProjADx.Facts] : Prop :=
  ∀ (m : (ℓ : Loc Cert.ProjADx.nD Cert.ProjADx.τ Cert.ProjADx.sig) → Buf (Elt Bits) ℓ) (g : Dev Cert.ProjADx.nD → PrngReg), Pre_ProjADx m →
    θ_run (Cert.ProjADx.defs (F := Bits)) (onTc (τ := Cert.ProjADx.τ) (Cert.ProjADx.main (F := Bits))) ⟨m, fun _ => 0, g⟩ (fun r => (∀ c : Dev Cert.ProjADx.nD,
      r.2.mem ((c.tc : Thread Cert.ProjADx.nD Cert.ProjADx.τ).loc Cert.ProjADx.main_arg0) = m ((c.tc : Thread Cert.ProjADx.nD Cert.ProjADx.τ).loc Cert.ProjADx.main_arg0)
      ∧ r.2.mem ((c.tc : Thread Cert.ProjADx.nD Cert.ProjADx.τ).loc Cert.ProjADx.main_arg1) = m ((c.tc : Thread Cert.ProjADx.nD Cert.ProjADx.τ).loc Cert.ProjADx.main_arg1))
      ∧ r.2.sem = fun _ => 0)

def quiescent_ProjADxIdeal [hProjADxIdeal : Cert.ProjADxIdeal.Facts] : Prop :=
  ∀ (m : (ℓ : Loc Cert.ProjADxIdeal.nD Cert.ProjADxIdeal.τ Cert.ProjADxIdeal.sig) → Buf (Elt Ideal) ℓ) (g : Dev Cert.ProjADxIdeal.nD → PrngReg), Pre_ProjADxIdeal m →
    θ_run (Cert.ProjADxIdeal.defs (F := Ideal)) (onTc (τ := Cert.ProjADxIdeal.τ) (Cert.ProjADxIdeal.main (F := Ideal))) ⟨m, fun _ => 0, g⟩ (fun r => (∀ c : Dev Cert.ProjADxIdeal.nD,
      r.2.mem ((c.tc : Thread Cert.ProjADxIdeal.nD Cert.ProjADxIdeal.τ).loc Cert.ProjADxIdeal.main_arg0) = m ((c.tc : Thread Cert.ProjADxIdeal.nD Cert.ProjADxIdeal.τ).loc Cert.ProjADxIdeal.main_arg0)
      ∧ r.2.mem ((c.tc : Thread Cert.ProjADxIdeal.nD Cert.ProjADxIdeal.τ).loc Cert.ProjADxIdeal.main_arg1) = m ((c.tc : Thread Cert.ProjADxIdeal.nD Cert.ProjADxIdeal.τ).loc Cert.ProjADxIdeal.main_arg1))
      ∧ r.2.sem = fun _ => 0)

def quiescent_PlainProjADxIdeal [hPlainProjADxIdeal : Cert.PlainProjADxIdeal.Facts] : Prop :=
  ∀ (m : (ℓ : Loc Cert.PlainProjADxIdeal.nD Cert.PlainProjADxIdeal.τ Cert.PlainProjADxIdeal.sig) → Buf (Elt Ideal) ℓ) (g : Dev Cert.PlainProjADxIdeal.nD → PrngReg), Pre_PlainProjADxIdeal m →
    θ_run (Cert.PlainProjADxIdeal.defs (F := Ideal)) (onTc (τ := Cert.PlainProjADxIdeal.τ) (Cert.PlainProjADxIdeal.main (F := Ideal))) ⟨m, fun _ => 0, g⟩ (fun r => (∀ c : Dev Cert.PlainProjADxIdeal.nD,
      r.2.mem ((c.tc : Thread Cert.PlainProjADxIdeal.nD Cert.PlainProjADxIdeal.τ).loc Cert.PlainProjADxIdeal.main_arg0) = m ((c.tc : Thread Cert.PlainProjADxIdeal.nD Cert.PlainProjADxIdeal.τ).loc Cert.PlainProjADxIdeal.main_arg0)
      ∧ r.2.mem ((c.tc : Thread Cert.PlainProjADxIdeal.nD Cert.PlainProjADxIdeal.τ).loc Cert.PlainProjADxIdeal.main_arg1) = m ((c.tc : Thread Cert.PlainProjADxIdeal.nD Cert.PlainProjADxIdeal.τ).loc Cert.PlainProjADxIdeal.main_arg1))
      ∧ r.2.sem = fun _ => 0)

def quiescent_ProjZDx [hProjZDx : Cert.ProjZDx.Facts] : Prop :=
  ∀ (m : (ℓ : Loc Cert.ProjZDx.nD Cert.ProjZDx.τ Cert.ProjZDx.sig) → Buf (Elt Bits) ℓ) (g : Dev Cert.ProjZDx.nD → PrngReg), Pre_ProjZDx m →
    θ_run (Cert.ProjZDx.defs (F := Bits)) (onTc (τ := Cert.ProjZDx.τ) (Cert.ProjZDx.main (F := Bits))) ⟨m, fun _ => 0, g⟩ (fun r => (∀ c : Dev Cert.ProjZDx.nD,
      r.2.mem ((c.tc : Thread Cert.ProjZDx.nD Cert.ProjZDx.τ).loc Cert.ProjZDx.main_arg0) = m ((c.tc : Thread Cert.ProjZDx.nD Cert.ProjZDx.τ).loc Cert.ProjZDx.main_arg0)
      ∧ r.2.mem ((c.tc : Thread Cert.ProjZDx.nD Cert.ProjZDx.τ).loc Cert.ProjZDx.main_arg1) = m ((c.tc : Thread Cert.ProjZDx.nD Cert.ProjZDx.τ).loc Cert.ProjZDx.main_arg1)
      ∧ r.2.mem ((c.tc : Thread Cert.ProjZDx.nD Cert.ProjZDx.τ).loc Cert.ProjZDx.main_arg2) = m ((c.tc : Thread Cert.ProjZDx.nD Cert.ProjZDx.τ).loc Cert.ProjZDx.main_arg2))
      ∧ r.2.sem = fun _ => 0)

def quiescent_ProjZDxIdeal [hProjZDxIdeal : Cert.ProjZDxIdeal.Facts] : Prop :=
  ∀ (m : (ℓ : Loc Cert.ProjZDxIdeal.nD Cert.ProjZDxIdeal.τ Cert.ProjZDxIdeal.sig) → Buf (Elt Ideal) ℓ) (g : Dev Cert.ProjZDxIdeal.nD → PrngReg), Pre_ProjZDxIdeal m →
    θ_run (Cert.ProjZDxIdeal.defs (F := Ideal)) (onTc (τ := Cert.ProjZDxIdeal.τ) (Cert.ProjZDxIdeal.main (F := Ideal))) ⟨m, fun _ => 0, g⟩ (fun r => (∀ c : Dev Cert.ProjZDxIdeal.nD,
      r.2.mem ((c.tc : Thread Cert.ProjZDxIdeal.nD Cert.ProjZDxIdeal.τ).loc Cert.ProjZDxIdeal.main_arg0) = m ((c.tc : Thread Cert.ProjZDxIdeal.nD Cert.ProjZDxIdeal.τ).loc Cert.ProjZDxIdeal.main_arg0)
      ∧ r.2.mem ((c.tc : Thread Cert.ProjZDxIdeal.nD Cert.ProjZDxIdeal.τ).loc Cert.ProjZDxIdeal.main_arg1) = m ((c.tc : Thread Cert.ProjZDxIdeal.nD Cert.ProjZDxIdeal.τ).loc Cert.ProjZDxIdeal.main_arg1)
      ∧ r.2.mem ((c.tc : Thread Cert.ProjZDxIdeal.nD Cert.ProjZDxIdeal.τ).loc Cert.ProjZDxIdeal.main_arg2) = m ((c.tc : Thread Cert.ProjZDxIdeal.nD Cert.ProjZDxIdeal.τ).loc Cert.ProjZDxIdeal.main_arg2))
      ∧ r.2.sem = fun _ => 0)

def quiescent_PlainProjZDxIdeal [hPlainProjZDxIdeal : Cert.PlainProjZDxIdeal.Facts] : Prop :=
  ∀ (m : (ℓ : Loc Cert.PlainProjZDxIdeal.nD Cert.PlainProjZDxIdeal.τ Cert.PlainProjZDxIdeal.sig) → Buf (Elt Ideal) ℓ) (g : Dev Cert.PlainProjZDxIdeal.nD → PrngReg), Pre_PlainProjZDxIdeal m →
    θ_run (Cert.PlainProjZDxIdeal.defs (F := Ideal)) (onTc (τ := Cert.PlainProjZDxIdeal.τ) (Cert.PlainProjZDxIdeal.main (F := Ideal))) ⟨m, fun _ => 0, g⟩ (fun r => (∀ c : Dev Cert.PlainProjZDxIdeal.nD,
      r.2.mem ((c.tc : Thread Cert.PlainProjZDxIdeal.nD Cert.PlainProjZDxIdeal.τ).loc Cert.PlainProjZDxIdeal.main_arg0) = m ((c.tc : Thread Cert.PlainProjZDxIdeal.nD Cert.PlainProjZDxIdeal.τ).loc Cert.PlainProjZDxIdeal.main_arg0)
      ∧ r.2.mem ((c.tc : Thread Cert.PlainProjZDxIdeal.nD Cert.PlainProjZDxIdeal.τ).loc Cert.PlainProjZDxIdeal.main_arg1) = m ((c.tc : Thread Cert.PlainProjZDxIdeal.nD Cert.PlainProjZDxIdeal.τ).loc Cert.PlainProjZDxIdeal.main_arg1)
      ∧ r.2.mem ((c.tc : Thread Cert.PlainProjZDxIdeal.nD Cert.PlainProjZDxIdeal.τ).loc Cert.PlainProjZDxIdeal.main_arg2) = m ((c.tc : Thread Cert.PlainProjZDxIdeal.nD Cert.PlainProjZDxIdeal.τ).loc Cert.PlainProjZDxIdeal.main_arg2))
      ∧ r.2.sem = fun _ => 0)

def quiescent_ProjBDx [hProjBDx : Cert.ProjBDx.Facts] : Prop :=
  ∀ (m : (ℓ : Loc Cert.ProjBDx.nD Cert.ProjBDx.τ Cert.ProjBDx.sig) → Buf (Elt Bits) ℓ) (g : Dev Cert.ProjBDx.nD → PrngReg), Pre_ProjBDx m →
    θ_run (Cert.ProjBDx.defs (F := Bits)) (onTc (τ := Cert.ProjBDx.τ) (Cert.ProjBDx.main (F := Bits))) ⟨m, fun _ => 0, g⟩ (fun r => (∀ c : Dev Cert.ProjBDx.nD,
      r.2.mem ((c.tc : Thread Cert.ProjBDx.nD Cert.ProjBDx.τ).loc Cert.ProjBDx.main_arg0) = m ((c.tc : Thread Cert.ProjBDx.nD Cert.ProjBDx.τ).loc Cert.ProjBDx.main_arg0)
      ∧ r.2.mem ((c.tc : Thread Cert.ProjBDx.nD Cert.ProjBDx.τ).loc Cert.ProjBDx.main_arg1) = m ((c.tc : Thread Cert.ProjBDx.nD Cert.ProjBDx.τ).loc Cert.ProjBDx.main_arg1)
      ∧ r.2.mem ((c.tc : Thread Cert.ProjBDx.nD Cert.ProjBDx.τ).loc Cert.ProjBDx.main_arg2) = m ((c.tc : Thread Cert.ProjBDx.nD Cert.ProjBDx.τ).loc Cert.ProjBDx.main_arg2))
      ∧ r.2.sem = fun _ => 0)

def quiescent_ProjBDxIdeal [hProjBDxIdeal : Cert.ProjBDxIdeal.Facts] : Prop :=
  ∀ (m : (ℓ : Loc Cert.ProjBDxIdeal.nD Cert.ProjBDxIdeal.τ Cert.ProjBDxIdeal.sig) → Buf (Elt Ideal) ℓ) (g : Dev Cert.ProjBDxIdeal.nD → PrngReg), Pre_ProjBDxIdeal m →
    θ_run (Cert.ProjBDxIdeal.defs (F := Ideal)) (onTc (τ := Cert.ProjBDxIdeal.τ) (Cert.ProjBDxIdeal.main (F := Ideal))) ⟨m, fun _ => 0, g⟩ (fun r => (∀ c : Dev Cert.ProjBDxIdeal.nD,
      r.2.mem ((c.tc : Thread Cert.ProjBDxIdeal.nD Cert.ProjBDxIdeal.τ).loc Cert.ProjBDxIdeal.main_arg0) = m ((c.tc : Thread Cert.ProjBDxIdeal.nD Cert.ProjBDxIdeal.τ).loc Cert.ProjBDxIdeal.main_arg0)
      ∧ r.2.mem ((c.tc : Thread Cert.ProjBDxIdeal.nD Cert.ProjBDxIdeal.τ).loc Cert.ProjBDxIdeal.main_arg1) = m ((c.tc : Thread Cert.ProjBDxIdeal.nD Cert.ProjBDxIdeal.τ).loc Cert.ProjBDxIdeal.main_arg1)
      ∧ r.2.mem ((c.tc : Thread Cert.ProjBDxIdeal.nD Cert.ProjBDxIdeal.τ).loc Cert.ProjBDxIdeal.main_arg2) = m ((c.tc : Thread Cert.ProjBDxIdeal.nD Cert.ProjBDxIdeal.τ).loc Cert.ProjBDxIdeal.main_arg2))
      ∧ r.2.sem = fun _ => 0)

def quiescent_PlainProjBDxIdeal [hPlainProjBDxIdeal : Cert.PlainProjBDxIdeal.Facts] : Prop :=
  ∀ (m : (ℓ : Loc Cert.PlainProjBDxIdeal.nD Cert.PlainProjBDxIdeal.τ Cert.PlainProjBDxIdeal.sig) → Buf (Elt Ideal) ℓ) (g : Dev Cert.PlainProjBDxIdeal.nD → PrngReg), Pre_PlainProjBDxIdeal m →
    θ_run (Cert.PlainProjBDxIdeal.defs (F := Ideal)) (onTc (τ := Cert.PlainProjBDxIdeal.τ) (Cert.PlainProjBDxIdeal.main (F := Ideal))) ⟨m, fun _ => 0, g⟩ (fun r => (∀ c : Dev Cert.PlainProjBDxIdeal.nD,
      r.2.mem ((c.tc : Thread Cert.PlainProjBDxIdeal.nD Cert.PlainProjBDxIdeal.τ).loc Cert.PlainProjBDxIdeal.main_arg0) = m ((c.tc : Thread Cert.PlainProjBDxIdeal.nD Cert.PlainProjBDxIdeal.τ).loc Cert.PlainProjBDxIdeal.main_arg0)
      ∧ r.2.mem ((c.tc : Thread Cert.PlainProjBDxIdeal.nD Cert.PlainProjBDxIdeal.τ).loc Cert.PlainProjBDxIdeal.main_arg1) = m ((c.tc : Thread Cert.PlainProjBDxIdeal.nD Cert.PlainProjBDxIdeal.τ).loc Cert.PlainProjBDxIdeal.main_arg1)
      ∧ r.2.mem ((c.tc : Thread Cert.PlainProjBDxIdeal.nD Cert.PlainProjBDxIdeal.τ).loc Cert.PlainProjBDxIdeal.main_arg2) = m ((c.tc : Thread Cert.PlainProjBDxIdeal.nD Cert.PlainProjBDxIdeal.τ).loc Cert.PlainProjBDxIdeal.main_arg2))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_PlainFfnDownDwIdeal [hPlainFfnDownDwIdeal : Cert.PlainFfnDownDwIdeal.Facts] : Prop :=
  ∀ (m : (ℓ : Loc Cert.PlainFfnDownDwIdeal.nD Cert.PlainFfnDownDwIdeal.τ Cert.PlainFfnDownDwIdeal.sig) → Buf (Elt Ideal) ℓ) (g : Dev Cert.PlainFfnDownDwIdeal.nD → PrngReg), Pre_PlainFfnDownDwIdeal m →
    θ_run (Cert.PlainFfnDownDwIdeal.defs (F := Ideal)) (onTc (τ := Cert.PlainFfnDownDwIdeal.τ) (Cert.PlainFfnDownDwIdeal.main (F := Ideal))) ⟨m, fun _ => 0, g⟩ (fun r => (∀ c : Dev Cert.PlainFfnDownDwIdeal.nD,
      r.2.mem ((c.tc : Thread Cert.PlainFfnDownDwIdeal.nD Cert.PlainFfnDownDwIdeal.τ).loc Cert.PlainFfnDownDwIdeal.main_arg0) = m ((c.tc : Thread Cert.PlainFfnDownDwIdeal.nD Cert.PlainFfnDownDwIdeal.τ).loc Cert.PlainFfnDownDwIdeal.main_arg0)
      ∧ r.2.mem ((c.tc : Thread Cert.PlainFfnDownDwIdeal.nD Cert.PlainFfnDownDwIdeal.τ).loc Cert.PlainFfnDownDwIdeal.main_arg1) = m ((c.tc : Thread Cert.PlainFfnDownDwIdeal.nD Cert.PlainFfnDownDwIdeal.τ).loc Cert.PlainFfnDownDwIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_PlainFfnUpDwIdeal [hPlainFfnUpDwIdeal : Cert.PlainFfnUpDwIdeal.Facts] : Prop :=
  ∀ (m : (ℓ : Loc Cert.PlainFfnUpDwIdeal.nD Cert.PlainFfnUpDwIdeal.τ Cert.PlainFfnUpDwIdeal.sig) → Buf (Elt Ideal) ℓ) (g : Dev Cert.PlainFfnUpDwIdeal.nD → PrngReg), Pre_PlainFfnUpDwIdeal m →
    θ_run (Cert.PlainFfnUpDwIdeal.defs (F := Ideal)) (onTc (τ := Cert.PlainFfnUpDwIdeal.τ) (Cert.PlainFfnUpDwIdeal.main (F := Ideal))) ⟨m, fun _ => 0, g⟩ (fun r => (∀ c : Dev Cert.PlainFfnUpDwIdeal.nD,
      r.2.mem ((c.tc : Thread Cert.PlainFfnUpDwIdeal.nD Cert.PlainFfnUpDwIdeal.τ).loc Cert.PlainFfnUpDwIdeal.main_arg0) = m ((c.tc : Thread Cert.PlainFfnUpDwIdeal.nD Cert.PlainFfnUpDwIdeal.τ).loc Cert.PlainFfnUpDwIdeal.main_arg0)
      ∧ r.2.mem ((c.tc : Thread Cert.PlainFfnUpDwIdeal.nD Cert.PlainFfnUpDwIdeal.τ).loc Cert.PlainFfnUpDwIdeal.main_arg1) = m ((c.tc : Thread Cert.PlainFfnUpDwIdeal.nD Cert.PlainFfnUpDwIdeal.τ).loc Cert.PlainFfnUpDwIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_PlainOutProjDwIdeal [hPlainOutProjDwIdeal : Cert.PlainOutProjDwIdeal.Facts] : Prop :=
  ∀ (m : (ℓ : Loc Cert.PlainOutProjDwIdeal.nD Cert.PlainOutProjDwIdeal.τ Cert.PlainOutProjDwIdeal.sig) → Buf (Elt Ideal) ℓ) (g : Dev Cert.PlainOutProjDwIdeal.nD → PrngReg), Pre_PlainOutProjDwIdeal m →
    θ_run (Cert.PlainOutProjDwIdeal.defs (F := Ideal)) (onTc (τ := Cert.PlainOutProjDwIdeal.τ) (Cert.PlainOutProjDwIdeal.main (F := Ideal))) ⟨m, fun _ => 0, g⟩ (fun r => (∀ c : Dev Cert.PlainOutProjDwIdeal.nD,
      r.2.mem ((c.tc : Thread Cert.PlainOutProjDwIdeal.nD Cert.PlainOutProjDwIdeal.τ).loc Cert.PlainOutProjDwIdeal.main_arg0) = m ((c.tc : Thread Cert.PlainOutProjDwIdeal.nD Cert.PlainOutProjDwIdeal.τ).loc Cert.PlainOutProjDwIdeal.main_arg0)
      ∧ r.2.mem ((c.tc : Thread Cert.PlainOutProjDwIdeal.nD Cert.PlainOutProjDwIdeal.τ).loc Cert.PlainOutProjDwIdeal.main_arg1) = m ((c.tc : Thread Cert.PlainOutProjDwIdeal.nD Cert.PlainOutProjDwIdeal.τ).loc Cert.PlainOutProjDwIdeal.main_arg1))
      ∧ r.2.sem = fun _ => 0)

def quiescent_ProjADw [hProjADw : Cert.ProjADw.Facts] : Prop :=
  ∀ (m : (ℓ : Loc Cert.ProjADw.nD Cert.ProjADw.τ Cert.ProjADw.sig) → Buf (Elt Bits) ℓ) (g : Dev Cert.ProjADw.nD → PrngReg), Pre_ProjADw m →
    θ_run (Cert.ProjADw.defs (F := Bits)) (onTc (τ := Cert.ProjADw.τ) (Cert.ProjADw.main (F := Bits))) ⟨m, fun _ => 0, g⟩ (fun r => (∀ c : Dev Cert.ProjADw.nD,
      r.2.mem ((c.tc : Thread Cert.ProjADw.nD Cert.ProjADw.τ).loc Cert.ProjADw.main_arg0) = m ((c.tc : Thread Cert.ProjADw.nD Cert.ProjADw.τ).loc Cert.ProjADw.main_arg0)
      ∧ r.2.mem ((c.tc : Thread Cert.ProjADw.nD Cert.ProjADw.τ).loc Cert.ProjADw.main_arg1) = m ((c.tc : Thread Cert.ProjADw.nD Cert.ProjADw.τ).loc Cert.ProjADw.main_arg1))
      ∧ r.2.sem = fun _ => 0)

def quiescent_ProjADwIdeal [hProjADwIdeal : Cert.ProjADwIdeal.Facts] : Prop :=
  ∀ (m : (ℓ : Loc Cert.ProjADwIdeal.nD Cert.ProjADwIdeal.τ Cert.ProjADwIdeal.sig) → Buf (Elt Ideal) ℓ) (g : Dev Cert.ProjADwIdeal.nD → PrngReg), Pre_ProjADwIdeal m →
    θ_run (Cert.ProjADwIdeal.defs (F := Ideal)) (onTc (τ := Cert.ProjADwIdeal.τ) (Cert.ProjADwIdeal.main (F := Ideal))) ⟨m, fun _ => 0, g⟩ (fun r => (∀ c : Dev Cert.ProjADwIdeal.nD,
      r.2.mem ((c.tc : Thread Cert.ProjADwIdeal.nD Cert.ProjADwIdeal.τ).loc Cert.ProjADwIdeal.main_arg0) = m ((c.tc : Thread Cert.ProjADwIdeal.nD Cert.ProjADwIdeal.τ).loc Cert.ProjADwIdeal.main_arg0)
      ∧ r.2.mem ((c.tc : Thread Cert.ProjADwIdeal.nD Cert.ProjADwIdeal.τ).loc Cert.ProjADwIdeal.main_arg1) = m ((c.tc : Thread Cert.ProjADwIdeal.nD Cert.ProjADwIdeal.τ).loc Cert.ProjADwIdeal.main_arg1))
      ∧ r.2.sem = fun _ => 0)

def quiescent_PlainProjADwIdeal [hPlainProjADwIdeal : Cert.PlainProjADwIdeal.Facts] : Prop :=
  ∀ (m : (ℓ : Loc Cert.PlainProjADwIdeal.nD Cert.PlainProjADwIdeal.τ Cert.PlainProjADwIdeal.sig) → Buf (Elt Ideal) ℓ) (g : Dev Cert.PlainProjADwIdeal.nD → PrngReg), Pre_PlainProjADwIdeal m →
    θ_run (Cert.PlainProjADwIdeal.defs (F := Ideal)) (onTc (τ := Cert.PlainProjADwIdeal.τ) (Cert.PlainProjADwIdeal.main (F := Ideal))) ⟨m, fun _ => 0, g⟩ (fun r => (∀ c : Dev Cert.PlainProjADwIdeal.nD,
      r.2.mem ((c.tc : Thread Cert.PlainProjADwIdeal.nD Cert.PlainProjADwIdeal.τ).loc Cert.PlainProjADwIdeal.main_arg0) = m ((c.tc : Thread Cert.PlainProjADwIdeal.nD Cert.PlainProjADwIdeal.τ).loc Cert.PlainProjADwIdeal.main_arg0)
      ∧ r.2.mem ((c.tc : Thread Cert.PlainProjADwIdeal.nD Cert.PlainProjADwIdeal.τ).loc Cert.PlainProjADwIdeal.main_arg1) = m ((c.tc : Thread Cert.PlainProjADwIdeal.nD Cert.PlainProjADwIdeal.τ).loc Cert.PlainProjADwIdeal.main_arg1))
      ∧ r.2.sem = fun _ => 0)

def quiescent_ProjZDw [hProjZDw : Cert.ProjZDw.Facts] : Prop :=
  ∀ (m : (ℓ : Loc Cert.ProjZDw.nD Cert.ProjZDw.τ Cert.ProjZDw.sig) → Buf (Elt Bits) ℓ) (g : Dev Cert.ProjZDw.nD → PrngReg), Pre_ProjZDw m →
    θ_run (Cert.ProjZDw.defs (F := Bits)) (onTc (τ := Cert.ProjZDw.τ) (Cert.ProjZDw.main (F := Bits))) ⟨m, fun _ => 0, g⟩ (fun r => (∀ c : Dev Cert.ProjZDw.nD,
      r.2.mem ((c.tc : Thread Cert.ProjZDw.nD Cert.ProjZDw.τ).loc Cert.ProjZDw.main_arg0) = m ((c.tc : Thread Cert.ProjZDw.nD Cert.ProjZDw.τ).loc Cert.ProjZDw.main_arg0)
      ∧ r.2.mem ((c.tc : Thread Cert.ProjZDw.nD Cert.ProjZDw.τ).loc Cert.ProjZDw.main_arg1) = m ((c.tc : Thread Cert.ProjZDw.nD Cert.ProjZDw.τ).loc Cert.ProjZDw.main_arg1))
      ∧ r.2.sem = fun _ => 0)

def quiescent_ProjZDwIdeal [hProjZDwIdeal : Cert.ProjZDwIdeal.Facts] : Prop :=
  ∀ (m : (ℓ : Loc Cert.ProjZDwIdeal.nD Cert.ProjZDwIdeal.τ Cert.ProjZDwIdeal.sig) → Buf (Elt Ideal) ℓ) (g : Dev Cert.ProjZDwIdeal.nD → PrngReg), Pre_ProjZDwIdeal m →
    θ_run (Cert.ProjZDwIdeal.defs (F := Ideal)) (onTc (τ := Cert.ProjZDwIdeal.τ) (Cert.ProjZDwIdeal.main (F := Ideal))) ⟨m, fun _ => 0, g⟩ (fun r => (∀ c : Dev Cert.ProjZDwIdeal.nD,
      r.2.mem ((c.tc : Thread Cert.ProjZDwIdeal.nD Cert.ProjZDwIdeal.τ).loc Cert.ProjZDwIdeal.main_arg0) = m ((c.tc : Thread Cert.ProjZDwIdeal.nD Cert.ProjZDwIdeal.τ).loc Cert.ProjZDwIdeal.main_arg0)
      ∧ r.2.mem ((c.tc : Thread Cert.ProjZDwIdeal.nD Cert.ProjZDwIdeal.τ).loc Cert.ProjZDwIdeal.main_arg1) = m ((c.tc : Thread Cert.ProjZDwIdeal.nD Cert.ProjZDwIdeal.τ).loc Cert.ProjZDwIdeal.main_arg1))
      ∧ r.2.sem = fun _ => 0)

def quiescent_PlainProjZDwIdeal [hPlainProjZDwIdeal : Cert.PlainProjZDwIdeal.Facts] : Prop :=
  ∀ (m : (ℓ : Loc Cert.PlainProjZDwIdeal.nD Cert.PlainProjZDwIdeal.τ Cert.PlainProjZDwIdeal.sig) → Buf (Elt Ideal) ℓ) (g : Dev Cert.PlainProjZDwIdeal.nD → PrngReg), Pre_PlainProjZDwIdeal m →
    θ_run (Cert.PlainProjZDwIdeal.defs (F := Ideal)) (onTc (τ := Cert.PlainProjZDwIdeal.τ) (Cert.PlainProjZDwIdeal.main (F := Ideal))) ⟨m, fun _ => 0, g⟩ (fun r => (∀ c : Dev Cert.PlainProjZDwIdeal.nD,
      r.2.mem ((c.tc : Thread Cert.PlainProjZDwIdeal.nD Cert.PlainProjZDwIdeal.τ).loc Cert.PlainProjZDwIdeal.main_arg0) = m ((c.tc : Thread Cert.PlainProjZDwIdeal.nD Cert.PlainProjZDwIdeal.τ).loc Cert.PlainProjZDwIdeal.main_arg0)
      ∧ r.2.mem ((c.tc : Thread Cert.PlainProjZDwIdeal.nD Cert.PlainProjZDwIdeal.τ).loc Cert.PlainProjZDwIdeal.main_arg1) = m ((c.tc : Thread Cert.PlainProjZDwIdeal.nD Cert.PlainProjZDwIdeal.τ).loc Cert.PlainProjZDwIdeal.main_arg1))
      ∧ r.2.sem = fun _ => 0)

def quiescent_ProjBDw [hProjBDw : Cert.ProjBDw.Facts] : Prop :=
  ∀ (m : (ℓ : Loc Cert.ProjBDw.nD Cert.ProjBDw.τ Cert.ProjBDw.sig) → Buf (Elt Bits) ℓ) (g : Dev Cert.ProjBDw.nD → PrngReg), Pre_ProjBDw m →
    θ_run (Cert.ProjBDw.defs (F := Bits)) (onTc (τ := Cert.ProjBDw.τ) (Cert.ProjBDw.main (F := Bits))) ⟨m, fun _ => 0, g⟩ (fun r => (∀ c : Dev Cert.ProjBDw.nD,
      r.2.mem ((c.tc : Thread Cert.ProjBDw.nD Cert.ProjBDw.τ).loc Cert.ProjBDw.main_arg0) = m ((c.tc : Thread Cert.ProjBDw.nD Cert.ProjBDw.τ).loc Cert.ProjBDw.main_arg0)
      ∧ r.2.mem ((c.tc : Thread Cert.ProjBDw.nD Cert.ProjBDw.τ).loc Cert.ProjBDw.main_arg1) = m ((c.tc : Thread Cert.ProjBDw.nD Cert.ProjBDw.τ).loc Cert.ProjBDw.main_arg1))
      ∧ r.2.sem = fun _ => 0)

def quiescent_ProjBDwIdeal [hProjBDwIdeal : Cert.ProjBDwIdeal.Facts] : Prop :=
  ∀ (m : (ℓ : Loc Cert.ProjBDwIdeal.nD Cert.ProjBDwIdeal.τ Cert.ProjBDwIdeal.sig) → Buf (Elt Ideal) ℓ) (g : Dev Cert.ProjBDwIdeal.nD → PrngReg), Pre_ProjBDwIdeal m →
    θ_run (Cert.ProjBDwIdeal.defs (F := Ideal)) (onTc (τ := Cert.ProjBDwIdeal.τ) (Cert.ProjBDwIdeal.main (F := Ideal))) ⟨m, fun _ => 0, g⟩ (fun r => (∀ c : Dev Cert.ProjBDwIdeal.nD,
      r.2.mem ((c.tc : Thread Cert.ProjBDwIdeal.nD Cert.ProjBDwIdeal.τ).loc Cert.ProjBDwIdeal.main_arg0) = m ((c.tc : Thread Cert.ProjBDwIdeal.nD Cert.ProjBDwIdeal.τ).loc Cert.ProjBDwIdeal.main_arg0)
      ∧ r.2.mem ((c.tc : Thread Cert.ProjBDwIdeal.nD Cert.ProjBDwIdeal.τ).loc Cert.ProjBDwIdeal.main_arg1) = m ((c.tc : Thread Cert.ProjBDwIdeal.nD Cert.ProjBDwIdeal.τ).loc Cert.ProjBDwIdeal.main_arg1))
      ∧ r.2.sem = fun _ => 0)

def quiescent_PlainProjBDwIdeal [hPlainProjBDwIdeal : Cert.PlainProjBDwIdeal.Facts] : Prop :=
  ∀ (m : (ℓ : Loc Cert.PlainProjBDwIdeal.nD Cert.PlainProjBDwIdeal.τ Cert.PlainProjBDwIdeal.sig) → Buf (Elt Ideal) ℓ) (g : Dev Cert.PlainProjBDwIdeal.nD → PrngReg), Pre_PlainProjBDwIdeal m →
    θ_run (Cert.PlainProjBDwIdeal.defs (F := Ideal)) (onTc (τ := Cert.PlainProjBDwIdeal.τ) (Cert.PlainProjBDwIdeal.main (F := Ideal))) ⟨m, fun _ => 0, g⟩ (fun r => (∀ c : Dev Cert.PlainProjBDwIdeal.nD,
      r.2.mem ((c.tc : Thread Cert.PlainProjBDwIdeal.nD Cert.PlainProjBDwIdeal.τ).loc Cert.PlainProjBDwIdeal.main_arg0) = m ((c.tc : Thread Cert.PlainProjBDwIdeal.nD Cert.PlainProjBDwIdeal.τ).loc Cert.PlainProjBDwIdeal.main_arg0)
      ∧ r.2.mem ((c.tc : Thread Cert.PlainProjBDwIdeal.nD Cert.PlainProjBDwIdeal.τ).loc Cert.PlainProjBDwIdeal.main_arg1) = m ((c.tc : Thread Cert.PlainProjBDwIdeal.nD Cert.PlainProjBDwIdeal.τ).loc Cert.PlainProjBDwIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ r.2.sem = fun _ => 0)

def quiescent_PlainFfnActIdeal [hPlainFfnActIdeal : Cert.PlainFfnActIdeal.Facts] : Prop :=
  ∀ (m : (ℓ : Loc Cert.PlainFfnActIdeal.nD Cert.PlainFfnActIdeal.τ Cert.PlainFfnActIdeal.sig) → Buf (Elt Ideal) ℓ) (g : Dev Cert.PlainFfnActIdeal.nD → PrngReg), Pre_PlainFfnActIdeal m →
    θ_run (Cert.PlainFfnActIdeal.defs (F := Ideal)) (onTc (τ := Cert.PlainFfnActIdeal.τ) (Cert.PlainFfnActIdeal.main (F := Ideal))) ⟨m, fun _ => 0, g⟩ (fun r => (∀ c : Dev Cert.PlainFfnActIdeal.nD,
      r.2.mem ((c.tc : Thread Cert.PlainFfnActIdeal.nD Cert.PlainFfnActIdeal.τ).loc Cert.PlainFfnActIdeal.main_arg0) = m ((c.tc : Thread Cert.PlainFfnActIdeal.nD Cert.PlainFfnActIdeal.τ).loc Cert.PlainFfnActIdeal.main_arg0)
      ∧ r.2.mem ((c.tc : Thread Cert.PlainFfnActIdeal.nD Cert.PlainFfnActIdeal.τ).loc Cert.PlainFfnActIdeal.main_arg1) = m ((c.tc : Thread Cert.PlainFfnActIdeal.nD Cert.PlainFfnActIdeal.τ).loc Cert.PlainFfnActIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 449]⟩ ⟨3, ![64, 1024, 449]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 1024, 704]⟩ ⟨3, ![64, 1024, 704]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 4, 192]⟩ ⟨3, ![64, 4, 192]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![8, 3, 704]⟩ ⟨3, ![64, 3, 704]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 1024, 449]⟩ ⟨3, ![64, 1024, 449]⟩ 0 8 c v0
          ∧ r.2.mem ((c.tc : Thread Cert.KernelIdeal.nD Cert.KernelIdeal.τ).loc Cert.KernelIdeal.main_v1_1) = Layout.block ⟨3, ![8, 128, 1024]⟩ ⟨3, ![64, 128, 1024]⟩ 0 8 c v1
          ∧ r.2.mem ((c.tc : Thread Cert.KernelIdeal.nD Cert.KernelIdeal.τ).loc Cert.KernelIdeal.main_v1_2) = Layout.block ⟨3, ![8, 1024, 704]⟩ ⟨3, ![64, 1024, 704]⟩ 0 8 c v2
          ∧ r.2.mem ((c.tc : Thread Cert.KernelIdeal.nD Cert.KernelIdeal.τ).loc Cert.KernelIdeal.main_v1_3) = Layout.block ⟨3, ![8, 352, 1024]⟩ ⟨3, ![64, 352, 1024]⟩ 0 8 c v3
          ∧ r.2.mem ((c.tc : Thread Cert.KernelIdeal.nD Cert.KernelIdeal.τ).loc Cert.KernelIdeal.main_v1_4) = Layout.block ⟨3, ![8, 4, 192]⟩ ⟨3, ![64, 4, 192]⟩ 0 8 c v4
          ∧ r.2.mem ((c.tc : Thread Cert.KernelIdeal.nD Cert.KernelIdeal.τ).loc Cert.KernelIdeal.main_v1_5) = Layout.block ⟨3, ![8, 3, 704]⟩ ⟨3, ![64, 3, 704]⟩ 0 8 c v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 1024, 449]⟩ ⟨3, ![64, 1024, 449]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 128, 1024]⟩ ⟨3, ![64, 128, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 1024, 704]⟩ ⟨3, ![64, 1024, 704]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 352, 1024]⟩ ⟨3, ![64, 352, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![8, 4, 192]⟩ ⟨3, ![64, 4, 192]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨3, ![8, 3, 704]⟩ ⟨3, ![64, 3, 704]⟩ 0 8 c (m' (((0 : Dev Cert.Reference.nD).tc : Thread Cert.Reference.nD Cert.Reference.τ).loc Cert.Reference.main_arg5))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)) (v5 : Buf (Elt Bits) (((0 : Dev Cert.Reference.nD).tc : Thread Cert.Reference.nD Cert.Reference.τ).loc Cert.Reference.main_v17)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 1024, 449]⟩ ⟨3, ![64, 1024, 449]⟩ 0 8 c v0
          ∧ r.2.mem ((c.tc : Thread Cert.Kernel.nD Cert.Kernel.τ).loc Cert.Kernel.main_v1_1) = Layout.block ⟨3, ![8, 128, 1024]⟩ ⟨3, ![64, 128, 1024]⟩ 0 8 c v1
          ∧ r.2.mem ((c.tc : Thread Cert.Kernel.nD Cert.Kernel.τ).loc Cert.Kernel.main_v1_2) = Layout.block ⟨3, ![8, 1024, 704]⟩ ⟨3, ![64, 1024, 704]⟩ 0 8 c v2
          ∧ r.2.mem ((c.tc : Thread Cert.Kernel.nD Cert.Kernel.τ).loc Cert.Kernel.main_v1_3) = Layout.block ⟨3, ![8, 352, 1024]⟩ ⟨3, ![64, 352, 1024]⟩ 0 8 c v3
          ∧ r.2.mem ((c.tc : Thread Cert.Kernel.nD Cert.Kernel.τ).loc Cert.Kernel.main_v1_4) = Layout.block ⟨3, ![8, 4, 192]⟩ ⟨3, ![64, 4, 192]⟩ 0 8 c v4
          ∧ r.2.mem ((c.tc : Thread Cert.Kernel.nD Cert.Kernel.τ).loc Cert.Kernel.main_v1_5) = Layout.block ⟨3, ![8, 3, 704]⟩ ⟨3, ![64, 3, 704]⟩ 0 8 c v5
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_v17) = v5
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5))

def preserves_Gather_GatherIdeal : Prop :=
  True

def algebraic_GatherIdeal_StackIdeal [hGatherIdeal : Cert.GatherIdeal.Facts] [hStackIdeal : Cert.StackIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.StackIdeal.nD Cert.StackIdeal.τ Cert.StackIdeal.sig) → Buf (Elt Ideal) ℓ) (g' : Dev Cert.StackIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 449]⟩ ⟨2, ![1024, 3592]⟩ 1 8 c (m' (((0 : Dev Cert.StackIdeal.nD).tc : Thread Cert.StackIdeal.nD Cert.StackIdeal.τ).loc Cert.StackIdeal.main_arg0))
      ∧ m ((c.tc : Thread Cert.GatherIdeal.nD Cert.GatherIdeal.τ).loc Cert.GatherIdeal.main_arg1) = Layout.block ⟨2, ![128, 1024]⟩ ⟨2, ![1024, 1024]⟩ 0 8 c (m' (((0 : Dev Cert.StackIdeal.nD).tc : Thread Cert.StackIdeal.nD Cert.StackIdeal.τ).loc Cert.StackIdeal.main_arg1))
      ∧ m ((c.tc : Thread Cert.GatherIdeal.nD Cert.GatherIdeal.τ).loc Cert.GatherIdeal.main_arg2) = Layout.block ⟨2, ![1024, 704]⟩ ⟨2, ![1024, 5632]⟩ 1 8 c (m' (((0 : Dev Cert.StackIdeal.nD).tc : Thread Cert.StackIdeal.nD Cert.StackIdeal.τ).loc Cert.StackIdeal.main_arg2))
      ∧ m ((c.tc : Thread Cert.GatherIdeal.nD Cert.GatherIdeal.τ).loc Cert.GatherIdeal.main_arg3) = Layout.block ⟨2, ![352, 1024]⟩ ⟨2, ![2816, 1024]⟩ 0 8 c (m' (((0 : Dev Cert.StackIdeal.nD).tc : Thread Cert.StackIdeal.nD Cert.StackIdeal.τ).loc Cert.StackIdeal.main_arg3))
      ∧ m ((c.tc : Thread Cert.GatherIdeal.nD Cert.GatherIdeal.τ).loc Cert.GatherIdeal.main_arg4) = Layout.block ⟨2, ![4, 192]⟩ ⟨2, ![4, 1536]⟩ 1 8 c (m' (((0 : Dev Cert.StackIdeal.nD).tc : Thread Cert.StackIdeal.nD Cert.StackIdeal.τ).loc Cert.StackIdeal.main_arg4))
      ∧ m ((c.tc : Thread Cert.GatherIdeal.nD Cert.GatherIdeal.τ).loc Cert.GatherIdeal.main_arg5) = Layout.block ⟨2, ![3, 704]⟩ ⟨2, ![3, 5632]⟩ 1 8 c (m' (((0 : Dev Cert.StackIdeal.nD).tc : Thread Cert.StackIdeal.nD Cert.StackIdeal.τ).loc Cert.StackIdeal.main_arg5))) →
    ∃ (v0 : Buf (Elt Ideal) (((0 : Dev Cert.StackIdeal.nD).tc : Thread Cert.StackIdeal.nD Cert.StackIdeal.τ).loc Cert.StackIdeal.main_v1)) (v1 : Buf (Elt Ideal) (((0 : Dev Cert.StackIdeal.nD).tc : Thread Cert.StackIdeal.nD Cert.StackIdeal.τ).loc Cert.StackIdeal.main_v2)) (v2 : Buf (Elt Ideal) (((0 : Dev Cert.StackIdeal.nD).tc : Thread Cert.StackIdeal.nD Cert.StackIdeal.τ).loc Cert.StackIdeal.main_v4)) (v3 : Buf (Elt Ideal) (((0 : Dev Cert.StackIdeal.nD).tc : Thread Cert.StackIdeal.nD Cert.StackIdeal.τ).loc Cert.StackIdeal.main_v5)) (v4 : Buf (Elt Ideal) (((0 : Dev Cert.StackIdeal.nD).tc : Thread Cert.StackIdeal.nD Cert.StackIdeal.τ).loc Cert.StackIdeal.main_v7)) (v5 : Buf (Elt Ideal) (((0 : Dev Cert.StackIdeal.nD).tc : Thread Cert.StackIdeal.nD Cert.StackIdeal.τ).loc Cert.StackIdeal.main_v9)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ θ_run (Cert.StackIdeal.defs (F := Ideal)) (onTc (τ := Cert.StackIdeal.τ) (Cert.StackIdeal.main (F := Ideal))) ⟨m', fun _ => 0, g'⟩ (fun r =>
          r.2.mem (((0 : Dev Cert.StackIdeal.nD).tc : Thread Cert.StackIdeal.nD Cert.StackIdeal.τ).loc Cert.StackIdeal.main_v1) = v0
          ∧ r.2.mem (((0 : Dev Cert.StackIdeal.nD).tc : Thread Cert.StackIdeal.nD Cert.StackIdeal.τ).loc Cert.StackIdeal.main_v2) = v1
          ∧ r.2.mem (((0 : Dev Cert.StackIdeal.nD).tc : Thread Cert.StackIdeal.nD Cert.StackIdeal.τ).loc Cert.StackIdeal.main_v4) = v2
          ∧ r.2.mem (((0 : Dev Cert.StackIdeal.nD).tc : Thread Cert.StackIdeal.nD Cert.StackIdeal.τ).loc Cert.StackIdeal.main_v5) = v3
          ∧ r.2.mem (((0 : Dev Cert.StackIdeal.nD).tc : Thread Cert.StackIdeal.nD Cert.StackIdeal.τ).loc Cert.StackIdeal.main_v7) = v4
          ∧ r.2.mem (((0 : Dev Cert.StackIdeal.nD).tc : Thread Cert.StackIdeal.nD Cert.StackIdeal.τ).loc Cert.StackIdeal.main_v9) = v5
          ∧ r.2.mem (((0 : Dev Cert.StackIdeal.nD).tc : Thread Cert.StackIdeal.nD Cert.StackIdeal.τ).loc Cert.StackIdeal.main_arg0) = m' (((0 : Dev Cert.StackIdeal.nD).tc : Thread Cert.StackIdeal.nD Cert.StackIdeal.τ).loc Cert.StackIdeal.main_arg0)
          ∧ r.2.mem (((0 : Dev Cert.StackIdeal.nD).tc : Thread Cert.StackIdeal.nD Cert.StackIdeal.τ).loc Cert.StackIdeal.main_arg1) = m' (((0 : Dev Cert.StackIdeal.nD).tc : Thread Cert.StackIdeal.nD Cert.StackIdeal.τ).loc Cert.StackIdeal.main_arg1)
          ∧ r.2.mem (((0 : Dev Cert.StackIdeal.nD).tc : Thread Cert.StackIdeal.nD Cert.StackIdeal.τ).loc Cert.StackIdeal.main_arg2) = m' (((0 : Dev Cert.StackIdeal.nD).tc : Thread Cert.StackIdeal.nD Cert.StackIdeal.τ).loc Cert.StackIdeal.main_arg2)
          ∧ r.2.mem (((0 : Dev Cert.StackIdeal.nD).tc : Thread Cert.StackIdeal.nD Cert.StackIdeal.τ).loc Cert.StackIdeal.main_arg3) = m' (((0 : Dev Cert.StackIdeal.nD).tc : Thread Cert.StackIdeal.nD Cert.StackIdeal.τ).loc Cert.StackIdeal.main_arg3)
          ∧ r.2.mem (((0 : Dev Cert.StackIdeal.nD).tc : Thread Cert.StackIdeal.nD Cert.StackIdeal.τ).loc Cert.StackIdeal.main_arg4) = m' (((0 : Dev Cert.StackIdeal.nD).tc : Thread Cert.StackIdeal.nD Cert.StackIdeal.τ).loc Cert.StackIdeal.main_arg4)
          ∧ r.2.mem (((0 : Dev Cert.StackIdeal.nD).tc : Thread Cert.StackIdeal.nD Cert.StackIdeal.τ).loc Cert.StackIdeal.main_arg5) = m' (((0 : Dev Cert.StackIdeal.nD).tc : Thread Cert.StackIdeal.nD Cert.StackIdeal.τ).loc Cert.StackIdeal.main_arg5))

def bitexact_Gather_Stack [hGather : Cert.Gather.Facts] [hStack : Cert.Stack.Facts] : Prop :=
  ∀ (m : (ℓ : Loc Cert.Gather.nD Cert.Gather.τ Cert.Gather.sig) → Buf (Elt Bits) ℓ) (g : Dev Cert.Gather.nD → PrngReg)
    (m' : (ℓ : Loc Cert.Stack.nD Cert.Stack.τ Cert.Stack.sig) → Buf (Elt Bits) ℓ) (g' : Dev Cert.Stack.nD → PrngReg), Pre_Gather m →
    (∀ c : Dev Cert.Gather.nD,
      m ((c.tc : Thread Cert.Gather.nD Cert.Gather.τ).loc Cert.Gather.main_arg0) = Layout.block ⟨2, ![1024, 449]⟩ ⟨2, ![1024, 3592]⟩ 1 8 c (m' (((0 : Dev Cert.Stack.nD).tc : Thread Cert.Stack.nD Cert.Stack.τ).loc Cert.Stack.main_arg0))
      ∧ m ((c.tc : Thread Cert.Gather.nD Cert.Gather.τ).loc Cert.Gather.main_arg1) = Layout.block ⟨2, ![128, 1024]⟩ ⟨2, ![1024, 1024]⟩ 0 8 c (m' (((0 : Dev Cert.Stack.nD).tc : Thread Cert.Stack.nD Cert.Stack.τ).loc Cert.Stack.main_arg1))
      ∧ m ((c.tc : Thread Cert.Gather.nD Cert.Gather.τ).loc Cert.Gather.main_arg2) = Layout.block ⟨2, ![1024, 704]⟩ ⟨2, ![1024, 5632]⟩ 1 8 c (m' (((0 : Dev Cert.Stack.nD).tc : Thread Cert.Stack.nD Cert.Stack.τ).loc Cert.Stack.main_arg2))
      ∧ m ((c.tc : Thread Cert.Gather.nD Cert.Gather.τ).loc Cert.Gather.main_arg3) = Layout.block ⟨2, ![352, 1024]⟩ ⟨2, ![2816, 1024]⟩ 0 8 c (m' (((0 : Dev Cert.Stack.nD).tc : Thread Cert.Stack.nD Cert.Stack.τ).loc Cert.Stack.main_arg3))
      ∧ m ((c.tc : Thread Cert.Gather.nD Cert.Gather.τ).loc Cert.Gather.main_arg4) = Layout.block ⟨2, ![4, 192]⟩ ⟨2, ![4, 1536]⟩ 1 8 c (m' (((0 : Dev Cert.Stack.nD).tc : Thread Cert.Stack.nD Cert.Stack.τ).loc Cert.Stack.main_arg4))
      ∧ m ((c.tc : Thread Cert.Gather.nD Cert.Gather.τ).loc Cert.Gather.main_arg5) = Layout.block ⟨2, ![3, 704]⟩ ⟨2, ![3, 5632]⟩ 1 8 c (m' (((0 : Dev Cert.Stack.nD).tc : Thread Cert.Stack.nD Cert.Stack.τ).loc Cert.Stack.main_arg5))) →
    ∃ (v0 : Buf (Elt Bits) (((0 : Dev Cert.Stack.nD).tc : Thread Cert.Stack.nD Cert.Stack.τ).loc Cert.Stack.main_v1)) (v1 : Buf (Elt Bits) (((0 : Dev Cert.Stack.nD).tc : Thread Cert.Stack.nD Cert.Stack.τ).loc Cert.Stack.main_v2)) (v2 : Buf (Elt Bits) (((0 : Dev Cert.Stack.nD).tc : Thread Cert.Stack.nD Cert.Stack.τ).loc Cert.Stack.main_v4)) (v3 : Buf (Elt Bits) (((0 : Dev Cert.Stack.nD).tc : Thread Cert.Stack.nD Cert.Stack.τ).loc Cert.Stack.main_v5)) (v4 : Buf (Elt Bits) (((0 : Dev Cert.Stack.nD).tc : Thread Cert.Stack.nD Cert.Stack.τ).loc Cert.Stack.main_v7)) (v5 : Buf (Elt Bits) (((0 : Dev Cert.Stack.nD).tc : Thread Cert.Stack.nD Cert.Stack.τ).loc Cert.Stack.main_v9)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5))
      ∧ θ_run (Cert.Stack.defs (F := Bits)) (onTc (τ := Cert.Stack.τ) (Cert.Stack.main (F := Bits))) ⟨m', fun _ => 0, g'⟩ (fun r =>
          r.2.mem (((0 : Dev Cert.Stack.nD).tc : Thread Cert.Stack.nD Cert.Stack.τ).loc Cert.Stack.main_v1) = v0
          ∧ r.2.mem (((0 : Dev Cert.Stack.nD).tc : Thread Cert.Stack.nD Cert.Stack.τ).loc Cert.Stack.main_v2) = v1
          ∧ r.2.mem (((0 : Dev Cert.Stack.nD).tc : Thread Cert.Stack.nD Cert.Stack.τ).loc Cert.Stack.main_v4) = v2
          ∧ r.2.mem (((0 : Dev Cert.Stack.nD).tc : Thread Cert.Stack.nD Cert.Stack.τ).loc Cert.Stack.main_v5) = v3
          ∧ r.2.mem (((0 : Dev Cert.Stack.nD).tc : Thread Cert.Stack.nD Cert.Stack.τ).loc Cert.Stack.main_v7) = v4
          ∧ r.2.mem (((0 : Dev Cert.Stack.nD).tc : Thread Cert.Stack.nD Cert.Stack.τ).loc Cert.Stack.main_v9) = v5
          ∧ r.2.mem (((0 : Dev Cert.Stack.nD).tc : Thread Cert.Stack.nD Cert.Stack.τ).loc Cert.Stack.main_arg0) = m' (((0 : Dev Cert.Stack.nD).tc : Thread Cert.Stack.nD Cert.Stack.τ).loc Cert.Stack.main_arg0)
          ∧ r.2.mem (((0 : Dev Cert.Stack.nD).tc : Thread Cert.Stack.nD Cert.Stack.τ).loc Cert.Stack.main_arg1) = m' (((0 : Dev Cert.Stack.nD).tc : Thread Cert.Stack.nD Cert.Stack.τ).loc Cert.Stack.main_arg1)
          ∧ r.2.mem (((0 : Dev Cert.Stack.nD).tc : Thread Cert.Stack.nD Cert.Stack.τ).loc Cert.Stack.main_arg2) = m' (((0 : Dev Cert.Stack.nD).tc : Thread Cert.Stack.nD Cert.Stack.τ).loc Cert.Stack.main_arg2)
          ∧ r.2.mem (((0 : Dev Cert.Stack.nD).tc : Thread Cert.Stack.nD Cert.Stack.τ).loc Cert.Stack.main_arg3) = m' (((0 : Dev Cert.Stack.nD).tc : Thread Cert.Stack.nD Cert.Stack.τ).loc Cert.Stack.main_arg3)
          ∧ r.2.mem (((0 : Dev Cert.Stack.nD).tc : Thread Cert.Stack.nD Cert.Stack.τ).loc Cert.Stack.main_arg4) = m' (((0 : Dev Cert.Stack.nD).tc : Thread Cert.Stack.nD Cert.Stack.τ).loc Cert.Stack.main_arg4)
          ∧ r.2.mem (((0 : Dev Cert.Stack.nD).tc : Thread Cert.Stack.nD Cert.Stack.τ).loc Cert.Stack.main_arg5) = m' (((0 : Dev Cert.Stack.nD).tc : Thread Cert.Stack.nD Cert.Stack.τ).loc Cert.Stack.main_arg5))

def preserves_GatherSmall_GatherSmallIdeal : Prop :=
  True

def algebraic_GatherSmallIdeal_StackSmallIdeal [hGatherSmallIdeal : Cert.GatherSmallIdeal.Facts] [hStackSmallIdeal : Cert.StackSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.StackSmallIdeal.nD Cert.StackSmallIdeal.τ Cert.StackSmallIdeal.sig) → Buf (Elt Ideal) ℓ) (g' : Dev Cert.StackSmallIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![8, 1024]⟩ ⟨2, ![64, 1024]⟩ 0 8 c (m' (((0 : Dev Cert.StackSmallIdeal.nD).tc : Thread Cert.StackSmallIdeal.nD Cert.StackSmallIdeal.τ).loc Cert.StackSmallIdeal.main_arg0))) →
    ∃ (v0 : Buf (Elt Ideal) (((0 : Dev Cert.StackSmallIdeal.nD).tc : Thread Cert.StackSmallIdeal.nD Cert.StackSmallIdeal.τ).loc Cert.StackSmallIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.StackSmallIdeal.defs (F := Ideal)) (onTc (τ := Cert.StackSmallIdeal.τ) (Cert.StackSmallIdeal.main (F := Ideal))) ⟨m', fun _ => 0, g'⟩ (fun r =>
          r.2.mem (((0 : Dev Cert.StackSmallIdeal.nD).tc : Thread Cert.StackSmallIdeal.nD Cert.StackSmallIdeal.τ).loc Cert.StackSmallIdeal.main_v0) = v0
          ∧ r.2.mem (((0 : Dev Cert.StackSmallIdeal.nD).tc : Thread Cert.StackSmallIdeal.nD Cert.StackSmallIdeal.τ).loc Cert.StackSmallIdeal.main_arg0) = m' (((0 : Dev Cert.StackSmallIdeal.nD).tc : Thread Cert.StackSmallIdeal.nD Cert.StackSmallIdeal.τ).loc Cert.StackSmallIdeal.main_arg0))

def bitexact_GatherSmall_StackSmall [hGatherSmall : Cert.GatherSmall.Facts] [hStackSmall : Cert.StackSmall.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.StackSmall.nD Cert.StackSmall.τ Cert.StackSmall.sig) → Buf (Elt Bits) ℓ) (g' : Dev Cert.StackSmall.nD → PrngReg), Pre_GatherSmall m →
    (∀ c : Dev Cert.GatherSmall.nD,
      m ((c.tc : Thread Cert.GatherSmall.nD Cert.GatherSmall.τ).loc Cert.GatherSmall.main_arg0) = Layout.block ⟨2, ![8, 1024]⟩ ⟨2, ![64, 1024]⟩ 0 8 c (m' (((0 : Dev Cert.StackSmall.nD).tc : Thread Cert.StackSmall.nD Cert.StackSmall.τ).loc Cert.StackSmall.main_arg0))) →
    ∃ (v0 : Buf (Elt Bits) (((0 : Dev Cert.StackSmall.nD).tc : Thread Cert.StackSmall.nD Cert.StackSmall.τ).loc Cert.StackSmall.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.StackSmall.defs (F := Bits)) (onTc (τ := Cert.StackSmall.τ) (Cert.StackSmall.main (F := Bits))) ⟨m', fun _ => 0, g'⟩ (fun r =>
          r.2.mem (((0 : Dev Cert.StackSmall.nD).tc : Thread Cert.StackSmall.nD Cert.StackSmall.τ).loc Cert.StackSmall.main_v0) = v0
          ∧ r.2.mem (((0 : Dev Cert.StackSmall.nD).tc : Thread Cert.StackSmall.nD Cert.StackSmall.τ).loc Cert.StackSmall.main_arg0) = m' (((0 : Dev Cert.StackSmall.nD).tc : Thread Cert.StackSmall.nD Cert.StackSmall.τ).loc Cert.StackSmall.main_arg0))

def preserves_AdamIn_AdamInIdeal : Prop :=
  True

def algebraic_AdamInIdeal_PlainInIdeal [hAdamInIdeal : Cert.AdamInIdeal.Facts] [hPlainInIdeal : Cert.PlainInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.PlainInIdeal.nD Cert.PlainInIdeal.τ Cert.PlainInIdeal.sig) → Buf (Elt Ideal) ℓ) (g' : Dev Cert.PlainInIdeal.nD → PrngReg), Pre_AdamInIdeal m →
    (∀ c : Dev Cert.AdamInIdeal.nD,
      m' ((c.tc : Thread Cert.PlainInIdeal.nD Cert.PlainInIdeal.τ).loc Cert.PlainInIdeal.main_arg0) = m ((c.tc : Thread Cert.AdamInIdeal.nD Cert.AdamInIdeal.τ).loc Cert.AdamInIdeal.main_arg0)
      ∧ m' ((c.tc : Thread Cert.PlainInIdeal.nD Cert.PlainInIdeal.τ).loc Cert.PlainInIdeal.main_arg1) = m ((c.tc : Thread Cert.AdamInIdeal.nD Cert.AdamInIdeal.τ).loc Cert.AdamInIdeal.main_arg1)
      ∧ m' ((c.tc : Thread Cert.PlainInIdeal.nD Cert.PlainInIdeal.τ).loc Cert.PlainInIdeal.main_arg2) = m ((c.tc : Thread Cert.AdamInIdeal.nD Cert.AdamInIdeal.τ).loc Cert.AdamInIdeal.main_arg2)
      ∧ m' ((c.tc : Thread Cert.PlainInIdeal.nD Cert.PlainInIdeal.τ).loc Cert.PlainInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.PlainInIdeal.defs (F := Ideal)) (onTc (τ := Cert.PlainInIdeal.τ) (Cert.PlainInIdeal.main (F := Ideal))) ⟨m', fun _ => 0, g'⟩ (fun r => ∀ c : Dev Cert.PlainInIdeal.nD,
          r.2.mem ((c.tc : Thread Cert.PlainInIdeal.nD Cert.PlainInIdeal.τ).loc Cert.PlainInIdeal.main_v1) = v0 c
          ∧ r.2.mem ((c.tc : Thread Cert.PlainInIdeal.nD Cert.PlainInIdeal.τ).loc Cert.PlainInIdeal.main_v25) = v1 c
          ∧ r.2.mem ((c.tc : Thread Cert.PlainInIdeal.nD Cert.PlainInIdeal.τ).loc Cert.PlainInIdeal.main_v6) = v2 c
          ∧ r.2.mem ((c.tc : Thread Cert.PlainInIdeal.nD Cert.PlainInIdeal.τ).loc Cert.PlainInIdeal.main_v12) = v3 c
          ∧ r.2.mem ((c.tc : Thread Cert.PlainInIdeal.nD Cert.PlainInIdeal.τ).loc Cert.PlainInIdeal.main_arg0) = m' ((c.tc : Thread Cert.PlainInIdeal.nD Cert.PlainInIdeal.τ).loc Cert.PlainInIdeal.main_arg0)
          ∧ r.2.mem ((c.tc : Thread Cert.PlainInIdeal.nD Cert.PlainInIdeal.τ).loc Cert.PlainInIdeal.main_arg1) = m' ((c.tc : Thread Cert.PlainInIdeal.nD Cert.PlainInIdeal.τ).loc Cert.PlainInIdeal.main_arg1)
          ∧ r.2.mem ((c.tc : Thread Cert.PlainInIdeal.nD Cert.PlainInIdeal.τ).loc Cert.PlainInIdeal.main_arg2) = m' ((c.tc : Thread Cert.PlainInIdeal.nD Cert.PlainInIdeal.τ).loc Cert.PlainInIdeal.main_arg2)
          ∧ r.2.mem ((c.tc : Thread Cert.PlainInIdeal.nD Cert.PlainInIdeal.τ).loc Cert.PlainInIdeal.main_arg3) = m' ((c.tc : Thread Cert.PlainInIdeal.nD Cert.PlainInIdeal.τ).loc Cert.PlainInIdeal.main_arg3))

def preserves_AdamOut_AdamOutIdeal : Prop :=
  True

def algebraic_AdamOutIdeal_PlainOutIdeal [hAdamOutIdeal : Cert.AdamOutIdeal.Facts] [hPlainOutIdeal : Cert.PlainOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.PlainOutIdeal.nD Cert.PlainOutIdeal.τ Cert.PlainOutIdeal.sig) → Buf (Elt Ideal) ℓ) (g' : Dev Cert.PlainOutIdeal.nD → PrngReg), Pre_AdamOutIdeal m →
    (∀ c : Dev Cert.AdamOutIdeal.nD,
      m' ((c.tc : Thread Cert.PlainOutIdeal.nD Cert.PlainOutIdeal.τ).loc Cert.PlainOutIdeal.main_arg0) = m ((c.tc : Thread Cert.AdamOutIdeal.nD Cert.AdamOutIdeal.τ).loc Cert.AdamOutIdeal.main_arg0)
      ∧ m' ((c.tc : Thread Cert.PlainOutIdeal.nD Cert.PlainOutIdeal.τ).loc Cert.PlainOutIdeal.main_arg1) = m ((c.tc : Thread Cert.AdamOutIdeal.nD Cert.AdamOutIdeal.τ).loc Cert.AdamOutIdeal.main_arg1)
      ∧ m' ((c.tc : Thread Cert.PlainOutIdeal.nD Cert.PlainOutIdeal.τ).loc Cert.PlainOutIdeal.main_arg2) = m ((c.tc : Thread Cert.AdamOutIdeal.nD Cert.AdamOutIdeal.τ).loc Cert.AdamOutIdeal.main_arg2)
      ∧ m' ((c.tc : Thread Cert.PlainOutIdeal.nD Cert.PlainOutIdeal.τ).loc Cert.PlainOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.PlainOutIdeal.defs (F := Ideal)) (onTc (τ := Cert.PlainOutIdeal.τ) (Cert.PlainOutIdeal.main (F := Ideal))) ⟨m', fun _ => 0, g'⟩ (fun r => ∀ c : Dev Cert.PlainOutIdeal.nD,
          r.2.mem ((c.tc : Thread Cert.PlainOutIdeal.nD Cert.PlainOutIdeal.τ).loc Cert.PlainOutIdeal.main_v1) = v0 c
          ∧ r.2.mem ((c.tc : Thread Cert.PlainOutIdeal.nD Cert.PlainOutIdeal.τ).loc Cert.PlainOutIdeal.main_v25) = v1 c
          ∧ r.2.mem ((c.tc : Thread Cert.PlainOutIdeal.nD Cert.PlainOutIdeal.τ).loc Cert.PlainOutIdeal.main_v6) = v2 c
          ∧ r.2.mem ((c.tc : Thread Cert.PlainOutIdeal.nD Cert.PlainOutIdeal.τ).loc Cert.PlainOutIdeal.main_v12) = v3 c
          ∧ r.2.mem ((c.tc : Thread Cert.PlainOutIdeal.nD Cert.PlainOutIdeal.τ).loc Cert.PlainOutIdeal.main_arg0) = m' ((c.tc : Thread Cert.PlainOutIdeal.nD Cert.PlainOutIdeal.τ).loc Cert.PlainOutIdeal.main_arg0)
          ∧ r.2.mem ((c.tc : Thread Cert.PlainOutIdeal.nD Cert.PlainOutIdeal.τ).loc Cert.PlainOutIdeal.main_arg1) = m' ((c.tc : Thread Cert.PlainOutIdeal.nD Cert.PlainOutIdeal.τ).loc Cert.PlainOutIdeal.main_arg1)
          ∧ r.2.mem ((c.tc : Thread Cert.PlainOutIdeal.nD Cert.PlainOutIdeal.τ).loc Cert.PlainOutIdeal.main_arg2) = m' ((c.tc : Thread Cert.PlainOutIdeal.nD Cert.PlainOutIdeal.τ).loc Cert.PlainOutIdeal.main_arg2)
          ∧ r.2.mem ((c.tc : Thread Cert.PlainOutIdeal.nD Cert.PlainOutIdeal.τ).loc Cert.PlainOutIdeal.main_arg3) = m' ((c.tc : Thread Cert.PlainOutIdeal.nD Cert.PlainOutIdeal.τ).loc Cert.PlainOutIdeal.main_arg3))

def preserves_AdamUp_AdamUpIdeal : Prop :=
  True

def algebraic_AdamUpIdeal_PlainUpIdeal [hAdamUpIdeal : Cert.AdamUpIdeal.Facts] [hPlainUpIdeal : Cert.PlainUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.PlainUpIdeal.nD Cert.PlainUpIdeal.τ Cert.PlainUpIdeal.sig) → Buf (Elt Ideal) ℓ) (g' : Dev Cert.PlainUpIdeal.nD → PrngReg), Pre_AdamUpIdeal m →
    (∀ c : Dev Cert.AdamUpIdeal.nD,
      m' ((c.tc : Thread Cert.PlainUpIdeal.nD Cert.PlainUpIdeal.τ).loc Cert.PlainUpIdeal.main_arg0) = m ((c.tc : Thread Cert.AdamUpIdeal.nD Cert.AdamUpIdeal.τ).loc Cert.AdamUpIdeal.main_arg0)
      ∧ m' ((c.tc : Thread Cert.PlainUpIdeal.nD Cert.PlainUpIdeal.τ).loc Cert.PlainUpIdeal.main_arg1) = m ((c.tc : Thread Cert.AdamUpIdeal.nD Cert.AdamUpIdeal.τ).loc Cert.AdamUpIdeal.main_arg1)
      ∧ m' ((c.tc : Thread Cert.PlainUpIdeal.nD Cert.PlainUpIdeal.τ).loc Cert.PlainUpIdeal.main_arg2) = m ((c.tc : Thread Cert.AdamUpIdeal.nD Cert.AdamUpIdeal.τ).loc Cert.AdamUpIdeal.main_arg2)
      ∧ m' ((c.tc : Thread Cert.PlainUpIdeal.nD Cert.PlainUpIdeal.τ).loc Cert.PlainUpIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.PlainUpIdeal.defs (F := Ideal)) (onTc (τ := Cert.PlainUpIdeal.τ) (Cert.PlainUpIdeal.main (F := Ideal))) ⟨m', fun _ => 0, g'⟩ (fun r => ∀ c : Dev Cert.PlainUpIdeal.nD,
          r.2.mem ((c.tc : Thread Cert.PlainUpIdeal.nD Cert.PlainUpIdeal.τ).loc Cert.PlainUpIdeal.main_v1) = v0 c
          ∧ r.2.mem ((c.tc : Thread Cert.PlainUpIdeal.nD Cert.PlainUpIdeal.τ).loc Cert.PlainUpIdeal.main_v25) = v1 c
          ∧ r.2.mem ((c.tc : Thread Cert.PlainUpIdeal.nD Cert.PlainUpIdeal.τ).loc Cert.PlainUpIdeal.main_v6) = v2 c
          ∧ r.2.mem ((c.tc : Thread Cert.PlainUpIdeal.nD Cert.PlainUpIdeal.τ).loc Cert.PlainUpIdeal.main_v12) = v3 c
          ∧ r.2.mem ((c.tc : Thread Cert.PlainUpIdeal.nD Cert.PlainUpIdeal.τ).loc Cert.PlainUpIdeal.main_arg0) = m' ((c.tc : Thread Cert.PlainUpIdeal.nD Cert.PlainUpIdeal.τ).loc Cert.PlainUpIdeal.main_arg0)
          ∧ r.2.mem ((c.tc : Thread Cert.PlainUpIdeal.nD Cert.PlainUpIdeal.τ).loc Cert.PlainUpIdeal.main_arg1) = m' ((c.tc : Thread Cert.PlainUpIdeal.nD Cert.PlainUpIdeal.τ).loc Cert.PlainUpIdeal.main_arg1)
          ∧ r.2.mem ((c.tc : Thread Cert.PlainUpIdeal.nD Cert.PlainUpIdeal.τ).loc Cert.PlainUpIdeal.main_arg2) = m' ((c.tc : Thread Cert.PlainUpIdeal.nD Cert.PlainUpIdeal.τ).loc Cert.PlainUpIdeal.main_arg2)
          ∧ r.2.mem ((c.tc : Thread Cert.PlainUpIdeal.nD Cert.PlainUpIdeal.τ).loc Cert.PlainUpIdeal.main_arg3) = m' ((c.tc : Thread Cert.PlainUpIdeal.nD Cert.PlainUpIdeal.τ).loc Cert.PlainUpIdeal.main_arg3))

def preserves_AdamDown_AdamDownIdeal : Prop :=
  True

def algebraic_AdamDownIdeal_PlainDownIdeal [hAdamDownIdeal : Cert.AdamDownIdeal.Facts] [hPlainDownIdeal : Cert.PlainDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.PlainDownIdeal.nD Cert.PlainDownIdeal.τ Cert.PlainDownIdeal.sig) → Buf (Elt Ideal) ℓ) (g' : Dev Cert.PlainDownIdeal.nD → PrngReg), Pre_AdamDownIdeal m →
    (∀ c : Dev Cert.AdamDownIdeal.nD,
      m' ((c.tc : Thread Cert.PlainDownIdeal.nD Cert.PlainDownIdeal.τ).loc Cert.PlainDownIdeal.main_arg0) = m ((c.tc : Thread Cert.AdamDownIdeal.nD Cert.AdamDownIdeal.τ).loc Cert.AdamDownIdeal.main_arg0)
      ∧ m' ((c.tc : Thread Cert.PlainDownIdeal.nD Cert.PlainDownIdeal.τ).loc Cert.PlainDownIdeal.main_arg1) = m ((c.tc : Thread Cert.AdamDownIdeal.nD Cert.AdamDownIdeal.τ).loc Cert.AdamDownIdeal.main_arg1)
      ∧ m' ((c.tc : Thread Cert.PlainDownIdeal.nD Cert.PlainDownIdeal.τ).loc Cert.PlainDownIdeal.main_arg2) = m ((c.tc : Thread Cert.AdamDownIdeal.nD Cert.AdamDownIdeal.τ).loc Cert.AdamDownIdeal.main_arg2)
      ∧ m' ((c.tc : Thread Cert.PlainDownIdeal.nD Cert.PlainDownIdeal.τ).loc Cert.PlainDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.PlainDownIdeal.defs (F := Ideal)) (onTc (τ := Cert.PlainDownIdeal.τ) (Cert.PlainDownIdeal.main (F := Ideal))) ⟨m', fun _ => 0, g'⟩ (fun r => ∀ c : Dev Cert.PlainDownIdeal.nD,
          r.2.mem ((c.tc : Thread Cert.PlainDownIdeal.nD Cert.PlainDownIdeal.τ).loc Cert.PlainDownIdeal.main_v1) = v0 c
          ∧ r.2.mem ((c.tc : Thread Cert.PlainDownIdeal.nD Cert.PlainDownIdeal.τ).loc Cert.PlainDownIdeal.main_v25) = v1 c
          ∧ r.2.mem ((c.tc : Thread Cert.PlainDownIdeal.nD Cert.PlainDownIdeal.τ).loc Cert.PlainDownIdeal.main_v6) = v2 c
          ∧ r.2.mem ((c.tc : Thread Cert.PlainDownIdeal.nD Cert.PlainDownIdeal.τ).loc Cert.PlainDownIdeal.main_v12) = v3 c
          ∧ r.2.mem ((c.tc : Thread Cert.PlainDownIdeal.nD Cert.PlainDownIdeal.τ).loc Cert.PlainDownIdeal.main_arg0) = m' ((c.tc : Thread Cert.PlainDownIdeal.nD Cert.PlainDownIdeal.τ).loc Cert.PlainDownIdeal.main_arg0)
          ∧ r.2.mem ((c.tc : Thread Cert.PlainDownIdeal.nD Cert.PlainDownIdeal.τ).loc Cert.PlainDownIdeal.main_arg1) = m' ((c.tc : Thread Cert.PlainDownIdeal.nD Cert.PlainDownIdeal.τ).loc Cert.PlainDownIdeal.main_arg1)
          ∧ r.2.mem ((c.tc : Thread Cert.PlainDownIdeal.nD Cert.PlainDownIdeal.τ).loc Cert.PlainDownIdeal.main_arg2) = m' ((c.tc : Thread Cert.PlainDownIdeal.nD Cert.PlainDownIdeal.τ).loc Cert.PlainDownIdeal.main_arg2)
          ∧ r.2.mem ((c.tc : Thread Cert.PlainDownIdeal.nD Cert.PlainDownIdeal.τ).loc Cert.PlainDownIdeal.main_arg3) = m' ((c.tc : Thread Cert.PlainDownIdeal.nD Cert.PlainDownIdeal.τ).loc Cert.PlainDownIdeal.main_arg3))

def preserves_AdamConvA_AdamConvAIdeal : Prop :=
  True

def algebraic_AdamConvAIdeal_PlainConvAIdeal [hAdamConvAIdeal : Cert.AdamConvAIdeal.Facts] [hPlainConvAIdeal : Cert.PlainConvAIdeal.Facts] : Prop :=
  ∀ (m : (ℓ : Loc Cert.AdamConvAIdeal.nD Cert.AdamConvAIdeal.τ Cert.AdamConvAIdeal.sig) → Buf (Elt Ideal) ℓ) (g : Dev Cert.AdamConvAIdeal.nD → PrngReg)
    (m' : (ℓ : Loc Cert.PlainConvAIdeal.nD Cert.PlainConvAIdeal.τ Cert.PlainConvAIdeal.sig) → Buf (Elt Ideal) ℓ) (g' : Dev Cert.PlainConvAIdeal.nD → PrngReg), Pre_AdamConvAIdeal m →
    (∀ c : Dev Cert.AdamConvAIdeal.nD,
      m' ((c.tc : Thread Cert.PlainConvAIdeal.nD Cert.PlainConvAIdeal.τ).loc Cert.PlainConvAIdeal.main_arg0) = m ((c.tc : Thread Cert.AdamConvAIdeal.nD Cert.AdamConvAIdeal.τ).loc Cert.AdamConvAIdeal.main_arg0)
      ∧ m' ((c.tc : Thread Cert.PlainConvAIdeal.nD Cert.PlainConvAIdeal.τ).loc Cert.PlainConvAIdeal.main_arg1) = m ((c.tc : Thread Cert.AdamConvAIdeal.nD Cert.AdamConvAIdeal.τ).loc Cert.AdamConvAIdeal.main_arg1)
      ∧ m' ((c.tc : Thread Cert.PlainConvAIdeal.nD Cert.PlainConvAIdeal.τ).loc Cert.PlainConvAIdeal.main_arg2) = m ((c.tc : Thread Cert.AdamConvAIdeal.nD Cert.AdamConvAIdeal.τ).loc Cert.AdamConvAIdeal.main_arg2)
      ∧ m' ((c.tc : Thread Cert.PlainConvAIdeal.nD Cert.PlainConvAIdeal.τ).loc Cert.PlainConvAIdeal.main_arg3) = m ((c.tc : Thread Cert.AdamConvAIdeal.nD Cert.AdamConvAIdeal.τ).loc Cert.AdamConvAIdeal.main_arg3)) →
    ∃ (v0 : (c : Dev Cert.AdamConvAIdeal.nD) → Buf (Elt Ideal) ((c.tc : Thread Cert.AdamConvAIdeal.nD Cert.AdamConvAIdeal.τ).loc Cert.AdamConvAIdeal.main_v0_0)) (v1 : (c : Dev Cert.AdamConvAIdeal.nD) → Buf (Elt Ideal) ((c.tc : Thread Cert.AdamConvAIdeal.nD Cert.AdamConvAIdeal.τ).loc Cert.AdamConvAIdeal.main_v0_1)) (v2 : (c : Dev Cert.AdamConvAIdeal.nD) → Buf (Elt Ideal) ((c.tc : Thread Cert.AdamConvAIdeal.nD Cert.AdamConvAIdeal.τ).loc Cert.AdamConvAIdeal.main_v0_2)) (v3 : (c : Dev Cert.AdamConvAIdeal.nD) → Buf (Elt Ideal) ((c.tc : Thread Cert.AdamConvAIdeal.nD Cert.AdamConvAIdeal.τ).loc Cert.AdamConvAIdeal.main_v0_3)),
      θ_run (Cert.AdamConvAIdeal.defs (F := Ideal)) (onTc (τ := Cert.AdamConvAIdeal.τ) (Cert.AdamConvAIdeal.main (F := Ideal))) ⟨m, fun _ => 0, g⟩ (fun r => ∀ c : Dev Cert.AdamConvAIdeal.nD,
          r.2.mem ((c.tc : Thread Cert.AdamConvAIdeal.nD Cert.AdamConvAIdeal.τ).loc Cert.AdamConvAIdeal.main_v0_0) = v0 c
          ∧ r.2.mem ((c.tc : Thread Cert.AdamConvAIdeal.nD Cert.AdamConvAIdeal.τ).loc Cert.AdamConvAIdeal.main_v0_1) = v1 c
          ∧ r.2.mem ((c.tc : Thread Cert.AdamConvAIdeal.nD Cert.AdamConvAIdeal.τ).loc Cert.AdamConvAIdeal.main_v0_2) = v2 c
          ∧ r.2.mem ((c.tc : Thread Cert.AdamConvAIdeal.nD Cert.AdamConvAIdeal.τ).loc Cert.AdamConvAIdeal.main_v0_3) = v3 c
          ∧ r.2.mem ((c.tc : Thread Cert.AdamConvAIdeal.nD Cert.AdamConvAIdeal.τ).loc Cert.AdamConvAIdeal.main_arg0) = m ((c.tc : Thread Cert.AdamConvAIdeal.nD Cert.AdamConvAIdeal.τ).loc Cert.AdamConvAIdeal.main_arg0)
          ∧ r.2.mem ((c.tc : Thread Cert.AdamConvAIdeal.nD Cert.AdamConvAIdeal.τ).loc Cert.AdamConvAIdeal.main_arg1) = m ((c.tc : Thread Cert.AdamConvAIdeal.nD Cert.AdamConvAIdeal.τ).loc Cert.AdamConvAIdeal.main_arg1)
          ∧ r.2.mem ((c.tc : Thread Cert.AdamConvAIdeal.nD Cert.AdamConvAIdeal.τ).loc Cert.AdamConvAIdeal.main_arg2) = m ((c.tc : Thread Cert.AdamConvAIdeal.nD Cert.AdamConvAIdeal.τ).loc Cert.AdamConvAIdeal.main_arg2)
          ∧ r.2.mem ((c.tc : Thread Cert.AdamConvAIdeal.nD Cert.AdamConvAIdeal.τ).loc Cert.AdamConvAIdeal.main_arg3) = m ((c.tc : Thread Cert.AdamConvAIdeal.nD Cert.AdamConvAIdeal.τ).loc Cert.AdamConvAIdeal.main_arg3))
      ∧ θ_run (Cert.PlainConvAIdeal.defs (F := Ideal)) (onTc (τ := Cert.PlainConvAIdeal.τ) (Cert.PlainConvAIdeal.main (F := Ideal))) ⟨m', fun _ => 0, g'⟩ (fun r => ∀ c : Dev Cert.PlainConvAIdeal.nD,
          r.2.mem ((c.tc : Thread Cert.PlainConvAIdeal.nD Cert.PlainConvAIdeal.τ).loc Cert.PlainConvAIdeal.main_v0) = v0 c
          ∧ r.2.mem ((c.tc : Thread Cert.PlainConvAIdeal.nD Cert.PlainConvAIdeal.τ).loc Cert.PlainConvAIdeal.main_v24) = v1 c
          ∧ r.2.mem ((c.tc : Thread Cert.PlainConvAIdeal.nD Cert.PlainConvAIdeal.τ).loc Cert.PlainConvAIdeal.main_v5) = v2 c
          ∧ r.2.mem ((c.tc : Thread Cert.PlainConvAIdeal.nD Cert.PlainConvAIdeal.τ).loc Cert.PlainConvAIdeal.main_v11) = v3 c
          ∧ r.2.mem ((c.tc : Thread Cert.PlainConvAIdeal.nD Cert.PlainConvAIdeal.τ).loc Cert.PlainConvAIdeal.main_arg0) = m' ((c.tc : Thread Cert.PlainConvAIdeal.nD Cert.PlainConvAIdeal.τ).loc Cert.PlainConvAIdeal.main_arg0)
          ∧ r.2.mem ((c.tc : Thread Cert.PlainConvAIdeal.nD Cert.PlainConvAIdeal.τ).loc Cert.PlainConvAIdeal.main_arg1) = m' ((c.tc : Thread Cert.PlainConvAIdeal.nD Cert.PlainConvAIdeal.τ).loc Cert.PlainConvAIdeal.main_arg1)
          ∧ r.2.mem ((c.tc : Thread Cert.PlainConvAIdeal.nD Cert.PlainConvAIdeal.τ).loc Cert.PlainConvAIdeal.main_arg2) = m' ((c.tc : Thread Cert.PlainConvAIdeal.nD Cert.PlainConvAIdeal.τ).loc Cert.PlainConvAIdeal.main_arg2)
          ∧ r.2.mem ((c.tc : Thread Cert.PlainConvAIdeal.nD Cert.PlainConvAIdeal.τ).loc Cert.PlainConvAIdeal.main_arg3) = m' ((c.tc : Thread Cert.PlainConvAIdeal.nD Cert.PlainConvAIdeal.τ).loc Cert.PlainConvAIdeal.main_arg3))

def preserves_AdamConvF_AdamConvFIdeal : Prop :=
  True

def algebraic_AdamConvFIdeal_PlainConvFIdeal [hAdamConvFIdeal : Cert.AdamConvFIdeal.Facts] [hPlainConvFIdeal : Cert.PlainConvFIdeal.Facts] : Prop :=
  ∀ (m : (ℓ : Loc Cert.AdamConvFIdeal.nD Cert.AdamConvFIdeal.τ Cert.AdamConvFIdeal.sig) → Buf (Elt Ideal) ℓ) (g : Dev Cert.AdamConvFIdeal.nD → PrngReg)
    (m' : (ℓ : Loc Cert.PlainConvFIdeal.nD Cert.PlainConvFIdeal.τ Cert.PlainConvFIdeal.sig) → Buf (Elt Ideal) ℓ) (g' : Dev Cert.PlainConvFIdeal.nD → PrngReg), Pre_AdamConvFIdeal m →
    (∀ c : Dev Cert.AdamConvFIdeal.nD,
      m' ((c.tc : Thread Cert.PlainConvFIdeal.nD Cert.PlainConvFIdeal.τ).loc Cert.PlainConvFIdeal.main_arg0) = m ((c.tc : Thread Cert.AdamConvFIdeal.nD Cert.AdamConvFIdeal.τ).loc Cert.AdamConvFIdeal.main_arg0)
      ∧ m' ((c.tc : Thread Cert.PlainConvFIdeal.nD Cert.PlainConvFIdeal.τ).loc Cert.PlainConvFIdeal.main_arg1) = m ((c.tc : Thread Cert.AdamConvFIdeal.nD Cert.AdamConvFIdeal.τ).loc Cert.AdamConvFIdeal.main_arg1)
      ∧ m' ((c.tc : Thread Cert.PlainConvFIdeal.nD Cert.PlainConvFIdeal.τ).loc Cert.PlainConvFIdeal.main_arg2) = m ((c.tc : Thread Cert.AdamConvFIdeal.nD Cert.AdamConvFIdeal.τ).loc Cert.AdamConvFIdeal.main_arg2)
      ∧ m' ((c.tc : Thread Cert.PlainConvFIdeal.nD Cert.PlainConvFIdeal.τ).loc Cert.PlainConvFIdeal.main_arg3) = m ((c.tc : Thread Cert.AdamConvFIdeal.nD Cert.AdamConvFIdeal.τ).loc Cert.AdamConvFIdeal.main_arg3)) →
    ∃ (v0 : (c : Dev Cert.AdamConvFIdeal.nD) → Buf (Elt Ideal) ((c.tc : Thread Cert.AdamConvFIdeal.nD Cert.AdamConvFIdeal.τ).loc Cert.AdamConvFIdeal.main_v0_0)) (v1 : (c : Dev Cert.AdamConvFIdeal.nD) → Buf (Elt Ideal) ((c.tc : Thread Cert.AdamConvFIdeal.nD Cert.AdamConvFIdeal.τ).loc Cert.AdamConvFIdeal.main_v0_1)) (v2 : (c : Dev Cert.AdamConvFIdeal.nD) → Buf (Elt Ideal) ((c.tc : Thread Cert.AdamConvFIdeal.nD Cert.AdamConvFIdeal.τ).loc Cert.AdamConvFIdeal.main_v0_2)) (v3 : (c : Dev Cert.AdamConvFIdeal.nD) → Buf (Elt Ideal) ((c.tc : Thread Cert.AdamConvFIdeal.nD Cert.AdamConvFIdeal.τ).loc Cert.AdamConvFIdeal.main_v0_3)),
      θ_run (Cert.AdamConvFIdeal.defs (F := Ideal)) (onTc (τ := Cert.AdamConvFIdeal.τ) (Cert.AdamConvFIdeal.main (F := Ideal))) ⟨m, fun _ => 0, g⟩ (fun r => ∀ c : Dev Cert.AdamConvFIdeal.nD,
          r.2.mem ((c.tc : Thread Cert.AdamConvFIdeal.nD Cert.AdamConvFIdeal.τ).loc Cert.AdamConvFIdeal.main_v0_0) = v0 c
          ∧ r.2.mem ((c.tc : Thread Cert.AdamConvFIdeal.nD Cert.AdamConvFIdeal.τ).loc Cert.AdamConvFIdeal.main_v0_1) = v1 c
          ∧ r.2.mem ((c.tc : Thread Cert.AdamConvFIdeal.nD Cert.AdamConvFIdeal.τ).loc Cert.AdamConvFIdeal.main_v0_2) = v2 c
          ∧ r.2.mem ((c.tc : Thread Cert.AdamConvFIdeal.nD Cert.AdamConvFIdeal.τ).loc Cert.AdamConvFIdeal.main_v0_3) = v3 c
          ∧ r.2.mem ((c.tc : Thread Cert.AdamConvFIdeal.nD Cert.AdamConvFIdeal.τ).loc Cert.AdamConvFIdeal.main_arg0) = m ((c.tc : Thread Cert.AdamConvFIdeal.nD Cert.AdamConvFIdeal.τ).loc Cert.AdamConvFIdeal.main_arg0)
          ∧ r.2.mem ((c.tc : Thread Cert.AdamConvFIdeal.nD Cert.AdamConvFIdeal.τ).loc Cert.AdamConvFIdeal.main_arg1) = m ((c.tc : Thread Cert.AdamConvFIdeal.nD Cert.AdamConvFIdeal.τ).loc Cert.AdamConvFIdeal.main_arg1)
          ∧ r.2.mem ((c.tc : Thread Cert.AdamConvFIdeal.nD Cert.AdamConvFIdeal.τ).loc Cert.AdamConvFIdeal.main_arg2) = m ((c.tc : Thread Cert.AdamConvFIdeal.nD Cert.AdamConvFIdeal.τ).loc Cert.AdamConvFIdeal.main_arg2)
          ∧ r.2.mem ((c.tc : Thread Cert.AdamConvFIdeal.nD Cert.AdamConvFIdeal.τ).loc Cert.AdamConvFIdeal.main_arg3) = m ((c.tc : Thread Cert.AdamConvFIdeal.nD Cert.AdamConvFIdeal.τ).loc Cert.AdamConvFIdeal.main_arg3))
      ∧ θ_run (Cert.PlainConvFIdeal.defs (F := Ideal)) (onTc (τ := Cert.PlainConvFIdeal.τ) (Cert.PlainConvFIdeal.main (F := Ideal))) ⟨m', fun _ => 0, g'⟩ (fun r => ∀ c : Dev Cert.PlainConvFIdeal.nD,
          r.2.mem ((c.tc : Thread Cert.PlainConvFIdeal.nD Cert.PlainConvFIdeal.τ).loc Cert.PlainConvFIdeal.main_v0) = v0 c
          ∧ r.2.mem ((c.tc : Thread Cert.PlainConvFIdeal.nD Cert.PlainConvFIdeal.τ).loc Cert.PlainConvFIdeal.main_v24) = v1 c
          ∧ r.2.mem ((c.tc : Thread Cert.PlainConvFIdeal.nD Cert.PlainConvFIdeal.τ).loc Cert.PlainConvFIdeal.main_v5) = v2 c
          ∧ r.2.mem ((c.tc : Thread Cert.PlainConvFIdeal.nD Cert.PlainConvFIdeal.τ).loc Cert.PlainConvFIdeal.main_v11) = v3 c
          ∧ r.2.mem ((c.tc : Thread Cert.PlainConvFIdeal.nD Cert.PlainConvFIdeal.τ).loc Cert.PlainConvFIdeal.main_arg0) = m' ((c.tc : Thread Cert.PlainConvFIdeal.nD Cert.PlainConvFIdeal.τ).loc Cert.PlainConvFIdeal.main_arg0)
          ∧ r.2.mem ((c.tc : Thread Cert.PlainConvFIdeal.nD Cert.PlainConvFIdeal.τ).loc Cert.PlainConvFIdeal.main_arg1) = m' ((c.tc : Thread Cert.PlainConvFIdeal.nD Cert.PlainConvFIdeal.τ).loc Cert.PlainConvFIdeal.main_arg1)
          ∧ r.2.mem ((c.tc : Thread Cert.PlainConvFIdeal.nD Cert.PlainConvFIdeal.τ).loc Cert.PlainConvFIdeal.main_arg2) = m' ((c.tc : Thread Cert.PlainConvFIdeal.nD Cert.PlainConvFIdeal.τ).loc Cert.PlainConvFIdeal.main_arg2)
          ∧ r.2.mem ((c.tc : Thread Cert.PlainConvFIdeal.nD Cert.PlainConvFIdeal.τ).loc Cert.PlainConvFIdeal.main_arg3) = m' ((c.tc : Thread Cert.PlainConvFIdeal.nD Cert.PlainConvFIdeal.τ).loc Cert.PlainConvFIdeal.main_arg3))

def preserves_AdamSmall_AdamSmallIdeal : Prop :=
  True

def algebraic_AdamSmallIdeal_PlainSmallIdeal [hAdamSmallIdeal : Cert.AdamSmallIdeal.Facts] [hPlainSmallIdeal : Cert.PlainSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.PlainSmallIdeal.nD Cert.PlainSmallIdeal.τ Cert.PlainSmallIdeal.sig) → Buf (Elt Ideal) ℓ) (g' : Dev Cert.PlainSmallIdeal.nD → PrngReg), Pre_AdamSmallIdeal m →
    (∀ c : Dev Cert.AdamSmallIdeal.nD,
      m' ((c.tc : Thread Cert.PlainSmallIdeal.nD Cert.PlainSmallIdeal.τ).loc Cert.PlainSmallIdeal.main_arg0) = m ((c.tc : Thread Cert.AdamSmallIdeal.nD Cert.AdamSmallIdeal.τ).loc Cert.AdamSmallIdeal.main_arg0)
      ∧ m' ((c.tc : Thread Cert.PlainSmallIdeal.nD Cert.PlainSmallIdeal.τ).loc Cert.PlainSmallIdeal.main_arg1) = m ((c.tc : Thread Cert.AdamSmallIdeal.nD Cert.AdamSmallIdeal.τ).loc Cert.AdamSmallIdeal.main_arg1)
      ∧ m' ((c.tc : Thread Cert.PlainSmallIdeal.nD Cert.PlainSmallIdeal.τ).loc Cert.PlainSmallIdeal.main_arg2) = m ((c.tc : Thread Cert.AdamSmallIdeal.nD Cert.AdamSmallIdeal.τ).loc Cert.AdamSmallIdeal.main_arg2)
      ∧ m' ((c.tc : Thread Cert.PlainSmallIdeal.nD Cert.PlainSmallIdeal.τ).loc Cert.PlainSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.PlainSmallIdeal.defs (F := Ideal)) (onTc (τ := Cert.PlainSmallIdeal.τ) (Cert.PlainSmallIdeal.main (F := Ideal))) ⟨m', fun _ => 0, g'⟩ (fun r => ∀ c : Dev Cert.PlainSmallIdeal.nD,
          r.2.mem ((c.tc : Thread Cert.PlainSmallIdeal.nD Cert.PlainSmallIdeal.τ).loc Cert.PlainSmallIdeal.main_v0) = v0 c
          ∧ r.2.mem ((c.tc : Thread Cert.PlainSmallIdeal.nD Cert.PlainSmallIdeal.τ).loc Cert.PlainSmallIdeal.main_v24) = v1 c
          ∧ r.2.mem ((c.tc : Thread Cert.PlainSmallIdeal.nD Cert.PlainSmallIdeal.τ).loc Cert.PlainSmallIdeal.main_v5) = v2 c
          ∧ r.2.mem ((c.tc : Thread Cert.PlainSmallIdeal.nD Cert.PlainSmallIdeal.τ).loc Cert.PlainSmallIdeal.main_v11) = v3 c
          ∧ r.2.mem ((c.tc : Thread Cert.PlainSmallIdeal.nD Cert.PlainSmallIdeal.τ).loc Cert.PlainSmallIdeal.main_arg0) = m' ((c.tc : Thread Cert.PlainSmallIdeal.nD Cert.PlainSmallIdeal.τ).loc Cert.PlainSmallIdeal.main_arg0)
          ∧ r.2.mem ((c.tc : Thread Cert.PlainSmallIdeal.nD Cert.PlainSmallIdeal.τ).loc Cert.PlainSmallIdeal.main_arg1) = m' ((c.tc : Thread Cert.PlainSmallIdeal.nD Cert.PlainSmallIdeal.τ).loc Cert.PlainSmallIdeal.main_arg1)
          ∧ r.2.mem ((c.tc : Thread Cert.PlainSmallIdeal.nD Cert.PlainSmallIdeal.τ).loc Cert.PlainSmallIdeal.main_arg2) = m' ((c.tc : Thread Cert.PlainSmallIdeal.nD Cert.PlainSmallIdeal.τ).loc Cert.PlainSmallIdeal.main_arg2)
          ∧ r.2.mem ((c.tc : Thread Cert.PlainSmallIdeal.nD Cert.PlainSmallIdeal.τ).loc Cert.PlainSmallIdeal.main_arg3) = m' ((c.tc : Thread Cert.PlainSmallIdeal.nD Cert.PlainSmallIdeal.τ).loc Cert.PlainSmallIdeal.main_arg3))

def preserves_RmsFwd_RmsFwdIdeal : Prop :=
  True

def algebraic_RmsFwdIdeal_PlainRmsFwdIdeal [hRmsFwdIdeal : Cert.RmsFwdIdeal.Facts] [hPlainRmsFwdIdeal : Cert.PlainRmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.PlainRmsFwdIdeal.nD Cert.PlainRmsFwdIdeal.τ Cert.PlainRmsFwdIdeal.sig) → Buf (Elt Ideal) ℓ) (g' : Dev Cert.PlainRmsFwdIdeal.nD → PrngReg), Pre_RmsFwdIdeal m →
    (∀ c : Dev Cert.RmsFwdIdeal.nD,
      m' ((c.tc : Thread Cert.PlainRmsFwdIdeal.nD Cert.PlainRmsFwdIdeal.τ).loc Cert.PlainRmsFwdIdeal.main_arg0) = m ((c.tc : Thread Cert.RmsFwdIdeal.nD Cert.RmsFwdIdeal.τ).loc Cert.RmsFwdIdeal.main_arg0)
      ∧ m' ((c.tc : Thread Cert.PlainRmsFwdIdeal.nD Cert.PlainRmsFwdIdeal.τ).loc Cert.PlainRmsFwdIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.PlainRmsFwdIdeal.defs (F := Ideal)) (onTc (τ := Cert.PlainRmsFwdIdeal.τ) (Cert.PlainRmsFwdIdeal.main (F := Ideal))) ⟨m', fun _ => 0, g'⟩ (fun r => ∀ c : Dev Cert.PlainRmsFwdIdeal.nD,
          r.2.mem ((c.tc : Thread Cert.PlainRmsFwdIdeal.nD Cert.PlainRmsFwdIdeal.τ).loc Cert.PlainRmsFwdIdeal.main_v12) = v0 c
          ∧ r.2.mem ((c.tc : Thread Cert.PlainRmsFwdIdeal.nD Cert.PlainRmsFwdIdeal.τ).loc Cert.PlainRmsFwdIdeal.main_arg0) = m' ((c.tc : Thread Cert.PlainRmsFwdIdeal.nD Cert.PlainRmsFwdIdeal.τ).loc Cert.PlainRmsFwdIdeal.main_arg0)
          ∧ r.2.mem ((c.tc : Thread Cert.PlainRmsFwdIdeal.nD Cert.PlainRmsFwdIdeal.τ).loc Cert.PlainRmsFwdIdeal.main_arg1) = m' ((c.tc : Thread Cert.PlainRmsFwdIdeal.nD Cert.PlainRmsFwdIdeal.τ).loc Cert.PlainRmsFwdIdeal.main_arg1))

def preserves_RmsBwd_RmsBwdIdeal : Prop :=
  True

def algebraic_RmsBwdIdeal_PlainRmsBwdIdeal [hRmsBwdIdeal : Cert.RmsBwdIdeal.Facts] [hPlainRmsBwdIdeal : Cert.PlainRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.PlainRmsBwdIdeal.nD Cert.PlainRmsBwdIdeal.τ Cert.PlainRmsBwdIdeal.sig) → Buf (Elt Ideal) ℓ) (g' : Dev Cert.PlainRmsBwdIdeal.nD → PrngReg), Pre_RmsBwdIdeal m →
    (∀ c : Dev Cert.RmsBwdIdeal.nD,
      m' ((c.tc : Thread Cert.PlainRmsBwdIdeal.nD Cert.PlainRmsBwdIdeal.τ).loc Cert.PlainRmsBwdIdeal.main_arg0) = m ((c.tc : Thread Cert.RmsBwdIdeal.nD Cert.RmsBwdIdeal.τ).loc Cert.RmsBwdIdeal.main_arg0)
      ∧ m' ((c.tc : Thread Cert.PlainRmsBwdIdeal.nD Cert.PlainRmsBwdIdeal.τ).loc Cert.PlainRmsBwdIdeal.main_arg1) = m ((c.tc : Thread Cert.RmsBwdIdeal.nD Cert.RmsBwdIdeal.τ).loc Cert.RmsBwdIdeal.main_arg1)
      ∧ m' ((c.tc : Thread Cert.PlainRmsBwdIdeal.nD Cert.PlainRmsBwdIdeal.τ).loc Cert.PlainRmsBwdIdeal.main_arg2) = m ((c.tc : Thread Cert.RmsBwdIdeal.nD Cert.RmsBwdIdeal.τ).loc Cert.RmsBwdIdeal.main_arg2)
      ∧ m' ((c.tc : Thread Cert.PlainRmsBwdIdeal.nD Cert.PlainRmsBwdIdeal.τ).loc Cert.PlainRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.PlainRmsBwdIdeal.defs (F := Ideal)) (onTc (τ := Cert.PlainRmsBwdIdeal.τ) (Cert.PlainRmsBwdIdeal.main (F := Ideal))) ⟨m', fun _ => 0, g'⟩ (fun r => ∀ c : Dev Cert.PlainRmsBwdIdeal.nD,
          r.2.mem ((c.tc : Thread Cert.PlainRmsBwdIdeal.nD Cert.PlainRmsBwdIdeal.τ).loc Cert.PlainRmsBwdIdeal.main_v34) = v0 c
          ∧ r.2.mem ((c.tc : Thread Cert.PlainRmsBwdIdeal.nD Cert.PlainRmsBwdIdeal.τ).loc Cert.PlainRmsBwdIdeal.main_v17) = v1 c
          ∧ r.2.mem ((c.tc : Thread Cert.PlainRmsBwdIdeal.nD Cert.PlainRmsBwdIdeal.τ).loc Cert.PlainRmsBwdIdeal.main_arg0) = m' ((c.tc : Thread Cert.PlainRmsBwdIdeal.nD Cert.PlainRmsBwdIdeal.τ).loc Cert.PlainRmsBwdIdeal.main_arg0)
          ∧ r.2.mem ((c.tc : Thread Cert.PlainRmsBwdIdeal.nD Cert.PlainRmsBwdIdeal.τ).loc Cert.PlainRmsBwdIdeal.main_arg1) = m' ((c.tc : Thread Cert.PlainRmsBwdIdeal.nD Cert.PlainRmsBwdIdeal.τ).loc Cert.PlainRmsBwdIdeal.main_arg1)
          ∧ r.2.mem ((c.tc : Thread Cert.PlainRmsBwdIdeal.nD Cert.PlainRmsBwdIdeal.τ).loc Cert.PlainRmsBwdIdeal.main_arg2) = m' ((c.tc : Thread Cert.PlainRmsBwdIdeal.nD Cert.PlainRmsBwdIdeal.τ).loc Cert.PlainRmsBwdIdeal.main_arg2)
          ∧ r.2.mem ((c.tc : Thread Cert.PlainRmsBwdIdeal.nD Cert.PlainRmsBwdIdeal.τ).loc Cert.PlainRmsBwdIdeal.main_arg3) = m' ((c.tc : Thread Cert.PlainRmsBwdIdeal.nD Cert.PlainRmsBwdIdeal.τ).loc Cert.PlainRmsBwdIdeal.main_arg3))

def preserves_Loss_LossIdeal : Prop :=
  True

def algebraic_LossIdeal_PlainLossIdeal [hLossIdeal : Cert.LossIdeal.Facts] [hPlainLossIdeal : Cert.PlainLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.PlainLossIdeal.nD Cert.PlainLossIdeal.τ Cert.PlainLossIdeal.sig) → Buf (Elt Ideal) ℓ) (g' : Dev Cert.PlainLossIdeal.nD → PrngReg), Pre_LossIdeal m →
    (∀ c : Dev Cert.LossIdeal.nD,
      m' ((c.tc : Thread Cert.PlainLossIdeal.nD Cert.PlainLossIdeal.τ).loc Cert.PlainLossIdeal.main_arg0) = m ((c.tc : Thread Cert.LossIdeal.nD Cert.LossIdeal.τ).loc Cert.LossIdeal.main_arg0)
      ∧ m' ((c.tc : Thread Cert.PlainLossIdeal.nD Cert.PlainLossIdeal.τ).loc Cert.PlainLossIdeal.main_arg1) = m ((c.tc : Thread Cert.LossIdeal.nD Cert.LossIdeal.τ).loc Cert.LossIdeal.main_arg1)
      ∧ m' ((c.tc : Thread Cert.PlainLossIdeal.nD Cert.PlainLossIdeal.τ).loc Cert.PlainLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.PlainLossIdeal.defs (F := Ideal)) (onTc (τ := Cert.PlainLossIdeal.τ) (Cert.PlainLossIdeal.main (F := Ideal))) ⟨m', fun _ => 0, g'⟩ (fun r => ∀ c : Dev Cert.PlainLossIdeal.nD,
          r.2.mem ((c.tc : Thread Cert.PlainLossIdeal.nD Cert.PlainLossIdeal.τ).loc Cert.PlainLossIdeal.main_v48) = v0 c
          ∧ r.2.mem ((c.tc : Thread Cert.PlainLossIdeal.nD Cert.PlainLossIdeal.τ).loc Cert.PlainLossIdeal.main_v32) = v1 c
          ∧ r.2.mem ((c.tc : Thread Cert.PlainLossIdeal.nD Cert.PlainLossIdeal.τ).loc Cert.PlainLossIdeal.main_v49) = v2 c
          ∧ r.2.mem ((c.tc : Thread Cert.PlainLossIdeal.nD Cert.PlainLossIdeal.τ).loc Cert.PlainLossIdeal.main_arg0) = m' ((c.tc : Thread Cert.PlainLossIdeal.nD Cert.PlainLossIdeal.τ).loc Cert.PlainLossIdeal.main_arg0)
          ∧ r.2.mem ((c.tc : Thread Cert.PlainLossIdeal.nD Cert.PlainLossIdeal.τ).loc Cert.PlainLossIdeal.main_arg1) = m' ((c.tc : Thread Cert.PlainLossIdeal.nD Cert.PlainLossIdeal.τ).loc Cert.PlainLossIdeal.main_arg1)
          ∧ r.2.mem ((c.tc : Thread Cert.PlainLossIdeal.nD Cert.PlainLossIdeal.τ).loc Cert.PlainLossIdeal.main_arg2) = m' ((c.tc : Thread Cert.PlainLossIdeal.nD Cert.PlainLossIdeal.τ).loc Cert.PlainLossIdeal.main_arg2))

def preserves_ProjA_ProjAIdeal : Prop :=
  True

def algebraic_ProjAIdeal_PlainProjAIdeal [hProjAIdeal : Cert.ProjAIdeal.Facts] [hPlainProjAIdeal : Cert.PlainProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.PlainProjAIdeal.nD Cert.PlainProjAIdeal.τ Cert.PlainProjAIdeal.sig) → Buf (Elt Ideal) ℓ) (g' : Dev Cert.PlainProjAIdeal.nD → PrngReg), Pre_ProjAIdeal m →
    (∀ c : Dev Cert.ProjAIdeal.nD,
      m' ((c.tc : Thread Cert.PlainProjAIdeal.nD Cert.PlainProjAIdeal.τ).loc Cert.PlainProjAIdeal.main_arg0) = m ((c.tc : Thread Cert.ProjAIdeal.nD Cert.ProjAIdeal.τ).loc Cert.ProjAIdeal.main_arg0)
      ∧ m' ((c.tc : Thread Cert.PlainProjAIdeal.nD Cert.PlainProjAIdeal.τ).loc Cert.PlainProjAIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.PlainProjAIdeal.defs (F := Ideal)) (onTc (τ := Cert.PlainProjAIdeal.τ) (Cert.PlainProjAIdeal.main (F := Ideal))) ⟨m', fun _ => 0, g'⟩ (fun r => ∀ c : Dev Cert.PlainProjAIdeal.nD,
          r.2.mem ((c.tc : Thread Cert.PlainProjAIdeal.nD Cert.PlainProjAIdeal.τ).loc Cert.PlainProjAIdeal.main_v2) = v0 c
          ∧ r.2.mem ((c.tc : Thread Cert.PlainProjAIdeal.nD Cert.PlainProjAIdeal.τ).loc Cert.PlainProjAIdeal.main_arg0) = m' ((c.tc : Thread Cert.PlainProjAIdeal.nD Cert.PlainProjAIdeal.τ).loc Cert.PlainProjAIdeal.main_arg0)
          ∧ r.2.mem ((c.tc : Thread Cert.PlainProjAIdeal.nD Cert.PlainProjAIdeal.τ).loc Cert.PlainProjAIdeal.main_arg1) = m' ((c.tc : Thread Cert.PlainProjAIdeal.nD Cert.PlainProjAIdeal.τ).loc Cert.PlainProjAIdeal.main_arg1))

def preserves_ProjZ_ProjZIdeal : Prop :=
  True

def algebraic_ProjZIdeal_PlainProjZIdeal [hProjZIdeal : Cert.ProjZIdeal.Facts] [hPlainProjZIdeal : Cert.PlainProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.PlainProjZIdeal.nD Cert.PlainProjZIdeal.τ Cert.PlainProjZIdeal.sig) → Buf (Elt Ideal) ℓ) (g' : Dev Cert.PlainProjZIdeal.nD → PrngReg), Pre_ProjZIdeal m →
    (∀ c : Dev Cert.ProjZIdeal.nD,
      m' ((c.tc : Thread Cert.PlainProjZIdeal.nD Cert.PlainProjZIdeal.τ).loc Cert.PlainProjZIdeal.main_arg0) = m ((c.tc : Thread Cert.ProjZIdeal.nD Cert.ProjZIdeal.τ).loc Cert.ProjZIdeal.main_arg0)
      ∧ m' ((c.tc : Thread Cert.PlainProjZIdeal.nD Cert.PlainProjZIdeal.τ).loc Cert.PlainProjZIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.PlainProjZIdeal.defs (F := Ideal)) (onTc (τ := Cert.PlainProjZIdeal.τ) (Cert.PlainProjZIdeal.main (F := Ideal))) ⟨m', fun _ => 0, g'⟩ (fun r => ∀ c : Dev Cert.PlainProjZIdeal.nD,
          r.2.mem ((c.tc : Thread Cert.PlainProjZIdeal.nD Cert.PlainProjZIdeal.τ).loc Cert.PlainProjZIdeal.main_v2) = v0 c
          ∧ r.2.mem ((c.tc : Thread Cert.PlainProjZIdeal.nD Cert.PlainProjZIdeal.τ).loc Cert.PlainProjZIdeal.main_arg0) = m' ((c.tc : Thread Cert.PlainProjZIdeal.nD Cert.PlainProjZIdeal.τ).loc Cert.PlainProjZIdeal.main_arg0)
          ∧ r.2.mem ((c.tc : Thread Cert.PlainProjZIdeal.nD Cert.PlainProjZIdeal.τ).loc Cert.PlainProjZIdeal.main_arg1) = m' ((c.tc : Thread Cert.PlainProjZIdeal.nD Cert.PlainProjZIdeal.τ).loc Cert.PlainProjZIdeal.main_arg1))

def preserves_ProjB_ProjBIdeal : Prop :=
  True

def algebraic_ProjBIdeal_PlainProjBIdeal [hProjBIdeal : Cert.ProjBIdeal.Facts] [hPlainProjBIdeal : Cert.PlainProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.PlainProjBIdeal.nD Cert.PlainProjBIdeal.τ Cert.PlainProjBIdeal.sig) → Buf (Elt Ideal) ℓ) (g' : Dev Cert.PlainProjBIdeal.nD → PrngReg), Pre_ProjBIdeal m →
    (∀ c : Dev Cert.ProjBIdeal.nD,
      m' ((c.tc : Thread Cert.PlainProjBIdeal.nD Cert.PlainProjBIdeal.τ).loc Cert.PlainProjBIdeal.main_arg0) = m ((c.tc : Thread Cert.ProjBIdeal.nD Cert.ProjBIdeal.τ).loc Cert.ProjBIdeal.main_arg0)
      ∧ m' ((c.tc : Thread Cert.PlainProjBIdeal.nD Cert.PlainProjBIdeal.τ).loc Cert.PlainProjBIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.PlainProjBIdeal.defs (F := Ideal)) (onTc (τ := Cert.PlainProjBIdeal.τ) (Cert.PlainProjBIdeal.main (F := Ideal))) ⟨m', fun _ => 0, g'⟩ (fun r => ∀ c : Dev Cert.PlainProjBIdeal.nD,
          r.2.mem ((c.tc : Thread Cert.PlainProjBIdeal.nD Cert.PlainProjBIdeal.τ).loc Cert.PlainProjBIdeal.main_v2) = v0 c
          ∧ r.2.mem ((c.tc : Thread Cert.PlainProjBIdeal.nD Cert.PlainProjBIdeal.τ).loc Cert.PlainProjBIdeal.main_arg0) = m' ((c.tc : Thread Cert.PlainProjBIdeal.nD Cert.PlainProjBIdeal.τ).loc Cert.PlainProjBIdeal.main_arg0)
          ∧ r.2.mem ((c.tc : Thread Cert.PlainProjBIdeal.nD Cert.PlainProjBIdeal.τ).loc Cert.PlainProjBIdeal.main_arg1) = m' ((c.tc : Thread Cert.PlainProjBIdeal.nD Cert.PlainProjBIdeal.τ).loc Cert.PlainProjBIdeal.main_arg1))

def preserves_OutProj_OutProjIdeal : Prop :=
  True

def algebraic_OutProjIdeal_PlainOutProjIdeal [hOutProjIdeal : Cert.OutProjIdeal.Facts] [hPlainOutProjIdeal : Cert.PlainOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.PlainOutProjIdeal.nD Cert.PlainOutProjIdeal.τ Cert.PlainOutProjIdeal.sig) → Buf (Elt Ideal) ℓ) (g' : Dev Cert.PlainOutProjIdeal.nD → PrngReg), Pre_OutProjIdeal m →
    (∀ c : Dev Cert.OutProjIdeal.nD,
      m' ((c.tc : Thread Cert.PlainOutProjIdeal.nD Cert.PlainOutProjIdeal.τ).loc Cert.PlainOutProjIdeal.main_arg0) = m ((c.tc : Thread Cert.OutProjIdeal.nD Cert.OutProjIdeal.τ).loc Cert.OutProjIdeal.main_arg0)
      ∧ m' ((c.tc : Thread Cert.PlainOutProjIdeal.nD Cert.PlainOutProjIdeal.τ).loc Cert.PlainOutProjIdeal.main_arg1) = m ((c.tc : Thread Cert.OutProjIdeal.nD Cert.OutProjIdeal.τ).loc Cert.OutProjIdeal.main_arg1)
      ∧ m' ((c.tc : Thread Cert.PlainOutProjIdeal.nD Cert.PlainOutProjIdeal.τ).loc Cert.PlainOutProjIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.PlainOutProjIdeal.defs (F := Ideal)) (onTc (τ := Cert.PlainOutProjIdeal.τ) (Cert.PlainOutProjIdeal.main (F := Ideal))) ⟨m', fun _ => 0, g'⟩ (fun r => ∀ c : Dev Cert.PlainOutProjIdeal.nD,
          r.2.mem ((c.tc : Thread Cert.PlainOutProjIdeal.nD Cert.PlainOutProjIdeal.τ).loc Cert.PlainOutProjIdeal.main_v3) = v0 c
          ∧ r.2.mem ((c.tc : Thread Cert.PlainOutProjIdeal.nD Cert.PlainOutProjIdeal.τ).loc Cert.PlainOutProjIdeal.main_arg0) = m' ((c.tc : Thread Cert.PlainOutProjIdeal.nD Cert.PlainOutProjIdeal.τ).loc Cert.PlainOutProjIdeal.main_arg0)
          ∧ r.2.mem ((c.tc : Thread Cert.PlainOutProjIdeal.nD Cert.PlainOutProjIdeal.τ).loc Cert.PlainOutProjIdeal.main_arg1) = m' ((c.tc : Thread Cert.PlainOutProjIdeal.nD Cert.PlainOutProjIdeal.τ).loc Cert.PlainOutProjIdeal.main_arg1)
          ∧ r.2.mem ((c.tc : Thread Cert.PlainOutProjIdeal.nD Cert.PlainOutProjIdeal.τ).loc Cert.PlainOutProjIdeal.main_arg2) = m' ((c.tc : Thread Cert.PlainOutProjIdeal.nD Cert.PlainOutProjIdeal.τ).loc Cert.PlainOutProjIdeal.main_arg2))

def preserves_FfnUp_FfnUpIdeal : Prop :=
  True

def algebraic_FfnUpIdeal_PlainFfnUpIdeal [hFfnUpIdeal : Cert.FfnUpIdeal.Facts] [hPlainFfnUpIdeal : Cert.PlainFfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.PlainFfnUpIdeal.nD Cert.PlainFfnUpIdeal.τ Cert.PlainFfnUpIdeal.sig) → Buf (Elt Ideal) ℓ) (g' : Dev Cert.PlainFfnUpIdeal.nD → PrngReg), Pre_FfnUpIdeal m →
    (∀ c : Dev Cert.FfnUpIdeal.nD,
      m' ((c.tc : Thread Cert.PlainFfnUpIdeal.nD Cert.PlainFfnUpIdeal.τ).loc Cert.PlainFfnUpIdeal.main_arg0) = m ((c.tc : Thread Cert.FfnUpIdeal.nD Cert.FfnUpIdeal.τ).loc Cert.FfnUpIdeal.main_arg0)
      ∧ m' ((c.tc : Thread Cert.PlainFfnUpIdeal.nD Cert.PlainFfnUpIdeal.τ).loc Cert.PlainFfnUpIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.PlainFfnUpIdeal.defs (F := Ideal)) (onTc (τ := Cert.PlainFfnUpIdeal.τ) (Cert.PlainFfnUpIdeal.main (F := Ideal))) ⟨m', fun _ => 0, g'⟩ (fun r => ∀ c : Dev Cert.PlainFfnUpIdeal.nD,
          r.2.mem ((c.tc : Thread Cert.PlainFfnUpIdeal.nD Cert.PlainFfnUpIdeal.τ).loc Cert.PlainFfnUpIdeal.main_v2) = v0 c
          ∧ r.2.mem ((c.tc : Thread Cert.PlainFfnUpIdeal.nD Cert.PlainFfnUpIdeal.τ).loc Cert.PlainFfnUpIdeal.main_arg0) = m' ((c.tc : Thread Cert.PlainFfnUpIdeal.nD Cert.PlainFfnUpIdeal.τ).loc Cert.PlainFfnUpIdeal.main_arg0)
          ∧ r.2.mem ((c.tc : Thread Cert.PlainFfnUpIdeal.nD Cert.PlainFfnUpIdeal.τ).loc Cert.PlainFfnUpIdeal.main_arg1) = m' ((c.tc : Thread Cert.PlainFfnUpIdeal.nD Cert.PlainFfnUpIdeal.τ).loc Cert.PlainFfnUpIdeal.main_arg1))

def preserves_FfnDown_FfnDownIdeal : Prop :=
  True

def algebraic_FfnDownIdeal_PlainFfnDownIdeal [hFfnDownIdeal : Cert.FfnDownIdeal.Facts] [hPlainFfnDownIdeal : Cert.PlainFfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.PlainFfnDownIdeal.nD Cert.PlainFfnDownIdeal.τ Cert.PlainFfnDownIdeal.sig) → Buf (Elt Ideal) ℓ) (g' : Dev Cert.PlainFfnDownIdeal.nD → PrngReg), Pre_FfnDownIdeal m →
    (∀ c : Dev Cert.FfnDownIdeal.nD,
      m' ((c.tc : Thread Cert.PlainFfnDownIdeal.nD Cert.PlainFfnDownIdeal.τ).loc Cert.PlainFfnDownIdeal.main_arg0) = m ((c.tc : Thread Cert.FfnDownIdeal.nD Cert.FfnDownIdeal.τ).loc Cert.FfnDownIdeal.main_arg0)
      ∧ m' ((c.tc : Thread Cert.PlainFfnDownIdeal.nD Cert.PlainFfnDownIdeal.τ).loc Cert.PlainFfnDownIdeal.main_arg1) = m ((c.tc : Thread Cert.FfnDownIdeal.nD Cert.FfnDownIdeal.τ).loc Cert.FfnDownIdeal.main_arg1)
      ∧ m' ((c.tc : Thread Cert.PlainFfnDownIdeal.nD Cert.PlainFfnDownIdeal.τ).loc Cert.PlainFfnDownIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.PlainFfnDownIdeal.defs (F := Ideal)) (onTc (τ := Cert.PlainFfnDownIdeal.τ) (Cert.PlainFfnDownIdeal.main (F := Ideal))) ⟨m', fun _ => 0, g'⟩ (fun r => ∀ c : Dev Cert.PlainFfnDownIdeal.nD,
          r.2.mem ((c.tc : Thread Cert.PlainFfnDownIdeal.nD Cert.PlainFfnDownIdeal.τ).loc Cert.PlainFfnDownIdeal.main_v3) = v0 c
          ∧ r.2.mem ((c.tc : Thread Cert.PlainFfnDownIdeal.nD Cert.PlainFfnDownIdeal.τ).loc Cert.PlainFfnDownIdeal.main_arg0) = m' ((c.tc : Thread Cert.PlainFfnDownIdeal.nD Cert.PlainFfnDownIdeal.τ).loc Cert.PlainFfnDownIdeal.main_arg0)
          ∧ r.2.mem ((c.tc : Thread Cert.PlainFfnDownIdeal.nD Cert.PlainFfnDownIdeal.τ).loc Cert.PlainFfnDownIdeal.main_arg1) = m' ((c.tc : Thread Cert.PlainFfnDownIdeal.nD Cert.PlainFfnDownIdeal.τ).loc Cert.PlainFfnDownIdeal.main_arg1)
          ∧ r.2.mem ((c.tc : Thread Cert.PlainFfnDownIdeal.nD Cert.PlainFfnDownIdeal.τ).loc Cert.PlainFfnDownIdeal.main_arg2) = m' ((c.tc : Thread Cert.PlainFfnDownIdeal.nD Cert.PlainFfnDownIdeal.τ).loc Cert.PlainFfnDownIdeal.main_arg2))

def preserves_FfnDownDx_FfnDownDxIdeal : Prop :=
  True

def algebraic_FfnDownDxIdeal_PlainFfnDownDxIdeal [hFfnDownDxIdeal : Cert.FfnDownDxIdeal.Facts] [hPlainFfnDownDxIdeal : Cert.PlainFfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.PlainFfnDownDxIdeal.nD Cert.PlainFfnDownDxIdeal.τ Cert.PlainFfnDownDxIdeal.sig) → Buf (Elt Ideal) ℓ) (g' : Dev Cert.PlainFfnDownDxIdeal.nD → PrngReg), Pre_FfnDownDxIdeal m →
    (∀ c : Dev Cert.FfnDownDxIdeal.nD,
      m' ((c.tc : Thread Cert.PlainFfnDownDxIdeal.nD Cert.PlainFfnDownDxIdeal.τ).loc Cert.PlainFfnDownDxIdeal.main_arg0) = m ((c.tc : Thread Cert.FfnDownDxIdeal.nD Cert.FfnDownDxIdeal.τ).loc Cert.FfnDownDxIdeal.main_arg0)
      ∧ m' ((c.tc : Thread Cert.PlainFfnDownDxIdeal.nD Cert.PlainFfnDownDxIdeal.τ).loc Cert.PlainFfnDownDxIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.PlainFfnDownDxIdeal.defs (F := Ideal)) (onTc (τ := Cert.PlainFfnDownDxIdeal.τ) (Cert.PlainFfnDownDxIdeal.main (F := Ideal))) ⟨m', fun _ => 0, g'⟩ (fun r => ∀ c : Dev Cert.PlainFfnDownDxIdeal.nD,
          r.2.mem ((c.tc : Thread Cert.PlainFfnDownDxIdeal.nD Cert.PlainFfnDownDxIdeal.τ).loc Cert.PlainFfnDownDxIdeal.main_v2) = v0 c
          ∧ r.2.mem ((c.tc : Thread Cert.PlainFfnDownDxIdeal.nD Cert.PlainFfnDownDxIdeal.τ).loc Cert.PlainFfnDownDxIdeal.main_arg0) = m' ((c.tc : Thread Cert.PlainFfnDownDxIdeal.nD Cert.PlainFfnDownDxIdeal.τ).loc Cert.PlainFfnDownDxIdeal.main_arg0)
          ∧ r.2.mem ((c.tc : Thread Cert.PlainFfnDownDxIdeal.nD Cert.PlainFfnDownDxIdeal.τ).loc Cert.PlainFfnDownDxIdeal.main_arg1) = m' ((c.tc : Thread Cert.PlainFfnDownDxIdeal.nD Cert.PlainFfnDownDxIdeal.τ).loc Cert.PlainFfnDownDxIdeal.main_arg1))

def preserves_FfnGateDx_FfnGateDxIdeal : Prop :=
  True

def algebraic_FfnGateDxIdeal_PlainFfnGateDxIdeal [hFfnGateDxIdeal : Cert.FfnGateDxIdeal.Facts] [hPlainFfnGateDxIdeal : Cert.PlainFfnGateDxIdeal.Facts] : Prop :=
  ∀ (m : (ℓ : Loc Cert.FfnGateDxIdeal.nD Cert.FfnGateDxIdeal.τ Cert.FfnGateDxIdeal.sig) → Buf (Elt Ideal) ℓ) (g : Dev Cert.FfnGateDxIdeal.nD → PrngReg)
    (m' : (ℓ : Loc Cert.PlainFfnGateDxIdeal.nD Cert.PlainFfnGateDxIdeal.τ Cert.PlainFfnGateDxIdeal.sig) → Buf (Elt Ideal) ℓ) (g' : Dev Cert.PlainFfnGateDxIdeal.nD → PrngReg), Pre_FfnGateDxIdeal m →
    (∀ c : Dev Cert.FfnGateDxIdeal.nD,
      m' ((c.tc : Thread Cert.PlainFfnGateDxIdeal.nD Cert.PlainFfnGateDxIdeal.τ).loc Cert.PlainFfnGateDxIdeal.main_arg0) = m ((c.tc : Thread Cert.FfnGateDxIdeal.nD Cert.FfnGateDxIdeal.τ).loc Cert.FfnGateDxIdeal.main_arg0)
      ∧ m' ((c.tc : Thread Cert.PlainFfnGateDxIdeal.nD Cert.PlainFfnGateDxIdeal.τ).loc Cert.PlainFfnGateDxIdeal.main_arg1) = m ((c.tc : Thread Cert.FfnGateDxIdeal.nD Cert.FfnGateDxIdeal.τ).loc Cert.FfnGateDxIdeal.main_arg1)) →
    ∃ (v0 : (c : Dev Cert.FfnGateDxIdeal.nD) → Buf (Elt Ideal) ((c.tc : Thread Cert.FfnGateDxIdeal.nD Cert.FfnGateDxIdeal.τ).loc Cert.FfnGateDxIdeal.main_v0)),
      θ_run (Cert.FfnGateDxIdeal.defs (F := Ideal)) (onTc (τ := Cert.FfnGateDxIdeal.τ) (Cert.FfnGateDxIdeal.main (F := Ideal))) ⟨m, fun _ => 0, g⟩ (fun r => ∀ c : Dev Cert.FfnGateDxIdeal.nD,
          r.2.mem ((c.tc : Thread Cert.FfnGateDxIdeal.nD Cert.FfnGateDxIdeal.τ).loc Cert.FfnGateDxIdeal.main_v0) = v0 c
          ∧ r.2.mem ((c.tc : Thread Cert.FfnGateDxIdeal.nD Cert.FfnGateDxIdeal.τ).loc Cert.FfnGateDxIdeal.main_arg0) = m ((c.tc : Thread Cert.FfnGateDxIdeal.nD Cert.FfnGateDxIdeal.τ).loc Cert.FfnGateDxIdeal.main_arg0)
          ∧ r.2.mem ((c.tc : Thread Cert.FfnGateDxIdeal.nD Cert.FfnGateDxIdeal.τ).loc Cert.FfnGateDxIdeal.main_arg1) = m ((c.tc : Thread Cert.FfnGateDxIdeal.nD Cert.FfnGateDxIdeal.τ).loc Cert.FfnGateDxIdeal.main_arg1))
      ∧ θ_run (Cert.PlainFfnGateDxIdeal.defs (F := Ideal)) (onTc (τ := Cert.PlainFfnGateDxIdeal.τ) (Cert.PlainFfnGateDxIdeal.main (F := Ideal))) ⟨m', fun _ => 0, g'⟩ (fun r => ∀ c : Dev Cert.PlainFfnGateDxIdeal.nD,
          r.2.mem ((c.tc : Thread Cert.PlainFfnGateDxIdeal.nD Cert.PlainFfnGateDxIdeal.τ).loc Cert.PlainFfnGateDxIdeal.main_v3) = v0 c
          ∧ r.2.mem ((c.tc : Thread Cert.PlainFfnGateDxIdeal.nD Cert.PlainFfnGateDxIdeal.τ).loc Cert.PlainFfnGateDxIdeal.main_arg0) = m' ((c.tc : Thread Cert.PlainFfnGateDxIdeal.nD Cert.PlainFfnGateDxIdeal.τ).loc Cert.PlainFfnGateDxIdeal.main_arg0)
          ∧ r.2.mem ((c.tc : Thread Cert.PlainFfnGateDxIdeal.nD Cert.PlainFfnGateDxIdeal.τ).loc Cert.PlainFfnGateDxIdeal.main_arg1) = m' ((c.tc : Thread Cert.PlainFfnGateDxIdeal.nD Cert.PlainFfnGateDxIdeal.τ).loc Cert.PlainFfnGateDxIdeal.main_arg1))

def preserves_FfnUpDx_FfnUpDxIdeal : Prop :=
  True

def algebraic_FfnUpDxIdeal_PlainFfnUpDxIdeal [hFfnUpDxIdeal : Cert.FfnUpDxIdeal.Facts] [hPlainFfnUpDxIdeal : Cert.PlainFfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.PlainFfnUpDxIdeal.nD Cert.PlainFfnUpDxIdeal.τ Cert.PlainFfnUpDxIdeal.sig) → Buf (Elt Ideal) ℓ) (g' : Dev Cert.PlainFfnUpDxIdeal.nD → PrngReg), Pre_FfnUpDxIdeal m →
    (∀ c : Dev Cert.FfnUpDxIdeal.nD,
      m' ((c.tc : Thread Cert.PlainFfnUpDxIdeal.nD Cert.PlainFfnUpDxIdeal.τ).loc Cert.PlainFfnUpDxIdeal.main_arg0) = m ((c.tc : Thread Cert.FfnUpDxIdeal.nD Cert.FfnUpDxIdeal.τ).loc Cert.FfnUpDxIdeal.main_arg0)
      ∧ m' ((c.tc : Thread Cert.PlainFfnUpDxIdeal.nD Cert.PlainFfnUpDxIdeal.τ).loc Cert.PlainFfnUpDxIdeal.main_arg1) = m ((c.tc : Thread Cert.FfnUpDxIdeal.nD Cert.FfnUpDxIdeal.τ).loc Cert.FfnUpDxIdeal.main_arg1)
      ∧ m' ((c.tc : Thread Cert.PlainFfnUpDxIdeal.nD Cert.PlainFfnUpDxIdeal.τ).loc Cert.PlainFfnUpDxIdeal.main_arg2) = m ((c.tc : Thread Cert.FfnUpDxIdeal.nD Cert.FfnUpDxIdeal.τ).loc Cert.FfnUpDxIdeal.main_arg2)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ θ_run (Cert.PlainFfnUpDxIdeal.defs (F := Ideal)) (onTc (τ := Cert.PlainFfnUpDxIdeal.τ) (Cert.PlainFfnUpDxIdeal.main (F := Ideal))) ⟨m', fun _ => 0, g'⟩ (fun r => ∀ c : Dev Cert.PlainFfnUpDxIdeal.nD,
          r.2.mem ((c.tc : Thread Cert.PlainFfnUpDxIdeal.nD Cert.PlainFfnUpDxIdeal.τ).loc Cert.PlainFfnUpDxIdeal.main_v4) = v0 c
          ∧ r.2.mem ((c.tc : Thread Cert.PlainFfnUpDxIdeal.nD Cert.PlainFfnUpDxIdeal.τ).loc Cert.PlainFfnUpDxIdeal.main_arg0) = m' ((c.tc : Thread Cert.PlainFfnUpDxIdeal.nD Cert.PlainFfnUpDxIdeal.τ).loc Cert.PlainFfnUpDxIdeal.main_arg0)
          ∧ r.2.mem ((c.tc : Thread Cert.PlainFfnUpDxIdeal.nD Cert.PlainFfnUpDxIdeal.τ).loc Cert.PlainFfnUpDxIdeal.main_arg1) = m' ((c.tc : Thread Cert.PlainFfnUpDxIdeal.nD Cert.PlainFfnUpDxIdeal.τ).loc Cert.PlainFfnUpDxIdeal.main_arg1)
          ∧ r.2.mem ((c.tc : Thread Cert.PlainFfnUpDxIdeal.nD Cert.PlainFfnUpDxIdeal.τ).loc Cert.PlainFfnUpDxIdeal.main_arg2) = m' ((c.tc : Thread Cert.PlainFfnUpDxIdeal.nD Cert.PlainFfnUpDxIdeal.τ).loc Cert.PlainFfnUpDxIdeal.main_arg2))

def preserves_OutProjDx_OutProjDxIdeal : Prop :=
  True

def algebraic_OutProjDxIdeal_PlainOutProjDxIdeal [hOutProjDxIdeal : Cert.OutProjDxIdeal.Facts] [hPlainOutProjDxIdeal : Cert.PlainOutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.PlainOutProjDxIdeal.nD Cert.PlainOutProjDxIdeal.τ Cert.PlainOutProjDxIdeal.sig) → Buf (Elt Ideal) ℓ) (g' : Dev Cert.PlainOutProjDxIdeal.nD → PrngReg), Pre_OutProjDxIdeal m →
    (∀ c : Dev Cert.OutProjDxIdeal.nD,
      m' ((c.tc : Thread Cert.PlainOutProjDxIdeal.nD Cert.PlainOutProjDxIdeal.τ).loc Cert.PlainOutProjDxIdeal.main_arg0) = m ((c.tc : Thread Cert.OutProjDxIdeal.nD Cert.OutProjDxIdeal.τ).loc Cert.OutProjDxIdeal.main_arg0)
      ∧ m' ((c.tc : Thread Cert.PlainOutProjDxIdeal.nD Cert.PlainOutProjDxIdeal.τ).loc Cert.PlainOutProjDxIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.PlainOutProjDxIdeal.defs (F := Ideal)) (onTc (τ := Cert.PlainOutProjDxIdeal.τ) (Cert.PlainOutProjDxIdeal.main (F := Ideal))) ⟨m', fun _ => 0, g'⟩ (fun r => ∀ c : Dev Cert.PlainOutProjDxIdeal.nD,
          r.2.mem ((c.tc : Thread Cert.PlainOutProjDxIdeal.nD Cert.PlainOutProjDxIdeal.τ).loc Cert.PlainOutProjDxIdeal.main_v2) = v0 c
          ∧ r.2.mem ((c.tc : Thread Cert.PlainOutProjDxIdeal.nD Cert.PlainOutProjDxIdeal.τ).loc Cert.PlainOutProjDxIdeal.main_arg0) = m' ((c.tc : Thread Cert.PlainOutProjDxIdeal.nD Cert.PlainOutProjDxIdeal.τ).loc Cert.PlainOutProjDxIdeal.main_arg0)
          ∧ r.2.mem ((c.tc : Thread Cert.PlainOutProjDxIdeal.nD Cert.PlainOutProjDxIdeal.τ).loc Cert.PlainOutProjDxIdeal.main_arg1) = m' ((c.tc : Thread Cert.PlainOutProjDxIdeal.nD Cert.PlainOutProjDxIdeal.τ).loc Cert.PlainOutProjDxIdeal.main_arg1))

def preserves_ProjADx_ProjADxIdeal : Prop :=
  True

def algebraic_ProjADxIdeal_PlainProjADxIdeal [hProjADxIdeal : Cert.ProjADxIdeal.Facts] [hPlainProjADxIdeal : Cert.PlainProjADxIdeal.Facts] : Prop :=
  ∀ (m : (ℓ : Loc Cert.ProjADxIdeal.nD Cert.ProjADxIdeal.τ Cert.ProjADxIdeal.sig) → Buf (Elt Ideal) ℓ) (g : Dev Cert.ProjADxIdeal.nD → PrngReg)
    (m' : (ℓ : Loc Cert.PlainProjADxIdeal.nD Cert.PlainProjADxIdeal.τ Cert.PlainProjADxIdeal.sig) → Buf (Elt Ideal) ℓ) (g' : Dev Cert.PlainProjADxIdeal.nD → PrngReg), Pre_ProjADxIdeal m →
    (∀ c : Dev Cert.ProjADxIdeal.nD,
      m' ((c.tc : Thread Cert.PlainProjADxIdeal.nD Cert.PlainProjADxIdeal.τ).loc Cert.PlainProjADxIdeal.main_arg0) = m ((c.tc : Thread Cert.ProjADxIdeal.nD Cert.ProjADxIdeal.τ).loc Cert.ProjADxIdeal.main_arg0)
      ∧ m' ((c.tc : Thread Cert.PlainProjADxIdeal.nD Cert.PlainProjADxIdeal.τ).loc Cert.PlainProjADxIdeal.main_arg1) = m ((c.tc : Thread Cert.ProjADxIdeal.nD Cert.ProjADxIdeal.τ).loc Cert.ProjADxIdeal.main_arg1)) →
    ∃ (v0 : (c : Dev Cert.ProjADxIdeal.nD) → Buf (Elt Ideal) ((c.tc : Thread Cert.ProjADxIdeal.nD Cert.ProjADxIdeal.τ).loc Cert.ProjADxIdeal.main_v0)),
      θ_run (Cert.ProjADxIdeal.defs (F := Ideal)) (onTc (τ := Cert.ProjADxIdeal.τ) (Cert.ProjADxIdeal.main (F := Ideal))) ⟨m, fun _ => 0, g⟩ (fun r => ∀ c : Dev Cert.ProjADxIdeal.nD,
          r.2.mem ((c.tc : Thread Cert.ProjADxIdeal.nD Cert.ProjADxIdeal.τ).loc Cert.ProjADxIdeal.main_v0) = v0 c
          ∧ r.2.mem ((c.tc : Thread Cert.ProjADxIdeal.nD Cert.ProjADxIdeal.τ).loc Cert.ProjADxIdeal.main_arg0) = m ((c.tc : Thread Cert.ProjADxIdeal.nD Cert.ProjADxIdeal.τ).loc Cert.ProjADxIdeal.main_arg0)
          ∧ r.2.mem ((c.tc : Thread Cert.ProjADxIdeal.nD Cert.ProjADxIdeal.τ).loc Cert.ProjADxIdeal.main_arg1) = m ((c.tc : Thread Cert.ProjADxIdeal.nD Cert.ProjADxIdeal.τ).loc Cert.ProjADxIdeal.main_arg1))
      ∧ θ_run (Cert.PlainProjADxIdeal.defs (F := Ideal)) (onTc (τ := Cert.PlainProjADxIdeal.τ) (Cert.PlainProjADxIdeal.main (F := Ideal))) ⟨m', fun _ => 0, g'⟩ (fun r => ∀ c : Dev Cert.PlainProjADxIdeal.nD,
          r.2.mem ((c.tc : Thread Cert.PlainProjADxIdeal.nD Cert.PlainProjADxIdeal.τ).loc Cert.PlainProjADxIdeal.main_v3) = v0 c
          ∧ r.2.mem ((c.tc : Thread Cert.PlainProjADxIdeal.nD Cert.PlainProjADxIdeal.τ).loc Cert.PlainProjADxIdeal.main_arg0) = m' ((c.tc : Thread Cert.PlainProjADxIdeal.nD Cert.PlainProjADxIdeal.τ).loc Cert.PlainProjADxIdeal.main_arg0)
          ∧ r.2.mem ((c.tc : Thread Cert.PlainProjADxIdeal.nD Cert.PlainProjADxIdeal.τ).loc Cert.PlainProjADxIdeal.main_arg1) = m' ((c.tc : Thread Cert.PlainProjADxIdeal.nD Cert.PlainProjADxIdeal.τ).loc Cert.PlainProjADxIdeal.main_arg1))

def preserves_ProjZDx_ProjZDxIdeal : Prop :=
  True

def algebraic_ProjZDxIdeal_PlainProjZDxIdeal [hProjZDxIdeal : Cert.ProjZDxIdeal.Facts] [hPlainProjZDxIdeal : Cert.PlainProjZDxIdeal.Facts] : Prop :=
  ∀ (m : (ℓ : Loc Cert.ProjZDxIdeal.nD Cert.ProjZDxIdeal.τ Cert.ProjZDxIdeal.sig) → Buf (Elt Ideal) ℓ) (g : Dev Cert.ProjZDxIdeal.nD → PrngReg)
    (m' : (ℓ : Loc Cert.PlainProjZDxIdeal.nD Cert.PlainProjZDxIdeal.τ Cert.PlainProjZDxIdeal.sig) → Buf (Elt Ideal) ℓ) (g' : Dev Cert.PlainProjZDxIdeal.nD → PrngReg), Pre_ProjZDxIdeal m →
    (∀ c : Dev Cert.ProjZDxIdeal.nD,
      m' ((c.tc : Thread Cert.PlainProjZDxIdeal.nD Cert.PlainProjZDxIdeal.τ).loc Cert.PlainProjZDxIdeal.main_arg0) = m ((c.tc : Thread Cert.ProjZDxIdeal.nD Cert.ProjZDxIdeal.τ).loc Cert.ProjZDxIdeal.main_arg0)
      ∧ m' ((c.tc : Thread Cert.PlainProjZDxIdeal.nD Cert.PlainProjZDxIdeal.τ).loc Cert.PlainProjZDxIdeal.main_arg1) = m ((c.tc : Thread Cert.ProjZDxIdeal.nD Cert.ProjZDxIdeal.τ).loc Cert.ProjZDxIdeal.main_arg1)
      ∧ m' ((c.tc : Thread Cert.PlainProjZDxIdeal.nD Cert.PlainProjZDxIdeal.τ).loc Cert.PlainProjZDxIdeal.main_arg2) = m ((c.tc : Thread Cert.ProjZDxIdeal.nD Cert.ProjZDxIdeal.τ).loc Cert.ProjZDxIdeal.main_arg2)) →
    ∃ (v0 : (c : Dev Cert.ProjZDxIdeal.nD) → Buf (Elt Ideal) ((c.tc : Thread Cert.ProjZDxIdeal.nD Cert.ProjZDxIdeal.τ).loc Cert.ProjZDxIdeal.main_v0)),
      θ_run (Cert.ProjZDxIdeal.defs (F := Ideal)) (onTc (τ := Cert.ProjZDxIdeal.τ) (Cert.ProjZDxIdeal.main (F := Ideal))) ⟨m, fun _ => 0, g⟩ (fun r => ∀ c : Dev Cert.ProjZDxIdeal.nD,
          r.2.mem ((c.tc : Thread Cert.ProjZDxIdeal.nD Cert.ProjZDxIdeal.τ).loc Cert.ProjZDxIdeal.main_v0) = v0 c
          ∧ r.2.mem ((c.tc : Thread Cert.ProjZDxIdeal.nD Cert.ProjZDxIdeal.τ).loc Cert.ProjZDxIdeal.main_arg0) = m ((c.tc : Thread Cert.ProjZDxIdeal.nD Cert.ProjZDxIdeal.τ).loc Cert.ProjZDxIdeal.main_arg0)
          ∧ r.2.mem ((c.tc : Thread Cert.ProjZDxIdeal.nD Cert.ProjZDxIdeal.τ).loc Cert.ProjZDxIdeal.main_arg1) = m ((c.tc : Thread Cert.ProjZDxIdeal.nD Cert.ProjZDxIdeal.τ).loc Cert.ProjZDxIdeal.main_arg1)
          ∧ r.2.mem ((c.tc : Thread Cert.ProjZDxIdeal.nD Cert.ProjZDxIdeal.τ).loc Cert.ProjZDxIdeal.main_arg2) = m ((c.tc : Thread Cert.ProjZDxIdeal.nD Cert.ProjZDxIdeal.τ).loc Cert.ProjZDxIdeal.main_arg2))
      ∧ θ_run (Cert.PlainProjZDxIdeal.defs (F := Ideal)) (onTc (τ := Cert.PlainProjZDxIdeal.τ) (Cert.PlainProjZDxIdeal.main (F := Ideal))) ⟨m', fun _ => 0, g'⟩ (fun r => ∀ c : Dev Cert.PlainProjZDxIdeal.nD,
          r.2.mem ((c.tc : Thread Cert.PlainProjZDxIdeal.nD Cert.PlainProjZDxIdeal.τ).loc Cert.PlainProjZDxIdeal.main_v4) = v0 c
          ∧ r.2.mem ((c.tc : Thread Cert.PlainProjZDxIdeal.nD Cert.PlainProjZDxIdeal.τ).loc Cert.PlainProjZDxIdeal.main_arg0) = m' ((c.tc : Thread Cert.PlainProjZDxIdeal.nD Cert.PlainProjZDxIdeal.τ).loc Cert.PlainProjZDxIdeal.main_arg0)
          ∧ r.2.mem ((c.tc : Thread Cert.PlainProjZDxIdeal.nD Cert.PlainProjZDxIdeal.τ).loc Cert.PlainProjZDxIdeal.main_arg1) = m' ((c.tc : Thread Cert.PlainProjZDxIdeal.nD Cert.PlainProjZDxIdeal.τ).loc Cert.PlainProjZDxIdeal.main_arg1)
          ∧ r.2.mem ((c.tc : Thread Cert.PlainProjZDxIdeal.nD Cert.PlainProjZDxIdeal.τ).loc Cert.PlainProjZDxIdeal.main_arg2) = m' ((c.tc : Thread Cert.PlainProjZDxIdeal.nD Cert.PlainProjZDxIdeal.τ).loc Cert.PlainProjZDxIdeal.main_arg2))

def preserves_ProjBDx_ProjBDxIdeal : Prop :=
  True

def algebraic_ProjBDxIdeal_PlainProjBDxIdeal [hProjBDxIdeal : Cert.ProjBDxIdeal.Facts] [hPlainProjBDxIdeal : Cert.PlainProjBDxIdeal.Facts] : Prop :=
  ∀ (m : (ℓ : Loc Cert.ProjBDxIdeal.nD Cert.ProjBDxIdeal.τ Cert.ProjBDxIdeal.sig) → Buf (Elt Ideal) ℓ) (g : Dev Cert.ProjBDxIdeal.nD → PrngReg)
    (m' : (ℓ : Loc Cert.PlainProjBDxIdeal.nD Cert.PlainProjBDxIdeal.τ Cert.PlainProjBDxIdeal.sig) → Buf (Elt Ideal) ℓ) (g' : Dev Cert.PlainProjBDxIdeal.nD → PrngReg), Pre_ProjBDxIdeal m →
    (∀ c : Dev Cert.ProjBDxIdeal.nD,
      m' ((c.tc : Thread Cert.PlainProjBDxIdeal.nD Cert.PlainProjBDxIdeal.τ).loc Cert.PlainProjBDxIdeal.main_arg0) = m ((c.tc : Thread Cert.ProjBDxIdeal.nD Cert.ProjBDxIdeal.τ).loc Cert.ProjBDxIdeal.main_arg0)
      ∧ m' ((c.tc : Thread Cert.PlainProjBDxIdeal.nD Cert.PlainProjBDxIdeal.τ).loc Cert.PlainProjBDxIdeal.main_arg1) = m ((c.tc : Thread Cert.ProjBDxIdeal.nD Cert.ProjBDxIdeal.τ).loc Cert.ProjBDxIdeal.main_arg1)
      ∧ m' ((c.tc : Thread Cert.PlainProjBDxIdeal.nD Cert.PlainProjBDxIdeal.τ).loc Cert.PlainProjBDxIdeal.main_arg2) = m ((c.tc : Thread Cert.ProjBDxIdeal.nD Cert.ProjBDxIdeal.τ).loc Cert.ProjBDxIdeal.main_arg2)) →
    ∃ (v0 : (c : Dev Cert.ProjBDxIdeal.nD) → Buf (Elt Ideal) ((c.tc : Thread Cert.ProjBDxIdeal.nD Cert.ProjBDxIdeal.τ).loc Cert.ProjBDxIdeal.main_v0)),
      θ_run (Cert.ProjBDxIdeal.defs (F := Ideal)) (onTc (τ := Cert.ProjBDxIdeal.τ) (Cert.ProjBDxIdeal.main (F := Ideal))) ⟨m, fun _ => 0, g⟩ (fun r => ∀ c : Dev Cert.ProjBDxIdeal.nD,
          r.2.mem ((c.tc : Thread Cert.ProjBDxIdeal.nD Cert.ProjBDxIdeal.τ).loc Cert.ProjBDxIdeal.main_v0) = v0 c
          ∧ r.2.mem ((c.tc : Thread Cert.ProjBDxIdeal.nD Cert.ProjBDxIdeal.τ).loc Cert.ProjBDxIdeal.main_arg0) = m ((c.tc : Thread Cert.ProjBDxIdeal.nD Cert.ProjBDxIdeal.τ).loc Cert.ProjBDxIdeal.main_arg0)
          ∧ r.2.mem ((c.tc : Thread Cert.ProjBDxIdeal.nD Cert.ProjBDxIdeal.τ).loc Cert.ProjBDxIdeal.main_arg1) = m ((c.tc : Thread Cert.ProjBDxIdeal.nD Cert.ProjBDxIdeal.τ).loc Cert.ProjBDxIdeal.main_arg1)
          ∧ r.2.mem ((c.tc : Thread Cert.ProjBDxIdeal.nD Cert.ProjBDxIdeal.τ).loc Cert.ProjBDxIdeal.main_arg2) = m ((c.tc : Thread Cert.ProjBDxIdeal.nD Cert.ProjBDxIdeal.τ).loc Cert.ProjBDxIdeal.main_arg2))
      ∧ θ_run (Cert.PlainProjBDxIdeal.defs (F := Ideal)) (onTc (τ := Cert.PlainProjBDxIdeal.τ) (Cert.PlainProjBDxIdeal.main (F := Ideal))) ⟨m', fun _ => 0, g'⟩ (fun r => ∀ c : Dev Cert.PlainProjBDxIdeal.nD,
          r.2.mem ((c.tc : Thread Cert.PlainProjBDxIdeal.nD Cert.PlainProjBDxIdeal.τ).loc Cert.PlainProjBDxIdeal.main_v4) = v0 c
          ∧ r.2.mem ((c.tc : Thread Cert.PlainProjBDxIdeal.nD Cert.PlainProjBDxIdeal.τ).loc Cert.PlainProjBDxIdeal.main_arg0) = m' ((c.tc : Thread Cert.PlainProjBDxIdeal.nD Cert.PlainProjBDxIdeal.τ).loc Cert.PlainProjBDxIdeal.main_arg0)
          ∧ r.2.mem ((c.tc : Thread Cert.PlainProjBDxIdeal.nD Cert.PlainProjBDxIdeal.τ).loc Cert.PlainProjBDxIdeal.main_arg1) = m' ((c.tc : Thread Cert.PlainProjBDxIdeal.nD Cert.PlainProjBDxIdeal.τ).loc Cert.PlainProjBDxIdeal.main_arg1)
          ∧ r.2.mem ((c.tc : Thread Cert.PlainProjBDxIdeal.nD Cert.PlainProjBDxIdeal.τ).loc Cert.PlainProjBDxIdeal.main_arg2) = m' ((c.tc : Thread Cert.PlainProjBDxIdeal.nD Cert.PlainProjBDxIdeal.τ).loc Cert.PlainProjBDxIdeal.main_arg2))

def preserves_FfnDownDw_FfnDownDwIdeal : Prop :=
  True

def algebraic_FfnDownDwIdeal_PlainFfnDownDwIdeal [hFfnDownDwIdeal : Cert.FfnDownDwIdeal.Facts] [hPlainFfnDownDwIdeal : Cert.PlainFfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.PlainFfnDownDwIdeal.nD Cert.PlainFfnDownDwIdeal.τ Cert.PlainFfnDownDwIdeal.sig) → Buf (Elt Ideal) ℓ) (g' : Dev Cert.PlainFfnDownDwIdeal.nD → PrngReg), Pre_FfnDownDwIdeal m →
    (∀ c : Dev Cert.FfnDownDwIdeal.nD,
      m' ((c.tc : Thread Cert.PlainFfnDownDwIdeal.nD Cert.PlainFfnDownDwIdeal.τ).loc Cert.PlainFfnDownDwIdeal.main_arg0) = m ((c.tc : Thread Cert.FfnDownDwIdeal.nD Cert.FfnDownDwIdeal.τ).loc Cert.FfnDownDwIdeal.main_arg0)
      ∧ m' ((c.tc : Thread Cert.PlainFfnDownDwIdeal.nD Cert.PlainFfnDownDwIdeal.τ).loc Cert.PlainFfnDownDwIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.PlainFfnDownDwIdeal.defs (F := Ideal)) (onTc (τ := Cert.PlainFfnDownDwIdeal.τ) (Cert.PlainFfnDownDwIdeal.main (F := Ideal))) ⟨m', fun _ => 0, g'⟩ (fun r => ∀ c : Dev Cert.PlainFfnDownDwIdeal.nD,
          r.2.mem ((c.tc : Thread Cert.PlainFfnDownDwIdeal.nD Cert.PlainFfnDownDwIdeal.τ).loc Cert.PlainFfnDownDwIdeal.main_v3) = v0 c
          ∧ r.2.mem ((c.tc : Thread Cert.PlainFfnDownDwIdeal.nD Cert.PlainFfnDownDwIdeal.τ).loc Cert.PlainFfnDownDwIdeal.main_arg0) = m' ((c.tc : Thread Cert.PlainFfnDownDwIdeal.nD Cert.PlainFfnDownDwIdeal.τ).loc Cert.PlainFfnDownDwIdeal.main_arg0)
          ∧ r.2.mem ((c.tc : Thread Cert.PlainFfnDownDwIdeal.nD Cert.PlainFfnDownDwIdeal.τ).loc Cert.PlainFfnDownDwIdeal.main_arg1) = m' ((c.tc : Thread Cert.PlainFfnDownDwIdeal.nD Cert.PlainFfnDownDwIdeal.τ).loc Cert.PlainFfnDownDwIdeal.main_arg1))

def preserves_FfnUpDw_FfnUpDwIdeal : Prop :=
  True

def algebraic_FfnUpDwIdeal_PlainFfnUpDwIdeal [hFfnUpDwIdeal : Cert.FfnUpDwIdeal.Facts] [hPlainFfnUpDwIdeal : Cert.PlainFfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.PlainFfnUpDwIdeal.nD Cert.PlainFfnUpDwIdeal.τ Cert.PlainFfnUpDwIdeal.sig) → Buf (Elt Ideal) ℓ) (g' : Dev Cert.PlainFfnUpDwIdeal.nD → PrngReg), Pre_FfnUpDwIdeal m →
    (∀ c : Dev Cert.FfnUpDwIdeal.nD,
      m' ((c.tc : Thread Cert.PlainFfnUpDwIdeal.nD Cert.PlainFfnUpDwIdeal.τ).loc Cert.PlainFfnUpDwIdeal.main_arg0) = m ((c.tc : Thread Cert.FfnUpDwIdeal.nD Cert.FfnUpDwIdeal.τ).loc Cert.FfnUpDwIdeal.main_arg0)
      ∧ m' ((c.tc : Thread Cert.PlainFfnUpDwIdeal.nD Cert.PlainFfnUpDwIdeal.τ).loc Cert.PlainFfnUpDwIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.PlainFfnUpDwIdeal.defs (F := Ideal)) (onTc (τ := Cert.PlainFfnUpDwIdeal.τ) (Cert.PlainFfnUpDwIdeal.main (F := Ideal))) ⟨m', fun _ => 0, g'⟩ (fun r => ∀ c : Dev Cert.PlainFfnUpDwIdeal.nD,
          r.2.mem ((c.tc : Thread Cert.PlainFfnUpDwIdeal.nD Cert.PlainFfnUpDwIdeal.τ).loc Cert.PlainFfnUpDwIdeal.main_v4) = v0 c
          ∧ r.2.mem ((c.tc : Thread Cert.PlainFfnUpDwIdeal.nD Cert.PlainFfnUpDwIdeal.τ).loc Cert.PlainFfnUpDwIdeal.main_arg0) = m' ((c.tc : Thread Cert.PlainFfnUpDwIdeal.nD Cert.PlainFfnUpDwIdeal.τ).loc Cert.PlainFfnUpDwIdeal.main_arg0)
          ∧ r.2.mem ((c.tc : Thread Cert.PlainFfnUpDwIdeal.nD Cert.PlainFfnUpDwIdeal.τ).loc Cert.PlainFfnUpDwIdeal.main_arg1) = m' ((c.tc : Thread Cert.PlainFfnUpDwIdeal.nD Cert.PlainFfnUpDwIdeal.τ).loc Cert.PlainFfnUpDwIdeal.main_arg1))

def preserves_OutProjDw_OutProjDwIdeal : Prop :=
  True

def algebraic_OutProjDwIdeal_PlainOutProjDwIdeal [hOutProjDwIdeal : Cert.OutProjDwIdeal.Facts] [hPlainOutProjDwIdeal : Cert.PlainOutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.PlainOutProjDwIdeal.nD Cert.PlainOutProjDwIdeal.τ Cert.PlainOutProjDwIdeal.sig) → Buf (Elt Ideal) ℓ) (g' : Dev Cert.PlainOutProjDwIdeal.nD → PrngReg), Pre_OutProjDwIdeal m →
    (∀ c : Dev Cert.OutProjDwIdeal.nD,
      m' ((c.tc : Thread Cert.PlainOutProjDwIdeal.nD Cert.PlainOutProjDwIdeal.τ).loc Cert.PlainOutProjDwIdeal.main_arg0) = m ((c.tc : Thread Cert.OutProjDwIdeal.nD Cert.OutProjDwIdeal.τ).loc Cert.OutProjDwIdeal.main_arg0)
      ∧ m' ((c.tc : Thread Cert.PlainOutProjDwIdeal.nD Cert.PlainOutProjDwIdeal.τ).loc Cert.PlainOutProjDwIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.PlainOutProjDwIdeal.defs (F := Ideal)) (onTc (τ := Cert.PlainOutProjDwIdeal.τ) (Cert.PlainOutProjDwIdeal.main (F := Ideal))) ⟨m', fun _ => 0, g'⟩ (fun r => ∀ c : Dev Cert.PlainOutProjDwIdeal.nD,
          r.2.mem ((c.tc : Thread Cert.PlainOutProjDwIdeal.nD Cert.PlainOutProjDwIdeal.τ).loc Cert.PlainOutProjDwIdeal.main_v3) = v0 c
          ∧ r.2.mem ((c.tc : Thread Cert.PlainOutProjDwIdeal.nD Cert.PlainOutProjDwIdeal.τ).loc Cert.PlainOutProjDwIdeal.main_arg0) = m' ((c.tc : Thread Cert.PlainOutProjDwIdeal.nD Cert.PlainOutProjDwIdeal.τ).loc Cert.PlainOutProjDwIdeal.main_arg0)
          ∧ r.2.mem ((c.tc : Thread Cert.PlainOutProjDwIdeal.nD Cert.PlainOutProjDwIdeal.τ).loc Cert.PlainOutProjDwIdeal.main_arg1) = m' ((c.tc : Thread Cert.PlainOutProjDwIdeal.nD Cert.PlainOutProjDwIdeal.τ).loc Cert.PlainOutProjDwIdeal.main_arg1))

def preserves_ProjADw_ProjADwIdeal : Prop :=
  True

def algebraic_ProjADwIdeal_PlainProjADwIdeal [hProjADwIdeal : Cert.ProjADwIdeal.Facts] [hPlainProjADwIdeal : Cert.PlainProjADwIdeal.Facts] : Prop :=
  ∀ (m : (ℓ : Loc Cert.ProjADwIdeal.nD Cert.ProjADwIdeal.τ Cert.ProjADwIdeal.sig) → Buf (Elt Ideal) ℓ) (g : Dev Cert.ProjADwIdeal.nD → PrngReg)
    (m' : (ℓ : Loc Cert.PlainProjADwIdeal.nD Cert.PlainProjADwIdeal.τ Cert.PlainProjADwIdeal.sig) → Buf (Elt Ideal) ℓ) (g' : Dev Cert.PlainProjADwIdeal.nD → PrngReg), Pre_ProjADwIdeal m →
    (∀ c : Dev Cert.ProjADwIdeal.nD,
      m' ((c.tc : Thread Cert.PlainProjADwIdeal.nD Cert.PlainProjADwIdeal.τ).loc Cert.PlainProjADwIdeal.main_arg0) = m ((c.tc : Thread Cert.ProjADwIdeal.nD Cert.ProjADwIdeal.τ).loc Cert.ProjADwIdeal.main_arg0)
      ∧ m' ((c.tc : Thread Cert.PlainProjADwIdeal.nD Cert.PlainProjADwIdeal.τ).loc Cert.PlainProjADwIdeal.main_arg1) = m ((c.tc : Thread Cert.ProjADwIdeal.nD Cert.ProjADwIdeal.τ).loc Cert.ProjADwIdeal.main_arg1)) →
    ∃ (v0 : (c : Dev Cert.ProjADwIdeal.nD) → Buf (Elt Ideal) ((c.tc : Thread Cert.ProjADwIdeal.nD Cert.ProjADwIdeal.τ).loc Cert.ProjADwIdeal.main_v0)),
      θ_run (Cert.ProjADwIdeal.defs (F := Ideal)) (onTc (τ := Cert.ProjADwIdeal.τ) (Cert.ProjADwIdeal.main (F := Ideal))) ⟨m, fun _ => 0, g⟩ (fun r => ∀ c : Dev Cert.ProjADwIdeal.nD,
          r.2.mem ((c.tc : Thread Cert.ProjADwIdeal.nD Cert.ProjADwIdeal.τ).loc Cert.ProjADwIdeal.main_v0) = v0 c
          ∧ r.2.mem ((c.tc : Thread Cert.ProjADwIdeal.nD Cert.ProjADwIdeal.τ).loc Cert.ProjADwIdeal.main_arg0) = m ((c.tc : Thread Cert.ProjADwIdeal.nD Cert.ProjADwIdeal.τ).loc Cert.ProjADwIdeal.main_arg0)
          ∧ r.2.mem ((c.tc : Thread Cert.ProjADwIdeal.nD Cert.ProjADwIdeal.τ).loc Cert.ProjADwIdeal.main_arg1) = m ((c.tc : Thread Cert.ProjADwIdeal.nD Cert.ProjADwIdeal.τ).loc Cert.ProjADwIdeal.main_arg1))
      ∧ θ_run (Cert.PlainProjADwIdeal.defs (F := Ideal)) (onTc (τ := Cert.PlainProjADwIdeal.τ) (Cert.PlainProjADwIdeal.main (F := Ideal))) ⟨m', fun _ => 0, g'⟩ (fun r => ∀ c : Dev Cert.PlainProjADwIdeal.nD,
          r.2.mem ((c.tc : Thread Cert.PlainProjADwIdeal.nD Cert.PlainProjADwIdeal.τ).loc Cert.PlainProjADwIdeal.main_v4) = v0 c
          ∧ r.2.mem ((c.tc : Thread Cert.PlainProjADwIdeal.nD Cert.PlainProjADwIdeal.τ).loc Cert.PlainProjADwIdeal.main_arg0) = m' ((c.tc : Thread Cert.PlainProjADwIdeal.nD Cert.PlainProjADwIdeal.τ).loc Cert.PlainProjADwIdeal.main_arg0)
          ∧ r.2.mem ((c.tc : Thread Cert.PlainProjADwIdeal.nD Cert.PlainProjADwIdeal.τ).loc Cert.PlainProjADwIdeal.main_arg1) = m' ((c.tc : Thread Cert.PlainProjADwIdeal.nD Cert.PlainProjADwIdeal.τ).loc Cert.PlainProjADwIdeal.main_arg1))

def preserves_ProjZDw_ProjZDwIdeal : Prop :=
  True

def algebraic_ProjZDwIdeal_PlainProjZDwIdeal [hProjZDwIdeal : Cert.ProjZDwIdeal.Facts] [hPlainProjZDwIdeal : Cert.PlainProjZDwIdeal.Facts] : Prop :=
  ∀ (m : (ℓ : Loc Cert.ProjZDwIdeal.nD Cert.ProjZDwIdeal.τ Cert.ProjZDwIdeal.sig) → Buf (Elt Ideal) ℓ) (g : Dev Cert.ProjZDwIdeal.nD → PrngReg)
    (m' : (ℓ : Loc Cert.PlainProjZDwIdeal.nD Cert.PlainProjZDwIdeal.τ Cert.PlainProjZDwIdeal.sig) → Buf (Elt Ideal) ℓ) (g' : Dev Cert.PlainProjZDwIdeal.nD → PrngReg), Pre_ProjZDwIdeal m →
    (∀ c : Dev Cert.ProjZDwIdeal.nD,
      m' ((c.tc : Thread Cert.PlainProjZDwIdeal.nD Cert.PlainProjZDwIdeal.τ).loc Cert.PlainProjZDwIdeal.main_arg0) = m ((c.tc : Thread Cert.ProjZDwIdeal.nD Cert.ProjZDwIdeal.τ).loc Cert.ProjZDwIdeal.main_arg0)
      ∧ m' ((c.tc : Thread Cert.PlainProjZDwIdeal.nD Cert.PlainProjZDwIdeal.τ).loc Cert.PlainProjZDwIdeal.main_arg1) = m ((c.tc : Thread Cert.ProjZDwIdeal.nD Cert.ProjZDwIdeal.τ).loc Cert.ProjZDwIdeal.main_arg1)) →
    ∃ (v0 : (c : Dev Cert.ProjZDwIdeal.nD) → Buf (Elt Ideal) ((c.tc : Thread Cert.ProjZDwIdeal.nD Cert.ProjZDwIdeal.τ).loc Cert.ProjZDwIdeal.main_v0)),
      θ_run (Cert.ProjZDwIdeal.defs (F := Ideal)) (onTc (τ := Cert.ProjZDwIdeal.τ) (Cert.ProjZDwIdeal.main (F := Ideal))) ⟨m, fun _ => 0, g⟩ (fun r => ∀ c : Dev Cert.ProjZDwIdeal.nD,
          r.2.mem ((c.tc : Thread Cert.ProjZDwIdeal.nD Cert.ProjZDwIdeal.τ).loc Cert.ProjZDwIdeal.main_v0) = v0 c
          ∧ r.2.mem ((c.tc : Thread Cert.ProjZDwIdeal.nD Cert.ProjZDwIdeal.τ).loc Cert.ProjZDwIdeal.main_arg0) = m ((c.tc : Thread Cert.ProjZDwIdeal.nD Cert.ProjZDwIdeal.τ).loc Cert.ProjZDwIdeal.main_arg0)
          ∧ r.2.mem ((c.tc : Thread Cert.ProjZDwIdeal.nD Cert.ProjZDwIdeal.τ).loc Cert.ProjZDwIdeal.main_arg1) = m ((c.tc : Thread Cert.ProjZDwIdeal.nD Cert.ProjZDwIdeal.τ).loc Cert.ProjZDwIdeal.main_arg1))
      ∧ θ_run (Cert.PlainProjZDwIdeal.defs (F := Ideal)) (onTc (τ := Cert.PlainProjZDwIdeal.τ) (Cert.PlainProjZDwIdeal.main (F := Ideal))) ⟨m', fun _ => 0, g'⟩ (fun r => ∀ c : Dev Cert.PlainProjZDwIdeal.nD,
          r.2.mem ((c.tc : Thread Cert.PlainProjZDwIdeal.nD Cert.PlainProjZDwIdeal.τ).loc Cert.PlainProjZDwIdeal.main_v4) = v0 c
          ∧ r.2.mem ((c.tc : Thread Cert.PlainProjZDwIdeal.nD Cert.PlainProjZDwIdeal.τ).loc Cert.PlainProjZDwIdeal.main_arg0) = m' ((c.tc : Thread Cert.PlainProjZDwIdeal.nD Cert.PlainProjZDwIdeal.τ).loc Cert.PlainProjZDwIdeal.main_arg0)
          ∧ r.2.mem ((c.tc : Thread Cert.PlainProjZDwIdeal.nD Cert.PlainProjZDwIdeal.τ).loc Cert.PlainProjZDwIdeal.main_arg1) = m' ((c.tc : Thread Cert.PlainProjZDwIdeal.nD Cert.PlainProjZDwIdeal.τ).loc Cert.PlainProjZDwIdeal.main_arg1))

def preserves_ProjBDw_ProjBDwIdeal : Prop :=
  True

def algebraic_ProjBDwIdeal_PlainProjBDwIdeal [hProjBDwIdeal : Cert.ProjBDwIdeal.Facts] [hPlainProjBDwIdeal : Cert.PlainProjBDwIdeal.Facts] : Prop :=
  ∀ (m : (ℓ : Loc Cert.ProjBDwIdeal.nD Cert.ProjBDwIdeal.τ Cert.ProjBDwIdeal.sig) → Buf (Elt Ideal) ℓ) (g : Dev Cert.ProjBDwIdeal.nD → PrngReg)
    (m' : (ℓ : Loc Cert.PlainProjBDwIdeal.nD Cert.PlainProjBDwIdeal.τ Cert.PlainProjBDwIdeal.sig) → Buf (Elt Ideal) ℓ) (g' : Dev Cert.PlainProjBDwIdeal.nD → PrngReg), Pre_ProjBDwIdeal m →
    (∀ c : Dev Cert.ProjBDwIdeal.nD,
      m' ((c.tc : Thread Cert.PlainProjBDwIdeal.nD Cert.PlainProjBDwIdeal.τ).loc Cert.PlainProjBDwIdeal.main_arg0) = m ((c.tc : Thread Cert.ProjBDwIdeal.nD Cert.ProjBDwIdeal.τ).loc Cert.ProjBDwIdeal.main_arg0)
      ∧ m' ((c.tc : Thread Cert.PlainProjBDwIdeal.nD Cert.PlainProjBDwIdeal.τ).loc Cert.PlainProjBDwIdeal.main_arg1) = m ((c.tc : Thread Cert.ProjBDwIdeal.nD Cert.ProjBDwIdeal.τ).loc Cert.ProjBDwIdeal.main_arg1)) →
    ∃ (v0 : (c : Dev Cert.ProjBDwIdeal.nD) → Buf (Elt Ideal) ((c.tc : Thread Cert.ProjBDwIdeal.nD Cert.ProjBDwIdeal.τ).loc Cert.ProjBDwIdeal.main_v0)),
      θ_run (Cert.ProjBDwIdeal.defs (F := Ideal)) (onTc (τ := Cert.ProjBDwIdeal.τ) (Cert.ProjBDwIdeal.main (F := Ideal))) ⟨m, fun _ => 0, g⟩ (fun r => ∀ c : Dev Cert.ProjBDwIdeal.nD,
          r.2.mem ((c.tc : Thread Cert.ProjBDwIdeal.nD Cert.ProjBDwIdeal.τ).loc Cert.ProjBDwIdeal.main_v0) = v0 c
          ∧ r.2.mem ((c.tc : Thread Cert.ProjBDwIdeal.nD Cert.ProjBDwIdeal.τ).loc Cert.ProjBDwIdeal.main_arg0) = m ((c.tc : Thread Cert.ProjBDwIdeal.nD Cert.ProjBDwIdeal.τ).loc Cert.ProjBDwIdeal.main_arg0)
          ∧ r.2.mem ((c.tc : Thread Cert.ProjBDwIdeal.nD Cert.ProjBDwIdeal.τ).loc Cert.ProjBDwIdeal.main_arg1) = m ((c.tc : Thread Cert.ProjBDwIdeal.nD Cert.ProjBDwIdeal.τ).loc Cert.ProjBDwIdeal.main_arg1))
      ∧ θ_run (Cert.PlainProjBDwIdeal.defs (F := Ideal)) (onTc (τ := Cert.PlainProjBDwIdeal.τ) (Cert.PlainProjBDwIdeal.main (F := Ideal))) ⟨m', fun _ => 0, g'⟩ (fun r => ∀ c : Dev Cert.PlainProjBDwIdeal.nD,
          r.2.mem ((c.tc : Thread Cert.PlainProjBDwIdeal.nD Cert.PlainProjBDwIdeal.τ).loc Cert.PlainProjBDwIdeal.main_v4) = v0 c
          ∧ r.2.mem ((c.tc : Thread Cert.PlainProjBDwIdeal.nD Cert.PlainProjBDwIdeal.τ).loc Cert.PlainProjBDwIdeal.main_arg0) = m' ((c.tc : Thread Cert.PlainProjBDwIdeal.nD Cert.PlainProjBDwIdeal.τ).loc Cert.PlainProjBDwIdeal.main_arg0)
          ∧ r.2.mem ((c.tc : Thread Cert.PlainProjBDwIdeal.nD Cert.PlainProjBDwIdeal.τ).loc Cert.PlainProjBDwIdeal.main_arg1) = m' ((c.tc : Thread Cert.PlainProjBDwIdeal.nD Cert.PlainProjBDwIdeal.τ).loc Cert.PlainProjBDwIdeal.main_arg1))

def preserves_FfnAct_FfnActIdeal : Prop :=
  True

def algebraic_FfnActIdeal_PlainFfnActIdeal [hFfnActIdeal : Cert.FfnActIdeal.Facts] [hPlainFfnActIdeal : Cert.PlainFfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.PlainFfnActIdeal.nD Cert.PlainFfnActIdeal.τ Cert.PlainFfnActIdeal.sig) → Buf (Elt Ideal) ℓ) (g' : Dev Cert.PlainFfnActIdeal.nD → PrngReg), Pre_FfnActIdeal m →
    (∀ c : Dev Cert.FfnActIdeal.nD,
      m' ((c.tc : Thread Cert.PlainFfnActIdeal.nD Cert.PlainFfnActIdeal.τ).loc Cert.PlainFfnActIdeal.main_arg0) = m ((c.tc : Thread Cert.FfnActIdeal.nD Cert.FfnActIdeal.τ).loc Cert.FfnActIdeal.main_arg0)
      ∧ m' ((c.tc : Thread Cert.PlainFfnActIdeal.nD Cert.PlainFfnActIdeal.τ).loc Cert.PlainFfnActIdeal.main_arg1) = m ((c.tc : Thread Cert.FfnActIdeal.nD Cert.FfnActIdeal.τ).loc Cert.FfnActIdeal.main_arg1)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1))
      ∧ θ_run (Cert.PlainFfnActIdeal.defs (F := Ideal)) (onTc (τ := Cert.PlainFfnActIdeal.τ) (Cert.PlainFfnActIdeal.main (F := Ideal))) ⟨m', fun _ => 0, g'⟩ (fun r => ∀ c : Dev Cert.PlainFfnActIdeal.nD,
          r.2.mem ((c.tc : Thread Cert.PlainFfnActIdeal.nD Cert.PlainFfnActIdeal.τ).loc Cert.PlainFfnActIdeal.main_v25) = v0 c
          ∧ r.2.mem ((c.tc : Thread Cert.PlainFfnActIdeal.nD Cert.PlainFfnActIdeal.τ).loc Cert.PlainFfnActIdeal.main_arg0) = m' ((c.tc : Thread Cert.PlainFfnActIdeal.nD Cert.PlainFfnActIdeal.τ).loc Cert.PlainFfnActIdeal.main_arg0)
          ∧ r.2.mem ((c.tc : Thread Cert.PlainFfnActIdeal.nD Cert.PlainFfnActIdeal.τ).loc Cert.PlainFfnActIdeal.main_arg1) = m' ((c.tc : Thread Cert.PlainFfnActIdeal.nD Cert.PlainFfnActIdeal.τ).loc Cert.PlainFfnActIdeal.main_arg1))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hStackIdeal : Cert.StackIdeal.Facts) (hStack : Cert.Stack.Facts) (hGatherSmall : Cert.GatherSmall.Facts) (hGatherSmallIdeal : Cert.GatherSmallIdeal.Facts) (hStackSmallIdeal : Cert.StackSmallIdeal.Facts) (hStackSmall : Cert.StackSmall.Facts) (hAdamIn : Cert.AdamIn.Facts) (hAdamInIdeal : Cert.AdamInIdeal.Facts) (hPlainInIdeal : Cert.PlainInIdeal.Facts) (hAdamOut : Cert.AdamOut.Facts) (hAdamOutIdeal : Cert.AdamOutIdeal.Facts) (hPlainOutIdeal : Cert.PlainOutIdeal.Facts) (hAdamUp : Cert.AdamUp.Facts) (hAdamUpIdeal : Cert.AdamUpIdeal.Facts) (hPlainUpIdeal : Cert.PlainUpIdeal.Facts) (hAdamDown : Cert.AdamDown.Facts) (hAdamDownIdeal : Cert.AdamDownIdeal.Facts) (hPlainDownIdeal : Cert.PlainDownIdeal.Facts) (hAdamConvA : Cert.AdamConvA.Facts) (hAdamConvAIdeal : Cert.AdamConvAIdeal.Facts) (hPlainConvAIdeal : Cert.PlainConvAIdeal.Facts) (hAdamConvF : Cert.AdamConvF.Facts) (hAdamConvFIdeal : Cert.AdamConvFIdeal.Facts) (hPlainConvFIdeal : Cert.PlainConvFIdeal.Facts) (hAdamSmall : Cert.AdamSmall.Facts) (hAdamSmallIdeal : Cert.AdamSmallIdeal.Facts) (hPlainSmallIdeal : Cert.PlainSmallIdeal.Facts) (hRmsFwd : Cert.RmsFwd.Facts) (hRmsFwdIdeal : Cert.RmsFwdIdeal.Facts) (hPlainRmsFwdIdeal : Cert.PlainRmsFwdIdeal.Facts) (hRmsBwd : Cert.RmsBwd.Facts) (hRmsBwdIdeal : Cert.RmsBwdIdeal.Facts) (hPlainRmsBwdIdeal : Cert.PlainRmsBwdIdeal.Facts) (hLoss : Cert.Loss.Facts) (hLossIdeal : Cert.LossIdeal.Facts) (hPlainLossIdeal : Cert.PlainLossIdeal.Facts) (hProjA : Cert.ProjA.Facts) (hProjAIdeal : Cert.ProjAIdeal.Facts) (hPlainProjAIdeal : Cert.PlainProjAIdeal.Facts) (hProjZ : Cert.ProjZ.Facts) (hProjZIdeal : Cert.ProjZIdeal.Facts) (hPlainProjZIdeal : Cert.PlainProjZIdeal.Facts) (hProjB : Cert.ProjB.Facts) (hProjBIdeal : Cert.ProjBIdeal.Facts) (hPlainProjBIdeal : Cert.PlainProjBIdeal.Facts) (hOutProj : Cert.OutProj.Facts) (hOutProjIdeal : Cert.OutProjIdeal.Facts) (hPlainOutProjIdeal : Cert.PlainOutProjIdeal.Facts) (hFfnUp : Cert.FfnUp.Facts) (hFfnUpIdeal : Cert.FfnUpIdeal.Facts) (hPlainFfnUpIdeal : Cert.PlainFfnUpIdeal.Facts) (hFfnDown : Cert.FfnDown.Facts) (hFfnDownIdeal : Cert.FfnDownIdeal.Facts) (hPlainFfnDownIdeal : Cert.PlainFfnDownIdeal.Facts) (hFfnDownDx : Cert.FfnDownDx.Facts) (hFfnDownDxIdeal : Cert.FfnDownDxIdeal.Facts) (hPlainFfnDownDxIdeal : Cert.PlainFfnDownDxIdeal.Facts) (hFfnGateDx : Cert.FfnGateDx.Facts) (hFfnGateDxIdeal : Cert.FfnGateDxIdeal.Facts) (hPlainFfnGateDxIdeal : Cert.PlainFfnGateDxIdeal.Facts) (hFfnUpDx : Cert.FfnUpDx.Facts) (hFfnUpDxIdeal : Cert.FfnUpDxIdeal.Facts) (hPlainFfnUpDxIdeal : Cert.PlainFfnUpDxIdeal.Facts) (hOutProjDx : Cert.OutProjDx.Facts) (hOutProjDxIdeal : Cert.OutProjDxIdeal.Facts) (hPlainOutProjDxIdeal : Cert.PlainOutProjDxIdeal.Facts) (hProjADx : Cert.ProjADx.Facts) (hProjADxIdeal : Cert.ProjADxIdeal.Facts) (hPlainProjADxIdeal : Cert.PlainProjADxIdeal.Facts) (hProjZDx : Cert.ProjZDx.Facts) (hProjZDxIdeal : Cert.ProjZDxIdeal.Facts) (hPlainProjZDxIdeal : Cert.PlainProjZDxIdeal.Facts) (hProjBDx : Cert.ProjBDx.Facts) (hProjBDxIdeal : Cert.ProjBDxIdeal.Facts) (hPlainProjBDxIdeal : Cert.PlainProjBDxIdeal.Facts) (hFfnDownDw : Cert.FfnDownDw.Facts) (hFfnDownDwIdeal : Cert.FfnDownDwIdeal.Facts) (hPlainFfnDownDwIdeal : Cert.PlainFfnDownDwIdeal.Facts) (hFfnUpDw : Cert.FfnUpDw.Facts) (hFfnUpDwIdeal : Cert.FfnUpDwIdeal.Facts) (hPlainFfnUpDwIdeal : Cert.PlainFfnUpDwIdeal.Facts) (hOutProjDw : Cert.OutProjDw.Facts) (hOutProjDwIdeal : Cert.OutProjDwIdeal.Facts) (hPlainOutProjDwIdeal : Cert.PlainOutProjDwIdeal.Facts) (hProjADw : Cert.ProjADw.Facts) (hProjADwIdeal : Cert.ProjADwIdeal.Facts) (hPlainProjADwIdeal : Cert.PlainProjADwIdeal.Facts) (hProjZDw : Cert.ProjZDw.Facts) (hProjZDwIdeal : Cert.ProjZDwIdeal.Facts) (hPlainProjZDwIdeal : Cert.PlainProjZDwIdeal.Facts) (hProjBDw : Cert.ProjBDw.Facts) (hProjBDwIdeal : Cert.ProjBDwIdeal.Facts) (hPlainProjBDwIdeal : Cert.PlainProjBDwIdeal.Facts) (hFfnAct : Cert.FfnAct.Facts) (hFfnActIdeal : Cert.FfnActIdeal.Facts) (hPlainFfnActIdeal : Cert.PlainFfnActIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_StackIdeal (hStackIdeal := hStackIdeal)
    ∧ quiescent_Stack (hStack := hStack)
    ∧ quiescent_GatherSmall (hGatherSmall := hGatherSmall)
    ∧ quiescent_GatherSmallIdeal (hGatherSmallIdeal := hGatherSmallIdeal)
    ∧ quiescent_StackSmallIdeal (hStackSmallIdeal := hStackSmallIdeal)
    ∧ quiescent_StackSmall (hStackSmall := hStackSmall)
    ∧ quiescent_AdamIn (hAdamIn := hAdamIn)
    ∧ quiescent_AdamInIdeal (hAdamInIdeal := hAdamInIdeal)
    ∧ quiescent_PlainInIdeal (hPlainInIdeal := hPlainInIdeal)
    ∧ quiescent_AdamOut (hAdamOut := hAdamOut)
    ∧ quiescent_AdamOutIdeal (hAdamOutIdeal := hAdamOutIdeal)
    ∧ quiescent_PlainOutIdeal (hPlainOutIdeal := hPlainOutIdeal)
    ∧ quiescent_AdamUp (hAdamUp := hAdamUp)
    ∧ quiescent_AdamUpIdeal (hAdamUpIdeal := hAdamUpIdeal)
    ∧ quiescent_PlainUpIdeal (hPlainUpIdeal := hPlainUpIdeal)
    ∧ quiescent_AdamDown (hAdamDown := hAdamDown)
    ∧ quiescent_AdamDownIdeal (hAdamDownIdeal := hAdamDownIdeal)
    ∧ quiescent_PlainDownIdeal (hPlainDownIdeal := hPlainDownIdeal)
    ∧ quiescent_AdamConvA (hAdamConvA := hAdamConvA)
    ∧ quiescent_AdamConvAIdeal (hAdamConvAIdeal := hAdamConvAIdeal)
    ∧ quiescent_PlainConvAIdeal (hPlainConvAIdeal := hPlainConvAIdeal)
    ∧ quiescent_AdamConvF (hAdamConvF := hAdamConvF)
    ∧ quiescent_AdamConvFIdeal (hAdamConvFIdeal := hAdamConvFIdeal)
    ∧ quiescent_PlainConvFIdeal (hPlainConvFIdeal := hPlainConvFIdeal)
    ∧ quiescent_AdamSmall (hAdamSmall := hAdamSmall)
    ∧ quiescent_AdamSmallIdeal (hAdamSmallIdeal := hAdamSmallIdeal)
    ∧ quiescent_PlainSmallIdeal (hPlainSmallIdeal := hPlainSmallIdeal)
    ∧ quiescent_RmsFwd (hRmsFwd := hRmsFwd)
    ∧ quiescent_RmsFwdIdeal (hRmsFwdIdeal := hRmsFwdIdeal)
    ∧ quiescent_PlainRmsFwdIdeal (hPlainRmsFwdIdeal := hPlainRmsFwdIdeal)
    ∧ quiescent_RmsBwd (hRmsBwd := hRmsBwd)
    ∧ quiescent_RmsBwdIdeal (hRmsBwdIdeal := hRmsBwdIdeal)
    ∧ quiescent_PlainRmsBwdIdeal (hPlainRmsBwdIdeal := hPlainRmsBwdIdeal)
    ∧ quiescent_Loss (hLoss := hLoss)
    ∧ quiescent_LossIdeal (hLossIdeal := hLossIdeal)
    ∧ quiescent_PlainLossIdeal (hPlainLossIdeal := hPlainLossIdeal)
    ∧ quiescent_ProjA (hProjA := hProjA)
    ∧ quiescent_ProjAIdeal (hProjAIdeal := hProjAIdeal)
    ∧ quiescent_PlainProjAIdeal (hPlainProjAIdeal := hPlainProjAIdeal)
    ∧ quiescent_ProjZ (hProjZ := hProjZ)
    ∧ quiescent_ProjZIdeal (hProjZIdeal := hProjZIdeal)
    ∧ quiescent_PlainProjZIdeal (hPlainProjZIdeal := hPlainProjZIdeal)
    ∧ quiescent_ProjB (hProjB := hProjB)
    ∧ quiescent_ProjBIdeal (hProjBIdeal := hProjBIdeal)
    ∧ quiescent_PlainProjBIdeal (hPlainProjBIdeal := hPlainProjBIdeal)
    ∧ quiescent_OutProj (hOutProj := hOutProj)
    ∧ quiescent_OutProjIdeal (hOutProjIdeal := hOutProjIdeal)
    ∧ quiescent_PlainOutProjIdeal (hPlainOutProjIdeal := hPlainOutProjIdeal)
    ∧ quiescent_FfnUp (hFfnUp := hFfnUp)
    ∧ quiescent_FfnUpIdeal (hFfnUpIdeal := hFfnUpIdeal)
    ∧ quiescent_PlainFfnUpIdeal (hPlainFfnUpIdeal := hPlainFfnUpIdeal)
    ∧ quiescent_FfnDown (hFfnDown := hFfnDown)
    ∧ quiescent_FfnDownIdeal (hFfnDownIdeal := hFfnDownIdeal)
    ∧ quiescent_PlainFfnDownIdeal (hPlainFfnDownIdeal := hPlainFfnDownIdeal)
    ∧ quiescent_FfnDownDx (hFfnDownDx := hFfnDownDx)
    ∧ quiescent_FfnDownDxIdeal (hFfnDownDxIdeal := hFfnDownDxIdeal)
    ∧ quiescent_PlainFfnDownDxIdeal (hPlainFfnDownDxIdeal := hPlainFfnDownDxIdeal)
    ∧ quiescent_FfnGateDx (hFfnGateDx := hFfnGateDx)
    ∧ quiescent_FfnGateDxIdeal (hFfnGateDxIdeal := hFfnGateDxIdeal)
    ∧ quiescent_PlainFfnGateDxIdeal (hPlainFfnGateDxIdeal := hPlainFfnGateDxIdeal)
    ∧ quiescent_FfnUpDx (hFfnUpDx := hFfnUpDx)
    ∧ quiescent_FfnUpDxIdeal (hFfnUpDxIdeal := hFfnUpDxIdeal)
    ∧ quiescent_PlainFfnUpDxIdeal (hPlainFfnUpDxIdeal := hPlainFfnUpDxIdeal)
    ∧ quiescent_OutProjDx (hOutProjDx := hOutProjDx)
    ∧ quiescent_OutProjDxIdeal (hOutProjDxIdeal := hOutProjDxIdeal)
    ∧ quiescent_PlainOutProjDxIdeal (hPlainOutProjDxIdeal := hPlainOutProjDxIdeal)
    ∧ quiescent_ProjADx (hProjADx := hProjADx)
    ∧ quiescent_ProjADxIdeal (hProjADxIdeal := hProjADxIdeal)
    ∧ quiescent_PlainProjADxIdeal (hPlainProjADxIdeal := hPlainProjADxIdeal)
    ∧ quiescent_ProjZDx (hProjZDx := hProjZDx)
    ∧ quiescent_ProjZDxIdeal (hProjZDxIdeal := hProjZDxIdeal)
    ∧ quiescent_PlainProjZDxIdeal (hPlainProjZDxIdeal := hPlainProjZDxIdeal)
    ∧ quiescent_ProjBDx (hProjBDx := hProjBDx)
    ∧ quiescent_ProjBDxIdeal (hProjBDxIdeal := hProjBDxIdeal)
    ∧ quiescent_PlainProjBDxIdeal (hPlainProjBDxIdeal := hPlainProjBDxIdeal)
    ∧ quiescent_FfnDownDw (hFfnDownDw := hFfnDownDw)
    ∧ quiescent_FfnDownDwIdeal (hFfnDownDwIdeal := hFfnDownDwIdeal)
    ∧ quiescent_PlainFfnDownDwIdeal (hPlainFfnDownDwIdeal := hPlainFfnDownDwIdeal)
    ∧ quiescent_FfnUpDw (hFfnUpDw := hFfnUpDw)
    ∧ quiescent_FfnUpDwIdeal (hFfnUpDwIdeal := hFfnUpDwIdeal)
    ∧ quiescent_PlainFfnUpDwIdeal (hPlainFfnUpDwIdeal := hPlainFfnUpDwIdeal)
    ∧ quiescent_OutProjDw (hOutProjDw := hOutProjDw)
    ∧ quiescent_OutProjDwIdeal (hOutProjDwIdeal := hOutProjDwIdeal)
    ∧ quiescent_PlainOutProjDwIdeal (hPlainOutProjDwIdeal := hPlainOutProjDwIdeal)
    ∧ quiescent_ProjADw (hProjADw := hProjADw)
    ∧ quiescent_ProjADwIdeal (hProjADwIdeal := hProjADwIdeal)
    ∧ quiescent_PlainProjADwIdeal (hPlainProjADwIdeal := hPlainProjADwIdeal)
    ∧ quiescent_ProjZDw (hProjZDw := hProjZDw)
    ∧ quiescent_ProjZDwIdeal (hProjZDwIdeal := hProjZDwIdeal)
    ∧ quiescent_PlainProjZDwIdeal (hPlainProjZDwIdeal := hPlainProjZDwIdeal)
    ∧ quiescent_ProjBDw (hProjBDw := hProjBDw)
    ∧ quiescent_ProjBDwIdeal (hProjBDwIdeal := hProjBDwIdeal)
    ∧ quiescent_PlainProjBDwIdeal (hPlainProjBDwIdeal := hPlainProjBDwIdeal)
    ∧ quiescent_FfnAct (hFfnAct := hFfnAct)
    ∧ quiescent_FfnActIdeal (hFfnActIdeal := hFfnActIdeal)
    ∧ quiescent_PlainFfnActIdeal (hPlainFfnActIdeal := hPlainFfnActIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_StackIdeal (hGatherIdeal := hGatherIdeal) (hStackIdeal := hStackIdeal)
    ∧ bitexact_Gather_Stack (hGather := hGather) (hStack := hStack)
    ∧ preserves_GatherSmall_GatherSmallIdeal
    ∧ algebraic_GatherSmallIdeal_StackSmallIdeal (hGatherSmallIdeal := hGatherSmallIdeal) (hStackSmallIdeal := hStackSmallIdeal)
    ∧ bitexact_GatherSmall_StackSmall (hGatherSmall := hGatherSmall) (hStackSmall := hStackSmall)
    ∧ preserves_AdamIn_AdamInIdeal
    ∧ algebraic_AdamInIdeal_PlainInIdeal (hAdamInIdeal := hAdamInIdeal) (hPlainInIdeal := hPlainInIdeal)
    ∧ preserves_AdamOut_AdamOutIdeal
    ∧ algebraic_AdamOutIdeal_PlainOutIdeal (hAdamOutIdeal := hAdamOutIdeal) (hPlainOutIdeal := hPlainOutIdeal)
    ∧ preserves_AdamUp_AdamUpIdeal
    ∧ algebraic_AdamUpIdeal_PlainUpIdeal (hAdamUpIdeal := hAdamUpIdeal) (hPlainUpIdeal := hPlainUpIdeal)
    ∧ preserves_AdamDown_AdamDownIdeal
    ∧ algebraic_AdamDownIdeal_PlainDownIdeal (hAdamDownIdeal := hAdamDownIdeal) (hPlainDownIdeal := hPlainDownIdeal)
    ∧ preserves_AdamConvA_AdamConvAIdeal
    ∧ algebraic_AdamConvAIdeal_PlainConvAIdeal (hAdamConvAIdeal := hAdamConvAIdeal) (hPlainConvAIdeal := hPlainConvAIdeal)
    ∧ preserves_AdamConvF_AdamConvFIdeal
    ∧ algebraic_AdamConvFIdeal_PlainConvFIdeal (hAdamConvFIdeal := hAdamConvFIdeal) (hPlainConvFIdeal := hPlainConvFIdeal)
    ∧ preserves_AdamSmall_AdamSmallIdeal
    ∧ algebraic_AdamSmallIdeal_PlainSmallIdeal (hAdamSmallIdeal := hAdamSmallIdeal) (hPlainSmallIdeal := hPlainSmallIdeal)
    ∧ preserves_RmsFwd_RmsFwdIdeal
    ∧ algebraic_RmsFwdIdeal_PlainRmsFwdIdeal (hRmsFwdIdeal := hRmsFwdIdeal) (hPlainRmsFwdIdeal := hPlainRmsFwdIdeal)
    ∧ preserves_RmsBwd_RmsBwdIdeal
    ∧ algebraic_RmsBwdIdeal_PlainRmsBwdIdeal (hRmsBwdIdeal := hRmsBwdIdeal) (hPlainRmsBwdIdeal := hPlainRmsBwdIdeal)
    ∧ preserves_Loss_LossIdeal
    ∧ algebraic_LossIdeal_PlainLossIdeal (hLossIdeal := hLossIdeal) (hPlainLossIdeal := hPlainLossIdeal)
    ∧ preserves_ProjA_ProjAIdeal
    ∧ algebraic_ProjAIdeal_PlainProjAIdeal (hProjAIdeal := hProjAIdeal) (hPlainProjAIdeal := hPlainProjAIdeal)
    ∧ preserves_ProjZ_ProjZIdeal
    ∧ algebraic_ProjZIdeal_PlainProjZIdeal (hProjZIdeal := hProjZIdeal) (hPlainProjZIdeal := hPlainProjZIdeal)
    ∧ preserves_ProjB_ProjBIdeal
    ∧ algebraic_ProjBIdeal_PlainProjBIdeal (hProjBIdeal := hProjBIdeal) (hPlainProjBIdeal := hPlainProjBIdeal)
    ∧ preserves_OutProj_OutProjIdeal
    ∧ algebraic_OutProjIdeal_PlainOutProjIdeal (hOutProjIdeal := hOutProjIdeal) (hPlainOutProjIdeal := hPlainOutProjIdeal)
    ∧ preserves_FfnUp_FfnUpIdeal
    ∧ algebraic_FfnUpIdeal_PlainFfnUpIdeal (hFfnUpIdeal := hFfnUpIdeal) (hPlainFfnUpIdeal := hPlainFfnUpIdeal)
    ∧ preserves_FfnDown_FfnDownIdeal
    ∧ algebraic_FfnDownIdeal_PlainFfnDownIdeal (hFfnDownIdeal := hFfnDownIdeal) (hPlainFfnDownIdeal := hPlainFfnDownIdeal)
    ∧ preserves_FfnDownDx_FfnDownDxIdeal
    ∧ algebraic_FfnDownDxIdeal_PlainFfnDownDxIdeal (hFfnDownDxIdeal := hFfnDownDxIdeal) (hPlainFfnDownDxIdeal := hPlainFfnDownDxIdeal)
    ∧ preserves_FfnGateDx_FfnGateDxIdeal
    ∧ algebraic_FfnGateDxIdeal_PlainFfnGateDxIdeal (hFfnGateDxIdeal := hFfnGateDxIdeal) (hPlainFfnGateDxIdeal := hPlainFfnGateDxIdeal)
    ∧ preserves_FfnUpDx_FfnUpDxIdeal
    ∧ algebraic_FfnUpDxIdeal_PlainFfnUpDxIdeal (hFfnUpDxIdeal := hFfnUpDxIdeal) (hPlainFfnUpDxIdeal := hPlainFfnUpDxIdeal)
    ∧ preserves_OutProjDx_OutProjDxIdeal
    ∧ algebraic_OutProjDxIdeal_PlainOutProjDxIdeal (hOutProjDxIdeal := hOutProjDxIdeal) (hPlainOutProjDxIdeal := hPlainOutProjDxIdeal)
    ∧ preserves_ProjADx_ProjADxIdeal
    ∧ algebraic_ProjADxIdeal_PlainProjADxIdeal (hProjADxIdeal := hProjADxIdeal) (hPlainProjADxIdeal := hPlainProjADxIdeal)
    ∧ preserves_ProjZDx_ProjZDxIdeal
    ∧ algebraic_ProjZDxIdeal_PlainProjZDxIdeal (hProjZDxIdeal := hProjZDxIdeal) (hPlainProjZDxIdeal := hPlainProjZDxIdeal)
    ∧ preserves_ProjBDx_ProjBDxIdeal
    ∧ algebraic_ProjBDxIdeal_PlainProjBDxIdeal (hProjBDxIdeal := hProjBDxIdeal) (hPlainProjBDxIdeal := hPlainProjBDxIdeal)
    ∧ preserves_FfnDownDw_FfnDownDwIdeal
    ∧ algebraic_FfnDownDwIdeal_PlainFfnDownDwIdeal (hFfnDownDwIdeal := hFfnDownDwIdeal) (hPlainFfnDownDwIdeal := hPlainFfnDownDwIdeal)
    ∧ preserves_FfnUpDw_FfnUpDwIdeal
    ∧ algebraic_FfnUpDwIdeal_PlainFfnUpDwIdeal (hFfnUpDwIdeal := hFfnUpDwIdeal) (hPlainFfnUpDwIdeal := hPlainFfnUpDwIdeal)
    ∧ preserves_OutProjDw_OutProjDwIdeal
    ∧ algebraic_OutProjDwIdeal_PlainOutProjDwIdeal (hOutProjDwIdeal := hOutProjDwIdeal) (hPlainOutProjDwIdeal := hPlainOutProjDwIdeal)
    ∧ preserves_ProjADw_ProjADwIdeal
    ∧ algebraic_ProjADwIdeal_PlainProjADwIdeal (hProjADwIdeal := hProjADwIdeal) (hPlainProjADwIdeal := hPlainProjADwIdeal)
    ∧ preserves_ProjZDw_ProjZDwIdeal
    ∧ algebraic_ProjZDwIdeal_PlainProjZDwIdeal (hProjZDwIdeal := hProjZDwIdeal) (hPlainProjZDwIdeal := hPlainProjZDwIdeal)
    ∧ preserves_ProjBDw_ProjBDwIdeal
    ∧ algebraic_ProjBDwIdeal_PlainProjBDwIdeal (hProjBDwIdeal := hProjBDwIdeal) (hPlainProjBDwIdeal := hPlainProjBDwIdeal)
    ∧ preserves_FfnAct_FfnActIdeal
    ∧ algebraic_FfnActIdeal_PlainFfnActIdeal (hFfnActIdeal := hFfnActIdeal) (hPlainFfnActIdeal := hPlainFfnActIdeal)
-- ==== Kernel.lean ====
abbrev S8x1024x449 : Shape := ⟨3, ![8, 1024, 449]⟩
abbrev S8x128x1024 : Shape := ⟨3, ![8, 128, 1024]⟩
abbrev S8x1024x704 : Shape := ⟨3, ![8, 1024, 704]⟩
abbrev S8x352x1024 : Shape := ⟨3, ![8, 352, 1024]⟩
abbrev S8x4x192 : Shape := ⟨3, ![8, 4, 192]⟩
abbrev S8x3x704 : Shape := ⟨3, ![8, 3, 704]⟩
abbrev S6x7 : Shape := ⟨2, ![6, 7]⟩
abbrev S6 : Shape := ⟨1, ![6]⟩
abbrev S1 : Shape := ⟨1, ![1]⟩
abbrev S_ : Shape := ⟨0, ![]⟩
abbrev S1x1024x449 : Shape := ⟨3, ![1, 1024, 449]⟩
abbrev S1024x449 : Shape := ⟨2, ![1024, 449]⟩
abbrev S1x128x1024 : Shape := ⟨3, ![1, 128, 1024]⟩
abbrev S128x1024 : Shape := ⟨2, ![128, 1024]⟩
abbrev S1x1024x704 : Shape := ⟨3, ![1, 1024, 704]⟩
abbrev S1024x704 : Shape := ⟨2, ![1024, 704]⟩
abbrev S1x352x1024 : Shape := ⟨3, ![1, 352, 1024]⟩
abbrev S352x1024 : Shape := ⟨2, ![352, 1024]⟩
abbrev S1x4x192 : Shape := ⟨3, ![1, 4, 192]⟩
abbrev S4x192 : Shape := ⟨2, ![4, 192]⟩
abbrev S1x3x704 : Shape := ⟨3, ![1, 3, 704]⟩
abbrev S3x704 : Shape := ⟨2, ![3, 704]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x449, .bf16⟩
  | .hbm, ⟨1, _⟩ => ⟨S8x128x1024, .bf16⟩
  | .hbm, ⟨2, _⟩ => ⟨S8x1024x704, .bf16⟩
  | .hbm, ⟨3, _⟩ => ⟨S8x352x1024, .bf16⟩
  | .hbm, ⟨4, _⟩ => ⟨S8x4x192, .f32⟩
  | .hbm, ⟨5, _⟩ => ⟨S8x3x704, .f32⟩
  | .hbm, ⟨6, _⟩ => ⟨S8x1024x449, .bf16⟩
  | .hbm, ⟨7, _⟩ => ⟨S8x128x1024, .bf16⟩
  | .hbm, ⟨8, _⟩ => ⟨S8x1024x704, .bf16⟩
  | .hbm, ⟨9, _⟩ => ⟨S8x352x1024, .bf16⟩
  | .hbm, ⟨10, _⟩ => ⟨S8x4x192, .f32⟩
  | .hbm, ⟨11, _⟩ => ⟨S8x3x704, .f32⟩
  | _, _ => ⟨S8x1024x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_19 : BitVec 32 := 0#32
  let c0_i32_20 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_28 : BitVec 32 := 0#32
  let c0_i32_29 : BitVec 32 := 0#32
  ![v12.toNat, 0, 0]
def k0_off7 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.muli c2_i32_34 v5
  let v52 : BitVec 32 := Scalar.addi v50 v51
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v53 : BitVec 32 := Scalar.addi v52 v49
  let c0_i32_138 : BitVec 32 := 0#32
  let c0_i32_139 : BitVec 32 := 0#32
  ![v53.toNat, 0, 0]
def k0_dev1 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v229 : BitVec 32 := Scalar.muli v2 c4_i32_132
  let v230 : BitVec 32 := Scalar.addi c0_i32_133 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v231 : BitVec 32 := Scalar.muli v5 c2_i32_134
  let v232 : BitVec 32 := Scalar.addi v230 v231
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_135 : BitVec 32 := 1#32
  let v233 : BitVec 32 := Scalar.muli v49 c1_i32_135
  let v234 : BitVec 32 := Scalar.addi v232 v233
  v234.toNat
def k0_off8 (d0 : Dev nD) : Fin 3 → Nat :=
  let c4_i32_35 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.muli c4_i32_35 v2
  let c2_i32_36 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.muli c2_i32_36 v5
  let v56 : BitVec 32 := Scalar.addi v54 v55
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v57 : BitVec 32 := Scalar.addi v56 v49
  let c0_i32_150 : BitVec 32 := 0#32
  let c0_i32_151 : BitVec 32 := 0#32
  ![v57.toNat, 0, 0]
def k0_dev2 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v243 : BitVec 32 := Scalar.muli v2 c4_i32_144
  let v244 : BitVec 32 := Scalar.addi c0_i32_145 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v245 : BitVec 32 := Scalar.muli v5 c2_i32_146
  let v246 : BitVec 32 := Scalar.addi v244 v245
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_147 : BitVec 32 := 1#32
  let v247 : BitVec 32 := Scalar.muli v49 c1_i32_147
  let v248 : BitVec 32 := Scalar.addi v246 v247
  v248.toNat
def k0_off9 (d0 : Dev nD) : Fin 3 → Nat :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v58 : BitVec 32 := Scalar.muli c4_i32_37 v2
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.muli c2_i32_38 v5
  let v60 : BitVec 32 := Scalar.addi v58 v59
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v61 : BitVec 32 := Scalar.addi v60 v49
  let c0_i32_162 : BitVec 32 := 0#32
  let c0_i32_163 : BitVec 32 := 0#32
  ![v61.toNat, 0, 0]
def k0_dev3 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v257 : BitVec 32 := Scalar.muli v2 c4_i32_156
  let v258 : BitVec 32 := Scalar.addi c0_i32_157 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v259 : BitVec 32 := Scalar.muli v5 c2_i32_158
  let v260 : BitVec 32 := Scalar.addi v258 v259
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_159 : BitVec 32 := 1#32
  let v261 : BitVec 32 := Scalar.muli v49 c1_i32_159
  let v262 : BitVec 32 := Scalar.addi v260 v261
  v262.toNat
def k0_off10 (d0 : Dev nD) : Fin 3 → Nat :=
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.muli c2_i32_40 v5
  let v64 : BitVec 32 := Scalar.addi v62 v63
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v65 : BitVec 32 := Scalar.addi v64 v49
  let c0_i32_174 : BitVec 32 := 0#32
  let c0_i32_175 : BitVec 32 := 0#32
  ![v65.toNat, 0, 0]
def k0_dev4 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v271 : BitVec 32 := Scalar.muli v2 c4_i32_168
  let v272 : BitVec 32 := Scalar.addi c0_i32_169 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v273 : BitVec 32 := Scalar.muli v5 c2_i32_170
  let v274 : BitVec 32 := Scalar.addi v272 v273
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_171 : BitVec 32 := 1#32
  let v275 : BitVec 32 := Scalar.muli v49 c1_i32_171
  let v276 : BitVec 32 := Scalar.addi v274 v275
  v276.toNat
def k0_off11 (d0 : Dev nD) : Fin 3 → Nat :=
  let c4_i32_41 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v66 : BitVec 32 := Scalar.muli c4_i32_41 v2
  let c2_i32_42 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_42 v5
  let v68 : BitVec 32 := Scalar.addi v66 v67
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v69 : BitVec 32 := Scalar.addi v68 v49
  let c0_i32_186 : BitVec 32 := 0#32
  let c0_i32_187 : BitVec 32 := 0#32
  ![v69.toNat, 0, 0]
def k0_dev5 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v285 : BitVec 32 := Scalar.muli v2 c4_i32_180
  let v286 : BitVec 32 := Scalar.addi c0_i32_181 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v287 : BitVec 32 := Scalar.muli v5 c2_i32_182
  let v288 : BitVec 32 := Scalar.addi v286 v287
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_183 : BitVec 32 := 1#32
  let v289 : BitVec 32 := Scalar.muli v49 c1_i32_183
  let v290 : BitVec 32 := Scalar.addi v288 v289
  v290.toNat
def k0_off12 (d0 : Dev nD) : Fin 3 → Nat :=
  let c4_i32_43 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.muli c4_i32_43 v2
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.muli c2_i32_44 v5
  let v72 : BitVec 32 := Scalar.addi v70 v71
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let v73 : BitVec 32 := Scalar.addi v72 v49
  let c0_i32_198 : BitVec 32 := 0#32
  let c0_i32_199 : BitVec 32 := 0#32
  ![v73.toNat, 0, 0]
def k0_dev6 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v299 : BitVec 32 := Scalar.muli v2 c4_i32_192
  let v300 : BitVec 32 := Scalar.addi c0_i32_193 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v301 : BitVec 32 := Scalar.muli v5 c2_i32_194
  let v302 : BitVec 32 := Scalar.addi v300 v301
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_32 v8
  let c1_i32_195 : BitVec 32 := 1#32
  let v303 : BitVec 32 := Scalar.muli v49 c1_i32_195
  let v304 : BitVec 32 := Scalar.addi v302 v303
  v304.toNat
def k0_off13 (d0 : Dev nD) : Fin 3 → Nat :=
  let c4_i32_46 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.muli c4_i32_46 v2
  let c2_i32_47 : BitVec 32 := 2#32
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let v76 : BitVec 32 := Scalar.muli c2_i32_47 v74
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.addi v77 v8
  let c0_i32_210 : BitVec 32 := 0#32
  let c0_i32_211 : BitVec 32 := 0#32
  ![v78.toNat, 0, 0]
def k0_dev7 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v313 : BitVec 32 := Scalar.muli v2 c4_i32_204
  let v314 : BitVec 32 := Scalar.addi c0_i32_205 v313
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let c2_i32_206 : BitVec 32 := 2#32
  let v315 : BitVec 32 := Scalar.muli v74 c2_i32_206
  let v316 : BitVec 32 := Scalar.addi v314 v315
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v317 : BitVec 32 := Scalar.muli v8 c1_i32_207
  let v318 : BitVec 32 := Scalar.addi v316 v317
  v318.toNat
def k0_off14 (d0 : Dev nD) : Fin 3 → Nat :=
  let c4_i32_48 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v79 : BitVec 32 := Scalar.muli c4_i32_48 v2
  let c2_i32_49 : BitVec 32 := 2#32
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let v80 : BitVec 32 := Scalar.muli c2_i32_49 v74
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.addi v81 v8
  let c0_i32_222 : BitVec 32 := 0#32
  let c0_i32_223 : BitVec 32 := 0#32
  ![v82.toNat, 0, 0]
def k0_dev8 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v327 : BitVec 32 := Scalar.muli v2 c4_i32_216
  let v328 : BitVec 32 := Scalar.addi c0_i32_217 v327
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let c2_i32_218 : BitVec 32 := 2#32
  let v329 : BitVec 32 := Scalar.muli v74 c2_i32_218
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v331 : BitVec 32 := Scalar.muli v8 c1_i32_219
  let v332 : BitVec 32 := Scalar.addi v330 v331
  v332.toNat
def k0_off15 (d0 : Dev nD) : Fin 3 → Nat :=
  let c4_i32_50 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v83 : BitVec 32 := Scalar.muli c4_i32_50 v2
  let c2_i32_51 : BitVec 32 := 2#32
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let v84 : BitVec 32 := Scalar.muli c2_i32_51 v74
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v86 : BitVec 32 := Scalar.addi v85 v8
  let c0_i32_234 : BitVec 32 := 0#32
  let c0_i32_235 : BitVec 32 := 0#32
  ![v86.toNat, 0, 0]
def k0_dev9 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v341 : BitVec 32 := Scalar.muli v2 c4_i32_228
  let v342 : BitVec 32 := Scalar.addi c0_i32_229 v341
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let c2_i32_230 : BitVec 32 := 2#32
  let v343 : BitVec 32 := Scalar.muli v74 c2_i32_230
  let v344 : BitVec 32 := Scalar.addi v342 v343
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v345 : BitVec 32 := Scalar.muli v8 c1_i32_231
  let v346 : BitVec 32 := Scalar.addi v344 v345
  v346.toNat
def k0_off16 (d0 : Dev nD) : Fin 3 → Nat :=
  let c4_i32_52 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v87 : BitVec 32 := Scalar.muli c4_i32_52 v2
  let c2_i32_53 : BitVec 32 := 2#32
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let v88 : BitVec 32 := Scalar.muli c2_i32_53 v74
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v90 : BitVec 32 := Scalar.addi v89 v8
  let c0_i32_246 : BitVec 32 := 0#32
  let c0_i32_247 : BitVec 32 := 0#32
  ![v90.toNat, 0, 0]
def k0_dev10 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v355 : BitVec 32 := Scalar.muli v2 c4_i32_240
  let v356 : BitVec 32 := Scalar.addi c0_i32_241 v355
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let c2_i32_242 : BitVec 32 := 2#32
  let v357 : BitVec 32 := Scalar.muli v74 c2_i32_242
  let v358 : BitVec 32 := Scalar.addi v356 v357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v359 : BitVec 32 := Scalar.muli v8 c1_i32_243
  let v360 : BitVec 32 := Scalar.addi v358 v359
  v360.toNat
def k0_off17 (d0 : Dev nD) : Fin 3 → Nat :=
  let c4_i32_54 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v91 : BitVec 32 := Scalar.muli c4_i32_54 v2
  let c2_i32_55 : BitVec 32 := 2#32
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let v92 : BitVec 32 := Scalar.muli c2_i32_55 v74
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v94 : BitVec 32 := Scalar.addi v93 v8
  let c0_i32_258 : BitVec 32 := 0#32
  let c0_i32_259 : BitVec 32 := 0#32
  ![v94.toNat, 0, 0]
def k0_dev11 (d0 : Dev nD) : Nat :=
  let c0_i32_253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_252 : BitVec 32 := 4#32
  let v369 : BitVec 32 := Scalar.muli v2 c4_i32_252
  let v370 : BitVec 32 := Scalar.addi c0_i32_253 v369
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let c2_i32_254 : BitVec 32 := 2#32
  let v371 : BitVec 32 := Scalar.muli v74 c2_i32_254
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v373 : BitVec 32 := Scalar.muli v8 c1_i32_255
  let v374 : BitVec 32 := Scalar.addi v372 v373
  v374.toNat
def k0_off18 (d0 : Dev nD) : Fin 3 → Nat :=
  let c4_i32_56 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c4_i32_56 v2
  let c2_i32_57 : BitVec 32 := 2#32
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let v96 : BitVec 32 := Scalar.muli c2_i32_57 v74
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi v97 v8
  let c0_i32_270 : BitVec 32 := 0#32
  let c0_i32_271 : BitVec 32 := 0#32
  ![v98.toNat, 0, 0]
def k0_dev12 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_264 : BitVec 32 := 4#32
  let v383 : BitVec 32 := Scalar.muli v2 c4_i32_264
  let v384 : BitVec 32 := Scalar.addi c0_i32_265 v383
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.subi c1_i32_45 v5
  let c2_i32_266 : BitVec 32 := 2#32
  let v385 : BitVec 32 := Scalar.muli v74 c2_i32_266
  let v386 : BitVec 32 := Scalar.addi v384 v385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v387 : BitVec 32 := Scalar.muli v8 c1_i32_267
  let v388 : BitVec 32 := Scalar.addi v386 v387
  v388.toNat
def k0_off19 (d0 : Dev nD) : Fin 3 → Nat :=
  let c4_i32_60 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v101 : BitVec 32 := Scalar.muli c4_i32_60 v2
  let c2_i32_61 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let v102 : BitVec 32 := Scalar.muli c2_i32_61 v99
  let v103 : BitVec 32 := Scalar.addi v101 v102
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let v104 : BitVec 32 := Scalar.addi v103 v100
  let c0_i32_282 : BitVec 32 := 0#32
  let c0_i32_283 : BitVec 32 := 0#32
  ![v104.toNat, 0, 0]
def k0_dev13 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_276 : BitVec 32 := 4#32
  let v397 : BitVec 32 := Scalar.muli v2 c4_i32_276
  let v398 : BitVec 32 := Scalar.addi c0_i32_277 v397
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let c2_i32_278 : BitVec 32 := 2#32
  let v399 : BitVec 32 := Scalar.muli v99 c2_i32_278
  let v400 : BitVec 32 := Scalar.addi v398 v399
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let c1_i32_279 : BitVec 32 := 1#32
  let v401 : BitVec 32 := Scalar.muli v100 c1_i32_279
  let v402 : BitVec 32 := Scalar.addi v400 v401
  v402.toNat
def k0_off20 (d0 : Dev nD) : Fin 3 → Nat :=
  let c4_i32_62 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v105 : BitVec 32 := Scalar.muli c4_i32_62 v2
  let c2_i32_63 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let v106 : BitVec 32 := Scalar.muli c2_i32_63 v99
  let v107 : BitVec 32 := Scalar.addi v105 v106
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let v108 : BitVec 32 := Scalar.addi v107 v100
  let c0_i32_294 : BitVec 32 := 0#32
  let c0_i32_295 : BitVec 32 := 0#32
  ![v108.toNat, 0, 0]
def k0_dev14 (d0 : Dev nD) : Nat :=
  let c0_i32_289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_288 : BitVec 32 := 4#32
  let v411 : BitVec 32 := Scalar.muli v2 c4_i32_288
  let v412 : BitVec 32 := Scalar.addi c0_i32_289 v411
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let c2_i32_290 : BitVec 32 := 2#32
  let v413 : BitVec 32 := Scalar.muli v99 c2_i32_290
  let v414 : BitVec 32 := Scalar.addi v412 v413
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let c1_i32_291 : BitVec 32 := 1#32
  let v415 : BitVec 32 := Scalar.muli v100 c1_i32_291
  let v416 : BitVec 32 := Scalar.addi v414 v415
  v416.toNat
def k0_off21 (d0 : Dev nD) : Fin 3 → Nat :=
  let c4_i32_64 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v109 : BitVec 32 := Scalar.muli c4_i32_64 v2
  let c2_i32_65 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let v110 : BitVec 32 := Scalar.muli c2_i32_65 v99
  let v111 : BitVec 32 := Scalar.addi v109 v110
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let v112 : BitVec 32 := Scalar.addi v111 v100
  let c0_i32_306 : BitVec 32 := 0#32
  let c0_i32_307 : BitVec 32 := 0#32
  ![v112.toNat, 0, 0]
def k0_dev15 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v425 : BitVec 32 := Scalar.muli v2 c4_i32_300
  let v426 : BitVec 32 := Scalar.addi c0_i32_301 v425
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let c2_i32_302 : BitVec 32 := 2#32
  let v427 : BitVec 32 := Scalar.muli v99 c2_i32_302
  let v428 : BitVec 32 := Scalar.addi v426 v427
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let c1_i32_303 : BitVec 32 := 1#32
  let v429 : BitVec 32 := Scalar.muli v100 c1_i32_303
  let v430 : BitVec 32 := Scalar.addi v428 v429
  v430.toNat
def k0_off22 (d0 : Dev nD) : Fin 3 → Nat :=
  let c4_i32_66 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v113 : BitVec 32 := Scalar.muli c4_i32_66 v2
  let c2_i32_67 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let v114 : BitVec 32 := Scalar.muli c2_i32_67 v99
  let v115 : BitVec 32 := Scalar.addi v113 v114
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let v116 : BitVec 32 := Scalar.addi v115 v100
  let c0_i32_318 : BitVec 32 := 0#32
  let c0_i32_319 : BitVec 32 := 0#32
  ![v116.toNat, 0, 0]
def k0_dev16 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v439 : BitVec 32 := Scalar.muli v2 c4_i32_312
  let v440 : BitVec 32 := Scalar.addi c0_i32_313 v439
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let c2_i32_314 : BitVec 32 := 2#32
  let v441 : BitVec 32 := Scalar.muli v99 c2_i32_314
  let v442 : BitVec 32 := Scalar.addi v440 v441
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let c1_i32_315 : BitVec 32 := 1#32
  let v443 : BitVec 32 := Scalar.muli v100 c1_i32_315
  let v444 : BitVec 32 := Scalar.addi v442 v443
  v444.toNat
def k0_off23 (d0 : Dev nD) : Fin 3 → Nat :=
  let c4_i32_68 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v117 : BitVec 32 := Scalar.muli c4_i32_68 v2
  let c2_i32_69 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let v118 : BitVec 32 := Scalar.muli c2_i32_69 v99
  let v119 : BitVec 32 := Scalar.addi v117 v118
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let v120 : BitVec 32 := Scalar.addi v119 v100
  let c0_i32_330 : BitVec 32 := 0#32
  let c0_i32_331 : BitVec 32 := 0#32
  ![v120.toNat, 0, 0]
def k0_dev17 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v453 : BitVec 32 := Scalar.muli v2 c4_i32_324
  let v454 : BitVec 32 := Scalar.addi c0_i32_325 v453
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let c2_i32_326 : BitVec 32 := 2#32
  let v455 : BitVec 32 := Scalar.muli v99 c2_i32_326
  let v456 : BitVec 32 := Scalar.addi v454 v455
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let c1_i32_327 : BitVec 32 := 1#32
  let v457 : BitVec 32 := Scalar.muli v100 c1_i32_327
  let v458 : BitVec 32 := Scalar.addi v456 v457
  v458.toNat
def k0_off24 (d0 : Dev nD) : Fin 3 → Nat :=
  let c4_i32_70 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v121 : BitVec 32 := Scalar.muli c4_i32_70 v2
  let c2_i32_71 : BitVec 32 := 2#32
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let v122 : BitVec 32 := Scalar.muli c2_i32_71 v99
  let v123 : BitVec 32 := Scalar.addi v121 v122
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let v124 : BitVec 32 := Scalar.addi v123 v100
  let c0_i32_342 : BitVec 32 := 0#32
  let c0_i32_343 : BitVec 32 := 0#32
  ![v124.toNat, 0, 0]
def k0_dev18 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v467 : BitVec 32 := Scalar.muli v2 c4_i32_336
  let v468 : BitVec 32 := Scalar.addi c0_i32_337 v467
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_58 v5
  let c2_i32_338 : BitVec 32 := 2#32
  let v469 : BitVec 32 := Scalar.muli v99 c2_i32_338
  let v470 : BitVec 32 := Scalar.addi v468 v469
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_59 v8
  let c1_i32_339 : BitVec 32 := 1#32
  let v471 : BitVec 32 := Scalar.muli v100 c1_i32_339
  let v472 : BitVec 32 := Scalar.addi v470 v471
  v472.toNat
def k0_off25 (d0 : Dev nD) : Fin 3 → Nat :=
  let c4_i32_73 : BitVec 32 := 4#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let v126 : BitVec 32 := Scalar.muli c4_i32_73 v125
  let c2_i32_74 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.muli c2_i32_74 v5
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c0_i32_354 : BitVec 32 := 0#32
  let c0_i32_355 : BitVec 32 := 0#32
  ![v129.toNat, 0, 0]
def k0_dev19 (d0 : Dev nD) : Nat :=
  let c0_i32_349 : BitVec 32 := 0#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let c4_i32_348 : BitVec 32 := 4#32
  let v481 : BitVec 32 := Scalar.muli v125 c4_i32_348
  let v482 : BitVec 32 := Scalar.addi c0_i32_349 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_350 : BitVec 32 := 2#32
  let v483 : BitVec 32 := Scalar.muli v5 c2_i32_350
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_351 : BitVec 32 := 1#32
  let v485 : BitVec 32 := Scalar.muli v8 c1_i32_351
  let v486 : BitVec 32 := Scalar.addi v484 v485
  v486.toNat
def k0_off26 (d0 : Dev nD) : Fin 3 → Nat :=
  let c4_i32_75 : BitVec 32 := 4#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let v130 : BitVec 32 := Scalar.muli c4_i32_75 v125
  let c2_i32_76 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v131 : BitVec 32 := Scalar.muli c2_i32_76 v5
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v133 : BitVec 32 := Scalar.addi v132 v8
  let c0_i32_366 : BitVec 32 := 0#32
  let c0_i32_367 : BitVec 32 := 0#32
  ![v133.toNat, 0, 0]
def k0_dev20 (d0 : Dev nD) : Nat :=
  let c0_i32_361 : BitVec 32 := 0#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let c4_i32_360 : BitVec 32 := 4#32
  let v495 : BitVec 32 := Scalar.muli v125 c4_i32_360
  let v496 : BitVec 32 := Scalar.addi c0_i32_361 v495
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_362 : BitVec 32 := 2#32
  let v497 : BitVec 32 := Scalar.muli v5 c2_i32_362
  let v498 : BitVec 32 := Scalar.addi v496 v497
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v499 : BitVec 32 := Scalar.muli v8 c1_i32_363
  let v500 : BitVec 32 := Scalar.addi v498 v499
  v500.toNat
def k0_off27 (d0 : Dev nD) : Fin 3 → Nat :=
  let c4_i32_77 : BitVec 32 := 4#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let v134 : BitVec 32 := Scalar.muli c4_i32_77 v125
  let c2_i32_78 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.muli c2_i32_78 v5
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v137 : BitVec 32 := Scalar.addi v136 v8
  let c0_i32_378 : BitVec 32 := 0#32
  let c0_i32_379 : BitVec 32 := 0#32
  ![v137.toNat, 0, 0]
def k0_dev21 (d0 : Dev nD) : Nat :=
  let c0_i32_373 : BitVec 32 := 0#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let c4_i32_372 : BitVec 32 := 4#32
  let v509 : BitVec 32 := Scalar.muli v125 c4_i32_372
  let v510 : BitVec 32 := Scalar.addi c0_i32_373 v509
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v511 : BitVec 32 := Scalar.muli v5 c2_i32_374
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_375 : BitVec 32 := 1#32
  let v513 : BitVec 32 := Scalar.muli v8 c1_i32_375
  let v514 : BitVec 32 := Scalar.addi v512 v513
  v514.toNat
def k0_off28 (d0 : Dev nD) : Fin 3 → Nat :=
  let c4_i32_79 : BitVec 32 := 4#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let v138 : BitVec 32 := Scalar.muli c4_i32_79 v125
  let c2_i32_80 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v139 : BitVec 32 := Scalar.muli c2_i32_80 v5
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.addi v140 v8
  let c0_i32_390 : BitVec 32 := 0#32
  let c0_i32_391 : BitVec 32 := 0#32
  ![v141.toNat, 0, 0]
def k0_dev22 (d0 : Dev nD) : Nat :=
  let c0_i32_385 : BitVec 32 := 0#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let c4_i32_384 : BitVec 32 := 4#32
  let v523 : BitVec 32 := Scalar.muli v125 c4_i32_384
  let v524 : BitVec 32 := Scalar.addi c0_i32_385 v523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v525 : BitVec 32 := Scalar.muli v5 c2_i32_386
  let v526 : BitVec 32 := Scalar.addi v524 v525
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v527 : BitVec 32 := Scalar.muli v8 c1_i32_387
  let v528 : BitVec 32 := Scalar.addi v526 v527
  v528.toNat
def k0_off29 (d0 : Dev nD) : Fin 3 → Nat :=
  let c4_i32_81 : BitVec 32 := 4#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let v142 : BitVec 32 := Scalar.muli c4_i32_81 v125
  let c2_i32_82 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v143 : BitVec 32 := Scalar.muli c2_i32_82 v5
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v145 : BitVec 32 := Scalar.addi v144 v8
  let c0_i32_402 : BitVec 32 := 0#32
  let c0_i32_403 : BitVec 32 := 0#32
  ![v145.toNat, 0, 0]
def k0_dev23 (d0 : Dev nD) : Nat :=
  let c0_i32_397 : BitVec 32 := 0#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let c4_i32_396 : BitVec 32 := 4#32
  let v537 : BitVec 32 := Scalar.muli v125 c4_i32_396
  let v538 : BitVec 32 := Scalar.addi c0_i32_397 v537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_398 : BitVec 32 := 2#32
  let v539 : BitVec 32 := Scalar.muli v5 c2_i32_398
  let v540 : BitVec 32 := Scalar.addi v538 v539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_399 : BitVec 32 := 1#32
  let v541 : BitVec 32 := Scalar.muli v8 c1_i32_399
  let v542 : BitVec 32 := Scalar.addi v540 v541
  v542.toNat
def k0_off30 (d0 : Dev nD) : Fin 3 → Nat :=
  let c4_i32_83 : BitVec 32 := 4#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let v146 : BitVec 32 := Scalar.muli c4_i32_83 v125
  let c2_i32_84 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v147 : BitVec 32 := Scalar.muli c2_i32_84 v5
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_414 : BitVec 32 := 0#32
  let c0_i32_415 : BitVec 32 := 0#32
  ![v149.toNat, 0, 0]
def k0_dev24 (d0 : Dev nD) : Nat :=
  let c0_i32_409 : BitVec 32 := 0#32
  let c1_i32_72 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.subi c1_i32_72 v2
  let c4_i32_408 : BitVec 32 := 4#32
  let v551 : BitVec 32 := Scalar.muli v125 c4_i32_408
  let v552 : BitVec 32 := Scalar.addi c0_i32_409 v551
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v553 : BitVec 32 := Scalar.muli v5 c2_i32_410
  let v554 : BitVec 32 := Scalar.addi v552 v553
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v555 : BitVec 32 := Scalar.muli v8 c1_i32_411
  let v556 : BitVec 32 := Scalar.addi v554 v555
  v556.toNat
def k0_off31 (d0 : Dev nD) : Fin 3 → Nat :=
  let c4_i32_87 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let v152 : BitVec 32 := Scalar.muli c4_i32_87 v150
  let c2_i32_88 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v153 : BitVec 32 := Scalar.muli c2_i32_88 v5
  let v154 : BitVec 32 := Scalar.addi v152 v153
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let v155 : BitVec 32 := Scalar.addi v154 v151
  let c0_i32_426 : BitVec 32 := 0#32
  let c0_i32_427 : BitVec 32 := 0#32
  ![v155.toNat, 0, 0]
def k0_dev25 (d0 : Dev nD) : Nat :=
  let c0_i32_421 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let c4_i32_420 : BitVec 32 := 4#32
  let v565 : BitVec 32 := Scalar.muli v150 c4_i32_420
  let v566 : BitVec 32 := Scalar.addi c0_i32_421 v565
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v567 : BitVec 32 := Scalar.muli v5 c2_i32_422
  let v568 : BitVec 32 := Scalar.addi v566 v567
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let c1_i32_423 : BitVec 32 := 1#32
  let v569 : BitVec 32 := Scalar.muli v151 c1_i32_423
  let v570 : BitVec 32 := Scalar.addi v568 v569
  v570.toNat
def k0_off32 (d0 : Dev nD) : Fin 3 → Nat :=
  let c4_i32_89 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let v156 : BitVec 32 := Scalar.muli c4_i32_89 v150
  let c2_i32_90 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v157 : BitVec 32 := Scalar.muli c2_i32_90 v5
  let v158 : BitVec 32 := Scalar.addi v156 v157
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let v159 : BitVec 32 := Scalar.addi v158 v151
  let c0_i32_438 : BitVec 32 := 0#32
  let c0_i32_439 : BitVec 32 := 0#32
  ![v159.toNat, 0, 0]
def k0_dev26 (d0 : Dev nD) : Nat :=
  let c0_i32_433 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let c4_i32_432 : BitVec 32 := 4#32
  let v579 : BitVec 32 := Scalar.muli v150 c4_i32_432
  let v580 : BitVec 32 := Scalar.addi c0_i32_433 v579
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_434 : BitVec 32 := 2#32
  let v581 : BitVec 32 := Scalar.muli v5 c2_i32_434
  let v582 : BitVec 32 := Scalar.addi v580 v581
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let c1_i32_435 : BitVec 32 := 1#32
  let v583 : BitVec 32 := Scalar.muli v151 c1_i32_435
  let v584 : BitVec 32 := Scalar.addi v582 v583
  v584.toNat
def k0_off33 (d0 : Dev nD) : Fin 3 → Nat :=
  let c4_i32_91 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let v160 : BitVec 32 := Scalar.muli c4_i32_91 v150
  let c2_i32_92 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_92 v5
  let v162 : BitVec 32 := Scalar.addi v160 v161
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let v163 : BitVec 32 := Scalar.addi v162 v151
  let c0_i32_450 : BitVec 32 := 0#32
  let c0_i32_451 : BitVec 32 := 0#32
  ![v163.toNat, 0, 0]
def k0_dev27 (d0 : Dev nD) : Nat :=
  let c0_i32_445 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let c4_i32_444 : BitVec 32 := 4#32
  let v593 : BitVec 32 := Scalar.muli v150 c4_i32_444
  let v594 : BitVec 32 := Scalar.addi c0_i32_445 v593
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v595 : BitVec 32 := Scalar.muli v5 c2_i32_446
  let v596 : BitVec 32 := Scalar.addi v594 v595
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let c1_i32_447 : BitVec 32 := 1#32
  let v597 : BitVec 32 := Scalar.muli v151 c1_i32_447
  let v598 : BitVec 32 := Scalar.addi v596 v597
  v598.toNat
def k0_off34 (d0 : Dev nD) : Fin 3 → Nat :=
  let c4_i32_93 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let v164 : BitVec 32 := Scalar.muli c4_i32_93 v150
  let c2_i32_94 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.muli c2_i32_94 v5
  let v166 : BitVec 32 := Scalar.addi v164 v165
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let v167 : BitVec 32 := Scalar.addi v166 v151
  let c0_i32_462 : BitVec 32 := 0#32
  let c0_i32_463 : BitVec 32 := 0#32
  ![v167.toNat, 0, 0]
def k0_dev28 (d0 : Dev nD) : Nat :=
  let c0_i32_457 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let c4_i32_456 : BitVec 32 := 4#32
  let v607 : BitVec 32 := Scalar.muli v150 c4_i32_456
  let v608 : BitVec 32 := Scalar.addi c0_i32_457 v607
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_458 : BitVec 32 := 2#32
  let v609 : BitVec 32 := Scalar.muli v5 c2_i32_458
  let v610 : BitVec 32 := Scalar.addi v608 v609
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let c1_i32_459 : BitVec 32 := 1#32
  let v611 : BitVec 32 := Scalar.muli v151 c1_i32_459
  let v612 : BitVec 32 := Scalar.addi v610 v611
  v612.toNat
def k0_off35 (d0 : Dev nD) : Fin 3 → Nat :=
  let c4_i32_95 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let v168 : BitVec 32 := Scalar.muli c4_i32_95 v150
  let c2_i32_96 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v169 : BitVec 32 := Scalar.muli c2_i32_96 v5
  let v170 : BitVec 32 := Scalar.addi v168 v169
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let v171 : BitVec 32 := Scalar.addi v170 v151
  let c0_i32_474 : BitVec 32 := 0#32
  let c0_i32_475 : BitVec 32 := 0#32
  ![v171.toNat, 0, 0]
def k0_dev29 (d0 : Dev nD) : Nat :=
  let c0_i32_469 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let c4_i32_468 : BitVec 32 := 4#32
  let v621 : BitVec 32 := Scalar.muli v150 c4_i32_468
  let v622 : BitVec 32 := Scalar.addi c0_i32_469 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_470 : BitVec 32 := 2#32
  let v623 : BitVec 32 := Scalar.muli v5 c2_i32_470
  let v624 : BitVec 32 := Scalar.addi v622 v623
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let c1_i32_471 : BitVec 32 := 1#32
  let v625 : BitVec 32 := Scalar.muli v151 c1_i32_471
  let v626 : BitVec 32 := Scalar.addi v624 v625
  v626.toNat
def k0_off36 (d0 : Dev nD) : Fin 3 → Nat :=
  let c4_i32_97 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let v172 : BitVec 32 := Scalar.muli c4_i32_97 v150
  let c2_i32_98 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v173 : BitVec 32 := Scalar.muli c2_i32_98 v5
  let v174 : BitVec 32 := Scalar.addi v172 v173
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let v175 : BitVec 32 := Scalar.addi v174 v151
  let c0_i32_486 : BitVec 32 := 0#32
  let c0_i32_487 : BitVec 32 := 0#32
  ![v175.toNat, 0, 0]
def k0_dev30 (d0 : Dev nD) : Nat :=
  let c0_i32_481 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_85 v2
  let c4_i32_480 : BitVec 32 := 4#32
  let v635 : BitVec 32 := Scalar.muli v150 c4_i32_480
  let v636 : BitVec 32 := Scalar.addi c0_i32_481 v635
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v637 : BitVec 32 := Scalar.muli v5 c2_i32_482
  let v638 : BitVec 32 := Scalar.addi v636 v637
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v151 : BitVec 32 := Scalar.subi c1_i32_86 v8
  let c1_i32_483 : BitVec 32 := 1#32
  let v639 : BitVec 32 := Scalar.muli v151 c1_i32_483
  let v640 : BitVec 32 := Scalar.addi v638 v639
  v640.toNat
def k0_off37 (d0 : Dev nD) : Fin 3 → Nat :=
  let c4_i32_101 : BitVec 32 := 4#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let v178 : BitVec 32 := Scalar.muli c4_i32_101 v176
  let c2_i32_102 : BitVec 32 := 2#32
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let v179 : BitVec 32 := Scalar.muli c2_i32_102 v177
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.addi v180 v8
  let c0_i32_498 : BitVec 32 := 0#32
  let c0_i32_499 : BitVec 32 := 0#32
  ![v181.toNat, 0, 0]
def k0_dev31 (d0 : Dev nD) : Nat :=
  let c0_i32_493 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let c4_i32_492 : BitVec 32 := 4#32
  let v649 : BitVec 32 := Scalar.muli v176 c4_i32_492
  let v650 : BitVec 32 := Scalar.addi c0_i32_493 v649
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let c2_i32_494 : BitVec 32 := 2#32
  let v651 : BitVec 32 := Scalar.muli v177 c2_i32_494
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_495 : BitVec 32 := 1#32
  let v653 : BitVec 32 := Scalar.muli v8 c1_i32_495
  let v654 : BitVec 32 := Scalar.addi v652 v653
  v654.toNat
def k0_off38 (d0 : Dev nD) : Fin 3 → Nat :=
  let c4_i32_103 : BitVec 32 := 4#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let v182 : BitVec 32 := Scalar.muli c4_i32_103 v176
  let c2_i32_104 : BitVec 32 := 2#32
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let v183 : BitVec 32 := Scalar.muli c2_i32_104 v177
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v185 : BitVec 32 := Scalar.addi v184 v8
  let c0_i32_510 : BitVec 32 := 0#32
  let c0_i32_511 : BitVec 32 := 0#32
  ![v185.toNat, 0, 0]
def k0_dev32 (d0 : Dev nD) : Nat :=
  let c0_i32_505 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let c4_i32_504 : BitVec 32 := 4#32
  let v663 : BitVec 32 := Scalar.muli v176 c4_i32_504
  let v664 : BitVec 32 := Scalar.addi c0_i32_505 v663
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let c2_i32_506 : BitVec 32 := 2#32
  let v665 : BitVec 32 := Scalar.muli v177 c2_i32_506
  let v666 : BitVec 32 := Scalar.addi v664 v665
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_507 : BitVec 32 := 1#32
  let v667 : BitVec 32 := Scalar.muli v8 c1_i32_507
  let v668 : BitVec 32 := Scalar.addi v666 v667
  v668.toNat
def k0_off39 (d0 : Dev nD) : Fin 3 → Nat :=
  let c4_i32_105 : BitVec 32 := 4#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let v186 : BitVec 32 := Scalar.muli c4_i32_105 v176
  let c2_i32_106 : BitVec 32 := 2#32
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let v187 : BitVec 32 := Scalar.muli c2_i32_106 v177
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v189 : BitVec 32 := Scalar.addi v188 v8
  let c0_i32_522 : BitVec 32 := 0#32
  let c0_i32_523 : BitVec 32 := 0#32
  ![v189.toNat, 0, 0]
def k0_dev33 (d0 : Dev nD) : Nat :=
  let c0_i32_517 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let c4_i32_516 : BitVec 32 := 4#32
  let v677 : BitVec 32 := Scalar.muli v176 c4_i32_516
  let v678 : BitVec 32 := Scalar.addi c0_i32_517 v677
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let c2_i32_518 : BitVec 32 := 2#32
  let v679 : BitVec 32 := Scalar.muli v177 c2_i32_518
  let v680 : BitVec 32 := Scalar.addi v678 v679
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_519 : BitVec 32 := 1#32
  let v681 : BitVec 32 := Scalar.muli v8 c1_i32_519
  let v682 : BitVec 32 := Scalar.addi v680 v681
  v682.toNat
def k0_off40 (d0 : Dev nD) : Fin 3 → Nat :=
  let c4_i32_107 : BitVec 32 := 4#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let v190 : BitVec 32 := Scalar.muli c4_i32_107 v176
  let c2_i32_108 : BitVec 32 := 2#32
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let v191 : BitVec 32 := Scalar.muli c2_i32_108 v177
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.addi v192 v8
  let c0_i32_534 : BitVec 32 := 0#32
  let c0_i32_535 : BitVec 32 := 0#32
  ![v193.toNat, 0, 0]
def k0_dev34 (d0 : Dev nD) : Nat :=
  let c0_i32_529 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let c4_i32_528 : BitVec 32 := 4#32
  let v691 : BitVec 32 := Scalar.muli v176 c4_i32_528
  let v692 : BitVec 32 := Scalar.addi c0_i32_529 v691
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let c2_i32_530 : BitVec 32 := 2#32
  let v693 : BitVec 32 := Scalar.muli v177 c2_i32_530
  let v694 : BitVec 32 := Scalar.addi v692 v693
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_531 : BitVec 32 := 1#32
  let v695 : BitVec 32 := Scalar.muli v8 c1_i32_531
  let v696 : BitVec 32 := Scalar.addi v694 v695
  v696.toNat
def k0_off41 (d0 : Dev nD) : Fin 3 → Nat :=
  let c4_i32_109 : BitVec 32 := 4#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let v194 : BitVec 32 := Scalar.muli c4_i32_109 v176
  let c2_i32_110 : BitVec 32 := 2#32
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let v195 : BitVec 32 := Scalar.muli c2_i32_110 v177
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.addi v196 v8
  let c0_i32_546 : BitVec 32 := 0#32
  let c0_i32_547 : BitVec 32 := 0#32
  ![v197.toNat, 0, 0]
def k0_dev35 (d0 : Dev nD) : Nat :=
  let c0_i32_541 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let c4_i32_540 : BitVec 32 := 4#32
  let v705 : BitVec 32 := Scalar.muli v176 c4_i32_540
  let v706 : BitVec 32 := Scalar.addi c0_i32_541 v705
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let c2_i32_542 : BitVec 32 := 2#32
  let v707 : BitVec 32 := Scalar.muli v177 c2_i32_542
  let v708 : BitVec 32 := Scalar.addi v706 v707
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_543 : BitVec 32 := 1#32
  let v709 : BitVec 32 := Scalar.muli v8 c1_i32_543
  let v710 : BitVec 32 := Scalar.addi v708 v709
  v710.toNat
def k0_off42 (d0 : Dev nD) : Fin 3 → Nat :=
  let c4_i32_111 : BitVec 32 := 4#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let v198 : BitVec 32 := Scalar.muli c4_i32_111 v176
  let c2_i32_112 : BitVec 32 := 2#32
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let v199 : BitVec 32 := Scalar.muli c2_i32_112 v177
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v201 : BitVec 32 := Scalar.addi v200 v8
  let c0_i32_558 : BitVec 32 := 0#32
  let c0_i32_559 : BitVec 32 := 0#32
  ![v201.toNat, 0, 0]
def k0_dev36 (d0 : Dev nD) : Nat :=
  let c0_i32_553 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v176 : BitVec 32 := Scalar.subi c1_i32_99 v2
  let c4_i32_552 : BitVec 32 := 4#32
  let v719 : BitVec 32 := Scalar.muli v176 c4_i32_552
  let v720 : BitVec 32 := Scalar.addi c0_i32_553 v719
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.subi c1_i32_100 v5
  let c2_i32_554 : BitVec 32 := 2#32
  let v721 : BitVec 32 := Scalar.muli v177 c2_i32_554
  let v722 : BitVec 32 := Scalar.addi v720 v721
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_555 : BitVec 32 := 1#32
  let v723 : BitVec 32 := Scalar.muli v8 c1_i32_555
  let v724 : BitVec 32 := Scalar.addi v722 v723
  v724.toNat
def k0_off43 (d0 : Dev nD) : Fin 3 → Nat :=
  let c4_i32_116 : BitVec 32 := 4#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let v205 : BitVec 32 := Scalar.muli c4_i32_116 v202
  let c2_i32_117 : BitVec 32 := 2#32
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let v206 : BitVec 32 := Scalar.muli c2_i32_117 v203
  let v207 : BitVec 32 := Scalar.addi v205 v206
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let v208 : BitVec 32 := Scalar.addi v207 v204
  let c0_i32_569 : BitVec 32 := 0#32
  let c0_i32_570 : BitVec 32 := 0#32
  ![v208.toNat, 0, 0]
def k0_dev37 (d0 : Dev nD) : Nat :=
  let c0_i32_564 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let c4_i32_563 : BitVec 32 := 4#32
  let v733 : BitVec 32 := Scalar.muli v202 c4_i32_563
  let v734 : BitVec 32 := Scalar.addi c0_i32_564 v733
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let c2_i32_565 : BitVec 32 := 2#32
  let v735 : BitVec 32 := Scalar.muli v203 c2_i32_565
  let v736 : BitVec 32 := Scalar.addi v734 v735
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let c1_i32_566 : BitVec 32 := 1#32
  let v737 : BitVec 32 := Scalar.muli v204 c1_i32_566
  let v738 : BitVec 32 := Scalar.addi v736 v737
  v738.toNat
def k0_off44 (d0 : Dev nD) : Fin 3 → Nat :=
  let c4_i32_118 : BitVec 32 := 4#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let v209 : BitVec 32 := Scalar.muli c4_i32_118 v202
  let c2_i32_119 : BitVec 32 := 2#32
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let v210 : BitVec 32 := Scalar.muli c2_i32_119 v203
  let v211 : BitVec 32 := Scalar.addi v209 v210
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let v212 : BitVec 32 := Scalar.addi v211 v204
  let c0_i32_581 : BitVec 32 := 0#32
  let c0_i32_582 : BitVec 32 := 0#32
  ![v212.toNat, 0, 0]
def k0_dev38 (d0 : Dev nD) : Nat :=
  let c0_i32_576 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let c4_i32_575 : BitVec 32 := 4#32
  let v747 : BitVec 32 := Scalar.muli v202 c4_i32_575
  let v748 : BitVec 32 := Scalar.addi c0_i32_576 v747
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let c2_i32_577 : BitVec 32 := 2#32
  let v749 : BitVec 32 := Scalar.muli v203 c2_i32_577
  let v750 : BitVec 32 := Scalar.addi v748 v749
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let c1_i32_578 : BitVec 32 := 1#32
  let v751 : BitVec 32 := Scalar.muli v204 c1_i32_578
  let v752 : BitVec 32 := Scalar.addi v750 v751
  v752.toNat
def k0_off45 (d0 : Dev nD) : Fin 3 → Nat :=
  let c4_i32_120 : BitVec 32 := 4#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let v213 : BitVec 32 := Scalar.muli c4_i32_120 v202
  let c2_i32_121 : BitVec 32 := 2#32
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let v214 : BitVec 32 := Scalar.muli c2_i32_121 v203
  let v215 : BitVec 32 := Scalar.addi v213 v214
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let v216 : BitVec 32 := Scalar.addi v215 v204
  let c0_i32_593 : BitVec 32 := 0#32
  let c0_i32_594 : BitVec 32 := 0#32
  ![v216.toNat, 0, 0]
def k0_dev39 (d0 : Dev nD) : Nat :=
  let c0_i32_588 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let c4_i32_587 : BitVec 32 := 4#32
  let v761 : BitVec 32 := Scalar.muli v202 c4_i32_587
  let v762 : BitVec 32 := Scalar.addi c0_i32_588 v761
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let c2_i32_589 : BitVec 32 := 2#32
  let v763 : BitVec 32 := Scalar.muli v203 c2_i32_589
  let v764 : BitVec 32 := Scalar.addi v762 v763
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let c1_i32_590 : BitVec 32 := 1#32
  let v765 : BitVec 32 := Scalar.muli v204 c1_i32_590
  let v766 : BitVec 32 := Scalar.addi v764 v765
  v766.toNat
def k0_off46 (d0 : Dev nD) : Fin 3 → Nat :=
  let c4_i32_122 : BitVec 32 := 4#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let v217 : BitVec 32 := Scalar.muli c4_i32_122 v202
  let c2_i32_123 : BitVec 32 := 2#32
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let v218 : BitVec 32 := Scalar.muli c2_i32_123 v203
  let v219 : BitVec 32 := Scalar.addi v217 v218
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let v220 : BitVec 32 := Scalar.addi v219 v204
  let c0_i32_605 : BitVec 32 := 0#32
  let c0_i32_606 : BitVec 32 := 0#32
  ![v220.toNat, 0, 0]
def k0_dev40 (d0 : Dev nD) : Nat :=
  let c0_i32_600 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let c4_i32_599 : BitVec 32 := 4#32
  let v775 : BitVec 32 := Scalar.muli v202 c4_i32_599
  let v776 : BitVec 32 := Scalar.addi c0_i32_600 v775
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let c2_i32_601 : BitVec 32 := 2#32
  let v777 : BitVec 32 := Scalar.muli v203 c2_i32_601
  let v778 : BitVec 32 := Scalar.addi v776 v777
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let c1_i32_602 : BitVec 32 := 1#32
  let v779 : BitVec 32 := Scalar.muli v204 c1_i32_602
  let v780 : BitVec 32 := Scalar.addi v778 v779
  v780.toNat
def k0_off47 (d0 : Dev nD) : Fin 3 → Nat :=
  let c4_i32_124 : BitVec 32 := 4#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let v221 : BitVec 32 := Scalar.muli c4_i32_124 v202
  let c2_i32_125 : BitVec 32 := 2#32
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let v222 : BitVec 32 := Scalar.muli c2_i32_125 v203
  let v223 : BitVec 32 := Scalar.addi v221 v222
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let v224 : BitVec 32 := Scalar.addi v223 v204
  let c0_i32_617 : BitVec 32 := 0#32
  let c0_i32_618 : BitVec 32 := 0#32
  ![v224.toNat, 0, 0]
def k0_dev41 (d0 : Dev nD) : Nat :=
  let c0_i32_612 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let c4_i32_611 : BitVec 32 := 4#32
  let v789 : BitVec 32 := Scalar.muli v202 c4_i32_611
  let v790 : BitVec 32 := Scalar.addi c0_i32_612 v789
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let c2_i32_613 : BitVec 32 := 2#32
  let v791 : BitVec 32 := Scalar.muli v203 c2_i32_613
  let v792 : BitVec 32 := Scalar.addi v790 v791
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let c1_i32_614 : BitVec 32 := 1#32
  let v793 : BitVec 32 := Scalar.muli v204 c1_i32_614
  let v794 : BitVec 32 := Scalar.addi v792 v793
  v794.toNat
def k0_off48 (d0 : Dev nD) : Fin 3 → Nat :=
  let c4_i32_126 : BitVec 32 := 4#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let v225 : BitVec 32 := Scalar.muli c4_i32_126 v202
  let c2_i32_127 : BitVec 32 := 2#32
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let v226 : BitVec 32 := Scalar.muli c2_i32_127 v203
  let v227 : BitVec 32 := Scalar.addi v225 v226
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let v228 : BitVec 32 := Scalar.addi v227 v204
  let c0_i32_629 : BitVec 32 := 0#32
  let c0_i32_630 : BitVec 32 := 0#32
  ![v228.toNat, 0, 0]
def k0_dev42 (d0 : Dev nD) : Nat :=
  let c0_i32_624 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v202 : BitVec 32 := Scalar.subi c1_i32_113 v2
  let c4_i32_623 : BitVec 32 := 4#32
  let v803 : BitVec 32 := Scalar.muli v202 c4_i32_623
  let v804 : BitVec 32 := Scalar.addi c0_i32_624 v803
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.subi c1_i32_114 v5
  let c2_i32_625 : BitVec 32 := 2#32
  let v805 : BitVec 32 := Scalar.muli v203 c2_i32_625
  let v806 : BitVec 32 := Scalar.addi v804 v805
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_115 v8
  let c1_i32_626 : BitVec 32 := 1#32
  let v807 : BitVec 32 := Scalar.muli v204 c1_i32_626
  let v808 : BitVec 32 := Scalar.addi v806 v807
  v808.toNat
-- ==== Reference.lean ====
abbrev S64x1024x449 : Shape := ⟨3, ![64, 1024, 449]⟩
abbrev S64x128x1024 : Shape := ⟨3, ![64, 128, 1024]⟩
abbrev S64x1024x704 : Shape := ⟨3, ![64, 1024, 704]⟩
abbrev S64x352x1024 : Shape := ⟨3, ![64, 352, 1024]⟩
abbrev S64x4x192 : Shape := ⟨3, ![64, 4, 192]⟩
abbrev S64x3x704 : Shape := ⟨3, ![64, 3, 704]⟩
abbrev S8x8x1024x449 : Shape := ⟨4, ![8, 8, 1024, 449]⟩
abbrev S8x8x128x1024 : Shape := ⟨4, ![8, 8, 128, 1024]⟩
abbrev S8x8x1024x704 : Shape := ⟨4, ![8, 8, 1024, 704]⟩
abbrev S8x8x352x1024 : Shape := ⟨4, ![8, 8, 352, 1024]⟩
abbrev S8x8x4x192 : Shape := ⟨4, ![8, 8, 4, 192]⟩
abbrev S8x8x3x704 : Shape := ⟨4, ![8, 8, 3, 704]⟩

abbrev nBuf : Space → Nat
  | .hbm => 24
  | .vmem => 0
  | .smem => 0
  | _ => 0

abbrev bufTy : (tb : Table) → Fin (tcTables nBuf tb) → BufTy
  | .hbm, ⟨0, _⟩ => ⟨S64x1024x449, .bf16⟩
  | .hbm, ⟨1, _⟩ => ⟨S64x128x1024, .bf16⟩
  | .hbm, ⟨2, _⟩ => ⟨S64x1024x704, .bf16⟩
  | .hbm, ⟨3, _⟩ => ⟨S64x352x1024, .bf16⟩
  | .hbm, ⟨4, _⟩ => ⟨S64x4x192, .f32⟩
  | .hbm, ⟨5, _⟩ => ⟨S64x3x704, .f32⟩
  | .hbm, ⟨6, _⟩ => ⟨S8x8x1024x449, .bf16⟩
  | .hbm, ⟨7, _⟩ => ⟨S8x8x1024x449, .bf16⟩
  | .hbm, ⟨8, _⟩ => ⟨S64x1024x449, .bf16⟩
  | .hbm, ⟨9, _⟩ => ⟨S8x8x128x1024, .bf16⟩
  | .hbm, ⟨10, _⟩ => ⟨S8x8x128x1024, .bf16⟩
  | .hbm, ⟨11, _⟩ => ⟨S64x128x1024, .bf16⟩
  | .hbm, ⟨12, _⟩ => ⟨S8x8x1024x704, .bf16⟩
  | .hbm, ⟨13, _⟩ => ⟨S8x8x1024x704, .bf16⟩
  | .hbm, ⟨14, _⟩ => ⟨S64x1024x704, .bf16⟩
  | .hbm, ⟨15, _⟩ => ⟨S8x8x352x1024, .bf16⟩
  | .hbm, ⟨16, _⟩ => ⟨S8x8x352x1024, .bf16⟩
  | .hbm, ⟨17, _⟩ => ⟨S64x352x1024, .bf16⟩
  | .hbm, ⟨18, _⟩ => ⟨S8x8x4x192, .f32⟩
  | .hbm, ⟨19, _⟩ => ⟨S8x8x4x192, .f32⟩
  | .hbm, ⟨20, _⟩ => ⟨S64x4x192, .f32⟩
  | .hbm, ⟨21, _⟩ => ⟨S8x8x3x704, .f32⟩
  | .hbm, ⟨22, _⟩ => ⟨S8x8x3x704, .f32⟩
  | .hbm, ⟨23, _⟩ => ⟨S64x3x704, .f32⟩
  | _, _ => ⟨S64x1024x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Gather.lean ====
abbrev S1024x449 : Shape := ⟨2, ![1024, 449]⟩
abbrev S128x1024 : Shape := ⟨2, ![128, 1024]⟩
abbrev S1024x704 : Shape := ⟨2, ![1024, 704]⟩
abbrev S352x1024 : Shape := ⟨2, ![352, 1024]⟩
abbrev S4x192 : Shape := ⟨2, ![4, 192]⟩
abbrev S3x704 : Shape := ⟨2, ![3, 704]⟩
abbrev S8x1024x449 : Shape := ⟨3, ![8, 1024, 449]⟩
abbrev S8x128x1024 : Shape := ⟨3, ![8, 128, 1024]⟩
abbrev S8x1024x704 : Shape := ⟨3, ![8, 1024, 704]⟩
abbrev S8x352x1024 : Shape := ⟨3, ![8, 352, 1024]⟩
abbrev S8x4x192 : Shape := ⟨3, ![8, 4, 192]⟩
abbrev S8x3x704 : Shape := ⟨3, ![8, 3, 704]⟩
abbrev S6x7 : Shape := ⟨2, ![6, 7]⟩
abbrev S6 : Shape := ⟨1, ![6]⟩
abbrev S1 : Shape := ⟨1, ![1]⟩
abbrev S_ : Shape := ⟨0, ![]⟩
abbrev S1x1024x449 : Shape := ⟨3, ![1, 1024, 449]⟩
abbrev S1x128x1024 : Shape := ⟨3, ![1, 128, 1024]⟩
abbrev S1x1024x704 : Shape := ⟨3, ![1, 1024, 704]⟩
abbrev S1x352x1024 : Shape := ⟨3, ![1, 352, 1024]⟩
abbrev S1x4x192 : Shape := ⟨3, ![1, 4, 192]⟩
abbrev S1x3x704 : Shape := ⟨3, ![1, 3, 704]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x449, .bf16⟩
  | .hbm, ⟨1, _⟩ => ⟨S128x1024, .bf16⟩
  | .hbm, ⟨2, _⟩ => ⟨S1024x704, .bf16⟩
  | .hbm, ⟨3, _⟩ => ⟨S352x1024, .bf16⟩
  | .hbm, ⟨4, _⟩ => ⟨S4x192, .f32⟩
  | .hbm, ⟨5, _⟩ => ⟨S3x704, .f32⟩
  | .hbm, ⟨6, _⟩ => ⟨S8x1024x449, .bf16⟩
  | .hbm, ⟨7, _⟩ => ⟨S8x128x1024, .bf16⟩
  | .hbm, ⟨8, _⟩ => ⟨S8x1024x704, .bf16⟩
  | .hbm, ⟨9, _⟩ => ⟨S8x352x1024, .bf16⟩
  | .hbm, ⟨10, _⟩ => ⟨S8x4x192, .f32⟩
  | .hbm, ⟨11, _⟩ => ⟨S8x3x704, .f32⟩
  | _, _ => ⟨S1024x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_26 : BitVec 32 := 0#32
  let c0_i32_27 : BitVec 32 := 0#32
  ![v25.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_28 : BitVec 32 := 0#32
  let c0_i32_29 : BitVec 32 := 0#32
  ![v29.toNat, 0, 0]
def k0_off5 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_off6 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_33 : BitVec 32 := 0#32
  let c0_i32_34 : BitVec 32 := 0#32
  ![v37.toNat, 0, 0]
def k0_dev1 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v158 : BitVec 32 := Scalar.muli v2 c4_i32_87
  let v159 : BitVec 32 := Scalar.addi c0_i32_88 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v160 : BitVec 32 := Scalar.muli v5 c2_i32_89
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v162 : BitVec 32 := Scalar.muli v9 c1_i32_90
  let v163 : BitVec 32 := Scalar.addi v161 v162
  v163.toNat
def k0_dev2 (d0 : Dev nD) : Nat :=
  let c0_i32_98 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_97 : BitVec 32 := 4#32
  let v170 : BitVec 32 := Scalar.muli v10 c4_i32_97
  let v171 : BitVec 32 := Scalar.addi c0_i32_98 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v172 : BitVec 32 := Scalar.muli v5 c2_i32_99
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v174 : BitVec 32 := Scalar.muli v8 c1_i32_100
  let v175 : BitVec 32 := Scalar.addi v173 v174
  v175.toNat
def k0_dev3 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v182 : BitVec 32 := Scalar.muli v2 c4_i32_107
  let v183 : BitVec 32 := Scalar.addi c0_i32_108 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_109 : BitVec 32 := 2#32
  let v184 : BitVec 32 := Scalar.muli v11 c2_i32_109
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v186 : BitVec 32 := Scalar.muli v8 c1_i32_110
  let v187 : BitVec 32 := Scalar.addi v185 v186
  v187.toNat
def k0_dev4 (d0 : Dev nD) : Nat :=
  let c0_i32_118 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_117 : BitVec 32 := 4#32
  let v194 : BitVec 32 := Scalar.muli v12 c4_i32_117
  let v195 : BitVec 32 := Scalar.addi c0_i32_118 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_119 : BitVec 32 := 2#32
  let v196 : BitVec 32 := Scalar.muli v13 c2_i32_119
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v198 : BitVec 32 := Scalar.muli v8 c1_i32_120
  let v199 : BitVec 32 := Scalar.addi v197 v198
  v199.toNat
def k0_dev5 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v206 : BitVec 32 := Scalar.muli v2 c4_i32_127
  let v207 : BitVec 32 := Scalar.addi c0_i32_128 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v208 : BitVec 32 := Scalar.muli v5 c2_i32_129
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v210 : BitVec 32 := Scalar.muli v9 c1_i32_130
  let v211 : BitVec 32 := Scalar.addi v209 v210
  v211.toNat
def k0_dev6 (d0 : Dev nD) : Nat :=
  let c0_i32_138 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_137 : BitVec 32 := 4#32
  let v218 : BitVec 32 := Scalar.muli v10 c4_i32_137
  let v219 : BitVec 32 := Scalar.addi c0_i32_138 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v220 : BitVec 32 := Scalar.muli v5 c2_i32_139
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v222 : BitVec 32 := Scalar.muli v8 c1_i32_140
  let v223 : BitVec 32 := Scalar.addi v221 v222
  v223.toNat
def k0_dev7 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v230 : BitVec 32 := Scalar.muli v2 c4_i32_147
  let v231 : BitVec 32 := Scalar.addi c0_i32_148 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_149 : BitVec 32 := 2#32
  let v232 : BitVec 32 := Scalar.muli v11 c2_i32_149
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v234 : BitVec 32 := Scalar.muli v8 c1_i32_150
  let v235 : BitVec 32 := Scalar.addi v233 v234
  v235.toNat
def k0_dev8 (d0 : Dev nD) : Nat :=
  let c0_i32_158 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_157 : BitVec 32 := 4#32
  let v242 : BitVec 32 := Scalar.muli v12 c4_i32_157
  let v243 : BitVec 32 := Scalar.addi c0_i32_158 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_159 : BitVec 32 := 2#32
  let v244 : BitVec 32 := Scalar.muli v13 c2_i32_159
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v246 : BitVec 32 := Scalar.muli v8 c1_i32_160
  let v247 : BitVec 32 := Scalar.addi v245 v246
  v247.toNat
def k0_dev9 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v254 : BitVec 32 := Scalar.muli v2 c4_i32_167
  let v255 : BitVec 32 := Scalar.addi c0_i32_168 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v256 : BitVec 32 := Scalar.muli v5 c2_i32_169
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v258 : BitVec 32 := Scalar.muli v9 c1_i32_170
  let v259 : BitVec 32 := Scalar.addi v257 v258
  v259.toNat
def k0_dev10 (d0 : Dev nD) : Nat :=
  let c0_i32_178 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_177 : BitVec 32 := 4#32
  let v266 : BitVec 32 := Scalar.muli v10 c4_i32_177
  let v267 : BitVec 32 := Scalar.addi c0_i32_178 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v268 : BitVec 32 := Scalar.muli v5 c2_i32_179
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v270 : BitVec 32 := Scalar.muli v8 c1_i32_180
  let v271 : BitVec 32 := Scalar.addi v269 v270
  v271.toNat
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v278 : BitVec 32 := Scalar.muli v2 c4_i32_187
  let v279 : BitVec 32 := Scalar.addi c0_i32_188 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_189 : BitVec 32 := 2#32
  let v280 : BitVec 32 := Scalar.muli v11 c2_i32_189
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v282 : BitVec 32 := Scalar.muli v8 c1_i32_190
  let v283 : BitVec 32 := Scalar.addi v281 v282
  v283.toNat
def k0_dev12 (d0 : Dev nD) : Nat :=
  let c0_i32_198 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_197 : BitVec 32 := 4#32
  let v290 : BitVec 32 := Scalar.muli v12 c4_i32_197
  let v291 : BitVec 32 := Scalar.addi c0_i32_198 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_199 : BitVec 32 := 2#32
  let v292 : BitVec 32 := Scalar.muli v13 c2_i32_199
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v294 : BitVec 32 := Scalar.muli v8 c1_i32_200
  let v295 : BitVec 32 := Scalar.addi v293 v294
  v295.toNat
def k0_dev13 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v302 : BitVec 32 := Scalar.muli v2 c4_i32_207
  let v303 : BitVec 32 := Scalar.addi c0_i32_208 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v304 : BitVec 32 := Scalar.muli v5 c2_i32_209
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_210 : BitVec 32 := 1#32
  let v306 : BitVec 32 := Scalar.muli v9 c1_i32_210
  let v307 : BitVec 32 := Scalar.addi v305 v306
  v307.toNat
def k0_dev14 (d0 : Dev nD) : Nat :=
  let c0_i32_218 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_217 : BitVec 32 := 4#32
  let v314 : BitVec 32 := Scalar.muli v10 c4_i32_217
  let v315 : BitVec 32 := Scalar.addi c0_i32_218 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v316 : BitVec 32 := Scalar.muli v5 c2_i32_219
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v318 : BitVec 32 := Scalar.muli v8 c1_i32_220
  let v319 : BitVec 32 := Scalar.addi v317 v318
  v319.toNat
def k0_dev15 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v326 : BitVec 32 := Scalar.muli v2 c4_i32_227
  let v327 : BitVec 32 := Scalar.addi c0_i32_228 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_229 : BitVec 32 := 2#32
  let v328 : BitVec 32 := Scalar.muli v11 c2_i32_229
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v330 : BitVec 32 := Scalar.muli v8 c1_i32_230
  let v331 : BitVec 32 := Scalar.addi v329 v330
  v331.toNat
def k0_dev16 (d0 : Dev nD) : Nat :=
  let c0_i32_238 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_237 : BitVec 32 := 4#32
  let v338 : BitVec 32 := Scalar.muli v12 c4_i32_237
  let v339 : BitVec 32 := Scalar.addi c0_i32_238 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_239 : BitVec 32 := 2#32
  let v340 : BitVec 32 := Scalar.muli v13 c2_i32_239
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v342 : BitVec 32 := Scalar.muli v8 c1_i32_240
  let v343 : BitVec 32 := Scalar.addi v341 v342
  v343.toNat
def k0_dev17 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v350 : BitVec 32 := Scalar.muli v2 c4_i32_247
  let v351 : BitVec 32 := Scalar.addi c0_i32_248 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v352 : BitVec 32 := Scalar.muli v5 c2_i32_249
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v354 : BitVec 32 := Scalar.muli v9 c1_i32_250
  let v355 : BitVec 32 := Scalar.addi v353 v354
  v355.toNat
def k0_dev18 (d0 : Dev nD) : Nat :=
  let c0_i32_258 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_257 : BitVec 32 := 4#32
  let v362 : BitVec 32 := Scalar.muli v10 c4_i32_257
  let v363 : BitVec 32 := Scalar.addi c0_i32_258 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v364 : BitVec 32 := Scalar.muli v5 c2_i32_259
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v366 : BitVec 32 := Scalar.muli v8 c1_i32_260
  let v367 : BitVec 32 := Scalar.addi v365 v366
  v367.toNat
def k0_dev19 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v374 : BitVec 32 := Scalar.muli v2 c4_i32_267
  let v375 : BitVec 32 := Scalar.addi c0_i32_268 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_269 : BitVec 32 := 2#32
  let v376 : BitVec 32 := Scalar.muli v11 c2_i32_269
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v378 : BitVec 32 := Scalar.muli v8 c1_i32_270
  let v379 : BitVec 32 := Scalar.addi v377 v378
  v379.toNat
def k0_dev20 (d0 : Dev nD) : Nat :=
  let c0_i32_278 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_277 : BitVec 32 := 4#32
  let v386 : BitVec 32 := Scalar.muli v12 c4_i32_277
  let v387 : BitVec 32 := Scalar.addi c0_i32_278 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_279 : BitVec 32 := 2#32
  let v388 : BitVec 32 := Scalar.muli v13 c2_i32_279
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v390 : BitVec 32 := Scalar.muli v8 c1_i32_280
  let v391 : BitVec 32 := Scalar.addi v389 v390
  v391.toNat
def k0_dev21 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v398 : BitVec 32 := Scalar.muli v2 c4_i32_287
  let v399 : BitVec 32 := Scalar.addi c0_i32_288 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v400 : BitVec 32 := Scalar.muli v5 c2_i32_289
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v402 : BitVec 32 := Scalar.muli v9 c1_i32_290
  let v403 : BitVec 32 := Scalar.addi v401 v402
  v403.toNat
def k0_dev22 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v410 : BitVec 32 := Scalar.muli v10 c4_i32_297
  let v411 : BitVec 32 := Scalar.addi c0_i32_298 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v412 : BitVec 32 := Scalar.muli v5 c2_i32_299
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v414 : BitVec 32 := Scalar.muli v8 c1_i32_300
  let v415 : BitVec 32 := Scalar.addi v413 v414
  v415.toNat
def k0_dev23 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v422 : BitVec 32 := Scalar.muli v2 c4_i32_307
  let v423 : BitVec 32 := Scalar.addi c0_i32_308 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_309 : BitVec 32 := 2#32
  let v424 : BitVec 32 := Scalar.muli v11 c2_i32_309
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v426 : BitVec 32 := Scalar.muli v8 c1_i32_310
  let v427 : BitVec 32 := Scalar.addi v425 v426
  v427.toNat
def k0_dev24 (d0 : Dev nD) : Nat :=
  let c0_i32_318 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_317 : BitVec 32 := 4#32
  let v434 : BitVec 32 := Scalar.muli v12 c4_i32_317
  let v435 : BitVec 32 := Scalar.addi c0_i32_318 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_319 : BitVec 32 := 2#32
  let v436 : BitVec 32 := Scalar.muli v13 c2_i32_319
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v438 : BitVec 32 := Scalar.muli v8 c1_i32_320
  let v439 : BitVec 32 := Scalar.addi v437 v438
  v439.toNat
def k0_off7 (d0 : Dev nD) : Fin 3 → Nat :=
  let c4_i32_323 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v446 : BitVec 32 := Scalar.muli c4_i32_323 v10
  let c2_i32_324 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v447 : BitVec 32 := Scalar.muli c2_i32_324 v5
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v449 : BitVec 32 := Scalar.addi v448 v8
  let c0_i32_333 : BitVec 32 := 0#32
  let c0_i32_334 : BitVec 32 := 0#32
  ![v449.toNat, 0, 0]
def k0_dev25 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v466 : BitVec 32 := Scalar.muli v2 c4_i32_343
  let v467 : BitVec 32 := Scalar.addi c0_i32_344 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v468 : BitVec 32 := Scalar.muli v5 c2_i32_345
  let v469 : BitVec 32 := Scalar.addi v467 v468
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_346 : BitVec 32 := 1#32
  let v470 : BitVec 32 := Scalar.muli v9 c1_i32_346
  let v471 : BitVec 32 := Scalar.addi v469 v470
  v471.toNat
def k0_off8 (d0 : Dev nD) : Fin 3 → Nat :=
  let c4_i32_351 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v480 : BitVec 32 := Scalar.muli c4_i32_351 v10
  let c2_i32_352 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.muli c2_i32_352 v5
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v483 : BitVec 32 := Scalar.addi v482 v8
  let c0_i32_361 : BitVec 32 := 0#32
  let c0_i32_362 : BitVec 32 := 0#32
  ![v483.toNat, 0, 0]
def k0_dev26 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v500 : BitVec 32 := Scalar.muli v2 c4_i32_371
  let v501 : BitVec 32 := Scalar.addi c0_i32_372 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v502 : BitVec 32 := Scalar.muli v5 c2_i32_373
  let v503 : BitVec 32 := Scalar.addi v501 v502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_374 : BitVec 32 := 1#32
  let v504 : BitVec 32 := Scalar.muli v9 c1_i32_374
  let v505 : BitVec 32 := Scalar.addi v503 v504
  v505.toNat
def k0_off9 (d0 : Dev nD) : Fin 3 → Nat :=
  let c4_i32_379 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v514 : BitVec 32 := Scalar.muli c4_i32_379 v10
  let c2_i32_380 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v515 : BitVec 32 := Scalar.muli c2_i32_380 v5
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v517 : BitVec 32 := Scalar.addi v516 v8
  let c0_i32_389 : BitVec 32 := 0#32
  let c0_i32_390 : BitVec 32 := 0#32
  ![v517.toNat, 0, 0]
def k0_dev27 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v534 : BitVec 32 := Scalar.muli v2 c4_i32_399
  let v535 : BitVec 32 := Scalar.addi c0_i32_400 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v536 : BitVec 32 := Scalar.muli v5 c2_i32_401
  let v537 : BitVec 32 := Scalar.addi v535 v536
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_402 : BitVec 32 := 1#32
  let v538 : BitVec 32 := Scalar.muli v9 c1_i32_402
  let v539 : BitVec 32 := Scalar.addi v537 v538
  v539.toNat
def k0_off10 (d0 : Dev nD) : Fin 3 → Nat :=
  let c4_i32_407 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v548 : BitVec 32 := Scalar.muli c4_i32_407 v10
  let c2_i32_408 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.muli c2_i32_408 v5
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v551 : BitVec 32 := Scalar.addi v550 v8
  let c0_i32_417 : BitVec 32 := 0#32
  let c0_i32_418 : BitVec 32 := 0#32
  ![v551.toNat, 0, 0]
def k0_dev28 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v568 : BitVec 32 := Scalar.muli v2 c4_i32_427
  let v569 : BitVec 32 := Scalar.addi c0_i32_428 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v570 : BitVec 32 := Scalar.muli v5 c2_i32_429
  let v571 : BitVec 32 := Scalar.addi v569 v570
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_430 : BitVec 32 := 1#32
  let v572 : BitVec 32 := Scalar.muli v9 c1_i32_430
  let v573 : BitVec 32 := Scalar.addi v571 v572
  v573.toNat
def k0_off11 (d0 : Dev nD) : Fin 3 → Nat :=
  let c4_i32_435 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v582 : BitVec 32 := Scalar.muli c4_i32_435 v10
  let c2_i32_436 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v583 : BitVec 32 := Scalar.muli c2_i32_436 v5
  let v584 : BitVec 32 := Scalar.addi v582 v583
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v585 : BitVec 32 := Scalar.addi v584 v8
  let c0_i32_445 : BitVec 32 := 0#32
  let c0_i32_446 : BitVec 32 := 0#32
  ![v585.toNat, 0, 0]
def k0_dev29 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v602 : BitVec 32 := Scalar.muli v2 c4_i32_455
  let v603 : BitVec 32 := Scalar.addi c0_i32_456 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v604 : BitVec 32 := Scalar.muli v5 c2_i32_457
  let v605 : BitVec 32 := Scalar.addi v603 v604
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_458 : BitVec 32 := 1#32
  let v606 : BitVec 32 := Scalar.muli v9 c1_i32_458
  let v607 : BitVec 32 := Scalar.addi v605 v606
  v607.toNat
def k0_off12 (d0 : Dev nD) : Fin 3 → Nat :=
  let c4_i32_463 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v616 : BitVec 32 := Scalar.muli c4_i32_463 v10
  let c2_i32_464 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v617 : BitVec 32 := Scalar.muli c2_i32_464 v5
  let v618 : BitVec 32 := Scalar.addi v616 v617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v619 : BitVec 32 := Scalar.addi v618 v8
  let c0_i32_473 : BitVec 32 := 0#32
  let c0_i32_474 : BitVec 32 := 0#32
  ![v619.toNat, 0, 0]
def k0_dev30 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v636 : BitVec 32 := Scalar.muli v2 c4_i32_483
  let v637 : BitVec 32 := Scalar.addi c0_i32_484 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v638 : BitVec 32 := Scalar.muli v5 c2_i32_485
  let v639 : BitVec 32 := Scalar.addi v637 v638
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_486 : BitVec 32 := 1#32
  let v640 : BitVec 32 := Scalar.muli v9 c1_i32_486
  let v641 : BitVec 32 := Scalar.addi v639 v640
  v641.toNat
def k0_off13 (d0 : Dev nD) : Fin 3 → Nat :=
  let c4_i32_491 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v650 : BitVec 32 := Scalar.muli c4_i32_491 v2
  let c2_i32_492 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v651 : BitVec 32 := Scalar.muli c2_i32_492 v11
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.addi v652 v8
  let c0_i32_501 : BitVec 32 := 0#32
  let c0_i32_502 : BitVec 32 := 0#32
  ![v653.toNat, 0, 0]
def k0_dev31 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v670 : BitVec 32 := Scalar.muli v2 c4_i32_511
  let v671 : BitVec 32 := Scalar.addi c0_i32_512 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v672 : BitVec 32 := Scalar.muli v5 c2_i32_513
  let v673 : BitVec 32 := Scalar.addi v671 v672
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_514 : BitVec 32 := 1#32
  let v674 : BitVec 32 := Scalar.muli v9 c1_i32_514
  let v675 : BitVec 32 := Scalar.addi v673 v674
  v675.toNat
def k0_off14 (d0 : Dev nD) : Fin 3 → Nat :=
  let c4_i32_519 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v684 : BitVec 32 := Scalar.muli c4_i32_519 v2
  let c2_i32_520 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v685 : BitVec 32 := Scalar.muli c2_i32_520 v11
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v687 : BitVec 32 := Scalar.addi v686 v8
  let c0_i32_529 : BitVec 32 := 0#32
  let c0_i32_530 : BitVec 32 := 0#32
  ![v687.toNat, 0, 0]
def k0_dev32 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v704 : BitVec 32 := Scalar.muli v2 c4_i32_539
  let v705 : BitVec 32 := Scalar.addi c0_i32_540 v704
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v706 : BitVec 32 := Scalar.muli v5 c2_i32_541
  let v707 : BitVec 32 := Scalar.addi v705 v706
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_542 : BitVec 32 := 1#32
  let v708 : BitVec 32 := Scalar.muli v9 c1_i32_542
  let v709 : BitVec 32 := Scalar.addi v707 v708
  v709.toNat
def k0_off15 (d0 : Dev nD) : Fin 3 → Nat :=
  let c4_i32_547 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v718 : BitVec 32 := Scalar.muli c4_i32_547 v2
  let c2_i32_548 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v719 : BitVec 32 := Scalar.muli c2_i32_548 v11
  let v720 : BitVec 32 := Scalar.addi v718 v719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v721 : BitVec 32 := Scalar.addi v720 v8
  let c0_i32_557 : BitVec 32 := 0#32
  let c0_i32_558 : BitVec 32 := 0#32
  ![v721.toNat, 0, 0]
def k0_dev33 (d0 : Dev nD) : Nat :=
  let c0_i32_568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_567 : BitVec 32 := 4#32
  let v738 : BitVec 32 := Scalar.muli v2 c4_i32_567
  let v739 : BitVec 32 := Scalar.addi c0_i32_568 v738
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v740 : BitVec 32 := Scalar.muli v5 c2_i32_569
  let v741 : BitVec 32 := Scalar.addi v739 v740
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_570 : BitVec 32 := 1#32
  let v742 : BitVec 32 := Scalar.muli v9 c1_i32_570
  let v743 : BitVec 32 := Scalar.addi v741 v742
  v743.toNat
def k0_off16 (d0 : Dev nD) : Fin 3 → Nat :=
  let c4_i32_575 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v752 : BitVec 32 := Scalar.muli c4_i32_575 v2
  let c2_i32_576 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v753 : BitVec 32 := Scalar.muli c2_i32_576 v11
  let v754 : BitVec 32 := Scalar.addi v752 v753
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v755 : BitVec 32 := Scalar.addi v754 v8
  let c0_i32_585 : BitVec 32 := 0#32
  let c0_i32_586 : BitVec 32 := 0#32
  ![v755.toNat, 0, 0]
def k0_dev34 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v772 : BitVec 32 := Scalar.muli v2 c4_i32_595
  let v773 : BitVec 32 := Scalar.addi c0_i32_596 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_597 : BitVec 32 := 2#32
  let v774 : BitVec 32 := Scalar.muli v5 c2_i32_597
  let v775 : BitVec 32 := Scalar.addi v773 v774
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_598 : BitVec 32 := 1#32
  let v776 : BitVec 32 := Scalar.muli v9 c1_i32_598
  let v777 : BitVec 32 := Scalar.addi v775 v776
  v777.toNat
def k0_off17 (d0 : Dev nD) : Fin 3 → Nat :=
  let c4_i32_603 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v786 : BitVec 32 := Scalar.muli c4_i32_603 v2
  let c2_i32_604 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v787 : BitVec 32 := Scalar.muli c2_i32_604 v11
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v789 : BitVec 32 := Scalar.addi v788 v8
  let c0_i32_613 : BitVec 32 := 0#32
  let c0_i32_614 : BitVec 32 := 0#32
  ![v789.toNat, 0, 0]
def k0_dev35 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v806 : BitVec 32 := Scalar.muli v2 c4_i32_623
  let v807 : BitVec 32 := Scalar.addi c0_i32_624 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v808 : BitVec 32 := Scalar.muli v5 c2_i32_625
  let v809 : BitVec 32 := Scalar.addi v807 v808
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_626 : BitVec 32 := 1#32
  let v810 : BitVec 32 := Scalar.muli v9 c1_i32_626
  let v811 : BitVec 32 := Scalar.addi v809 v810
  v811.toNat
def k0_off18 (d0 : Dev nD) : Fin 3 → Nat :=
  let c4_i32_631 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v820 : BitVec 32 := Scalar.muli c4_i32_631 v2
  let c2_i32_632 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v821 : BitVec 32 := Scalar.muli c2_i32_632 v11
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v823 : BitVec 32 := Scalar.addi v822 v8
  let c0_i32_641 : BitVec 32 := 0#32
  let c0_i32_642 : BitVec 32 := 0#32
  ![v823.toNat, 0, 0]
def k0_dev36 (d0 : Dev nD) : Nat :=
  let c0_i32_652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_651 : BitVec 32 := 4#32
  let v840 : BitVec 32 := Scalar.muli v2 c4_i32_651
  let v841 : BitVec 32 := Scalar.addi c0_i32_652 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_653 : BitVec 32 := 2#32
  let v842 : BitVec 32 := Scalar.muli v5 c2_i32_653
  let v843 : BitVec 32 := Scalar.addi v841 v842
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_654 : BitVec 32 := 1#32
  let v844 : BitVec 32 := Scalar.muli v9 c1_i32_654
  let v845 : BitVec 32 := Scalar.addi v843 v844
  v845.toNat
def k0_off19 (d0 : Dev nD) : Fin 3 → Nat :=
  let c4_i32_659 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v854 : BitVec 32 := Scalar.muli c4_i32_659 v12
  let c2_i32_660 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v855 : BitVec 32 := Scalar.muli c2_i32_660 v13
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v857 : BitVec 32 := Scalar.addi v856 v8
  let c0_i32_669 : BitVec 32 := 0#32
  let c0_i32_670 : BitVec 32 := 0#32
  ![v857.toNat, 0, 0]
def k0_dev37 (d0 : Dev nD) : Nat :=
  let c0_i32_679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_678 : BitVec 32 := 4#32
  let v874 : BitVec 32 := Scalar.muli v2 c4_i32_678
  let v875 : BitVec 32 := Scalar.addi c0_i32_679 v874
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_680 : BitVec 32 := 2#32
  let v876 : BitVec 32 := Scalar.muli v5 c2_i32_680
  let v877 : BitVec 32 := Scalar.addi v875 v876
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_681 : BitVec 32 := 1#32
  let v878 : BitVec 32 := Scalar.muli v9 c1_i32_681
  let v879 : BitVec 32 := Scalar.addi v877 v878
  v879.toNat
def k0_off20 (d0 : Dev nD) : Fin 3 → Nat :=
  let c4_i32_686 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v888 : BitVec 32 := Scalar.muli c4_i32_686 v12
  let c2_i32_687 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v889 : BitVec 32 := Scalar.muli c2_i32_687 v13
  let v890 : BitVec 32 := Scalar.addi v888 v889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v891 : BitVec 32 := Scalar.addi v890 v8
  let c0_i32_696 : BitVec 32 := 0#32
  let c0_i32_697 : BitVec 32 := 0#32
  ![v891.toNat, 0, 0]
def k0_dev38 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v908 : BitVec 32 := Scalar.muli v2 c4_i32_706
  let v909 : BitVec 32 := Scalar.addi c0_i32_707 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v910 : BitVec 32 := Scalar.muli v5 c2_i32_708
  let v911 : BitVec 32 := Scalar.addi v909 v910
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_709 : BitVec 32 := 1#32
  let v912 : BitVec 32 := Scalar.muli v9 c1_i32_709
  let v913 : BitVec 32 := Scalar.addi v911 v912
  v913.toNat
def k0_off21 (d0 : Dev nD) : Fin 3 → Nat :=
  let c4_i32_714 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v922 : BitVec 32 := Scalar.muli c4_i32_714 v12
  let c2_i32_715 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v923 : BitVec 32 := Scalar.muli c2_i32_715 v13
  let v924 : BitVec 32 := Scalar.addi v922 v923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v925 : BitVec 32 := Scalar.addi v924 v8
  let c0_i32_724 : BitVec 32 := 0#32
  let c0_i32_725 : BitVec 32 := 0#32
  ![v925.toNat, 0, 0]
def k0_dev39 (d0 : Dev nD) : Nat :=
  let c0_i32_735 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_734 : BitVec 32 := 4#32
  let v942 : BitVec 32 := Scalar.muli v2 c4_i32_734
  let v943 : BitVec 32 := Scalar.addi c0_i32_735 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_736 : BitVec 32 := 2#32
  let v944 : BitVec 32 := Scalar.muli v5 c2_i32_736
  let v945 : BitVec 32 := Scalar.addi v943 v944
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_737 : BitVec 32 := 1#32
  let v946 : BitVec 32 := Scalar.muli v9 c1_i32_737
  let v947 : BitVec 32 := Scalar.addi v945 v946
  v947.toNat
def k0_off22 (d0 : Dev nD) : Fin 3 → Nat :=
  let c4_i32_742 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v956 : BitVec 32 := Scalar.muli c4_i32_742 v12
  let c2_i32_743 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v957 : BitVec 32 := Scalar.muli c2_i32_743 v13
  let v958 : BitVec 32 := Scalar.addi v956 v957
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v959 : BitVec 32 := Scalar.addi v958 v8
  let c0_i32_752 : BitVec 32 := 0#32
  let c0_i32_753 : BitVec 32 := 0#32
  ![v959.toNat, 0, 0]
def k0_dev40 (d0 : Dev nD) : Nat :=
  let c0_i32_763 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_762 : BitVec 32 := 4#32
  let v976 : BitVec 32 := Scalar.muli v2 c4_i32_762
  let v977 : BitVec 32 := Scalar.addi c0_i32_763 v976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_764 : BitVec 32 := 2#32
  let v978 : BitVec 32 := Scalar.muli v5 c2_i32_764
  let v979 : BitVec 32 := Scalar.addi v977 v978
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_765 : BitVec 32 := 1#32
  let v980 : BitVec 32 := Scalar.muli v9 c1_i32_765
  let v981 : BitVec 32 := Scalar.addi v979 v980
  v981.toNat
def k0_off23 (d0 : Dev nD) : Fin 3 → Nat :=
  let c4_i32_770 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v990 : BitVec 32 := Scalar.muli c4_i32_770 v12
  let c2_i32_771 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v991 : BitVec 32 := Scalar.muli c2_i32_771 v13
  let v992 : BitVec 32 := Scalar.addi v990 v991
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v993 : BitVec 32 := Scalar.addi v992 v8
  let c0_i32_780 : BitVec 32 := 0#32
  let c0_i32_781 : BitVec 32 := 0#32
  ![v993.toNat, 0, 0]
def k0_dev41 (d0 : Dev nD) : Nat :=
  let c0_i32_791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_790 : BitVec 32 := 4#32
  let v1010 : BitVec 32 := Scalar.muli v2 c4_i32_790
  let v1011 : BitVec 32 := Scalar.addi c0_i32_791 v1010
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_792 : BitVec 32 := 2#32
  let v1012 : BitVec 32 := Scalar.muli v5 c2_i32_792
  let v1013 : BitVec 32 := Scalar.addi v1011 v1012
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_793 : BitVec 32 := 1#32
  let v1014 : BitVec 32 := Scalar.muli v9 c1_i32_793
  let v1015 : BitVec 32 := Scalar.addi v1013 v1014
  v1015.toNat
def k0_off24 (d0 : Dev nD) : Fin 3 → Nat :=
  let c4_i32_798 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1024 : BitVec 32 := Scalar.muli c4_i32_798 v12
  let c2_i32_799 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1025 : BitVec 32 := Scalar.muli c2_i32_799 v13
  let v1026 : BitVec 32 := Scalar.addi v1024 v1025
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.addi v1026 v8
  let c0_i32_808 : BitVec 32 := 0#32
  let c0_i32_809 : BitVec 32 := 0#32
  ![v1027.toNat, 0, 0]
def k0_dev42 (d0 : Dev nD) : Nat :=
  let c0_i32_819 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_818 : BitVec 32 := 4#32
  let v1044 : BitVec 32 := Scalar.muli v2 c4_i32_818
  let v1045 : BitVec 32 := Scalar.addi c0_i32_819 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_820 : BitVec 32 := 2#32
  let v1046 : BitVec 32 := Scalar.muli v5 c2_i32_820
  let v1047 : BitVec 32 := Scalar.addi v1045 v1046
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_821 : BitVec 32 := 1#32
  let v1048 : BitVec 32 := Scalar.muli v9 c1_i32_821
  let v1049 : BitVec 32 := Scalar.addi v1047 v1048
  v1049.toNat
def k0_off25 (d0 : Dev nD) : Fin 3 → Nat :=
  let c4_i32_826 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1058 : BitVec 32 := Scalar.muli c4_i32_826 v2
  let c2_i32_827 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1059 : BitVec 32 := Scalar.muli c2_i32_827 v5
  let v1060 : BitVec 32 := Scalar.addi v1058 v1059
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1061 : BitVec 32 := Scalar.addi v1060 v9
  let c0_i32_836 : BitVec 32 := 0#32
  let c0_i32_837 : BitVec 32 := 0#32
  ![v1061.toNat, 0, 0]
def k0_off26 (d0 : Dev nD) : Fin 3 → Nat :=
  let c4_i32_841 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1075 : BitVec 32 := Scalar.muli c4_i32_841 v10
  let c2_i32_842 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1076 : BitVec 32 := Scalar.muli c2_i32_842 v5
  let v1077 : BitVec 32 := Scalar.addi v1075 v1076
  let c1_i32_840 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1074 : BitVec 32 := Scalar.subi c1_i32_840 v8
  let v1078 : BitVec 32 := Scalar.addi v1077 v1074
  let c0_i32_851 : BitVec 32 := 0#32
  let c0_i32_852 : BitVec 32 := 0#32
  ![v1078.toNat, 0, 0]
def k0_off27 (d0 : Dev nD) : Fin 3 → Nat :=
  let c4_i32_856 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1092 : BitVec 32 := Scalar.muli c4_i32_856 v2
  let c2_i32_857 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1093 : BitVec 32 := Scalar.muli c2_i32_857 v11
  let v1094 : BitVec 32 := Scalar.addi v1092 v1093
  let c1_i32_855 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1091 : BitVec 32 := Scalar.subi c1_i32_855 v8
  let v1095 : BitVec 32 := Scalar.addi v1094 v1091
  let c0_i32_866 : BitVec 32 := 0#32
  let c0_i32_867 : BitVec 32 := 0#32
  ![v1095.toNat, 0, 0]
def k0_off28 (d0 : Dev nD) : Fin 3 → Nat :=
  let c4_i32_871 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1109 : BitVec 32 := Scalar.muli c4_i32_871 v12
  let c2_i32_872 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1110 : BitVec 32 := Scalar.muli c2_i32_872 v13
  let v1111 : BitVec 32 := Scalar.addi v1109 v1110
  let c1_i32_870 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1108 : BitVec 32 := Scalar.subi c1_i32_870 v8
  let v1112 : BitVec 32 := Scalar.addi v1111 v1108
  let c0_i32_881 : BitVec 32 := 0#32
  let c0_i32_882 : BitVec 32 := 0#32
  ![v1112.toNat, 0, 0]
def k0_off29 (d0 : Dev nD) : Fin 3 → Nat :=
  let c4_i32_885 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1125 : BitVec 32 := Scalar.muli c4_i32_885 v2
  let c2_i32_886 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1126 : BitVec 32 := Scalar.muli c2_i32_886 v5
  let v1127 : BitVec 32 := Scalar.addi v1125 v1126
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1128 : BitVec 32 := Scalar.addi v1127 v9
  let c0_i32_895 : BitVec 32 := 0#32
  let c0_i32_896 : BitVec 32 := 0#32
  ![v1128.toNat, 0, 0]
def k0_off30 (d0 : Dev nD) : Fin 3 → Nat :=
  let c4_i32_900 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1142 : BitVec 32 := Scalar.muli c4_i32_900 v10
  let c2_i32_901 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1143 : BitVec 32 := Scalar.muli c2_i32_901 v5
  let v1144 : BitVec 32 := Scalar.addi v1142 v1143
  let c1_i32_899 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1141 : BitVec 32 := Scalar.subi c1_i32_899 v8
  let v1145 : BitVec 32 := Scalar.addi v1144 v1141
  let c0_i32_910 : BitVec 32 := 0#32
  let c0_i32_911 : BitVec 32 := 0#32
  ![v1145.toNat, 0, 0]
def k0_off31 (d0 : Dev nD) : Fin 3 → Nat :=
  let c4_i32_915 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1159 : BitVec 32 := Scalar.muli c4_i32_915 v2
  let c2_i32_916 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1160 : BitVec 32 := Scalar.muli c2_i32_916 v11
  let v1161 : BitVec 32 := Scalar.addi v1159 v1160
  let c1_i32_914 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1158 : BitVec 32 := Scalar.subi c1_i32_914 v8
  let v1162 : BitVec 32 := Scalar.addi v1161 v1158
  let c0_i32_925 : BitVec 32 := 0#32
  let c0_i32_926 : BitVec 32 := 0#32
  ![v1162.toNat, 0, 0]
def k0_off32 (d0 : Dev nD) : Fin 3 → Nat :=
  let c4_i32_930 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1176 : BitVec 32 := Scalar.muli c4_i32_930 v12
  let c2_i32_931 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1177 : BitVec 32 := Scalar.muli c2_i32_931 v13
  let v1178 : BitVec 32 := Scalar.addi v1176 v1177
  let c1_i32_929 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1175 : BitVec 32 := Scalar.subi c1_i32_929 v8
  let v1179 : BitVec 32 := Scalar.addi v1178 v1175
  let c0_i32_940 : BitVec 32 := 0#32
  let c0_i32_941 : BitVec 32 := 0#32
  ![v1179.toNat, 0, 0]
def k0_off33 (d0 : Dev nD) : Fin 3 → Nat :=
  let c4_i32_944 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1192 : BitVec 32 := Scalar.muli c4_i32_944 v2
  let c2_i32_945 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1193 : BitVec 32 := Scalar.muli c2_i32_945 v5
  let v1194 : BitVec 32 := Scalar.addi v1192 v1193
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1195 : BitVec 32 := Scalar.addi v1194 v9
  let c0_i32_954 : BitVec 32 := 0#32
  let c0_i32_955 : BitVec 32 := 0#32
  ![v1195.toNat, 0, 0]
def k0_off34 (d0 : Dev nD) : Fin 3 → Nat :=
  let c4_i32_959 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1209 : BitVec 32 := Scalar.muli c4_i32_959 v10
  let c2_i32_960 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1210 : BitVec 32 := Scalar.muli c2_i32_960 v5
  let v1211 : BitVec 32 := Scalar.addi v1209 v1210
  let c1_i32_958 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1208 : BitVec 32 := Scalar.subi c1_i32_958 v8
  let v1212 : BitVec 32 := Scalar.addi v1211 v1208
  let c0_i32_969 : BitVec 32 := 0#32
  let c0_i32_970 : BitVec 32 := 0#32
  ![v1212.toNat, 0, 0]
def k0_off35 (d0 : Dev nD) : Fin 3 → Nat :=
  let c4_i32_974 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1226 : BitVec 32 := Scalar.muli c4_i32_974 v2
  let c2_i32_975 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1227 : BitVec 32 := Scalar.muli c2_i32_975 v11
  let v1228 : BitVec 32 := Scalar.addi v1226 v1227
  let c1_i32_973 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_973 v8
  let v1229 : BitVec 32 := Scalar.addi v1228 v1225
  let c0_i32_984 : BitVec 32 := 0#32
  let c0_i32_985 : BitVec 32 := 0#32
  ![v1229.toNat, 0, 0]
def k0_off36 (d0 : Dev nD) : Fin 3 → Nat :=
  let c4_i32_989 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1243 : BitVec 32 := Scalar.muli c4_i32_989 v12
  let c2_i32_990 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1244 : BitVec 32 := Scalar.muli c2_i32_990 v13
  let v1245 : BitVec 32 := Scalar.addi v1243 v1244
  let c1_i32_988 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1242 : BitVec 32 := Scalar.subi c1_i32_988 v8
  let v1246 : BitVec 32 := Scalar.addi v1245 v1242
  let c0_i32_999 : BitVec 32 := 0#32
  let c0_i32_1000 : BitVec 32 := 0#32
  ![v1246.toNat, 0, 0]
def k0_off37 (d0 : Dev nD) : Fin 3 → Nat :=
  let c4_i32_1003 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1259 : BitVec 32 := Scalar.muli c4_i32_1003 v2
  let c2_i32_1004 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1260 : BitVec 32 := Scalar.muli c2_i32_1004 v5
  let v1261 : BitVec 32 := Scalar.addi v1259 v1260
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1262 : BitVec 32 := Scalar.addi v1261 v9
  let c0_i32_1013 : BitVec 32 := 0#32
  let c0_i32_1014 : BitVec 32 := 0#32
  ![v1262.toNat, 0, 0]
def k0_off38 (d0 : Dev nD) : Fin 3 → Nat :=
  let c4_i32_1018 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1276 : BitVec 32 := Scalar.muli c4_i32_1018 v10
  let c2_i32_1019 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1277 : BitVec 32 := Scalar.muli c2_i32_1019 v5
  let v1278 : BitVec 32 := Scalar.addi v1276 v1277
  let c1_i32_1017 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1275 : BitVec 32 := Scalar.subi c1_i32_1017 v8
  let v1279 : BitVec 32 := Scalar.addi v1278 v1275
  let c0_i32_1028 : BitVec 32 := 0#32
  let c0_i32_1029 : BitVec 32 := 0#32
  ![v1279.toNat, 0, 0]
def k0_off39 (d0 : Dev nD) : Fin 3 → Nat :=
  let c4_i32_1033 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1293 : BitVec 32 := Scalar.muli c4_i32_1033 v2
  let c2_i32_1034 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1294 : BitVec 32 := Scalar.muli c2_i32_1034 v11
  let v1295 : BitVec 32 := Scalar.addi v1293 v1294
  let c1_i32_1032 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1292 : BitVec 32 := Scalar.subi c1_i32_1032 v8
  let v1296 : BitVec 32 := Scalar.addi v1295 v1292
  let c0_i32_1043 : BitVec 32 := 0#32
  let c0_i32_1044 : BitVec 32 := 0#32
  ![v1296.toNat, 0, 0]
def k0_off40 (d0 : Dev nD) : Fin 3 → Nat :=
  let c4_i32_1048 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1310 : BitVec 32 := Scalar.muli c4_i32_1048 v12
  let c2_i32_1049 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1311 : BitVec 32 := Scalar.muli c2_i32_1049 v13
  let v1312 : BitVec 32 := Scalar.addi v1310 v1311
  let c1_i32_1047 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1309 : BitVec 32 := Scalar.subi c1_i32_1047 v8
  let v1313 : BitVec 32 := Scalar.addi v1312 v1309
  let c0_i32_1058 : BitVec 32 := 0#32
  let c0_i32_1059 : BitVec 32 := 0#32
  ![v1313.toNat, 0, 0]
def k0_off41 (d0 : Dev nD) : Fin 3 → Nat :=
  let c4_i32_1062 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1326 : BitVec 32 := Scalar.muli c4_i32_1062 v2
  let c2_i32_1063 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1327 : BitVec 32 := Scalar.muli c2_i32_1063 v5
  let v1328 : BitVec 32 := Scalar.addi v1326 v1327
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1329 : BitVec 32 := Scalar.addi v1328 v9
  let c0_i32_1072 : BitVec 32 := 0#32
  let c0_i32_1073 : BitVec 32 := 0#32
  ![v1329.toNat, 0, 0]
def k0_off42 (d0 : Dev nD) : Fin 3 → Nat :=
  let c4_i32_1077 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1343 : BitVec 32 := Scalar.muli c4_i32_1077 v10
  let c2_i32_1078 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1344 : BitVec 32 := Scalar.muli c2_i32_1078 v5
  let v1345 : BitVec 32 := Scalar.addi v1343 v1344
  let c1_i32_1076 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1342 : BitVec 32 := Scalar.subi c1_i32_1076 v8
  let v1346 : BitVec 32 := Scalar.addi v1345 v1342
  let c0_i32_1087 : BitVec 32 := 0#32
  let c0_i32_1088 : BitVec 32 := 0#32
  ![v1346.toNat, 0, 0]
def k0_off43 (d0 : Dev nD) : Fin 3 → Nat :=
  let c4_i32_1092 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1360 : BitVec 32 := Scalar.muli c4_i32_1092 v2
  let c2_i32_1093 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1361 : BitVec 32 := Scalar.muli c2_i32_1093 v11
  let v1362 : BitVec 32 := Scalar.addi v1360 v1361
  let c1_i32_1091 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1359 : BitVec 32 := Scalar.subi c1_i32_1091 v8
  let v1363 : BitVec 32 := Scalar.addi v1362 v1359
  let c0_i32_1102 : BitVec 32 := 0#32
  let c0_i32_1103 : BitVec 32 := 0#32
  ![v1363.toNat, 0, 0]
def k0_off44 (d0 : Dev nD) : Fin 3 → Nat :=
  let c4_i32_1107 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1377 : BitVec 32 := Scalar.muli c4_i32_1107 v12
  let c2_i32_1108 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1378 : BitVec 32 := Scalar.muli c2_i32_1108 v13
  let v1379 : BitVec 32 := Scalar.addi v1377 v1378
  let c1_i32_1106 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1376 : BitVec 32 := Scalar.subi c1_i32_1106 v8
  let v1380 : BitVec 32 := Scalar.addi v1379 v1376
  let c0_i32_1117 : BitVec 32 := 0#32
  let c0_i32_1118 : BitVec 32 := 0#32
  ![v1380.toNat, 0, 0]
def k0_off45 (d0 : Dev nD) : Fin 3 → Nat :=
  let c4_i32_1121 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1393 : BitVec 32 := Scalar.muli c4_i32_1121 v2
  let c2_i32_1122 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1394 : BitVec 32 := Scalar.muli c2_i32_1122 v5
  let v1395 : BitVec 32 := Scalar.addi v1393 v1394
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1396 : BitVec 32 := Scalar.addi v1395 v9
  let c0_i32_1131 : BitVec 32 := 0#32
  let c0_i32_1132 : BitVec 32 := 0#32
  ![v1396.toNat, 0, 0]
def k0_off46 (d0 : Dev nD) : Fin 3 → Nat :=
  let c4_i32_1136 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1410 : BitVec 32 := Scalar.muli c4_i32_1136 v10
  let c2_i32_1137 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1411 : BitVec 32 := Scalar.muli c2_i32_1137 v5
  let v1412 : BitVec 32 := Scalar.addi v1410 v1411
  let c1_i32_1135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_1135 v8
  let v1413 : BitVec 32 := Scalar.addi v1412 v1409
  let c0_i32_1146 : BitVec 32 := 0#32
  let c0_i32_1147 : BitVec 32 := 0#32
  ![v1413.toNat, 0, 0]
def k0_off47 (d0 : Dev nD) : Fin 3 → Nat :=
  let c4_i32_1151 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1427 : BitVec 32 := Scalar.muli c4_i32_1151 v2
  let c2_i32_1152 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1428 : BitVec 32 := Scalar.muli c2_i32_1152 v11
  let v1429 : BitVec 32 := Scalar.addi v1427 v1428
  let c1_i32_1150 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1426 : BitVec 32 := Scalar.subi c1_i32_1150 v8
  let v1430 : BitVec 32 := Scalar.addi v1429 v1426
  let c0_i32_1161 : BitVec 32 := 0#32
  let c0_i32_1162 : BitVec 32 := 0#32
  ![v1430.toNat, 0, 0]
def k0_off48 (d0 : Dev nD) : Fin 3 → Nat :=
  let c4_i32_1166 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1444 : BitVec 32 := Scalar.muli c4_i32_1166 v12
  let c2_i32_1167 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1445 : BitVec 32 := Scalar.muli c2_i32_1167 v13
  let v1446 : BitVec 32 := Scalar.addi v1444 v1445
  let c1_i32_1165 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1443 : BitVec 32 := Scalar.subi c1_i32_1165 v8
  let v1447 : BitVec 32 := Scalar.addi v1446 v1443
  let c0_i32_1176 : BitVec 32 := 0#32
  let c0_i32_1177 : BitVec 32 := 0#32
  ![v1447.toNat, 0, 0]
-- ==== Stack.lean ====
abbrev S1024x3592 : Shape := ⟨2, ![1024, 3592]⟩
abbrev S1024x1024 : Shape := ⟨2, ![1024, 1024]⟩
abbrev S1024x5632 : Shape := ⟨2, ![1024, 5632]⟩
abbrev S2816x1024 : Shape := ⟨2, ![2816, 1024]⟩
abbrev S4x1536 : Shape := ⟨2, ![4, 1536]⟩
abbrev S3x5632 : Shape := ⟨2, ![3, 5632]⟩
abbrev S1024x8x449 : Shape := ⟨3, ![1024, 8, 449]⟩
abbrev S8x1024x449 : Shape := ⟨3, ![8, 1024, 449]⟩
abbrev S8x128x1024 : Shape := ⟨3, ![8, 128, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S4x8x192 : Shape := ⟨3, ![4, 8, 192]⟩
abbrev S8x4x192 : Shape := ⟨3, ![8, 4, 192]⟩
abbrev S3x8x704 : Shape := ⟨3, ![3, 8, 704]⟩
abbrev S8x3x704 : Shape := ⟨3, ![8, 3, 704]⟩

abbrev nBuf : Space → Nat
  | .hbm => 16
  | .vmem => 0
  | .smem => 0
  | _ => 0

abbrev bufTy : (tb : Table) → Fin (tcTables nBuf tb) → BufTy
  | .hbm, ⟨0, _⟩ => ⟨S1024x3592, .bf16⟩
  | .hbm, ⟨1, _⟩ => ⟨S1024x1024, .bf16⟩
  | .hbm, ⟨2, _⟩ => ⟨S1024x5632, .bf16⟩
  | .hbm, ⟨3, _⟩ => ⟨S2816x1024, .bf16⟩
  | .hbm, ⟨4, _⟩ => ⟨S4x1536, .f32⟩
  | .hbm, ⟨5, _⟩ => ⟨S3x5632, .f32⟩
  | .hbm, ⟨6, _⟩ => ⟨S1024x8x449, .bf16⟩
  | .hbm, ⟨7, _⟩ => ⟨S8x1024x449, .bf16⟩
  | .hbm, ⟨8, _⟩ => ⟨S8x128x1024, .bf16⟩
  | .hbm, ⟨9, _⟩ => ⟨S1024x8x704, .bf16⟩
  | .hbm, ⟨10, _⟩ => ⟨S8x1024x704, .bf16⟩
  | .hbm, ⟨11, _⟩ => ⟨S8x352x1024, .bf16⟩
  | .hbm, ⟨12, _⟩ => ⟨S4x8x192, .f32⟩
  | .hbm, ⟨13, _⟩ => ⟨S8x4x192, .f32⟩
  | .hbm, ⟨14, _⟩ => ⟨S3x8x704, .f32⟩
  | .hbm, ⟨15, _⟩ => ⟨S8x3x704, .f32⟩
  | _, _ => ⟨S1024x3592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== GatherSmall.lean ====
abbrev S8x1024 : Shape := ⟨2, ![8, 1024]⟩
abbrev S8x8x1024 : Shape := ⟨3, ![8, 8, 1024]⟩
abbrev S1x7 : Shape := ⟨2, ![1, 7]⟩
abbrev S1 : Shape := ⟨1, ![1]⟩
abbrev S_ : Shape := ⟨0, ![]⟩
abbrev S1x8x1024 : Shape := ⟨3, ![1, 8, 1024]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_59 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v86 : BitVec 32 := Scalar.muli c4_i32_59 v10
  let c2_i32_60 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.muli c2_i32_60 v5
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c0_i32_69 : BitVec 32 := 0#32
  let c0_i32_70 : BitVec 32 := 0#32
  ![v89.toNat, 0, 0]
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v106 : BitVec 32 := Scalar.muli v2 c4_i32_79
  let v107 : BitVec 32 := Scalar.addi c0_i32_80 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v108 : BitVec 32 := Scalar.muli v5 c2_i32_81
  let v109 : BitVec 32 := Scalar.addi v107 v108
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v110 : BitVec 32 := Scalar.muli v9 c1_i32_82
  let v111 : BitVec 32 := Scalar.addi v109 v110
  v111.toNat
def k0_off3 (d0 : Dev nD) : Fin 3 → Nat :=
  let c4_i32_87 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.muli c4_i32_87 v2
  let c2_i32_88 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v121 : BitVec 32 := Scalar.muli c2_i32_88 v11
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v123 : BitVec 32 := Scalar.addi v122 v8
  let c0_i32_97 : BitVec 32 := 0#32
  let c0_i32_98 : BitVec 32 := 0#32
  ![v123.toNat, 0, 0]
def k0_dev6 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v140 : BitVec 32 := Scalar.muli v2 c4_i32_106
  let v141 : BitVec 32 := Scalar.addi c0_i32_107 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v142 : BitVec 32 := Scalar.muli v5 c2_i32_108
  let v143 : BitVec 32 := Scalar.addi v141 v142
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v144 : BitVec 32 := Scalar.muli v9 c1_i32_109
  let v145 : BitVec 32 := Scalar.addi v143 v144
  v145.toNat
def k0_off4 (d0 : Dev nD) : Fin 3 → Nat :=
  let c4_i32_114 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v154 : BitVec 32 := Scalar.muli c4_i32_114 v12
  let c2_i32_115 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v155 : BitVec 32 := Scalar.muli c2_i32_115 v13
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.addi v156 v8
  let c0_i32_124 : BitVec 32 := 0#32
  let c0_i32_125 : BitVec 32 := 0#32
  ![v157.toNat, 0, 0]
def k0_dev7 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v174 : BitVec 32 := Scalar.muli v2 c4_i32_133
  let v175 : BitVec 32 := Scalar.addi c0_i32_134 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v176 : BitVec 32 := Scalar.muli v5 c2_i32_135
  let v177 : BitVec 32 := Scalar.addi v175 v176
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_136 : BitVec 32 := 1#32
  let v178 : BitVec 32 := Scalar.muli v9 c1_i32_136
  let v179 : BitVec 32 := Scalar.addi v177 v178
  v179.toNat
def k0_off5 (d0 : Dev nD) : Fin 3 → Nat :=
  let c4_i32_141 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v188 : BitVec 32 := Scalar.muli c4_i32_141 v2
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v189 : BitVec 32 := Scalar.muli c2_i32_142 v5
  let v190 : BitVec 32 := Scalar.addi v188 v189
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v191 : BitVec 32 := Scalar.addi v190 v9
  let c0_i32_151 : BitVec 32 := 0#32
  let c0_i32_152 : BitVec 32 := 0#32
  ![v191.toNat, 0, 0]
def k0_off6 (d0 : Dev nD) : Fin 3 → Nat :=
  let c4_i32_156 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v205 : BitVec 32 := Scalar.muli c4_i32_156 v10
  let c2_i32_157 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v206 : BitVec 32 := Scalar.muli c2_i32_157 v5
  let v207 : BitVec 32 := Scalar.addi v205 v206
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_155 v8
  let v208 : BitVec 32 := Scalar.addi v207 v204
  let c0_i32_166 : BitVec 32 := 0#32
  let c0_i32_167 : BitVec 32 := 0#32
  ![v208.toNat, 0, 0]
def k0_off7 (d0 : Dev nD) : Fin 3 → Nat :=
  let c4_i32_171 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.muli c4_i32_171 v2
  let c2_i32_172 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v223 : BitVec 32 := Scalar.muli c2_i32_172 v11
  let v224 : BitVec 32 := Scalar.addi v222 v223
  let c1_i32_170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.subi c1_i32_170 v8
  let v225 : BitVec 32 := Scalar.addi v224 v221
  let c0_i32_181 : BitVec 32 := 0#32
  let c0_i32_182 : BitVec 32 := 0#32
  ![v225.toNat, 0, 0]
def k0_off8 (d0 : Dev nD) : Fin 3 → Nat :=
  let c4_i32_186 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v239 : BitVec 32 := Scalar.muli c4_i32_186 v12
  let c2_i32_187 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v240 : BitVec 32 := Scalar.muli c2_i32_187 v13
  let v241 : BitVec 32 := Scalar.addi v239 v240
  let c1_i32_185 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v238 : BitVec 32 := Scalar.subi c1_i32_185 v8
  let v242 : BitVec 32 := Scalar.addi v241 v238
  let c0_i32_196 : BitVec 32 := 0#32
  let c0_i32_197 : BitVec 32 := 0#32
  ![v242.toNat, 0, 0]
-- ==== StackSmall.lean ====
abbrev S64x1024 : Shape := ⟨2, ![64, 1024]⟩
abbrev S8x8x1024 : Shape := ⟨3, ![8, 8, 1024]⟩

abbrev nBuf : Space → Nat
  | .hbm => 2
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x8x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamIn.lean ====
abbrev S8x1024x449 : Shape := ⟨3, ![8, 1024, 449]⟩
abbrev S1024x449 : Shape := ⟨2, ![1024, 449]⟩
abbrev S8x128x449 : Shape := ⟨3, ![8, 128, 449]⟩
abbrev S128x449 : Shape := ⟨2, ![128, 449]⟩
abbrev S1x128x449 : Shape := ⟨3, ![1, 128, 449]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x449, .bf16⟩
  | .hbm, ⟨1, _⟩ => ⟨S1024x449, .f32⟩
  | .hbm, ⟨2, _⟩ => ⟨S1024x449, .f32⟩
  | .hbm, ⟨3, _⟩ => ⟨S1024x449, .f32⟩
  | .hbm, ⟨4, _⟩ => ⟨S1024x449, .f32⟩
  | .hbm, ⟨5, _⟩ => ⟨S1024x449, .f32⟩
  | .hbm, ⟨6, _⟩ => ⟨S1024x449, .f32⟩
  | .hbm, ⟨7, _⟩ => ⟨S1024x449, .f32⟩
  | .local _ .vmem, ⟨0, _⟩ => ⟨S8x128x449, .bf16⟩
  | .local _ .vmem, ⟨1, _⟩ => ⟨S8x128x449, .bf16⟩
  | .local _ .vmem, ⟨2, _⟩ => ⟨S128x449, .f32⟩
  | .local _ .vmem, ⟨3, _⟩ => ⟨S128x449, .f32⟩
  | .local _ .vmem, ⟨4, _⟩ => ⟨S128x449, .f32⟩
  | .local _ .vmem, ⟨5, _⟩ => ⟨S128x449, .f32⟩
  | .local _ .vmem, ⟨6, _⟩ => ⟨S128x449, .f32⟩
  | .local _ .vmem, ⟨7, _⟩ => ⟨S128x449, .f32⟩
  | .local _ .vmem, ⟨8, _⟩ => ⟨S128x449, .f32⟩
  | .local _ .vmem, ⟨9, _⟩ => ⟨S128x449, .f32⟩
  | .local _ .vmem, ⟨10, _⟩ => ⟨S128x449, .f32⟩
  | .local _ .vmem, ⟨11, _⟩ => ⟨S128x449, .f32⟩
  | .local _ .vmem, ⟨12, _⟩ => ⟨S128x449, .f32⟩
  | .local _ .vmem, ⟨13, _⟩ => ⟨S128x449, .f32⟩
  | .local _ .vmem, ⟨14, _⟩ => ⟨S128x449, .f32⟩
  | .local _ .vmem, ⟨15, _⟩ => ⟨S128x449, .f32⟩
  | _, _ => ⟨S8x1024x449, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x449 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x449 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x449 : Shape := ⟨3, ![8, 1024, 449]⟩
abbrev S1024x449 : Shape := ⟨2, ![1024, 449]⟩
abbrev S8x128x449 : Shape := ⟨3, ![8, 128, 449]⟩
abbrev S128x449 : Shape := ⟨2, ![128, 449]⟩
abbrev S1x128x449 : Shape := ⟨3, ![1, 128, 449]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x449, .bf16⟩
  | .hbm, ⟨1, _⟩ => ⟨S1024x449, .f32⟩
  | .hbm, ⟨2, _⟩ => ⟨S1024x449, .f32⟩
  | .hbm, ⟨3, _⟩ => ⟨S1024x449, .f32⟩
  | .hbm, ⟨4, _⟩ => ⟨S1024x449, .f32⟩
  | .hbm, ⟨5, _⟩ => ⟨S1024x449, .f32⟩
  | .hbm, ⟨6, _⟩ => ⟨S1024x449, .f32⟩
  | .hbm, ⟨7, _⟩ => ⟨S1024x449, .f32⟩
  | .local _ .vmem, ⟨0, _⟩ => ⟨S8x128x449, .bf16⟩
  | .local _ .vmem, ⟨1, _⟩ => ⟨S8x128x449, .bf16⟩
  | .local _ .vmem, ⟨2, _⟩ => ⟨S128x449, .f32⟩
  | .local _ .vmem, ⟨3, _⟩ => ⟨S128x449, .f32⟩
  | .local _ .vmem, ⟨4, _⟩ => ⟨S128x449, .f32⟩
  | .local _ .vmem, ⟨5, _⟩ => ⟨S128x449, .f32⟩
  | .local _ .vmem, ⟨6, _⟩ => ⟨S128x449, .f32⟩
  | .local _ .vmem, ⟨7, _⟩ => ⟨S128x449, .f32⟩
  | .local _ .vmem, ⟨8, _⟩ => ⟨S128x449, .f32⟩
  | .local _ .vmem, ⟨9, _⟩ => ⟨S128x449, .f32⟩
  | .local _ .vmem, ⟨10, _⟩ => ⟨S128x449, .f32⟩
  | .local _ .vmem, ⟨11, _⟩ => ⟨S128x449, .f32⟩
  | .local _ .vmem, ⟨12, _⟩ => ⟨S128x449, .f32⟩
  | .local _ .vmem, ⟨13, _⟩ => ⟨S128x449, .f32⟩
  | .local _ .vmem, ⟨14, _⟩ => ⟨S128x449, .f32⟩
  | .local _ .vmem, ⟨15, _⟩ => ⟨S128x449, .f32⟩
  | _, _ => ⟨S8x1024x449, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x449 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x449 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainInIdeal.lean ====
abbrev S8x1024x449 : Shape := ⟨3, ![8, 1024, 449]⟩
abbrev S1024x449 : Shape := ⟨2, ![1024, 449]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x449, .bf16⟩
  | .hbm, ⟨1, _⟩ => ⟨S1024x449, .f32⟩
  | .hbm, ⟨2, _⟩ => ⟨S1024x449, .f32⟩
  | .hbm, ⟨3, _⟩ => ⟨S1024x449, .f32⟩
  | .hbm, ⟨4, _⟩ => ⟨S8x1024x449, .f32⟩
  | .hbm, ⟨5, _⟩ => ⟨S_, .f32⟩
  | .hbm, ⟨6, _⟩ => ⟨S1024x449, .f32⟩
  | .hbm, ⟨7, _⟩ => ⟨S_, .f32⟩
  | .hbm, ⟨8, _⟩ => ⟨S1024x449, .f32⟩
  | .hbm, ⟨9, _⟩ => ⟨S1024x449, .f32⟩
  | .hbm, ⟨10, _⟩ => ⟨S_, .f32⟩
  | .hbm, ⟨11, _⟩ => ⟨S1024x449, .f32⟩
  | .hbm, ⟨12, _⟩ => ⟨S1024x449, .f32⟩
  | .hbm, ⟨13, _⟩ => ⟨S1024x449, .f32⟩
  | .hbm, ⟨14, _⟩ => ⟨S_, .f32⟩
  | .hbm, ⟨15, _⟩ => ⟨S1024x449, .f32⟩
  | .hbm, ⟨16, _⟩ => ⟨S1024x449, .f32⟩
  | .hbm, ⟨17, _⟩ => ⟨S1024x449, .f32⟩
  | .hbm, ⟨18, _⟩ => ⟨S_, .f32⟩
  | .hbm, ⟨19, _⟩ => ⟨S1024x449, .f32⟩
  | .hbm, ⟨20, _⟩ => ⟨S1024x449, .f32⟩
  | .hbm, ⟨21, _⟩ => ⟨S1024x449, .f32⟩
  | .hbm, ⟨22, _⟩ => ⟨S_, .f32⟩
  | .hbm, ⟨23, _⟩ => ⟨S1024x449, .f32⟩
  | .hbm, ⟨24, _⟩ => ⟨S1024x449, .f32⟩
  | .hbm, ⟨25, _⟩ => ⟨S_, .f32⟩
  | .hbm, ⟨26, _⟩ => ⟨S1024x449, .f32⟩
  | .hbm, ⟨27, _⟩ => ⟨S1024x449, .f32⟩
  | .hbm, ⟨28, _⟩ => ⟨S1024x449, .f32⟩
  | .hbm, ⟨29, _⟩ => ⟨S_, .f32⟩
  | .hbm, ⟨30, _⟩ => ⟨S1024x449, .f32⟩
  | .hbm, ⟨31, _⟩ => ⟨S1024x449, .f32⟩
  | .hbm, ⟨32, _⟩ => ⟨S1024x449, .f32⟩
  | .hbm, ⟨33, _⟩ => ⟨S_, .f32⟩
  | .hbm, ⟨34, _⟩ => ⟨S1024x449, .f32⟩
  | .hbm, ⟨35, _⟩ => ⟨S1024x449, .f32⟩
  | .hbm, ⟨36, _⟩ => ⟨S1024x449, .f32⟩
  | .hbm, ⟨37, _⟩ => ⟨S_, .f32⟩
  | .hbm, ⟨38, _⟩ => ⟨S1024x449, .f32⟩
  | .hbm, ⟨39, _⟩ => ⟨S1024x449, .f32⟩
  | _, _ => ⟨S8x1024x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PlainOutIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainUpIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainDownIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConvA.lean ====
abbrev S8x4x192 : Shape := ⟨3, ![8, 4, 192]⟩
abbrev S4x192 : Shape := ⟨2, ![4, 192]⟩
abbrev S1x4x192 : Shape := ⟨3, ![1, 4, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S8x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvAIdeal.lean ====
abbrev S8x4x192 : Shape := ⟨3, ![8, 4, 192]⟩
abbrev S4x192 : Shape := ⟨2, ![4, 192]⟩
abbrev S1x4x192 : Shape := ⟨3, ![1, 4, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S8x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PlainConvAIdeal.lean ====
abbrev S8x4x192 : Shape := ⟨3, ![8, 4, 192]⟩
abbrev S4x192 : Shape := ⟨2, ![4, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S_, .f32⟩
  | .hbm, ⟨7, _⟩ => ⟨S4x192, .f32⟩
  | .hbm, ⟨8, _⟩ => ⟨S4x192, .f32⟩
  | .hbm, ⟨9, _⟩ => ⟨S_, .f32⟩
  | .hbm, ⟨10, _⟩ => ⟨S4x192, .f32⟩
  | .hbm, ⟨11, _⟩ => ⟨S4x192, .f32⟩
  | .hbm, ⟨12, _⟩ => ⟨S4x192, .f32⟩
  | .hbm, ⟨13, _⟩ => ⟨S_, .f32⟩
  | .hbm, ⟨14, _⟩ => ⟨S4x192, .f32⟩
  | .hbm, ⟨15, _⟩ => ⟨S4x192, .f32⟩
  | .hbm, ⟨16, _⟩ => ⟨S4x192, .f32⟩
  | .hbm, ⟨17, _⟩ => ⟨S_, .f32⟩
  | .hbm, ⟨18, _⟩ => ⟨S4x192, .f32⟩
  | .hbm, ⟨19, _⟩ => ⟨S4x192, .f32⟩
  | .hbm, ⟨20, _⟩ => ⟨S4x192, .f32⟩
  | .hbm, ⟨21, _⟩ => ⟨S_, .f32⟩
  | .hbm, ⟨22, _⟩ => ⟨S4x192, .f32⟩
  | .hbm, ⟨23, _⟩ => ⟨S4x192, .f32⟩
  | .hbm, ⟨24, _⟩ => ⟨S_, .f32⟩
  | .hbm, ⟨25, _⟩ => ⟨S4x192, .f32⟩
  | .hbm, ⟨26, _⟩ => ⟨S4x192, .f32⟩
  | .hbm, ⟨27, _⟩ => ⟨S4x192, .f32⟩
  | .hbm, ⟨28, _⟩ => ⟨S_, .f32⟩
  | .hbm, ⟨29, _⟩ => ⟨S4x192, .f32⟩
  | .hbm, ⟨30, _⟩ => ⟨S4x192, .f32⟩
  | .hbm, ⟨31, _⟩ => ⟨S4x192, .f32⟩
  | .hbm, ⟨32, _⟩ => ⟨S_, .f32⟩
  | .hbm, ⟨33, _⟩ => ⟨S4x192, .f32⟩
  | .hbm, ⟨34, _⟩ => ⟨S4x192, .f32⟩
  | .hbm, ⟨35, _⟩ => ⟨S4x192, .f32⟩
  | .hbm, ⟨36, _⟩ => ⟨S_, .f32⟩
  | .hbm, ⟨37, _⟩ => ⟨S4x192, .f32⟩
  | .hbm, ⟨38, _⟩ => ⟨S4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConvF.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvFIdeal.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PlainConvFIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PlainSmallIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RmsFwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PlainRmsFwdIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsBwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdIdeal.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PlainRmsBwdIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_16 : BitVec 32 := 0#32
  let v45 : BitVec 1 := Scalar.cmpi .ne v44 c0_i32_16
  v45

def k0_cond2 (i : grid0.Coords) : BitVec 1 :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossIdeal.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_16 : BitVec 32 := 0#32
  let v45 : BitVec 1 := Scalar.cmpi .ne v44 c0_i32_16
  v45

def k0_cond2 (i : grid0.Coords) : BitVec 1 :=
  let arg0 : BitVec 32 := BitVec.ofNat 32 (i 0).val
  let c0_i32_17 : BitVec 32 := 0#32
  let v46 : BitVec 1 := Scalar.cmpi .sgt arg0 c0_i32_17
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PlainLossIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== ProjA.lean ====
abbrev S2048x1024 : Shape := ⟨2, ![2048, 1024]⟩
abbrev S1024x1664 : Shape := ⟨2, ![1024, 1664]⟩
abbrev S2048x1664 : Shape := ⟨2, ![2048, 1664]⟩
abbrev S512x1024 : Shape := ⟨2, ![512, 1024]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S2048x1664, .f32⟩
  | .local _ .vmem, ⟨0, _⟩ => ⟨S512x1024, .bf16⟩
  | .local _ .vmem, ⟨1, _⟩ => ⟨S512x1024, .bf16⟩
  | .local _ .vmem, ⟨2, _⟩ => ⟨S1024x1664, .bf16⟩
  | .local _ .vmem, ⟨3, _⟩ => ⟨S512x1664, .f32⟩
  | .local _ .vmem, ⟨4, _⟩ => ⟨S512x1664, .f32⟩
  | .local _ .vmem, ⟨5, _⟩ => ⟨S512x1664, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S2048x1024 : Shape := ⟨2, ![2048, 1024]⟩
abbrev S1024x1664 : Shape := ⟨2, ![1024, 1664]⟩
abbrev S2048x1664 : Shape := ⟨2, ![2048, 1664]⟩
abbrev S512x1024 : Shape := ⟨2, ![512, 1024]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S2048x1664, .f32⟩
  | .local _ .vmem, ⟨0, _⟩ => ⟨S512x1024, .bf16⟩
  | .local _ .vmem, ⟨1, _⟩ => ⟨S512x1024, .bf16⟩
  | .local _ .vmem, ⟨2, _⟩ => ⟨S1024x1664, .bf16⟩
  | .local _ .vmem, ⟨3, _⟩ => ⟨S512x1664, .f32⟩
  | .local _ .vmem, ⟨4, _⟩ => ⟨S512x1664, .f32⟩
  | .local _ .vmem, ⟨5, _⟩ => ⟨S512x1664, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjAIdeal.lean ====
abbrev S2048x1024 : Shape := ⟨2, ![2048, 1024]⟩
abbrev S1024x1664 : Shape := ⟨2, ![1024, 1664]⟩
abbrev S2048x1664 : Shape := ⟨2, ![2048, 1664]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S2048x1024, .f32⟩
  | .hbm, ⟨3, _⟩ => ⟨S1024x1664, .f32⟩
  | .hbm, ⟨4, _⟩ => ⟨S2048x1664, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjZ.lean ====
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZIdeal.lean ====
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjZIdeal.lean ====
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x1024, .f32⟩
  | .hbm, ⟨3, _⟩ => ⟨S1024x512, .f32⟩
  | .hbm, ⟨4, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S2048x1024 : Shape := ⟨2, ![2048, 1024]⟩
abbrev S1024x1536 : Shape := ⟨2, ![1024, 1536]⟩
abbrev S2048x1536 : Shape := ⟨2, ![2048, 1536]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1536, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBIdeal.lean ====
abbrev S2048x1024 : Shape := ⟨2, ![2048, 1024]⟩
abbrev S1024x1536 : Shape := ⟨2, ![1024, 1536]⟩
abbrev S2048x1536 : Shape := ⟨2, ![2048, 1536]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1536, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjBIdeal.lean ====
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1024, .f32⟩
  | .hbm, ⟨3, _⟩ => ⟨S1024x1536, .f32⟩
  | .hbm, ⟨4, _⟩ => ⟨S2048x1536, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjIdeal.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PlainOutProjIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S2048x1024 : Shape := ⟨2, ![2048, 1024]⟩
abbrev S1024x5632 : Shape := ⟨2, ![1024, 5632]⟩
abbrev S2048x5632 : Shape := ⟨2, ![2048, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpIdeal.lean ====
abbrev S2048x1024 : Shape := ⟨2, ![2048, 1024]⟩
abbrev S1024x5632 : Shape := ⟨2, ![1024, 5632]⟩
abbrev S2048x5632 : Shape := ⟨2, ![2048, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainFfnUpIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S2048x2816 : Shape := ⟨2, ![2048, 2816]⟩
abbrev S2816x1024 : Shape := ⟨2, ![2816, 1024]⟩
abbrev S2048x1024 : Shape := ⟨2, ![2048, 1024]⟩
abbrev S512x1408 : Shape := ⟨2, ![512, 1408]⟩
abbrev S1408x512 : Shape := ⟨2, ![1408, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S1408x512, .bf16⟩
  | .local _ .vmem, ⟨3, _⟩ => ⟨S1408x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownIdeal.lean ====
abbrev S2048x2816 : Shape := ⟨2, ![2048, 2816]⟩
abbrev S2816x1024 : Shape := ⟨2, ![2816, 1024]⟩
abbrev S2048x1024 : Shape := ⟨2, ![2048, 1024]⟩
abbrev S512x1408 : Shape := ⟨2, ![512, 1408]⟩
abbrev S1408x512 : Shape := ⟨2, ![1408, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S1408x512, .bf16⟩
  | .local _ .vmem, ⟨3, _⟩ => ⟨S1408x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PlainFfnDownIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDownDx.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxIdeal.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainFfnDownDxIdeal.lean ====
abbrev S2048x1024 : Shape := ⟨2, ![2048, 1024]⟩
abbrev S2816x1024 : Shape := ⟨2, ![2816, 1024]⟩
abbrev S1024x2816 : Shape := ⟨2, ![1024, 2816]⟩
abbrev S2048x2816 : Shape := ⟨2, ![2048, 2816]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnGateDx.lean ====
abbrev S2048x2816 : Shape := ⟨2, ![2048, 2816]⟩
abbrev S1024x2816 : Shape := ⟨2, ![1024, 2816]⟩
abbrev S2048x1024 : Shape := ⟨2, ![2048, 1024]⟩
abbrev S512x1408 : Shape := ⟨2, ![512, 1408]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateDxIdeal.lean ====
abbrev S2048x2816 : Shape := ⟨2, ![2048, 2816]⟩
abbrev S1024x2816 : Shape := ⟨2, ![1024, 2816]⟩
abbrev S2048x1024 : Shape := ⟨2, ![2048, 1024]⟩
abbrev S512x1408 : Shape := ⟨2, ![512, 1408]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainFfnGateDxIdeal.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x2816, .f32⟩
  | .hbm, ⟨3, _⟩ => ⟨S1024x2816, .f32⟩
  | .hbm, ⟨4, _⟩ => ⟨S2816x1024, .f32⟩
  | .hbm, ⟨5, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUpDx.lean ====
abbrev S2048x2816 : Shape := ⟨2, ![2048, 2816]⟩
abbrev S1024x2816 : Shape := ⟨2, ![1024, 2816]⟩
abbrev S2048x1024 : Shape := ⟨2, ![2048, 1024]⟩
abbrev S512x1408 : Shape := ⟨2, ![512, 1408]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .hbm, ⟨3, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpDxIdeal.lean ====
abbrev S2048x2816 : Shape := ⟨2, ![2048, 2816]⟩
abbrev S1024x2816 : Shape := ⟨2, ![1024, 2816]⟩
abbrev S2048x1024 : Shape := ⟨2, ![2048, 1024]⟩
abbrev S512x1408 : Shape := ⟨2, ![512, 1408]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .hbm, ⟨3, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PlainFfnUpDxIdeal.lean ====
abbrev S2048x2816 : Shape := ⟨2, ![2048, 2816]⟩
abbrev S1024x2816 : Shape := ⟨2, ![1024, 2816]⟩
abbrev S2048x1024 : Shape := ⟨2, ![2048, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .hbm, ⟨3, _⟩ => ⟨S2048x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjDx.lean ====
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxIdeal.lean ====
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainOutProjDxIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjADx.lean ====
abbrev S2048x1664 : Shape := ⟨2, ![2048, 1664]⟩
abbrev S1024x1664 : Shape := ⟨2, ![1024, 1664]⟩
abbrev S2048x1024 : Shape := ⟨2, ![2048, 1024]⟩
abbrev S512x1664 : Shape := ⟨2, ![512, 1664]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1664, .bf16⟩
  | .hbm, ⟨1, _⟩ => ⟨S1024x1664, .bf16⟩
  | .hbm, ⟨2, _⟩ => ⟨S2048x1024, .f32⟩
  | .local _ .vmem, ⟨0, _⟩ => ⟨S512x1664, .bf16⟩
  | .local _ .vmem, ⟨1, _⟩ => ⟨S512x1664, .bf16⟩
  | .local _ .vmem, ⟨2, _⟩ => ⟨S512x1664, .bf16⟩
  | .local _ .vmem, ⟨3, _⟩ => ⟨S512x1664, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjADxIdeal.lean ====
abbrev S2048x1664 : Shape := ⟨2, ![2048, 1664]⟩
abbrev S1024x1664 : Shape := ⟨2, ![1024, 1664]⟩
abbrev S2048x1024 : Shape := ⟨2, ![2048, 1024]⟩
abbrev S512x1664 : Shape := ⟨2, ![512, 1664]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1664, .bf16⟩
  | .hbm, ⟨1, _⟩ => ⟨S1024x1664, .bf16⟩
  | .hbm, ⟨2, _⟩ => ⟨S2048x1024, .f32⟩
  | .local _ .vmem, ⟨0, _⟩ => ⟨S512x1664, .bf16⟩
  | .local _ .vmem, ⟨1, _⟩ => ⟨S512x1664, .bf16⟩
  | .local _ .vmem, ⟨2, _⟩ => ⟨S512x1664, .bf16⟩
  | .local _ .vmem, ⟨3, _⟩ => ⟨S512x1664, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjADxIdeal.lean ====
abbrev S2048x1664 : Shape := ⟨2, ![2048, 1664]⟩
abbrev S1024x1664 : Shape := ⟨2, ![1024, 1664]⟩
abbrev S1664x1024 : Shape := ⟨2, ![1664, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1664, .bf16⟩
  | .hbm, ⟨1, _⟩ => ⟨S1024x1664, .bf16⟩
  | .hbm, ⟨2, _⟩ => ⟨S2048x1664, .f32⟩
  | .hbm, ⟨3, _⟩ => ⟨S1024x1664, .f32⟩
  | .hbm, ⟨4, _⟩ => ⟨S1664x1024, .f32⟩
  | .hbm, ⟨5, _⟩ => ⟨S2048x1024, .f32⟩
  | _, _ => ⟨S2048x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjZDx.lean ====
abbrev S2048x512 : Shape := ⟨2, ![2048, 512]⟩
abbrev S1024x512 : Shape := ⟨2, ![1024, 512]⟩
abbrev S2048x1024 : Shape := ⟨2, ![2048, 1024]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .f32⟩
  | .hbm, ⟨3, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjZDxIdeal.lean ====
abbrev S2048x512 : Shape := ⟨2, ![2048, 512]⟩
abbrev S1024x512 : Shape := ⟨2, ![1024, 512]⟩
abbrev S2048x1024 : Shape := ⟨2, ![2048, 1024]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .f32⟩
  | .hbm, ⟨3, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PlainProjZDxIdeal.lean ====
abbrev S2048x512 : Shape := ⟨2, ![2048, 512]⟩
abbrev S1024x512 : Shape := ⟨2, ![1024, 512]⟩
abbrev S2048x1024 : Shape := ⟨2, ![2048, 1024]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .f32⟩
  | .hbm, ⟨3, _⟩ => ⟨S2048x512, .f32⟩
  | .hbm, ⟨4, _⟩ => ⟨S1024x512, .f32⟩
  | .hbm, ⟨5, _⟩ => ⟨S512x1024, .f32⟩
  | .hbm, ⟨6, _⟩ => ⟨S2048x1024, .f32⟩
  | .hbm, ⟨7, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjBDx.lean ====
abbrev S2048x1536 : Shape := ⟨2, ![2048, 1536]⟩
abbrev S1024x1536 : Shape := ⟨2, ![1024, 1536]⟩
abbrev S2048x1024 : Shape := ⟨2, ![2048, 1024]⟩
abbrev S512x1536 : Shape := ⟨2, ![512, 1536]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1536, .bf16⟩
  | .hbm, ⟨1, _⟩ => ⟨S1024x1536, .bf16⟩
  | .hbm, ⟨2, _⟩ => ⟨S2048x1024, .f32⟩
  | .hbm, ⟨3, _⟩ => ⟨S2048x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjBDxIdeal.lean ====
abbrev S2048x1536 : Shape := ⟨2, ![2048, 1536]⟩
abbrev S1024x1536 : Shape := ⟨2, ![1024, 1536]⟩
abbrev S2048x1024 : Shape := ⟨2, ![2048, 1024]⟩
abbrev S512x1536 : Shape := ⟨2, ![512, 1536]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1536, .bf16⟩
  | .hbm, ⟨1, _⟩ => ⟨S1024x1536, .bf16⟩
  | .hbm, ⟨2, _⟩ => ⟨S2048x1024, .f32⟩
  | .hbm, ⟨3, _⟩ => ⟨S2048x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PlainProjBDxIdeal.lean ====
abbrev S2048x1536 : Shape := ⟨2, ![2048, 1536]⟩
abbrev S1024x1536 : Shape := ⟨2, ![1024, 1536]⟩
abbrev S2048x1024 : Shape := ⟨2, ![2048, 1024]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S1024x1536, .bf16⟩
  | .hbm, ⟨2, _⟩ => ⟨S2048x1024, .f32⟩
  | .hbm, ⟨3, _⟩ => ⟨S2048x1536, .f32⟩
  | .hbm, ⟨4, _⟩ => ⟨S1024x1536, .f32⟩
  | .hbm, ⟨5, _⟩ => ⟨S1536x1024, .f32⟩
  | .hbm, ⟨6, _⟩ => ⟨S2048x1024, .f32⟩
  | .hbm, ⟨7, _⟩ => ⟨S2048x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDownDw.lean ====
abbrev S2048x2816 : Shape := ⟨2, ![2048, 2816]⟩
abbrev S2048x1024 : Shape := ⟨2, ![2048, 1024]⟩
abbrev S2816x1024 : Shape := ⟨2, ![2816, 1024]⟩
abbrev S512x1408 : Shape := ⟨2, ![512, 1408]⟩
abbrev S512x512 : Shape := ⟨2, ![512, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x512, .f32⟩
  | .local _ .vmem, ⟨3, _⟩ => ⟨S512x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwIdeal.lean ====
abbrev S2048x2816 : Shape := ⟨2, ![2048, 2816]⟩
abbrev S2048x1024 : Shape := ⟨2, ![2048, 1024]⟩
abbrev S2816x1024 : Shape := ⟨2, ![2816, 1024]⟩
abbrev S512x1408 : Shape := ⟨2, ![512, 1408]⟩
abbrev S512x512 : Shape := ⟨2, ![512, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x512, .f32⟩
  | .local _ .vmem, ⟨3, _⟩ => ⟨S512x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainFfnDownDwIdeal.lean ====
abbrev S2048x2816 : Shape := ⟨2, ![2048, 2816]⟩
abbrev S2048x1024 : Shape := ⟨2, ![2048, 1024]⟩
abbrev S2816x2048 : Shape := ⟨2, ![2816, 2048]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x2816, .f32⟩
  | .hbm, ⟨3, _⟩ => ⟨S2816x2048, .f32⟩
  | .hbm, ⟨4, _⟩ => ⟨S2816x1024, .f32⟩
  | .hbm, ⟨5, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUpDw.lean ====
abbrev S2048x1024 : Shape := ⟨2, ![2048, 1024]⟩
abbrev S2048x2816 : Shape := ⟨2, ![2048, 2816]⟩
abbrev S1024x2816 : Shape := ⟨2, ![1024, 2816]⟩
abbrev S512x512 : Shape := ⟨2, ![512, 512]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S1024x2816, .bf16⟩
  | .local _ .vmem, ⟨0, _⟩ => ⟨S512x512, .bf16⟩
  | .local _ .vmem, ⟨1, _⟩ => ⟨S512x512, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwIdeal.lean ====
abbrev S2048x1024 : Shape := ⟨2, ![2048, 1024]⟩
abbrev S2048x2816 : Shape := ⟨2, ![2048, 2816]⟩
abbrev S1024x2816 : Shape := ⟨2, ![1024, 2816]⟩
abbrev S512x512 : Shape := ⟨2, ![512, 512]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S1024x2816, .bf16⟩
  | .local _ .vmem, ⟨0, _⟩ => ⟨S512x512, .bf16⟩
  | .local _ .vmem, ⟨1, _⟩ => ⟨S512x512, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainFfnUpDwIdeal.lean ====
abbrev S2048x1024 : Shape := ⟨2, ![2048, 1024]⟩
abbrev S2048x2816 : Shape := ⟨2, ![2048, 2816]⟩
abbrev S1024x2048 : Shape := ⟨2, ![1024, 2048]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x1024, .f32⟩
  | .hbm, ⟨3, _⟩ => ⟨S2048x2816, .f32⟩
  | .hbm, ⟨4, _⟩ => ⟨S1024x2048, .f32⟩
  | .hbm, ⟨5, _⟩ => ⟨S1024x2816, .f32⟩
  | .hbm, ⟨6, _⟩ => ⟨S1024x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProjDw.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwIdeal.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainOutProjDwIdeal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S1024x2048, .f32⟩
  | .hbm, ⟨4, _⟩ => ⟨S1024x1024, .f32⟩
  | .hbm, ⟨5, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjADw.lean ====
abbrev S2048x1024 : Shape := ⟨2, ![2048, 1024]⟩
abbrev S2048x1664 : Shape := ⟨2, ![2048, 1664]⟩
abbrev S1024x1664 : Shape := ⟨2, ![1024, 1664]⟩
abbrev S512x512 : Shape := ⟨2, ![512, 512]⟩
abbrev S512x1664 : Shape := ⟨2, ![512, 1664]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1664, .bf16⟩
  | .hbm, ⟨2, _⟩ => ⟨S1024x1664, .bf16⟩
  | .local _ .vmem, ⟨0, _⟩ => ⟨S512x512, .bf16⟩
  | .local _ .vmem, ⟨1, _⟩ => ⟨S512x512, .bf16⟩
  | .local _ .vmem, ⟨2, _⟩ => ⟨S512x1664, .bf16⟩
  | .local _ .vmem, ⟨3, _⟩ => ⟨S512x1664, .bf16⟩
  | .local _ .vmem, ⟨4, _⟩ => ⟨S512x1664, .bf16⟩
  | .local _ .vmem, ⟨5, _⟩ => ⟨S512x1664, .bf16⟩
  | .local _ .vmem, ⟨6, _⟩ => ⟨S512x1664, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjADwIdeal.lean ====
abbrev S2048x1024 : Shape := ⟨2, ![2048, 1024]⟩
abbrev S2048x1664 : Shape := ⟨2, ![2048, 1664]⟩
abbrev S1024x1664 : Shape := ⟨2, ![1024, 1664]⟩
abbrev S512x512 : Shape := ⟨2, ![512, 512]⟩
abbrev S512x1664 : Shape := ⟨2, ![512, 1664]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1664, .bf16⟩
  | .hbm, ⟨2, _⟩ => ⟨S1024x1664, .bf16⟩
  | .local _ .vmem, ⟨0, _⟩ => ⟨S512x512, .bf16⟩
  | .local _ .vmem, ⟨1, _⟩ => ⟨S512x512, .bf16⟩
  | .local _ .vmem, ⟨2, _⟩ => ⟨S512x1664, .bf16⟩
  | .local _ .vmem, ⟨3, _⟩ => ⟨S512x1664, .bf16⟩
  | .local _ .vmem, ⟨4, _⟩ => ⟨S512x1664, .bf16⟩
  | .local _ .vmem, ⟨5, _⟩ => ⟨S512x1664, .bf16⟩
  | .local _ .vmem, ⟨6, _⟩ => ⟨S512x1664, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjADwIdeal.lean ====
abbrev S2048x1024 : Shape := ⟨2, ![2048, 1024]⟩
abbrev S2048x1664 : Shape := ⟨2, ![2048, 1664]⟩
abbrev S1024x2048 : Shape := ⟨2, ![1024, 2048]⟩
abbrev S1024x1664 : Shape := ⟨2, ![1024, 1664]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1664, .bf16⟩
  | .hbm, ⟨2, _⟩ => ⟨S2048x1024, .f32⟩
  | .hbm, ⟨3, _⟩ => ⟨S2048x1664, .f32⟩
  | .hbm, ⟨4, _⟩ => ⟨S1024x2048, .f32⟩
  | .hbm, ⟨5, _⟩ => ⟨S1024x1664, .f32⟩
  | .hbm, ⟨6, _⟩ => ⟨S1024x1664, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjZDw.lean ====
abbrev S2048x1024 : Shape := ⟨2, ![2048, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZDwIdeal.lean ====
abbrev S2048x1024 : Shape := ⟨2, ![2048, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjZDwIdeal.lean ====
abbrev S2048x1024 : Shape := ⟨2, ![2048, 1024]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .f32⟩
  | .hbm, ⟨3, _⟩ => ⟨S2048x512, .f32⟩
  | .hbm, ⟨4, _⟩ => ⟨S1024x2048, .f32⟩
  | .hbm, ⟨5, _⟩ => ⟨S1024x512, .f32⟩
  | .hbm, ⟨6, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjBDw.lean ====
abbrev S2048x1024 : Shape := ⟨2, ![2048, 1024]⟩
abbrev S2048x1536 : Shape := ⟨2, ![2048, 1536]⟩
abbrev S1024x1536 : Shape := ⟨2, ![1024, 1536]⟩
abbrev S512x512 : Shape := ⟨2, ![512, 512]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S1024x1536, .bf16⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBDwIdeal.lean ====
abbrev S2048x1024 : Shape := ⟨2, ![2048, 1024]⟩
abbrev S2048x1536 : Shape := ⟨2, ![2048, 1536]⟩
abbrev S1024x1536 : Shape := ⟨2, ![1024, 1536]⟩
abbrev S512x512 : Shape := ⟨2, ![512, 512]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S1024x1536, .bf16⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjBDwIdeal.lean ====
abbrev S2048x1024 : Shape := ⟨2, ![2048, 1024]⟩
abbrev S2048x1536 : Shape := ⟨2, ![2048, 1536]⟩
abbrev S1024x2048 : Shape := ⟨2, ![1024, 2048]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x1024, .f32⟩
  | .hbm, ⟨3, _⟩ => ⟨S2048x1536, .f32⟩
  | .hbm, ⟨4, _⟩ => ⟨S1024x2048, .f32⟩
  | .hbm, ⟨5, _⟩ => ⟨S1024x1536, .f32⟩
  | .hbm, ⟨6, _⟩ => ⟨S1024x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnAct.lean ====
abbrev S2048x5632 : Shape := ⟨2, ![2048, 5632]⟩
abbrev S3x5632 : Shape := ⟨2, ![3, 5632]⟩
abbrev S2048x2816 : Shape := ⟨2, ![2048, 2816]⟩
abbrev S256x256 : Shape := ⟨2, ![256, 256]⟩
abbrev S8x256 : Shape := ⟨2, ![8, 256]⟩
abbrev S3x256 : Shape := ⟨2, ![3, 256]⟩
abbrev S264x256 : Shape := ⟨2, ![264, 256]⟩
abbrev S1x256 : Shape := ⟨2, ![1, 256]⟩

abbrev nBuf : Space → Nat
  | .hbm => 3
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2048x2816, .bf16⟩
  | .local _ .vmem, ⟨0, _⟩ => ⟨S256x256, .f32⟩
  | .local _ .vmem, ⟨1, _⟩ => ⟨S256x256, .f32⟩
  | .local _ .vmem, ⟨2, _⟩ => ⟨S8x256, .f32⟩
  | .local _ .vmem, ⟨3, _⟩ => ⟨S8x256, .f32⟩
  | .local _ .vmem, ⟨4, _⟩ => ⟨S256x256, .f32⟩
  | .local _ .vmem, ⟨5, _⟩ => ⟨S256x256, .f32⟩
  | .local _ .vmem, ⟨6, _⟩ => ⟨S8x256, .f32⟩
  | .local _ .vmem, ⟨7, _⟩ => ⟨S8x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S256x256, .bf16⟩
  | .local _ .vmem, ⟨13, _⟩ => ⟨S256x256, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PlainFfnActIdeal.lean ====
abbrev S2048x5632 : Shape := ⟨2, ![2048, 5632]⟩
abbrev S3x5632 : Shape := ⟨2, ![3, 5632]⟩
abbrev S_ : Shape := ⟨0, ![]⟩
abbrev S2050x5632 : Shape := ⟨2, ![2050, 5632]⟩
abbrev S1x5632 : Shape := ⟨2, ![1, 5632]⟩
abbrev S5632 : Shape := ⟨1, ![5632]⟩
abbrev S2048x2816 : Shape := ⟨2, ![2048, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S_, .i32⟩
  | .hbm, ⟨3, _⟩ => ⟨S_, .f32⟩
  | .hbm, ⟨4, _⟩ => ⟨S2050x5632, .f32⟩
  | .hbm, ⟨5, _⟩ => ⟨S2048x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Norm.lean ====
/-
The row normalization `x · rsqrt (mean x² + ε)` at the extended reals, and the two ways to write its derivative: as the
kernel does, with the row's mean of products taken of normalized entries, and as the chain rule does, through the
derivative of the reciprocal square root. They agree at every extended real: the mean square plus `ε` is positive, so the
scale is either zero or a positive real, and multiplying by that distributes.
-/
module

public import Idealize.ShloMosaic.Lib.ValueIdx
public import Idealize.ShloMosaic.Lib.Pointwise

@[expose] public section

noncomputable section

namespace Cert.Norm

open Idealize.ShloMosaic
open scoped BigOperators

theorem lanes : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem epsilon_pos : 0 < Ideal.ofBits .f32 0x358637BD#32 := by
  have e : Ideal.ofBits .f32 0x358637BD#32 = ((8796093 / 8796093022208 : ℝ) : EReal) := by
    simp [Ideal.ofBits, Ideal.ieee, -EReal.coe_mul]; norm_num
  rw [e]
  exact EReal.coe_pos.mpr (by norm_num)

/-- A row's mean square, with `ε` added. -/
def meanSq {n : Nat} (x : Fin n → EReal) : EReal :=
  Ideal.div (∑ k, x k * x k) (Ideal.ofBits .f32 0x44800000#32) + Ideal.ofBits .f32 0x358637BD#32

theorem sq_nonneg (a : EReal) : 0 ≤ a * a := by
  rcases le_total 0 a with h | h
  · exact EReal.mul_nonneg h h
  · rw [← neg_mul_neg]
    have h' : 0 ≤ -a := by simpa using EReal.neg_le_neg_iff.mpr h
    exact EReal.mul_nonneg h' h'

theorem meanSq_pos {n : Nat} (x : Fin n → EReal) : 0 < meanSq x := by
  unfold meanSq
  rw [lanes, Ideal.div_coe (by norm_num)]
  exact lt_of_lt_of_le epsilon_pos (le_add_of_nonneg_left (EReal.mul_nonneg (Finset.sum_nonneg fun k _ => sq_nonneg (x k))
    (EReal.coe_nonneg.mpr (by norm_num))))

/-- A row's scale. -/
def scale {n : Nat} (x : Fin n → EReal) : EReal := Ideal.rsqrt (meanSq x)

/-- Multiplication by a nonnegative real distributes over a sum. -/
theorem sum_mul_real {n : Nat} (f : Fin n → EReal) {a : ℝ} (ha : 0 ≤ a) : ∑ k, f k * (a : EReal) = (∑ k, f k) * (a : EReal) := by
  suffices h : ∀ s : Finset (Fin n), ∑ k ∈ s, f k * (a : EReal) = (∑ k ∈ s, f k) * (a : EReal) from h Finset.univ
  intro s
  induction s using Finset.cons_induction with
  | empty => simp
  | cons k s hk ih =>
    rw [Finset.sum_cons, Finset.sum_cons, ih,
      EReal.right_distrib_of_nonneg_of_ne_top (EReal.coe_nonneg.mpr ha) (EReal.coe_ne_top a)]

/-- A multiple of a sum with itself. -/
theorem double (q : EReal) {a : ℝ} (ha : 0 ≤ a) : q * ((-a : ℝ) : EReal) + q * ((-a : ℝ) : EReal) = -(q * ((a + a : ℝ) : EReal)) := by
  have h := EReal.coe_nonneg.mpr ha
  rw [EReal.coe_neg, mul_neg, ← neg_mul, ← EReal.left_distrib_of_nonneg h h, ← EReal.coe_add, neg_mul]

/-- The mean of the products of the weighted gradient with the normalized row. -/
def along {n : Nat} (g w x : Fin n → EReal) : EReal :=
  Ideal.div (∑ k, g k * w k * (x k * scale x)) (Ideal.ofBits .f32 0x44800000#32)

/-- The derivative of the loss with respect to the mean square, over `n` times a half: as the chain rule writes it. -/
def throughScale {n : Nat} (g w x : Fin n → EReal) : EReal :=
  Ideal.div ((∑ k, x k * (g k * w k)) * (Ideal.ofBits .f32 0xBF000000#32 * Ideal.div (scale x) (meanSq x))) (Ideal.ofBits .f32 0x44800000#32)

/-- The two ways to write the derivative of a row's normalization agree. -/
theorem back {n : Nat} (g w x : Fin n → EReal) (j : Fin n) :
    g j * w j * scale x + x j * throughScale g w x + throughScale g w x * x j
      = scale x * (g j * w j - x j * scale x * along g w x) := by
  have hpos := meanSq_pos x
  unfold throughScale along
  rw [show scale x = Ideal.rsqrt (meanSq x) from rfl]
  generalize meanSq x = M at hpos ⊢
  generalize g j * w j = a
  have hs : ∑ k, x k * (g k * w k) = ∑ k, g k * w k * x k := Finset.sum_congr rfl fun k _ => mul_comm _ _
  rw [hs, lanes, minus_half]
  induction M with
  | bot => exact absurd hpos (by simp)
  | top =>
    have h0 : Ideal.div (0 : EReal) ⊤ = 0 := by simp [Ideal.div]
    rw [Ideal.rsqrt_top, h0, Ideal.div_coe (by norm_num)]
    simp
  | coe μ =>
    have hμ : 0 < μ := EReal.coe_pos.mp hpos
    obtain ⟨ρ, hρ, hr, hd⟩ : ∃ ρ : ℝ, 0 ≤ ρ ∧ Ideal.rsqrt (μ : EReal) = (ρ : EReal) ∧ 1 / μ = ρ * ρ := by
      refine ⟨(Real.sqrt μ)⁻¹, inv_nonneg.mpr (Real.sqrt_nonneg μ), ?_, ?_⟩
      · rw [Ideal.rsqrt_coe, if_neg (not_lt.mpr hμ.le), if_neg hμ.ne']
      · rw [← mul_inv, Real.mul_self_sqrt hμ.le, one_div]
    have hS : ∑ k, g k * w k * (x k * (ρ : EReal)) = (∑ k, g k * w k * x k) * (ρ : EReal) := by
      rw [← sum_mul_real _ hρ]
      exact Finset.sum_congr rfl fun k _ => (mul_assoc _ _ _).symm
    rw [hr, hS, Ideal.div_coe hμ.ne', Ideal.div_coe (by norm_num), Ideal.div_coe (by norm_num), hd]
    generalize ∑ k, g k * w k * x k = S
    have hA : S * (((-(1 / 2) : ℝ) : EReal) * ((ρ : EReal) * ((ρ * ρ : ℝ) : EReal))) * ((1 / 1024 : ℝ) : EReal)
        = S * ((-(ρ * (ρ * ρ) / 2048) : ℝ) : EReal) := by
      rw [mul_assoc, ← EReal.coe_mul, ← EReal.coe_mul, ← EReal.coe_mul]
      congr 2
      rw [neg_mul, neg_mul, neg_inj, mul_comm (1 / 2 : ℝ), mul_assoc]
      norm_num [div_eq_mul_inv]
    rw [hA, mul_comm _ (x j), ← mul_assoc, add_assoc, double _ (by positivity), sub_eq_add_neg,
      EReal.left_distrib_of_nonneg_of_ne_top (EReal.coe_nonneg.mpr hρ) (EReal.coe_ne_top ρ), mul_comm a, mul_neg]
    refine congrArg (fun z => (ρ : EReal) * a + -z) ?_
    have hc : (ρ * (ρ * ρ) / 2048 + ρ * (ρ * ρ) / 2048 : ℝ) = ρ * (ρ * (ρ * (1 / 1024))) := by
      grind
    rw [hc, EReal.coe_mul, EReal.coe_mul, EReal.coe_mul]
    ac_rfl

/-! ## Arrays -/

section

variable {R C : Nat}

/-- A row of an array. -/
abbrev row (x : (⟨2, ![R, C]⟩ : Shape).Idx → EReal) (i : Fin R) : Fin C → EReal := fun k => x (ix2 i k)

/-- The gradient with respect to the input of the normalization, from the gradient `g` of its output. -/
def gradIn (g x : (⟨2, ![R, C]⟩ : Shape).Idx → EReal) (w : (⟨2, ![1, C]⟩ : Shape).Idx → EReal) : (⟨2, ![R, C]⟩ : Shape).Idx → EReal := fun y =>
  scale (row x (y 0)) * (g y * w (ix2 0 (y 1)) - x y * scale (row x (y 0)) * along (row g (y 0)) (row w 0) (row x (y 0)))

/-- The same through the chain rule, the derivative of the row's mean summed over its unit axis. -/
theorem gradIn_chain (g x : (⟨2, ![R, C]⟩ : Shape).Idx → EReal) (w : (⟨2, ![1, C]⟩ : Shape).Idx → EReal) (y : (⟨2, ![R, C]⟩ : Shape).Idx) :
    g y * w (ix2 0 (y 1)) * scale (row x (y 0)) + x y * (∑ _u : Fin 1, throughScale (row g (y 0)) (row w 0) (row x (y 0)))
      + (∑ _u : Fin 1, throughScale (row g (y 0)) (row w 0) (row x (y 0))) * x y = gradIn g x w y := by
  rw [Fin.sum_univ_one]
  obtain ⟨i, j, rfl⟩ : ∃ i j, y = ix2 i j := ⟨_, _, ValueIdx.eq_ix2 y⟩
  exact back (row g i) (row w 0) (row x i) j

/-- The gradient added to another array. -/
def gradInOnto (g x : (⟨2, ![R, C]⟩ : Shape).Idx → EReal) (w : (⟨2, ![1, C]⟩ : Shape).Idx → EReal) (res : (⟨2, ![R, C]⟩ : Shape).Idx → EReal) :
    (⟨2, ![R, C]⟩ : Shape).Idx → EReal := fun y => res y + gradIn g x w y

theorem gradInOnto_chain (g x : (⟨2, ![R, C]⟩ : Shape).Idx → EReal) (w : (⟨2, ![1, C]⟩ : Shape).Idx → EReal) (res : (⟨2, ![R, C]⟩ : Shape).Idx → EReal)
    (y : (⟨2, ![R, C]⟩ : Shape).Idx) :
    res y + (g y * w (ix2 0 (y 1)) * scale (row x (y 0)) + x y * (∑ _u : Fin 1, throughScale (row g (y 0)) (row w 0) (row x (y 0)))
      + (∑ _u : Fin 1, throughScale (row g (y 0)) (row w 0) (row x (y 0))) * x y) = gradInOnto g x w res y :=
  congrArg (res y + ·) (gradIn_chain g x w y)

/-- The gradient with respect to the weights. -/
def gradW (g x : (⟨2, ![R, C]⟩ : Shape).Idx → EReal) : (⟨2, ![1, C]⟩ : Shape).Idx → EReal := fun y =>
  ∑ i : Fin R, g (ix2 i (y 1)) * (x (ix2 i (y 1)) * scale (row x i))

/-- The normalized array times the weights. -/
def normed (x : (⟨2, ![R, C]⟩ : Shape).Idx → EReal) (w : (⟨2, ![1, C]⟩ : Shape).Idx → EReal) : (⟨2, ![R, C]⟩ : Shape).Idx → EReal := fun y =>
  x y * scale (row x (y 0)) * w (ix2 0 (y 1))

/-! ## The loss -/

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem perLane : Ideal.ofBits .f32 0x3A800000#32 = ((1 / 1024 : ℝ) : EReal) := by
  simp [Ideal.ofBits, Ideal.ieee, -EReal.coe_mul]; norm_num

theorem perLaneHalf : Ideal.ofBits .f32 0x3A000000#32 = ((1 / 2048 : ℝ) : EReal) := by
  simp [Ideal.ofBits, Ideal.ieee, -EReal.coe_mul]; norm_num

/-- What the normalized array misses its target by. -/
def miss (x : (⟨2, ![R, C]⟩ : Shape).Idx → EReal) (w : (⟨2, ![1, C]⟩ : Shape).Idx → EReal) (t : (⟨2, ![R, C]⟩ : Shape).Idx → EReal) :
    (⟨2, ![R, C]⟩ : Shape).Idx → EReal := fun y => normed x w y - t y

/-- The gradient of the loss with respect to the normalized array, from what it misses. -/
def pull (e : (⟨2, ![R, C]⟩ : Shape).Idx → EReal) : (⟨2, ![R, C]⟩ : Shape).Idx → EReal := fun y => e y * Ideal.ofBits .f32 0x3A800000#32

/-- The same through the chain rule. -/
def chained (e : (⟨2, ![R, C]⟩ : Shape).Idx → EReal) : (⟨2, ![R, C]⟩ : Shape).Idx → EReal := fun y =>
  Ideal.div (Ideal.ofBits .f32 0x3F000000#32) (Ideal.ofBits .f32 0x44800000#32)
    * (Ideal.ofBits .f32 0x40000000#32 * e y)

theorem chained_eq (e : (⟨2, ![R, C]⟩ : Shape).Idx → EReal) : chained e = pull e := by
  funext y
  unfold chained pull
  rw [half, two, perLane, lanes, Ideal.div_coe (by norm_num), ← mul_assoc, ← EReal.coe_mul, ← EReal.coe_mul, mul_comm (e y)]
  norm_num

/-- The loss of what is missed: the squares' sum, scaled. -/
def loss (e : (⟨2, ![R, C]⟩ : Shape).Idx → EReal) : EReal :=
  ∑ i : Fin R, (∑ k : Fin C, e (ix2 i k) * e (ix2 i k)) * Ideal.ofBits .f32 0x3A000000#32

/-- Half the sum of the rows' mean squares is the loss. -/
theorem loss_mean (e : (⟨2, ![R, C]⟩ : Shape).Idx → EReal) :
    Ideal.ofBits .f32 0x3F000000#32 * (∑ i : Fin R, Ideal.div (∑ k : Fin C, e (ix2 i k) * e (ix2 i k)) (Ideal.ofBits .f32 0x44800000#32)) = loss e := by
  unfold loss
  rw [half, perLaneHalf, lanes, mul_comm, ← sum_mul_real _ (by norm_num)]
  refine Finset.sum_congr rfl fun i _ => ?_
  rw [Ideal.div_coe (by norm_num), mul_assoc, ← EReal.coe_mul]
  norm_num

/-- A tile's sum of squares, scaled, is the sum of its rows' shares. -/
theorem loss_tile (f : Fin R → EReal) :
    (∑ i, f i) * Ideal.ofBits .f32 0x3A000000#32 = ∑ i, f i * Ideal.ofBits .f32 0x3A000000#32 := by
  rw [perLaneHalf, sum_mul_real _ (by norm_num)]

end

end Cert.Norm

end
-- ==== Proof.RmsFwd.lean ====
/-
The normalization of an array's rows: its result, and that of the plain reference.
-/
module

public import proofs.«01_k».proof.Proof.Norm
public import proofs.«01_k».proof.Proof.Gen.RmsFwdIdeal.Value
public import proofs.«01_k».proof.Proof.Gen.PlainRmsFwdIdeal.Run
public import Idealize.ShloMosaic.Lib.Pipeline.ValueKit

@[expose] public section

noncomputable section

namespace Cert.Norm.Fwd

open Idealize.ShloMosaic Idealize.ShloMosaic.TcCoe Idealize.SL.Sem
open scoped BigOperators

section Kernel

open Cert.RmsFwdIdeal Cert.RmsFwdIdeal.Gen Cert.RmsFwdIdeal.Value

/-- Where the windows lie. -/
theorem places : ∀ t : Fin cfg0.N, (∀ a, win0_0.index t a = win0_2.index t a) ∧ win0_2.index t 1 = 0 ∧ (∀ a, win0_1.index t a = 0) := (by decide +kernel : ∀ t : Fin grid0.N, _)

variable (m : (ℓ : Loc nD τ sig) → Buf (Elt Ideal) ℓ)

theorem final (c : Dev nD) :
    (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1]
  unfold normed scale meanSq row
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainRmsFwdIdeal Cert.PlainRmsFwdIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainRmsFwdIdeal.Value.run m ρ)
  obtain ⟨h0, ha⟩ := h c
  refine ⟨h0.trans (funext fun y => ?_), ha⟩
  pointwise
  rfl

end Reference

end Cert.Norm.Fwd

end
-- ==== Proof.RmsBwd.lean ====
/-
The call that differentiates a row normalization: its two results, and those of the plain reference.
-/
module

public import proofs.«01_k».proof.Proof.Norm
public import proofs.«01_k».proof.Proof.Gen.RmsBwdIdeal.Value
public import proofs.«01_k».proof.Proof.Gen.PlainRmsBwdIdeal.Run
public import Idealize.ShloMosaic.Lib.Pipeline.ValueKit
public import Idealize.ShloMosaic.Lib.Pipeline.ReadBack

@[expose] public section

noncomputable section

namespace Cert.Norm.Bwd

open Idealize.ShloMosaic Idealize.ShloMosaic.TcCoe Idealize.SL.Sem
open scoped BigOperators

section Kernel

open Cert.RmsBwdIdeal Cert.RmsBwdIdeal.Gen Cert.RmsBwdIdeal.Value

/-- Where the windows lie. -/
theorem places : ∀ t : Fin cfg0.N, (∀ a, win0_0.index t a = win0_4.index t a) ∧ (∀ a, win0_1.index t a = win0_4.index t a)
    ∧ (∀ a, win0_2.index t a = 0) ∧ (∀ a, win0_3.index t a = win0_4.index t a) ∧ win0_4.index t 0 = t.val ∧ win0_4.index t 1 = 0
    ∧ (∀ a, win0_5.index t a = 0) := (by decide +kernel : ∀ t : Fin grid0.N, _)

variable (m : (ℓ : Loc nD τ sig) → Buf (Elt Ideal) ℓ)

/-- A tile of the first result. -/
theorem tile (c : Dev nD) (t : Fin cfg0.N) :
    (outsAt0 m c t.val t.isLt).1 = k0_pay4 (iblk m c 1 t) (iblk m c 0 t) (iblk m c 2 t) (iblk m c 3 t) := by
  have hN : t.val < 8 := lt_of_lt_of_eq t.isLt N_0
  by_cases h : t.val % 8 = 0
  · rw [outsAt0_A m c t h (by omega)]
    frame_out
  · rw [outsAt0_B m c t h (by omega)]
    frame_out

/-- The first result. -/
theorem input (c : Dev nD) : (dats m 0 c).arrAt 4 cfg0.N
    = gradInOnto (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, tile]
  pointwise [k0_pay4, k0_pay3, k0_pay2]
  unfold gradInOnto gradIn along scale meanSq row
  blk_point [iblk, V, places t]

/-- The second result's block after the last point: the tiles' parts added. -/
theorem summed (c : Dev nD) (t : Fin cfg0.N) (ht : t.val + 1 = cfg0.N) (j : S1x1024.Idx) :
    (outsAt0 m c t.val t.isLt).2 j = ∑ s : Fin cfg0.N, k0_pay5 (iblk m c 1 s) (iblk m c 0 s) j := by
  rw [Pipeline.eq_sum_fin_of_reset_step_apply_last (M := EReal) (fun n h => (outsAt0 m c n h).2) 8 (fun _ => (0 : EReal))
    (fun t j => k0_pay5 (iblk m c 1 t) (iblk m c 0 t) j) (fun t h i => ?_) (fun t h i => ?_) (le_of_eq N_0) t ht j, zero_add]
  · have hN : t.val < 8 := lt_of_lt_of_eq t.isLt N_0
    rw [outsAt0_A m c t h (by omega)]
    frame_out
    exact (zero_add _).symm
  · have hN : t.val < 8 := lt_of_lt_of_eq t.isLt N_0
    rw [outsAt0_B m c t h (by omega)]
    frame_out
    pointwise [k0_pay1]

/-- The last point. -/
def last : Fin cfg0.N := ⟨7, by decide⟩

/-- The second result. -/
theorem weights (c : Dev nD) : (dats m 0 c).arrAt 5 cfg0.N = gradW (m ((c : Thread nD τ).loc main_arg0)) (m ((c : Thread nD τ).loc main_arg1)) := by
  refine (dats m 0 c).arrAt_eq_of_after_last 5 last (by decide +kernel) _ fun j => ?_
  blk_simp
  rw [after0_5, summed m c last (by decide)]
  unfold gradW scale meanSq row
  rw [← Fin.sum_mul_add_fin 8 256 (L := 2048)]
  refine Fin.sum_fin_congr fun s => ?_
  pointwise [k0_pay5, k0_pay3, k0_pay2]
  blk_point [iblk, V, places s]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0_0) = gradInOnto (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = gradW (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (input m c), (h c).2.1.trans (weights m c), (h c).2.2⟩) (run_blocks m ρ)

end Kernel

section Reference

open Cert.PlainRmsBwdIdeal Cert.PlainRmsBwdIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v34) = gradInOnto (m ((c : Thread nD τ).loc main_arg0)) (m ((c : Thread nD τ).loc main_arg1)) (m ((c : Thread nD τ).loc main_arg2)) (m ((c : Thread nD τ).loc main_arg3))
      ∧ r.2.mem ((c : Thread nD τ).loc main_v17) = gradW (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (Cert.PlainRmsBwdIdeal.Value.run m ρ)
  obtain ⟨h0, h1, ha⟩ := h c
  clear h
  refine ⟨h0.trans (funext fun y => ?_), h1.trans (funext fun y => ?_), ha⟩
  · refine Eq.trans ?_ (gradInOnto_chain _ _ _ _ y)
    pointwise
    unfold throughScale scale meanSq row
    rfl
  · pointwise
    unfold gradW scale meanSq row
    refine Fin.sum_fin_congr fun i => ?_
    exact mul_comm _ _

end Reference

end Cert.Norm.Bwd

end
-- ==== Proof.Loss.lean ====
/-
The call that takes the loss of the normalized array and differentiates it: its three results, and those of the plain
reference.
-/
module

public import proofs.«01_k».proof.Proof.Norm
public import proofs.«01_k».proof.Proof.Gen.LossIdeal.Value
public import proofs.«01_k».proof.Proof.Gen.PlainLossIdeal.Run
public import Idealize.ShloMosaic.Lib.Pipeline.ValueKit
public import Idealize.ShloMosaic.Lib.Pipeline.ReadBack

@[expose] public section

noncomputable section

namespace Cert.Norm.Loss

open Idealize.ShloMosaic Idealize.ShloMosaic.TcCoe Idealize.SL.Sem
open scoped BigOperators

/-- `dx`, `dw` and `l` are the results of the call on the array `x`, the weights `w` and the target `t`. -/
def Taken (x : (⟨2, ![2048, 1024]⟩ : Shape).Idx → EReal) (w : (⟨2, ![1, 1024]⟩ : Shape).Idx → EReal) (t dx : (⟨2, ![2048, 1024]⟩ : Shape).Idx → EReal)
    (dw : (⟨2, ![1, 1024]⟩ : Shape).Idx → EReal) (l : (⟨2, ![1, 128]⟩ : Shape).Idx → EReal) : Prop :=
  dx = gradIn (pull (miss x w t)) x w ∧ dw = gradW (pull (miss x w t)) x ∧ l = fun _ => loss (miss x w t)

section Kernel

open Cert.LossIdeal Cert.LossIdeal.Gen Cert.LossIdeal.Value

/-- Where the windows lie. -/
theorem places : ∀ t : Fin cfg0.N, (∀ a, win0_0.index t a = win0_3.index t a) ∧ (∀ a, win0_1.index t a = 0) ∧ (∀ a, win0_2.index t a = win0_3.index t a)
    ∧ win0_3.index t 0 = t.val ∧ win0_3.index t 1 = 0 := (by decide +kernel : ∀ t : Fin grid0.N, _)

variable (m : (ℓ : Loc nD τ sig) → Buf (Elt Ideal) ℓ)

/-- A tile of the first result. -/
theorem tile (c : Dev nD) (t : Fin cfg0.N) : (outsAt0 m c t.val t.isLt).1 = k0_pay10 (iblk m c 0 t) (iblk m c 1 t) (iblk m c 2 t) := by
  have hN : t.val < 8 := lt_of_lt_of_eq t.isLt N_0
  by_cases h : t.val % 8 = 0
  · rw [outsAt0_A m c t h (by omega)]
    frame_out
  · rw [outsAt0_B m c t h (by omega)]
    frame_out

/-- The first result. -/
theorem input (c : Dev nD) : (dats m 0 c).arrAt 3 cfg0.N
    = gradIn (pull (miss (m ((c : Thread nD τ).loc main_arg0)) (m ((c : Thread nD τ).loc main_arg1)) (m ((c : Thread nD τ).loc main_arg2)))) (m ((c : Thread nD τ).loc main_arg0)) (m ((c : Thread nD τ).loc main_arg1)) := by
  refine (dats m 0 c).arrAt_eq_of_covers 3 _ (by decide +kernel) fun t hf y => ?_
  blk_simp
  rw [after0_3, tile]
  pointwise [k0_pay10, k0_pay9, k0_pay7, k0_pay6, k0_pay5]
  unfold gradIn along pull miss normed scale meanSq row
  simp only [ix2_0, ix2_1]
  blk_point [iblk, V, places t]

/-- The second result's block after the last point: the tiles' parts added. -/
theorem summed (c : Dev nD) (t : Fin cfg0.N) (ht : t.val + 1 = cfg0.N) (j : S1x1024.Idx) :
    (outsAt0 m c t.val t.isLt).2.1 j = ∑ s : Fin cfg0.N, k0_pay1 (k0_pay11 (iblk m c 0 s) (iblk m c 1 s) (iblk m c 2 s)) j := by
  rw [Pipeline.eq_sum_fin_of_reset_step_apply_last (M := EReal) (fun n h => (outsAt0 m c n h).2.1) 8 (fun _ => (0 : EReal))
    (fun t j => k0_pay1 (k0_pay11 (iblk m c 0 t) (iblk m c 1 t) (iblk m c 2 t)) j) (fun t h i => ?_) (fun t h i => ?_) (le_of_eq N_0) t ht j, zero_add]
  · have hN : t.val < 8 := lt_of_lt_of_eq t.isLt N_0
    rw [outsAt0_A m c t h (by omega)]
    frame_out
    exact (zero_add _).symm
  · have hN : t.val < 8 := lt_of_lt_of_eq t.isLt N_0
    rw [outsAt0_B m c t h (by omega)]
    frame_out
    pointwise [k0_pay3]

/-- The third result's block after the last point. -/
theorem summedLoss (c : Dev nD) (t : Fin cfg0.N) (ht : t.val + 1 = cfg0.N) (j : S1x128.Idx) :
    (outsAt0 m c t.val t.isLt).2.2 j = ∑ s : Fin cfg0.N, k0_pay2 (k0_pay8 (iblk m c 0 s) (iblk m c 1 s) (iblk m c 2 s)) j := by
  rw [Pipeline.eq_sum_fin_of_reset_step_apply_last (M := EReal) (fun n h => (outsAt0 m c n h).2.2) 8 (fun _ => (0 : EReal))
    (fun t j => k0_pay2 (k0_pay8 (iblk m c 0 t) (iblk m c 1 t) (iblk m c 2 t)) j) (fun t h i => ?_) (fun t h i => ?_) (le_of_eq N_0) t ht j, zero_add]
  · have hN : t.val < 8 := lt_of_lt_of_eq t.isLt N_0
    rw [outsAt0_A m c t h (by omega)]
    frame_out
    exact (zero_add _).symm
  · have hN : t.val < 8 := lt_of_lt_of_eq t.isLt N_0
    rw [outsAt0_B m c t h (by omega)]
    frame_out
    pointwise [k0_pay4]

/-- The last point. -/
def last : Fin cfg0.N := ⟨7, by decide⟩

/-- The second result. -/
theorem weights (c : Dev nD) : (dats m 0 c).arrAt 4 cfg0.N
    = gradW (pull (miss (m ((c : Thread nD τ).loc main_arg0)) (m ((c : Thread nD τ).loc main_arg1)) (m ((c : Thread nD τ).loc main_arg2)))) (m ((c : Thread nD τ).loc main_arg0)) := by
  refine (dats m 0 c).arrAt_eq_of_after_last 4 last (by decide +kernel) _ fun j => ?_
  blk_simp
  rw [after0_4, summed m c last (by decide)]
  unfold gradW pull miss normed scale meanSq row
  rw [← Fin.sum_mul_add_fin 8 256 (L := 2048)]
  refine Fin.sum_fin_congr fun s => ?_
  pointwise [k0_pay1, k0_pay11, k0_pay9, k0_pay7, k0_pay6, k0_pay5]
  blk_point [iblk, V, places s]

/-- The third result. -/
theorem value (c : Dev nD) : (dats m 0 c).arrAt 5 cfg0.N
    = fun _ => loss (miss (m ((c : Thread nD τ).loc main_arg0)) (m ((c : Thread nD τ).loc main_arg1)) (m ((c : Thread nD τ).loc main_arg2))) := by
  refine (dats m 0 c).arrAt_eq_of_after_last 5 last (by decide +kernel) _ fun j => ?_
  blk_simp
  rw [after0_5, summedLoss m c last (by decide)]
  unfold loss miss normed scale meanSq row
  rw [← Fin.sum_mul_add_fin 8 256 (L := 2048)]
  refine Fin.sum_fin_congr fun s => ?_
  pointwise [k0_pay2, k0_pay8, k0_pay7, k0_pay6, k0_pay5]
  refine (loss_tile _).trans ?_
  blk_point [iblk, V, places s]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0_0) = gradIn (pull (miss (m ((c : Thread nD τ).loc main_arg0)) (m ((c : Thread nD τ).loc main_arg1)) (m ((c : Thread nD τ).loc main_arg2)))) (m ((c : Thread nD τ).loc main_arg0)) (m ((c : Thread nD τ).loc main_arg1))
      ∧ r.2.mem ((c : Thread nD τ).loc main_v0_1) = gradW (pull (miss (m ((c : Thread nD τ).loc main_arg0)) (m ((c : Thread nD τ).loc main_arg1)) (m ((c : Thread nD τ).loc main_arg2)))) (m ((c : Thread nD τ).loc main_arg0))
      ∧ r.2.mem ((c : Thread nD τ).loc main_v0_2) = (fun _ => loss (miss (m ((c : Thread nD τ).loc main_arg0)) (m ((c : Thread nD τ).loc main_arg1)) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (input m c), (h c).2.1.trans (weights m c), (h c).2.2.1.trans (value m c), (h c).2.2.2⟩) (run_blocks m ρ)

end Kernel

section Reference

open Cert.PlainLossIdeal Cert.PlainLossIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Taken (m ((c : Thread nD τ).loc main_arg0)) (m ((c : Thread nD τ).loc main_arg1)) (m ((c : Thread nD τ).loc main_arg2))
        (r.2.mem ((c : Thread nD τ).loc main_v48)) (r.2.mem ((c : Thread nD τ).loc main_v32)) (r.2.mem ((c : Thread nD τ).loc main_v49))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (Cert.PlainLossIdeal.Value.run m ρ)
  obtain ⟨h0, h1, h2, ha⟩ := h c
  clear h
  refine ⟨⟨h0.trans (funext fun y => ?_), h1.trans (funext fun y => ?_), h2.trans (funext fun y => ?_)⟩, ha⟩
  · clear h0 h1 h2 ha
    rw [← chained_eq]
    refine Eq.trans ?_ (gradIn_chain _ _ _ y)
    pointwise [Value.res_main_v48]
    unfold throughScale scale meanSq row chained
    rfl
  · clear h0 h1 h2 ha
    rw [← chained_eq]
    pointwise
    unfold gradW scale meanSq row chained
    refine Fin.sum_fin_congr fun i => ?_
    exact mul_comm _ _
  · clear h0 h1 h2 ha
    refine Eq.trans ?_ (loss_mean _)
    pointwise
    rfl

end Reference

end Cert.Norm.Loss

end
-- ==== Proof.Products.lean ====
/-
The products of the training step at the extended reals: an array times another, either of them transposed, and what is
added to it.
-/
module

public import Idealize.ShloMosaic.Lib.ValueIdx
public import Idealize.ShloMosaic.Lib.Pointwise

@[expose] public section

noncomputable section

namespace Cert.Products

open Idealize.ShloMosaic
open scoped BigOperators

/-- The product `x · w`. -/
def prod {M K N : Nat} (x : (⟨2, ![M, K]⟩ : Shape).Idx → EReal) (w : (⟨2, ![K, N]⟩ : Shape).Idx → EReal) :
    (⟨2, ![M, N]⟩ : Shape).Idx → EReal := fun y => ∑ k : Fin K, x (ix2 (y 0) k) * w (ix2 k (y 1))

/-- The product `x · wᵀ`. -/
def prodRight {M K N : Nat} (x : (⟨2, ![M, K]⟩ : Shape).Idx → EReal) (w : (⟨2, ![N, K]⟩ : Shape).Idx → EReal) :
    (⟨2, ![M, N]⟩ : Shape).Idx → EReal := fun y => ∑ k : Fin K, x (ix2 (y 0) k) * w (ix2 (y 1) k)

/-- The product `xᵀ · w`. -/
def prodLeft {M K N : Nat} (x : (⟨2, ![K, M]⟩ : Shape).Idx → EReal) (w : (⟨2, ![K, N]⟩ : Shape).Idx → EReal) :
    (⟨2, ![M, N]⟩ : Shape).Idx → EReal := fun y => ∑ k : Fin K, x (ix2 k (y 0)) * w (ix2 k (y 1))

/-- A sum, element by element. -/
def plus {s : Shape} (a b : s.Idx → EReal) : s.Idx → EReal := fun y => a y + b y

theorem plus_comm {s : Shape} (a b : s.Idx → EReal) : plus a b = plus b a := funext fun y => add_comm (a y) (b y)

end Cert.Products

end
-- ==== Proof.ProjA.lean ====
/-
The product of the projection to the queries, keys and values of the recurrent part: its result, and that of the plain reference.
-/
module

public import proofs.«01_k».proof.Proof.Products
public import proofs.«01_k».proof.Proof.Gen.ProjAIdeal.Value
public import proofs.«01_k».proof.Proof.Gen.PlainProjAIdeal.Run
public import Idealize.ShloMosaic.Lib.Pipeline.ValueKit

@[expose] public section

noncomputable section

namespace Cert.Products.ProjA

open Idealize.ShloMosaic Idealize.ShloMosaic.TcCoe Idealize.SL.Sem
open scoped BigOperators

section Kernel

open Cert.ProjAIdeal Cert.ProjAIdeal.Gen Cert.ProjAIdeal.Value

/-- Where the windows lie. -/
theorem places : ∀ t : Fin cfg0.N, win0_0.index t 0 = win0_2.index t 0 ∧ win0_0.index t 1 = 0 ∧ win0_1.index t 0 = 0
    ∧ win0_1.index t 1 = win0_2.index t 1 := (by decide +kernel : ∀ t : Fin grid0.N, _)

variable (m : (ℓ : Loc nD τ sig) → Buf (Elt Ideal) ℓ)

theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prod
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjAIdeal Cert.PlainProjAIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjAIdeal.Value.run m ρ)
  obtain ⟨h0, ha⟩ := h c
  refine ⟨h0.trans (funext fun y => ?_), ha⟩
  pointwise
  rfl

end Reference

end Cert.Products.ProjA

end
-- ==== Proof.ProjZ.lean ====
/-
The product of the projection to the output gate: its result, and that of the plain reference.
-/
module

public import proofs.«01_k».proof.Proof.Products
public import proofs.«01_k».proof.Proof.Gen.ProjZIdeal.Value
public import proofs.«01_k».proof.Proof.Gen.PlainProjZIdeal.Run
public import Idealize.ShloMosaic.Lib.Pipeline.ValueKit

@[expose] public section

noncomputable section

namespace Cert.Products.ProjZ

open Idealize.ShloMosaic Idealize.ShloMosaic.TcCoe Idealize.SL.Sem
open scoped BigOperators

section Kernel

open Cert.ProjZIdeal Cert.ProjZIdeal.Gen Cert.ProjZIdeal.Value

/-- Where the windows lie. -/
theorem places : ∀ t : Fin cfg0.N, win0_0.index t 0 = win0_2.index t 0 ∧ win0_0.index t 1 = 0 ∧ win0_1.index t 0 = 0
    ∧ win0_1.index t 1 = win0_2.index t 1 := (by decide +kernel : ∀ t : Fin grid0.N, _)

variable (m : (ℓ : Loc nD τ sig) → Buf (Elt Ideal) ℓ)

theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prod
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjZIdeal Cert.PlainProjZIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjZIdeal.Value.run m ρ)
  obtain ⟨h0, ha⟩ := h c
  refine ⟨h0.trans (funext fun y => ?_), ha⟩
  pointwise
  rfl

end Reference

end Cert.Products.ProjZ

end
-- ==== Proof.ProjB.lean ====
/-
The product of the projection to the queries, keys and values of the attention: its result, and that of the plain reference.
-/
module

public import proofs.«01_k».proof.Proof.Products
public import proofs.«01_k».proof.Proof.Gen.ProjBIdeal.Value
public import proofs.«01_k».proof.Proof.Gen.PlainProjBIdeal.Run
public import Idealize.ShloMosaic.Lib.Pipeline.ValueKit

@[expose] public section

noncomputable section

namespace Cert.Products.ProjB

open Idealize.ShloMosaic Idealize.ShloMosaic.TcCoe Idealize.SL.Sem
open scoped BigOperators

section Kernel

open Cert.ProjBIdeal Cert.ProjBIdeal.Gen Cert.ProjBIdeal.Value

/-- Where the windows lie. -/
theorem places : ∀ t : Fin cfg0.N, win0_0.index t 0 = win0_2.index t 0 ∧ win0_0.index t 1 = 0 ∧ win0_1.index t 0 = 0
    ∧ win0_1.index t 1 = win0_2.index t 1 := (by decide +kernel : ∀ t : Fin grid0.N, _)

variable (m : (ℓ : Loc nD τ sig) → Buf (Elt Ideal) ℓ)

theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prod
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjBIdeal Cert.PlainProjBIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjBIdeal.Value.run m ρ)
  obtain ⟨h0, ha⟩ := h c
  refine ⟨h0.trans (funext fun y => ?_), ha⟩
  pointwise
  rfl

end Reference

end Cert.Products.ProjB

end
-- ==== Proof.OutProj.lean ====
/-
The product of the output projection, added to the residual: its result, and that of the plain reference.
-/
module

public import proofs.«01_k».proof.Proof.Products
public import proofs.«01_k».proof.Proof.Gen.OutProjIdeal.Value
public import proofs.«01_k».proof.Proof.Gen.PlainOutProjIdeal.Run
public import Idealize.ShloMosaic.Lib.Pipeline.ValueKit

@[expose] public section

noncomputable section

namespace Cert.Products.OutProj

open Idealize.ShloMosaic Idealize.ShloMosaic.TcCoe Idealize.SL.Sem
open scoped BigOperators

section Kernel

open Cert.OutProjIdeal Cert.OutProjIdeal.Gen Cert.OutProjIdeal.Value

/-- Where the windows lie. -/
theorem places : ∀ t : Fin cfg0.N, win0_0.index t 0 = win0_3.index t 0 ∧ win0_0.index t 1 = 0 ∧ win0_1.index t 0 = 0
    ∧ win0_1.index t 1 = win0_3.index t 1 ∧ (∀ a, win0_2.index t a = win0_3.index t a) := (by decide +kernel : ∀ t : Fin grid0.N, _)

variable (m : (ℓ : Loc nD τ sig) → Buf (Elt Ideal) ℓ)

theorem final (c : Dev nD) :
    (dats m 0 c).arrAt 3 cfg0.N = plus (m ((c : Thread nD τ).loc main_arg2)) (prod (m ((c : Thread nD τ).loc main_arg0)) (m ((c : Thread nD τ).loc main_arg1))) := by
  refine (dats m 0 c).arrAt_eq_of_covers 3 _ (by decide +kernel) fun t hf y => ?_
  blk_simp
  rw [after0_3]
  unfold outsAt0
  frame_out
  pointwise [k0_pay1, k0_pay2, k0_pay3]
  unfold plus prod
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = plus (m ((c : Thread nD τ).loc main_arg2)) (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Kernel

section Reference

open Cert.PlainOutProjIdeal Cert.PlainOutProjIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = plus (m ((c : Thread nD τ).loc main_arg2)) (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (Cert.PlainOutProjIdeal.Value.run m ρ)
  obtain ⟨h0, ha⟩ := h c
  refine ⟨h0.trans (funext fun y => ?_), ha⟩
  pointwise
  exact add_comm _ _

end Reference

end Cert.Products.OutProj

end
-- ==== Proof.FfnUp.lean ====
/-
The first product of the feed-forward part: its result, and that of the plain reference.
-/
module

public import proofs.«01_k».proof.Proof.Products
public import proofs.«01_k».proof.Proof.Gen.FfnUpIdeal.Value
public import proofs.«01_k».proof.Proof.Gen.PlainFfnUpIdeal.Run
public import Idealize.ShloMosaic.Lib.Pipeline.ValueKit

@[expose] public section

noncomputable section

namespace Cert.Products.FfnUp

open Idealize.ShloMosaic Idealize.ShloMosaic.TcCoe Idealize.SL.Sem
open scoped BigOperators

section Kernel

open Cert.FfnUpIdeal Cert.FfnUpIdeal.Gen Cert.FfnUpIdeal.Value

/-- Where the windows lie. -/
theorem places : ∀ t : Fin cfg0.N, win0_0.index t 0 = win0_2.index t 0 ∧ win0_0.index t 1 = 0 ∧ win0_1.index t 0 = 0
    ∧ win0_1.index t 1 = win0_2.index t 1 := (by decide +kernel : ∀ t : Fin grid0.N, _)

variable (m : (ℓ : Loc nD τ sig) → Buf (Elt Ideal) ℓ)

theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prod
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainFfnUpIdeal Cert.PlainFfnUpIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainFfnUpIdeal.Value.run m ρ)
  obtain ⟨h0, ha⟩ := h c
  refine ⟨h0.trans (funext fun y => ?_), ha⟩
  pointwise
  rfl

end Reference

end Cert.Products.FfnUp

end
-- ==== Proof.FfnDown.lean ====
/-
The second product of the feed-forward part, added to the residual: its result, and that of the plain reference.
-/
module

public import proofs.«01_k».proof.Proof.Products
public import proofs.«01_k».proof.Proof.Gen.FfnDownIdeal.Value
public import proofs.«01_k».proof.Proof.Gen.PlainFfnDownIdeal.Run
public import Idealize.ShloMosaic.Lib.Pipeline.ValueKit
public import Idealize.ShloMosaic.Lib.Pipeline.ReadBack

@[expose] public section

noncomputable section

namespace Cert.Products.FfnDown

open Idealize.ShloMosaic Idealize.ShloMosaic.TcCoe Idealize.SL.Sem
open scoped BigOperators

section Kernel

open Cert.FfnDownIdeal Cert.FfnDownIdeal.Gen Cert.FfnDownIdeal.Value

/-- Where the windows lie. -/
theorem places : ∀ t : Fin cfg0.N, win0_0.index t 0 = t.val / 4 ∧ win0_0.index t 1 = t.val % 2 ∧ win0_1.index t 0 = t.val % 2 ∧ win0_1.index t 1 = t.val / 2 % 2
    ∧ win0_2.index t 0 = t.val / 4 ∧ win0_2.index t 1 = t.val / 2 % 2 ∧ win0_3.index t 0 = t.val / 4 ∧ win0_3.index t 1 = t.val / 2 % 2 := (by decide +kernel : ∀ t : Fin grid0.N, _)

variable (m : (ℓ : Loc nD τ sig) → Buf (Elt Ideal) ℓ)

theorem scratch (c : Dev nD) (t : Fin cfg0.N) (ht : t.val % 2 = 1) (j : S512x512.Idx) : (outsAt0 m c t.val t.isLt).2 j
    = ∑ s : Fin 2, k0_pay1 (iblk m c 0 ⟨2 * (t.val / 2) + s.val, Pipeline.run_point_lt_of_flush t ht s⟩) (iblk m c 1 ⟨2 * (t.val / 2) + s.val, Pipeline.run_point_lt_of_flush t ht s⟩) j := by
  rw [Pipeline.eq_sum_fin_of_reset_step_apply_of_flush (M := EReal) (fun n h => (outsAt0 m c n h).2) 2 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rw [outsAt0_B m c t h (by omega) (by omega)]
    frame_out
    rw [read_unread_whole]
    pointwise [k0_pay3]

theorem final (c : Dev nD) : (dats m 0 c).arrAt 3 cfg0.N = plus (m ((c : Thread nD τ).loc main_arg2)) (prod (m ((c : Thread nD τ).loc main_arg0)) (m ((c : Thread nD τ).loc main_arg1))) := by
  refine (dats m 0 c).arrAt_eq_of_covers 3 _ (by decide +kernel) fun t hf y => ?_
  have ht := (flush0_3 t).mp hf
  blk_simp
  rw [after0_3]
  have e : (outsAt0 m c t.val t.isLt).1 = k0_pay4 (iblk m c 2 t) (outsAt0 m c t.val t.isLt).2 := by
    rw [outsAt0_B m c t (by omega) ht ht]
    frame_out
    pointwise [k0_pay4]
    exact add_comm _ _
  rw [e]
  pointwise [k0_pay4]
  rw [scratch m c t ht]
  unfold plus prod
  refine congrArg₂ (· + ·) ?_ ?_
  · blk_point [iblk, V, places t]
  · rw [← Fin.sum_mul_add_fin 2 1408 (L := 2816)]
    refine Fin.sum_fin_congr fun s => ?_
    pointwise [k0_pay1]
    blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = plus (m ((c : Thread nD τ).loc main_arg2)) (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Kernel

section Reference

open Cert.PlainFfnDownIdeal Cert.PlainFfnDownIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = plus (m ((c : Thread nD τ).loc main_arg2)) (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (Cert.PlainFfnDownIdeal.Value.run m ρ)
  obtain ⟨h0, ha⟩ := h c
  refine ⟨h0.trans (funext fun y => ?_), ha⟩
  pointwise
  exact add_comm _ _

end Reference

end Cert.Products.FfnDown

end
-- ==== Proof.FfnDownDx.lean ====
/-
The gradient that the second product of the feed-forward part passes back: its result, and that of the plain reference.
-/
module

public import proofs.«01_k».proof.Proof.Products
public import proofs.«01_k».proof.Proof.Gen.FfnDownDxIdeal.Value
public import proofs.«01_k».proof.Proof.Gen.PlainFfnDownDxIdeal.Run
public import Idealize.ShloMosaic.Lib.Pipeline.ValueKit

@[expose] public section

noncomputable section

namespace Cert.Products.FfnDownDx

open Idealize.ShloMosaic Idealize.ShloMosaic.TcCoe Idealize.SL.Sem
open scoped BigOperators

section Kernel

open Cert.FfnDownDxIdeal Cert.FfnDownDxIdeal.Gen Cert.FfnDownDxIdeal.Value

/-- Where the windows lie. -/
theorem places : ∀ t : Fin cfg0.N, win0_0.index t 0 = win0_2.index t 0 ∧ win0_0.index t 1 = 0
    ∧ win0_1.index t 0 = win0_2.index t 1 ∧ win0_1.index t 1 = 0 := (by decide +kernel : ∀ t : Fin grid0.N, _)

variable (m : (ℓ : Loc nD τ sig) → Buf (Elt Ideal) ℓ)

/-- The result. -/
theorem final (c : Dev nD) : (dats m 0 c).arrAt 2 cfg0.N = prodRight (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prodRight
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainFfnDownDxIdeal Cert.PlainFfnDownDxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainFfnDownDxIdeal.Value.run m ρ)
  obtain ⟨h0, ha⟩ := h c
  refine ⟨h0.trans (funext fun y => ?_), ha⟩
  pointwise
  rfl

end Reference

end Cert.Products.FfnDownDx

end
-- ==== Proof.FfnGateDx.lean ====
/-
The gradient that the gate's half of the first product of the feed-forward part passes back: its result, and that of the plain reference.
-/
module

public import proofs.«01_k».proof.Proof.Products
public import proofs.«01_k».proof.Proof.Gen.FfnGateDxIdeal.Value
public import proofs.«01_k».proof.Proof.Gen.PlainFfnGateDxIdeal.Run
public import Idealize.ShloMosaic.Lib.Pipeline.ValueKit
public import Idealize.ShloMosaic.Lib.Pipeline.ReadBack

@[expose] public section

noncomputable section

namespace Cert.Products.FfnGateDx

open Idealize.ShloMosaic Idealize.ShloMosaic.TcCoe Idealize.SL.Sem
open scoped BigOperators

section Kernel

open Cert.FfnGateDxIdeal Cert.FfnGateDxIdeal.Gen Cert.FfnGateDxIdeal.Value

/-- Where the windows lie. -/
theorem places : ∀ t : Fin cfg0.N, win0_0.index t 0 = t.val / 4 ∧ win0_0.index t 1 = t.val % 2 ∧ win0_1.index t 0 = t.val / 2 % 2 ∧ win0_1.index t 1 = t.val % 2
    ∧ win0_2.index t 0 = t.val / 4 ∧ win0_2.index t 1 = t.val / 2 % 2 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 2 = 1) (j : S512x512.Idx) : (outsAt0 m c t.val t.isLt).2 j
    = ∑ s : Fin 2, k0_pay1 (iblk m c 0 ⟨2 * (t.val / 2) + s.val, Pipeline.run_point_lt_of_flush t ht s⟩) (iblk m c 1 ⟨2 * (t.val / 2) + s.val, Pipeline.run_point_lt_of_flush t ht s⟩) j := by
  rw [Pipeline.eq_sum_fin_of_reset_step_apply_of_flush (M := EReal) (fun n h => (outsAt0 m c n h).2) 2 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rw [outsAt0_B m c t h (by omega) (by omega)]
    frame_out
    rw [read_unread_whole]
    pointwise [k0_pay3]

/-- The result. -/
theorem final (c : Dev nD) : (dats m 0 c).arrAt 2 cfg0.N = prodRight (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = (outsAt0 m c t.val t.isLt).2 := by
    rw [outsAt0_B m c t (by omega) (by omega) ht]
    frame_out
  rw [e, scratch m c t ht]
  unfold prodRight
  rw [← Fin.sum_mul_add_fin 2 1408 (L := 2816)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainFfnGateDxIdeal Cert.PlainFfnGateDxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainFfnGateDxIdeal.Value.run m ρ)
  obtain ⟨h0, ha⟩ := h c
  refine ⟨h0.trans (funext fun y => ?_), ha⟩
  pointwise
  rfl

end Reference

end Cert.Products.FfnGateDx

end
-- ==== Proof.FfnUpDx.lean ====
/-
The gradient that the other half of the first product of the feed-forward part passes back, added to the gate's: its result, and that of the plain reference.
-/
module

public import proofs.«01_k».proof.Proof.Products
public import proofs.«01_k».proof.Proof.Gen.FfnUpDxIdeal.Value
public import proofs.«01_k».proof.Proof.Gen.PlainFfnUpDxIdeal.Run
public import Idealize.ShloMosaic.Lib.Pipeline.ValueKit
public import Idealize.ShloMosaic.Lib.Pipeline.ReadBack

@[expose] public section

noncomputable section

namespace Cert.Products.FfnUpDx

open Idealize.ShloMosaic Idealize.ShloMosaic.TcCoe Idealize.SL.Sem
open scoped BigOperators

section Kernel

open Cert.FfnUpDxIdeal Cert.FfnUpDxIdeal.Gen Cert.FfnUpDxIdeal.Value

/-- Where the windows lie. -/
theorem places : ∀ t : Fin cfg0.N, win0_0.index t 0 = t.val / 4 ∧ win0_0.index t 1 = t.val % 2 ∧ win0_1.index t 0 = t.val / 2 % 2 ∧ win0_1.index t 1 = t.val % 2
    ∧ win0_2.index t 0 = t.val / 4 ∧ win0_2.index t 1 = t.val / 2 % 2 ∧ win0_3.index t 0 = t.val / 4 ∧ win0_3.index t 1 = t.val / 2 % 2 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 2 = 1) (j : S512x512.Idx) : (outsAt0 m c t.val t.isLt).2 j
    = ∑ s : Fin 2, k0_pay1 (iblk m c 0 ⟨2 * (t.val / 2) + s.val, Pipeline.run_point_lt_of_flush t ht s⟩) (iblk m c 1 ⟨2 * (t.val / 2) + s.val, Pipeline.run_point_lt_of_flush t ht s⟩) j := by
  rw [Pipeline.eq_sum_fin_of_reset_step_apply_of_flush (M := EReal) (fun n h => (outsAt0 m c n h).2) 2 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rw [outsAt0_B m c t h (by omega) (by omega)]
    frame_out
    rw [read_unread_whole]
    pointwise [k0_pay3]

/-- The result. -/
theorem final (c : Dev nD) : (dats m 0 c).arrAt 3 cfg0.N = plus (m ((c : Thread nD τ).loc main_arg2)) (prodRight (m ((c : Thread nD τ).loc main_arg0)) (m ((c : Thread nD τ).loc main_arg1))) := by
  refine (dats m 0 c).arrAt_eq_of_covers 3 _ (by decide +kernel) fun t hf y => ?_
  have ht := (flush0_3 t).mp hf
  blk_simp
  rw [after0_3]
  have e : (outsAt0 m c t.val t.isLt).1 = k0_pay4 (iblk m c 2 t) (outsAt0 m c t.val t.isLt).2 := by
    rw [outsAt0_B m c t (by omega) (by omega) ht]
    frame_out
    pointwise [k0_pay4]
    exact add_comm _ _
  rw [e]
  pointwise [k0_pay4]
  rw [scratch m c t ht]
  unfold plus prodRight
  refine congrArg₂ (· + ·) ?_ ?_
  · blk_point [iblk, V, places t]
  · rw [← Fin.sum_mul_add_fin 2 1408 (L := 2816)]
    refine Fin.sum_fin_congr fun s => ?_
    pointwise [k0_pay1]
    blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = plus (m ((c : Thread nD τ).loc main_arg2)) (prodRight (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Kernel

section Reference

open Cert.PlainFfnUpDxIdeal Cert.PlainFfnUpDxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = plus (m ((c : Thread nD τ).loc main_arg2)) (prodRight (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (Cert.PlainFfnUpDxIdeal.Value.run m ρ)
  obtain ⟨h0, ha⟩ := h c
  refine ⟨h0.trans (funext fun y => ?_), ha⟩
  pointwise
  exact add_comm _ _

end Reference

end Cert.Products.FfnUpDx

end
-- ==== Proof.OutProjDx.lean ====
/-
The gradient that the output projection passes back: its result, and that of the plain reference.
-/
module

public import proofs.«01_k».proof.Proof.Products
public import proofs.«01_k».proof.Proof.Gen.OutProjDxIdeal.Value
public import proofs.«01_k».proof.Proof.Gen.PlainOutProjDxIdeal.Run
public import Idealize.ShloMosaic.Lib.Pipeline.ValueKit

@[expose] public section

noncomputable section

namespace Cert.Products.OutProjDx

open Idealize.ShloMosaic Idealize.ShloMosaic.TcCoe Idealize.SL.Sem
open scoped BigOperators

section Kernel

open Cert.OutProjDxIdeal Cert.OutProjDxIdeal.Gen Cert.OutProjDxIdeal.Value

/-- Where the windows lie. -/
theorem places : ∀ t : Fin cfg0.N, win0_0.index t 0 = win0_2.index t 0 ∧ win0_0.index t 1 = 0
    ∧ win0_1.index t 0 = win0_2.index t 1 ∧ win0_1.index t 1 = 0 := (by decide +kernel : ∀ t : Fin grid0.N, _)

variable (m : (ℓ : Loc nD τ sig) → Buf (Elt Ideal) ℓ)

/-- The result. -/
theorem final (c : Dev nD) : (dats m 0 c).arrAt 2 cfg0.N = prodRight (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prodRight
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainOutProjDxIdeal Cert.PlainOutProjDxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainOutProjDxIdeal.Value.run m ρ)
  obtain ⟨h0, ha⟩ := h c
  refine ⟨h0.trans (funext fun y => ?_), ha⟩
  pointwise
  rfl

end Reference

end Cert.Products.OutProjDx

end
-- ==== Proof.ProjADx.lean ====
/-
The gradient that the projection to the delta rule's inputs passes back: its result, and that of the plain reference.
-/
module

public import proofs.«01_k».proof.Proof.Products
public import proofs.«01_k».proof.Proof.Gen.ProjADxIdeal.Value
public import proofs.«01_k».proof.Proof.Gen.PlainProjADxIdeal.Run
public import Idealize.ShloMosaic.Lib.Pipeline.ValueKit

@[expose] public section

noncomputable section

namespace Cert.Products.ProjADx

open Idealize.ShloMosaic Idealize.ShloMosaic.TcCoe Idealize.SL.Sem
open scoped BigOperators

section Kernel

open Cert.ProjADxIdeal Cert.ProjADxIdeal.Gen Cert.ProjADxIdeal.Value

/-- Where the windows lie. -/
theorem places : ∀ t : Fin cfg0.N, win0_0.index t 0 = win0_2.index t 0 ∧ win0_0.index t 1 = 0
    ∧ win0_1.index t 0 = win0_2.index t 1 ∧ win0_1.index t 1 = 0 := (by decide +kernel : ∀ t : Fin grid0.N, _)

variable (m : (ℓ : Loc nD τ sig) → Buf (Elt Ideal) ℓ)

/-- The result. -/
theorem final (c : Dev nD) : (dats m 0 c).arrAt 2 cfg0.N = prodRight (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2]
  unfold prodRight
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjADxIdeal Cert.PlainProjADxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = prodRight (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjADxIdeal.Value.run m ρ)
  obtain ⟨h0, ha⟩ := h c
  refine ⟨h0.trans (funext fun y => ?_), ha⟩
  pointwise
  rfl

end Reference

end Cert.Products.ProjADx

end
-- ==== Proof.ProjZDx.lean ====
/-
The gradient that the projection to the output gate passes back, added to another: its result, and that of the plain reference.
-/
module

public import proofs.«01_k».proof.Proof.Products
public import proofs.«01_k».proof.Proof.Gen.ProjZDxIdeal.Value
public import proofs.«01_k».proof.Proof.Gen.PlainProjZDxIdeal.Run
public import Idealize.ShloMosaic.Lib.Pipeline.ValueKit

@[expose] public section

noncomputable section

namespace Cert.Products.ProjZDx

open Idealize.ShloMosaic Idealize.ShloMosaic.TcCoe Idealize.SL.Sem
open scoped BigOperators

section Kernel

open Cert.ProjZDxIdeal Cert.ProjZDxIdeal.Gen Cert.ProjZDxIdeal.Value

/-- Where the windows lie. -/
theorem places : ∀ t : Fin cfg0.N, win0_0.index t 0 = win0_3.index t 0 ∧ win0_0.index t 1 = 0
    ∧ win0_1.index t 0 = win0_3.index t 1 ∧ win0_1.index t 1 = 0 ∧ (∀ a, win0_2.index t a = win0_3.index t a) := (by decide +kernel : ∀ t : Fin grid0.N, _)

variable (m : (ℓ : Loc nD τ sig) → Buf (Elt Ideal) ℓ)

/-- The result. -/
theorem final (c : Dev nD) : (dats m 0 c).arrAt 3 cfg0.N = plus (m ((c : Thread nD τ).loc main_arg2)) (prodRight (m ((c : Thread nD τ).loc main_arg0)) (m ((c : Thread nD τ).loc main_arg1))) := by
  refine (dats m 0 c).arrAt_eq_of_covers 3 _ (by decide +kernel) fun t hf y => ?_
  blk_simp
  rw [after0_3]
  unfold outsAt0
  frame_out
  pointwise [k0_pay1, k0_pay2, k0_pay3]
  unfold plus prodRight
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = plus (m ((c : Thread nD τ).loc main_arg2)) (prodRight (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Kernel

section Reference

open Cert.PlainProjZDxIdeal Cert.PlainProjZDxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = plus (m ((c : Thread nD τ).loc main_arg2)) (prodRight (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (Cert.PlainProjZDxIdeal.Value.run m ρ)
  obtain ⟨h0, ha⟩ := h c
  refine ⟨h0.trans (funext fun y => ?_), ha⟩
  pointwise
  exact add_comm _ _

end Reference

end Cert.Products.ProjZDx

end
-- ==== Proof.ProjBDx.lean ====
/-
The gradient that the projection to the attention's inputs passes back, added to another: its result, and that of the plain reference.
-/
module

public import proofs.«01_k».proof.Proof.Products
public import proofs.«01_k».proof.Proof.Gen.ProjBDxIdeal.Value
public import proofs.«01_k».proof.Proof.Gen.PlainProjBDxIdeal.Run
public import Idealize.ShloMosaic.Lib.Pipeline.ValueKit

@[expose] public section

noncomputable section

namespace Cert.Products.ProjBDx

open Idealize.ShloMosaic Idealize.ShloMosaic.TcCoe Idealize.SL.Sem
open scoped BigOperators

section Kernel

open Cert.ProjBDxIdeal Cert.ProjBDxIdeal.Gen Cert.ProjBDxIdeal.Value

/-- Where the windows lie. -/
theorem places : ∀ t : Fin cfg0.N, win0_0.index t 0 = win0_3.index t 0 ∧ win0_0.index t 1 = 0
    ∧ win0_1.index t 0 = win0_3.index t 1 ∧ win0_1.index t 1 = 0 ∧ (∀ a, win0_2.index t a = win0_3.index t a) := (by decide +kernel : ∀ t : Fin grid0.N, _)

variable (m : (ℓ : Loc nD τ sig) → Buf (Elt Ideal) ℓ)

/-- The result. -/
theorem final (c : Dev nD) : (dats m 0 c).arrAt 3 cfg0.N = plus (m ((c : Thread nD τ).loc main_arg2)) (prodRight (m ((c : Thread nD τ).loc main_arg0)) (m ((c : Thread nD τ).loc main_arg1))) := by
  refine (dats m 0 c).arrAt_eq_of_covers 3 _ (by decide +kernel) fun t hf y => ?_
  blk_simp
  rw [after0_3]
  unfold outsAt0
  frame_out
  pointwise [k0_pay1, k0_pay2, k0_pay3]
  unfold plus prodRight
  blk_point [iblk, V, places t]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = plus (m ((c : Thread nD τ).loc main_arg2)) (prodRight (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Kernel

section Reference

open Cert.PlainProjBDxIdeal Cert.PlainProjBDxIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = plus (m ((c : Thread nD τ).loc main_arg2)) (prodRight (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (Cert.PlainProjBDxIdeal.Value.run m ρ)
  obtain ⟨h0, ha⟩ := h c
  refine ⟨h0.trans (funext fun y => ?_), ha⟩
  pointwise
  exact add_comm _ _

end Reference

end Cert.Products.ProjBDx

end
-- ==== Proof.FfnDownDw.lean ====
/-
The gradient of the weights of the second product of the feed-forward part: its result, and that of the plain reference.
-/
module

public import proofs.«01_k».proof.Proof.Products
public import proofs.«01_k».proof.Proof.Gen.FfnDownDwIdeal.Value
public import proofs.«01_k».proof.Proof.Gen.PlainFfnDownDwIdeal.Run
public import Idealize.ShloMosaic.Lib.Pipeline.ValueKit
public import Idealize.ShloMosaic.Lib.Pipeline.ReadBack

@[expose] public section

noncomputable section

namespace Cert.Products.FfnDownDw

open Idealize.ShloMosaic Idealize.ShloMosaic.TcCoe Idealize.SL.Sem
open scoped BigOperators

section Kernel

open Cert.FfnDownDwIdeal Cert.FfnDownDwIdeal.Gen Cert.FfnDownDwIdeal.Value

/-- Where the windows lie. -/
theorem places : ∀ t : Fin cfg0.N, win0_0.index t 0 = t.val % 4 ∧ win0_0.index t 1 = t.val / 8 ∧ win0_1.index t 0 = t.val % 4 ∧ win0_1.index t 1 = t.val / 4 % 2
    ∧ win0_2.index t 0 = t.val / 8 ∧ win0_2.index t 1 = t.val / 4 % 2 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 4 = 3) (j : S1408x512.Idx) : (outsAt0 m c t.val t.isLt).2 j
    = ∑ s : Fin 4, k0_pay1 (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rcases Nat.lt_or_ge (t.val % 4) 3 with h3 | h3
    · rw [outsAt0_B m c t h (by omega) (by omega)]
      frame_out
      rw [read_unread_whole]
      pointwise [k0_pay3]
    · rw [outsAt0_C m c t h (by omega) (by omega)]
      frame_out
      rw [read_unread_whole]
      pointwise [k0_pay3]

/-- The result. -/
theorem final (c : Dev nD) : (dats m 0 c).arrAt 2 cfg0.N = prodLeft (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = k0_pay4 (outsAt0 m c t.val t.isLt).2 := by
    rw [outsAt0_C m c t (by omega) (by omega) ht]
    frame_out
  rw [e]
  pointwise [k0_pay4]
  rw [scratch m c t ht]
  unfold prodLeft
  rw [← Fin.sum_mul_add_fin 4 512 (L := 2048)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainFfnDownDwIdeal Cert.PlainFfnDownDwIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainFfnDownDwIdeal.Value.run m ρ)
  obtain ⟨h0, ha⟩ := h c
  refine ⟨h0.trans (funext fun y => ?_), ha⟩
  pointwise
  rfl

end Reference

end Cert.Products.FfnDownDw

end
-- ==== Proof.FfnUpDw.lean ====
/-
The gradient of the weights of half of the first product of the feed-forward part: its result, and that of the plain reference.
-/
module

public import proofs.«01_k».proof.Proof.Products
public import proofs.«01_k».proof.Proof.Gen.FfnUpDwIdeal.Value
public import proofs.«01_k».proof.Proof.Gen.PlainFfnUpDwIdeal.Run
public import Idealize.ShloMosaic.Lib.Pipeline.ValueKit
public import Idealize.ShloMosaic.Lib.Pipeline.ReadBack

@[expose] public section

noncomputable section

namespace Cert.Products.FfnUpDw

open Idealize.ShloMosaic Idealize.ShloMosaic.TcCoe Idealize.SL.Sem
open scoped BigOperators

section Kernel

open Cert.FfnUpDwIdeal Cert.FfnUpDwIdeal.Gen Cert.FfnUpDwIdeal.Value

/-- Where the windows lie. -/
theorem places : ∀ t : Fin cfg0.N, win0_0.index t 0 = t.val % 4 ∧ win0_0.index t 1 = t.val / 8 ∧ win0_1.index t 0 = t.val % 4 ∧ win0_1.index t 1 = t.val / 4 % 2
    ∧ win0_2.index t 0 = t.val / 8 ∧ win0_2.index t 1 = t.val / 4 % 2 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 4 = 3) (j : S512x1408.Idx) : (outsAt0 m c t.val t.isLt).2 j
    = ∑ s : Fin 4, k0_pay1 (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rcases Nat.lt_or_ge (t.val % 4) 3 with h3 | h3
    · rw [outsAt0_B m c t h (by omega) (by omega)]
      frame_out
      rw [read_unread_whole]
      pointwise [k0_pay3]
    · rw [outsAt0_C m c t h (by omega) (by omega)]
      frame_out
      rw [read_unread_whole]
      pointwise [k0_pay3]

/-- The result. -/
theorem final (c : Dev nD) : (dats m 0 c).arrAt 2 cfg0.N = prodLeft (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = k0_pay4 (outsAt0 m c t.val t.isLt).2 := by
    rw [outsAt0_C m c t (by omega) (by omega) ht]
    frame_out
  rw [e]
  pointwise [k0_pay4]
  rw [scratch m c t ht]
  unfold prodLeft
  rw [← Fin.sum_mul_add_fin 4 512 (L := 2048)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainFfnUpDwIdeal Cert.PlainFfnUpDwIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainFfnUpDwIdeal.Value.run m ρ)
  obtain ⟨h0, ha⟩ := h c
  refine ⟨h0.trans (funext fun y => ?_), ha⟩
  pointwise
  rfl

end Reference

end Cert.Products.FfnUpDw

end
-- ==== Proof.OutProjDw.lean ====
/-
The gradient of the weights of the output projection: its result, and that of the plain reference.
-/
module

public import proofs.«01_k».proof.Proof.Products
public import proofs.«01_k».proof.Proof.Gen.OutProjDwIdeal.Value
public import proofs.«01_k».proof.Proof.Gen.PlainOutProjDwIdeal.Run
public import Idealize.ShloMosaic.Lib.Pipeline.ValueKit
public import Idealize.ShloMosaic.Lib.Pipeline.ReadBack

@[expose] public section

noncomputable section

namespace Cert.Products.OutProjDw

open Idealize.ShloMosaic Idealize.ShloMosaic.TcCoe Idealize.SL.Sem
open scoped BigOperators

section Kernel

open Cert.OutProjDwIdeal Cert.OutProjDwIdeal.Gen Cert.OutProjDwIdeal.Value

/-- Where the windows lie. -/
theorem places : ∀ t : Fin cfg0.N, win0_0.index t 0 = t.val % 4 ∧ win0_0.index t 1 = t.val / 8 ∧ win0_1.index t 0 = t.val % 4 ∧ win0_1.index t 1 = t.val / 4 % 2
    ∧ win0_2.index t 0 = t.val / 8 ∧ win0_2.index t 1 = t.val / 4 % 2 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 4 = 3) (j : S512x512.Idx) : (outsAt0 m c t.val t.isLt).2 j
    = ∑ s : Fin 4, k0_pay1 (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rcases Nat.lt_or_ge (t.val % 4) 3 with h3 | h3
    · rw [outsAt0_B m c t h (by omega) (by omega)]
      frame_out
      rw [read_unread_whole]
      pointwise [k0_pay3]
    · rw [outsAt0_C m c t h (by omega) (by omega)]
      frame_out
      rw [read_unread_whole]
      pointwise [k0_pay3]

/-- The result. -/
theorem final (c : Dev nD) : (dats m 0 c).arrAt 2 cfg0.N = prodLeft (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = k0_pay4 (outsAt0 m c t.val t.isLt).2 := by
    rw [outsAt0_C m c t (by omega) (by omega) ht]
    frame_out
  rw [e]
  pointwise [k0_pay4]
  rw [scratch m c t ht]
  unfold prodLeft
  rw [← Fin.sum_mul_add_fin 4 512 (L := 2048)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainOutProjDwIdeal Cert.PlainOutProjDwIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainOutProjDwIdeal.Value.run m ρ)
  obtain ⟨h0, ha⟩ := h c
  refine ⟨h0.trans (funext fun y => ?_), ha⟩
  pointwise
  rfl

end Reference

end Cert.Products.OutProjDw

end
-- ==== Proof.ProjADw.lean ====
/-
The gradient of the weights of the projection to the delta rule's inputs: its result, and that of the plain reference.
-/
module

public import proofs.«01_k».proof.Proof.Products
public import proofs.«01_k».proof.Proof.Gen.ProjADwIdeal.Value
public import proofs.«01_k».proof.Proof.Gen.PlainProjADwIdeal.Run
public import Idealize.ShloMosaic.Lib.Pipeline.ValueKit
public import Idealize.ShloMosaic.Lib.Pipeline.ReadBack

@[expose] public section

noncomputable section

namespace Cert.Products.ProjADw

open Idealize.ShloMosaic Idealize.ShloMosaic.TcCoe Idealize.SL.Sem
open scoped BigOperators

section Kernel

open Cert.ProjADwIdeal Cert.ProjADwIdeal.Gen Cert.ProjADwIdeal.Value

/-- Where the windows lie. -/
theorem places : ∀ t : Fin cfg0.N, win0_0.index t 0 = t.val % 4 ∧ win0_0.index t 1 = t.val / 4 ∧ win0_1.index t 0 = t.val % 4 ∧ win0_1.index t 1 = t.val / 4 % 1
    ∧ win0_2.index t 0 = t.val / 4 ∧ win0_2.index t 1 = t.val / 4 % 1 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 4 = 3) (j : S512x1664.Idx) : (outsAt0 m c t.val t.isLt).2 j
    = ∑ s : Fin 4, k0_pay1 (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rcases Nat.lt_or_ge (t.val % 4) 3 with h3 | h3
    · rw [outsAt0_B m c t h (by omega) (by omega)]
      frame_out
      rw [read_unread_whole]
      pointwise [k0_pay3]
    · rw [outsAt0_C m c t h (by omega) (by omega)]
      frame_out
      rw [read_unread_whole]
      pointwise [k0_pay3]

/-- The result. -/
theorem final (c : Dev nD) : (dats m 0 c).arrAt 2 cfg0.N = prodLeft (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = k0_pay4 (outsAt0 m c t.val t.isLt).2 := by
    rw [outsAt0_C m c t (by omega) (by omega) ht]
    frame_out
  rw [e]
  pointwise [k0_pay4]
  rw [scratch m c t ht]
  unfold prodLeft
  rw [← Fin.sum_mul_add_fin 4 512 (L := 2048)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjADwIdeal Cert.PlainProjADwIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjADwIdeal.Value.run m ρ)
  obtain ⟨h0, ha⟩ := h c
  refine ⟨h0.trans (funext fun y => ?_), ha⟩
  pointwise
  rfl

end Reference

end Cert.Products.ProjADw

end
-- ==== Proof.ProjZDw.lean ====
/-
The gradient of the weights of the projection to the output gate: its result, and that of the plain reference.
-/
module

public import proofs.«01_k».proof.Proof.Products
public import proofs.«01_k».proof.Proof.Gen.ProjZDwIdeal.Value
public import proofs.«01_k».proof.Proof.Gen.PlainProjZDwIdeal.Run
public import Idealize.ShloMosaic.Lib.Pipeline.ValueKit
public import Idealize.ShloMosaic.Lib.Pipeline.ReadBack

@[expose] public section

noncomputable section

namespace Cert.Products.ProjZDw

open Idealize.ShloMosaic Idealize.ShloMosaic.TcCoe Idealize.SL.Sem
open scoped BigOperators

section Kernel

open Cert.ProjZDwIdeal Cert.ProjZDwIdeal.Gen Cert.ProjZDwIdeal.Value

/-- Where the windows lie. -/
theorem places : ∀ t : Fin cfg0.N, win0_0.index t 0 = t.val % 4 ∧ win0_0.index t 1 = t.val / 4 ∧ win0_1.index t 0 = t.val % 4 ∧ win0_1.index t 1 = t.val / 4 % 1
    ∧ win0_2.index t 0 = t.val / 4 ∧ win0_2.index t 1 = t.val / 4 % 1 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 4 = 3) (j : S512x512.Idx) : (outsAt0 m c t.val t.isLt).2 j
    = ∑ s : Fin 4, k0_pay1 (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rcases Nat.lt_or_ge (t.val % 4) 3 with h3 | h3
    · rw [outsAt0_B m c t h (by omega) (by omega)]
      frame_out
      rw [read_unread_whole]
      pointwise [k0_pay3]
    · rw [outsAt0_C m c t h (by omega) (by omega)]
      frame_out
      rw [read_unread_whole]
      pointwise [k0_pay3]

/-- The result. -/
theorem final (c : Dev nD) : (dats m 0 c).arrAt 2 cfg0.N = prodLeft (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = k0_pay4 (outsAt0 m c t.val t.isLt).2 := by
    rw [outsAt0_C m c t (by omega) (by omega) ht]
    frame_out
  rw [e]
  pointwise [k0_pay4]
  rw [scratch m c t ht]
  unfold prodLeft
  rw [← Fin.sum_mul_add_fin 4 512 (L := 2048)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjZDwIdeal Cert.PlainProjZDwIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjZDwIdeal.Value.run m ρ)
  obtain ⟨h0, ha⟩ := h c
  refine ⟨h0.trans (funext fun y => ?_), ha⟩
  pointwise
  rfl

end Reference

end Cert.Products.ProjZDw

end
-- ==== Proof.ProjBDw.lean ====
/-
The gradient of the weights of the projection to the attention's inputs: its result, and that of the plain reference.
-/
module

public import proofs.«01_k».proof.Proof.Products
public import proofs.«01_k».proof.Proof.Gen.ProjBDwIdeal.Value
public import proofs.«01_k».proof.Proof.Gen.PlainProjBDwIdeal.Run
public import Idealize.ShloMosaic.Lib.Pipeline.ValueKit
public import Idealize.ShloMosaic.Lib.Pipeline.ReadBack

@[expose] public section

noncomputable section

namespace Cert.Products.ProjBDw

open Idealize.ShloMosaic Idealize.ShloMosaic.TcCoe Idealize.SL.Sem
open scoped BigOperators

section Kernel

open Cert.ProjBDwIdeal Cert.ProjBDwIdeal.Gen Cert.ProjBDwIdeal.Value

/-- Where the windows lie. -/
theorem places : ∀ t : Fin cfg0.N, win0_0.index t 0 = t.val % 4 ∧ win0_0.index t 1 = t.val / 8 ∧ win0_1.index t 0 = t.val % 4 ∧ win0_1.index t 1 = t.val / 4 % 2
    ∧ win0_2.index t 0 = t.val / 8 ∧ win0_2.index t 1 = t.val / 4 % 2 := (by decide +kernel : ∀ t : Fin grid0.N, _)

variable (m : (ℓ : Loc nD τ sig) → Buf (Elt Ideal) ℓ)

/-- What the scratch holds after the last point of a block: the parts added. -/
theorem scratch (c : Dev nD) (t : Fin cfg0.N) (ht : t.val % 4 = 3) (j : S512x768.Idx) : (outsAt0 m c t.val t.isLt).2 j
    = ∑ s : Fin 4, k0_pay1 (iblk m c 0 ⟨4 * (t.val / 4) + s.val, Pipeline.run_point_lt_of_flush t ht s⟩) (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => (0 : EReal))
    (fun t j => k0_pay1 (iblk m c 0 t) (iblk m c 1 t) j)
    (fun t h i => ?_) (fun t h i => ?_) t ht j, zero_add]
  · rw [outsAt0_A m c t h (by omega) (by omega)]
    frame_out
    pointwise [k0_pay2]
  · rcases Nat.lt_or_ge (t.val % 4) 3 with h3 | h3
    · rw [outsAt0_B m c t h (by omega) (by omega)]
      frame_out
      rw [read_unread_whole]
      pointwise [k0_pay3]
    · rw [outsAt0_C m c t h (by omega) (by omega)]
      frame_out
      rw [read_unread_whole]
      pointwise [k0_pay3]

/-- The result. -/
theorem final (c : Dev nD) : (dats m 0 c).arrAt 2 cfg0.N = prodLeft (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  have e : (outsAt0 m c t.val t.isLt).1 = k0_pay4 (outsAt0 m c t.val t.isLt).2 := by
    rw [outsAt0_C m c t (by omega) (by omega) ht]
    frame_out
  rw [e]
  pointwise [k0_pay4]
  rw [scratch m c t ht]
  unfold prodLeft
  rw [← Fin.sum_mul_add_fin 4 512 (L := 2048)]
  refine Fin.sum_fin_congr fun s => ?_
  pointwise [k0_pay1]
  blk_point [iblk, V, places t, places ⟨_, Pipeline.run_point_lt_of_flush t ht s⟩]

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainProjBDwIdeal Cert.PlainProjBDwIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = prodLeft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainProjBDwIdeal.Value.run m ρ)
  obtain ⟨h0, ha⟩ := h c
  refine ⟨h0.trans (funext fun y => ?_), ha⟩
  pointwise
  rfl

end Reference

end Cert.Products.ProjBDw

end
-- ==== Proof.FfnAct.lean ====
/-
The causal convolution of the feed-forward part with its gate: its result, and that of the plain reference.
-/
module

public import proofs.«01_k».proof.Proof.Gen.FfnActIdeal.Value
public import proofs.«01_k».proof.Proof.Gen.PlainFfnActIdeal.Run
public import Idealize.ShloMosaic.Lib.Pipeline.ValueKit
public import Idealize.ShloMosaic.Lib.Pointwise

@[expose] public section

noncomputable section

namespace Cert.FeedForward.Act

open Idealize.ShloMosaic Idealize.ShloMosaic.TcCoe Idealize.SL.Sem
open scoped BigOperators

/-- The entry at a row and a column, and 0 outside the array. -/
def entry {M N : Nat} (x : (⟨2, ![M, N]⟩ : Shape).Idx → EReal) (r c : Nat) : EReal :=
  if h : r < M ∧ c < N then x (ix2 ⟨r, h.1⟩ ⟨c, h.2⟩) else 0

theorem entry_of_lt {M N : Nat} (x : (⟨2, ![M, N]⟩ : Shape).Idx → EReal) {r c : Nat} (hr : r < M) (hc : c < N) :
    entry x r c = x (ix2 ⟨r, hr⟩ ⟨c, hc⟩) := dif_pos ⟨hr, hc⟩

/-- The convolution of three taps along the rows: a row and the two before it, those before the first being 0. -/
def conv {M N : Nat} (x : (⟨2, ![M, N]⟩ : Shape).Idx → EReal) (w : (⟨2, ![3, N]⟩ : Shape).Idx → EReal) (r c : Nat) : EReal :=
  (if 2 ≤ r then entry x (r - 2) c else 0) * entry w 0 c + (if 1 ≤ r then entry x (r - 1) c else 0) * entry w 1 c
    + entry x r c * entry w 2 c

/-- The gate `g` times its logistic, times `u`. -/
def gated (g u : EReal) : EReal := g * Ideal.div 1 (1 + Ideal.exp (-g)) * u

/-- The first half of the convolution's columns as gate of the second half. -/
def act {M N H : Nat} (x : (⟨2, ![M, N]⟩ : Shape).Idx → EReal) (w : (⟨2, ![3, N]⟩ : Shape).Idx → EReal) : (⟨2, ![M, H]⟩ : Shape).Idx → EReal :=
  fun y => gated (conv x w (y 0).val (y 1).val) (conv x w (y 0).val (H + (y 1).val))

section Kernel

open Cert.FfnActIdeal Cert.FfnActIdeal.Gen Cert.FfnActIdeal.Value

theorem pay3_eq : @k0_pay3 Ideal _ = @k0_pay2 Ideal _ := rfl

theorem after_first : ∀ n : Fin 8, Scalar.cmpi .sgt (BitVec.ofNat 32 n.val) 0#32 = if 0 < n.val then 1#1 else 0#1 := by decide

section

variable (x : (⟨2, ![2048, 5632]⟩ : Shape).Idx → EReal) (w : (⟨2, ![3, 5632]⟩ : Shape).Idx → EReal) (i : grid0.Coords) (q : Nat)
  (before : Vec Ideal S8x256 .f32) (rows : Vec Ideal S256x256 .f32) (taps : Vec Ideal S3x256 .f32)

/-- A row of a tile with the eight rows before it: the array's, and 0 before its first. -/
theorem shifted (hb : ∀ r c, before (ix2 r c) = entry x ((32 * (i 1).val - 1) * 8 + r.val) (q + c.val))
    (hr : ∀ r c, rows (ix2 r c) = entry x (256 * (i 1).val + r.val) (q + c.val)) (k r : Nat) (hk : k ≤ 8) (hd : 0 < k) (hl : k + r - 8 < 256) (c : Fin 256) :
    (if h : k + r < 8 then Scalar.select (Scalar.cmpi .sgt (BitVec.ofNat 32 (i 1).val) 0#32) (before (ix2 ⟨k + r, h⟩ c)) 0 else rows (ix2 ⟨k + r - 8, hl⟩ c))
      = if 8 - k ≤ 256 * (i 1).val + r then entry x (256 * (i 1).val + r - (8 - k)) (q + c.val) else 0 := by
  have hs : Scalar.cmpi .sgt (BitVec.ofNat 32 (i 1).val) 0#32 = if 0 < (i 1).val then 1#1 else 0#1 := after_first (i 1)
  by_cases h : k + r < 8
  · rw [dif_pos h, hs]
    rcases Nat.eq_zero_or_pos (i 1).val with hn | hn
    · rw [if_neg (by omega), if_neg (by omega)]
      rfl
    · rw [if_pos hn, if_pos (by omega)]
      exact (hb _ _).trans (congrArg (entry x · _) (by show _ + (k + r) = _; omega))
  · rw [dif_neg h, if_pos (by omega)]
    exact (hr _ _).trans (congrArg (entry x · _) (by show _ + (k + r - 8) = _; omega))

/-- What the body computes of one half: the convolution at a tile's rows, from the tile and the eight rows before it. -/
theorem tile (hb : ∀ r c, before (ix2 r c) = entry x ((32 * (i 1).val - 1) * 8 + r.val) (q + c.val))
    (hr : ∀ r c, rows (ix2 r c) = entry x (256 * (i 1).val + r.val) (q + c.val))
    (ht : ∀ k c, taps (ix2 k c) = entry w k.val (q + c.val)) (y : S256x256.Idx) :
    k0_pay2 i before rows taps y = conv x w (256 * (i 1).val + (y 0).val) (q + (y 1).val) := by
  have h0 : (y 0).val < 256 := (y 0).isLt
  pointwise [k0_pay2]
  refine congrArg₂ (· + ·) (congrArg₂ (· + ·) (congrArg₂ (· * ·) ?_ (ht 0 (y 1))) (congrArg₂ (· * ·) ?_ (ht 1 (y 1)))) (congrArg₂ (· * ·) ?_ (ht 2 (y 1)))
  · exact shifted x i q before rows hb hr 6 _ (by decide) (by decide) (by omega) _
  · exact shifted x i q before rows hb hr 7 _ (by decide) (by decide) (by omega) _
  · exact (congrArg rows (ValueIdx.eq_ix2 y)).trans (hr _ _)

end

/-- Where the windows lie. -/
theorem places : ∀ t : Fin cfg0.N, (grid0.coords t 1).val = t.val % 8
    ∧ win0_0.index t 0 = t.val % 8 ∧ win0_0.index t 1 = t.val / 8
    ∧ win0_1.index t 0 = 32 * (t.val % 8) - 1 ∧ win0_1.index t 1 = t.val / 8
    ∧ win0_2.index t 0 = t.val % 8 ∧ win0_2.index t 1 = t.val / 8 + 11
    ∧ win0_3.index t 0 = 32 * (t.val % 8) - 1 ∧ win0_3.index t 1 = t.val / 8 + 11
    ∧ win0_4.index t 0 = 0 ∧ win0_4.index t 1 = t.val / 8 ∧ win0_5.index t 0 = 0 ∧ win0_5.index t 1 = t.val / 8 + 11
    ∧ win0_6.index t 0 = t.val % 8 ∧ win0_6.index t 1 = t.val / 8 := (by decide +kernel : ∀ t : Fin grid0.N, _)

variable (m : (ℓ : Loc nD τ sig) → Buf (Elt Ideal) ℓ)

/-- The gate's half at point `t`. -/
theorem gate_tile (c : Dev nD) (t : Fin cfg0.N) (y : S256x256.Idx) :
    k0_pay2 (grid0.coords t) (iblk m c 1 t) (iblk m c 0 t) (iblk m c 4 t) y
      = conv (m ((c : Thread nD τ).loc main_arg0)) (m ((c : Thread nD τ).loc main_arg1)) (256 * (grid0.coords t 1).val + (y 0).val) (256 * (t.val / 8) + (y 1).val) := by
  have hN : t.val < 88 := t.isLt
  have hp := places t
  refine tile _ _ _ _ _ _ _ (fun r k => ?_) (fun r k => ?_) (fun r k => ?_) y
  · rw [entry_of_lt _ (by omega) (by omega)]
    blk_point [iblk, V, places t]
  · rw [entry_of_lt _ (by omega) (by omega)]
    blk_point [iblk, V, places t]
  · rw [entry_of_lt _ (by omega) (by omega)]
    blk_point [iblk, V, places t]

/-- The other half at point `t`. -/
theorem up_tile (c : Dev nD) (t : Fin cfg0.N) (y : S256x256.Idx) :
    k0_pay2 (grid0.coords t) (iblk m c 3 t) (iblk m c 2 t) (iblk m c 5 t) y
      = conv (m ((c : Thread nD τ).loc main_arg0)) (m ((c : Thread nD τ).loc main_arg1)) (256 * (grid0.coords t 1).val + (y 0).val) (256 * (t.val / 8) + 2816 + (y 1).val) := by
  have hN : t.val < 88 := t.isLt
  have hp := places t
  refine tile _ _ _ _ _ _ _ (fun r k => ?_) (fun r k => ?_) (fun r k => ?_) y
  · rw [entry_of_lt _ (by omega) (by omega)]
    blk_point [iblk, V, places t]
  · rw [entry_of_lt _ (by omega) (by omega)]
    blk_point [iblk, V, places t]
  · rw [entry_of_lt _ (by omega) (by omega)]
    blk_point [iblk, V, places t]

/-- The result. -/
theorem final (c : Dev nD) :
    (dats m 0 c).arrAt 6 cfg0.N = act (m ((c : Thread nD τ).loc main_arg0)) (m ((c : Thread nD τ).loc main_arg1)) := by
  refine (dats m 0 c).arrAt_eq_of_covers 6 _ (by decide +kernel) fun t hf y => ?_
  have hp := places t
  have e0 : ((((cfg0.win 6).blk t).view.emb y) 0).val = 256 * (grid0.coords t 1).val + (y 0).val :=
    ((cfg0.win 6).rect_emb_val t y 0).trans (by rw [hp.1, Nat.mul_comm 256]; exact congrArg (· * 256 + (y 0).val) hp.2.2.2.2.2.2.2.2.2.2.2.2.2.1)
  have e1 : ((((cfg0.win 6).blk t).view.emb y) 1).val = 256 * (t.val / 8) + (y 1).val :=
    ((cfg0.win 6).rect_emb_val t y 1).trans (by rw [Nat.mul_comm 256]; exact congrArg (· * 256 + (y 1).val) hp.2.2.2.2.2.2.2.2.2.2.2.2.2.2)
  have e : act (H := 2816) (m ((c : Thread nD τ).loc main_arg0)) (m ((c : Thread nD τ).loc main_arg1)) (((cfg0.win 6).blk t).view.emb y)
      = k0_pay1 (k0_pay2 (grid0.coords t) (iblk m c 1 t) (iblk m c 0 t) (iblk m c 4 t)) (k0_pay2 (grid0.coords t) (iblk m c 3 t) (iblk m c 2 t) (iblk m c 5 t)) y := by
    unfold act
    rw [e0, e1, show 2816 + (256 * (t.val / 8) + (y 1).val) = 256 * (t.val / 8) + 2816 + (y 1).val by omega,
      ← gate_tile m c t y, ← up_tile m c t y]
    pointwise [k0_pay1]
    unfold gated
    rw [zero_sub]
  blk_simp
  rw [after0_6]
  frame_out
  rw [pay3_eq]
  exact e.symm

/-- The call's run, at the extended reals. -/
theorem run (ρ : Dev nD → PrngReg) : θ_run defs (onTc (τ := τ) (main (F := Ideal))) ⟨m, fun _ => 0, ρ⟩ fun r => ∀ c : Dev nD,
      r.2.mem ((c : Thread nD τ).loc main_v0) = act (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.PlainFfnActIdeal Cert.PlainFfnActIdeal.Gen

/-- The array with two rows of 0 before its first. -/
def padded (x : FVec Ideal S2048x5632 .f32) : FVec Ideal S2050x5632 .f32 :=
  pad S2050x5632 ![2, 0] ![0, 0] ![0, 0] x (sitofp .f32 (constantI S_ 32 0#32)) pads_S2048x5632_S2050x5632_200_000 h_S_

/-- A tap on every row. -/
def spread (w : FVec Ideal S1x5632 .f32) : FVec Ideal S2048x5632 .f32 :=
  broadcastInDim S2048x5632 ![0, 1] bcast_S1x5632_S2048x5632_0_1 (broadcastInDim S1x5632 ![1] bcast_S5632_S1x5632_1 (shapeCast _ w shapeCasts_S1x5632_S5632))

/-- The reference's convolution. -/
def plainConv (x : FVec Ideal S2048x5632 .f32) (w : FVec Ideal S3x5632 .f32) : FVec Ideal S2048x5632 .f32 :=
  addf (addf
    (mulf (extractStridedSlice S2048x5632 ![0, 0] (padded x) slices_S2050x5632_S2048x5632_0_0) (spread (extractStridedSlice S1x5632 ![0, 0] w slices_S3x5632_S1x5632_0_0)))
    (mulf (extractStridedSlice S2048x5632 ![1, 0] (padded x) slices_S2050x5632_S2048x5632_1_0) (spread (extractStridedSlice S1x5632 ![1, 0] w slices_S3x5632_S1x5632_1_0))))
    (mulf (extractStridedSlice S2048x5632 ![2, 0] (padded x) slices_S2050x5632_S2048x5632_2_0) (spread (extractStridedSlice S1x5632 ![2, 0] w slices_S3x5632_S1x5632_2_0)))

/-- The reference's gate. -/
def plainGated (u : FVec Ideal S2048x5632 .f32) : FVec Ideal S2048x2816 .bf16 :=
  truncf .bf16 (mulf (mulf (extractStridedSlice S2048x2816 ![0, 0] u slices_S2048x5632_S2048x2816_0_0)
    (Host.divf (broadcastInDim S2048x2816 ![] bcast_S_S2048x2816 (constant S_ .f32 0x3F800000#32))
      (addf (broadcastInDim S2048x2816 ![] bcast_S_S2048x2816 (constant S_ .f32 0x3F800000#32))
        (Host.exp (Host.negf (extractStridedSlice S2048x2816 ![0, 0] u slices_S2048x5632_S2048x2816_0_0))))))
    (extractStridedSlice S2048x2816 ![0, 2816] u slices_S2048x5632_S2048x2816_0_2816)) bitsLt_bf16_f32

theorem zero_word : (FloatOps.sitofp FTy.f32 0#32 : Ideal .f32) = (0 : EReal) := by
  show (((0#32 : BitVec 32).toInt : ℝ) : EReal) = 0
  simp

theorem padded_apply (x : FVec Ideal S2048x5632 .f32) (r : Fin 2050) (c : Fin 5632) :
    padded x (ix2 r c) = if 2 ≤ r.val then entry x (r.val - 2) c.val else 0 := by
  pointwise [padded]
  by_cases h : 2 ≤ r.val
  · rw [dif_pos ⟨h, by omega⟩, if_pos h, entry_of_lt _ (by omega) c.isLt]
  · rw [dif_neg fun g => h g.1, if_neg h, zero_word]

theorem plainConv_apply (x : FVec Ideal S2048x5632 .f32) (w : FVec Ideal S3x5632 .f32) (r : Fin 2048) (c : Fin 5632) :
    plainConv x w (ix2 r c) = conv x w r.val c.val := by
  have ht (k : Fin 3) : w (ix2 k c) = entry w k.val c.val := (entry_of_lt w k.isLt c.isLt).symm
  have hx : padded x (ix2 ⟨2 + r.val, by omega⟩ c) = entry x r.val c.val :=
    (padded_apply ..).trans ((if_pos (Nat.le_add_right _ _)).trans (congrArg (entry x · _) (Nat.add_sub_cancel_left ..)))
  pointwise [plainConv, spread]
  rw [hx]
  refine congrArg₂ (· + ·) (congrArg₂ (· + ·) (congrArg₂ (· * ·) (padded_apply ..) (ht 0)) (congrArg₂ (· * ·) ?_ (ht 1))) (congrArg₂ (· * ·) rfl (ht 2))
  rw [padded_apply]
  by_cases h : 1 ≤ r.val
  · rw [if_pos h, if_pos (by show 2 ≤ 1 + r.val; omega)]
    exact congrArg (entry x · _) (by show 1 + r.val - 2 = _; omega)
  · rw [if_neg h, if_neg (by show ¬2 ≤ 1 + r.val; omega)]

theorem plainGated_apply (u : FVec Ideal S2048x5632 .f32) (r : Fin 2048) (c : Fin 2816) :
    plainGated u (ix2 r c) = gated (u (ix2 r ⟨c.val, by omega⟩)) (u (ix2 r ⟨2816 + c.val, by omega⟩)) := by
  pointwise [plainGated]
  rfl

theorem plain_eq (x : FVec Ideal S2048x5632 .f32) (w : FVec Ideal S3x5632 .f32) : plainGated (plainConv x w) = act x w := by
  funext y
  rw [ValueIdx.eq_ix2 y]
  exact (plainGated_apply ..).trans (congrArg₂ gated (plainConv_apply ..) (plainConv_apply ..))

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = act (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Cert.PlainFfnActIdeal.Value.run m ρ)
  obtain ⟨h0, ha⟩ := h c
  exact ⟨h0.trans (plain_eq (m ((c : Thread nD τ).loc main_arg0)) (m ((c : Thread nD τ).loc main_arg1))), ha⟩

end Reference

end Cert.FeedForward.Act

end
-- ==== Proof.Wires.lean ====
/-
Copies along fixed wires: one kernel body that only starts copies and waits for them.

A body of this kind is a list of instructions over a finite type `K` of semaphore cells. Each cell is
used once: a copy is started on it, or a peer's copy lands on it, and its device waits for it once.
`Wires` gives the data of the copies, `Wires.runs` the program of a list of instructions, and
`Wires.wp_runs` proves every list that passes the check `Wires.check`.
-/
module

public import Idealize.ShloMosaic.Lib.Pipeline.Launch
public import Idealize.ShloMosaic.Lib.Rounds
public import Idealize.ShloMosaic.Lib.Pipeline.Regions
public import Idealize.ShloMosaic.Lib.Pipeline.Kit
public import Idealize.ShloMosaic.Lib.Tactic

@[expose] public section

noncomputable section

namespace Wires

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The copies of a body. `land k` is the cell a remote copy on `k` credits at the device `peer k c`;
a cell with `land k = none` either takes a local copy or is credited by a peer. `via k` is a cell whose
payload the copy on `k` sends on. -/
structure Wiring (nD : Nat) (τ : Topo) (sig : RefSig) (K : Type) where
  sem : K → DmaSem sig
  shape : K → Shape
  elt : K → EltTy
  src : Dev nD → (k : K) → Memref sig .tc .hbm (shape k) (elt k)
  dst : Dev nD → (k : K) → Memref sig .tc .hbm (shape k) (elt k)
  wsrc : Dev nD → (k : K) → Memref sig .tc .hbm (shape k) (elt k)
  wdst : Dev nD → (k : K) → Memref sig .tc .hbm (shape k) (elt k)
  peer : K → Dev nD → Dev nD
  land : K → Option K
  via : K → Option K
  src_exact : ∀ c k, (src c k).view.WordExact
  dst_exact : ∀ c k, (dst c k).view.WordExact
  wsrc_exact : ∀ c k, (wsrc c k).view.WordExact
  wdst_exact : ∀ c k, (wdst c k).view.WordExact

inductive Instr (K : Type) where
  | start (k : K)
  | wait (k : K)

/-- What a device knows of one of its cells: the copy is not started, the credit is under way, the wait
is over, the payload is sent on. -/
inductive St where
  | idle | armed | done | spent
  deriving DecidableEq

variable {nD : Nat} {τ : Topo} {sig : RefSig} {K : Type}

namespace Wiring

variable (w : Wiring nD τ sig K)

section Prog

variable (Val : EltTy → Type) (Λ : Labels)

def eff (c : Dev nD) : Instr K → TpuEff nD τ sig Val Λ .tc PUnit
  | .start k => match w.land k with
    | none => .enqueueDma (w.src c k) (.here (w.dst c k)) (.dma (w.sem k)) (w.src_exact c k) (w.dst_exact c k) ⟨Or.inl rfl, trivial⟩
    | some r => .enqueueDma (w.src c k) (.remote (Dev.tc (w.peer k c)) (w.dst c k) (.dma (w.sem k))) (.dma (w.sem r))
        (w.src_exact c k) (w.dst_exact c k) ⟨⟨rfl, Or.inl rfl⟩, trivial⟩
  | .wait k => .waitDma2 (w.sem k) (w.wsrc c k) (w.wdst c k) (w.wsrc_exact c k) (w.wdst_exact c k)

/-- The program of a list of instructions on device `c`. -/
def runs (c : Dev nD) : List (Instr K) → Prog (TpuEff nD τ sig Val Λ .tc) PUnit
  | [] => .ret ⟨⟩
  | i :: l => .op (w.eff Val Λ c i) fun _ => runs c l

end Prog

end Wiring

/-- The ghost state: the library's staging cells on the left, the wires' cells on the right. -/
abbrev UU (nD : Nat) (τ : Topo) (sig : RefSig) : Type := UR sig nD τ × UR sig nD τ

variable {Val : EltTy → Type} [Fintype K] [DecidableEq K]

local notation "𝕄" => MT nD τ sig Unit Val ℕ (UU nD τ sig) ℕ

abbrev ER : Emb (UR sig nD τ) (MT nD τ sig Unit Val ℕ (UU nD τ sig) ℕ) := embR

variable (w : Wiring nD τ sig K)

abbrev Wiring.cell (c : Dev nD) (k : K) : GSem nD τ sig := ((c : Thread nD τ), .dma (w.sem k))

/-- The elements the copy on `k` of device `c` reads, at share `q`. -/
abbrev Wiring.srcPts (c : Dev nD) (k : K) (q : PosShare TreeShare) (f : Buf Val ((w.src c k).view.loc (c : Thread nD τ))) : sProp 𝕄 :=
  iprop((w.src c k).view.loc (c : Thread nD τ) ↦[(w.src c k).view.set]{q} f)

/-- The elements the copy on `k` of device `c` writes, on device `c'`. -/
abbrev Wiring.dstPts (c c' : Dev nD) (k : K) (f : Buf Val ((w.dst c k).view.loc (c' : Thread nD τ))) : sProp 𝕄 :=
  iprop((w.dst c k).view.loc (c' : Thread nD τ) ↦[(w.dst c k).view.set]{fullShare} f)

/-- What the copy leaves where it writes. -/
abbrev Wiring.landed (c c' : Dev nD) (k : K) (fs : Buf Val ((w.src c k).view.loc (c : Thread nD τ)))
    (fd : Buf Val ((w.dst c k).view.loc (c' : Thread nD τ))) : Buf Val ((w.dst c k).view.loc (c' : Thread nD τ)) :=
  (w.dst c k).view.write Val fd ((w.src c k).view.read Val fs) Finset.univ

variable (Val) in
/-- The contents of memory, as assertions: `hold c k` is what device `c` has for the copy on `k`, and
`pay c k` what the wait for `k` returns. -/
structure Plan where
  amt : K → ℕ
  lev : K → ℕ
  first : K → St
  final : K → St
  pay : Dev nD → K → sProp 𝕄
  hold : Dev nD → K → sProp 𝕄
  amt_pos : ∀ k, 0 < amt k
  amt_dst : ∀ c k, first k = .idle → (w.dst c k).view.dmaCredit = amt k
  amt_wdst : ∀ c k, (w.wdst c k).view.dmaCredit = amt k
  amt_land : ∀ k r, w.land k = some r → amt r = amt k
  sem_inj : Function.Injective w.sem
  pay_storable : ∀ c k, BI.Storable (upEmb : UEmb _ 𝕄) (pay c k)
  routes : ∀ c c' : Dev nD, τ.routes (c : Thread nD τ) (c' : Thread nD τ) = true
  enter_keep : ∀ c k, first k = .idle → w.land k = none → ∃ q fs fd,
    (iprop(hold c k ∗ (w.via k).elim iprop(emp) (pay c)) ⊢ iprop(w.srcPts c k q fs ∗ w.dstPts c c k fd))
      ∧ (iprop(w.dstPts c c k (w.landed c c k fs fd) ∗ w.srcPts c k q fs) ⊢ pay c k)
  enter_send : ∀ c k r, first k = .idle → w.land k = some r → ∃ q fs fd,
    (iprop(hold c k ∗ (w.via k).elim iprop(emp) (pay c)) ⊢ iprop(w.srcPts c k q fs ∗ w.dstPts c (w.peer k c) k fd))
      ∧ (w.srcPts c k q fs ⊢ pay c k)
      ∧ (w.dstPts c (w.peer k c) k (w.landed c (w.peer k c) k fs fd) ⊢ pay (w.peer k c) r)

attribute [instance] Plan.pay_storable

/-! ## The check of a list of instructions -/

/-- The statuses after the copy on `k` is started. -/
def started (w : Wiring nD τ sig K) (σ : K → St) (k : K) : K → St :=
  Function.update (match w.via k with | none => σ | some v => Function.update σ v .spent) k .armed

def viaDone (w : Wiring nD τ sig K) (σ : K → St) (k : K) : Bool :=
  match w.via k with
  | none => true
  | some v => decide (σ v = .done) && decide (v ≠ k)

/-- Waiting at level `n` is allowed before the instructions `l`: every credit they still give is of a
higher level. -/
def above (w : Wiring nD τ sig K) (lev : K → ℕ) (n : ℕ) : List (Instr K) → Bool
  | [] => true
  | .wait _ :: l => above w lev n l
  | .start k :: l => (match w.land k with | none => true | some r => decide (n < lev r)) && above w lev n l

def check (w : Wiring nD τ sig K) (lev : K → ℕ) (final : K → St) : (K → St) → List (Instr K) → Bool
  | σ, [] => decide (∀ k, σ k = final k) && decide (∀ k, σ k ≠ .idle)
  | σ, .start k :: l => decide (σ k = .idle) && viaDone w σ k && check w lev final (started w σ k) l
  | σ, .wait k :: l => decide (σ k = .armed) && above w lev (lev k) l && check w lev final (Function.update σ k .done) l

omit [Fintype K] in
theorem started_self (σ : K → St) (k : K) : started w σ k k = .armed := Function.update_self ..

omit [Fintype K] in
theorem started_idle {σ : K → St} {k j : K} (h : started w σ k j = .idle) : σ j = .idle ∧ j ≠ k := by
  by_cases hj : j = k
  · subst hj; rw [started_self] at h; cases h
  · refine ⟨?_, hj⟩
    unfold started at h
    rw [Function.update_of_ne hj] at h
    cases hv : w.via k with
    | none => rw [hv] at h; exact h
    | some v =>
      rw [hv] at h
      by_cases hjv : j = v
      · subst hjv; simp at h
      · simpa [Function.update_of_ne hjv] using h

omit [Fintype K] in
theorem started_of_idle {σ : K → St} {k j : K} (hd : viaDone w σ k = true) (h : σ j = .idle) (hj : j ≠ k) : started w σ k j = .idle := by
  unfold started
  rw [Function.update_of_ne hj]
  unfold viaDone at hd
  cases hv : w.via k with
  | none => exact h
  | some v =>
    rw [hv] at hd
    have hd' : σ v = .done := by simpa using (And.left (by simpa using hd))
    have : j ≠ v := fun e => by subst e; rw [h] at hd'; cases hd'
    simpa [Function.update_of_ne this] using h

theorem above_of_check {lev : K → ℕ} {final : K → St} {n : ℕ} {j r : K} (hr : w.land j = some r) :
    ∀ (l : List (Instr K)) (σ : K → St), check w lev final σ l = true → above w lev n l = true → σ j = .idle → n < lev r
  | [], σ, hc, _, hj => by
    simp only [check, Bool.and_eq_true, decide_eq_true_eq] at hc
    exact absurd hj (hc.2 j)
  | .start k :: l, σ, hc, ha, hj => by
    simp only [check, Bool.and_eq_true, decide_eq_true_eq] at hc
    simp only [above, Bool.and_eq_true] at ha
    by_cases hjk : j = k
    · subst hjk; rw [hr] at ha; simpa using ha.1
    · exact above_of_check hr l _ hc.2 ha.2 (started_of_idle w hc.1.2 hj hjk)
  | .wait k :: l, σ, hc, ha, hj => by
    simp only [check, Bool.and_eq_true, decide_eq_true_eq] at hc
    have hjk : j ≠ k := fun e => by subst e; rw [hj] at hc; cases hc.1.1
    exact above_of_check hr l _ hc.2 ha (by rw [Function.update_of_ne hjk]; exact hj)

namespace Plan

variable {w} (p : Plan Val w)

/-! ## The schedule -/

open Classical in
/-- One round, one duty per cell. -/
def sched : Rounds.Schedule (GSem nD τ sig) Unit 𝕄 where
  duties g r := if r = 0 ∧ ∃ c k, g = w.cell c k then {()} else ∅
  unitless _ := False
  amount g _ _ := if h : ∃ k, g.2 = .dma (w.sem k) then p.amt h.choose else 1
  payload g _ _ := if h : ∃ k, g.2 = .dma (w.sem k) then p.pay g.1.1 h.choose else iprop(emp)
  amount_pos g _ _ _ := by
    split
    · exact p.amt_pos _
    · exact Nat.one_pos

instance sched_storable (g : GSem nD τ sig) (r : ℕ) (d : Unit) : BI.Storable (upEmb : UEmb _ 𝕄) (p.sched.payload g r d) := by
  classical
  show BI.Storable upEmb (if h : ∃ k, g.2 = .dma (w.sem k) then p.pay g.1.1 h.choose else iprop(emp))
  split <;> infer_instance

include p in
theorem choose_sem (k : K) (h : ∃ k', (SemLoc.dma (w.sem k) : SemLoc sig) = .dma (w.sem k')) : h.choose = k :=
  (p.sem_inj (SemLoc.dma.inj h.choose_spec)).symm

theorem duties_cell (c : Dev nD) (k : K) : p.sched.duties (w.cell c k) 0 = {()} := if_pos ⟨rfl, c, k, rfl⟩
theorem mem_duties (c : Dev nD) (k : K) : () ∈ p.sched.duties (w.cell c k) 0 := by rw [duties_cell]; exact Finset.mem_singleton_self _
theorem duties_later (g : GSem nD τ sig) (r : ℕ) (hr : 1 ≤ r) : p.sched.duties g r = ∅ := if_neg fun h => by omega
theorem amount_cell (c : Dev nD) (k : K) : p.sched.amount (w.cell c k) 0 () = p.amt k := by
  have h : ∃ k', (SemLoc.dma (w.sem k) : SemLoc sig) = .dma (w.sem k') := ⟨k, rfl⟩
  exact (dif_pos h).trans (congrArg p.amt (p.choose_sem k h))
theorem payload_cell (c : Dev nD) (k : K) : p.sched.payload (w.cell c k) 0 () = p.pay c k := by
  have h : ∃ k', (SemLoc.dma (w.sem k) : SemLoc sig) = .dma (w.sem k') := ⟨k, rfl⟩
  exact (dif_pos h).trans (congrArg (p.pay c) (p.choose_sem k h))
theorem expect_cell (c : Dev nD) (k : K) : p.sched.expect (w.cell c k) 0 = p.amt k := by
  unfold Schedule.expect Schedule.amountOf; rw [duties_cell, Finset.sum_singleton, amount_cell]
theorem rest_cell (c : Dev nD) (k : K) :
    bigSep (p.sched.duties (w.cell c k) 0 \ ∅) (fun u => p.sched.payload (w.cell c k) 0 u) = p.pay c k := by
  rw [Finset.sdiff_empty, duties_cell, bigSep_singleton, payload_cell]

include p in
theorem cell_inj : Function.Injective fun x : Dev nD × K => w.cell x.1 x.2 := by
  rintro ⟨c, k⟩ ⟨c', k'⟩ h
  have h1 : c = c' := congrArg (fun g : GSem nD τ sig => g.1.1) h
  have h2 : k = k' := p.sem_inj (SemLoc.dma.inj (congrArg (fun g : GSem nD τ sig => g.2) h))
  rw [h1, h2]

/-! ## Levels and what a device owes -/

def L (g : GSem nD τ sig) : Finset Unit := if g.1.2 = .tc then {()} else ∅

open Classical in
def lv (g : GSem nD τ sig) (_ : Unit) : ℕ := if h : ∃ k, g.2 = .dma (w.sem k) then p.lev h.choose else 0

theorem L_cell (c : Dev nD) (k : K) : L (w.cell c k) = {()} := if_pos rfl
theorem lv_cell (c : Dev nD) (k : K) : p.lv (w.cell c k) () = p.lev k := by
  have h : ∃ k', (SemLoc.dma (w.sem k) : SemLoc sig) = .dma (w.sem k') := ⟨k, rfl⟩
  exact (dif_pos h).trans (congrArg p.lev (p.choose_sem k h))

/-- The credit the copy on `k` owes a peer. -/
def due (c : Dev nD) (k : K) : CellTallies nD τ sig Unit :=
  match w.land k with
  | none => 0
  | some r => tallyAt (w.cell (w.peer k c) r) () (p.amt k)

/-- What device `c` owes at statuses `σ`: the credits of its copies not started. -/
def debt (σ : K → St) (c : Dev nD) : CellTallies nD τ sig Unit := ∑ k, if σ k = .idle then p.due c k else 0

theorem debt_start (σ : K → St) (k : K) (c : Dev nD) (hk : σ k = .idle) (hd : viaDone w σ k = true) :
    p.debt σ c = p.debt (started w σ k) c + p.due c k := by
  unfold debt
  rw [← Finset.add_sum_erase _ _ (Finset.mem_univ k), if_pos hk, ← Finset.add_sum_erase Finset.univ (fun j => if started w σ k j = .idle then p.due c j else 0) (Finset.mem_univ k),
    started_self, if_neg (by decide), zero_add, add_comm]
  congr 1
  refine Finset.sum_congr rfl fun j hj => ?_
  have hjk := Finset.ne_of_mem_erase hj
  by_cases h : σ j = .idle
  · rw [if_pos h, if_pos (started_of_idle w hd h hjk)]
  · rw [if_neg h, if_neg fun h' => h (started_idle w h').1]

theorem debt_wait (σ : K → St) (k : K) (c : Dev nD) (hk : σ k = .armed) :
    p.debt (Function.update σ k .done) c = p.debt σ c := by
  refine Finset.sum_congr rfl fun j _ => ?_
  by_cases h : j = k
  · subst h; rw [Function.update_self, hk]; rfl
  · rw [Function.update_of_ne h]

theorem debt_zero (σ : K → St) (c : Dev nD) (h : ∀ k, σ k ≠ .idle) : p.debt σ c = 0 :=
  Finset.sum_eq_zero fun j _ => if_neg (h j)

theorem debt_pos {σ : K → St} {c : Dev nD} {g : GSem nD τ sig} {u : Unit} (h : 0 < p.debt σ c g u) :
    ∃ j r, σ j = .idle ∧ w.land j = some r ∧ g = w.cell (w.peer j c) r := by
  unfold debt at h
  rw [Finset.sum_apply, Finsupp.finset_sum_apply] at h
  obtain ⟨j, -, hj⟩ := Finset.exists_ne_zero_of_sum_ne_zero h.ne'
  by_cases hi : σ j = .idle
  · rw [if_pos hi] at hj
    unfold due at hj
    cases hl : w.land j with
    | none => rw [hl] at hj; exact absurd rfl hj
    | some r =>
      rw [hl] at hj
      refine ⟨j, r, hi, hl, ?_⟩
      by_contra hg
      dsimp only at hj
      rw [tallyAt_apply, if_neg fun h' => hg h'.1] at hj
      exact hj rfl
  · rw [if_neg hi] at hj; exact absurd rfl hj

theorem mayWait (σ : K → St) (c : Dev nD) (k : K) (h : ∀ j r, σ j = .idle → w.land j = some r → p.lev k < p.lev r) :
    (levAts L p.lv : sProp 𝕄) ⊢ MayWait (c : Thread nD τ) (.dma (w.sem k)) () (p.debt σ c) :=
  MayOwe.of_cut (L := L) (lev := p.lv) (p.lev k)
    (fun x hx => by rw [Finset.mem_singleton.mp hx]; exact (congrArg (() ∈ ·) (L_cell c k)).mpr (Finset.mem_singleton_self _))
    (fun g u hg => by
      obtain ⟨j, r, -, -, rfl⟩ := p.debt_pos hg
      rw [L_cell]; exact Finset.mem_singleton_self _)
    (fun x hx => by rw [Finset.mem_singleton.mp hx]; exact (p.lv_cell c k).le)
    (fun g u hg => by
      obtain ⟨j, r, hj, hr, rfl⟩ := p.debt_pos hg
      exact (h j r hj hr).trans_eq (p.lv_cell _ r).symm)

/-! ## What a device holds -/

/-- The right to credit the cell the copy on `k` lands at. -/
def landTok (w : Wiring nD τ sig K) (c : Dev nD) (k : K) : sProp 𝕄 :=
  (w.land k).elim iprop(emp) fun r => dutyTok ER (w.cell (w.peer k c) r) 0 ()

def viaPay (c : Dev nD) (k : K) : sProp 𝕄 := (w.via k).elim iprop(emp) (p.pay c)

def st (c : Dev nD) (k : K) : St → sProp 𝕄
  | .idle => iprop(atPos ER (w.cell c k) 0 ∅ 0 ∗ dutyTok ER (w.cell c k) 0 () ∗ landTok w c k ∗ p.hold c k)
  | .armed => iprop(atPos ER (w.cell c k) 0 ∅ 0 ∗ cred (tallyAt (w.cell c k) () (p.amt k)))
  | .done => iprop(atPos ER (w.cell c k) (0 + 1) ∅ 0 ∗ p.pay c k)
  | .spent => iprop(atPos ER (w.cell c k) (0 + 1) ∅ 0)

def state (σ : K → St) (c : Dev nD) : sProp 𝕄 := bigSep Finset.univ fun k => p.st c k (σ k)

/-- The cells' invariants, under the names `ν`, and the levels. -/
def ctx (ν : Dev nD × K → ℕ) : sProp 𝕄 :=
  iprop((bigSep Finset.univ fun x : Dev nD × K => iprop(cellInv ER p.sched (ν x) (w.cell x.1 x.2) ∗ reached ER (w.cell x.1 x.2) 0)) ∗ levAts L p.lv)

instance ctx_persistent (ν : Dev nD × K → ℕ) : BI.Persistent (p.ctx ν) := by unfold ctx; infer_instance

theorem ctx_cell (ν : Dev nD × K → ℕ) (c : Dev nD) (k : K) :
    p.ctx ν ⊢ iprop(cellInv ER p.sched (ν (c, k)) (w.cell c k) ∗ reached ER (w.cell c k) 0) := by
  unfold ctx
  exact sep_elim_left.trans (bigSep_elim (Φ := fun x : Dev nD × K => iprop(cellInv ER p.sched (ν x) (w.cell x.1 x.2) ∗ reached ER (w.cell x.1 x.2) 0)) (Finset.mem_univ (c, k)))

theorem ctx_lev (ν : Dev nD × K → ℕ) : p.ctx ν ⊢ levAts L p.lv := by unfold ctx; exact sep_elim_right

theorem state_at (σ : K → St) (c : Dev nD) (k : K) :
    p.state σ c = iprop(p.st c k (σ k) ∗ bigSep (Finset.univ.erase k) fun j => p.st c j (σ j)) := by
  unfold state; exact bigSep_univ_at _ k

theorem rest_congr {σ σ' : K → St} (c : Dev nD) (S : Finset K) (h : ∀ j ∈ S, σ j = σ' j) :
    bigSep S (fun j => p.st c j (σ j)) = bigSep S fun j => p.st c j (σ' j) :=
  bigSep_congr fun j hj => by rw [h j hj]

theorem take_out {I : Type} [DecidableEq I] {s : Finset I} {i : I} (h : i ∈ s) {Φ : I → sProp 𝕄} :
    bigSep s Φ = iprop(Φ i ∗ bigSep (s.erase i) Φ) := bigSep_erase h

theorem state_start (σ : K → St) (c : Dev nD) (k : K) (hk : σ k = .idle) (hd : viaDone w σ k = true) :
    p.state σ c ⊢ iprop((atPos ER (w.cell c k) 0 ∅ 0 ∗ dutyTok ER (w.cell c k) 0 () ∗ landTok w c k ∗ p.hold c k ∗ p.viaPay c k)
      ∗ (iprop(atPos ER (w.cell c k) 0 ∅ 0 ∗ cred (tallyAt (w.cell c k) () (p.amt k))) -∗ p.state (started w σ k) c)) := by
  rw [p.state_at σ c k, hk, p.state_at (started w σ k) c k, started_self]
  unfold viaPay viaDone started at *
  cases hv : w.via k with
  | none =>
    rw [p.rest_congr (σ' := fun j => Function.update σ k St.armed j) c (Finset.univ.erase k)
      fun j hj => by rw [Function.update_of_ne (Finset.ne_of_mem_erase hj)]]
    dsimp only [st, Option.elim]
    iintro ⟨⟨Ha, Hd, Hl, Hh⟩, Hr⟩
    isplitl [Ha Hd Hl Hh]
    · isplitl [Ha]; · iexact Ha
      isplitl [Hd]; · iexact Hd
      isplitl [Hl]; · iexact Hl
      isplitl [Hh]; · iexact Hh
      iempintro
    · iintro H
      isplitl [H]; · iexact H
      iexact Hr
  | some v =>
    rw [hv] at hd
    have hd1 : σ v = .done := by simpa using (And.left (by simpa using hd))
    have hd2 : v ≠ k := by simpa using (And.right (by simpa using hd))
    have hv' : v ∈ Finset.univ.erase k := Finset.mem_erase.mpr ⟨hd2, Finset.mem_univ v⟩
    dsimp only
    rw [take_out hv', take_out hv']
    rw [p.rest_congr (σ := σ) (σ' := fun j => Function.update (Function.update σ v St.spent) k St.armed j) c ((Finset.univ.erase k).erase v)
      fun j hj => by rw [Function.update_of_ne (Finset.ne_of_mem_erase (Finset.mem_of_mem_erase hj)), Function.update_of_ne (Finset.ne_of_mem_erase hj)]]
    rw [hd1, Function.update_of_ne hd2, Function.update_self]
    dsimp only [st, Option.elim]
    iintro ⟨⟨Ha, Hd, Hl, Hh⟩, ⟨Hva, Hvp⟩, Hr⟩
    isplitl [Ha Hd Hl Hh Hvp]
    · isplitl [Ha]; · iexact Ha
      isplitl [Hd]; · iexact Hd
      isplitl [Hl]; · iexact Hl
      isplitl [Hh]; · iexact Hh
      iexact Hvp
    · iintro H
      isplitl [H]; · iexact H
      isplitl [Hva]; · iexact Hva
      iexact Hr

theorem state_wait (σ : K → St) (c : Dev nD) (k : K) (hk : σ k = .armed) :
    p.state σ c ⊢ iprop((atPos ER (w.cell c k) 0 ∅ 0 ∗ cred (tallyAt (w.cell c k) () (p.amt k)))
      ∗ (iprop(atPos ER (w.cell c k) (0 + 1) ∅ 0 ∗ p.pay c k) -∗ p.state (Function.update σ k .done) c)) := by
  rw [p.state_at σ c k, hk, p.state_at (Function.update σ k .done) c k, Function.update_self,
    p.rest_congr (σ' := fun j => Function.update σ k St.done j) c (Finset.univ.erase k)
      fun j hj => by rw [Function.update_of_ne (Finset.ne_of_mem_erase hj)]]
  dsimp only [st]
  iintro ⟨H, Hr⟩
  isplitl [H]; · iexact H
  iintro H
  isplitl [H]; · iexact H
  iexact Hr

end Plan

/-! ## The instructions -/

section Steps

variable {w} (p : Plan Val w) {Λ : Labels} (defs : Defs nD τ sig Val Λ) (𝒱 : Variants)
variable (ν : Dev nD × K → ℕ) (c : Dev nD) {α : Type} {kont : PUnit → Prog (TpuEff nD τ sig Val Λ .tc) α}

theorem wp_keep {Q : α → sProp 𝕄} (k : K) (hf : p.first k = .idle) (hl : w.land k = none) :
    iprop(p.ctx ν ∗ (atPos ER (w.cell c k) 0 ∅ 0 ∗ dutyTok ER (w.cell c k) 0 () ∗ Plan.landTok w c k ∗ p.hold c k ∗ p.viaPay c k)
        ∗ (iprop(atPos ER (w.cell c k) 0 ∅ 0 ∗ cred (tallyAt (w.cell c k) () (p.amt k))) -∗ wp frame (wpE defs 𝒱 (c : Thread nD τ) none) Set.univ (kont ⟨⟩) Q))
      ⊢ wp frame (wpE defs 𝒱 (c : Thread nD τ) none) Set.univ (.op (w.eff Val Λ c (.start k)) kont) Q := by
  obtain ⟨q, fs, fd, h1, h2⟩ := p.enter_keep c k hf hl
  have he : w.eff Val Λ c (.start k) = .enqueueDma (w.src c k) (.here (w.dst c k)) (.dma (w.sem k)) (w.src_exact c k) (w.dst_exact c k) ⟨Or.inl rfl, trivial⟩ := by
    unfold Wiring.eff; simp only [hl]
  rw [he]
  have hpay := h2.trans (Entails.of_eq (p.payload_cell c k).symm)
  iintro ⟨#Hctx, ⟨Ha, Hd, -, Hh, Hv⟩, Hk⟩
  ihave Hi := (p.ctx_cell ν c k) $$ Hctx
  icases Hi with ⟨#Hi, #Hr⟩
  ihave Hm := h1 $$ [Hh Hv]
  · isplitl [Hh]; · iexact Hh
    unfold Plan.viaPay; iexact Hv
  icases Hm with ⟨Hs, Hdst⟩
  iapply (Rounds.wp_copy_pointsTo 𝒱 ER p.sched (c : Thread nD τ) none (κ := ν (c, k)) (p.mem_duties c k) () (p.amt k)
    (p.amt_dst c k hf) (p.amount_cell c k) hpay) $$ [Hs Hdst Hd]
  · isplitr; · iexact Hi
    isplitl [Hs]; · iexact Hs
    isplitl [Hdst]; · iexact Hdst
    isplitl [Hd]; · iexact Hd
    iexact Hr
  iintro Hc
  iapply Hk
  isplitl [Ha]; · iexact Ha
  iexact Hc

theorem wp_send {Q : α → sProp 𝕄} (k r : K) (hf : p.first k = .idle) (hl : w.land k = some r) (O : CellTallies nD τ sig Unit) (W : Waits sig Unit) :
    iprop(p.ctx ν ∗ (atPos ER (w.cell c k) 0 ∅ 0 ∗ dutyTok ER (w.cell c k) 0 () ∗ Plan.landTok w c k ∗ p.hold c k ∗ p.viaPay c k)
        ∗ owes (c : Thread nD τ) (O + p.due c k) W
        ∗ (iprop((atPos ER (w.cell c k) 0 ∅ 0 ∗ cred (tallyAt (w.cell c k) () (p.amt k))) ∗ owes (c : Thread nD τ) O W)
          -∗ wp frame (wpE defs 𝒱 (c : Thread nD τ) none) Set.univ (kont ⟨⟩) Q))
      ⊢ wp frame (wpE defs 𝒱 (c : Thread nD τ) none) Set.univ (.op (w.eff Val Λ c (.start k)) kont) Q := by
  obtain ⟨q, fs, fd, h1, h2, h3⟩ := p.enter_send c k r hf hl
  have he : w.eff Val Λ c (.start k) = .enqueueDma (w.src c k) (.remote (Dev.tc (w.peer k c)) (w.dst c k) (.dma (w.sem k))) (.dma (w.sem r))
      (w.src_exact c k) (w.dst_exact c k) ⟨⟨rfl, Or.inl rfl⟩, trivial⟩ := by
    unfold Wiring.eff; simp only [hl]
  have hdue : p.due c k = tallyAt (w.cell (w.peer k c) r) () (p.amt k) := by unfold Plan.due; simp only [hl]
  have htok : (Plan.landTok w c k : sProp 𝕄) = dutyTok ER (w.cell (w.peer k c) r) 0 () := by unfold Plan.landTok; simp only [hl, Option.elim]
  rw [he, hdue, htok]
  have hpay1 := h2.trans (Entails.of_eq (p.payload_cell c k).symm)
  have hpay2 := h3.trans (Entails.of_eq (p.payload_cell (w.peer k c) r).symm)
  iintro ⟨#Hctx, ⟨Ha, Hd, Hl, Hh, Hv⟩, HO, Hk⟩
  ihave Hi := (p.ctx_cell ν c k) $$ Hctx
  icases Hi with ⟨#Hi, #Hr⟩
  ihave Hi' := (p.ctx_cell ν (w.peer k c) r) $$ Hctx
  icases Hi' with ⟨#Hi', #Hr'⟩
  ihave Hm := h1 $$ [Hh Hv]
  · isplitl [Hh]; · iexact Hh
    unfold Plan.viaPay; iexact Hv
  icases Hm with ⟨Hs, Hdst⟩
  iapply (Rounds.wp_send_pointsTo 𝒱 ER p.sched (c : Thread nD τ) none (c' := (w.peer k c : Thread nD τ)) (κ₁ := ν (c, k)) (κ₂ := ν (w.peer k c, r))
    (r₁ := 0) (r₂ := 0) (d₁ := ()) (d₂ := ()) (fd := fd) (p.mem_duties c k) (p.mem_duties (w.peer k c) r) () () (p.amt k)
    (p.amt_dst c k hf) (p.amount_cell c k) ((p.amount_cell (w.peer k c) r).trans (p.amt_land k r hl)) O rfl (W := W)
    hpay1 hpay2 (hr := p.routes c (w.peer k c))) $$ [Hs Hdst HO Hd Hl]
  · isplitr; · iexact Hi
    isplitr; · iexact Hi'
    isplitl [Hs]; · iexact Hs
    isplitl [Hdst]; · iexact Hdst
    isplitl [HO]; · iexact HO
    isplitl [Hd]; · iexact Hd
    isplitr; · iexact Hr
    isplitl [Hl]; · iexact Hl
    iexact Hr'
  iintro ⟨Hc, HO⟩
  iapply Hk
  isplitr [HO]
  · isplitl [Ha]; · iexact Ha
    iexact Hc
  iexact HO

theorem wp_wait {Q : α → sProp 𝕄} (k : K) (O : CellTallies nD τ sig Unit) (W : Waits sig Unit)
    (hO : (levAts Plan.L p.lv : sProp 𝕄) ⊢ MayWait (c : Thread nD τ) (.dma (w.sem k)) () O) :
    iprop(p.ctx ν ∗ (atPos ER (w.cell c k) 0 ∅ 0 ∗ cred (tallyAt (w.cell c k) () (p.amt k))) ∗ owes (c : Thread nD τ) O W
        ∗ (iprop((atPos ER (w.cell c k) (0 + 1) ∅ 0 ∗ p.pay c k) ∗ owes (c : Thread nD τ) O (insert (.dma (w.sem k), ()) W))
          -∗ wp frame (wpE defs 𝒱 (c : Thread nD τ) none) Set.univ (kont ⟨⟩) Q))
      ⊢ wp frame (wpE defs 𝒱 (c : Thread nD τ) none) Set.univ (.op (w.eff Val Λ c (.wait k)) kont) Q := by
  unfold Wiring.eff
  iintro ⟨#Hctx, ⟨Ha, Hc⟩, HO, Hk⟩
  ihave Hi := (p.ctx_cell ν c k) $$ Hctx
  icases Hi with ⟨#Hi, #Hr⟩
  ihave #Hlev := (p.ctx_lev ν) $$ Hctx
  iapply (Rounds.wp_wait_rest_token 𝒱 ER p.sched (c : Thread nD τ) none (κ := ν (c, k))
      (wpE_waitDma2_eq 𝒱 (c : Thread nD τ) none Set.univ) (Set.mem_univ _) () (O := O) (W := W) (R := 0) (m := 0) (T := ∅)
      (by rw [Nat.zero_add]; exact (p.amt_wdst c k).trans (p.expect_cell c k).symm)) $$ [Hc HO Ha]
  · isplitr; · iexact Hi
    isplitl [Hc]
    · rw [p.amt_wdst c k]; iexact Hc
    isplitl [HO]; · iexact HO
    isplitr; · iapply hO; iexact Hlev
    iexact Ha
  iintro ⟨HO, Ha, -, Hpay⟩
  ihave Hp := (Entails.of_eq (p.rest_cell c k)) $$ Hpay
  iapply Hk
  isplitr [HO]
  · isplitl [Ha]; · iexact Ha
    iexact Hp
  iexact HO

/-- Every list of instructions that passes the check runs, from any statuses to the final ones. -/
theorem wp_runs {Q : PUnit → sProp 𝕄} : ∀ (l : List (Instr K)) (σ : K → St) (W : Waits sig Unit), (∀ k, σ k = .idle → p.first k = .idle) →
    check w p.lev p.final σ l = true →
    iprop(p.ctx ν ∗ p.state σ c ∗ owes (c : Thread nD τ) (p.debt σ c) W
        ∗ (iprop(p.state p.final c ∗ ∃ W', owes (c : Thread nD τ) 0 W') -∗ Q ⟨⟩))
      ⊢ wp frame (wpE defs 𝒱 (c : Thread nD τ) none) Set.univ (w.runs Val Λ c l) Q
  | [], σ, W, hf, hc => by
    simp only [check, Bool.and_eq_true, decide_eq_true_eq] at hc
    have hσ : σ = p.final := funext hc.1
    rw [p.debt_zero σ c hc.2]; subst hσ
    unfold Wiring.runs
    rw [wp_ret]
    iintro ⟨-, Hs, HO, Hk⟩
    imodintro
    iapply Hk
    isplitl [Hs]; · iexact Hs
    iexists W; iexact HO
  | .wait k :: l, σ, W, hf, hc => by
    simp only [check, Bool.and_eq_true, decide_eq_true_eq] at hc
    obtain ⟨⟨hk, ha⟩, hl⟩ := hc
    have hf' : ∀ j, Function.update σ k .done j = .idle → p.first j = .idle := fun j hj => by
      by_cases h : j = k
      · subst h; rw [Function.update_self] at hj; cases hj
      · rw [Function.update_of_ne h] at hj; exact hf j hj
    have hlev : ∀ j r, σ j = .idle → w.land j = some r → p.lev k < p.lev r := fun j r hj hr => by
      have hjk : j ≠ k := fun e => by subst e; rw [hk] at hj; cases hj
      exact above_of_check w hr l _ hl ha (by rw [Function.update_of_ne hjk]; exact hj)
    have ih := wp_runs (Q := Q) l (Function.update σ k .done) (insert (.dma (w.sem k), ()) W) hf' hl
    rw [p.debt_wait σ k c hk] at ih
    unfold Wiring.runs
    iintro ⟨#Hctx, Hs, HO, Hk⟩
    ihave Hs := (p.state_wait σ c k hk) $$ Hs
    icases Hs with ⟨H, Hback⟩
    iapply (wp_wait p defs 𝒱 ν c k (p.debt σ c) W (p.mayWait σ c k hlev))
    isplitr; · iexact Hctx
    isplitl [H]; · iexact H
    isplitl [HO]; · iexact HO
    iintro ⟨H, HO⟩
    iapply ih
    isplitr; · iexact Hctx
    isplitl [H Hback]; · iapply Hback; iexact H
    isplitl [HO]; · iexact HO
    iexact Hk
  | .start k :: l, σ, W, hf, hc => by
    simp only [check, Bool.and_eq_true, decide_eq_true_eq] at hc
    obtain ⟨⟨hk, hd⟩, hl⟩ := hc
    have ih := wp_runs (Q := Q) l (started w σ k) W (fun j hj => hf j (started_idle w hj).1) hl
    unfold Wiring.runs
    iintro ⟨#Hctx, Hs, HO, Hk⟩
    ihave Hs := (p.state_start σ c k hk hd) $$ Hs
    icases Hs with ⟨H, Hback⟩
    rw [p.debt_start σ k c hk hd]
    cases hland : w.land k with
    | none =>
      have hdue : p.due c k = 0 := by unfold Plan.due; simp only [hland]
      rw [hdue, add_zero]
      iapply (wp_keep p defs 𝒱 ν c k (hf k hk) hland)
      isplitr; · iexact Hctx
      isplitl [H]; · iexact H
      iintro H
      iapply ih
      isplitr; · iexact Hctx
      isplitl [H Hback]; · iapply Hback; iexact H
      isplitl [HO]; · iexact HO
      iexact Hk
    | some r =>
      iapply (wp_send p defs 𝒱 ν c k r (hf k hk) hland (p.debt (started w σ k) c) W)
      isplitr; · iexact Hctx
      isplitl [H]; · iexact H
      isplitl [HO]; · iexact HO
      iintro ⟨H, HO⟩
      iapply ih
      isplitr; · iexact Hctx
      isplitl [H Hback]; · iapply Hback; iexact H
      isplitl [HO]; · iexact HO
      iexact Hk

end Steps

end Wires

end
-- ==== Proof.Script.lean ====
/-
The gradient exchange as wires: the offsets the kernel computes, its cells, and its body as a list of
instructions.
-/
module

public import proofs.«01_k».proof.Proof.Wires
public import proofs.«01_k».proof.Proof.Gen.KernelIdeal
public import proofs.«01_k».proof.Proof.Gen.KernelIdeal.Launch
public import proofs.«01_k».proof.Proof.Gen.KernelIdeal.Skeleton

@[expose] public section

noncomputable section

namespace Exchange

open Cert.KernelIdeal Cert.KernelIdeal.Gen
open Idealize.ShloMosaic Idealize.ShloMosaic.TcCoe
open Wires

variable {F : FTy → Type} [FloatOps F]

/-! ## Offsets and peers, as the kernel computes them -/

/-- The offset of a device's own slab in array `a`. -/
def ownOff (a : Fin 6) (c : Dev nD) : Fin 3 → ℕ :=
  (![k0_off1 c, k0_off2 c, k0_off3 c, k0_off4 c, k0_off5 c, k0_off6 c] : Fin 6 → Fin 3 → ℕ) a

/-- The offset of the slab of the device's peer number `k`. -/
def peerOff (k : Fin 7) (a : Fin 6) (c : Dev nD) : Fin 3 → ℕ :=
  (![![k0_off7 c, k0_off8 c, k0_off9 c, k0_off10 c, k0_off11 c, k0_off12 c],
    ![k0_off13 c, k0_off14 c, k0_off15 c, k0_off16 c, k0_off17 c, k0_off18 c],
    ![k0_off19 c, k0_off20 c, k0_off21 c, k0_off22 c, k0_off23 c, k0_off24 c],
    ![k0_off25 c, k0_off26 c, k0_off27 c, k0_off28 c, k0_off29 c, k0_off30 c],
    ![k0_off31 c, k0_off32 c, k0_off33 c, k0_off34 c, k0_off35 c, k0_off36 c],
    ![k0_off37 c, k0_off38 c, k0_off39 c, k0_off40 c, k0_off41 c, k0_off42 c],
    ![k0_off43 c, k0_off44 c, k0_off45 c, k0_off46 c, k0_off47 c, k0_off48 c]] :
    Fin 7 → Fin 6 → Fin 3 → ℕ) k a

def peerNo (k : Fin 7) (a : Fin 6) (c : Dev nD) : ℕ :=
  (![![k0_dev1 c, k0_dev2 c, k0_dev3 c, k0_dev4 c, k0_dev5 c, k0_dev6 c],
    ![k0_dev7 c, k0_dev8 c, k0_dev9 c, k0_dev10 c, k0_dev11 c, k0_dev12 c],
    ![k0_dev13 c, k0_dev14 c, k0_dev15 c, k0_dev16 c, k0_dev17 c, k0_dev18 c],
    ![k0_dev19 c, k0_dev20 c, k0_dev21 c, k0_dev22 c, k0_dev23 c, k0_dev24 c],
    ![k0_dev25 c, k0_dev26 c, k0_dev27 c, k0_dev28 c, k0_dev29 c, k0_dev30 c],
    ![k0_dev31 c, k0_dev32 c, k0_dev33 c, k0_dev34 c, k0_dev35 c, k0_dev36 c],
    ![k0_dev37 c, k0_dev38 c, k0_dev39 c, k0_dev40 c, k0_dev41 c, k0_dev42 c]] :
    Fin 7 → Fin 6 → ℕ) k a

/-- Peer number `k` of device `c`: the bits of `k + 1` say which mesh coordinates are flipped. -/
def peer (k : Fin 7) (c : Dev nD) : Dev nD := ⟨(c.val ^^^ (k.val + 1)) % 8, Nat.mod_lt _ (by decide)⟩

theorem peer_peer (k : Fin 7) (c : Dev nD) : peer k (peer k c) = c := by revert k c; decide +kernel
theorem peerNo_eq : ∀ k a c, peerNo k a c = (peer k c).val := by decide +kernel
theorem ownOff_eq : ∀ a c, ownOff a c = ![c.val, 0, 0] := by decide +kernel
theorem peerOff_eq : ∀ k a c, peerOff k a c = ![(peer k c).val, 0, 0] := by decide +kernel

theorem peerNo_lt (k : Fin 7) (a : Fin 6) (c : Dev nD) : peerNo k a c < nD := by rw [peerNo_eq]; exact (peer k c).isLt

/-! ## The arrays and their slabs -/

def rows : Fin 6 → ℕ := ![1024, 128, 1024, 352, 4, 3]
def cols : Fin 6 → ℕ := ![449, 1024, 704, 1024, 192, 704]

/-- The element types: four arrays of bf16, two of f32. -/
def elt : Fin 6 → EltTy := ![.bf16, .bf16, .bf16, .bf16, .f32, .f32]

abbrev Arr (a : Fin 6) : Shape := ⟨3, ![8, rows a, cols a]⟩
abbrev Row (a : Fin 6) : Shape := ⟨3, ![1, rows a, cols a]⟩
abbrev Slab (a : Fin 6) : Shape := ⟨2, ![rows a, cols a]⟩

theorem squeezes : ∀ a, (Row a).Squeezes (Slab a) := by decide

def inRef : (a : Fin 6) → Memref sig .tc .hbm (Arr a) (elt a)
  | 0 => Memref.whole main_arg0 | 1 => Memref.whole main_arg1 | 2 => Memref.whole main_arg2
  | 3 => Memref.whole main_arg3 | 4 => Memref.whole main_arg4 | 5 => Memref.whole main_arg5

def outRef : (a : Fin 6) → Memref sig .tc .hbm (Arr a) (elt a)
  | 0 => Memref.whole main_v1_0 | 1 => Memref.whole main_v1_1 | 2 => Memref.whole main_v1_2
  | 3 => Memref.whole main_v1_3 | 4 => Memref.whole main_v1_4 | 5 => Memref.whole main_v1_5

theorem inb_of {a : Fin 6} {off : Fin 3 → ℕ} {j : ℕ} (hj : j < 8) (h : off = ![j, 0, 0]) :
    ∀ i, off i + (Row a).size i ≤ (Arr a).size i := by
  subst h; intro i; fin_cases i
  · show j + 1 ≤ 8; omega
  · show 0 + rows a ≤ rows a; omega
  · show 0 + cols a ≤ cols a; omega

/-- Slab `off` of array `a`, as a matrix. -/
abbrev slab {a : Fin 6} (m : Memref sig .tc .hbm (Arr a) (elt a)) (off : Fin 3 → ℕ)
    (h : ∀ i, off i + (Row a).size i ≤ (Arr a).size i) : Memref sig .tc .hbm (Slab a) (elt a) :=
  (m.slice (Rect.unit (s := Arr a) off (Row a).size h) (fun _ => rfl)).squeeze (Slab a) (squeezes a)

theorem own_inb (a : Fin 6) (c : Dev nD) : ∀ i, ownOff a c i + (Row a).size i ≤ (Arr a).size i :=
  inb_of c.isLt (ownOff_eq a c)
theorem peer_inb (k : Fin 7) (a : Fin 6) (c : Dev nD) : ∀ i, peerOff k a c i + (Row a).size i ≤ (Arr a).size i :=
  inb_of (peer k c).isLt (peerOff_eq k a c)

theorem whole_words : ∀ (a : Fin 6) (j : Fin 8),
    (Rect.unit (s := Arr a) ![j.val, 0, 0] (Row a).size (inb_of j.isLt rfl)).WholeWords (elt a).packing := by decide +kernel

theorem words_of {a : Fin 6} {off : Fin 3 → ℕ} (j : Fin 8) (h : off = ![j.val, 0, 0]) (hb : ∀ i, off i + (Row a).size i ≤ (Arr a).size i) :
    (Rect.unit (s := Arr a) off (Row a).size hb).WholeWords (elt a).packing := by
  subst h; exact whole_words a j

theorem inRef_whole : ∀ a, (inRef a).IsWhole
  | 0 => Memref.isWhole_whole _ | 1 => Memref.isWhole_whole _ | 2 => Memref.isWhole_whole _
  | 3 => Memref.isWhole_whole _ | 4 => Memref.isWhole_whole _ | 5 => Memref.isWhole_whole _
theorem outRef_whole : ∀ a, (outRef a).IsWhole
  | 0 => Memref.isWhole_whole _ | 1 => Memref.isWhole_whole _ | 2 => Memref.isWhole_whole _
  | 3 => Memref.isWhole_whole _ | 4 => Memref.isWhole_whole _ | 5 => Memref.isWhole_whole _

theorem slab_exact {a : Fin 6} {m : Memref sig .tc .hbm (Arr a) (elt a)} (hm : m.IsWhole) {off : Fin 3 → ℕ} (j : Fin 8)
    (h : off = ![j.val, 0, 0]) (hb : ∀ i, off i + (Row a).size i ≤ (Arr a).size i) : (slab m off hb).view.WordExact :=
  (hm.wordExact_slice rfl _ (words_of j h hb)).reshape _ _

/-! ## The cells and the wiring -/

/-- The cells of a device: per array and peer a send and a receive cell, and per array one for the
copy it keeps. -/
inductive Cell where
  | send (k : Fin 7) (a : Fin 6)
  | recv (k : Fin 7) (a : Fin 6)
  | keep (a : Fin 6)
  deriving DecidableEq

/-- The cells as a sum: send and receive cells, and the kept ones. -/
def cells : Cell ≃ ((Fin 7 × Fin 6) ⊕ (Fin 7 × Fin 6)) ⊕ Fin 6 where
  toFun | .send k a => .inl (.inl (k, a)) | .recv k a => .inl (.inr (k, a)) | .keep a => .inr a
  invFun | .inl (.inl p) => .send p.1 p.2 | .inl (.inr p) => .recv p.1 p.2 | .inr a => .keep a
  left_inv q := by cases q <;> rfl
  right_inv q := by rcases q with (q | q) | q <;> rfl

instance : Fintype Cell := Fintype.ofEquiv _ cells.symm

namespace Cell

def arr : Cell → Fin 6
  | send _ a => a | recv _ a => a | keep a => a

theorem sem_inb2 (a : Fin 6) (k : Fin 7) : ∀ i, (![a.val, k.val] : Fin 2 → ℕ) i + S1x1.size i ≤ S6x7.size i := by
  revert a k; decide
theorem sem_inb1 (a : Fin 6) : ∀ i, (![a.val] : Fin 1 → ℕ) i + S1.size i ≤ S6.size i := by
  revert a; decide

def sem : Cell → DmaSem sig
  | send k a => ((cc0_scratch0.slice (Rect.unit (s := S6x7) ![a.val, k.val] S1x1.size (sem_inb2 a k))).squeeze S_ squeezes_S1x1_S_).sem
  | recv k a => ((cc0_scratch1.slice (Rect.unit (s := S6x7) ![a.val, k.val] S1x1.size (sem_inb2 a k))).squeeze S_ squeezes_S1x1_S_).sem
  | keep a => ((cc0_scratch2.slice (Rect.unit (s := S6) ![a.val] S1.size (sem_inb1 a))).squeeze S_ squeezes_S1_S_).sem

/-- The slab a copy reads: the peer's, or the device's own for the copy it keeps. -/
def src (c : Dev nD) : (q : Cell) → Memref sig .tc .hbm (Slab q.arr) (elt q.arr)
  | send k a => slab (inRef a) (peerOff k a c) (peer_inb k a c)
  | recv k a => slab (inRef a) (peerOff k a c) (peer_inb k a c)
  | keep a => slab (inRef a) (ownOff a c) (own_inb a c)

/-- The slab a copy writes: the sender's. -/
def dst (c : Dev nD) (q : Cell) : Memref sig .tc .hbm (Slab q.arr) (elt q.arr) :=
  slab (outRef q.arr) (ownOff q.arr c) (own_inb q.arr c)

theorem src_exact (c : Dev nD) : (q : Cell) → (q.src c).view.WordExact
  | send k a => slab_exact (inRef_whole a) (peer k c) (peerOff_eq k a c) _
  | recv k a => slab_exact (inRef_whole a) (peer k c) (peerOff_eq k a c) _
  | keep a => slab_exact (inRef_whole a) c (ownOff_eq a c) _

theorem dst_exact (c : Dev nD) (q : Cell) : (q.dst c).view.WordExact :=
  slab_exact (outRef_whole q.arr) c (ownOff_eq q.arr c) _

/-- The ends a wait names: a wait for the source's return names the two ends the other way round. -/
def wsrc (c : Dev nD) : (q : Cell) → Memref sig .tc .hbm (Slab q.arr) (elt q.arr)
  | send k a => dst c (send k a) | recv k a => src c (recv k a) | keep a => src c (keep a)
def wdst (c : Dev nD) : (q : Cell) → Memref sig .tc .hbm (Slab q.arr) (elt q.arr)
  | send k a => src c (send k a) | recv k a => dst c (recv k a) | keep a => dst c (keep a)

end Cell

def wiring : Wiring nD τ sig Cell where
  sem := Cell.sem
  shape q := Slab q.arr
  elt q := elt q.arr
  src := Cell.src
  dst := Cell.dst
  wsrc := Cell.wsrc
  wdst := Cell.wdst
  peer q c := match q with
    | .send k a => ⟨peerNo k a c, peerNo_lt k a c⟩
    | _ => c
  land q := match q with
    | .send k a => some (.recv k a)
    | _ => none
  via _ := none
  src_exact := Cell.src_exact
  dst_exact := Cell.dst_exact
  wsrc_exact c q := match q with
    | .send k a => Cell.dst_exact c _ | .recv k a => Cell.src_exact c _ | .keep a => Cell.src_exact c _
  wdst_exact c q := match q with
    | .send k a => Cell.src_exact c _ | .recv k a => Cell.dst_exact c _ | .keep a => Cell.dst_exact c _

/-- The peers and arrays in the order of the copies. -/
def pairs : List (Fin 7 × Fin 6) := (List.finRange 7).flatMap fun k => (List.finRange 6).map fun a => (k, a)

/-- The body: start all copies, wait for the exchanged slabs, then for the kept ones. -/
def script : List (Instr Cell) :=
  ((List.finRange 6).map fun a => Instr.start (.keep a)) ++ (pairs.map fun p => Instr.start (.send p.1 p.2))
    ++ (pairs.flatMap fun p => [Instr.wait (.send p.1 p.2), Instr.wait (.recv p.1 p.2)])
    ++ ((List.finRange 6).map fun a => Instr.wait (.keep a))

set_option maxRecDepth 100000 in
theorem body_eq : Cert.KernelIdeal.cc0_exchange_grads (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2
    = .op .deviceId fun d0 => wiring.runs (Elt F) Λ₀ d0 script := by
  chain_rfl

end Exchange

end
-- ==== Proof.Launch.lean ====
/-
The launch of a program whose first kernel exchanges data between the devices.

`θ_run_together` makes the state of every core from the holdings of all cores at once, the scoped
semaphores and every buffer among them. `wp_region` enters a kernel of no window whose own semaphores
are already inside invariants.
-/
module

public import Idealize.ShloMosaic.Lib.Pipeline.Launch
public import Idealize.ShloMosaic.Lib.Pipeline.Regions
public import Idealize.ShloMosaic.Lib.Pipeline.Kit
public import Idealize.ShloMosaic.Lib.StableHlo.Run
public import Idealize.ShloMosaic.Lib.Quiescent
public import Idealize.ShloMosaic.Lib.Tactic

@[expose] public section

noncomputable section

namespace Wires

open Idealize.ShloMosaic Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds Idealize.ShloMosaic.Pipeline Idealize.ShloMosaic.Pipeline.PerCore

set_option Elab.async false

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

variable (pcs : P → PCfg sig Λ₀ Val) (a : Dev nD → (p : P) → (pcs p).Adm)
  (phinj : Function.Injective (PerCore.cellOf (nD := nD) (pinD pcs a)))
  (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- What core `c` holds at launch. -/
abbrev holds (m : (ℓ : Loc nD τ sig) → Buf Val ℓ) (g : Dev nD → PrngReg) (O₀ : Dev nD → CellTallies nD τ sig Unit) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The level facts, cell by cell, at the launch. -/
theorem levels_assigned (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  have hnone (d : Dev nD) (q : Proc τ) (hq : q ∈ Finset.univ.erase Proc.tc) : (coreLevAts ((d, q) : Thread nD τ) L lv : sProp 𝕄) = BI.emp := by
    unfold coreLevAts
    rw [bigSep_congr (Ψ := fun _ : SemLoc sig => (BI.emp : sProp 𝕄)) fun sm _ => by
      rw [hL (((d, q) : Thread nD τ), sm) (Finset.ne_of_mem_erase hq), BI.bigSep_empty], BI.bigSep_emp_const]
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from bigSep_univ_prod fun g : GSem nD τ sig => bigSep (L g) fun ι => levAt g ι (lv g ι),
      bigSep_threads (fun c : Thread nD τ => coreLevAts c L lv),
      bigSep_congr (s := Finset.univ) (Φ := fun d : Dev nD => bigSep (Finset.univ.erase Proc.tc) fun q => (coreLevAts ((d, q) : Thread nD τ) L lv : sProp 𝕄))
        (Ψ := fun _ => BI.emp) fun d _ => (bigSep_congr (hnone d)).trans (BI.bigSep_emp_const _), BI.bigSep_emp_const]
    exact BI.equiv_iff.mp BI.sep_emp
  rw [hall]
  refine (bigSep_mono fun c _ => lev_assign_cells (c.tc : Thread nD τ) L lv).trans ((BI.bigSep_bupd _ _).trans (BI.bupd_mono (bigSep_mono fun c _ => ?_)))
  show iprop((bigSep Finset.univ fun sm : SemLoc sig => levels ((c.tc : Thread nD τ), sm) (L ((c.tc : Thread nD τ), sm))) ∗ coreLevAts (c.tc : Thread nD τ) L lv)
    ⊢ (coreLevAts (c.tc : Thread nD τ) L lv : sProp 𝕄)
  iintro ⟨-, H⟩
  iexact H

include phinj in
/-- A program launched with its cores owing `O₀`: every core's state `T₀` is made from what all cores hold, together, and
each core's run of `main` is proved from its own `T₀`. -/
theorem θ_run_together [DecidableEq P] [∀ e, Nonempty (Val e)] [EP.LandsIn (upEmb : UEmb _ 𝕄)]
    (L : GSem nD τ sig → Finset Unit) (lv : GSem nD τ sig → Unit → ℕ) (hL : ∀ g : GSem nD τ sig, g.1.2 ≠ .tc → L g = ∅)
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Unit) (G : sProp 𝕄) (u₀ : U)
    (hu₀ : (ownU u₀ : sProp 𝕄) ⊢ |={Set.univ}=> iprop(BI.own (EP (initOf (cells (pinD pcs a) phinj) (launchToks (pinD pcs a) phinj))) ∗ G))
    (T₀ Tₙ : Dev nD → sProp 𝕄)
    (hinit : iprop((bigSep Finset.univ fun c : Dev nD => holds m g O₀ c) ∗ levAts L lv ∗ G) ⊢ |={Set.univ}=> bigSep Finset.univ T₀)
    (hrun : ∀ c, iprop(T₀ c ∗ levAts L lv ∗ PerCore.ghostOn pcs a EP Finset.univ c)
      ⊢ wp frame (wpE 𝔻 𝕍 (c.tc : Thread nD τ) none) Set.univ (main c) fun _ =>
        iprop((Tₙ c ∗ boundary (c.tc : Thread nD τ)) ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s')) :
    θ_run 𝔻 (onTc main) ⟨m, fun _ => 0, g⟩ fun r => (∀ c, QY c r.2) ∧
      ∀ g' : GSem nD τ sig, (g'.1.2 ≠ .tc ∨ g'.2.isScoped .tc = true) → r.2.sem g' = 0 := by
  classical
  let pre : Dev nD → sProp 𝕄 := fun c => iprop(T₀ c ∗ levAts L lv ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => holds m g O₀ c)
            ∗ (bigSep Finset.univ fun c : Dev nD => levels0 (Ix := Unit) (Val := Val) (Name := ℕ) (U := U) (Lvl := ℕ) (τ := τ) (sig := sig) c) : sProp 𝕄) := by
      rw [← bigSep_sep']
      refine bigSep_mono fun c _ => (coreInit_boundary_owing O₀ m g c).trans ?_
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    have hghost : iprop((bigSep Finset.univ fun c : Dev nD => bigSep Finset.univ fun p => cellsGhost (pinD pcs a) EP p c)
          ∗ (bigSep Finset.univ fun c : Dev nD => bigSep Finset.univ fun p => (toksInit (pinD pcs a) EP p c : sProp 𝕄)))
        ⊢ bigSep Finset.univ fun c : Dev nD => PerCore.ghostOn pcs a EP Finset.univ c := by
      rw [← bigSep_sep']
      exact bigSep_mono fun c _ => show iprop((bigSep Finset.univ fun p => cellsGhost (pinD pcs a) EP p c)
            ∗ bigSep Finset.univ fun p => (toksInit (pinD pcs a) EP p c : sProp 𝕄)) ⊢ PerCore.ghostOn pcs a EP Finset.univ c
        from Entails.of_eq (by unfold PerCore.ghostOn; rw [bigSep_sep'])
    iintro ⟨Hcores, Hu⟩
    ihave Hc := hcores $$ Hcores
    icases Hc with ⟨Hh, Hlv⟩
    imod (levels_assigned L lv hL) $$ Hlv with #Hla
    imod hu₀ $$ Hu with ⟨HP, HG⟩
    imod (fund_ghost (pinD pcs a) EP phinj) $$ HP with ⟨Hg, Ht⟩
    imod hinit $$ [Hh HG] with HT
    · isplitl [Hh]; · iexact Hh
      isplitr [HG]; · iexact Hla
      iexact HG
    imodintro
    iexists ()
    isplitr []
    · simp only [pre, bigSep_sep']
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · simp only [pre]
    refine (hrun c).trans (wp_mono frame _ _ fun _ => ?_)
    unfold post; simp only [liftTc_tc, fin]
    exact BI.Entails.refl _
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

/-- Proof data of a kernel of one grid point: `X` before its body, owing `O`, and `Y` after it, owing nothing. The arrays of
its windows, of which the kernels here have none, are at contents not chosen. -/
def bare [∀ e, Nonempty (Val e)] (cfg : Cfg sig Λ₀) (c : Dev nD) (X Y : sProp 𝕄) (O : CellTallies nD τ sig Unit) : Dat τ Val Unit ℕ U ℕ cfg c where
  A := fun _ _ => Classical.arbitrary _
  after := fun _ _ _ => Classical.arbitrary _
  Φ := fun t => if t.val = 0 then X else Y
  q := fun _ => fullShare
  owed := fun t => if t.val = 0 then O else 0

section Bare

variable [∀ e, Nonempty (Val e)] (cfg : Cfg sig Λ₀) (c : Dev nD)

theorem bare_before (X Y : sProp 𝕄) (O : CellTallies nD τ sig Unit) (t : Fin (cfg.N + 1)) (h : t.val = 0) : (bare cfg c X Y O).Φ t = X := if_pos h
theorem bare_after (X Y : sProp 𝕄) (O : CellTallies nD τ sig Unit) (t : Fin (cfg.N + 1)) (h : t.val ≠ 0) : (bare cfg c X Y O).Φ t = Y := if_neg h
theorem bare_owes_before (X Y : sProp 𝕄) (O : CellTallies nD τ sig Unit) (t : Fin (cfg.N + 1)) (h : t.val = 0) :
    (bare cfg c X Y O).owesAt () t = owesWithin c O ((bare cfg c X Y O).bound () t) := by
  unfold Dat.owesAt; rw [show (bare cfg c X Y O).owed t = O from if_pos h]
theorem bare_owes_after (X Y : sProp 𝕄) (O : CellTallies nD τ sig Unit) (t : Fin (cfg.N + 1)) (h : t.val ≠ 0) :
    (bare cfg c X Y O).owesAt () t = owesWithin c 0 ((bare cfg c X Y O).bound () t) := by
  unfold Dat.owesAt; rw [show (bare cfg c X Y O).owed t = 0 from if_neg h]

end Bare

include phinj in
/-- The region of pipeline `e`, a kernel of no window whose own semaphores `osem` the caller keeps elsewhere: its body runs
from `X` to `Y`, which gives those semaphores back at zero, and the continuation runs from the boundary and `Z`. -/
theorem wp_region [DecidableEq P] [∀ e, Nonempty (Val e)] [EP.LandsIn (upEmb : UEmb _ 𝕄)] {K : Type} [Fintype K] {osem : K → SemLoc sig}
    (e : P) (c : Dev nD) (hW : IsEmpty (Fin (pcs e).W)) (hK : IsEmpty (Fin (pcs e).pre.K)) (hN : (pinD pcs a c e).N = 1)
    (hw : WinFacts₀ (pcs e).spec) (ho : OwnSemFacts (pcs e).spec osem)
    (X Y Z : sProp 𝕄) (O : CellTallies nD τ sig Unit) (hY : Y ⊢ iprop(Z ∗ ownSems0 osem c))
    (hbody : ∀ (t : Fin (pinD pcs a c e).N) (W : Waits sig Unit), iprop(X ∗ owes (c.tc : Thread nD τ) O W)
      ⊢ wp frame (wpE defs₀ 𝒱₀ (c.tc : Thread nD τ) none) Set.univ
          (defs₀ .tc (pinD pcs a c e).body ((pinD pcs a c e).bodyArgs t ((pinD pcs a c e).slots t)))
          fun _ => iprop(Y ∗ ∃ W', owes (c.tc : Thread nD τ) (0 : CellTallies nD τ sig Unit) W'))
    {α : Type} (k : PUnit → Prog (TpuEff nD τ sig Val (Sig Λ₀ P fun p => (pcs p).Adm) .tc) α) (Q : α → sProp 𝕄) :
    iprop((iprop(boundary (c.tc : Thread nD τ) ∗ Z ∗ ∃ W, owes (c.tc : Thread nD τ) (0 : CellTallies nD τ sig Unit) W)
          -∗ wp frame (wpE 𝔻 𝕍 (c.tc : Thread nD τ) none) Set.univ (k ⟨⟩) Q)
        ∗ (scopedBufs (c.tc : Thread nD τ) ∗ idleSems0 (pinD pcs a) phinj e (fun _ => ho) c ∗ opIdle (c.tc : Thread nD τ))
        ∗ X ∗ owes (c.tc : Thread nD τ) O ∅ ∗ cellsGhost (pinD pcs a) EP e c ∗ toksInit (pinD pcs a) EP e c)
      ⊢ wp frame (wpE 𝔻 𝕍 (c.tc : Thread nD τ) none) Set.univ (.op (.customCall (entry e) ()) k) Q := by
  classical
  have hW' : IsEmpty (Fin (pinD pcs a c e).W) := hW
  let pdats : (p : P) → (c' : Dev nD) → Dat τ Val Unit ℕ U ℕ (pinD pcs a c' p) c' := fun p c' =>
    bare _ _ iprop(X ∗ scopedRest (pcs e).spec c) iprop(Y ∗ scopedRest (pcs e).spec c) O
  have hss := scopedSems0_split (pinD pcs a) phinj e (fun _ => hw) (fun _ => ho) (Ix := Unit) (Val := Val) (Name := ℕ) (U := U) (Lvl := ℕ) c
  have hsb := scopedBufs_split (pinD pcs a) e c hw.stage_scoped hw.stage_inj (fun w => hW'.elim w) (nD := nD) (τ := τ) (Ix := Unit) (Val := Val) (Name := ℕ) (U := U) (Lvl := ℕ)
  have hcs : (cellsSems0 (pinD pcs a) e c : sProp 𝕄) = BI.emp := by
    unfold PerCore.cellsSems0; rw [Finset.univ_eq_empty, BI.bigSep_empty]
  have hst : (Dat.staging (pinD pcs a c e) c : sProp 𝕄) = BI.emp := by
    unfold Dat.staging; rw [Finset.univ_eq_empty, BI.bigSep_empty]
  have hlast : (Fin.last (pinD pcs a c e).N).val ≠ 0 := by rw [Fin.val_last, hN]; exact one_ne_zero
  have hbody' : BodyObligationLoose (pdats e c) defs₀ 𝒱₀ () Set.univ := by
    refine BodyObligation.loose _ fun t => ?_
    have ht : t.val = 0 := by have := t.isLt; omega
    rw [show (pdats e c).Φ t.castSucc = _ from bare_before _ _ _ _ _ _ ht, show (pdats e c).Φ t.succ = _ from bare_after _ _ _ _ _ _ (Nat.succ_ne_zero _),
      show (pdats e c).owesAt () t.castSucc = _ from bare_owes_before _ _ _ _ _ _ ht,
      show (pdats e c).owesAt () t.succ = _ from bare_owes_after _ _ _ _ _ _ (Nat.succ_ne_zero _)]
    iintro ⟨⟨HX, Hr⟩, ⟨%W, -, Ho⟩, -⟩
    iapply (wp_wand frame _ _) $$ [HX Ho]
    · iapply (hbody t W); isplitl [HX] <;> iassumption
    iintro %_ ⟨HY, %W', Ho⟩
    isplitl [HY Hr]; · isplitl [HY] <;> iassumption
    isplitl [Ho]
    · iexists W'
      isplitr; · ipureintro; exact fun _ _ => Or.inl trivial
      iexact Ho
    rw [Finset.univ_eq_empty, BI.bigSep_empty]
    iempintro
  have hin : iprop(X ∗ prefHeld (pcs e).pre c (fun _ => fullShare) (a c e).1 ∗ scopedRest (pcs e).spec c) ⊢ (pdats e c).Φ 0 := by
    rw [show (pdats e c).Φ 0 = _ from bare_before _ _ _ _ _ _ (Fin.val_zero _)]
    iintro ⟨HX, -, Hr⟩
    isplitl [HX] <;> iassumption
  have hout : iprop((pdats e c).Φ (Fin.last (pinD pcs a c e).N) ∗ PerCore.cellsSems0 (pinD pcs a) e c ∗ Dat.staging (pinD pcs a c e) c
        ∗ PerCore.idleSems0 (pinD pcs a) phinj e (fun _ => ho) c)
      ⊢ iprop(Z ∗ scopedSems0 (c.tc : Thread nD τ) ∗ scopedBufs (c.tc : Thread nD τ)) := by
    rw [show (pdats e c).Φ (Fin.last (pinD pcs a c e).N) = _ from bare_after _ _ _ _ _ _ hlast, hss, hsb]
    iintro ⟨⟨HY, Hr⟩, Hcs, Hst, Hid⟩
    ihave H := hY $$ HY
    icases H with ⟨HZ, Hos⟩
    isplitl [HZ]; · iexact HZ
    isplitl [Hcs Hos Hid]
    · isplitl [Hcs Hos]
      · isplitl [Hcs] <;> iassumption
      iexact Hid
    isplitl [Hst] <;> iassumption
  have hend : (pdats e c).owesAt () (Fin.last (pinD pcs a c e).N) ⊢ iprop(∃ W, owes (c.tc : Thread nD τ) (0 : CellTallies nD τ sig Unit) W) := by
    rw [show (pdats e c).owesAt () (Fin.last (pinD pcs a c e).N) = _ from bare_owes_after _ _ _ _ _ _ hlast]
    iintro ⟨%W, -, HO⟩
    iexists W; iexact HO
  have hstart : (owes (c.tc : Thread nD τ) O ∅ : sProp 𝕄) ⊢ (pdats e c).owesAt () 0 := by
    rw [show (pdats e c).owesAt () 0 = _ from bare_owes_before _ _ _ _ _ _ (Fin.val_zero _)]
    iintro HO
    iexists (∅ : Waits sig Unit)
    isplitr; · ipureintro; exact fun _ h => absurd h (Finset.notMem_empty _)
    iexact HO
  iintro ⟨Hk, ⟨Hsc, Hidle, Hidl⟩, HX, HO, Hg, Ht⟩
  iapply (fupd_wp frame (wpE 𝔻 𝕍 (c.tc : Thread nD τ) none) Set.univ _ _)
  imod (cellsInit_alloc (pinD pcs a) pdats EP phinj e c) $$ [Hg] with ⟨%κ, -, Hinit⟩
  · rw [hcs]; isplitr; · iempintro
    iexact Hg
  imodintro
  iapply (wp_customCall_entry_frame pcs a pdats () EP κ phinj e defs₀ 𝒱₀ (fun _ => fullShare) c Set.univ (fun _ _ => Set.mem_univ _)
      hbody' (fun w => hW'.elim w) none (fun u h => nomatch h) (X := X) (Y := Z) (R := scopedRest (pcs e).spec c)
      (I := idleSems0 (pinD pcs a) phinj e (fun _ => ho) c) (Entails.of_eq hsb) hin hout (k := k) (Q := Q)) $$ [HO Hinit Ht HX Hidle Hsc]
  · isplitl [HO Hinit Ht]
    · unfold PerCore.EntryPre
      isplitr
      · unfold Dat.arrays; rw [Finset.univ_eq_empty, BI.bigSep_empty]; iempintro
      isplitl [HO]
      · iapply hstart; iexact HO
      isplitr
      · unfold PerCore.cellsWaits PerCore.RDat.cellsWaits; rw [Finset.univ_eq_empty, BI.bigSep_empty]; iempintro
      isplitl [Hinit] <;> iassumption
    isplitr
    · unfold prefHeld; rw [Finset.univ_eq_empty, BI.bigSep_empty]; iempintro
    isplitl [HX]; · iexact HX
    isplitl [Hidle]; · iexact Hidle
    iexact Hsc
  iintro ⟨Hpost, HZ, Hss, Hsc⟩
  unfold PerCore.EntryPost
  icases Hpost with ⟨-, HO⟩
  iapply Hk
  isplitl [Hsc Hss Hidl]
  · unfold boundary
    isplitl [Hsc]; · iexact Hsc
    isplitl [Hss]; · iexact Hss
    iexact Hidl
  isplitl [HZ]; · iexact HZ
  ihave HO' := (show (pdats e c).owesAt () (Fin.last (pinD pcs a c e).N) ⊢ iprop(∃ W, owes (c.tc : Thread nD τ) (0 : CellTallies nD τ sig Unit) W) from hend) $$ HO
  iexact HO'

end Wires

end
-- ==== Proof.Talk.lean ====
/-
A program whose first kernel is a list of copies along fixed wires.

`Plan.run` launches it: the cells' ghost state and credits are dealt, the memory is split among the
copies by the caller, the kernel runs by `wp_runs`, its cells are closed, and what the waits returned goes
to the rest of the program.
-/
module

public import proofs.«01_k».proof.Proof.Wires
public import proofs.«01_k».proof.Proof.Launch

@[expose] public section

noncomputable section

namespace Wires

open Idealize.ShloMosaic Idealize.ShloMosaic.TcCoe
open Idealize.SL Idealize.SL.RA
open Idealize.SL.BI (sProp bigSep bigSep_sep' bigSep_mono bigSep_congr bigSep_univ_prod bigSep_fupd bigSep_map bigSep_univ_equiv bigSep_subset)
open scoped Idealize.SL.BI
open Idealize.SL.BI.BIBase Idealize.SL.BI.Laws Idealize.SL.ProofMode Idealize.SL.Sem
open Idealize.ShloMosaic.Rounds Idealize.ShloMosaic.Pipeline Idealize.ShloMosaic.Pipeline.PerCore

set_option Elab.async false

variable {nD : Nat} {τ : Topo} {sig : RefSig} {K : Type} {Val : EltTy → Type} [Fintype K] [DecidableEq K]

local notation "𝕄" => MT nD τ sig Unit Val ℕ (UU nD τ sig) ℕ

abbrev EP : Emb (UR sig nD τ) (MT nD τ sig Unit Val ℕ (UU nD τ sig) ℕ) := embL

/-- The two ends of every copy: `mate` exchanges a cell with the cell its copy lands at. -/
structure Mates (w : Wiring nD τ sig K) (first : K → St) where
  mate : K ≃ K
  begins : ∀ k, first k = .idle ∨ first k = .armed
  to_recv : ∀ j r, first j = .idle → w.land j = some r → mate j = r ∧ first r = .armed
  to_send : ∀ k, first (mate k) = .armed → first k = .idle ∧ w.land k = some (mate k)
  back : ∀ k, mate (mate k) = k
  peer_peer : ∀ k c, w.peer k (w.peer k c) = c

namespace Plan

variable {w : Wiring nD τ sig K} (p : Plan Val w) (mt : Mates w p.first)

/-! ## The cells' ghost state -/

def allCells : Finset (GSem nD τ sig) := Finset.univ.map ⟨fun x : Dev nD × K => w.cell x.1 x.2, p.cell_inj⟩
def allToks : Finset (GSem nD τ sig × ℕ × Unit) :=
  Finset.univ.map ⟨fun x : Dev nD × K => (w.cell x.1 x.2, 0, ()), fun _ _ h => p.cell_inj (congrArg Prod.fst h)⟩

/-- The wires' element of the user algebra. -/
def seed : UR sig nD τ := launchOf p.allCells ∅ p.allToks

/-- Every cell's invariant, position and duty token, out of the semaphores at zero. -/
theorem fund_wires :
    iprop((bigSep Finset.univ fun x : Dev nD × K => semVal (w.cell x.1 x.2) 0) ∗ BI.own ((ER : Emb (UR sig nD τ) 𝕄) p.seed))
      ⊢ |={Set.univ}=> iprop((∃ ν : Dev nD × K → ℕ, bigSep Finset.univ fun x : Dev nD × K => iprop(cellInv ER p.sched (ν x) (w.cell x.1 x.2) ∗ reached ER (w.cell x.1 x.2) 0))
          ∗ (bigSep Finset.univ fun x : Dev nD × K => atPos ER (w.cell x.1 x.2) 0 ∅ 0)
          ∗ (bigSep Finset.univ fun x : Dev nD × K => dutyTok ER (w.cell x.1 x.2) 0 ())) := by
  have hX (Φ : GSem nD τ sig → sProp 𝕄) : bigSep p.allCells Φ = bigSep Finset.univ fun x : Dev nD × K => Φ (w.cell x.1 x.2) := by
    unfold allCells; rw [bigSep_map]; rfl
  have hT : bigSep p.allToks (fun x => (dutyTok ER x.1 x.2.1 x.2.2 : sProp 𝕄)) = bigSep Finset.univ fun x : Dev nD × K => dutyTok ER (w.cell x.1 x.2) 0 () := by
    unfold allToks; rw [bigSep_map]; rfl
  have h := Rounds.fund_launch (ER : Emb (UR sig nD τ) 𝕄) p.sched (S := p.allCells) (Sd := ∅) (Finset.disjoint_empty_right _) (fun _ h => absurd h (Finset.notMem_empty _)) p.allToks (Es := Set.univ)
  rw [Finset.union_empty, hT] at h
  simp only [hX] at h
  have h6 (ν : Dev nD × K → ℕ) : iprop((bigSep Finset.univ fun x : Dev nD × K => cellInv ER p.sched (ν x) (w.cell x.1 x.2)) ∗ (bigSep Finset.univ fun x : Dev nD × K => reached ER (w.cell x.1 x.2) 0))
      ⊢ (iprop(∃ ν : Dev nD × K → ℕ, bigSep Finset.univ fun x : Dev nD × K => iprop(cellInv ER p.sched (ν x) (w.cell x.1 x.2) ∗ reached ER (w.cell x.1 x.2) 0)) : sProp 𝕄) := by
    rw [← bigSep_sep']
    exact exists_intro (Φ := fun ν : Dev nD × K → ℕ => (bigSep Finset.univ fun x : Dev nD × K => iprop(cellInv ER p.sched (ν x) (w.cell x.1 x.2) ∗ reached ER (w.cell x.1 x.2) 0) : sProp 𝕄)) ν
  refine (show _ ⊢ (|={Set.univ}=> _ : sProp 𝕄) from h).trans (BI.fupd_mono ?_)
  iintro ⟨%κ, -, Hi, Hr, Hat, -, Ht⟩
  isplitl [Hi Hr]
  · iapply (h6 fun x => κ (w.cell x.1 x.2))
    isplitl [Hi] <;> iassumption
  isplitl [Hat] <;> iassumption

/-! ## The tokens -/

/-- All devices' tokens of cell `k`. -/
abbrev toks (w : Wiring nD τ sig K) (k : K) : sProp 𝕄 := bigSep Finset.univ fun c : Dev nD => dutyTok ER (w.cell c k) 0 ()

include mt in
theorem toks_land (k : K) : (bigSep Finset.univ fun c : Dev nD => (landTok w c k : sProp 𝕄)) = (w.land k).elim iprop(emp) (toks w) := by
  unfold landTok
  cases h : w.land k with
  | none => exact BI.bigSep_emp_const _
  | some r =>
    exact (bigSep_univ_equiv (⟨w.peer k, w.peer k, mt.peer_peer k, mt.peer_peer k⟩ : Dev nD ≃ Dev nD)
      (fun c : Dev nD => (dutyTok ER (w.cell c r) 0 () : sProp 𝕄))).symm

include mt in
/-- The tokens dealt: a copy's own, and the one of the cell it lands at. -/
theorem deal_toks :
    (bigSep Finset.univ fun x : Dev nD × K => dutyTok ER (w.cell x.1 x.2) 0 ())
      ⊢ (bigSep Finset.univ fun c : Dev nD => bigSep Finset.univ fun k : K =>
          if p.first k = .idle then iprop(dutyTok ER (w.cell c k) 0 () ∗ landTok w c k) else iprop(emp) : sProp 𝕄) := by
  have hswap (Φ : Dev nD → K → sProp 𝕄) :
      (bigSep Finset.univ fun c : Dev nD => bigSep Finset.univ fun k : K => Φ c k) = bigSep Finset.univ fun k : K => bigSep Finset.univ fun c : Dev nD => Φ c k := BI.bigSep_univ_comm _
  rw [bigSep_univ_prod (fun x : Dev nD × K => (dutyTok ER (w.cell x.1 x.2) 0 () : sProp 𝕄)), hswap, hswap]
  have h1 (k : K) : (bigSep Finset.univ fun c : Dev nD => if p.first k = .idle then iprop(dutyTok ER (w.cell c k) 0 () ∗ landTok w c k) else iprop(emp) : sProp 𝕄)
      = if p.first k = .idle then iprop(toks w k ∗ (w.land k).elim iprop(emp) (toks w)) else iprop(emp) := by
    split
    · rw [bigSep_sep', p.toks_land mt]
    · exact BI.bigSep_emp_const _
  rw [bigSep_congr fun k _ => h1 k]
  have h2 (k : K) : (toks w k : sProp 𝕄) ⊢ iprop((if p.first k = .idle then toks w k else iprop(emp)) ∗ if p.first k = .armed then toks w k else iprop(emp)) := by
    rcases mt.begins k with h | h
    · rw [if_pos h, if_neg (by rw [h]; decide)]; iintro H; isplitl [H]; · iexact H
      iempintro
    · rw [if_neg (by rw [h]; decide), if_pos h]; iintro H; isplitr; · iempintro
      iexact H
  refine (bigSep_mono fun k _ => h2 k).trans ?_
  rw [bigSep_sep', bigSep_univ_equiv mt.mate (fun k => (if p.first k = .armed then toks w k else iprop(emp) : sProp 𝕄)), ← bigSep_sep']
  refine bigSep_mono fun k _ => ?_
  by_cases h : p.first (mt.mate k) = .armed
  · obtain ⟨hi, hl⟩ := mt.to_send k h
    rw [if_pos h, if_pos hi, if_pos hi, hl]
    exact BI.Entails.refl _
  · rw [if_neg h]
    by_cases hi : p.first k = .idle
    · rw [if_pos hi, if_pos hi]
      cases hl : w.land k with
      | none => exact BI.Entails.refl _
      | some r =>
        obtain ⟨rfl, hr⟩ := mt.to_recv k r hi hl
        exact absurd hr h
    · rw [if_neg hi, if_neg hi]; exact (sep_elim_left : iprop(emp ∗ emp) ⊢ (iprop(emp) : sProp 𝕄))

/-! ## The credits -/

include mt in
theorem launch_credit (c : Dev nD) (k : K) (hk : p.first k = .armed) :
    tallyOn (w.cell c k) (launchCredit (owing (p.debt p.first)) 0 (w.cell c k)) = (tallyAt (w.cell c k) () (p.amt k) : CellTallies nD τ sig Unit) := by
  have hm := mt.back k
  obtain ⟨hi, hl⟩ := mt.to_send (mt.mate k) (by rw [hm]; exact hk)
  rw [hm] at hl
  unfold tallyAt; refine congrArg _ (Finsupp.ext fun u => ?_); cases u
  rw [launchCredit_owing, Finsupp.single_eq_same]
  have hdue (d : Dev nD) (j : K) (hj : p.first j = .idle) : p.due d j (w.cell c k) () = if d = w.peer (mt.mate k) c ∧ j = mt.mate k then p.amt k else 0 := by
    unfold due
    cases hjl : w.land j with
    | none =>
      rw [if_neg fun h => by rw [h.2, hl] at hjl; cases hjl]
      rfl
    | some r =>
      dsimp only
      rw [tallyAt_apply]
      by_cases h : d = w.peer (mt.mate k) c ∧ j = mt.mate k
      · obtain ⟨rfl, rfl⟩ := h
        have hr : r = k := Option.some.inj (hjl.symm.trans hl)
        subst hr
        rw [mt.peer_peer, if_pos ⟨rfl, rfl⟩, if_pos ⟨rfl, rfl⟩, p.amt_land _ _ hjl]
      · rw [if_neg h, if_neg]
        rintro ⟨h1, -⟩
        have h2 := p.cell_inj (a₁ := (c, k)) (a₂ := (w.peer j d, r)) h1
        have hc : c = w.peer j d := congrArg Prod.fst h2
        have hr : k = r := congrArg Prod.snd h2
        subst hr
        have hj2 : mt.mate k = j := by rw [← (mt.to_recv j k hj hjl).1, mt.back]
        exact h ⟨by rw [hc, hj2, mt.peer_peer], hj2.symm⟩
  have hdebt (d : Dev nD) : p.debt p.first d (w.cell c k) () = if d = w.peer (mt.mate k) c then p.amt k else 0 := by
    unfold debt
    rw [Finset.sum_apply, Finsupp.finset_sum_apply, Finset.sum_eq_single (mt.mate k)]
    · rw [if_pos hi, hdue d _ hi]; simp
    · intro j _ hj
      by_cases hji : p.first j = .idle
      · rw [if_pos hji, hdue d j hji, if_neg fun h => hj h.2]
      · rw [if_neg hji]; rfl
    · intro h; exact absurd (Finset.mem_univ _) h
  rw [Finset.sum_congr rfl fun d _ => hdebt d, Finset.sum_ite_eq' , if_pos (Finset.mem_univ _)]

include mt in
theorem deal_credit (c : Dev nD) :
    launchCred (p.debt p.first) c ⊢ (bigSep Finset.univ fun k : K => if p.first k = .armed then cred (tallyAt (w.cell c k) () (p.amt k)) else iprop(emp) : sProp 𝕄) := by
  unfold launchCred
  refine (bigSep_subset (t := Finset.univ.map ⟨fun k : K => SemLoc.dma (w.sem k), fun _ _ h => p.sem_inj (SemLoc.dma.inj h)⟩) (Finset.subset_univ _)).trans ?_
  rw [bigSep_map]
  refine bigSep_mono fun k _ => ?_
  by_cases h : p.first k = .armed
  · rw [if_pos h]
    exact (congrArg (fun t => (cred t : sProp 𝕄)) (p.launch_credit mt c k h)).le
  · rw [if_neg h]; show _ ⊢ (iprop(emp) : sProp 𝕄); iintro -; iempintro

include mt in
theorem deal_state (c : Dev nD) :
    iprop((bigSep Finset.univ fun k : K => atPos ER (w.cell c k) 0 ∅ 0)
        ∗ (bigSep Finset.univ fun k : K => if p.first k = .idle then iprop(dutyTok ER (w.cell c k) 0 () ∗ landTok w c k) else iprop(emp))
        ∗ (bigSep Finset.univ fun k : K => if p.first k = .armed then cred (tallyAt (w.cell c k) () (p.amt k)) else iprop(emp))
        ∗ bigSep Finset.univ (p.hold c))
      ⊢ (p.state p.first c : sProp 𝕄) := by
  unfold state
  rw [← bigSep_sep', ← bigSep_sep', ← bigSep_sep']
  refine bigSep_mono fun k _ => ?_
  rcases mt.begins k with h | h
  · rw [h, if_pos rfl, if_neg (by decide)]
    show _ ⊢ iprop(atPos ER (w.cell c k) 0 ∅ 0 ∗ dutyTok ER (w.cell c k) 0 () ∗ landTok w c k ∗ p.hold c k)
    iintro ⟨Hat, ⟨Ht, Hl⟩, -, Hh⟩
    isplitl [Hat]; · iexact Hat
    isplitl [Ht]; · iexact Ht
    isplitl [Hl] <;> iassumption
  · rw [h, if_neg (by decide), if_pos rfl]
    show _ ⊢ iprop(atPos ER (w.cell c k) 0 ∅ 0 ∗ cred (tallyAt (w.cell c k) () (p.amt k)))
    iintro ⟨Hat, -, Hc, -⟩
    isplitl [Hat] <;> iassumption

/-! ## The end of the kernel -/

/-- What the waits returned. -/
def paid (c : Dev nD) : sProp 𝕄 := bigSep Finset.univ fun k : K => if p.final k = .done then p.pay c k else iprop(emp)

/-- The cells closed: the semaphores back at zero, and what the waits returned. -/
theorem close (hfinal : ∀ k, p.final k = .done ∨ p.final k = .spent) (ν : Dev nD × K → ℕ) (c : Dev nD) :
    iprop(p.ctx ν ∗ p.state p.final c) ⊢ |={Set.univ}=> iprop(p.paid c ∗ ownSems0 (fun k => SemLoc.dma (w.sem k)) c) := by
  have hk (k : K) : iprop(p.ctx ν ∗ p.st c k (p.final k))
      ⊢ |={Set.univ}=> iprop((if p.final k = .done then p.pay c k else iprop(emp)) ∗ semVal (w.cell c k) 0) := by
    have hcl := Rounds.cell_close (ER : Emb (UR sig nD τ) 𝕄) p.sched (g := w.cell c k) (κ := ν (c, k)) (Es := Set.univ) (Set.mem_univ _) (fun h => h) (R := 0 + 1) (fun r hr => p.duties_later _ r hr)
    rcases hfinal k with h | h <;> rw [h]
    · rw [if_pos rfl]; unfold st
      iintro ⟨#Hctx, Hat, Hp⟩
      ihave Hi := (p.ctx_cell ν c k) $$ Hctx
      icases Hi with ⟨Hi, -⟩
      imod hcl $$ [Hi Hat] with Hs
      · isplitl [Hi] <;> iassumption
      imodintro
      isplitl [Hp] <;> iassumption
    · rw [if_neg (by decide)]; unfold st
      iintro ⟨#Hctx, Hat⟩
      ihave Hi := (p.ctx_cell ν c k) $$ Hctx
      icases Hi with ⟨Hi, -⟩
      imod hcl $$ [Hi Hat] with Hs
      · isplitl [Hi] <;> iassumption
      imodintro
      isplitr; · iempintro
      iassumption
  unfold paid ownSems0
  refine (show iprop(p.ctx ν ∗ p.state p.final c) ⊢ (bigSep Finset.univ fun k : K => iprop(p.ctx ν ∗ p.st c k (p.final k)) : sProp 𝕄) from
    (sep_mono_left (BI.bigSep_of_persistent Finset.univ (p.ctx ν))).trans (by unfold state; rw [← bigSep_sep'])).trans ?_
  refine ((bigSep_mono fun k _ => hk k).trans (bigSep_fupd _ _)).trans ?_
  rw [bigSep_sep']
  exact BI.Entails.refl _

/-! ## The launch -/

section Run

variable {Λ₀ : Idealize.SL.Sem.Labels} {P : Type} [Fintype P] [DecidableEq P]
variable (pcs : P → PCfg sig Λ₀ Val) (a : Dev nD → (q : P) → (pcs q).Adm)
  (phinj : Function.Injective (PerCore.cellOf (nD := nD) (pinD pcs a)))
  (defs₀ : Defs nD τ sig Val Λ₀) (𝒱₀ : Variants)

local notation "𝔻" => Pipeline.defs pcs defs₀
local notation "𝕍" => Variants.lift 𝒱₀

/-- What device `c` starts with. -/
def starts (e : P) (ho : OwnSemFacts (pcs e).spec (fun k => SemLoc.dma (w.sem k))) (rest : Dev nD → sProp 𝕄) (c : Dev nD) : sProp 𝕄 :=
  iprop((∃ ν, p.ctx ν) ∗ p.state p.first c ∗ (scopedBufs (c.tc : Thread nD τ) ∗ idleSems0 (pinD pcs a) phinj e (fun _ => ho) c ∗ opIdle (c.tc : Thread nD τ))
    ∗ owes (c.tc : Thread nD τ) (p.debt p.first c) ∅ ∗ rest c)

include mt in
theorem init (e : P) (hW : IsEmpty (Fin (pcs e).W)) (hw : WinFacts₀ (pcs e).spec) (ho : OwnSemFacts (pcs e).spec (fun k => SemLoc.dma (w.sem k)))
    (m : (ℓ : Loc nD τ sig) → Buf Val ℓ) (g : Dev nD → PrngReg) (rest : Dev nD → sProp 𝕄)
    (hmem : (bigSep Finset.univ fun c : Dev nD => unscopedBufs c (fun b => m ((c.tc : Thread nD τ).loc b)))
      ⊢ (bigSep Finset.univ fun c : Dev nD => iprop(bigSep Finset.univ (p.hold c) ∗ rest c) : sProp 𝕄)) :
    iprop((bigSep Finset.univ fun c : Dev nD => holds m g (p.debt p.first) c) ∗ levAts L p.lv ∗ BI.own ((ER : Emb (UR sig nD τ) 𝕄) p.seed))
      ⊢ |={Set.univ}=> bigSep Finset.univ (p.starts pcs a phinj e ho rest) := by
  have hcs (c : Dev nD) : (PerCore.cellsSems0 (pinD pcs a) e c : sProp 𝕄) = BI.emp := by
    haveI : IsEmpty (Fin (pinD pcs a c e).W) := hW
    unfold PerCore.cellsSems0; rw [Finset.univ_eq_empty, BI.bigSep_empty]
  have h1 (c : Dev nD) : (holds m g (p.debt p.first) c : sProp 𝕄)
      ⊢ iprop((bigSep Finset.univ fun k : K => semVal (w.cell c k) 0)
        ∗ unscopedBufs c (fun b => m ((c.tc : Thread nD τ).loc b))
        ∗ (bigSep Finset.univ fun k : K => if p.first k = .armed then cred (tallyAt (w.cell c k) () (p.amt k)) else iprop(emp))
        ∗ (scopedBufs (c.tc : Thread nD τ) ∗ idleSems0 (pinD pcs a) phinj e (fun _ => ho) c ∗ opIdle (c.tc : Thread nD τ))
        ∗ owes (c.tc : Thread nD τ) (p.debt p.first c) ∅) := by
    unfold holds boundary
    rw [PerCore.scopedSems0_split (pinD pcs a) phinj e (fun _ => hw) (fun _ => ho) c, hcs c]
    iintro ⟨⟨Hb, ⟨⟨-, Hs⟩, Hid⟩, Hop⟩, Hu, -, Ho, Hc, -⟩
    isplitl [Hs]; · unfold ownSems0; iexact Hs
    isplitl [Hu]; · iexact Hu
    isplitl [Hc]; · iapply (p.deal_credit mt c); iexact Hc
    isplitl [Hb Hid Hop]
    · isplitl [Hb]; · iexact Hb
      isplitl [Hid] <;> iassumption
    iexact Ho
  have h2 : (bigSep Finset.univ fun c : Dev nD => holds m g (p.debt p.first) c)
      ⊢ (iprop((bigSep Finset.univ fun x : Dev nD × K => semVal (w.cell x.1 x.2) 0)
        ∗ (bigSep Finset.univ fun c : Dev nD => unscopedBufs c (fun b => m ((c.tc : Thread nD τ).loc b)))
        ∗ (bigSep Finset.univ fun c : Dev nD => bigSep Finset.univ fun k : K => if p.first k = .armed then cred (tallyAt (w.cell c k) () (p.amt k)) else iprop(emp))
        ∗ (bigSep Finset.univ fun c : Dev nD => iprop(scopedBufs (c.tc : Thread nD τ) ∗ idleSems0 (pinD pcs a) phinj e (fun _ => ho) c ∗ opIdle (c.tc : Thread nD τ)))
        ∗ (bigSep Finset.univ fun c : Dev nD => owes (c.tc : Thread nD τ) (p.debt p.first c) ∅)) : sProp 𝕄) := by
    rw [bigSep_univ_prod (fun x : Dev nD × K => (semVal (w.cell x.1 x.2) 0 : sProp 𝕄)), ← bigSep_sep', ← bigSep_sep', ← bigSep_sep', ← bigSep_sep']
    exact bigSep_mono fun c _ => h1 c
  have h3 : iprop((∃ ν : Dev nD × K → ℕ, bigSep Finset.univ fun x : Dev nD × K => iprop(cellInv ER p.sched (ν x) (w.cell x.1 x.2) ∗ reached ER (w.cell x.1 x.2) 0)) ∗ levAts L p.lv)
      ⊢ (bigSep Finset.univ fun _ : Dev nD => iprop(∃ ν, p.ctx ν) : sProp 𝕄) := by
    have h : iprop((∃ ν : Dev nD × K → ℕ, bigSep Finset.univ fun x : Dev nD × K => iprop(cellInv ER p.sched (ν x) (w.cell x.1 x.2) ∗ reached ER (w.cell x.1 x.2) 0)) ∗ levAts L p.lv)
        ⊢ (iprop(∃ ν, p.ctx ν) : sProp 𝕄) := by
      iintro ⟨⟨%ν, H⟩, Hl⟩
      iexists ν
      unfold ctx
      isplitl [H] <;> iassumption
    exact h.trans (BI.bigSep_of_persistent Finset.univ iprop(∃ ν, p.ctx ν))
  have h4 : (iprop((bigSep Finset.univ fun x : Dev nD × K => atPos ER (w.cell x.1 x.2) 0 ∅ 0)
        ∗ (bigSep Finset.univ fun x : Dev nD × K => dutyTok ER (w.cell x.1 x.2) 0 ())
        ∗ (bigSep Finset.univ fun c : Dev nD => bigSep Finset.univ fun k : K => if p.first k = .armed then cred (tallyAt (w.cell c k) () (p.amt k)) else iprop(emp))
        ∗ (bigSep Finset.univ fun c : Dev nD => bigSep Finset.univ (p.hold c))) : sProp 𝕄)
      ⊢ bigSep Finset.univ (p.state p.first) := by
    refine (sep_mono_right (sep_mono_left (p.deal_toks mt))).trans ?_
    rw [bigSep_univ_prod (fun x : Dev nD × K => (atPos ER (w.cell x.1 x.2) 0 ∅ 0 : sProp 𝕄)), ← bigSep_sep', ← bigSep_sep', ← bigSep_sep']
    exact bigSep_mono fun c _ => p.deal_state mt c
  have h5 : (iprop((bigSep Finset.univ fun _ : Dev nD => iprop(∃ ν, p.ctx ν)) ∗ bigSep Finset.univ (p.state p.first)
        ∗ (bigSep Finset.univ fun c : Dev nD => iprop(scopedBufs (c.tc : Thread nD τ) ∗ idleSems0 (pinD pcs a) phinj e (fun _ => ho) c ∗ opIdle (c.tc : Thread nD τ)))
        ∗ (bigSep Finset.univ fun c : Dev nD => owes (c.tc : Thread nD τ) (p.debt p.first c) ∅) ∗ bigSep Finset.univ rest) : sProp 𝕄)
      ⊢ bigSep Finset.univ (p.starts pcs a phinj e ho rest) := by
    rw [← bigSep_sep', ← bigSep_sep', ← bigSep_sep', ← bigSep_sep']
    exact BI.Entails.refl _
  rw [bigSep_sep'] at hmem
  iintro ⟨H, Hl, Hu⟩
  ihave H := h2 $$ H
  icases H with ⟨Hs, Hm, Hc, Ha, Ho⟩
  imod (p.fund_wires) $$ [Hs Hu] with ⟨Hi, Hat, Ht⟩
  · isplitl [Hs] <;> iassumption
  imodintro
  ihave Hi := h3 $$ [Hi Hl]
  · isplitl [Hi] <;> iassumption
  ihave Hm := hmem $$ Hm
  icases Hm with ⟨Hh, Hr⟩
  iapply h5
  isplitl [Hi]; · iexact Hi
  isplitl [Hat Ht Hc Hh]
  · iapply h4
    isplitl [Hat]; · iexact Hat
    isplitl [Ht]; · iexact Ht
    isplitl [Hc] <;> iassumption
  isplitl [Ha]; · iexact Ha
  isplitl [Ho] <;> iassumption

include mt phinj in
/-- The program of one such kernel and a tail. -/
theorem run [∀ e, Nonempty (Val e)] (e : P) (hW : IsEmpty (Fin (pcs e).W)) (hK : IsEmpty (Fin (pcs e).pre.K)) (hN : ∀ c, (pinD pcs a c e).N = 1)
    (hw : WinFacts₀ (pcs e).spec) (ho : OwnSemFacts (pcs e).spec (fun k => SemLoc.dma (w.sem k)))
    (hfinal : ∀ k, p.final k = .done ∨ p.final k = .spent) (script : List (Instr K)) (hcheck : check w p.lev p.final p.first script = true)
    (hbody : ∀ (c : Dev nD) t (Q : sProp 𝕄), wp frame (wpE defs₀ 𝒱₀ (c.tc : Thread nD τ) none) Set.univ (.op .deviceId fun d0 => w.runs Val Λ₀ d0 script) (fun _ => Q)
      ⊢ wp frame (wpE defs₀ 𝒱₀ (c.tc : Thread nD τ) none) Set.univ
          (defs₀ .tc (pinD pcs a c e).body ((pinD pcs a c e).bodyArgs t ((pinD pcs a c e).slots t))) fun _ => Q)
    (m : (ℓ : Loc nD τ sig) → Buf Val ℓ) (g : Dev nD → PrngReg) (rest : Dev nD → sProp 𝕄)
    (hmem : (bigSep Finset.univ fun c : Dev nD => unscopedBufs c (fun b => m ((c.tc : Thread nD τ).loc b)))
      ⊢ (bigSep Finset.univ fun c : Dev nD => iprop(bigSep Finset.univ (p.hold c) ∗ rest c) : sProp 𝕄))
    (tail : Dev nD → PUnit → Prog (TpuEff nD τ sig Val (Sig Λ₀ P fun q => (pcs q).Adm) .tc) PUnit)
    (main : Dev nD → Prog (TpuEff nD τ sig Val (Sig Λ₀ P fun q => (pcs q).Adm) .tc) PUnit)
    (hmain : ∀ c, main c = .op (.customCall (entry e) ()) (tail c))
    (Tₙ : Dev nD → sProp 𝕄)
    (htail : ∀ c, iprop(boundary (c.tc : Thread nD τ) ∗ p.paid c ∗ rest c ∗ levAts L p.lv ∗ PerCore.ghostOn pcs a (EP (Val := Val)) (Finset.univ.erase e) c
        ∗ ∃ W, owes (c.tc : Thread nD τ) (0 : CellTallies nD τ sig Unit) W)
      ⊢ wp frame (wpE 𝔻 𝕍 (c.tc : Thread nD τ) none) Set.univ (tail c ⟨⟩) fun _ =>
        iprop((Tₙ c ∗ boundary (c.tc : Thread nD τ)) ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s')) :
    θ_run 𝔻 (onTc main) ⟨m, fun _ => 0, g⟩ fun r => (∀ c, QY c r.2) ∧
      ∀ g' : GSem nD τ sig, (g'.1.2 ≠ .tc ∨ g'.2.isScoped .tc = true) → r.2.sem g' = 0 := by
  refine θ_run_together pcs a phinj EP defs₀ 𝒱₀ L p.lv (fun g hg => if_neg hg) m g main (p.debt p.first) (BI.own ((ER : Emb (UR sig nD τ) 𝕄) p.seed))
    (initOf (cells (pinD pcs a) phinj) (launchToks (pinD pcs a) phinj), p.seed) ((ownU_pair _ _).trans BI.fupd_intro)
    (p.starts pcs a phinj e ho rest) Tₙ (p.init mt pcs a phinj e hW hw ho m g rest hmem) (fun c => ?_) QY hfin
  rw [hmain c, PerCore.ghostOn_erase pcs a EP (Finset.mem_univ e) c]
  unfold starts
  iintro ⟨⟨⟨%ν, #Hctx⟩, Hs, Ha, Ho, Hr⟩, #Hl, ⟨Hcg, Htk⟩, Hg⟩
  iapply (wp_region pcs a phinj EP defs₀ 𝒱₀ e c hW hK (hN c) hw ho iprop(p.ctx ν ∗ p.state p.first c) iprop(p.paid c ∗ ownSems0 (fun k => SemLoc.dma (w.sem k)) c) (p.paid c)
    (p.debt p.first c) (BI.Entails.refl _) (fun t W => by
      refine BI.Entails.trans ?_ (hbody c t _)
      rw [wp_deviceId]
      refine BI.Entails.trans ?_ (wp_fupd frame _ _ _ _)
      show iprop((p.ctx ν ∗ p.state p.first c) ∗ owes (c.tc : Thread nD τ) (p.debt p.first c) W)
        ⊢ wp frame (wpE defs₀ 𝒱₀ (c.tc : Thread nD τ) none) Set.univ (w.runs Val Λ₀ c script) fun _ =>
          iprop(|={Set.univ}=> ((p.paid c ∗ ownSems0 (fun k => SemLoc.dma (w.sem k)) c) ∗ ∃ W', owes (c.tc : Thread nD τ) (0 : CellTallies nD τ sig Unit) W'))
      iintro ⟨⟨#Hctx, Hs⟩, Ho⟩
      iapply (Wires.wp_runs p defs₀ 𝒱₀ ν c script p.first W (fun _ h => h) hcheck)
      isplitr; · iexact Hctx
      isplitl [Hs]; · iexact Hs
      isplitl [Ho]; · iexact Ho
      iintro ⟨Hs, Ho⟩
      imod (p.close hfinal ν c) $$ [Hs] with H
      · isplitr; · iexact Hctx
        iexact Hs
      imodintro
      isplitl [H] <;> iassumption) (tail c) _)
  isplitl [Hr Hg]
  · iintro ⟨Hb, Hp, Ho⟩
    iapply (htail c)
    isplitl [Hb]; · iexact Hb
    isplitl [Hp]; · iexact Hp
    isplitl [Hr]; · iexact Hr
    isplitr; · iexact Hl
    isplitl [Hg] <;> iassumption
  isplitl [Ha]; · iexact Ha
  isplitl [Hs]
  · isplitr; · iexact Hctx
    iexact Hs
  isplitl [Ho]; · iexact Ho
  isplitl [Hcg] <;> iassumption

end Run

end Plan

end Wires

end
-- ==== Proof.Slabs.lean ====
/-
An array of eight slabs, and its slabs: which elements a slab has, what is read and written through it,
and the whole array as its slabs.
-/
module

public import Idealize.ShloMosaic.Lib.ValueLayout
public import Idealize.ShloMosaic.Rules.PointsTo

@[expose] public section

noncomputable section

namespace Wires

open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws

set_option Elab.async false

variable {sig : RefSig} {nD : Nat} {τ : Topo} {Val : EltTy → Type} {R C : ℕ} {e : EltTy} {U : Type} [URA U]

local notation "𝕄" => MT nD τ sig Unit Val ℕ U ℕ

abbrev Slabs (R C : ℕ) : Shape := ⟨3, ![8, R, C]⟩
abbrev OneSlab (R C : ℕ) : Shape := ⟨3, ![1, R, C]⟩
abbrev Mat (R C : ℕ) : Shape := ⟨2, ![R, C]⟩

section View

variable (m : Memref sig .tc .hbm (Slabs R C) e)

/-- The slab at `off`, as a matrix. -/
abbrev slabAt (off : Fin 3 → ℕ) (h : ∀ i, off i + (OneSlab R C).size i ≤ (Slabs R C).size i) (hq : (OneSlab R C).Squeezes (Mat R C)) :
    Memref sig .tc .hbm (Mat R C) e :=
  (m.slice (Rect.unit (s := Slabs R C) off (OneSlab R C).size h) (fun _ => rfl)).squeeze (Mat R C) hq

/-- The elements of slab `j`. -/
def slabSet (j : Fin 8) : Finset m.view.ty.Idx := (Finset.univ.filter fun x : (Slabs R C).Idx => (x 0).val = j.val).map m.view.emb

variable {m} {off : Fin 3 → ℕ} {h : ∀ i, off i + (OneSlab R C).size i ≤ (Slabs R C).size i} {hq : (OneSlab R C).Squeezes (Mat R C)}

theorem slab_emb (j : Fin 8) (ho : off = ![j.val, 0, 0]) (r : Fin R) (q : Fin C) : (slabAt m off h hq).view.emb (ix2 r q) = m.view.emb (ix3 j r q) := by
  show m.view.emb ((Rect.unit (s := Slabs R C) off (OneSlab R C).size h).emb (Shape.reshapeEquiv hq.numel_eq (ix2 r q))) = _
  refine congrArg _ ?_
  rw [reshapeEquiv_ix2_1ab]
  funext a
  refine Fin.ext ?_
  rw [Rect.emb_apply]
  subst ho
  match a with
  | ⟨0, _⟩ => show j.val + 1 * 0 = j.val; omega
  | ⟨1, _⟩ => show 0 + 1 * r.val = r.val; omega
  | ⟨2, _⟩ => show 0 + 1 * q.val = q.val; omega

theorem slab_read (j : Fin 8) (ho : off = ![j.val, 0, 0]) (f : m.view.ty.Contents Val) (r : Fin R) (q : Fin C) :
    (slabAt m off h hq).view.read Val f (ix2 r q) = m.view.read Val f (ix3 j r q) := by
  rw [View.read_apply, View.read_apply, slab_emb j ho]

theorem eq_slab {x : (Slabs R C).Idx} {j : Fin 8} (hx : x ∈ Finset.univ.filter fun x : (Slabs R C).Idx => (x 0).val = j.val) :
    ∃ r q, x = ix3 j r q := by
  have hx : (x 0 : Fin 8) = j := Fin.ext (by simpa using hx)
  refine ⟨x 1, x 2, (eq_ix3 x).trans ?_⟩
  rw [hx]; rfl

theorem slab_set (j : Fin 8) (ho : off = ![j.val, 0, 0]) : (slabAt m off h hq).view.set = slabSet m j := by
  ext i
  unfold slabSet View.set
  rw [Finset.mem_map, Finset.mem_map]
  constructor
  · rintro ⟨x, -, rfl⟩
    obtain ⟨r, q, rfl⟩ : ∃ r q, x = ix2 r q := ⟨_, _, eq_ix2 x⟩
    exact ⟨ix3 j r q, Finset.mem_filter.mpr ⟨Finset.mem_univ _, rfl⟩, (slab_emb j ho r q).symm⟩
  · rintro ⟨x, hx, rfl⟩
    obtain ⟨r, q, rfl⟩ := eq_slab hx
    exact ⟨ix2 r q, Finset.mem_univ _, slab_emb j ho r q⟩

/-- Writing through slab `j` leaves there any contents `g` that reads as what is written. -/
theorem slab_write (j : Fin 8) (ho : off = ![j.val, 0, 0]) (fd g : m.view.ty.Contents Val) (u : (Mat R C).Idx → Val e)
    (hg : ∀ r q, m.view.read Val g (ix3 j r q) = u (ix2 r q)) :
    ∀ i ∈ slabSet m j, (slabAt m off h hq).view.write Val fd u Finset.univ i = g i := by
  intro i hi
  unfold slabSet at hi
  obtain ⟨x, hx, rfl⟩ := Finset.mem_map.mp hi
  obtain ⟨r, q, rfl⟩ := eq_slab hx
  have he := slab_emb (h := h) (hq := hq) (m := m) j ho r q
  rw [← he, View.write_emb_of_mem _ _ (Finset.mem_univ _), ← hg r q, View.read_apply, ← he, cast_cast, cast_eq]

end View

section Split

variable {m : Memref sig .tc .hbm (Slabs R C) e}

theorem slabSet_disjoint {j j' : Fin 8} (h : j ≠ j') : Disjoint (slabSet m j) (slabSet m j') := by
  unfold slabSet
  rw [Finset.disjoint_map]
  refine Finset.disjoint_filter.mpr fun x _ h1 h2 => h (Fin.ext (h1.symm.trans h2))

theorem slabSet_union (hm : m.IsWhole) : (Finset.univ.biUnion fun j => slabSet m j) = Finset.univ := by
  rw [← hm.set_eq_univ]
  ext i
  unfold slabSet View.set
  rw [Finset.mem_biUnion]
  constructor
  · rintro ⟨j, -, hi⟩
    obtain ⟨x, -, rfl⟩ := Finset.mem_map.mp hi
    exact m.view.emb_mem_set x
  · intro hi
    obtain ⟨x, -, rfl⟩ := Finset.mem_map.mp hi
    exact ⟨x 0, Finset.mem_univ _, Finset.mem_map_of_mem _ (by simp)⟩

/-- A whole array is its eight slabs. -/
theorem whole_slabs (hm : m.IsWhole) (c : Dev nD) (f : Buf Val (m.view.loc (c : Thread nD τ))) :
    (iprop(m.view.loc (c : Thread nD τ) ↦{fullShare} f) : sProp 𝕄)
      = bigSep Finset.univ fun j : Fin 8 => iprop(m.view.loc (c : Thread nD τ) ↦[slabSet m j]{fullShare} f) := by
  have h := pointsTo_biUnion (Val := Val) (Name := ℕ) (U := U) (Lvl := ℕ) (Ix := Unit) (ℓ := m.view.loc (c : Thread nD τ)) (q := fullShare) (f := f)
    Finset.univ (slabSet m) fun j _ j' _ h => slabSet_disjoint h
  rw [slabSet_union hm] at h
  exact h

end Split

end Wires

end
-- ==== Proof.Exchange.lean ====
/-
The exchange of the gradient slabs: the memory split among the copies, and the run.

Device `c` sends slab `j` of each of its six arrays to device `j`, where it becomes slab `c`; its own slab
stays. A send hands over the slab read and the slab written, which is the receiver's; a receive returns the
latter with the sender's slab in it.
-/
module

public import proofs.«01_k».proof.Proof.Script
public import proofs.«01_k».proof.Proof.Talk
public import proofs.«01_k».proof.Proof.Slabs

@[expose] public section

noncomputable section

namespace Exchange

open Cert.KernelIdeal Cert.KernelIdeal.Gen
open Idealize.ShloMosaic Idealize.ShloMosaic.TcCoe Idealize.ShloMosaic.ValueIdx
open Idealize.SL Idealize.SL.RA
open Idealize.SL.BI (sProp bigSep bigSep_sep' bigSep_mono bigSep_congr bigSep_univ_prod bigSep_map bigSep_univ_equiv bigSep_univ_comm)
open scoped Idealize.SL.BI
open Idealize.SL.BI.BIBase Idealize.SL.BI.Laws Idealize.SL.ProofMode Idealize.SL.Sem
open Wires

set_option Elab.async false

variable {F : FTy → Type} [FloatOps F]

local notation "𝕄" => MT nD τ sig Unit (Elt F) ℕ (UU nD τ sig) ℕ

variable (m : (ℓ : Loc nD τ sig) → Buf (Elt F) ℓ)

/-! ## Contents -/

abbrev inLoc (a : Fin 6) (c : Dev nD) : Loc nD τ sig := (inRef a).view.loc (c : Thread nD τ)
abbrev outLoc (a : Fin 6) (c : Dev nD) : Loc nD τ sig := (outRef a).view.loc (c : Thread nD τ)

/-- Array `a` of device `c` at launch. -/
def given (a : Fin 6) (c : Dev nD) : (Arr a).Idx → Elt F (elt a) := (inRef a).view.read (Elt F) (m (inLoc a c))

/-- Array `a` of device `c` at the end: its slab `j` is slab `c` of device `j`. -/
def swapped (a : Fin 6) (c : Dev nD) : (Arr a).Idx → Elt F (elt a) :=
  fun i => given m a (i 0 : Fin 8) (ix3 (n0 := 8) (n1 := rows a) (n2 := cols a) c (i 1) (i 2))

def outBuf (a : Fin 6) (c : Dev nD) : Buf (Elt F) (outLoc a c) :=
  (outRef a).view.write (Elt F) (m (outLoc a c)) (swapped m a c) Finset.univ

theorem read_outBuf (a : Fin 6) (c : Dev nD) : (outRef a).view.read (Elt F) (outBuf m a c) = swapped m a c := View.read_write_univ _ _

abbrev inSlab (c : Dev nD) (a : Fin 6) (j : Fin 8) : sProp 𝕄 := iprop(inLoc a c ↦[slabSet (R := rows a) (C := cols a) (inRef a) j]{fullShare} m (inLoc a c))
abbrev outSlab (f : (a : Fin 6) → (c : Dev nD) → Buf (Elt F) (outLoc a c)) (c : Dev nD) (a : Fin 6) (j : Fin 8) : sProp 𝕄 :=
  iprop(outLoc a c ↦[slabSet (R := rows a) (C := cols a) (outRef a) j]{fullShare} f a c)

abbrev old (a : Fin 6) (c : Dev nD) : Buf (Elt F) (outLoc a c) := m (outLoc a c)

def hold (c : Dev nD) : Cell → sProp 𝕄
  | .send k a => iprop(inSlab m c a (peer k c) ∗ outSlab (old m) (peer k c) a c)
  | .recv _ _ => iprop(emp)
  | .keep a => iprop(inSlab m c a c ∗ outSlab (old m) c a c)

def pay (c : Dev nD) : Cell → sProp 𝕄
  | .send k a => inSlab m c a (peer k c)
  | .recv k a => outSlab (outBuf m) c a (peer k c)
  | .keep a => iprop(inSlab m c a c ∗ outSlab (outBuf m) c a c)

instance pay_storable (c : Dev nD) (q : Cell) : BI.Storable (upEmb : UEmb _ 𝕄) (pay m c q) := by
  cases q <;> unfold pay <;> infer_instance

/-! ## The copies' ends -/

theorem peer_send (k : Fin 7) (a : Fin 6) (c : Dev nD) : wiring.peer (.send k a) c = peer k c := Fin.ext (peerNo_eq k a c)

theorem src_send (c : Dev nD) (k : Fin 7) (a : Fin 6) : (wiring.srcPts c (.send k a) fullShare (m (inLoc a c)) : sProp 𝕄) = inSlab m c a (peer k c) :=
  congrArg (fun S => (iprop(inLoc a c ↦[S]{fullShare} m (inLoc a c)) : sProp 𝕄))
    (slab_set (R := rows a) (C := cols a) (m := inRef a) (h := peer_inb k a c) (hq := squeezes a) (peer k c) (peerOff_eq k a c))

theorem src_keep (c : Dev nD) (a : Fin 6) : (wiring.srcPts c (.keep a) fullShare (m (inLoc a c)) : sProp 𝕄) = inSlab m c a c :=
  congrArg (fun S => (iprop(inLoc a c ↦[S]{fullShare} m (inLoc a c)) : sProp 𝕄))
    (slab_set (R := rows a) (C := cols a) (m := inRef a) (h := own_inb a c) (hq := squeezes a) c (ownOff_eq a c))

theorem dst_slab (c c' : Dev nD) (q : Cell) (f : Buf (Elt F) (outLoc q.arr c')) :
    (wiring.dstPts c c' q f : sProp 𝕄) = iprop(outLoc q.arr c' ↦[slabSet (R := rows q.arr) (C := cols q.arr) (outRef q.arr) c]{fullShare} f) :=
  congrArg (fun S => (iprop(outLoc q.arr c' ↦[S]{fullShare} f) : sProp 𝕄))
    (slab_set (R := rows q.arr) (C := cols q.arr) (m := outRef q.arr) (h := own_inb q.arr c) (hq := squeezes q.arr) c (ownOff_eq q.arr c))

theorem dst_send (c c' : Dev nD) (k : Fin 7) (a : Fin 6) (f : Buf (Elt F) (outLoc a c')) :
    (wiring.dstPts c c' (.send k a) f : sProp 𝕄) = iprop(outLoc a c' ↦[slabSet (R := rows a) (C := cols a) (outRef a) c]{fullShare} f) :=
  dst_slab c c' (.send k a) f

theorem dst_keep (c c' : Dev nD) (a : Fin 6) (f : Buf (Elt F) (outLoc a c')) :
    (wiring.dstPts c c' (.keep a) f : sProp 𝕄) = iprop(outLoc a c' ↦[slabSet (R := rows a) (C := cols a) (outRef a) c]{fullShare} f) :=
  dst_slab c c' (.keep a) f

theorem landed_send (c : Dev nD) (k : Fin 7) (a : Fin 6) :
    (wiring.dstPts c (peer k c) (.send k a) (wiring.landed c (peer k c) (.send k a) (m (inLoc a c)) (m (outLoc a (peer k c)))) : sProp 𝕄)
      = outSlab (outBuf m) (peer k c) a c := by
  refine (dst_send c (peer k c) k a _).trans (pointsTo_congr ?_)
  refine slab_write (R := rows a) (C := cols a) (m := outRef a) (h := own_inb a c) (hq := squeezes a) c (ownOff_eq a c) _ _ _ fun r q => ?_
  rw [read_outBuf]
  exact (slab_read (R := rows a) (C := cols a) (m := inRef a) (h := peer_inb k a c) (hq := squeezes a) (peer k c) (peerOff_eq k a c) _ r q).symm

theorem landed_keep (c : Dev nD) (a : Fin 6) :
    (wiring.dstPts c c (.keep a) (wiring.landed c c (.keep a) (m (inLoc a c)) (m (outLoc a c))) : sProp 𝕄)
      = outSlab (outBuf m) c a c := by
  refine (dst_keep c c a _).trans (pointsTo_congr ?_)
  refine slab_write (R := rows a) (C := cols a) (m := outRef a) (h := own_inb a c) (hq := squeezes a) c (ownOff_eq a c) _ _ _ fun r q => ?_
  rw [read_outBuf]
  exact (slab_read (R := rows a) (C := cols a) (m := inRef a) (h := own_inb a c) (hq := squeezes a) c (ownOff_eq a c) _ r q).symm

/-! ## The plan -/

def first : Cell → St
  | .recv _ _ => .armed
  | _ => .idle

/-- The credit of one copy of array `a`. -/
def amount (a : Fin 6) : ℕ := (Cell.dst 0 (.keep a)).view.dmaCredit

theorem sem_inj : Function.Injective Cell.sem := by
  have h : ∀ q q' : Cell, Cell.sem q = Cell.sem q' → q = q' := by decide +kernel
  exact fun q q' => h q q'

def plan : Plan (Elt F) wiring where
  amt q := amount q.arr
  lev _ := 0
  first := first
  final _ := .done
  pay := pay m
  hold := hold m
  amt_pos q := View.dmaCredit_pos _ (by revert q; decide +kernel)
  amt_dst c q _ := rfl
  amt_wdst c q := by cases q <;> rfl
  amt_land q r h := by
    cases q with
    | send k a => cases h; rfl
    | recv k a => cases h
    | keep a => cases h
  sem_inj := sem_inj
  pay_storable := pay_storable m
  routes := by decide
  enter_keep c q hi hl := by
    cases q with
    | send k a => cases hl
    | recv k a => cases hi
    | keep a =>
      refine ⟨fullShare, m (inLoc a c), m (outLoc a c), ?_, ?_⟩
      · rw [src_keep, dst_keep]
        exact (sep_elim_left : iprop(hold m c (.keep a) ∗ emp) ⊢ hold m c (.keep a))
      · rw [src_keep, landed_keep]
        exact sep_comm.1
  enter_send c q r hi hl := by
    cases q with
    | keep a => cases hl
    | recv k a => cases hi
    | send k a =>
      cases hl
      rw [peer_send]
      refine ⟨fullShare, m (inLoc a c), m (outLoc a (peer k c)), ?_, ?_, ?_⟩
      · rw [src_send, dst_send]
        exact (sep_elim_left : iprop(hold m c (.send k a) ∗ emp) ⊢ hold m c (.send k a))
      · rw [src_send]
        exact BI.Entails.refl _
      · rw [landed_send]
        unfold pay
        dsimp only
        rw [peer_peer]

def mates : Mates wiring first where
  mate :=
    { toFun := fun | .send k a => .recv k a | .recv k a => .send k a | .keep a => .keep a
      invFun := fun | .send k a => .recv k a | .recv k a => .send k a | .keep a => .keep a
      left_inv := fun q => by cases q <;> rfl
      right_inv := fun q => by cases q <;> rfl }
  begins q := by cases q <;> simp [first]
  to_recv j r hj h := by
    cases j with
    | send k a => cases h; exact ⟨rfl, rfl⟩
    | recv k a => cases h
    | keep a => cases h
  to_send q h := by
    cases q with
    | send k a => exact ⟨rfl, rfl⟩
    | recv k a => cases h
    | keep a => cases h
  back q := by cases q <;> rfl
  peer_peer q c := by
    cases q with
    | send k a => rw [peer_send, peer_send, peer_peer]
    | recv k a => rfl
    | keep a => rfl

theorem script_ok : check wiring (plan (F := F) m).lev (plan (F := F) m).final (plan (F := F) m).first script = true := by
  show check wiring (fun _ => 0) (fun _ => .done) first script = true
  decide +kernel

/-! ## The arrays as slabs -/

theorem bigSep_cells (Φ : Cell → sProp 𝕄) :
    bigSep Finset.univ Φ = iprop(((bigSep Finset.univ fun a : Fin 6 => bigSep Finset.univ fun k : Fin 7 => Φ (.send k a))
        ∗ (bigSep Finset.univ fun a : Fin 6 => bigSep Finset.univ fun k : Fin 7 => Φ (.recv k a)))
      ∗ bigSep Finset.univ fun a : Fin 6 => Φ (.keep a)) := by
  rw [bigSep_univ_equiv cells.symm Φ, BI.bigSep_univ_sum, BI.bigSep_univ_sum, bigSep_univ_prod, bigSep_univ_prod,
    bigSep_univ_comm (fun a k => Φ (cells.symm (.inl (.inl (a, k))))), bigSep_univ_comm (fun a k => Φ (cells.symm (.inl (.inr (a, k)))))]
  rfl

theorem peer_inj (c : Dev nD) : Function.Injective fun k : Fin 7 => peer k c := by
  have h : ∀ (c : Dev nD) (k k' : Fin 7), peer k c = peer k' c → k = k' := by decide +kernel
  exact fun k k' => h c k k'

/-- The eight slabs are the device's own and its seven peers'. -/
theorem slabs_peers (c : Dev nD) (Φ : Fin 8 → sProp 𝕄) :
    bigSep Finset.univ Φ = iprop(Φ c ∗ bigSep Finset.univ fun k : Fin 7 => Φ (peer k c)) := by
  have h : ∀ c : Dev nD, (Finset.univ.erase c : Finset (Fin 8)) = Finset.univ.map ⟨fun k : Fin 7 => peer k c, peer_inj c⟩ := by decide +kernel
  rw [BI.bigSep_univ_split c, h c, bigSep_map]
  rfl

abbrev inWhole (c : Dev nD) (a : Fin 6) : sProp 𝕄 := iprop(inLoc a c ↦{fullShare} m (inLoc a c))
abbrev outWhole (f : (a : Fin 6) → (c : Dev nD) → Buf (Elt F) (outLoc a c)) (c : Dev nD) (a : Fin 6) : sProp 𝕄 := iprop(outLoc a c ↦{fullShare} f a c)

theorem in_slabs (c : Dev nD) (a : Fin 6) :
    inWhole m c a = iprop(inSlab m c a c ∗ bigSep Finset.univ fun k : Fin 7 => inSlab m c a (peer k c)) :=
  (whole_slabs (R := rows a) (C := cols a) (inRef_whole a) c (m (inLoc a c))).trans (slabs_peers c _)

theorem out_slabs (f : (a : Fin 6) → (c : Dev nD) → Buf (Elt F) (outLoc a c)) (c : Dev nD) (a : Fin 6) :
    outWhole f c a = iprop(outSlab f c a c ∗ bigSep Finset.univ fun k : Fin 7 => outSlab f c a (peer k c)) :=
  (whole_slabs (R := rows a) (C := cols a) (outRef_whole a) c (f a c)).trans (slabs_peers c _)

/-- All devices' arrays, dealt to the copies. -/
theorem deal :
    (bigSep Finset.univ fun c : Dev nD => iprop((bigSep Finset.univ (inWhole m c)) ∗ bigSep Finset.univ (outWhole (old m) c)))
      ⊢ (bigSep Finset.univ fun c : Dev nD => bigSep Finset.univ (hold m c) : sProp 𝕄) := by
  have hout : (bigSep Finset.univ fun c : Dev nD => bigSep Finset.univ fun a : Fin 6 => bigSep Finset.univ fun k : Fin 7 => (outSlab (old m) c a (peer k c) : sProp 𝕄))
      = bigSep Finset.univ fun c : Dev nD => bigSep Finset.univ fun a : Fin 6 => bigSep Finset.univ fun k : Fin 7 => outSlab (old m) (peer k c) a c := by
    rw [bigSep_univ_comm, bigSep_univ_comm (fun (c : Dev nD) (a : Fin 6) => bigSep Finset.univ fun k : Fin 7 => (outSlab (old m) (peer k c) a c : sProp 𝕄))]
    refine bigSep_congr fun a _ => ?_
    rw [bigSep_univ_comm, bigSep_univ_comm (fun (c : Dev nD) (k : Fin 7) => (outSlab (old m) (peer k c) a c : sProp 𝕄))]
    refine bigSep_congr fun k _ => ?_
    rw [bigSep_univ_equiv (⟨peer k, peer k, peer_peer k, peer_peer k⟩ : Dev nD ≃ Dev nD)]
    refine bigSep_congr fun c _ => ?_
    show outSlab (old m) (peer k c) a (peer k (peer k c)) = _
    rw [peer_peer]
  have hin (c : Dev nD) : (bigSep Finset.univ (inWhole m c) : sProp 𝕄)
      = iprop((bigSep Finset.univ fun a : Fin 6 => inSlab m c a c) ∗ bigSep Finset.univ fun a : Fin 6 => bigSep Finset.univ fun k : Fin 7 => inSlab m c a (peer k c)) := by
    rw [← bigSep_sep']; exact bigSep_congr fun a _ => in_slabs m c a
  have hout' (c : Dev nD) : (bigSep Finset.univ (outWhole (old m) c) : sProp 𝕄)
      = iprop((bigSep Finset.univ fun a : Fin 6 => outSlab (old m) c a c) ∗ bigSep Finset.univ fun a : Fin 6 => bigSep Finset.univ fun k : Fin 7 => outSlab (old m) c a (peer k c)) := by
    rw [← bigSep_sep']; exact bigSep_congr fun a _ => out_slabs (old m) c a
  have hhold (c : Dev nD) : iprop(((bigSep Finset.univ fun a : Fin 6 => inSlab m c a c) ∗ (bigSep Finset.univ fun a : Fin 6 => bigSep Finset.univ fun k : Fin 7 => inSlab m c a (peer k c)))
        ∗ (bigSep Finset.univ fun a : Fin 6 => outSlab (old m) c a c) ∗ bigSep Finset.univ fun a : Fin 6 => bigSep Finset.univ fun k : Fin 7 => outSlab (old m) (peer k c) a c)
      ⊢ (bigSep Finset.univ (hold m c) : sProp 𝕄) := by
    rw [bigSep_cells]
    have h1 : iprop((bigSep Finset.univ fun a : Fin 6 => bigSep Finset.univ fun k : Fin 7 => inSlab m c a (peer k c)) ∗ bigSep Finset.univ fun a : Fin 6 => bigSep Finset.univ fun k : Fin 7 => outSlab (old m) (peer k c) a c)
        ⊢ (bigSep Finset.univ fun a : Fin 6 => bigSep Finset.univ fun k : Fin 7 => hold m c (.send k a) : sProp 𝕄) := by
      rw [← bigSep_sep']
      exact bigSep_mono fun a _ => by rw [← bigSep_sep']; exact BI.Entails.refl _
    have h2 : (iprop(emp) : sProp 𝕄) ⊢ bigSep Finset.univ fun a : Fin 6 => bigSep Finset.univ fun k : Fin 7 => hold m c (.recv k a) := by
      show _ ⊢ (bigSep Finset.univ fun a : Fin 6 => bigSep Finset.univ fun k : Fin 7 => (BI.emp : sProp 𝕄))
      rw [BI.bigSep_emp_const, BI.bigSep_emp_const]
      exact BI.Entails.refl _
    have h3 : iprop((bigSep Finset.univ fun a : Fin 6 => inSlab m c a c) ∗ bigSep Finset.univ fun a : Fin 6 => outSlab (old m) c a c)
        ⊢ (bigSep Finset.univ fun a : Fin 6 => hold m c (.keep a) : sProp 𝕄) := by
      rw [← bigSep_sep']; exact BI.Entails.refl _
    iintro ⟨⟨H1, H2⟩, H3, H4⟩
    isplitl [H2 H4]
    · isplitl [H2 H4]
      · iapply h1; isplitl [H2] <;> iassumption
      iapply h2; iempintro
    iapply h3; isplitl [H1] <;> iassumption
  refine BI.Entails.trans ?_ (bigSep_mono fun c _ => hhold c)
  rw [bigSep_sep', bigSep_congr fun c _ => hin c, bigSep_congr fun c _ => hout' c, bigSep_sep', bigSep_sep', bigSep_sep', bigSep_sep', bigSep_sep', hout]
  exact BI.Entails.refl _

/-- What the copies return is the arrays whole again. -/
theorem collect (c : Dev nD) :
    (plan m).paid c ⊢ (iprop((bigSep Finset.univ (inWhole m c)) ∗ bigSep Finset.univ (outWhole (outBuf m) c)) : sProp 𝕄) := by
  have hin : iprop((bigSep Finset.univ fun a : Fin 6 => inSlab m c a c) ∗ bigSep Finset.univ fun a : Fin 6 => bigSep Finset.univ fun k : Fin 7 => inSlab m c a (peer k c))
      ⊢ (bigSep Finset.univ (inWhole m c) : sProp 𝕄) := by
    rw [← bigSep_sep']; exact bigSep_mono fun a _ => by rw [in_slabs]; exact BI.Entails.refl _
  have hout : iprop((bigSep Finset.univ fun a : Fin 6 => outSlab (outBuf m) c a c) ∗ bigSep Finset.univ fun a : Fin 6 => bigSep Finset.univ fun k : Fin 7 => outSlab (outBuf m) c a (peer k c))
      ⊢ (bigSep Finset.univ (outWhole (outBuf m) c) : sProp 𝕄) := by
    rw [← bigSep_sep']; exact bigSep_mono fun a _ => by rw [out_slabs]; exact BI.Entails.refl _
  have h : (plan m).paid c = (bigSep Finset.univ (pay m c) : sProp 𝕄) := by
    unfold Plan.paid
    exact bigSep_congr fun q _ => if_pos rfl
  have hk : (bigSep Finset.univ fun a : Fin 6 => pay m c (.keep a))
      = (iprop((bigSep Finset.univ fun a : Fin 6 => inSlab m c a c) ∗ bigSep Finset.univ fun a : Fin 6 => outSlab (outBuf m) c a c) : sProp 𝕄) := by
    rw [← bigSep_sep']; rfl
  rw [h, bigSep_cells, hk]
  show iprop(((bigSep Finset.univ fun a : Fin 6 => bigSep Finset.univ fun k : Fin 7 => inSlab m c a (peer k c))
      ∗ (bigSep Finset.univ fun a : Fin 6 => bigSep Finset.univ fun k : Fin 7 => outSlab (outBuf m) c a (peer k c)))
    ∗ (bigSep Finset.univ fun a : Fin 6 => inSlab m c a c) ∗ bigSep Finset.univ fun a : Fin 6 => outSlab (outBuf m) c a c) ⊢ _
  iintro ⟨⟨H1, H2⟩, H3, H4⟩
  isplitl [H1 H3]
  · iapply hin; isplitl [H3] <;> iassumption
  · iapply hout; isplitl [H4] <;> iassumption

end Exchange

end
-- ==== Proof.Run.lean ====
/-
The run of the exchange of the gradient slabs, for any float values.
-/
module

public import proofs.«01_k».proof.Proof.Exchange
public import proofs.«01_k».proof.Proof.Gen.KernelIdeal.Launch

@[expose] public section

noncomputable section

namespace Exchange

open Cert.KernelIdeal Cert.KernelIdeal.Gen
open Idealize.ShloMosaic Idealize.ShloMosaic.TcCoe Idealize.ShloMosaic.ValueIdx
open Idealize.SL Idealize.SL.RA
open Idealize.SL.BI (sProp bigSep bigSep_sep' bigSep_mono bigSep_congr bigSep_univ_prod bigSep_map bigSep_univ_equiv bigSep_univ_comm)
open scoped Idealize.SL.BI
open Idealize.SL.BI.BIBase Idealize.SL.BI.Laws Idealize.SL.ProofMode Idealize.SL.Sem
open Idealize.ShloMosaic.Pipeline
open Wires

set_option Elab.async false

variable {F : FTy → Type} [FloatOps F]

local notation "𝕄" => MT nD τ sig Unit (Elt F) ℕ (UU nD τ sig) ℕ

variable (m : (ℓ : Loc nD τ sig) → Buf (Elt F) ℓ)

theorem six (Φ : Fin 6 → sProp 𝕄) : bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ

/-- A device's arrays at launch. -/
theorem launch_arrays (c : Dev nD) :
    (unscopedBufs c (fun b => m ((c : Thread nD τ).loc b)) : sProp 𝕄) ⊢ iprop((bigSep Finset.univ (inWhole m c)) ∗ bigSep Finset.univ (outWhole (old m) c)) := by
  have h : (unscopedBufs c (fun b => m ((c : Thread nD τ).loc b)) : sProp 𝕄) = unscopedRest (cfg0.spec) c (fun b => m ((c : Thread nD τ).loc b)) := by
    unfold unscopedBufs unscopedRest
    rw [show (Finset.univ : Finset (Fin cfg0.W)) = ∅ from rfl, Finset.image_empty, Finset.sdiff_empty]
  rw [h, unscopedRest0_eq, six, six]
  show iprop(inWhole m c 0 ∗ inWhole m c 1 ∗ inWhole m c 2 ∗ inWhole m c 3 ∗ inWhole m c 4 ∗ inWhole m c 5
      ∗ outWhole (old m) c 0 ∗ outWhole (old m) c 1 ∗ outWhole (old m) c 2 ∗ outWhole (old m) c 3 ∗ outWhole (old m) c 4 ∗ outWhole (old m) c 5) ⊢ _
  iintro ⟨H0, H1, H2, H3, H4, H5, HR⟩
  isplitr [HR]
  · isplitl [H0]; · iexact H0
    isplitl [H1]; · iexact H1
    isplitl [H2]; · iexact H2
    isplitl [H3]; · iexact H3
    isplitl [H4] <;> iassumption
  iexact HR

/-- What a device's memory holds at the end. -/
def Ends (c : Dev nD) (s : MemSt nD τ sig (Elt F)) : Prop :=
  (∀ a, s.mem (inLoc a c) = m (inLoc a c)) ∧ ∀ a, s.mem (outLoc a c) = outBuf m a c

theorem read_ends (c : Dev nD) (s : Phys nD τ sig (Elt F)) :
    (iprop(((bigSep Finset.univ (inWhole m c)) ∗ bigSep Finset.univ (outWhole (outBuf m) c)) ∗ SI s) : sProp 𝕄)
      ⊢ |={Set.univ}=> iprop(⌜Ends m c s.mem⌝ ∗ SI s) := by
  rw [six, six]
  iintro ⟨⟨⟨A0, A1, A2, A3, A4, A5⟩, B0, B1, B2, B3, B4, B5⟩, HSI⟩
  icombine HSI A0 gives %a0
  icombine HSI A1 gives %a1
  icombine HSI A2 gives %a2
  icombine HSI A3 gives %a3
  icombine HSI A4 gives %a4
  icombine HSI A5 gives %a5
  icombine HSI B0 gives %b0
  icombine HSI B1 gives %b1
  icombine HSI B2 gives %b2
  icombine HSI B3 gives %b3
  icombine HSI B4 gives %b4
  icombine HSI B5 gives %b5
  imodintro
  isplitr
  · ipureintro
    exact ⟨fun a => by fin_cases a <;> first | exact Buf.eq_of_forall_mem_univ a0 | exact Buf.eq_of_forall_mem_univ a1 | exact Buf.eq_of_forall_mem_univ a2 | exact Buf.eq_of_forall_mem_univ a3 | exact Buf.eq_of_forall_mem_univ a4 | exact Buf.eq_of_forall_mem_univ a5,
      fun a => by fin_cases a <;> first | exact Buf.eq_of_forall_mem_univ b0 | exact Buf.eq_of_forall_mem_univ b1 | exact Buf.eq_of_forall_mem_univ b2 | exact Buf.eq_of_forall_mem_univ b3 | exact Buf.eq_of_forall_mem_univ b4 | exact Buf.eq_of_forall_mem_univ b5⟩
  iexact HSI

theorem own_facts : OwnSemFacts (cfg0.spec) (fun k : Cell => SemLoc.dma (wiring.sem k)) := by decide +kernel

set_option maxRecDepth 100000 in
theorem table_eq (x : Fin grid0.N × ((w : Fin 0) → Fin (win0 w).nbuf)) :
    defs₀ (F := F) .tc 0 x = .op .deviceId fun d0 => wiring.runs (Elt F) Λ₀ d0 script := by
  refine Eq.trans ?_ body_eq
  rfl

theorem body_runs (c : Dev nD) (x : Fin grid0.N × ((w : Fin 0) → Fin (win0 w).nbuf)) (Q : sProp 𝕄) :
    wp frame (wpE defs₀ Variants.none (c : Thread nD τ) none) Set.univ (.op .deviceId fun d0 => wiring.runs (Elt F) Λ₀ d0 script) (fun _ => Q)
      ⊢ wp frame (wpE defs₀ Variants.none (c : Thread nD τ) none) Set.univ (defs₀ (F := F) .tc 0 x) fun _ => Q := by
  rw [table_eq]

set_option maxRecDepth 100000 in
/-- From any memory with zero counters every weakly fair execution terminates with each device's results the
    exchanged slabs, its arguments unchanged and every counter at zero. -/
theorem run_main (g : Dev nD → PrngReg) :
    θ_run defs (onTc (τ := τ) (main (F := F))) ⟨m, fun _ => 0, g⟩ fun r => (∀ c, Ends m c r.2) ∧ r.2.sem = fun _ => 0 := by
  refine (θ_run defs _ _).mono (fun r h => ⟨h.1, sem_eq_zero_of_scoped (by decide) h.2⟩)
    (Plan.run (plan m) mates (fun p => (cfgs p).toPCfg) (fun _ p => (cfgs p).toPCfg_adm) cellOf_inj defs₀ Variants.none (0 : Fin 1)
      (hW := ⟨fun w => w.elim0⟩) (hK := ⟨fun k => k.elim0⟩) (hN := fun _ => N_0) (hw := winFacts0.to₀) (ho := own_facts)
      (hfinal := fun _ => .inl rfl) (script := script) (hcheck := script_ok m)
      (hbody := fun c t Q => body_runs c _ Q)
      (m := m) (g := g) (rest := fun _ => iprop(emp))
      (hmem := ?_) (tail := fun _ _ => .ret ⟨⟩) (main := main) (hmain := fun _ => rfl)
      (Tₙ := fun c => iprop((bigSep Finset.univ (inWhole m c)) ∗ bigSep Finset.univ (outWhole (outBuf m) c)))
      (htail := fun c => ?_) (QY := Ends m) (hfin := read_ends m))
  · refine (bigSep_mono fun c _ => launch_arrays m c).trans ((deal m).trans (bigSep_mono fun c _ => ?_))
    exact (BI.equiv_iff.mp BI.sep_emp).ge
  · have h := collect m c
    rw [wp_ret]
    iintro ⟨Hb, Hp, -, -, -, Ho⟩
    ihave H := h $$ Hp
    imodintro
    isplitr [Ho]
    · isplitl [H] <;> iassumption
    iexact Ho

end Exchange

end
-- ==== Proof.Values.lean ====
/-
The plain all-to-all, block by block: block `c` of the result, slab `j`, is slab `c` of block `j` of the array.
-/
module

public import proofs.«01_k».proof.Proof.Run
public import Idealize.ShloMosaic.Lib.Layout
public import Idealize.ShloMosaic.Lib.ValueLayout

@[expose] public section

noncomputable section

namespace Exchange

open Idealize.ShloMosaic Idealize.ShloMosaic.ValueIdx Cert.KernelIdeal

theorem swap_blocks {α : Type} {R C : ℕ} (x : (⟨3, ![64, R, C]⟩ : Shape).Idx → α)
    (h1 : (⟨3, ![64, R, C]⟩ : Shape).ShapeCasts ⟨4, ![8, 8, R, C]⟩)
    (h2 : (⟨4, ![8, 8, R, C]⟩ : Shape).Transposes [1, 0, 2, 3] ⟨4, ![8, 8, R, C]⟩)
    (h3 : (⟨4, ![8, 8, R, C]⟩ : Shape).ShapeCasts ⟨3, ![64, R, C]⟩)
    (H : Layout.Tiles ⟨3, ![8, R, C]⟩ ⟨3, ![64, R, C]⟩ 0 8) (c j : Fin 8) (r : Fin R) (q : Fin C) :
    Layout.block ⟨3, ![8, R, C]⟩ ⟨3, ![64, R, C]⟩ 0 8 c (shapeCast ⟨3, ![64, R, C]⟩ (transpose ⟨4, ![8, 8, R, C]⟩ [1, 0, 2, 3] (shapeCast ⟨4, ![8, 8, R, C]⟩ x h1) h2) h3) H (ix3 j r q)
      = Layout.block ⟨3, ![8, R, C]⟩ ⟨3, ![64, R, C]⟩ 0 8 j x H (ix3 c r q) := by
  show shapeCast _ _ h3 (H.idx c (ix3 j r q)) = x (H.idx j (ix3 c r q))
  rw [shapeCast_apply _ h3 _ (ix4 c j r q), transpose_apply _ _ h2 _ (ix4 j c r q), shapeCast_apply _ h1 _ (H.idx j (ix3 c r q))]
  · rw [Shape.rowMajor_val_four, Shape.rowMajor_val_three]
    show ((j.val * 8 + c.val) * R + r.val) * C + q.val = ((j.val * 8 + c.val) * R + r.val) * C + q.val
    rfl
  · intro b
    fin_cases b <;> rfl
  · rw [Shape.rowMajor_val_four, Shape.rowMajor_val_three]
    show ((c.val * 8 + j.val) * R + r.val) * C + q.val = ((c.val * 8 + j.val) * R + r.val) * C + q.val
    rfl

variable {F : FTy → Type} [FloatOps F]
variable (m : (ℓ : Loc nD τ sig) → Buf (Elt F) ℓ)

/-- The exchanged slabs are the devices' blocks of the plain all-to-all. -/
theorem swapped_eq (a : Fin 6) (x : (⟨3, ![64, rows a, cols a]⟩ : Shape).Idx → Elt F (elt a))
    (h1 : (⟨3, ![64, rows a, cols a]⟩ : Shape).ShapeCasts ⟨4, ![8, 8, rows a, cols a]⟩)
    (h2 : (⟨4, ![8, 8, rows a, cols a]⟩ : Shape).Transposes [1, 0, 2, 3] ⟨4, ![8, 8, rows a, cols a]⟩)
    (h3 : (⟨4, ![8, 8, rows a, cols a]⟩ : Shape).ShapeCasts ⟨3, ![64, rows a, cols a]⟩)
    (H : Layout.Tiles ⟨3, ![8, rows a, cols a]⟩ ⟨3, ![64, rows a, cols a]⟩ 0 8)
    (hx : ∀ d : Dev nD, given m a d = Layout.block ⟨3, ![8, rows a, cols a]⟩ ⟨3, ![64, rows a, cols a]⟩ 0 8 d x H) (c : Dev nD) :
    swapped m a c = Layout.block ⟨3, ![8, rows a, cols a]⟩ ⟨3, ![64, rows a, cols a]⟩ 0 8 c
      (shapeCast ⟨3, ![64, rows a, cols a]⟩ (transpose ⟨4, ![8, 8, rows a, cols a]⟩ [1, 0, 2, 3] (shapeCast ⟨4, ![8, 8, rows a, cols a]⟩ x h1) h2) h3) H := by
  funext i
  rw [eq_ix3 i]
  refine Eq.trans ?_ (swap_blocks x h1 h2 h3 H c (i 0) (i 1) (i 2)).symm
  exact congrFun (hx (i 0)) _

end Exchange

end
-- ==== Proof.Spread.lean ====
/-
The gather of the devices' blocks as wires. A device sends its block to its sibling and to the same core of
the other three chips, and passes each block that comes from another chip on to its sibling. In the
end every device has all eight blocks, stacked.
-/
module

public import proofs.«01_k».proof.Proof.Wires
public import proofs.«01_k».proof.Proof.Talk
public import proofs.«01_k».proof.Proof.Slabs
public import Idealize.ShloMosaic.Lib.ShareLeaves

@[expose] public section

noncomputable section

namespace Spread

open Idealize.ShloMosaic Idealize.ShloMosaic.TcCoe Idealize.ShloMosaic.ValueIdx
open Idealize.SL Idealize.SL.RA
open Idealize.SL.BI (sProp bigSep bigSep_sep' bigSep_mono bigSep_congr bigSep_univ_prod bigSep_univ_equiv bigSep_univ_comm)
open scoped Idealize.SL.BI
open Idealize.SL.BI.BIBase Idealize.SL.BI.Laws Idealize.SL.ProofMode Idealize.SL.Sem
open Wires

set_option Elab.async false

/-! ## Who sends what to whom -/

/-- The block that device `c` receives as number `k`: the bits say which mesh coordinates are flipped. -/
def block (k : Fin 7) (c : Dev 8) : Dev 8 := ⟨(c.val ^^^ (![1, 4, 2, 6, 5, 3, 7] : Fin 7 → ℕ) k) % 8, Nat.mod_lt _ (by decide)⟩

/-- The device that device `c` exchanges block number `k` with: the later three come from the sibling. -/
def peer (k : Fin 7) (c : Dev 8) : Dev 8 := ⟨(c.val ^^^ (![1, 4, 2, 6, 1, 1, 1] : Fin 7 → ℕ) k) % 8, Nat.mod_lt _ (by decide)⟩

/-- The numbers of the blocks that come from their owner, of those passed on, and of what is passed on. -/
abbrev near (k : Fin 4) : Fin 7 := Fin.castAdd 3 k
abbrev far (j : Fin 3) : Fin 7 := Fin.natAdd 4 j
abbrev relay (j : Fin 3) : Fin 7 := ⟨j.val + 1, by omega⟩

theorem peer_peer (k : Fin 7) (c : Dev 8) : peer k (peer k c) = c := by revert k c; decide +kernel
theorem block_near : ∀ (k : Fin 4) (c : Dev 8), block (near k) (peer (near k) c) = c := by decide +kernel
theorem block_far : ∀ (j : Fin 3) (c : Dev 8), block (far j) (peer (far j) c) = block (relay j) c := by decide +kernel
theorem block_inj (c : Dev 8) : Function.Injective fun k : Fin 7 => block k c := by
  have h : ∀ (c : Dev 8) (k k' : Fin 7), block k c = block k' c → k = k' := by decide +kernel
  exact fun k k' => h c k k'

/-! ## Cells -/

/-- The cells of a device, for each array: a send cell per block of its own that it sends and per block that
it passes on, a receive cell per block, and one for the copy it keeps. -/
inductive Cell (n : ℕ) where
  | send (k : Fin 4) (a : Fin n)
  | pass (j : Fin 3) (a : Fin n)
  | recv (k : Fin 7) (a : Fin n)
  | keep (a : Fin n)
  deriving DecidableEq

abbrev Kind : Type := (Fin 4 ⊕ Fin 3) ⊕ (Fin 7 ⊕ Unit)

def cells (n : ℕ) : Cell n ≃ Fin n × Kind where
  toFun | .send k a => (a, .inl (.inl k)) | .pass j a => (a, .inl (.inr j)) | .recv k a => (a, .inr (.inl k)) | .keep a => (a, .inr (.inr ()))
  invFun | (a, .inl (.inl k)) => .send k a | (a, .inl (.inr j)) => .pass j a | (a, .inr (.inl k)) => .recv k a | (a, .inr (.inr _)) => .keep a
  left_inv q := by cases q <;> rfl
  right_inv q := by rcases q with ⟨a, (q | q) | q | q⟩ <;> rfl

instance (n : ℕ) : Fintype (Cell n) := Fintype.ofEquiv _ (cells n).symm

def Cell.arr {n : ℕ} : Cell n → Fin n
  | .send _ a => a | .pass _ a => a | .recv _ a => a | .keep a => a

theorem slab_inb {R C : ℕ} {off : Fin 3 → ℕ} (j : Fin 8) (h : off = ![j.val, 0, 0]) : ∀ i, off i + (OneSlab R C).size i ≤ (Slabs R C).size i := by
  subst h; intro i
  match i with
  | ⟨0, _⟩ => show j.val + 1 ≤ 8; omega
  | ⟨1, _⟩ => show 0 + R ≤ R; omega
  | ⟨2, _⟩ => show 0 + C ≤ C; omega

/-- The arrays gathered, with the offsets and the peers as the kernel computes them. -/
structure Arrays (τ : Topo) (sig : RefSig) (n : ℕ) where
  rows : Fin n → ℕ
  cols : Fin n → ℕ
  elt : Fin n → EltTy
  ins : (a : Fin n) → Memref sig .tc .hbm (Mat (rows a) (cols a)) (elt a)
  outs : (a : Fin n) → Memref sig .tc .hbm (Slabs (rows a) (cols a)) (elt a)
  sem : Cell n → DmaSem sig
  ownOff : Fin n → Dev 8 → Fin 3 → ℕ
  recvOff : Fin 7 → Fin n → Dev 8 → Fin 3 → ℕ
  sendNo : Fin 4 → Fin n → Dev 8 → ℕ
  passNo : Fin 3 → Fin n → Dev 8 → ℕ
  ins_whole : ∀ a, (ins a).IsWhole
  outs_whole : ∀ a, (outs a).IsWhole
  squeezes : ∀ a, (OneSlab (rows a) (cols a)).Squeezes (Mat (rows a) (cols a))
  words : ∀ (a : Fin n) (j : Fin 8),
    (Rect.unit (s := Slabs (rows a) (cols a)) ![j.val, 0, 0] (OneSlab (rows a) (cols a)).size (slab_inb j rfl)).WholeWords (elt a).packing
  filled : ∀ a, 0 < (Mat (rows a) (cols a)).numel
  sem_inj : Function.Injective sem
  own_eq : ∀ a c, ownOff a c = ![c.val, 0, 0]
  recv_eq : ∀ k a c, recvOff k a c = ![(block k c).val, 0, 0]
  send_eq : ∀ k a c, sendNo k a c = (peer (near k) c).val
  pass_eq : ∀ j a c, passNo j a c = (peer (far j) c).val
  credit : ∀ a, (ins a).view.dmaCredit = (slabAt (outs a) (ownOff a 0) (slab_inb 0 (own_eq a 0)) (squeezes a)).view.dmaCredit
  routes : ∀ c c' : Dev 8, τ.routes (c : Thread 8 τ) (c' : Thread 8 τ) = true

variable {τ : Topo} {sig : RefSig} {n : ℕ} (A : Arrays τ sig n)

namespace Arrays

abbrev ownSlab (a : Fin n) (c : Dev 8) : Memref sig .tc .hbm (Mat (A.rows a) (A.cols a)) (A.elt a) :=
  slabAt (A.outs a) (A.ownOff a c) (slab_inb c (A.own_eq a c)) (A.squeezes a)

abbrev recvSlab (k : Fin 7) (a : Fin n) (c : Dev 8) : Memref sig .tc .hbm (Mat (A.rows a) (A.cols a)) (A.elt a) :=
  slabAt (A.outs a) (A.recvOff k a c) (slab_inb (block k c) (A.recv_eq k a c)) (A.squeezes a)

theorem exact_of {a : Fin n} {off : Fin 3 → ℕ} (j : Fin 8) (h : off = ![j.val, 0, 0]) :
    (slabAt (A.outs a) off (slab_inb j h) (A.squeezes a)).view.WordExact := by
  subst h
  exact ((A.outs_whole a).wordExact_slice rfl _ (A.words a j)).reshape _ _

theorem own_exact (a : Fin n) (c : Dev 8) : (A.ownSlab a c).view.WordExact := A.exact_of c (A.own_eq a c)
theorem recv_exact (k : Fin 7) (a : Fin n) (c : Dev 8) : (A.recvSlab k a c).view.WordExact := A.exact_of (block k c) (A.recv_eq k a c)

/-- What a copy reads: the device's block, or the slab it passes on. -/
def src (c : Dev 8) : (q : Cell n) → Memref sig .tc .hbm (Mat (A.rows q.arr) (A.cols q.arr)) (A.elt q.arr)
  | .send _ a => A.ins a | .pass j a => A.recvSlab (relay j) a c | .recv k a => A.recvSlab k a c | .keep a => A.ins a

/-- The slab a copy writes. -/
def dst (c : Dev 8) : (q : Cell n) → Memref sig .tc .hbm (Mat (A.rows q.arr) (A.cols q.arr)) (A.elt q.arr)
  | .send _ a => A.ownSlab a c | .pass j a => A.recvSlab (relay j) a c | .recv k a => A.recvSlab k a c | .keep a => A.ownSlab a c

/-- The ends a wait names: a wait for the source's return names the two ends the other way round. -/
def wsrc (c : Dev 8) : (q : Cell n) → Memref sig .tc .hbm (Mat (A.rows q.arr) (A.cols q.arr)) (A.elt q.arr)
  | .send _ a => A.ownSlab a c | .pass j a => A.recvSlab (relay j) a c | .recv k a => A.recvSlab k a c | .keep a => A.ins a
def wdst (c : Dev 8) : (q : Cell n) → Memref sig .tc .hbm (Mat (A.rows q.arr) (A.cols q.arr)) (A.elt q.arr)
  | .send _ a => A.ins a | .pass j a => A.recvSlab (relay j) a c | .recv k a => A.recvSlab k a c | .keep a => A.ownSlab a c

def wiring : Wiring 8 τ sig (Cell n) where
  sem := A.sem
  shape q := Mat (A.rows q.arr) (A.cols q.arr)
  elt q := A.elt q.arr
  src := A.src
  dst := A.dst
  wsrc := A.wsrc
  wdst := A.wdst
  peer q c := match q with
    | .send k a => ⟨A.sendNo k a c, by rw [A.send_eq]; exact (peer (near k) c).isLt⟩
    | .pass j a => ⟨A.passNo j a c, by rw [A.pass_eq]; exact (peer (far j) c).isLt⟩
    | _ => c
  land q := match q with
    | .send k a => some (.recv (near k) a)
    | .pass j a => some (.recv (far j) a)
    | _ => none
  via q := match q with
    | .pass j a => some (.recv (relay j) a)
    | _ => none
  src_exact c q := match q with
    | .send k a => (A.ins_whole a).wordExact | .pass j a => A.recv_exact _ a c | .recv k a => A.recv_exact k a c | .keep a => (A.ins_whole a).wordExact
  dst_exact c q := match q with
    | .send k a => A.own_exact a c | .pass j a => A.recv_exact _ a c | .recv k a => A.recv_exact k a c | .keep a => A.own_exact a c
  wsrc_exact c q := match q with
    | .send k a => A.own_exact a c | .pass j a => A.recv_exact _ a c | .recv k a => A.recv_exact k a c | .keep a => (A.ins_whole a).wordExact
  wdst_exact c q := match q with
    | .send k a => (A.ins_whole a).wordExact | .pass j a => A.recv_exact _ a c | .recv k a => A.recv_exact k a c | .keep a => A.own_exact a c

end Arrays

/-- The body: start the copies of the device's own block, pass on each block that comes from another chip, wait
for the rest and then for the copies' sources. -/
def script (n : ℕ) : List (Instr (Cell n)) :=
  let arrs := List.finRange n
  let jas := (List.finRange 3).flatMap fun j => arrs.map fun a => (j, a)
  (arrs.map fun a => .start (.keep a))
    ++ (arrs.flatMap fun a => (List.finRange 4).map fun k => .start (.send k a))
    ++ (jas.flatMap fun p => [.wait (.recv (relay p.1) p.2), .start (.pass p.1 p.2)])
    ++ (arrs.flatMap fun a => .wait (.recv (near 0) a) :: (List.finRange 3).map fun j => .wait (.recv (far j) a))
    ++ (arrs.flatMap fun a => (List.finRange 4).map fun k => .wait (.send k a))
    ++ (jas.map fun p => .wait (.pass p.1 p.2))
    ++ (arrs.map fun a => .wait (.keep a))

/-! ## Contents -/

variable {Val : EltTy → Type}

local notation "𝕄" => MT 8 τ sig Unit Val ℕ (UU 8 τ sig) ℕ

variable (m : (ℓ : Loc 8 τ sig) → Buf Val ℓ)

namespace Arrays

abbrev inLoc (a : Fin n) (c : Dev 8) : Loc 8 τ sig := (A.ins a).view.loc (c : Thread 8 τ)
abbrev outLoc (a : Fin n) (c : Dev 8) : Loc 8 τ sig := (A.outs a).view.loc (c : Thread 8 τ)

/-- Block `c` of array `a` at launch. -/
def given (a : Fin n) (c : Dev 8) : (Mat (A.rows a) (A.cols a)).Idx → Val (A.elt a) := (A.ins a).view.read Val (m (A.inLoc a c))

/-- The stack of the devices' blocks of array `a`. -/
def stacked (a : Fin n) : (Slabs (A.rows a) (A.cols a)).Idx → Val (A.elt a) :=
  fun i => A.given m a (i 0 : Fin 8) (ix2 (n0 := A.rows a) (n1 := A.cols a) (i 1) (i 2))

def outBuf (a : Fin n) (c : Dev 8) : Buf Val (A.outLoc a c) :=
  (A.outs a).view.write Val (m (A.outLoc a c)) (A.stacked m a) Finset.univ

theorem read_outBuf (a : Fin n) (c : Dev 8) : (A.outs a).view.read Val (A.outBuf m a c) = A.stacked m a := View.read_write_univ _ _

/-- The shares of a device's block that its copies read: one for the copy it keeps, four for the sends. -/
abbrev keepShare : PosShare TreeShare := fullShare.left
abbrev sendShare (k : Fin 4) : PosShare TreeShare := ShareLeaves.leaf 2 fullShare.right k

abbrev inPart (q : PosShare TreeShare) (c : Dev 8) (a : Fin n) : sProp 𝕄 := iprop(A.inLoc a c ↦{q} m (A.inLoc a c))
abbrev outSlab (f : (a : Fin n) → (c : Dev 8) → Buf Val (A.outLoc a c)) (c : Dev 8) (a : Fin n) (j : Fin 8) : sProp 𝕄 :=
  iprop(A.outLoc a c ↦[slabSet (R := A.rows a) (C := A.cols a) (A.outs a) j]{fullShare} f a c)

abbrev old (a : Fin n) (c : Dev 8) : Buf Val (A.outLoc a c) := m (A.outLoc a c)

def hold (c : Dev 8) : Cell n → sProp 𝕄
  | .send k a => iprop(A.inPart m (sendShare k) c a ∗ A.outSlab (A.old m) (peer (near k) c) a c)
  | .pass j a => A.outSlab (A.old m) (peer (far j) c) a (block (relay j) c)
  | .recv _ _ => iprop(emp)
  | .keep a => iprop(A.inPart m keepShare c a ∗ A.outSlab (A.old m) c a c)

def pay (c : Dev 8) : Cell n → sProp 𝕄
  | .send k a => A.inPart m (sendShare k) c a
  | .pass j a => A.outSlab (A.outBuf m) c a (block (relay j) c)
  | .recv k a => A.outSlab (A.outBuf m) c a (block k c)
  | .keep a => iprop(A.inPart m keepShare c a ∗ A.outSlab (A.outBuf m) c a c)

instance pay_storable (c : Dev 8) (q : Cell n) : BI.Storable (upEmb : UEmb _ 𝕄) (A.pay m c q) := by
  cases q <;> unfold pay <;> infer_instance

/-! ## The copies' ends -/

theorem peer_send (k : Fin 4) (a : Fin n) (c : Dev 8) : A.wiring.peer (.send k a) c = peer (near k) c := Fin.ext (A.send_eq k a c)
theorem peer_pass (j : Fin 3) (a : Fin n) (c : Dev 8) : A.wiring.peer (.pass j a) c = peer (far j) c := Fin.ext (A.pass_eq j a c)

theorem ins_set (a : Fin n) (c : Dev 8) (q : PosShare TreeShare) (f : Buf Val (A.inLoc a c)) :
    (iprop(A.inLoc a c ↦[(A.ins a).view.set]{q} f) : sProp 𝕄) = iprop(A.inLoc a c ↦{q} f) := by
  rw [(A.ins_whole a).set_eq_univ]

theorem own_set (a : Fin n) (c c' : Dev 8) (f : Buf Val (A.outLoc a c')) :
    (iprop(A.outLoc a c' ↦[(A.ownSlab a c).view.set]{fullShare} f) : sProp 𝕄) = iprop(A.outLoc a c' ↦[slabSet (A.outs a) c]{fullShare} f) :=
  congrArg (fun S => (iprop(A.outLoc a c' ↦[S]{fullShare} f) : sProp 𝕄)) (slab_set c (A.own_eq a c))

theorem recv_set (k : Fin 7) (a : Fin n) (c c' : Dev 8) (f : Buf Val (A.outLoc a c')) :
    (iprop(A.outLoc a c' ↦[(A.recvSlab k a c).view.set]{fullShare} f) : sProp 𝕄) = iprop(A.outLoc a c' ↦[slabSet (A.outs a) (block k c)]{fullShare} f) :=
  congrArg (fun S => (iprop(A.outLoc a c' ↦[S]{fullShare} f) : sProp 𝕄)) (slab_set (block k c) (A.recv_eq k a c))

theorem src_send (c : Dev 8) (k : Fin 4) (a : Fin n) (q : PosShare TreeShare) :
    (A.wiring.srcPts c (.send k a) q (m (A.inLoc a c)) : sProp 𝕄) = A.inPart m q c a := A.ins_set a c q _
theorem src_keep (c : Dev 8) (a : Fin n) (q : PosShare TreeShare) :
    (A.wiring.srcPts c (.keep a) q (m (A.inLoc a c)) : sProp 𝕄) = A.inPart m q c a := A.ins_set a c q _
theorem src_pass (c : Dev 8) (j : Fin 3) (a : Fin n) :
    (A.wiring.srcPts c (.pass j a) fullShare (A.outBuf m a c) : sProp 𝕄) = A.outSlab (A.outBuf m) c a (block (relay j) c) := A.recv_set (relay j) a c c _

theorem dst_send (c c' : Dev 8) (k : Fin 4) (a : Fin n) (f : Buf Val (A.outLoc a c')) :
    (A.wiring.dstPts c c' (.send k a) f : sProp 𝕄) = iprop(A.outLoc a c' ↦[slabSet (A.outs a) c]{fullShare} f) := A.own_set a c c' f
theorem dst_keep (c c' : Dev 8) (a : Fin n) (f : Buf Val (A.outLoc a c')) :
    (A.wiring.dstPts c c' (.keep a) f : sProp 𝕄) = iprop(A.outLoc a c' ↦[slabSet (A.outs a) c]{fullShare} f) := A.own_set a c c' f
theorem dst_pass (c c' : Dev 8) (j : Fin 3) (a : Fin n) (f : Buf Val (A.outLoc a c')) :
    (A.wiring.dstPts c c' (.pass j a) f : sProp 𝕄) = iprop(A.outLoc a c' ↦[slabSet (A.outs a) (block (relay j) c)]{fullShare} f) := A.recv_set (relay j) a c c' f

theorem landed_keep (c : Dev 8) (a : Fin n) :
    (A.wiring.dstPts c c (.keep a) (A.wiring.landed c c (.keep a) (m (A.inLoc a c)) (m (A.outLoc a c))) : sProp 𝕄) = A.outSlab (A.outBuf m) c a c := by
  refine (A.dst_keep c c a _).trans (pointsTo_congr ?_)
  refine slab_write (R := A.rows a) (C := A.cols a) (m := A.outs a) (hq := A.squeezes a) c (A.own_eq a c) _ _ _ fun r q => ?_
  rw [read_outBuf]
  rfl

theorem landed_send (c c' : Dev 8) (k : Fin 4) (a : Fin n) :
    (A.wiring.dstPts c c' (.send k a) (A.wiring.landed c c' (.send k a) (m (A.inLoc a c)) (m (A.outLoc a c'))) : sProp 𝕄) = A.outSlab (A.outBuf m) c' a c := by
  refine (A.dst_send c c' k a _).trans (pointsTo_congr ?_)
  refine slab_write (R := A.rows a) (C := A.cols a) (m := A.outs a) (hq := A.squeezes a) c (A.own_eq a c) _ _ _ fun r q => ?_
  rw [read_outBuf]
  rfl

theorem landed_pass (c c' : Dev 8) (j : Fin 3) (a : Fin n) :
    (A.wiring.dstPts c c' (.pass j a) (A.wiring.landed c c' (.pass j a) (A.outBuf m a c) (m (A.outLoc a c'))) : sProp 𝕄)
      = A.outSlab (A.outBuf m) c' a (block (relay j) c) := by
  refine (A.dst_pass c c' j a _).trans (pointsTo_congr ?_)
  refine slab_write (R := A.rows a) (C := A.cols a) (m := A.outs a) (hq := A.squeezes a) (block (relay j) c) (A.recv_eq (relay j) a c) _ _ _ fun r q => ?_
  rw [read_outBuf]
  refine Eq.trans ?_ (slab_read (R := A.rows a) (C := A.cols a) (m := A.outs a) (h := slab_inb _ (A.recv_eq (relay j) a c)) (hq := A.squeezes a)
    (block (relay j) c) (A.recv_eq (relay j) a c) (A.outBuf m a c) r q).symm
  rw [read_outBuf]

end Arrays

/-! ## The plan -/

def first {n : ℕ} : Cell n → St
  | .recv _ _ => .armed
  | _ => .idle

/-- A block is passed on after it has come. -/
def lev {n : ℕ} : Cell n → ℕ
  | .recv k _ => if k.val < 4 then 0 else 1
  | _ => 0

def final {n : ℕ} : Cell n → St
  | .recv k _ => if 1 ≤ k.val ∧ k.val < 4 then .spent else .done
  | _ => .done

namespace Arrays

/-- The credit of one copy of array `a`. -/
def amount (a : Fin n) : ℕ := (A.ownSlab a 0).view.dmaCredit

def plan : Plan Val A.wiring where
  amt q := A.amount q.arr
  lev := lev
  first := first
  final := final
  pay := A.pay m
  hold := A.hold m
  amt_pos q := View.dmaCredit_pos _ (A.filled q.arr)
  amt_dst c q _ := by cases q <;> rfl
  amt_wdst c q := by
    cases q with
    | send k a => exact A.credit a
    | pass j a => rfl
    | recv k a => rfl
    | keep a => rfl
  amt_land q r h := by
    cases q with
    | send k a => cases h; rfl
    | pass j a => cases h; rfl
    | recv k a => cases h
    | keep a => cases h
  sem_inj := A.sem_inj
  pay_storable := A.pay_storable m
  routes := A.routes
  enter_keep c q hi hl := by
    cases q with
    | send k a => cases hl
    | pass j a => cases hl
    | recv k a => cases hi
    | keep a =>
      refine ⟨keepShare, m (A.inLoc a c), m (A.outLoc a c), ?_, ?_⟩
      · rw [src_keep, dst_keep]
        exact (sep_elim_left : iprop(A.hold m c (.keep a) ∗ emp) ⊢ A.hold m c (.keep a))
      · rw [src_keep, landed_keep]
        exact sep_comm.1
  enter_send c q r hi hl := by
    cases q with
    | keep a => cases hl
    | recv k a => cases hi
    | send k a =>
      cases hl
      rw [peer_send]
      refine ⟨sendShare k, m (A.inLoc a c), m (A.outLoc a (peer (near k) c)), ?_, ?_, ?_⟩
      · rw [src_send, dst_send]
        exact (sep_elim_left : iprop(A.hold m c (.send k a) ∗ emp) ⊢ A.hold m c (.send k a))
      · rw [src_send]
        exact BI.Entails.refl _
      · rw [landed_send]
        unfold pay
        dsimp only
        rw [block_near]
    | pass j a =>
      cases hl
      rw [peer_pass]
      refine ⟨fullShare, A.outBuf m a c, m (A.outLoc a (peer (far j) c)), ?_, ?_, ?_⟩
      · rw [src_pass, dst_pass]
        exact sep_comm.1
      · rw [src_pass]
        exact BI.Entails.refl _
      · rw [landed_pass]
        unfold pay
        dsimp only
        rw [block_far]

end Arrays

end Spread

end
-- ==== Proof.SpreadDeal.lean ====
/-
The memory of the gather split among the copies and put together again.
-/
module

public import proofs.«01_k».proof.Proof.Spread

@[expose] public section

noncomputable section

namespace Spread

open Idealize.ShloMosaic Idealize.ShloMosaic.TcCoe Idealize.ShloMosaic.ValueIdx
open Idealize.SL Idealize.SL.RA
open Idealize.SL.BI (sProp bigSep bigSep_sep' bigSep_mono bigSep_congr bigSep_univ_prod bigSep_map bigSep_univ_equiv bigSep_univ_comm)
open scoped Idealize.SL.BI
open Idealize.SL.BI.BIBase Idealize.SL.BI.Laws Idealize.SL.ProofMode Idealize.SL.Sem
open Wires

set_option Elab.async false

variable {τ : Topo} {sig : RefSig} {n : ℕ} (A : Arrays τ sig n) {Val : EltTy → Type}

local notation "𝕄" => MT 8 τ sig Unit Val ℕ (UU 8 τ sig) ℕ

variable (m : (ℓ : Loc 8 τ sig) → Buf Val ℓ)

namespace Arrays

def mates : Mates A.wiring first where
  mate :=
    { toFun := fun
        | .send k a => .recv (near k) a | .pass j a => .recv (far j) a | .keep a => .keep a
        | .recv k a => if h : k.val < 4 then .send ⟨k.val, h⟩ a else .pass ⟨k.val - 4, by omega⟩ a
      invFun := fun
        | .send k a => .recv (near k) a | .pass j a => .recv (far j) a | .keep a => .keep a
        | .recv k a => if h : k.val < 4 then .send ⟨k.val, h⟩ a else .pass ⟨k.val - 4, by omega⟩ a
      left_inv := fun q => by
        cases q with
        | recv k a => fin_cases k <;> rfl
        | send k a => fin_cases k <;> rfl
        | pass j a => fin_cases j <;> rfl
        | keep a => rfl
      right_inv := fun q => by
        cases q with
        | recv k a => fin_cases k <;> rfl
        | send k a => fin_cases k <;> rfl
        | pass j a => fin_cases j <;> rfl
        | keep a => rfl }
  begins q := by cases q <;> simp [first]
  to_recv q r hq h := by
    cases q with
    | send k a => cases h; exact ⟨rfl, rfl⟩
    | pass j a => cases h; exact ⟨rfl, rfl⟩
    | recv k a => cases h
    | keep a => cases h
  to_send q h := by
    cases q with
    | send k a => exact ⟨rfl, rfl⟩
    | pass j a => exact ⟨rfl, rfl⟩
    | recv k a => fin_cases k <;> cases h
    | keep a => cases h
  back q := by
    cases q with
    | recv k a => fin_cases k <;> rfl
    | send k a => fin_cases k <;> rfl
    | pass j a => fin_cases j <;> rfl
    | keep a => rfl
  peer_peer q c := by
    cases q with
    | send k a => rw [peer_send, peer_send, Spread.peer_peer]
    | pass j a => rw [peer_pass, peer_pass, Spread.peer_peer]
    | recv k a => rfl
    | keep a => rfl

/-! ## The arrays as their copies' parts -/

theorem bigSep_cells (Φ : Cell n → sProp 𝕄) :
    bigSep Finset.univ Φ = bigSep Finset.univ fun a : Fin n =>
      iprop(((bigSep Finset.univ fun k : Fin 4 => Φ (.send k a)) ∗ bigSep Finset.univ fun j : Fin 3 => Φ (.pass j a))
        ∗ (bigSep Finset.univ fun k : Fin 7 => Φ (.recv k a)) ∗ Φ (.keep a)) := by
  rw [bigSep_univ_equiv (cells n).symm Φ, bigSep_univ_prod]
  refine bigSep_congr fun a _ => ?_
  rw [BI.bigSep_univ_sum, BI.bigSep_univ_sum, BI.bigSep_univ_sum]
  rw [BI.bigSep_univ_eq_bigSepL [()] (by decide) (by decide) (fun b : Unit => Φ ((cells n).symm (a, .inr (.inr b))))]
  rfl

theorem four (Φ : Fin 4 → sProp 𝕄) : bigSep Finset.univ Φ = iprop(Φ 0 ∗ Φ 1 ∗ Φ 2 ∗ Φ 3) :=
  BI.bigSep_univ_eq_bigSepL [0, 1, 2, 3] (by decide) (by decide) Φ
theorem three (Φ : Fin 3 → sProp 𝕄) : bigSep Finset.univ Φ = iprop(Φ 0 ∗ Φ 1 ∗ Φ 2) :=
  BI.bigSep_univ_eq_bigSepL [0, 1, 2] (by decide) (by decide) Φ

theorem near_far (Φ : Fin 7 → sProp 𝕄) :
    bigSep Finset.univ Φ = iprop((bigSep Finset.univ fun k => Φ (near k)) ∗ bigSep Finset.univ fun j => Φ (far j)) := by
  rw [bigSep_univ_equiv (finSumFinEquiv (m := 4) (n := 3)) Φ, BI.bigSep_univ_sum]
  rfl

/-- The eight slabs are the device's own and the seven that it receives. -/
theorem slabs_blocks (c : Dev 8) (Φ : Fin 8 → sProp 𝕄) :
    bigSep Finset.univ Φ = iprop(Φ c ∗ bigSep Finset.univ fun k : Fin 7 => Φ (block k c)) := by
  have h : ∀ c : Dev 8, (Finset.univ.erase c : Finset (Fin 8)) = Finset.univ.map ⟨fun k : Fin 7 => block k c, block_inj c⟩ := by decide +kernel
  rw [BI.bigSep_univ_split c, h c, bigSep_map]
  rfl

abbrev inWhole (c : Dev 8) (a : Fin n) : sProp 𝕄 := A.inPart m fullShare c a
abbrev outWhole (f : (a : Fin n) → (c : Dev 8) → Buf Val (A.outLoc a c)) (c : Dev 8) (a : Fin n) : sProp 𝕄 := iprop(A.outLoc a c ↦{fullShare} f a c)

theorem in_parts (c : Dev 8) (a : Fin n) :
    A.inWhole m c a = iprop(A.inPart m keepShare c a ∗ bigSep Finset.univ fun k : Fin 4 => A.inPart m (sendShare k) c a) := by
  unfold inWhole inPart
  rw [BI.Entails.antisymm (pointsTo_share (PosShare.mem_left_op_right fullShare)).1 (pointsTo_share (PosShare.mem_left_op_right fullShare)).2,
    ShareLeaves.pointsTo_leaves Finset.univ (m (A.inLoc a c)) 2 fullShare.right]
  rfl

theorem out_slabs (f : (a : Fin n) → (c : Dev 8) → Buf Val (A.outLoc a c)) (c : Dev 8) (a : Fin n) :
    A.outWhole f c a = iprop(A.outSlab f c a c ∗ (bigSep Finset.univ fun k : Fin 4 => A.outSlab f c a (block (near k) c))
      ∗ bigSep Finset.univ fun j : Fin 3 => A.outSlab f c a (block (far j) c)) := by
  rw [← near_far fun k => A.outSlab f c a (block k c)]
  exact (whole_slabs (R := A.rows a) (C := A.cols a) (A.outs_whole a) c (f a c)).trans (slabs_blocks c _)

/-- Slabs of all devices, told by who writes them. -/
theorem written (k : Fin 7) (a : Fin n) (f : (a : Fin n) → (c : Dev 8) → Buf Val (A.outLoc a c)) :
    (bigSep Finset.univ fun c : Dev 8 => (A.outSlab f c a (block k c) : sProp 𝕄))
      = bigSep Finset.univ fun c : Dev 8 => A.outSlab f (peer k c) a (block k (peer k c)) :=
  bigSep_univ_equiv (⟨peer k, peer k, peer_peer k, peer_peer k⟩ : Dev 8 ≃ Dev 8) _

/-- All devices' arrays, dealt to the copies. -/
theorem deal :
    (bigSep Finset.univ fun c : Dev 8 => iprop((bigSep Finset.univ (A.inWhole m c)) ∗ bigSep Finset.univ (A.outWhole (A.old m) c)))
      ⊢ (bigSep Finset.univ fun c : Dev 8 => bigSep Finset.univ (A.hold m c) : sProp 𝕄) := by
  have h (a : Fin n) : (bigSep Finset.univ fun c : Dev 8 => iprop(A.inWhole m c a ∗ A.outWhole (A.old m) c a) : sProp 𝕄)
      ⊢ bigSep Finset.univ fun c : Dev 8 => iprop(((bigSep Finset.univ fun k : Fin 4 => A.hold m c (.send k a)) ∗ bigSep Finset.univ fun j : Fin 3 => A.hold m c (.pass j a))
        ∗ (bigSep Finset.univ fun k : Fin 7 => A.hold m c (.recv k a)) ∗ A.hold m c (.keep a)) := by
    have hn : (bigSep Finset.univ fun c : Dev 8 => bigSep Finset.univ fun k : Fin 4 => (A.outSlab (A.old m) c a (block (near k) c) : sProp 𝕄))
        = bigSep Finset.univ fun c : Dev 8 => bigSep Finset.univ fun k : Fin 4 => A.outSlab (A.old m) (peer (near k) c) a c := by
      rw [bigSep_univ_comm, bigSep_congr fun k _ => A.written (near k) a (A.old m), bigSep_univ_comm]
      exact bigSep_congr fun c _ => bigSep_congr fun k _ => by rw [block_near]
    have hf : (bigSep Finset.univ fun c : Dev 8 => bigSep Finset.univ fun j : Fin 3 => (A.outSlab (A.old m) c a (block (far j) c) : sProp 𝕄))
        = bigSep Finset.univ fun c : Dev 8 => bigSep Finset.univ fun j : Fin 3 => A.outSlab (A.old m) (peer (far j) c) a (block (relay j) c) := by
      rw [bigSep_univ_comm, bigSep_congr fun j _ => A.written (far j) a (A.old m), bigSep_univ_comm]
      exact bigSep_congr fun c _ => bigSep_congr fun j _ => by rw [block_far]
    rw [bigSep_congr fun c _ => (congrArg₂ (fun X Y : sProp 𝕄 => iprop(X ∗ Y)) (A.in_parts m c a) (A.out_slabs (A.old m) c a)),
      bigSep_sep', bigSep_sep', bigSep_sep', bigSep_sep', hn, hf, ← bigSep_sep', ← bigSep_sep', ← bigSep_sep', ← bigSep_sep']
    refine bigSep_mono fun c _ => ?_
    have h1 : iprop((bigSep Finset.univ fun k : Fin 4 => A.inPart m (sendShare k) c a) ∗ bigSep Finset.univ fun k : Fin 4 => A.outSlab (A.old m) (peer (near k) c) a c)
        ⊢ (bigSep Finset.univ fun k : Fin 4 => A.hold m c (.send k a) : sProp 𝕄) := by
      rw [← bigSep_sep']; exact BI.Entails.refl _
    have h2 : (bigSep Finset.univ fun j : Fin 3 => A.outSlab (A.old m) (peer (far j) c) a (block (relay j) c) : sProp 𝕄)
        ⊢ bigSep Finset.univ fun j : Fin 3 => A.hold m c (.pass j a) := BI.Entails.refl _
    have h3 : (iprop(emp) : sProp 𝕄) ⊢ bigSep Finset.univ fun k : Fin 7 => A.hold m c (.recv k a) := by
      show _ ⊢ (bigSep Finset.univ fun k : Fin 7 => (BI.emp : sProp 𝕄))
      rw [BI.bigSep_emp_const]
      exact BI.Entails.refl _
    have h4 : iprop(A.inPart m keepShare c a ∗ A.outSlab (A.old m) c a c) ⊢ (A.hold m c (.keep a) : sProp 𝕄) := BI.Entails.refl _
    show iprop((A.inPart m keepShare c a ∗ bigSep Finset.univ fun k : Fin 4 => A.inPart m (sendShare k) c a)
        ∗ A.outSlab (A.old m) c a c ∗ (bigSep Finset.univ fun k : Fin 4 => A.outSlab (A.old m) (peer (near k) c) a c)
          ∗ bigSep Finset.univ fun j : Fin 3 => A.outSlab (A.old m) (peer (far j) c) a (block (relay j) c)) ⊢ _
    iintro ⟨⟨H1, H2⟩, H3, H4, H5⟩
    isplitl [H2 H4 H5]
    · isplitl [H2 H4]
      · iapply h1; isplitl [H2] <;> iassumption
      · iapply h2; iexact H5
    isplitr [H1 H3]
    · iapply h3; iempintro
    · iapply h4; isplitl [H1] <;> iassumption
  rw [bigSep_congr fun c _ => (bigSep_sep' (s := Finset.univ) (Φ := A.inWhole m c) (Ψ := A.outWhole (A.old m) c)).symm,
    bigSep_congr fun c _ => bigSep_cells (A.hold m c), bigSep_univ_comm]
  rw [bigSep_univ_comm (fun (c : Dev 8) (a : Fin n) => iprop(((bigSep Finset.univ fun k : Fin 4 => A.hold m c (.send k a)) ∗ bigSep Finset.univ fun j : Fin 3 => A.hold m c (.pass j a))
        ∗ (bigSep Finset.univ fun k : Fin 7 => A.hold m c (.recv k a)) ∗ A.hold m c (.keep a)))]
  exact bigSep_mono fun a _ => h a

/-- What the copies return is the arrays whole again. -/
theorem collect (c : Dev 8) :
    (A.plan m).paid c ⊢ (iprop((bigSep Finset.univ (A.inWhole m c)) ∗ bigSep Finset.univ (A.outWhole (A.outBuf m) c)) : sProp 𝕄) := by
  unfold Plan.paid
  rw [bigSep_cells, ← bigSep_sep']
  refine bigSep_mono fun a _ => ?_
  have done (q : Cell n) (h : final q = .done) : (if (A.plan m).final q = .done then (A.plan m).pay c q else iprop(emp)) = A.pay m c q := if_pos h
  have spent (q : Cell n) (h : final q = .spent) : (if (A.plan m).final q = .done then (A.plan m).pay c q else iprop(emp)) = (iprop(emp) : sProp 𝕄) :=
    if_neg (by show final q ≠ .done; rw [h]; decide)
  rw [near_far, bigSep_congr fun k _ => done (.send k a) rfl, bigSep_congr fun j _ => done (.pass j a) rfl,
    bigSep_congr fun j _ => done (.recv (far j) a) (by fin_cases j <;> rfl), done (.keep a) rfl, four, three, four,
    done (.recv (near 0) a) rfl, spent (.recv (near 1) a) rfl, spent (.recv (near 2) a) rfl, spent (.recv (near 3) a) rfl,
    in_parts, out_slabs, four, four]
  show iprop(((A.inPart m (sendShare 0) c a ∗ A.inPart m (sendShare 1) c a ∗ A.inPart m (sendShare 2) c a ∗ A.inPart m (sendShare 3) c a)
      ∗ A.outSlab (A.outBuf m) c a (block 1 c) ∗ A.outSlab (A.outBuf m) c a (block 2 c) ∗ A.outSlab (A.outBuf m) c a (block 3 c))
    ∗ ((A.outSlab (A.outBuf m) c a (block 0 c) ∗ emp ∗ emp ∗ emp) ∗ bigSep Finset.univ fun j : Fin 3 => A.outSlab (A.outBuf m) c a (block (far j) c))
    ∗ A.inPart m keepShare c a ∗ A.outSlab (A.outBuf m) c a c)
    ⊢ iprop((A.inPart m keepShare c a ∗ A.inPart m (sendShare 0) c a ∗ A.inPart m (sendShare 1) c a ∗ A.inPart m (sendShare 2) c a ∗ A.inPart m (sendShare 3) c a)
      ∗ A.outSlab (A.outBuf m) c a c ∗ (A.outSlab (A.outBuf m) c a (block 0 c) ∗ A.outSlab (A.outBuf m) c a (block 1 c) ∗ A.outSlab (A.outBuf m) c a (block 2 c) ∗ A.outSlab (A.outBuf m) c a (block 3 c))
      ∗ bigSep Finset.univ fun j : Fin 3 => A.outSlab (A.outBuf m) c a (block (far j) c))
  iintro ⟨⟨HI, H1, H2, H3⟩, ⟨⟨H0, -, -, -⟩, HF⟩, HK, HO⟩
  isplitl [HI HK]
  · isplitl [HK] <;> iassumption
  isplitl [HO]; · iexact HO
  isplitl [H0 H1 H2 H3]
  · isplitl [H0]; · iexact H0
    isplitl [H1]; · iexact H1
    isplitl [H2] <;> iassumption
  iexact HF

/-! ## The end -/

theorem ends_over (q : Cell n) : (A.plan m).final q = .done ∨ (A.plan m).final q = .spent := by
  show final q = .done ∨ final q = .spent
  unfold final
  split
  · split
    · exact .inr rfl
    · exact .inl rfl
  · exact .inl rfl

/-- What a device's memory holds at the end. -/
def Ends (c : Dev 8) (s : MemSt 8 τ sig Val) : Prop :=
  (∀ a, s.mem (A.inLoc a c) = m (A.inLoc a c)) ∧ ∀ a, s.mem (A.outLoc a c) = A.outBuf m a c

/-- Whole arrays say what the memory holds. -/
theorem read_all (s : Phys 8 τ sig Val) (loc : Fin n → Loc 8 τ sig) (f : (a : Fin n) → Buf Val (loc a)) (S : Finset (Fin n)) :
    (iprop((bigSep S fun a => (iprop(loc a ↦{fullShare} f a) : sProp 𝕄)) ∗ SI s) : sProp 𝕄) ⊢ iprop(⌜∀ a ∈ S, s.mem.mem (loc a) = f a⌝ ∗ SI s) := by
  induction S using Finset.induction_on with
  | empty =>
    iintro ⟨-, HSI⟩
    isplitr
    · ipureintro; exact fun a h => absurd h (Finset.notMem_empty a)
    · iexact HSI
  | insert a S ha ih =>
    have e : (bigSep (insert a S) fun a => (iprop(loc a ↦{fullShare} f a) : sProp 𝕄))
        = iprop((loc a ↦{fullShare} f a) ∗ bigSep S fun a => iprop(loc a ↦{fullShare} f a)) := BI.bigSep_insert ha
    rw [e]
    iintro ⟨⟨H, HS⟩, HSI⟩
    icombine HSI H gives %h
    ihave HR := ih $$ [HS HSI]
    · isplitl [HS] <;> iassumption
    icases HR with ⟨%hS, HSI⟩
    isplitr
    · ipureintro
      intro b hb
      rcases Finset.mem_insert.mp hb with rfl | hb
      · exact Buf.eq_of_forall_mem_univ h
      · exact hS b hb
    · iexact HSI

theorem read_ends (c : Dev 8) (s : Phys 8 τ sig Val) :
    (iprop(((bigSep Finset.univ (A.inWhole m c)) ∗ bigSep Finset.univ (A.outWhole (A.outBuf m) c)) ∗ SI s) : sProp 𝕄)
      ⊢ |={Set.univ}=> iprop(⌜A.Ends m c s.mem⌝ ∗ SI s) := by
  have hi := read_all s (fun a => A.inLoc a c) (fun a => m (A.inLoc a c)) Finset.univ
  have ho := read_all s (fun a => A.outLoc a c) (fun a => A.outBuf m a c) Finset.univ
  iintro ⟨⟨HI, HO⟩, HSI⟩
  ihave H := hi $$ [HI HSI]
  · isplitl [HI] <;> iassumption
  icases H with ⟨%ei, HSI⟩
  ihave H := ho $$ [HO HSI]
  · isplitl [HO] <;> iassumption
  icases H with ⟨%eo, HSI⟩
  imodintro
  isplitr
  · ipureintro
    exact ⟨fun a => ei a (Finset.mem_univ a), fun a => eo a (Finset.mem_univ a)⟩
  · iexact HSI

end Arrays

end Spread

end
-- ==== Proof.WeightsScript.lean ====
/-
The gather of the weights: its six arrays, the offsets and peers the kernel computes, and its body as
a list of instructions.
-/
module

public import proofs.«01_k».proof.Proof.SpreadDeal
public import proofs.«01_k».proof.Proof.Gen.GatherIdeal
public import proofs.«01_k».proof.Proof.Gen.GatherIdeal.Launch
public import proofs.«01_k».proof.Proof.Gen.GatherIdeal.Skeleton

@[expose] public section

noncomputable section

namespace Weights

open Cert.GatherIdeal Cert.GatherIdeal.Gen
open Idealize.ShloMosaic Idealize.ShloMosaic.TcCoe
open Wires Spread

variable {F : FTy → Type} [FloatOps F]

def ownOff (a : Fin 6) (c : Dev nD) : Fin 3 → ℕ :=
  (![k0_off1 c, k0_off2 c, k0_off3 c, k0_off4 c, k0_off5 c, k0_off6 c] : Fin 6 → Fin 3 → ℕ) a

def recvOff (k : Fin 7) (a : Fin 6) (c : Dev nD) : Fin 3 → ℕ :=
  (![![k0_off25 c, k0_off29 c, k0_off33 c, k0_off37 c, k0_off41 c, k0_off45 c],
    ![k0_off7 c, k0_off8 c, k0_off9 c, k0_off10 c, k0_off11 c, k0_off12 c],
    ![k0_off13 c, k0_off14 c, k0_off15 c, k0_off16 c, k0_off17 c, k0_off18 c],
    ![k0_off19 c, k0_off20 c, k0_off21 c, k0_off22 c, k0_off23 c, k0_off24 c],
    ![k0_off26 c, k0_off30 c, k0_off34 c, k0_off38 c, k0_off42 c, k0_off46 c],
    ![k0_off27 c, k0_off31 c, k0_off35 c, k0_off39 c, k0_off43 c, k0_off47 c],
    ![k0_off28 c, k0_off32 c, k0_off36 c, k0_off40 c, k0_off44 c, k0_off48 c]] : Fin 7 → Fin 6 → Fin 3 → ℕ) k a

def sendNo (k : Fin 4) (a : Fin 6) (c : Dev nD) : ℕ :=
  (![![k0_dev1 c, k0_dev2 c, k0_dev3 c, k0_dev4 c], ![k0_dev5 c, k0_dev6 c, k0_dev7 c, k0_dev8 c],
    ![k0_dev9 c, k0_dev10 c, k0_dev11 c, k0_dev12 c], ![k0_dev13 c, k0_dev14 c, k0_dev15 c, k0_dev16 c],
    ![k0_dev17 c, k0_dev18 c, k0_dev19 c, k0_dev20 c], ![k0_dev21 c, k0_dev22 c, k0_dev23 c, k0_dev24 c]] : Fin 6 → Fin 4 → ℕ) a k

def passNo (j : Fin 3) (a : Fin 6) (c : Dev nD) : ℕ :=
  (![![k0_dev25 c, k0_dev26 c, k0_dev27 c, k0_dev28 c, k0_dev29 c, k0_dev30 c],
    ![k0_dev31 c, k0_dev32 c, k0_dev33 c, k0_dev34 c, k0_dev35 c, k0_dev36 c],
    ![k0_dev37 c, k0_dev38 c, k0_dev39 c, k0_dev40 c, k0_dev41 c, k0_dev42 c]] : Fin 3 → Fin 6 → ℕ) j a

def rows : Fin 6 → ℕ := ![1024, 128, 1024, 352, 4, 3]
def cols : Fin 6 → ℕ := ![449, 1024, 704, 1024, 192, 704]

/-- The element types: four arrays of bf16, two of f32. -/
def elt : Fin 6 → EltTy := ![.bf16, .bf16, .bf16, .bf16, .f32, .f32]

def ins : (a : Fin 6) → Memref sig .tc .hbm (Mat (rows a) (cols a)) (elt a)
  | 0 => Memref.whole main_arg0 | 1 => Memref.whole main_arg1 | 2 => Memref.whole main_arg2
  | 3 => Memref.whole main_arg3 | 4 => Memref.whole main_arg4 | 5 => Memref.whole main_arg5

def outs : (a : Fin 6) → Memref sig .tc .hbm (Slabs (rows a) (cols a)) (elt a)
  | 0 => Memref.whole main_v1_0 | 1 => Memref.whole main_v1_1 | 2 => Memref.whole main_v1_2
  | 3 => Memref.whole main_v1_3 | 4 => Memref.whole main_v1_4 | 5 => Memref.whole main_v1_5

theorem sem_inb2 (a : Fin 6) (k : Fin 7) : ∀ i, (![a.val, k.val] : Fin 2 → ℕ) i + S1x1.size i ≤ S6x7.size i := by
  revert a k; decide
theorem sem_inb1 (a : Fin 6) : ∀ i, (![a.val] : Fin 1 → ℕ) i + S1.size i ≤ S6.size i := by
  revert a; decide

def sendSem (k : Fin 7) (a : Fin 6) : DmaSem sig :=
  ((cc0_scratch0.slice (Rect.unit (s := S6x7) ![a.val, k.val] S1x1.size (sem_inb2 a k))).squeeze S_ squeezes_S1x1_S_).sem
def recvSem (k : Fin 7) (a : Fin 6) : DmaSem sig :=
  ((cc0_scratch1.slice (Rect.unit (s := S6x7) ![a.val, k.val] S1x1.size (sem_inb2 a k))).squeeze S_ squeezes_S1x1_S_).sem
def keepSem (a : Fin 6) : DmaSem sig :=
  ((cc0_scratch2.slice (Rect.unit (s := S6) ![a.val] S1.size (sem_inb1 a))).squeeze S_ squeezes_S1_S_).sem

def sem : Cell 6 → DmaSem sig
  | .send k a => sendSem (near k) a | .pass j a => sendSem (far j) a | .recv k a => recvSem k a | .keep a => keepSem a

theorem sem_inj : Function.Injective sem := by
  have h : ∀ q q' : Cell 6, sem q = sem q' → q = q' := by decide +kernel
  exact fun q q' => h q q'

def arrays : Arrays τ sig 6 where
  rows := rows
  cols := cols
  elt := elt
  ins := ins
  outs := outs
  sem := sem
  ownOff := ownOff
  recvOff := recvOff
  sendNo := sendNo
  passNo := passNo
  ins_whole
    | 0 => Memref.isWhole_whole _ | 1 => Memref.isWhole_whole _ | 2 => Memref.isWhole_whole _
    | 3 => Memref.isWhole_whole _ | 4 => Memref.isWhole_whole _ | 5 => Memref.isWhole_whole _
  outs_whole
    | 0 => Memref.isWhole_whole _ | 1 => Memref.isWhole_whole _ | 2 => Memref.isWhole_whole _
    | 3 => Memref.isWhole_whole _ | 4 => Memref.isWhole_whole _ | 5 => Memref.isWhole_whole _
  squeezes := by decide
  words := by decide +kernel
  filled := by decide +kernel
  sem_inj := sem_inj
  own_eq := by decide +kernel
  recv_eq := by decide +kernel
  send_eq := by decide +kernel
  pass_eq := by decide +kernel
  credit := by decide +kernel
  routes := by decide

set_option maxRecDepth 100000 in
theorem body_eq : Cert.GatherIdeal.cc0_gather_weights (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2
    = .op .deviceId fun d0 => arrays.wiring.runs (Elt F) Λ₀ d0 (script 6) := by
  chain_rfl

end Weights

end
-- ==== Proof.WeightsRun.lean ====
/-
The run of the gather of the weights, for any float values.
-/
module

public import proofs.«01_k».proof.Proof.WeightsScript
public import proofs.«01_k».proof.Proof.Gen.GatherIdeal.Launch

@[expose] public section

noncomputable section

namespace Weights

open Cert.GatherIdeal Cert.GatherIdeal.Gen
open Idealize.ShloMosaic Idealize.ShloMosaic.TcCoe Idealize.ShloMosaic.ValueIdx
open Idealize.SL Idealize.SL.RA
open Idealize.SL.BI (sProp bigSep bigSep_mono)
open scoped Idealize.SL.BI
open Idealize.SL.BI.BIBase Idealize.SL.BI.Laws Idealize.SL.ProofMode Idealize.SL.Sem
open Idealize.ShloMosaic.Pipeline
open Wires Spread Spread.Arrays

set_option Elab.async false

variable {F : FTy → Type} [FloatOps F]

local notation "𝕄" => MT nD τ sig Unit (Elt F) ℕ (UU nD τ sig) ℕ

variable (m : (ℓ : Loc nD τ sig) → Buf (Elt F) ℓ)

theorem six (Φ : Fin 6 → sProp 𝕄) : bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ

/-- A device's arrays at launch. -/
theorem launch_arrays (c : Dev nD) :
    (unscopedBufs c (fun b => m ((c : Thread nD τ).loc b)) : sProp 𝕄)
      ⊢ iprop((bigSep Finset.univ (arrays.inWhole m c)) ∗ bigSep Finset.univ (arrays.outWhole (arrays.old m) c)) := by
  have h : (unscopedBufs c (fun b => m ((c : Thread nD τ).loc b)) : sProp 𝕄) = unscopedRest (cfg0.spec) c (fun b => m ((c : Thread nD τ).loc b)) := by
    unfold unscopedBufs unscopedRest
    rw [show (Finset.univ : Finset (Fin cfg0.W)) = ∅ from rfl, Finset.image_empty, Finset.sdiff_empty]
  rw [h, unscopedRest0_eq, six, six]
  show iprop(arrays.inWhole m c 0 ∗ arrays.inWhole m c 1 ∗ arrays.inWhole m c 2 ∗ arrays.inWhole m c 3 ∗ arrays.inWhole m c 4 ∗ arrays.inWhole m c 5
      ∗ arrays.outWhole (arrays.old m) c 0 ∗ arrays.outWhole (arrays.old m) c 1 ∗ arrays.outWhole (arrays.old m) c 2
      ∗ arrays.outWhole (arrays.old m) c 3 ∗ arrays.outWhole (arrays.old m) c 4 ∗ arrays.outWhole (arrays.old m) c 5) ⊢ _
  iintro ⟨H0, H1, H2, H3, H4, H5, HR⟩
  isplitr [HR]
  · isplitl [H0]; · iexact H0
    isplitl [H1]; · iexact H1
    isplitl [H2]; · iexact H2
    isplitl [H3]; · iexact H3
    isplitl [H4] <;> iassumption
  iexact HR

theorem own_facts : OwnSemFacts (cfg0.spec) (fun k : Cell 6 => SemLoc.dma (arrays.wiring.sem k)) := by decide +kernel

theorem script_ok : check arrays.wiring (arrays.plan (Val := Elt F) m).lev (arrays.plan m).final (arrays.plan m).first (script 6) = true := by
  show check arrays.wiring lev final first (script 6) = true
  decide +kernel

set_option maxRecDepth 100000 in
theorem table_eq (x : Fin grid0.N × ((w : Fin 0) → Fin (win0 w).nbuf)) :
    defs₀ (F := F) .tc 0 x = .op .deviceId fun d0 => arrays.wiring.runs (Elt F) Λ₀ d0 (script 6) := by
  refine Eq.trans ?_ body_eq
  rfl

theorem body_runs (c : Dev nD) (x : Fin grid0.N × ((w : Fin 0) → Fin (win0 w).nbuf)) (Q : sProp 𝕄) :
    wp frame (wpE defs₀ Variants.none (c : Thread nD τ) none) Set.univ (.op .deviceId fun d0 => arrays.wiring.runs (Elt F) Λ₀ d0 (script 6)) (fun _ => Q)
      ⊢ wp frame (wpE defs₀ Variants.none (c : Thread nD τ) none) Set.univ (defs₀ (F := F) .tc 0 x) fun _ => Q := by
  rw [table_eq]

set_option maxRecDepth 100000 in
set_option maxHeartbeats 2000000 in
/-- From any memory with zero counters every weakly fair execution terminates with each device's results the
    stacked blocks, its arguments unchanged and every counter at zero. -/
theorem run_main (g : Dev nD → PrngReg) :
    θ_run defs (onTc (τ := τ) (main (F := F))) ⟨m, fun _ => 0, g⟩ fun r => (∀ c, arrays.Ends m c r.2) ∧ r.2.sem = fun _ => 0 := by
  refine (θ_run defs _ _).mono (fun r h => ⟨h.1, sem_eq_zero_of_scoped (by decide) h.2⟩)
    (Plan.run (arrays.plan m) arrays.mates (fun p => (cfgs p).toPCfg) (fun _ p => (cfgs p).toPCfg_adm) cellOf_inj defs₀ Variants.none (0 : Fin 1)
      (hW := ⟨fun w => w.elim0⟩) (hK := ⟨fun k => k.elim0⟩) (hN := fun _ => N_0) (hw := winFacts0.to₀) (ho := own_facts)
      (hfinal := arrays.ends_over m) (script := script 6) (hcheck := script_ok m)
      (hbody := fun c t Q => body_runs c ((pinD (fun p => (cfgs p).toPCfg) (fun _ p => (cfgs p).toPCfg_adm) c 0).bodyArgs t ((pinD (fun p => (cfgs p).toPCfg) (fun _ p => (cfgs p).toPCfg_adm) c 0).slots t)) Q)
      (m := m) (g := g) (rest := fun _ => iprop(emp))
      (hmem := ?_) (tail := fun _ _ => .ret ⟨⟩) (main := main) (hmain := fun _ => rfl)
      (Tₙ := fun c => iprop((bigSep Finset.univ (arrays.inWhole m c)) ∗ bigSep Finset.univ (arrays.outWhole (arrays.outBuf m) c)))
      (htail := fun c => ?_) (QY := arrays.Ends m) (hfin := arrays.read_ends m))
  · refine (bigSep_mono fun c _ => launch_arrays m c).trans ((arrays.deal m).trans (bigSep_mono fun c _ => ?_))
    exact (BI.equiv_iff.mp BI.sep_emp).ge
  · have h := arrays.collect m c
    rw [wp_ret]
    iintro ⟨Hb, Hp, -, -, -, Ho⟩
    ihave H := h $$ Hp
    imodintro
    isplitr [Ho]
    · isplitl [H] <;> iassumption
    iexact Ho

end Weights

end
-- ==== Proof.SmallScript.lean ====
/-
The gather of the gradients of the small parameters: one array, the offsets and peers the kernel computes,
and its body as a list of instructions.
-/
module

public import proofs.«01_k».proof.Proof.SpreadDeal
public import proofs.«01_k».proof.Proof.Gen.GatherSmallIdeal
public import proofs.«01_k».proof.Proof.Gen.GatherSmallIdeal.Launch
public import proofs.«01_k».proof.Proof.Gen.GatherSmallIdeal.Skeleton

@[expose] public section

noncomputable section

namespace Small

open Cert.GatherSmallIdeal Cert.GatherSmallIdeal.Gen
open Idealize.ShloMosaic Idealize.ShloMosaic.TcCoe
open Wires Spread

variable {F : FTy → Type} [FloatOps F]

def recvOff (k : Fin 7) (c : Dev nD) : Fin 3 → ℕ :=
  (![k0_off5 c, k0_off2 c, k0_off3 c, k0_off4 c, k0_off6 c, k0_off7 c, k0_off8 c] : Fin 7 → Fin 3 → ℕ) k
def sendNo (k : Fin 4) (c : Dev nD) : ℕ := (![k0_dev1 c, k0_dev2 c, k0_dev3 c, k0_dev4 c] : Fin 4 → ℕ) k
def passNo (j : Fin 3) (c : Dev nD) : ℕ := (![k0_dev5 c, k0_dev6 c, k0_dev7 c] : Fin 3 → ℕ) j

theorem sem_inb2 (k : Fin 7) : ∀ i, (![0, k.val] : Fin 2 → ℕ) i + S1x1.size i ≤ S1x7.size i := by
  revert k; decide
theorem sem_inb1 : ∀ i, (![0] : Fin 1 → ℕ) i + S1.size i ≤ S1.size i := by
  decide

def sendSem (k : Fin 7) : DmaSem sig :=
  ((cc0_scratch0.slice (Rect.unit (s := S1x7) ![0, k.val] S1x1.size (sem_inb2 k))).squeeze S_ squeezes_S1x1_S_).sem
def recvSem (k : Fin 7) : DmaSem sig :=
  ((cc0_scratch1.slice (Rect.unit (s := S1x7) ![0, k.val] S1x1.size (sem_inb2 k))).squeeze S_ squeezes_S1x1_S_).sem
def keepSem : DmaSem sig :=
  ((cc0_scratch2.slice (Rect.unit (s := S1) ![0] S1.size sem_inb1)).squeeze S_ squeezes_S1_S_).sem

def sem : Cell 1 → DmaSem sig
  | .send k _ => sendSem (near k) | .pass j _ => sendSem (far j) | .recv k _ => recvSem k | .keep _ => keepSem

theorem sem_inj : Function.Injective sem := by
  have h : ∀ q q' : Cell 1, sem q = sem q' → q = q' := by decide +kernel
  exact fun q q' => h q q'

def arrays : Arrays τ sig 1 where
  rows _ := 8
  cols _ := 1024
  elt _ := .f32
  ins _ := Memref.whole main_arg0
  outs _ := Memref.whole main_v1
  sem := sem
  ownOff _ c := k0_off1 c
  recvOff k _ c := recvOff k c
  sendNo k _ c := sendNo k c
  passNo j _ c := passNo j c
  ins_whole _ := Memref.isWhole_whole _
  outs_whole _ := Memref.isWhole_whole _
  squeezes := by decide
  words := by decide +kernel
  filled := by decide +kernel
  sem_inj := sem_inj
  own_eq := by decide +kernel
  recv_eq := by decide +kernel
  send_eq := by decide +kernel
  pass_eq := by decide +kernel
  credit := by decide +kernel
  routes := by decide

set_option maxRecDepth 100000 in
theorem body_eq : Cert.GatherSmallIdeal.cc0_gather_small (F := F) (Memref.whole main_arg0) (Memref.isWhole_whole _) (Memref.whole main_v1) (Memref.isWhole_whole _) cc0_scratch0 cc0_scratch1 cc0_scratch2
    = .op .deviceId fun d0 => arrays.wiring.runs (Elt F) Λ₀ d0 (script 1) := by
  chain_rfl

end Small

end
-- ==== Proof.SmallRun.lean ====
/-
The run of the gather of the gradients of the small parameters, for any float values.
-/
module

public import proofs.«01_k».proof.Proof.SmallScript
public import proofs.«01_k».proof.Proof.Gen.GatherSmallIdeal.Launch

@[expose] public section

noncomputable section

namespace Small

open Cert.GatherSmallIdeal Cert.GatherSmallIdeal.Gen
open Idealize.ShloMosaic Idealize.ShloMosaic.TcCoe Idealize.ShloMosaic.ValueIdx
open Idealize.SL Idealize.SL.RA
open Idealize.SL.BI (sProp bigSep bigSep_mono)
open scoped Idealize.SL.BI
open Idealize.SL.BI.BIBase Idealize.SL.BI.Laws Idealize.SL.ProofMode Idealize.SL.Sem
open Idealize.ShloMosaic.Pipeline
open Wires Spread Spread.Arrays

set_option Elab.async false

variable {F : FTy → Type} [FloatOps F]

local notation "𝕄" => MT nD τ sig Unit (Elt F) ℕ (UU nD τ sig) ℕ

variable (m : (ℓ : Loc nD τ sig) → Buf (Elt F) ℓ)

theorem one (Φ : Fin 1 → sProp 𝕄) : bigSep Finset.univ Φ = Φ 0 :=
  BI.bigSep_univ_eq_bigSepL [0] (by decide) (by decide) Φ

/-- A device's arrays at launch. -/
theorem launch_arrays (c : Dev nD) :
    (unscopedBufs c (fun b => m ((c : Thread nD τ).loc b)) : sProp 𝕄)
      ⊢ iprop((bigSep Finset.univ (arrays.inWhole m c)) ∗ bigSep Finset.univ (arrays.outWhole (arrays.old m) c)) := by
  have h : (unscopedBufs c (fun b => m ((c : Thread nD τ).loc b)) : sProp 𝕄) = unscopedRest (cfg0.spec) c (fun b => m ((c : Thread nD τ).loc b)) := by
    unfold unscopedBufs unscopedRest
    rw [show (Finset.univ : Finset (Fin cfg0.W)) = ∅ from rfl, Finset.image_empty, Finset.sdiff_empty]
  rw [h, unscopedRest0_eq, one, one]
  exact BI.Entails.refl _

theorem own_facts : OwnSemFacts (cfg0.spec) (fun k : Cell 1 => SemLoc.dma (arrays.wiring.sem k)) := by decide +kernel

theorem script_ok : check arrays.wiring (arrays.plan (Val := Elt F) m).lev (arrays.plan m).final (arrays.plan m).first (script 1) = true := by
  show check arrays.wiring lev final first (script 1) = true
  decide +kernel

set_option maxRecDepth 100000 in
theorem table_eq (x : Fin grid0.N × ((w : Fin 0) → Fin (win0 w).nbuf)) :
    defs₀ (F := F) .tc 0 x = .op .deviceId fun d0 => arrays.wiring.runs (Elt F) Λ₀ d0 (script 1) := by
  refine Eq.trans ?_ body_eq
  rfl

theorem body_runs (c : Dev nD) (x : Fin grid0.N × ((w : Fin 0) → Fin (win0 w).nbuf)) (Q : sProp 𝕄) :
    wp frame (wpE defs₀ Variants.none (c : Thread nD τ) none) Set.univ (.op .deviceId fun d0 => arrays.wiring.runs (Elt F) Λ₀ d0 (script 1)) (fun _ => Q)
      ⊢ wp frame (wpE defs₀ Variants.none (c : Thread nD τ) none) Set.univ (defs₀ (F := F) .tc 0 x) fun _ => Q := by
  rw [table_eq]

set_option maxRecDepth 100000 in
set_option maxHeartbeats 2000000 in
/-- From any memory with zero counters every weakly fair execution terminates with each device's results the
    stacked blocks, its arguments unchanged and every counter at zero. -/
theorem run_main (g : Dev nD → PrngReg) :
    θ_run defs (onTc (τ := τ) (main (F := F))) ⟨m, fun _ => 0, g⟩ fun r => (∀ c, arrays.Ends m c r.2) ∧ r.2.sem = fun _ => 0 := by
  refine (θ_run defs _ _).mono (fun r h => ⟨h.1, sem_eq_zero_of_scoped (by decide) h.2⟩)
    (Plan.run (arrays.plan m) arrays.mates (fun p => (cfgs p).toPCfg) (fun _ p => (cfgs p).toPCfg_adm) cellOf_inj defs₀ Variants.none (0 : Fin 1)
      (hW := ⟨fun w => w.elim0⟩) (hK := ⟨fun k => k.elim0⟩) (hN := fun _ => N_0) (hw := winFacts0.to₀) (ho := own_facts)
      (hfinal := arrays.ends_over m) (script := script 1) (hcheck := script_ok m)
      (hbody := fun c t Q => body_runs c ((pinD (fun p => (cfgs p).toPCfg) (fun _ p => (cfgs p).toPCfg_adm) c 0).bodyArgs t ((pinD (fun p => (cfgs p).toPCfg) (fun _ p => (cfgs p).toPCfg_adm) c 0).slots t)) Q)
      (m := m) (g := g) (rest := fun _ => iprop(emp))
      (hmem := ?_) (tail := fun _ _ => .ret ⟨⟩) (main := main) (hmain := fun _ => rfl)
      (Tₙ := fun c => iprop((bigSep Finset.univ (arrays.inWhole m c)) ∗ bigSep Finset.univ (arrays.outWhole (arrays.outBuf m) c)))
      (htail := fun c => ?_) (QY := arrays.Ends m) (hfin := arrays.read_ends m))
  · refine (bigSep_mono fun c _ => launch_arrays m c).trans ((arrays.deal m).trans (bigSep_mono fun c _ => ?_))
    exact (BI.equiv_iff.mp BI.sep_emp).ge
  · have h := arrays.collect m c
    rw [wp_ret]
    iintro ⟨Hb, Hp, -, -, -, Ho⟩
    ihave H := h $$ Hp
    imodintro
    isplitr [Ho]
    · isplitl [H] <;> iassumption
    iexact Ho

end Small

end
-- ==== Proof.SpreadValues.lean ====
/-
The stack of the devices' blocks of a matrix, from the matrix: cut into column blocks or into row blocks.
-/
module

public import proofs.«01_k».proof.Proof.Spread
public import Idealize.ShloMosaic.Lib.Layout
public import Idealize.ShloMosaic.Lib.ValueLayout

@[expose] public section

noncomputable section

namespace Spread

open Idealize.ShloMosaic Idealize.ShloMosaic.ValueIdx Wires

theorem cols_block {α : Type} {R C N : ℕ} (x : (Mat R N).Idx → α) (h1 : (Mat R N).ShapeCasts ⟨3, ![R, 8, C]⟩)
    (h2 : (⟨3, ![R, 8, C]⟩ : Shape).Transposes [1, 0, 2] (Slabs R C)) (H : Layout.Tiles (Mat R C) (Mat R N) 1 8) (d : Fin 8) (r : Fin R) (q : Fin C) :
    transpose (Slabs R C) [1, 0, 2] (shapeCast ⟨3, ![R, 8, C]⟩ x h1) h2 (ix3 d r q) = Layout.block (Mat R C) (Mat R N) 1 8 d x H (ix2 r q) := by
  have hN : N = 8 * C := H.size (1 : Fin 2)
  rw [transpose_apply _ _ h2 _ (ix3 r d q), shapeCast_apply _ h1 _ (H.idx d (ix2 r q))]
  · rfl
  · rw [Shape.rowMajor_val_three, Shape.rowMajor_val_two]
    show r.val * N + (d.val * C + q.val) = (r.val * 8 + d.val) * C + q.val
    rw [hN, Nat.add_mul, Nat.mul_assoc, Nat.add_assoc]
  · intro b
    fin_cases b <;> rfl

theorem rows_block {α : Type} {R C N : ℕ} (x : (Mat N C).Idx → α) (h1 : (Mat N C).ShapeCasts (Slabs R C))
    (H : Layout.Tiles (Mat R C) (Mat N C) 0 8) (d : Fin 8) (r : Fin R) (q : Fin C) :
    shapeCast (Slabs R C) x h1 (ix3 d r q) = Layout.block (Mat R C) (Mat N C) 0 8 d x H (ix2 r q) := by
  rw [shapeCast_apply _ h1 _ (H.idx d (ix2 r q))]
  · rfl
  · rw [Shape.rowMajor_val_three, Shape.rowMajor_val_two]
    rfl

variable {τ : Topo} {sig : RefSig} {n : ℕ} (A : Arrays τ sig n) {Val : EltTy → Type} (m : (ℓ : Loc 8 τ sig) → Buf Val ℓ)

namespace Arrays

theorem stacked_cols (a : Fin n) {N : ℕ} (x : (Mat (A.rows a) N).Idx → Val (A.elt a)) (h1 : (Mat (A.rows a) N).ShapeCasts ⟨3, ![A.rows a, 8, A.cols a]⟩)
    (h2 : (⟨3, ![A.rows a, 8, A.cols a]⟩ : Shape).Transposes [1, 0, 2] (Slabs (A.rows a) (A.cols a))) (H : Layout.Tiles (Mat (A.rows a) (A.cols a)) (Mat (A.rows a) N) 1 8)
    (hx : ∀ d : Dev 8, A.given m a d = Layout.block (Mat (A.rows a) (A.cols a)) (Mat (A.rows a) N) 1 8 d x H) :
    A.stacked m a = transpose (Slabs (A.rows a) (A.cols a)) [1, 0, 2] (shapeCast ⟨3, ![A.rows a, 8, A.cols a]⟩ x h1) h2 := by
  funext i
  rw [eq_ix3 i]
  exact (congrFun (hx (i 0)) _).trans (cols_block x h1 h2 H (i 0) (i 1) (i 2)).symm

theorem stacked_rows (a : Fin n) {N : ℕ} (x : (Mat N (A.cols a)).Idx → Val (A.elt a)) (h1 : (Mat N (A.cols a)).ShapeCasts (Slabs (A.rows a) (A.cols a)))
    (H : Layout.Tiles (Mat (A.rows a) (A.cols a)) (Mat N (A.cols a)) 0 8)
    (hx : ∀ d : Dev 8, A.given m a d = Layout.block (Mat (A.rows a) (A.cols a)) (Mat N (A.cols a)) 0 8 d x H) :
    A.stacked m a = shapeCast (Slabs (A.rows a) (A.cols a)) x h1 := by
  funext i
  rw [eq_ix3 i]
  exact (congrFun (hx (i 0)) _).trans (rows_block x h1 H (i 0) (i 1) (i 2)).symm

end Arrays

end Spread

end
-- ==== Proof.Adam.lean ====
/-
The AdamW update of one array, element by element, and the sum of the devices' gradients: what a tile of the
update call computes, and what the plain reference computes, each as the same function of an element.
-/
module

public import Idealize.ShloMosaic.Lib.ValueIdx
public import Idealize.ShloMosaic.Lib.IdealHost
public import Idealize.ShloMosaic.Lib.Pipeline.Value
public import Idealize.ShloMosaic.Lib.Pointwise

@[expose] public section

noncomputable section

namespace Cert.Adam

open Idealize.ShloMosaic
open scoped BigOperators

/-- The sum over the eight devices of their gradients of one array. -/
def total {a b : Nat} (x : (⟨3, ![8, a, b]⟩ : Shape).Idx → EReal) : FVec Ideal ⟨2, ![a, b]⟩ .f32 :=
  fun y => (∑ d : Fin 8, x (ix3 d (y 0) (y 1)) : EReal)

section

variable {ι : Type}

/-- The first moment after the step. -/
def stepM (g m : ι → Ideal .f32) : ι → Ideal .f32 := fun i =>
  FloatOps.addf (FloatOps.mulf (Scalar.ofBits .f32 0x3F666666#32) (m i)) (FloatOps.mulf (Scalar.ofBits .f32 0x3DCCCCCD#32) (g i))

/-- The second moment after the step. -/
def stepV (g v : ι → Ideal .f32) : ι → Ideal .f32 := fun i =>
  FloatOps.addf (FloatOps.mulf (Scalar.ofBits .f32 0x3F7FBE77#32) (v i))
    (FloatOps.mulf (Scalar.ofBits .f32 0x3A83126F#32) (FloatOps.mulf (g i) (g i)))

/-- The change of the weights, from the moments after the step. -/
def stepW (nm nv w : ι → Ideal .f32) : ι → Ideal .f32 := fun i =>
  FloatOps.mulf (Scalar.ofBits .f32 0xBA83126F#32)
    (FloatOps.addf
      (FloatOps.divf (FloatOps.divf (nm i) (Scalar.ofBits .f32 0x3F26BD02#32))
        (FloatOps.addf (FloatOps.sqrt (FloatOps.divf (nv i) (Scalar.ofBits .f32 0x3C231ACC#32))) (Scalar.ofBits .f32 0x322BCC77#32)))
      (FloatOps.mulf (Scalar.ofBits .f32 0x3C23D70A#32) (w i)))

end

/-- `g`, `d`, `nm` and `nv` are the summed gradient, the change of the weights and the new moments of one array with the
gradients `parts`, the weights `w` and the moments `m` and `v`. -/
def Stepped {a b : Nat} (parts : (⟨3, ![8, a, b]⟩ : Shape).Idx → EReal) (w m v g d nm nv : (⟨2, ![a, b]⟩ : Shape).Idx → EReal) : Prop :=
  g = total parts ∧ d = stepW (stepM (total parts) m) (stepV (total parts) v) w ∧ nm = stepM (total parts) m ∧ nv = stepV (total parts) v

/-- A step determines its results. -/
theorem Stepped.unique {a b : Nat} {parts parts' : (⟨3, ![8, a, b]⟩ : Shape).Idx → EReal}
    {w m v g d nm nv w' m' v' g' d' nm' nv' : (⟨2, ![a, b]⟩ : Shape).Idx → EReal}
    (h : Stepped parts w m v g d nm nv) (h' : Stepped parts' w' m' v' g' d' nm' nv')
    (e : parts' = parts ∧ w' = w ∧ m' = m ∧ v' = v) : g' = g ∧ d' = d ∧ nm' = nm ∧ nv' = nv := by
  obtain ⟨rfl, rfl, rfl, rfl⟩ := e
  obtain ⟨rfl, rfl, rfl, rfl⟩ := h
  exact h'

/-! ## A tile -/

/-- The offsets of a whole tile. -/
theorem zeros : (![0, 0] : Fin 2 → Nat) = fun _ => 0 := funext fun a => by fin_cases a <;> rfl

/-- Where a slab starts, it fits. -/
theorem slab_inb {a b d : Nat} (hd : d < 8) :
    ∀ i, (![d, 0, 0] : Fin 3 → Nat) i + (⟨3, ![1, a, b]⟩ : Shape).size i ≤ (⟨3, ![8, a, b]⟩ : Shape).size i := fun i => by
  fin_cases i <;> simp
  omega

/-- The sum over the devices of a tile is that tile of the sum, when the tile takes every device's slab at the same place. -/
theorem total_tile {a b a' b' : Nat} (x : (⟨3, ![8, a, b]⟩ : Shape).Idx → EReal)
    (e : (⟨3, ![8, a', b']⟩ : Shape).Idx → (⟨3, ![8, a, b]⟩ : Shape).Idx) (p : (⟨2, ![a', b']⟩ : Shape).Idx → (⟨2, ![a, b]⟩ : Shape).Idx)
    (h : ∀ y d, e (ix3 d (y 0) (y 1)) = ix3 d (p y 0) (p y 1)) : total (fun k => x (e k)) = fun y => total x (p y) :=
  funext fun y => Finset.sum_congr rfl fun d _ => congrArg x (h y d)

/-- Slab `d` of an array: loaded, and its unit axis dropped. -/
abbrev slab {a b : Nat} (x : (⟨3, ![8, a, b]⟩ : Shape).Idx → EReal) (d : Nat)
    (inb : ∀ i, (![d, 0, 0] : Fin 3 → Nat) i + (⟨3, ![1, a, b]⟩ : Shape).size i ≤ (⟨3, ![8, a, b]⟩ : Shape).size i)
    (hs : (⟨3, ![1, a, b]⟩ : Shape).ShapeCasts ⟨2, ![a, b]⟩) : (⟨2, ![a, b]⟩ : Shape).Idx → EReal :=
  shapeCast ⟨2, ![a, b]⟩ (View.ld (Val := fun _ => EReal) (e' := .f32) x (Rect.unit (s := ⟨3, ![8, a, b]⟩) ![d, 0, 0] (⟨3, ![1, a, b]⟩ : Shape).size inb)) hs

/-- A slab at an element. -/
theorem slab_apply {a b : Nat} (x : (⟨3, ![8, a, b]⟩ : Shape).Idx → EReal) (d : Nat) (hd : d < 8)
    (inb : ∀ i, (![d, 0, 0] : Fin 3 → Nat) i + (⟨3, ![1, a, b]⟩ : Shape).size i ≤ (⟨3, ![8, a, b]⟩ : Shape).size i)
    (hs : (⟨3, ![1, a, b]⟩ : Shape).ShapeCasts ⟨2, ![a, b]⟩) (y : (⟨2, ![a, b]⟩ : Shape).Idx) :
    slab x d inb hs y = x (ix3 ⟨d, hd⟩ (y 0) (y 1)) := by
  unfold slab
  rw [View.ld_unit, shapeCast_apply _ hs y (ix3 (0 : Fin 1) (y 0) (y 1)) (by rw [Shape.rowMajor_val_three, Shape.rowMajor_val_two]; simp)]
  refine congrArg x (funext fun i => ?_)
  fin_cases i <;> apply Fin.ext <;> simp

/-- The eight slabs of an array added in the order of the devices. -/
theorem slabs_eq {a b : Nat} (x : (⟨3, ![8, a, b]⟩ : Shape).Idx → EReal) (hs : (⟨3, ![1, a, b]⟩ : Shape).ShapeCasts ⟨2, ![a, b]⟩)
    (y : (⟨2, ![a, b]⟩ : Shape).Idx) :
    ((((((((slab x 0 (slab_inb (by decide)) hs y : EReal) + slab x 1 (slab_inb (by decide)) hs y) + slab x 2 (slab_inb (by decide)) hs y)
      + slab x 3 (slab_inb (by decide)) hs y) + slab x 4 (slab_inb (by decide)) hs y) + slab x 5 (slab_inb (by decide)) hs y)
      + slab x 6 (slab_inb (by decide)) hs y) + slab x 7 (slab_inb (by decide)) hs y : EReal) = total x y := by
  rw [slab_apply x 0 (by decide), slab_apply x 1 (by decide), slab_apply x 2 (by decide), slab_apply x 3 (by decide),
    slab_apply x 4 (by decide), slab_apply x 5 (by decide), slab_apply x 6 (by decide), slab_apply x 7 (by decide)]
  exact (Fin.sum_univ_eight (fun d : Fin 8 => (x (ix3 d (y 0) (y 1)) : EReal))).symm

/-! ## The reference -/

/-- The host's sum over the devices. -/
theorem hostTotal {a b : Nat} (x : (⟨3, ![8, a, b]⟩ : Shape).Idx → EReal) (h : (⟨3, ![8, a, b]⟩ : Shape).ReducesTo [0] ⟨2, ![a, b]⟩)
    (hu : 0 < (⟨0, ![]⟩ : Shape).numel) :
    Host.reduceAdd (x : FVec Ideal ⟨3, ![8, a, b]⟩ .f32) (constant ⟨0, ![]⟩ .f32 0x00000000#32) h hu = total x := by
  funext y
  rw [ValueIdx.hostReduceAdd_apply, Ideal.hostReduceAdd_r3_a0]
  refine (congrArg (· + _) (Ideal.ofBits_zero_f32 : Ideal.ofBits .f32 0x00000000#32 = 0)).trans ((zero_add _).trans ?_)
  rfl

end Cert.Adam

end
-- ==== Proof.AdamIn.lean ====
/-
The AdamW call of the array `w_in`: its four results, and those of the plain reference.
-/
module

public import proofs.«01_k».proof.Proof.Adam
public import proofs.«01_k».proof.Proof.Gen.AdamInIdeal.Value
public import proofs.«01_k».proof.Proof.Gen.PlainInIdeal.Run

@[expose] public section

noncomputable section

namespace Cert.Adam.In

open Idealize.ShloMosaic Idealize.ShloMosaic.TcCoe Idealize.SL.Sem

section Kernel

open Cert.AdamInIdeal Cert.AdamInIdeal.Gen Cert.AdamInIdeal.Value

section

variable (x0 : Vec Ideal S8x128x449 .bf16) (x1 x2 x3 : Vec Ideal S128x449 .f32)

theorem pay_total : k0_pay5 x0 x1 x2 x3 = total x0 := funext fun y => slabs_eq x0 shapeCasts_S1x128x449_S128x449 y

theorem ld_tile (x : Vec Ideal S128x449 .f32) : View.ld x r0_8 = x := View.ld_unit_zero zeros _ _

/-- A tile's four results. -/
theorem tile : Stepped x0 x1 x2 x3 (out0_4 x0 x1 x2 x3) (out0_5 x0 x1 x2 x3) (out0_6 x0 x1 x2 x3) (out0_7 x0 x1 x2 x3) := by
  refine ⟨(View.canon_unit_zero zeros _ _).trans ?_, (View.canon_unit_zero zeros _ _).trans ?_, (View.canon_unit_zero zeros _ _).trans ?_,
    (View.canon_unit_zero zeros _ _).trans ?_⟩ <;> simp only [pay_total, ld_tile] <;> rfl

end

variable (m : (ℓ : Loc nD τ sig) → Buf (Elt Ideal) ℓ) (c : Dev nD)

/-- Point `t` takes rows `128 * t` to `128 * t + 127` of every array. -/
theorem total_block (t : Fin cfg0.N) : total (iblk m c 0 t) = fun y => total (V m c main_arg0) (((cfg0.win 4).blk t).view.emb y) := by
  refine total_tile (V m c main_arg0) ((cfg0.win 0).blk t).view.emb ((cfg0.win 4).blk t).view.emb fun y d => funext fun a => Fin.ext ?_
  refine ((cfg0.win 0).rect_emb_val t _ a).trans ?_
  fin_cases a
  · exact (congrArg (· + d.val) (Nat.zero_mul 8)).trans (Nat.zero_add _)
  · exact ((cfg0.win 4).rect_emb_val t y 0).symm
  · exact ((cfg0.win 4).rect_emb_val t y 1).symm

theorem index_row : ∀ t : Fin cfg0.N, (cfg0.win 4).index t 0 = t.val := by decide +kernel

theorem covered (i : S1024x449.Idx) : ∃ t : Fin cfg0.N, i ∈ ((cfg0.win 4).blk t).view.set := by
  have h0 : (i 0).val < 1024 := (i 0).isLt
  let t : Fin cfg0.N := ⟨(i 0).val / 128, by show _ < 8; omega⟩
  let y : S128x449.Idx := ix2 (⟨(i 0).val % 128, Nat.mod_lt _ (by decide)⟩ : Fin 128) (⟨(i 1).val, (i 1).isLt⟩ : Fin 449)
  have e : ((cfg0.win 4).blk t).view.emb y = i := funext fun a => Fin.ext (by
    refine ((cfg0.win 4).rect_emb_val t y a).trans ?_
    fin_cases a
    · exact (congrArg (fun k => k * 128 + (i 0).val % 128) (index_row t)).trans (Nat.div_add_mod' _ _)
    · exact (congrArg (· + (i 1).val) (Nat.zero_mul 449)).trans (Nat.zero_add _))
  exact ⟨t, e ▸ ((cfg0.win 4).blk t).view.emb_mem_set y⟩

/-- The four result arrays after the run. -/
theorem final : Stepped (V m c main_arg0) (V m c main_arg1) (V m c main_arg2) (V m c main_arg3)
    ((dats m 0 c).arrAt 4 cfg0.N) ((dats m 0 c).arrAt 5 cfg0.N) ((dats m 0 c).arrAt 6 cfg0.N) ((dats m 0 c).arrAt 7 cfg0.N) := by
  have out (t : Fin cfg0.N) := tile (iblk m c 0 t) (iblk m c 1 t) (iblk m c 2 t) (iblk m c 3 t)
  refine ⟨(dats m 0 c).arrAt_eq_of_cover 4 _ (fun t _ => ?_) fun i => (covered i).imp fun t h => ⟨flush0_4 t, h⟩,
    (dats m 0 c).arrAt_eq_of_cover 5 _ (fun t _ => ?_) fun i => (covered i).imp fun t h => ⟨flush0_5 t, h⟩,
    (dats m 0 c).arrAt_eq_of_cover 6 _ (fun t _ => ?_) fun i => (covered i).imp fun t h => ⟨flush0_6 t, h⟩,
    (dats m 0 c).arrAt_eq_of_cover 7 _ (fun t _ => ?_) fun i => (covered i).imp fun t h => ⟨flush0_7 t, h⟩⟩
  · rw [flushed4, (out t).1, total_block]; rfl
  · rw [flushed5, (out t).2.1, total_block]; rfl
  · rw [flushed6, (out t).2.2.1, total_block]; rfl
  · rw [flushed7, (out t).2.2.2, total_block]; rfl

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨final m c, ha⟩) (Cert.AdamInIdeal.Value.run_blocks m ρ)

end Kernel

section Reference

open Cert.PlainInIdeal Cert.PlainInIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v1)) (r.2.mem ((c : Thread nD τ).loc main_v25)) (r.2.mem ((c : Thread nD τ).loc main_v6)) (r.2.mem ((c : Thread nD τ).loc main_v12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x1024x449_S1024x449_d0 h_S_
    exact ⟨⟨h0.trans e, h1.trans (e ▸ rfl), h2.trans (e ▸ rfl), h3.trans (e ▸ rfl)⟩, ha⟩) (Cert.PlainInIdeal.Value.run m ρ)

end Reference

end Cert.Adam.In

end
-- ==== Proof.AdamOut.lean ====
/-
The AdamW call of the array `w_out`: its four results, and those of the plain reference.
-/
module

public import proofs.«01_k».proof.Proof.Adam
public import proofs.«01_k».proof.Proof.Gen.AdamOutIdeal.Value
public import proofs.«01_k».proof.Proof.Gen.PlainOutIdeal.Run

@[expose] public section

noncomputable section

namespace Cert.Adam.Out

open Idealize.ShloMosaic Idealize.ShloMosaic.TcCoe Idealize.SL.Sem

section Kernel

open Cert.AdamOutIdeal Cert.AdamOutIdeal.Gen Cert.AdamOutIdeal.Value

section

variable (x0 : Vec Ideal S8x128x1024 .bf16) (x1 x2 x3 : Vec Ideal S128x1024 .f32)

theorem pay_total : k0_pay5 x0 x1 x2 x3 = total x0 := funext fun y => slabs_eq x0 shapeCasts_S1x128x1024_S128x1024 y

/-- The four results as functions of the arguments. -/
theorem whole : Stepped x0 x1 x2 x3 (G4 x0 x1 x2 x3) (G5 x0 x1 x2 x3) (G6 x0 x1 x2 x3) (G7 x0 x1 x2 x3) := by
  refine ⟨?_, ?_, ?_, ?_⟩ <;> simp only [G4, G5, G6, G7, pay_total] <;> rfl

end

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨whole _ _ _ _, ha⟩) (Cert.AdamOutIdeal.Value.run m ρ)

end Kernel

section Reference

open Cert.PlainOutIdeal Cert.PlainOutIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v1)) (r.2.mem ((c : Thread nD τ).loc main_v25)) (r.2.mem ((c : Thread nD τ).loc main_v6)) (r.2.mem ((c : Thread nD τ).loc main_v12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x128x1024_S128x1024_d0 h_S_
    exact ⟨⟨h0.trans e, h1.trans (e ▸ rfl), h2.trans (e ▸ rfl), h3.trans (e ▸ rfl)⟩, ha⟩) (Cert.PlainOutIdeal.Value.run m ρ)

end Reference

end Cert.Adam.Out

end
-- ==== Proof.AdamUp.lean ====
/-
The AdamW call of the array `w_up`: its four results, and those of the plain reference.
-/
module

public import proofs.«01_k».proof.Proof.Adam
public import proofs.«01_k».proof.Proof.Gen.AdamUpIdeal.Value
public import proofs.«01_k».proof.Proof.Gen.PlainUpIdeal.Run

@[expose] public section

noncomputable section

namespace Cert.Adam.Up

open Idealize.ShloMosaic Idealize.ShloMosaic.TcCoe Idealize.SL.Sem

section Kernel

open Cert.AdamUpIdeal Cert.AdamUpIdeal.Gen Cert.AdamUpIdeal.Value

section

variable (x0 : Vec Ideal S8x128x704 .bf16) (x1 x2 x3 : Vec Ideal S128x704 .f32)

theorem pay_total : k0_pay5 x0 x1 x2 x3 = total x0 := funext fun y => slabs_eq x0 shapeCasts_S1x128x704_S128x704 y

theorem ld_tile (x : Vec Ideal S128x704 .f32) : View.ld x r0_8 = x := View.ld_unit_zero zeros _ _

/-- A tile's four results. -/
theorem tile : Stepped x0 x1 x2 x3 (out0_4 x0 x1 x2 x3) (out0_5 x0 x1 x2 x3) (out0_6 x0 x1 x2 x3) (out0_7 x0 x1 x2 x3) := by
  refine ⟨(View.canon_unit_zero zeros _ _).trans ?_, (View.canon_unit_zero zeros _ _).trans ?_, (View.canon_unit_zero zeros _ _).trans ?_,
    (View.canon_unit_zero zeros _ _).trans ?_⟩ <;> simp only [pay_total, ld_tile] <;> rfl

end

variable (m : (ℓ : Loc nD τ sig) → Buf (Elt Ideal) ℓ) (c : Dev nD)

/-- Point `t` takes rows `128 * t` to `128 * t + 127` of every array. -/
theorem total_block (t : Fin cfg0.N) : total (iblk m c 0 t) = fun y => total (V m c main_arg0) (((cfg0.win 4).blk t).view.emb y) := by
  refine total_tile (V m c main_arg0) ((cfg0.win 0).blk t).view.emb ((cfg0.win 4).blk t).view.emb fun y d => funext fun a => Fin.ext ?_
  refine ((cfg0.win 0).rect_emb_val t _ a).trans ?_
  fin_cases a
  · exact (congrArg (· + d.val) (Nat.zero_mul 8)).trans (Nat.zero_add _)
  · exact ((cfg0.win 4).rect_emb_val t y 0).symm
  · exact ((cfg0.win 4).rect_emb_val t y 1).symm

theorem index_row : ∀ t : Fin cfg0.N, (cfg0.win 4).index t 0 = t.val := by decide +kernel

theorem covered (i : S1024x704.Idx) : ∃ t : Fin cfg0.N, i ∈ ((cfg0.win 4).blk t).view.set := by
  have h0 : (i 0).val < 1024 := (i 0).isLt
  let t : Fin cfg0.N := ⟨(i 0).val / 128, by show _ < 8; omega⟩
  let y : S128x704.Idx := ix2 (⟨(i 0).val % 128, Nat.mod_lt _ (by decide)⟩ : Fin 128) (⟨(i 1).val, (i 1).isLt⟩ : Fin 704)
  have e : ((cfg0.win 4).blk t).view.emb y = i := funext fun a => Fin.ext (by
    refine ((cfg0.win 4).rect_emb_val t y a).trans ?_
    fin_cases a
    · exact (congrArg (fun k => k * 128 + (i 0).val % 128) (index_row t)).trans (Nat.div_add_mod' _ _)
    · exact (congrArg (· + (i 1).val) (Nat.zero_mul 704)).trans (Nat.zero_add _))
  exact ⟨t, e ▸ ((cfg0.win 4).blk t).view.emb_mem_set y⟩

/-- The four result arrays after the run. -/
theorem final : Stepped (V m c main_arg0) (V m c main_arg1) (V m c main_arg2) (V m c main_arg3)
    ((dats m 0 c).arrAt 4 cfg0.N) ((dats m 0 c).arrAt 5 cfg0.N) ((dats m 0 c).arrAt 6 cfg0.N) ((dats m 0 c).arrAt 7 cfg0.N) := by
  have out (t : Fin cfg0.N) := tile (iblk m c 0 t) (iblk m c 1 t) (iblk m c 2 t) (iblk m c 3 t)
  refine ⟨(dats m 0 c).arrAt_eq_of_cover 4 _ (fun t _ => ?_) fun i => (covered i).imp fun t h => ⟨flush0_4 t, h⟩,
    (dats m 0 c).arrAt_eq_of_cover 5 _ (fun t _ => ?_) fun i => (covered i).imp fun t h => ⟨flush0_5 t, h⟩,
    (dats m 0 c).arrAt_eq_of_cover 6 _ (fun t _ => ?_) fun i => (covered i).imp fun t h => ⟨flush0_6 t, h⟩,
    (dats m 0 c).arrAt_eq_of_cover 7 _ (fun t _ => ?_) fun i => (covered i).imp fun t h => ⟨flush0_7 t, h⟩⟩
  · rw [flushed4, (out t).1, total_block]; rfl
  · rw [flushed5, (out t).2.1, total_block]; rfl
  · rw [flushed6, (out t).2.2.1, total_block]; rfl
  · rw [flushed7, (out t).2.2.2, total_block]; rfl

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨final m c, ha⟩) (Cert.AdamUpIdeal.Value.run_blocks m ρ)

end Kernel

section Reference

open Cert.PlainUpIdeal Cert.PlainUpIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v1)) (r.2.mem ((c : Thread nD τ).loc main_v25)) (r.2.mem ((c : Thread nD τ).loc main_v6)) (r.2.mem ((c : Thread nD τ).loc main_v12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x1024x704_S1024x704_d0 h_S_
    exact ⟨⟨h0.trans e, h1.trans (e ▸ rfl), h2.trans (e ▸ rfl), h3.trans (e ▸ rfl)⟩, ha⟩) (Cert.PlainUpIdeal.Value.run m ρ)

end Reference

end Cert.Adam.Up

end
-- ==== Proof.AdamDown.lean ====
/-
The AdamW call of the array `w_down`: its four results, and those of the plain reference.
-/
module

public import proofs.«01_k».proof.Proof.Adam
public import proofs.«01_k».proof.Proof.Gen.AdamDownIdeal.Value
public import proofs.«01_k».proof.Proof.Gen.PlainDownIdeal.Run

@[expose] public section

noncomputable section

namespace Cert.Adam.Down

open Idealize.ShloMosaic Idealize.ShloMosaic.TcCoe Idealize.SL.Sem

section Kernel

open Cert.AdamDownIdeal Cert.AdamDownIdeal.Gen Cert.AdamDownIdeal.Value

section

variable (x0 : Vec Ideal S8x176x1024 .bf16) (x1 x2 x3 : Vec Ideal S176x1024 .f32)

theorem pay_total : k0_pay5 x0 x1 x2 x3 = total x0 := funext fun y => slabs_eq x0 shapeCasts_S1x176x1024_S176x1024 y

theorem ld_tile (x : Vec Ideal S176x1024 .f32) : View.ld x r0_8 = x := View.ld_unit_zero zeros _ _

/-- A tile's four results. -/
theorem tile : Stepped x0 x1 x2 x3 (out0_4 x0 x1 x2 x3) (out0_5 x0 x1 x2 x3) (out0_6 x0 x1 x2 x3) (out0_7 x0 x1 x2 x3) := by
  refine ⟨(View.canon_unit_zero zeros _ _).trans ?_, (View.canon_unit_zero zeros _ _).trans ?_, (View.canon_unit_zero zeros _ _).trans ?_,
    (View.canon_unit_zero zeros _ _).trans ?_⟩ <;> simp only [pay_total, ld_tile] <;> rfl

end

variable (m : (ℓ : Loc nD τ sig) → Buf (Elt Ideal) ℓ) (c : Dev nD)

/-- Point `t` takes rows `176 * t` to `176 * t + 175` of every array. -/
theorem total_block (t : Fin cfg0.N) : total (iblk m c 0 t) = fun y => total (V m c main_arg0) (((cfg0.win 4).blk t).view.emb y) := by
  refine total_tile (V m c main_arg0) ((cfg0.win 0).blk t).view.emb ((cfg0.win 4).blk t).view.emb fun y d => funext fun a => Fin.ext ?_
  refine ((cfg0.win 0).rect_emb_val t _ a).trans ?_
  fin_cases a
  · exact (congrArg (· + d.val) (Nat.zero_mul 8)).trans (Nat.zero_add _)
  · exact ((cfg0.win 4).rect_emb_val t y 0).symm
  · exact ((cfg0.win 4).rect_emb_val t y 1).symm

theorem index_row : ∀ t : Fin cfg0.N, (cfg0.win 4).index t 0 = t.val := by decide +kernel

theorem covered (i : S352x1024.Idx) : ∃ t : Fin cfg0.N, i ∈ ((cfg0.win 4).blk t).view.set := by
  have h0 : (i 0).val < 352 := (i 0).isLt
  let t : Fin cfg0.N := ⟨(i 0).val / 176, by show _ < 2; omega⟩
  let y : S176x1024.Idx := ix2 (⟨(i 0).val % 176, Nat.mod_lt _ (by decide)⟩ : Fin 176) (⟨(i 1).val, (i 1).isLt⟩ : Fin 1024)
  have e : ((cfg0.win 4).blk t).view.emb y = i := funext fun a => Fin.ext (by
    refine ((cfg0.win 4).rect_emb_val t y a).trans ?_
    fin_cases a
    · exact (congrArg (fun k => k * 176 + (i 0).val % 176) (index_row t)).trans (Nat.div_add_mod' _ _)
    · exact (congrArg (· + (i 1).val) (Nat.zero_mul 1024)).trans (Nat.zero_add _))
  exact ⟨t, e ▸ ((cfg0.win 4).blk t).view.emb_mem_set y⟩

/-- The four result arrays after the run. -/
theorem final : Stepped (V m c main_arg0) (V m c main_arg1) (V m c main_arg2) (V m c main_arg3)
    ((dats m 0 c).arrAt 4 cfg0.N) ((dats m 0 c).arrAt 5 cfg0.N) ((dats m 0 c).arrAt 6 cfg0.N) ((dats m 0 c).arrAt 7 cfg0.N) := by
  have out (t : Fin cfg0.N) := tile (iblk m c 0 t) (iblk m c 1 t) (iblk m c 2 t) (iblk m c 3 t)
  refine ⟨(dats m 0 c).arrAt_eq_of_cover 4 _ (fun t _ => ?_) fun i => (covered i).imp fun t h => ⟨flush0_4 t, h⟩,
    (dats m 0 c).arrAt_eq_of_cover 5 _ (fun t _ => ?_) fun i => (covered i).imp fun t h => ⟨flush0_5 t, h⟩,
    (dats m 0 c).arrAt_eq_of_cover 6 _ (fun t _ => ?_) fun i => (covered i).imp fun t h => ⟨flush0_6 t, h⟩,
    (dats m 0 c).arrAt_eq_of_cover 7 _ (fun t _ => ?_) fun i => (covered i).imp fun t h => ⟨flush0_7 t, h⟩⟩
  · rw [flushed4, (out t).1, total_block]; rfl
  · rw [flushed5, (out t).2.1, total_block]; rfl
  · rw [flushed6, (out t).2.2.1, total_block]; rfl
  · rw [flushed7, (out t).2.2.2, total_block]; rfl

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨final m c, ha⟩) (Cert.AdamDownIdeal.Value.run_blocks m ρ)

end Kernel

section Reference

open Cert.PlainDownIdeal Cert.PlainDownIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v1)) (r.2.mem ((c : Thread nD τ).loc main_v25)) (r.2.mem ((c : Thread nD τ).loc main_v6)) (r.2.mem ((c : Thread nD τ).loc main_v12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x352x1024_S352x1024_d0 h_S_
    exact ⟨⟨h0.trans e, h1.trans (e ▸ rfl), h2.trans (e ▸ rfl), h3.trans (e ▸ rfl)⟩, ha⟩) (Cert.PlainDownIdeal.Value.run m ρ)

end Reference

end Cert.Adam.Down

end
-- ==== Proof.AdamConvA.lean ====
/-
The AdamW call of the array `conv_qkv_w`: its four results, and those of the plain reference.
-/
module

public import proofs.«01_k».proof.Proof.Adam
public import proofs.«01_k».proof.Proof.Gen.AdamConvAIdeal.Value
public import proofs.«01_k».proof.Proof.Gen.PlainConvAIdeal.Run

@[expose] public section

noncomputable section

namespace Cert.Adam.ConvA

open Idealize.ShloMosaic Idealize.ShloMosaic.TcCoe Idealize.SL.Sem

section Kernel

open Cert.AdamConvAIdeal Cert.AdamConvAIdeal.Gen Cert.AdamConvAIdeal.Value

section

variable (x0 : Vec Ideal S8x4x192 .f32) (x1 x2 x3 : Vec Ideal S4x192 .f32)

theorem pay_total : k0_pay5 x0 x1 x2 x3 = total x0 := funext fun y => slabs_eq x0 shapeCasts_S1x4x192_S4x192 y

theorem pay_moment : k0_pay6 x0 x1 x2 x3 = stepM (k0_pay5 x0 x1 x2 x3) x2 := by
  have e : View.ld x2 r0_8 = x2 := View.ld_unit_zero zeros _ _
  simp only [k0_pay6, e]
  rfl

/-- The four results as functions of the arguments. -/
theorem whole : Stepped x0 x1 x2 x3 (G4 x0 x1 x2 x3) (G5 x0 x1 x2 x3) (G6 x0 x1 x2 x3) (G7 x0 x1 x2 x3) := by
  refine ⟨?_, ?_, ?_, ?_⟩ <;> simp only [G4, G5, G6, G7, pay_total, pay_moment] <;> rfl

end

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨whole _ _ _ _, ha⟩) (Cert.AdamConvAIdeal.Value.run m ρ)

end Kernel

section Reference

open Cert.PlainConvAIdeal Cert.PlainConvAIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0)) (r.2.mem ((c : Thread nD τ).loc main_v24)) (r.2.mem ((c : Thread nD τ).loc main_v5)) (r.2.mem ((c : Thread nD τ).loc main_v11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x4x192_S4x192_d0 h_S_
    exact ⟨⟨h0.trans e, h1.trans (e ▸ rfl), h2.trans (e ▸ rfl), h3.trans (e ▸ rfl)⟩, ha⟩) (Cert.PlainConvAIdeal.Value.run m ρ)

end Reference

end Cert.Adam.ConvA

end
-- ==== Proof.AdamConvF.lean ====
/-
The AdamW call of the array `ffn_conv_w`: its four results, and those of the plain reference.
-/
module

public import proofs.«01_k».proof.Proof.Adam
public import proofs.«01_k».proof.Proof.Gen.AdamConvFIdeal.Value
public import proofs.«01_k».proof.Proof.Gen.PlainConvFIdeal.Run

@[expose] public section

noncomputable section

namespace Cert.Adam.ConvF

open Idealize.ShloMosaic Idealize.ShloMosaic.TcCoe Idealize.SL.Sem

section Kernel

open Cert.AdamConvFIdeal Cert.AdamConvFIdeal.Gen Cert.AdamConvFIdeal.Value

section

variable (x0 : Vec Ideal S8x3x704 .f32) (x1 x2 x3 : Vec Ideal S3x704 .f32)

theorem pay_total : k0_pay5 x0 x1 x2 x3 = total x0 := funext fun y => slabs_eq x0 shapeCasts_S1x3x704_S3x704 y

theorem pay_moment : k0_pay6 x0 x1 x2 x3 = stepM (k0_pay5 x0 x1 x2 x3) x2 := by
  have e : View.ld x2 r0_8 = x2 := View.ld_unit_zero zeros _ _
  simp only [k0_pay6, e]
  rfl

/-- The four results as functions of the arguments. -/
theorem whole : Stepped x0 x1 x2 x3 (G4 x0 x1 x2 x3) (G5 x0 x1 x2 x3) (G6 x0 x1 x2 x3) (G7 x0 x1 x2 x3) := by
  refine ⟨?_, ?_, ?_, ?_⟩ <;> simp only [G4, G5, G6, G7, pay_total, pay_moment] <;> rfl

end

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨whole _ _ _ _, ha⟩) (Cert.AdamConvFIdeal.Value.run m ρ)

end Kernel

section Reference

open Cert.PlainConvFIdeal Cert.PlainConvFIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0)) (r.2.mem ((c : Thread nD τ).loc main_v24)) (r.2.mem ((c : Thread nD τ).loc main_v5)) (r.2.mem ((c : Thread nD τ).loc main_v11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x3x704_S3x704_d0 h_S_
    exact ⟨⟨h0.trans e, h1.trans (e ▸ rfl), h2.trans (e ▸ rfl), h3.trans (e ▸ rfl)⟩, ha⟩) (Cert.PlainConvFIdeal.Value.run m ρ)

end Reference

end Cert.Adam.ConvF

end
-- ==== Proof.AdamSmall.lean ====
/-
The AdamW call of the array `packed small parameters`: its four results, and those of the plain reference.
-/
module

public import proofs.«01_k».proof.Proof.Adam
public import proofs.«01_k».proof.Proof.Gen.AdamSmallIdeal.Value
public import proofs.«01_k».proof.Proof.Gen.PlainSmallIdeal.Run

@[expose] public section

noncomputable section

namespace Cert.Adam.Small

open Idealize.ShloMosaic Idealize.ShloMosaic.TcCoe Idealize.SL.Sem

section Kernel

open Cert.AdamSmallIdeal Cert.AdamSmallIdeal.Gen Cert.AdamSmallIdeal.Value

section

variable (x0 : Vec Ideal S8x8x1024 .f32) (x1 x2 x3 : Vec Ideal S8x1024 .f32)

theorem pay_total : k0_pay5 x0 x1 x2 x3 = total x0 := funext fun y => slabs_eq x0 shapeCasts_S1x8x1024_S8x1024 y

theorem pay_moment : k0_pay6 x0 x1 x2 x3 = stepM (k0_pay5 x0 x1 x2 x3) x2 := by
  have e : View.ld x2 r0_8 = x2 := View.ld_unit_zero zeros _ _
  simp only [k0_pay6, e]
  rfl

/-- The four results as functions of the arguments. -/
theorem whole : Stepped x0 x1 x2 x3 (G4 x0 x1 x2 x3) (G5 x0 x1 x2 x3) (G6 x0 x1 x2 x3) (G7 x0 x1 x2 x3) := by
  refine ⟨?_, ?_, ?_, ?_⟩ <;> simp only [G4, G5, G6, G7, pay_total, pay_moment] <;> rfl

end

/-- The call's run, at the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0_0)) (r.2.mem ((c : Thread nD τ).loc main_v0_1)) (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, ha⟩ := h c
    rw [h0, h1, h2, h3]
    exact ⟨whole _ _ _ _, ha⟩) (Cert.AdamSmallIdeal.Value.run m ρ)

end Kernel

section Reference

open Cert.PlainSmallIdeal Cert.PlainSmallIdeal.Gen

/-- The reference's run, at the extended reals. -/
theorem plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Stepped (m ((c : Thread nD τ).loc main_arg0)) (m ((c : Thread nD τ).loc main_arg1)) (m ((c : Thread nD τ).loc main_arg2)) (m ((c : Thread nD τ).loc main_arg3))
        (r.2.mem ((c : Thread nD τ).loc main_v0)) (r.2.mem ((c : Thread nD τ).loc main_v24)) (r.2.mem ((c : Thread nD τ).loc main_v5)) (r.2.mem ((c : Thread nD τ).loc main_v11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, ha⟩ := h c
    have e := hostTotal (m ((c : Thread nD τ).loc main_arg0)) reducesTo_S8x8x1024_S8x1024_d0 h_S_
    exact ⟨⟨h0.trans e, h1.trans (e ▸ rfl), h2.trans (e ▸ rfl), h3.trans (e ▸ rfl)⟩, ha⟩) (Cert.PlainSmallIdeal.Value.run m ρ)

end Reference

end Cert.Adam.Small

end
-- ==== Proof.lean ====
/-
The claims put together.
-/
module

public import proofs.«01_k».proof.Defs
public import proofs.«01_k».proof.Proof.RmsFwd
public import proofs.«01_k».proof.Proof.Gen.RmsFwd.Frame
public import proofs.«01_k».proof.Proof.Gen.RmsFwdIdeal.Value
public import proofs.«01_k».proof.Proof.Gen.PlainRmsFwdIdeal.Run
public import proofs.«01_k».proof.Proof.RmsBwd
public import proofs.«01_k».proof.Proof.Gen.RmsBwd.Frame
public import proofs.«01_k».proof.Proof.Gen.RmsBwdIdeal.Value
public import proofs.«01_k».proof.Proof.Gen.PlainRmsBwdIdeal.Run
public import proofs.«01_k».proof.Proof.Loss
public import proofs.«01_k».proof.Proof.Gen.Loss.Frame
public import proofs.«01_k».proof.Proof.Gen.LossIdeal.Value
public import proofs.«01_k».proof.Proof.Gen.PlainLossIdeal.Run
public import proofs.«01_k».proof.Proof.ProjA
public import proofs.«01_k».proof.Proof.Gen.ProjA.Frame
public import proofs.«01_k».proof.Proof.Gen.ProjAIdeal.Value
public import proofs.«01_k».proof.Proof.Gen.PlainProjAIdeal.Run
public import proofs.«01_k».proof.Proof.ProjZ
public import proofs.«01_k».proof.Proof.Gen.ProjZ.Frame
public import proofs.«01_k».proof.Proof.Gen.ProjZIdeal.Value
public import proofs.«01_k».proof.Proof.Gen.PlainProjZIdeal.Run
public import proofs.«01_k».proof.Proof.ProjB
public import proofs.«01_k».proof.Proof.Gen.ProjB.Frame
public import proofs.«01_k».proof.Proof.Gen.ProjBIdeal.Value
public import proofs.«01_k».proof.Proof.Gen.PlainProjBIdeal.Run
public import proofs.«01_k».proof.Proof.OutProj
public import proofs.«01_k».proof.Proof.Gen.OutProj.Frame
public import proofs.«01_k».proof.Proof.Gen.OutProjIdeal.Value
public import proofs.«01_k».proof.Proof.Gen.PlainOutProjIdeal.Run
public import proofs.«01_k».proof.Proof.FfnUp
public import proofs.«01_k».proof.Proof.Gen.FfnUp.Frame
public import proofs.«01_k».proof.Proof.Gen.FfnUpIdeal.Value
public import proofs.«01_k».proof.Proof.Gen.PlainFfnUpIdeal.Run
public import proofs.«01_k».proof.Proof.FfnDown
public import proofs.«01_k».proof.Proof.Gen.FfnDown.Frame
public import proofs.«01_k».proof.Proof.Gen.FfnDownIdeal.Value
public import proofs.«01_k».proof.Proof.Gen.PlainFfnDownIdeal.Run
public import proofs.«01_k».proof.Proof.FfnDownDx
public import proofs.«01_k».proof.Proof.Gen.FfnDownDx.Frame
public import proofs.«01_k».proof.Proof.Gen.FfnDownDxIdeal.Value
public import proofs.«01_k».proof.Proof.Gen.PlainFfnDownDxIdeal.Run
public import proofs.«01_k».proof.Proof.FfnGateDx
public import proofs.«01_k».proof.Proof.Gen.FfnGateDx.Frame
public import proofs.«01_k».proof.Proof.Gen.FfnGateDxIdeal.Value
public import proofs.«01_k».proof.Proof.Gen.PlainFfnGateDxIdeal.Run
public import proofs.«01_k».proof.Proof.FfnUpDx
public import proofs.«01_k».proof.Proof.Gen.FfnUpDx.Frame
public import proofs.«01_k».proof.Proof.Gen.FfnUpDxIdeal.Value
public import proofs.«01_k».proof.Proof.Gen.PlainFfnUpDxIdeal.Run
public import proofs.«01_k».proof.Proof.OutProjDx
public import proofs.«01_k».proof.Proof.Gen.OutProjDx.Frame
public import proofs.«01_k».proof.Proof.Gen.OutProjDxIdeal.Value
public import proofs.«01_k».proof.Proof.Gen.PlainOutProjDxIdeal.Run
public import proofs.«01_k».proof.Proof.ProjADx
public import proofs.«01_k».proof.Proof.Gen.ProjADx.Frame
public import proofs.«01_k».proof.Proof.Gen.ProjADxIdeal.Value
public import proofs.«01_k».proof.Proof.Gen.PlainProjADxIdeal.Run
public import proofs.«01_k».proof.Proof.ProjZDx
public import proofs.«01_k».proof.Proof.Gen.ProjZDx.Frame
public import proofs.«01_k».proof.Proof.Gen.ProjZDxIdeal.Value
public import proofs.«01_k».proof.Proof.Gen.PlainProjZDxIdeal.Run
public import proofs.«01_k».proof.Proof.ProjBDx
public import proofs.«01_k».proof.Proof.Gen.ProjBDx.Frame
public import proofs.«01_k».proof.Proof.Gen.ProjBDxIdeal.Value
public import proofs.«01_k».proof.Proof.Gen.PlainProjBDxIdeal.Run
public import proofs.«01_k».proof.Proof.FfnDownDw
public import proofs.«01_k».proof.Proof.Gen.FfnDownDw.Frame
public import proofs.«01_k».proof.Proof.Gen.FfnDownDwIdeal.Value
public import proofs.«01_k».proof.Proof.Gen.PlainFfnDownDwIdeal.Run
public import proofs.«01_k».proof.Proof.FfnUpDw
public import proofs.«01_k».proof.Proof.Gen.FfnUpDw.Frame
public import proofs.«01_k».proof.Proof.Gen.FfnUpDwIdeal.Value
public import proofs.«01_k».proof.Proof.Gen.PlainFfnUpDwIdeal.Run
public import proofs.«01_k».proof.Proof.OutProjDw
public import proofs.«01_k».proof.Proof.Gen.OutProjDw.Frame
public import proofs.«01_k».proof.Proof.Gen.OutProjDwIdeal.Value
public import proofs.«01_k».proof.Proof.Gen.PlainOutProjDwIdeal.Run
public import proofs.«01_k».proof.Proof.ProjADw
public import proofs.«01_k».proof.Proof.Gen.ProjADw.Frame
public import proofs.«01_k».proof.Proof.Gen.ProjADwIdeal.Value
public import proofs.«01_k».proof.Proof.Gen.PlainProjADwIdeal.Run
public import proofs.«01_k».proof.Proof.ProjZDw
public import proofs.«01_k».proof.Proof.Gen.ProjZDw.Frame
public import proofs.«01_k».proof.Proof.Gen.ProjZDwIdeal.Value
public import proofs.«01_k».proof.Proof.Gen.PlainProjZDwIdeal.Run
public import proofs.«01_k».proof.Proof.ProjBDw
public import proofs.«01_k».proof.Proof.Gen.ProjBDw.Frame
public import proofs.«01_k».proof.Proof.Gen.ProjBDwIdeal.Value
public import proofs.«01_k».proof.Proof.Gen.PlainProjBDwIdeal.Run
public import proofs.«01_k».proof.Proof.FfnAct
public import proofs.«01_k».proof.Proof.Gen.FfnAct.Frame
public import proofs.«01_k».proof.Proof.Gen.FfnActIdeal.Value
public import proofs.«01_k».proof.Proof.Gen.PlainFfnActIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Values
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.StackIdeal
public import proofs.«01_k».proof.Proof.Gen.StackIdeal.Run
public import proofs.«01_k».proof.Proof.Gen.Stack
public import proofs.«01_k».proof.Proof.Gen.GatherSmall
public import proofs.«01_k».proof.Proof.Gen.GatherSmall.Skeleton
public import proofs.«01_k».proof.Proof.Gen.GatherSmall.Launch
public import proofs.«01_k».proof.Proof.Gen.GatherSmall.Points
public import proofs.«01_k».proof.Proof.Gen.GatherSmall.Frame
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmallIdeal.Frame
public import proofs.«01_k».proof.Proof.Gen.StackSmallIdeal
public import proofs.«01_k».proof.Proof.Gen.StackSmallIdeal.Run
public import proofs.«01_k».proof.Proof.Gen.StackSmall
public import proofs.«01_k».proof.Proof.WeightsRun
public import proofs.«01_k».proof.Proof.SmallRun
public import proofs.«01_k».proof.Proof.SpreadValues
public import Idealize.ShloMosaic.Lib.Quiescent
public import Idealize.ShloMosaic.Adequacy
public import Idealize.ShloMosaic.Init
public import proofs.«01_k».proof.Proof.AdamIn
public import proofs.«01_k».proof.Proof.Gen.AdamIn.Frame
public import proofs.«01_k».proof.Proof.Gen.AdamInIdeal.Value
public import proofs.«01_k».proof.Proof.Gen.PlainInIdeal.Run
public import proofs.«01_k».proof.Proof.AdamOut
public import proofs.«01_k».proof.Proof.Gen.AdamOut.Frame
public import proofs.«01_k».proof.Proof.Gen.AdamOutIdeal.Value
public import proofs.«01_k».proof.Proof.Gen.PlainOutIdeal.Run
public import proofs.«01_k».proof.Proof.AdamUp
public import proofs.«01_k».proof.Proof.Gen.AdamUp.Frame
public import proofs.«01_k».proof.Proof.Gen.AdamUpIdeal.Value
public import proofs.«01_k».proof.Proof.Gen.PlainUpIdeal.Run
public import proofs.«01_k».proof.Proof.AdamDown
public import proofs.«01_k».proof.Proof.Gen.AdamDown.Frame
public import proofs.«01_k».proof.Proof.Gen.AdamDownIdeal.Value
public import proofs.«01_k».proof.Proof.Gen.PlainDownIdeal.Run
public import proofs.«01_k».proof.Proof.AdamConvA
public import proofs.«01_k».proof.Proof.Gen.AdamConvA.Frame
public import proofs.«01_k».proof.Proof.Gen.AdamConvAIdeal.Value
public import proofs.«01_k».proof.Proof.Gen.PlainConvAIdeal.Run
public import proofs.«01_k».proof.Proof.AdamConvF
public import proofs.«01_k».proof.Proof.Gen.AdamConvF.Frame
public import proofs.«01_k».proof.Proof.Gen.AdamConvFIdeal.Value
public import proofs.«01_k».proof.Proof.Gen.PlainConvFIdeal.Run
public import proofs.«01_k».proof.Proof.AdamSmall
public import proofs.«01_k».proof.Proof.Gen.AdamSmall.Frame
public import proofs.«01_k».proof.Proof.Gen.AdamSmallIdeal.Value
public import proofs.«01_k».proof.Proof.Gen.PlainSmallIdeal.Run

@[expose] public section

noncomputable section

namespace Cert.Proof

open Idealize.ShloMosaic Idealize.ShloMosaic.TcCoe Idealize.SL.Sem

theorem frame_kernelIdeal : Cert.quiescent_KernelIdeal := fun m g _ =>
  (θ_run Cert.KernelIdeal.defs _ _).mono (fun _ h => ⟨fun c => ⟨(h.1 c).1 0, (h.1 c).1 1, (h.1 c).1 2, (h.1 c).1 3, (h.1 c).1 4, (h.1 c).1 5⟩, h.2⟩)
    (Exchange.run_main (F := Ideal) m g)

theorem frame_kernel : Cert.quiescent_Kernel := fun m g _ =>
  (θ_run Cert.KernelIdeal.defs _ _).mono (fun _ h => ⟨fun c => ⟨(h.1 c).1 0, (h.1 c).1 1, (h.1 c).1 2, (h.1 c).1 3, (h.1 c).1 4, (h.1 c).1 5⟩, h.2⟩)
    (Exchange.run_main (F := Bits) m g)

theorem frame_referenceIdeal : Cert.quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

theorem frame_reference : Cert.quiescent_Reference := fun m g _ =>
  (θ_run Cert.ReferenceIdeal.defs _ _).mono (fun r h => ⟨fun c => (h c).2.2.2.2.2.2, sem_eq_zero_of_no_sems (by decide) r.2⟩)
    (Cert.ReferenceIdeal.Value.run (F := Bits) m g)

theorem algebraic : Cert.algebraic_KernelIdeal_ReferenceIdeal := by
  intro m g m' g' _ hm
  refine ⟨_, _, _, _, _, _, ?_, (θ_run Cert.ReferenceIdeal.defs _ _).mono (fun _ h => h 0) (Cert.ReferenceIdeal.Value.run (F := Ideal) m' g')⟩
  exact (θ_run Cert.KernelIdeal.defs _ _).mono (fun r h c =>
      ⟨((h.1 c).2 0).trans ((Exchange.read_outBuf m 0 c).trans (Exchange.swapped_eq m 0 _ _ _ _ _ (fun d => (hm d).1) c)),
        ((h.1 c).2 1).trans ((Exchange.read_outBuf m 1 c).trans (Exchange.swapped_eq m 1 _ _ _ _ _ (fun d => (hm d).2.1) c)),
        ((h.1 c).2 2).trans ((Exchange.read_outBuf m 2 c).trans (Exchange.swapped_eq m 2 _ _ _ _ _ (fun d => (hm d).2.2.1) c)),
        ((h.1 c).2 3).trans ((Exchange.read_outBuf m 3 c).trans (Exchange.swapped_eq m 3 _ _ _ _ _ (fun d => (hm d).2.2.2.1) c)),
        ((h.1 c).2 4).trans ((Exchange.read_outBuf m 4 c).trans (Exchange.swapped_eq m 4 _ _ _ _ _ (fun d => (hm d).2.2.2.2.1) c)),
        ((h.1 c).2 5).trans ((Exchange.read_outBuf m 5 c).trans (Exchange.swapped_eq m 5 _ _ _ _ _ (fun d => (hm d).2.2.2.2.2) c)),
        (h.1 c).1 0, (h.1 c).1 1, (h.1 c).1 2, (h.1 c).1 3, (h.1 c).1 4, (h.1 c).1 5⟩)
      (Exchange.run_main (F := Ideal) m g)

theorem bitexact : Cert.bitexact_Kernel_Reference := by
  intro m g m' g' _ hm
  refine ⟨_, _, _, _, _, _, ?_, (θ_run Cert.ReferenceIdeal.defs _ _).mono (fun _ h => h 0) (Cert.ReferenceIdeal.Value.run (F := Bits) m' g')⟩
  exact (θ_run Cert.KernelIdeal.defs _ _).mono (fun r h c =>
      ⟨((h.1 c).2 0).trans ((Exchange.read_outBuf m 0 c).trans (Exchange.swapped_eq m 0 _ _ _ _ _ (fun d => (hm d).1) c)),
        ((h.1 c).2 1).trans ((Exchange.read_outBuf m 1 c).trans (Exchange.swapped_eq m 1 _ _ _ _ _ (fun d => (hm d).2.1) c)),
        ((h.1 c).2 2).trans ((Exchange.read_outBuf m 2 c).trans (Exchange.swapped_eq m 2 _ _ _ _ _ (fun d => (hm d).2.2.1) c)),
        ((h.1 c).2 3).trans ((Exchange.read_outBuf m 3 c).trans (Exchange.swapped_eq m 3 _ _ _ _ _ (fun d => (hm d).2.2.2.1) c)),
        ((h.1 c).2 4).trans ((Exchange.read_outBuf m 4 c).trans (Exchange.swapped_eq m 4 _ _ _ _ _ (fun d => (hm d).2.2.2.2.1) c)),
        ((h.1 c).2 5).trans ((Exchange.read_outBuf m 5 c).trans (Exchange.swapped_eq m 5 _ _ _ _ _ (fun d => (hm d).2.2.2.2.2) c)),
        (h.1 c).1 0, (h.1 c).1 1, (h.1 c).1 2, (h.1 c).1 3, (h.1 c).1 4, (h.1 c).1 5⟩)
      (Exchange.run_main (F := Bits) m g)

theorem frame_gather : Cert.quiescent_Gather := fun m g _ =>
  (θ_run Cert.GatherIdeal.defs _ _).mono (fun _ h => ⟨fun c => ⟨(h.1 c).1 0, (h.1 c).1 1, (h.1 c).1 2, (h.1 c).1 3, (h.1 c).1 4, (h.1 c).1 5⟩, h.2⟩)
    (Weights.run_main (F := Bits) m g)

theorem frame_gatherIdeal : Cert.quiescent_GatherIdeal := fun m g _ =>
  (θ_run Cert.GatherIdeal.defs _ _).mono (fun _ h => ⟨fun c => ⟨(h.1 c).1 0, (h.1 c).1 1, (h.1 c).1 2, (h.1 c).1 3, (h.1 c).1 4, (h.1 c).1 5⟩, h.2⟩)
    (Weights.run_main (F := Ideal) m g)

theorem frame_stackIdeal : Cert.quiescent_StackIdeal := fun m g _ =>
  (θ_run Cert.StackIdeal.defs _ _).mono (fun r h => ⟨fun c => (h c).2.2.2.2.2.2, sem_eq_zero_of_no_sems (by decide) r.2⟩)
    (Cert.StackIdeal.Value.run (F := Ideal) m g)

theorem frame_stack : Cert.quiescent_Stack := fun m g _ =>
  (θ_run Cert.StackIdeal.defs _ _).mono (fun r h => ⟨fun c => (h c).2.2.2.2.2.2, sem_eq_zero_of_no_sems (by decide) r.2⟩)
    (Cert.StackIdeal.Value.run (F := Bits) m g)

theorem algebraic_gather : Cert.algebraic_GatherIdeal_StackIdeal := by
  intro m g m' g' _ hm
  refine ⟨_, _, _, _, _, _, ?_, (θ_run Cert.StackIdeal.defs _ _).mono (fun _ h => h 0) (Cert.StackIdeal.Value.run (F := Ideal) m' g')⟩
  exact (θ_run Cert.GatherIdeal.defs _ _).mono (fun r h c =>
      ⟨((h.1 c).2 0).trans ((Weights.arrays.read_outBuf m 0 c).trans (Weights.arrays.stacked_cols m 0 _ _ _ _ fun d => (hm d).1)),
        ((h.1 c).2 1).trans ((Weights.arrays.read_outBuf m 1 c).trans (Weights.arrays.stacked_rows m 1 _ _ _ fun d => (hm d).2.1)),
        ((h.1 c).2 2).trans ((Weights.arrays.read_outBuf m 2 c).trans (Weights.arrays.stacked_cols m 2 _ _ _ _ fun d => (hm d).2.2.1)),
        ((h.1 c).2 3).trans ((Weights.arrays.read_outBuf m 3 c).trans (Weights.arrays.stacked_rows m 3 _ _ _ fun d => (hm d).2.2.2.1)),
        ((h.1 c).2 4).trans ((Weights.arrays.read_outBuf m 4 c).trans (Weights.arrays.stacked_cols m 4 _ _ _ _ fun d => (hm d).2.2.2.2.1)),
        ((h.1 c).2 5).trans ((Weights.arrays.read_outBuf m 5 c).trans (Weights.arrays.stacked_cols m 5 _ _ _ _ fun d => (hm d).2.2.2.2.2)),
        (h.1 c).1 0, (h.1 c).1 1, (h.1 c).1 2, (h.1 c).1 3, (h.1 c).1 4, (h.1 c).1 5⟩)
    (Weights.run_main m g)

theorem bitexact_gather : Cert.bitexact_Gather_Stack := by
  intro m g m' g' _ hm
  refine ⟨_, _, _, _, _, _, ?_, (θ_run Cert.StackIdeal.defs _ _).mono (fun _ h => h 0) (Cert.StackIdeal.Value.run (F := Bits) m' g')⟩
  exact (θ_run Cert.GatherIdeal.defs _ _).mono (fun r h c =>
      ⟨((h.1 c).2 0).trans ((Weights.arrays.read_outBuf m 0 c).trans (Weights.arrays.stacked_cols m 0 _ _ _ _ fun d => (hm d).1)),
        ((h.1 c).2 1).trans ((Weights.arrays.read_outBuf m 1 c).trans (Weights.arrays.stacked_rows m 1 _ _ _ fun d => (hm d).2.1)),
        ((h.1 c).2 2).trans ((Weights.arrays.read_outBuf m 2 c).trans (Weights.arrays.stacked_cols m 2 _ _ _ _ fun d => (hm d).2.2.1)),
        ((h.1 c).2 3).trans ((Weights.arrays.read_outBuf m 3 c).trans (Weights.arrays.stacked_rows m 3 _ _ _ fun d => (hm d).2.2.2.1)),
        ((h.1 c).2 4).trans ((Weights.arrays.read_outBuf m 4 c).trans (Weights.arrays.stacked_cols m 4 _ _ _ _ fun d => (hm d).2.2.2.2.1)),
        ((h.1 c).2 5).trans ((Weights.arrays.read_outBuf m 5 c).trans (Weights.arrays.stacked_cols m 5 _ _ _ _ fun d => (hm d).2.2.2.2.2)),
        (h.1 c).1 0, (h.1 c).1 1, (h.1 c).1 2, (h.1 c).1 3, (h.1 c).1 4, (h.1 c).1 5⟩)
    (Weights.run_main m g)

theorem frame_gatherSmall : Cert.quiescent_GatherSmall := fun m g _ =>
  (θ_run Cert.GatherSmallIdeal.defs _ _).mono (fun _ h => ⟨fun c => (h.1 c).1 0, h.2⟩)
    (Small.run_main (F := Bits) m g)

theorem frame_gatherSmallIdeal : Cert.quiescent_GatherSmallIdeal := fun m g _ =>
  (θ_run Cert.GatherSmallIdeal.defs _ _).mono (fun _ h => ⟨fun c => (h.1 c).1 0, h.2⟩)
    (Small.run_main (F := Ideal) m g)

theorem frame_stackSmallIdeal : Cert.quiescent_StackSmallIdeal := fun m g _ =>
  (θ_run Cert.StackSmallIdeal.defs _ _).mono (fun r h => ⟨fun c => (h c).2, sem_eq_zero_of_no_sems (by decide) r.2⟩)
    (Cert.StackSmallIdeal.Value.run (F := Ideal) m g)

theorem frame_stackSmall : Cert.quiescent_StackSmall := fun m g _ =>
  (θ_run Cert.StackSmallIdeal.defs _ _).mono (fun r h => ⟨fun c => (h c).2, sem_eq_zero_of_no_sems (by decide) r.2⟩)
    (Cert.StackSmallIdeal.Value.run (F := Bits) m g)

theorem algebraic_gatherSmall : Cert.algebraic_GatherSmallIdeal_StackSmallIdeal := by
  intro m g m' g' _ hm
  refine ⟨_, ?_, (θ_run Cert.StackSmallIdeal.defs _ _).mono (fun _ h => h 0) (Cert.StackSmallIdeal.Value.run (F := Ideal) m' g')⟩
  exact (θ_run Cert.GatherSmallIdeal.defs _ _).mono (fun r h c =>
      ⟨((h.1 c).2 0).trans ((Small.arrays.read_outBuf m 0 c).trans (Small.arrays.stacked_rows m 0 _ _ _ fun d => (hm d))),
        (h.1 c).1 0⟩)
    (Small.run_main m g)

theorem bitexact_gatherSmall : Cert.bitexact_GatherSmall_StackSmall := by
  intro m g m' g' _ hm
  refine ⟨_, ?_, (θ_run Cert.StackSmallIdeal.defs _ _).mono (fun _ h => h 0) (Cert.StackSmallIdeal.Value.run (F := Bits) m' g')⟩
  exact (θ_run Cert.GatherSmallIdeal.defs _ _).mono (fun r h c =>
      ⟨((h.1 c).2 0).trans ((Small.arrays.read_outBuf m 0 c).trans (Small.arrays.stacked_rows m 0 _ _ _ fun d => (hm d))),
        (h.1 c).1 0⟩)
    (Small.run_main m g)

theorem frame_adamIn : Cert.quiescent_AdamIn := fun m g _ => Cert.AdamIn.Gen.frame (F := Bits) m g

theorem frame_adamInIdeal : Cert.quiescent_AdamInIdeal := fun m g _ => Cert.AdamInIdeal.Gen.frame (F := Ideal) m g

theorem frame_plainInIdeal : Cert.quiescent_PlainInIdeal := fun m g _ =>
  (θ_run Cert.PlainInIdeal.defs _ _).mono (fun r h => ⟨fun c => (h c).2, sem_eq_zero_of_no_sems (by decide) r.2⟩) (Adam.In.plain m g)

theorem algebraic_adamIn : Cert.algebraic_AdamInIdeal_PlainInIdeal := by
  intro m g m' g' _ hm
  refine ⟨fun c => Adam.total (m ((c.tc : Thread Cert.AdamInIdeal.nD Cert.AdamInIdeal.τ).loc Cert.AdamInIdeal.main_arg0)),
    fun c => Adam.stepW (Adam.stepM (Adam.total (m ((c.tc : Thread Cert.AdamInIdeal.nD Cert.AdamInIdeal.τ).loc Cert.AdamInIdeal.main_arg0))) (m ((c.tc : Thread Cert.AdamInIdeal.nD Cert.AdamInIdeal.τ).loc Cert.AdamInIdeal.main_arg2))) (Adam.stepV (Adam.total (m ((c.tc : Thread Cert.AdamInIdeal.nD Cert.AdamInIdeal.τ).loc Cert.AdamInIdeal.main_arg0))) (m ((c.tc : Thread Cert.AdamInIdeal.nD Cert.AdamInIdeal.τ).loc Cert.AdamInIdeal.main_arg3))) (m ((c.tc : Thread Cert.AdamInIdeal.nD Cert.AdamInIdeal.τ).loc Cert.AdamInIdeal.main_arg1)),
    fun c => Adam.stepM (Adam.total (m ((c.tc : Thread Cert.AdamInIdeal.nD Cert.AdamInIdeal.τ).loc Cert.AdamInIdeal.main_arg0))) (m ((c.tc : Thread Cert.AdamInIdeal.nD Cert.AdamInIdeal.τ).loc Cert.AdamInIdeal.main_arg2)), fun c => Adam.stepV (Adam.total (m ((c.tc : Thread Cert.AdamInIdeal.nD Cert.AdamInIdeal.τ).loc Cert.AdamInIdeal.main_arg0))) (m ((c.tc : Thread Cert.AdamInIdeal.nD Cert.AdamInIdeal.τ).loc Cert.AdamInIdeal.main_arg3)),
    (θ_run Cert.AdamInIdeal.defs _ _).mono (fun _ h c => ?_) (Adam.In.run m g),
    (θ_run Cert.PlainInIdeal.defs _ _).mono (fun _ h c => ?_) (Adam.In.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_adamOut : Cert.quiescent_AdamOut := fun m g _ => Cert.AdamOut.Gen.frame (F := Bits) m g

theorem frame_adamOutIdeal : Cert.quiescent_AdamOutIdeal := fun m g _ => Cert.AdamOutIdeal.Gen.frame (F := Ideal) m g

theorem frame_plainOutIdeal : Cert.quiescent_PlainOutIdeal := fun m g _ =>
  (θ_run Cert.PlainOutIdeal.defs _ _).mono (fun r h => ⟨fun c => (h c).2, sem_eq_zero_of_no_sems (by decide) r.2⟩) (Adam.Out.plain m g)

theorem algebraic_adamOut : Cert.algebraic_AdamOutIdeal_PlainOutIdeal := by
  intro m g m' g' _ hm
  refine ⟨fun c => Adam.total (m ((c.tc : Thread Cert.AdamOutIdeal.nD Cert.AdamOutIdeal.τ).loc Cert.AdamOutIdeal.main_arg0)),
    fun c => Adam.stepW (Adam.stepM (Adam.total (m ((c.tc : Thread Cert.AdamOutIdeal.nD Cert.AdamOutIdeal.τ).loc Cert.AdamOutIdeal.main_arg0))) (m ((c.tc : Thread Cert.AdamOutIdeal.nD Cert.AdamOutIdeal.τ).loc Cert.AdamOutIdeal.main_arg2))) (Adam.stepV (Adam.total (m ((c.tc : Thread Cert.AdamOutIdeal.nD Cert.AdamOutIdeal.τ).loc Cert.AdamOutIdeal.main_arg0))) (m ((c.tc : Thread Cert.AdamOutIdeal.nD Cert.AdamOutIdeal.τ).loc Cert.AdamOutIdeal.main_arg3))) (m ((c.tc : Thread Cert.AdamOutIdeal.nD Cert.AdamOutIdeal.τ).loc Cert.AdamOutIdeal.main_arg1)),
    fun c => Adam.stepM (Adam.total (m ((c.tc : Thread Cert.AdamOutIdeal.nD Cert.AdamOutIdeal.τ).loc Cert.AdamOutIdeal.main_arg0))) (m ((c.tc : Thread Cert.AdamOutIdeal.nD Cert.AdamOutIdeal.τ).loc Cert.AdamOutIdeal.main_arg2)), fun c => Adam.stepV (Adam.total (m ((c.tc : Thread Cert.AdamOutIdeal.nD Cert.AdamOutIdeal.τ).loc Cert.AdamOutIdeal.main_arg0))) (m ((c.tc : Thread Cert.AdamOutIdeal.nD Cert.AdamOutIdeal.τ).loc Cert.AdamOutIdeal.main_arg3)),
    (θ_run Cert.AdamOutIdeal.defs _ _).mono (fun _ h c => ?_) (Adam.Out.run m g),
    (θ_run Cert.PlainOutIdeal.defs _ _).mono (fun _ h c => ?_) (Adam.Out.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_adamUp : Cert.quiescent_AdamUp := fun m g _ => Cert.AdamUp.Gen.frame (F := Bits) m g

theorem frame_adamUpIdeal : Cert.quiescent_AdamUpIdeal := fun m g _ => Cert.AdamUpIdeal.Gen.frame (F := Ideal) m g

theorem frame_plainUpIdeal : Cert.quiescent_PlainUpIdeal := fun m g _ =>
  (θ_run Cert.PlainUpIdeal.defs _ _).mono (fun r h => ⟨fun c => (h c).2, sem_eq_zero_of_no_sems (by decide) r.2⟩) (Adam.Up.plain m g)

theorem algebraic_adamUp : Cert.algebraic_AdamUpIdeal_PlainUpIdeal := by
  intro m g m' g' _ hm
  refine ⟨fun c => Adam.total (m ((c.tc : Thread Cert.AdamUpIdeal.nD Cert.AdamUpIdeal.τ).loc Cert.AdamUpIdeal.main_arg0)),
    fun c => Adam.stepW (Adam.stepM (Adam.total (m ((c.tc : Thread Cert.AdamUpIdeal.nD Cert.AdamUpIdeal.τ).loc Cert.AdamUpIdeal.main_arg0))) (m ((c.tc : Thread Cert.AdamUpIdeal.nD Cert.AdamUpIdeal.τ).loc Cert.AdamUpIdeal.main_arg2))) (Adam.stepV (Adam.total (m ((c.tc : Thread Cert.AdamUpIdeal.nD Cert.AdamUpIdeal.τ).loc Cert.AdamUpIdeal.main_arg0))) (m ((c.tc : Thread Cert.AdamUpIdeal.nD Cert.AdamUpIdeal.τ).loc Cert.AdamUpIdeal.main_arg3))) (m ((c.tc : Thread Cert.AdamUpIdeal.nD Cert.AdamUpIdeal.τ).loc Cert.AdamUpIdeal.main_arg1)),
    fun c => Adam.stepM (Adam.total (m ((c.tc : Thread Cert.AdamUpIdeal.nD Cert.AdamUpIdeal.τ).loc Cert.AdamUpIdeal.main_arg0))) (m ((c.tc : Thread Cert.AdamUpIdeal.nD Cert.AdamUpIdeal.τ).loc Cert.AdamUpIdeal.main_arg2)), fun c => Adam.stepV (Adam.total (m ((c.tc : Thread Cert.AdamUpIdeal.nD Cert.AdamUpIdeal.τ).loc Cert.AdamUpIdeal.main_arg0))) (m ((c.tc : Thread Cert.AdamUpIdeal.nD Cert.AdamUpIdeal.τ).loc Cert.AdamUpIdeal.main_arg3)),
    (θ_run Cert.AdamUpIdeal.defs _ _).mono (fun _ h c => ?_) (Adam.Up.run m g),
    (θ_run Cert.PlainUpIdeal.defs _ _).mono (fun _ h c => ?_) (Adam.Up.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_adamDown : Cert.quiescent_AdamDown := fun m g _ => Cert.AdamDown.Gen.frame (F := Bits) m g

theorem frame_adamDownIdeal : Cert.quiescent_AdamDownIdeal := fun m g _ => Cert.AdamDownIdeal.Gen.frame (F := Ideal) m g

theorem frame_plainDownIdeal : Cert.quiescent_PlainDownIdeal := fun m g _ =>
  (θ_run Cert.PlainDownIdeal.defs _ _).mono (fun r h => ⟨fun c => (h c).2, sem_eq_zero_of_no_sems (by decide) r.2⟩) (Adam.Down.plain m g)

theorem algebraic_adamDown : Cert.algebraic_AdamDownIdeal_PlainDownIdeal := by
  intro m g m' g' _ hm
  refine ⟨fun c => Adam.total (m ((c.tc : Thread Cert.AdamDownIdeal.nD Cert.AdamDownIdeal.τ).loc Cert.AdamDownIdeal.main_arg0)),
    fun c => Adam.stepW (Adam.stepM (Adam.total (m ((c.tc : Thread Cert.AdamDownIdeal.nD Cert.AdamDownIdeal.τ).loc Cert.AdamDownIdeal.main_arg0))) (m ((c.tc : Thread Cert.AdamDownIdeal.nD Cert.AdamDownIdeal.τ).loc Cert.AdamDownIdeal.main_arg2))) (Adam.stepV (Adam.total (m ((c.tc : Thread Cert.AdamDownIdeal.nD Cert.AdamDownIdeal.τ).loc Cert.AdamDownIdeal.main_arg0))) (m ((c.tc : Thread Cert.AdamDownIdeal.nD Cert.AdamDownIdeal.τ).loc Cert.AdamDownIdeal.main_arg3))) (m ((c.tc : Thread Cert.AdamDownIdeal.nD Cert.AdamDownIdeal.τ).loc Cert.AdamDownIdeal.main_arg1)),
    fun c => Adam.stepM (Adam.total (m ((c.tc : Thread Cert.AdamDownIdeal.nD Cert.AdamDownIdeal.τ).loc Cert.AdamDownIdeal.main_arg0))) (m ((c.tc : Thread Cert.AdamDownIdeal.nD Cert.AdamDownIdeal.τ).loc Cert.AdamDownIdeal.main_arg2)), fun c => Adam.stepV (Adam.total (m ((c.tc : Thread Cert.AdamDownIdeal.nD Cert.AdamDownIdeal.τ).loc Cert.AdamDownIdeal.main_arg0))) (m ((c.tc : Thread Cert.AdamDownIdeal.nD Cert.AdamDownIdeal.τ).loc Cert.AdamDownIdeal.main_arg3)),
    (θ_run Cert.AdamDownIdeal.defs _ _).mono (fun _ h c => ?_) (Adam.Down.run m g),
    (θ_run Cert.PlainDownIdeal.defs _ _).mono (fun _ h c => ?_) (Adam.Down.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_adamConvA : Cert.quiescent_AdamConvA := fun m g _ => Cert.AdamConvA.Gen.frame (F := Bits) m g

theorem frame_adamConvAIdeal : Cert.quiescent_AdamConvAIdeal := fun m g _ => Cert.AdamConvAIdeal.Gen.frame (F := Ideal) m g

theorem frame_plainConvAIdeal : Cert.quiescent_PlainConvAIdeal := fun m g _ =>
  (θ_run Cert.PlainConvAIdeal.defs _ _).mono (fun r h => ⟨fun c => (h c).2, sem_eq_zero_of_no_sems (by decide) r.2⟩) (Adam.ConvA.plain m g)

theorem algebraic_adamConvA : Cert.algebraic_AdamConvAIdeal_PlainConvAIdeal := by
  intro m g m' g' _ hm
  refine ⟨fun c => Adam.total (m ((c.tc : Thread Cert.AdamConvAIdeal.nD Cert.AdamConvAIdeal.τ).loc Cert.AdamConvAIdeal.main_arg0)),
    fun c => Adam.stepW (Adam.stepM (Adam.total (m ((c.tc : Thread Cert.AdamConvAIdeal.nD Cert.AdamConvAIdeal.τ).loc Cert.AdamConvAIdeal.main_arg0))) (m ((c.tc : Thread Cert.AdamConvAIdeal.nD Cert.AdamConvAIdeal.τ).loc Cert.AdamConvAIdeal.main_arg2))) (Adam.stepV (Adam.total (m ((c.tc : Thread Cert.AdamConvAIdeal.nD Cert.AdamConvAIdeal.τ).loc Cert.AdamConvAIdeal.main_arg0))) (m ((c.tc : Thread Cert.AdamConvAIdeal.nD Cert.AdamConvAIdeal.τ).loc Cert.AdamConvAIdeal.main_arg3))) (m ((c.tc : Thread Cert.AdamConvAIdeal.nD Cert.AdamConvAIdeal.τ).loc Cert.AdamConvAIdeal.main_arg1)),
    fun c => Adam.stepM (Adam.total (m ((c.tc : Thread Cert.AdamConvAIdeal.nD Cert.AdamConvAIdeal.τ).loc Cert.AdamConvAIdeal.main_arg0))) (m ((c.tc : Thread Cert.AdamConvAIdeal.nD Cert.AdamConvAIdeal.τ).loc Cert.AdamConvAIdeal.main_arg2)), fun c => Adam.stepV (Adam.total (m ((c.tc : Thread Cert.AdamConvAIdeal.nD Cert.AdamConvAIdeal.τ).loc Cert.AdamConvAIdeal.main_arg0))) (m ((c.tc : Thread Cert.AdamConvAIdeal.nD Cert.AdamConvAIdeal.τ).loc Cert.AdamConvAIdeal.main_arg3)),
    (θ_run Cert.AdamConvAIdeal.defs _ _).mono (fun _ h c => ?_) (Adam.ConvA.run m g),
    (θ_run Cert.PlainConvAIdeal.defs _ _).mono (fun _ h c => ?_) (Adam.ConvA.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_adamConvF : Cert.quiescent_AdamConvF := fun m g _ => Cert.AdamConvF.Gen.frame (F := Bits) m g

theorem frame_adamConvFIdeal : Cert.quiescent_AdamConvFIdeal := fun m g _ => Cert.AdamConvFIdeal.Gen.frame (F := Ideal) m g

theorem frame_plainConvFIdeal : Cert.quiescent_PlainConvFIdeal := fun m g _ =>
  (θ_run Cert.PlainConvFIdeal.defs _ _).mono (fun r h => ⟨fun c => (h c).2, sem_eq_zero_of_no_sems (by decide) r.2⟩) (Adam.ConvF.plain m g)

theorem algebraic_adamConvF : Cert.algebraic_AdamConvFIdeal_PlainConvFIdeal := by
  intro m g m' g' _ hm
  refine ⟨fun c => Adam.total (m ((c.tc : Thread Cert.AdamConvFIdeal.nD Cert.AdamConvFIdeal.τ).loc Cert.AdamConvFIdeal.main_arg0)),
    fun c => Adam.stepW (Adam.stepM (Adam.total (m ((c.tc : Thread Cert.AdamConvFIdeal.nD Cert.AdamConvFIdeal.τ).loc Cert.AdamConvFIdeal.main_arg0))) (m ((c.tc : Thread Cert.AdamConvFIdeal.nD Cert.AdamConvFIdeal.τ).loc Cert.AdamConvFIdeal.main_arg2))) (Adam.stepV (Adam.total (m ((c.tc : Thread Cert.AdamConvFIdeal.nD Cert.AdamConvFIdeal.τ).loc Cert.AdamConvFIdeal.main_arg0))) (m ((c.tc : Thread Cert.AdamConvFIdeal.nD Cert.AdamConvFIdeal.τ).loc Cert.AdamConvFIdeal.main_arg3))) (m ((c.tc : Thread Cert.AdamConvFIdeal.nD Cert.AdamConvFIdeal.τ).loc Cert.AdamConvFIdeal.main_arg1)),
    fun c => Adam.stepM (Adam.total (m ((c.tc : Thread Cert.AdamConvFIdeal.nD Cert.AdamConvFIdeal.τ).loc Cert.AdamConvFIdeal.main_arg0))) (m ((c.tc : Thread Cert.AdamConvFIdeal.nD Cert.AdamConvFIdeal.τ).loc Cert.AdamConvFIdeal.main_arg2)), fun c => Adam.stepV (Adam.total (m ((c.tc : Thread Cert.AdamConvFIdeal.nD Cert.AdamConvFIdeal.τ).loc Cert.AdamConvFIdeal.main_arg0))) (m ((c.tc : Thread Cert.AdamConvFIdeal.nD Cert.AdamConvFIdeal.τ).loc Cert.AdamConvFIdeal.main_arg3)),
    (θ_run Cert.AdamConvFIdeal.defs _ _).mono (fun _ h c => ?_) (Adam.ConvF.run m g),
    (θ_run Cert.PlainConvFIdeal.defs _ _).mono (fun _ h c => ?_) (Adam.ConvF.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_adamSmall : Cert.quiescent_AdamSmall := fun m g _ => Cert.AdamSmall.Gen.frame (F := Bits) m g

theorem frame_adamSmallIdeal : Cert.quiescent_AdamSmallIdeal := fun m g _ => Cert.AdamSmallIdeal.Gen.frame (F := Ideal) m g

theorem frame_plainSmallIdeal : Cert.quiescent_PlainSmallIdeal := fun m g _ =>
  (θ_run Cert.PlainSmallIdeal.defs _ _).mono (fun r h => ⟨fun c => (h c).2, sem_eq_zero_of_no_sems (by decide) r.2⟩) (Adam.Small.plain m g)

theorem algebraic_adamSmall : Cert.algebraic_AdamSmallIdeal_PlainSmallIdeal := by
  intro m g m' g' _ hm
  refine ⟨fun c => Adam.total (m ((c.tc : Thread Cert.AdamSmallIdeal.nD Cert.AdamSmallIdeal.τ).loc Cert.AdamSmallIdeal.main_arg0)),
    fun c => Adam.stepW (Adam.stepM (Adam.total (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg2))) (Adam.stepV (Adam.total (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg3))) (m ((c.tc : Thread Cert.AdamSmallIdeal.nD Cert.AdamSmallIdeal.τ).loc Cert.AdamSmallIdeal.main_arg1)),
    fun c => Adam.stepM (Adam.total (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg2)), fun c => Adam.stepV (Adam.total (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg3)),
    (θ_run Cert.AdamSmallIdeal.defs _ _).mono (fun _ h c => ?_) (Adam.Small.run m g),
    (θ_run Cert.PlainSmallIdeal.defs _ _).mono (fun _ h c => ?_) (Adam.Small.plain m' g')⟩
  · obtain ⟨⟨h0, h1, h2, h3⟩, ha⟩ := h c
    exact ⟨h0, h1, h2, h3, ha⟩
  · obtain ⟨h0, h1, h2, h3⟩ := Adam.Stepped.unique ⟨rfl, rfl, rfl, rfl⟩ (h c).1 (hm c)
    exact ⟨h0, h1, h2, h3, (h c).2⟩

theorem frame_rmsFwd : Cert.quiescent_RmsFwd := fun m g _ => Cert.RmsFwd.Gen.frame (F := Bits) m g

theorem frame_rmsFwdIdeal : Cert.quiescent_RmsFwdIdeal := fun m g _ => Cert.RmsFwdIdeal.Gen.frame (F := Ideal) m g

theorem frame_plainRmsFwdIdeal : Cert.quiescent_PlainRmsFwdIdeal := fun m g _ =>
  (θ_run Cert.PlainRmsFwdIdeal.defs _ _).mono (fun r h => ⟨fun c => (h c).2, sem_eq_zero_of_no_sems (by decide) r.2⟩) (Norm.Fwd.plain m g)

theorem algebraic_rmsFwd : Cert.algebraic_RmsFwdIdeal_PlainRmsFwdIdeal := by
  intro m g m' g' _ hm
  refine ⟨_, Norm.Fwd.run m g, (θ_run Cert.PlainRmsFwdIdeal.defs _ _).mono (fun _ h c => ?_) (Norm.Fwd.plain m' g')⟩
  exact ⟨(h c).1.trans (by rw [(hm c).1, (hm c).2]), (h c).2⟩

theorem frame_rmsBwd : Cert.quiescent_RmsBwd := fun m g _ => Cert.RmsBwd.Gen.frame (F := Bits) m g

theorem frame_rmsBwdIdeal : Cert.quiescent_RmsBwdIdeal := fun m g _ => Cert.RmsBwdIdeal.Gen.frame (F := Ideal) m g

theorem frame_plainRmsBwdIdeal : Cert.quiescent_PlainRmsBwdIdeal := fun m g _ =>
  (θ_run Cert.PlainRmsBwdIdeal.defs _ _).mono (fun r h => ⟨fun c => (h c).2.2, sem_eq_zero_of_no_sems (by decide) r.2⟩) (Norm.Bwd.plain m g)

theorem algebraic_rmsBwd : Cert.algebraic_RmsBwdIdeal_PlainRmsBwdIdeal := by
  intro m g m' g' _ hm
  refine ⟨_, _, Norm.Bwd.run m g, (θ_run Cert.PlainRmsBwdIdeal.defs _ _).mono (fun _ h c => ?_) (Norm.Bwd.plain m' g')⟩
  exact ⟨(h c).1.trans (by rw [(hm c).1, (hm c).2.1, (hm c).2.2.1, (hm c).2.2.2]), (h c).2.1.trans (by rw [(hm c).1, (hm c).2.1]), (h c).2.2⟩

theorem frame_loss : Cert.quiescent_Loss := fun m g _ => Cert.Loss.Gen.frame (F := Bits) m g

theorem frame_lossIdeal : Cert.quiescent_LossIdeal := fun m g _ => Cert.LossIdeal.Gen.frame (F := Ideal) m g

theorem frame_plainLossIdeal : Cert.quiescent_PlainLossIdeal := fun m g _ =>
  (θ_run Cert.PlainLossIdeal.defs _ _).mono (fun r h => ⟨fun c => (h c).2, sem_eq_zero_of_no_sems (by decide) r.2⟩) (Norm.Loss.plain m g)

theorem algebraic_loss : Cert.algebraic_LossIdeal_PlainLossIdeal := by
  intro m g m' g' _ hm
  refine ⟨_, _, _, Norm.Loss.run m g, (θ_run Cert.PlainLossIdeal.defs _ _).mono (fun _ h c => ?_) (Norm.Loss.plain m' g')⟩
  obtain ⟨⟨h0, h1, h2⟩, ha⟩ := h c
  exact ⟨h0.trans (by rw [(hm c).1, (hm c).2.1, (hm c).2.2]), h1.trans (by rw [(hm c).1, (hm c).2.1, (hm c).2.2]), h2.trans (by rw [(hm c).1, (hm c).2.1, (hm c).2.2]; rfl), ha⟩

theorem frame_projA : Cert.quiescent_ProjA := fun m g _ => Cert.ProjA.Gen.frame (F := Bits) m g

theorem frame_projAIdeal : Cert.quiescent_ProjAIdeal := fun m g _ => Cert.ProjAIdeal.Gen.frame (F := Ideal) m g

theorem frame_plainProjAIdeal : Cert.quiescent_PlainProjAIdeal := fun m g _ =>
  (θ_run Cert.PlainProjAIdeal.defs _ _).mono (fun r h => ⟨fun c => (h c).2, sem_eq_zero_of_no_sems (by decide) r.2⟩) (Products.ProjA.plain m g)

theorem algebraic_projA : Cert.algebraic_ProjAIdeal_PlainProjAIdeal := by
  intro m g m' g' _ hm
  refine ⟨_, Products.ProjA.run m g, (θ_run Cert.PlainProjAIdeal.defs _ _).mono (fun _ h c => ?_) (Products.ProjA.plain m' g')⟩
  exact ⟨(h c).1.trans (by rw [(hm c).1, (hm c).2]), (h c).2⟩

theorem frame_projZ : Cert.quiescent_ProjZ := fun m g _ => Cert.ProjZ.Gen.frame (F := Bits) m g

theorem frame_projZIdeal : Cert.quiescent_ProjZIdeal := fun m g _ => Cert.ProjZIdeal.Gen.frame (F := Ideal) m g

theorem frame_plainProjZIdeal : Cert.quiescent_PlainProjZIdeal := fun m g _ =>
  (θ_run Cert.PlainProjZIdeal.defs _ _).mono (fun r h => ⟨fun c => (h c).2, sem_eq_zero_of_no_sems (by decide) r.2⟩) (Products.ProjZ.plain m g)

theorem algebraic_projZ : Cert.algebraic_ProjZIdeal_PlainProjZIdeal := by
  intro m g m' g' _ hm
  refine ⟨_, Products.ProjZ.run m g, (θ_run Cert.PlainProjZIdeal.defs _ _).mono (fun _ h c => ?_) (Products.ProjZ.plain m' g')⟩
  exact ⟨(h c).1.trans (by rw [(hm c).1, (hm c).2]), (h c).2⟩

theorem frame_projB : Cert.quiescent_ProjB := fun m g _ => Cert.ProjB.Gen.frame (F := Bits) m g

theorem frame_projBIdeal : Cert.quiescent_ProjBIdeal := fun m g _ => Cert.ProjBIdeal.Gen.frame (F := Ideal) m g

theorem frame_plainProjBIdeal : Cert.quiescent_PlainProjBIdeal := fun m g _ =>
  (θ_run Cert.PlainProjBIdeal.defs _ _).mono (fun r h => ⟨fun c => (h c).2, sem_eq_zero_of_no_sems (by decide) r.2⟩) (Products.ProjB.plain m g)

theorem algebraic_projB : Cert.algebraic_ProjBIdeal_PlainProjBIdeal := by
  intro m g m' g' _ hm
  refine ⟨_, Products.ProjB.run m g, (θ_run Cert.PlainProjBIdeal.defs _ _).mono (fun _ h c => ?_) (Products.ProjB.plain m' g')⟩
  exact ⟨(h c).1.trans (by rw [(hm c).1, (hm c).2]), (h c).2⟩

theorem frame_outProj : Cert.quiescent_OutProj := fun m g _ => Cert.OutProj.Gen.frame (F := Bits) m g

theorem frame_outProjIdeal : Cert.quiescent_OutProjIdeal := fun m g _ => Cert.OutProjIdeal.Gen.frame (F := Ideal) m g

theorem frame_plainOutProjIdeal : Cert.quiescent_PlainOutProjIdeal := fun m g _ =>
  (θ_run Cert.PlainOutProjIdeal.defs _ _).mono (fun r h => ⟨fun c => (h c).2, sem_eq_zero_of_no_sems (by decide) r.2⟩) (Products.OutProj.plain m g)

theorem algebraic_outProj : Cert.algebraic_OutProjIdeal_PlainOutProjIdeal := by
  intro m g m' g' _ hm
  refine ⟨_, Products.OutProj.run m g, (θ_run Cert.PlainOutProjIdeal.defs _ _).mono (fun _ h c => ?_) (Products.OutProj.plain m' g')⟩
  exact ⟨(h c).1.trans (by rw [(hm c).1, (hm c).2.1, (hm c).2.2]), (h c).2⟩

theorem frame_ffnUp : Cert.quiescent_FfnUp := fun m g _ => Cert.FfnUp.Gen.frame (F := Bits) m g

theorem frame_ffnUpIdeal : Cert.quiescent_FfnUpIdeal := fun m g _ => Cert.FfnUpIdeal.Gen.frame (F := Ideal) m g

theorem frame_plainFfnUpIdeal : Cert.quiescent_PlainFfnUpIdeal := fun m g _ =>
  (θ_run Cert.PlainFfnUpIdeal.defs _ _).mono (fun r h => ⟨fun c => (h c).2, sem_eq_zero_of_no_sems (by decide) r.2⟩) (Products.FfnUp.plain m g)

theorem algebraic_ffnUp : Cert.algebraic_FfnUpIdeal_PlainFfnUpIdeal := by
  intro m g m' g' _ hm
  refine ⟨_, Products.FfnUp.run m g, (θ_run Cert.PlainFfnUpIdeal.defs _ _).mono (fun _ h c => ?_) (Products.FfnUp.plain m' g')⟩
  exact ⟨(h c).1.trans (by rw [(hm c).1, (hm c).2]), (h c).2⟩

theorem frame_ffnDown : Cert.quiescent_FfnDown := fun m g _ => Cert.FfnDown.Gen.frame (F := Bits) m g

theorem frame_ffnDownIdeal : Cert.quiescent_FfnDownIdeal := fun m g _ => Cert.FfnDownIdeal.Gen.frame (F := Ideal) m g

theorem frame_plainFfnDownIdeal : Cert.quiescent_PlainFfnDownIdeal := fun m g _ =>
  (θ_run Cert.PlainFfnDownIdeal.defs _ _).mono (fun r h => ⟨fun c => (h c).2, sem_eq_zero_of_no_sems (by decide) r.2⟩) (Products.FfnDown.plain m g)

theorem algebraic_ffnDown : Cert.algebraic_FfnDownIdeal_PlainFfnDownIdeal := by
  intro m g m' g' _ hm
  refine ⟨_, Products.FfnDown.run m g, (θ_run Cert.PlainFfnDownIdeal.defs _ _).mono (fun _ h c => ?_) (Products.FfnDown.plain m' g')⟩
  exact ⟨(h c).1.trans (by rw [(hm c).1, (hm c).2.1, (hm c).2.2]), (h c).2⟩

theorem frame_ffnDownDx : Cert.quiescent_FfnDownDx := fun m g _ => Cert.FfnDownDx.Gen.frame (F := Bits) m g

theorem frame_ffnDownDxIdeal : Cert.quiescent_FfnDownDxIdeal := fun m g _ => Cert.FfnDownDxIdeal.Gen.frame (F := Ideal) m g

theorem frame_plainFfnDownDxIdeal : Cert.quiescent_PlainFfnDownDxIdeal := fun m g _ =>
  (θ_run Cert.PlainFfnDownDxIdeal.defs _ _).mono (fun r h => ⟨fun c => (h c).2, sem_eq_zero_of_no_sems (by decide) r.2⟩) (Products.FfnDownDx.plain m g)

theorem algebraic_ffnDownDx : Cert.algebraic_FfnDownDxIdeal_PlainFfnDownDxIdeal := by
  intro m g m' g' _ hm
  refine ⟨_, Products.FfnDownDx.run m g, (θ_run Cert.PlainFfnDownDxIdeal.defs _ _).mono (fun _ h c => ?_) (Products.FfnDownDx.plain m' g')⟩
  exact ⟨(h c).1.trans (by rw [(hm c).1, (hm c).2]), (h c).2⟩

theorem frame_ffnGateDx : Cert.quiescent_FfnGateDx := fun m g _ => Cert.FfnGateDx.Gen.frame (F := Bits) m g

theorem frame_ffnGateDxIdeal : Cert.quiescent_FfnGateDxIdeal := fun m g _ => Cert.FfnGateDxIdeal.Gen.frame (F := Ideal) m g

theorem frame_plainFfnGateDxIdeal : Cert.quiescent_PlainFfnGateDxIdeal := fun m g _ =>
  (θ_run Cert.PlainFfnGateDxIdeal.defs _ _).mono (fun r h => ⟨fun c => (h c).2, sem_eq_zero_of_no_sems (by decide) r.2⟩) (Products.FfnGateDx.plain m g)

theorem algebraic_ffnGateDx : Cert.algebraic_FfnGateDxIdeal_PlainFfnGateDxIdeal := by
  intro m g m' g' _ hm
  refine ⟨_, Products.FfnGateDx.run m g, (θ_run Cert.PlainFfnGateDxIdeal.defs _ _).mono (fun _ h c => ?_) (Products.FfnGateDx.plain m' g')⟩
  exact ⟨(h c).1.trans (by rw [(hm c).1, (hm c).2]), (h c).2⟩

theorem frame_ffnUpDx : Cert.quiescent_FfnUpDx := fun m g _ => Cert.FfnUpDx.Gen.frame (F := Bits) m g

theorem frame_ffnUpDxIdeal : Cert.quiescent_FfnUpDxIdeal := fun m g _ => Cert.FfnUpDxIdeal.Gen.frame (F := Ideal) m g

theorem frame_plainFfnUpDxIdeal : Cert.quiescent_PlainFfnUpDxIdeal := fun m g _ =>
  (θ_run Cert.PlainFfnUpDxIdeal.defs _ _).mono (fun r h => ⟨fun c => (h c).2, sem_eq_zero_of_no_sems (by decide) r.2⟩) (Products.FfnUpDx.plain m g)

theorem algebraic_ffnUpDx : Cert.algebraic_FfnUpDxIdeal_PlainFfnUpDxIdeal := by
  intro m g m' g' _ hm
  refine ⟨_, Products.FfnUpDx.run m g, (θ_run Cert.PlainFfnUpDxIdeal.defs _ _).mono (fun _ h c => ?_) (Products.FfnUpDx.plain m' g')⟩
  exact ⟨(h c).1.trans (by rw [(hm c).1, (hm c).2.1, (hm c).2.2]), (h c).2⟩

theorem frame_outProjDx : Cert.quiescent_OutProjDx := fun m g _ => Cert.OutProjDx.Gen.frame (F := Bits) m g

theorem frame_outProjDxIdeal : Cert.quiescent_OutProjDxIdeal := fun m g _ => Cert.OutProjDxIdeal.Gen.frame (F := Ideal) m g

theorem frame_plainOutProjDxIdeal : Cert.quiescent_PlainOutProjDxIdeal := fun m g _ =>
  (θ_run Cert.PlainOutProjDxIdeal.defs _ _).mono (fun r h => ⟨fun c => (h c).2, sem_eq_zero_of_no_sems (by decide) r.2⟩) (Products.OutProjDx.plain m g)

theorem algebraic_outProjDx : Cert.algebraic_OutProjDxIdeal_PlainOutProjDxIdeal := by
  intro m g m' g' _ hm
  refine ⟨_, Products.OutProjDx.run m g, (θ_run Cert.PlainOutProjDxIdeal.defs _ _).mono (fun _ h c => ?_) (Products.OutProjDx.plain m' g')⟩
  exact ⟨(h c).1.trans (by rw [(hm c).1, (hm c).2]), (h c).2⟩

theorem frame_projADx : Cert.quiescent_ProjADx := fun m g _ => Cert.ProjADx.Gen.frame (F := Bits) m g

theorem frame_projADxIdeal : Cert.quiescent_ProjADxIdeal := fun m g _ => Cert.ProjADxIdeal.Gen.frame (F := Ideal) m g

theorem frame_plainProjADxIdeal : Cert.quiescent_PlainProjADxIdeal := fun m g _ =>
  (θ_run Cert.PlainProjADxIdeal.defs _ _).mono (fun r h => ⟨fun c => (h c).2, sem_eq_zero_of_no_sems (by decide) r.2⟩) (Products.ProjADx.plain m g)

theorem algebraic_projADx : Cert.algebraic_ProjADxIdeal_PlainProjADxIdeal := by
  intro m g m' g' _ hm
  refine ⟨_, Products.ProjADx.run m g, (θ_run Cert.PlainProjADxIdeal.defs _ _).mono (fun _ h c => ?_) (Products.ProjADx.plain m' g')⟩
  exact ⟨(h c).1.trans (by rw [(hm c).1, (hm c).2]), (h c).2⟩

theorem frame_projZDx : Cert.quiescent_ProjZDx := fun m g _ => Cert.ProjZDx.Gen.frame (F := Bits) m g

theorem frame_projZDxIdeal : Cert.quiescent_ProjZDxIdeal := fun m g _ => Cert.ProjZDxIdeal.Gen.frame (F := Ideal) m g

theorem frame_plainProjZDxIdeal : Cert.quiescent_PlainProjZDxIdeal := fun m g _ =>
  (θ_run Cert.PlainProjZDxIdeal.defs _ _).mono (fun r h => ⟨fun c => (h c).2, sem_eq_zero_of_no_sems (by decide) r.2⟩) (Products.ProjZDx.plain m g)

theorem algebraic_projZDx : Cert.algebraic_ProjZDxIdeal_PlainProjZDxIdeal := by
  intro m g m' g' _ hm
  refine ⟨_, Products.ProjZDx.run m g, (θ_run Cert.PlainProjZDxIdeal.defs _ _).mono (fun _ h c => ?_) (Products.ProjZDx.plain m' g')⟩
  exact ⟨(h c).1.trans (by rw [(hm c).1, (hm c).2.1, (hm c).2.2]), (h c).2⟩

theorem frame_projBDx : Cert.quiescent_ProjBDx := fun m g _ => Cert.ProjBDx.Gen.frame (F := Bits) m g

theorem frame_projBDxIdeal : Cert.quiescent_ProjBDxIdeal := fun m g _ => Cert.ProjBDxIdeal.Gen.frame (F := Ideal) m g

theorem frame_plainProjBDxIdeal : Cert.quiescent_PlainProjBDxIdeal := fun m g _ =>
  (θ_run Cert.PlainProjBDxIdeal.defs _ _).mono (fun r h => ⟨fun c => (h c).2, sem_eq_zero_of_no_sems (by decide) r.2⟩) (Products.ProjBDx.plain m g)

theorem algebraic_projBDx : Cert.algebraic_ProjBDxIdeal_PlainProjBDxIdeal := by
  intro m g m' g' _ hm
  refine ⟨_, Products.ProjBDx.run m g, (θ_run Cert.PlainProjBDxIdeal.defs _ _).mono (fun _ h c => ?_) (Products.ProjBDx.plain m' g')⟩
  exact ⟨(h c).1.trans (by rw [(hm c).1, (hm c).2.1, (hm c).2.2]), (h c).2⟩

theorem frame_ffnDownDw : Cert.quiescent_FfnDownDw := fun m g _ => Cert.FfnDownDw.Gen.frame (F := Bits) m g

theorem frame_ffnDownDwIdeal : Cert.quiescent_FfnDownDwIdeal := fun m g _ => Cert.FfnDownDwIdeal.Gen.frame (F := Ideal) m g

theorem frame_plainFfnDownDwIdeal : Cert.quiescent_PlainFfnDownDwIdeal := fun m g _ =>
  (θ_run Cert.PlainFfnDownDwIdeal.defs _ _).mono (fun r h => ⟨fun c => (h c).2, sem_eq_zero_of_no_sems (by decide) r.2⟩) (Products.FfnDownDw.plain m g)

theorem algebraic_ffnDownDw : Cert.algebraic_FfnDownDwIdeal_PlainFfnDownDwIdeal := by
  intro m g m' g' _ hm
  refine ⟨_, Products.FfnDownDw.run m g, (θ_run Cert.PlainFfnDownDwIdeal.defs _ _).mono (fun _ h c => ?_) (Products.FfnDownDw.plain m' g')⟩
  exact ⟨(h c).1.trans (by rw [(hm c).1, (hm c).2]), (h c).2⟩

theorem frame_ffnUpDw : Cert.quiescent_FfnUpDw := fun m g _ => Cert.FfnUpDw.Gen.frame (F := Bits) m g

theorem frame_ffnUpDwIdeal : Cert.quiescent_FfnUpDwIdeal := fun m g _ => Cert.FfnUpDwIdeal.Gen.frame (F := Ideal) m g

theorem frame_plainFfnUpDwIdeal : Cert.quiescent_PlainFfnUpDwIdeal := fun m g _ =>
  (θ_run Cert.PlainFfnUpDwIdeal.defs _ _).mono (fun r h => ⟨fun c => (h c).2, sem_eq_zero_of_no_sems (by decide) r.2⟩) (Products.FfnUpDw.plain m g)

theorem algebraic_ffnUpDw : Cert.algebraic_FfnUpDwIdeal_PlainFfnUpDwIdeal := by
  intro m g m' g' _ hm
  refine ⟨_, Products.FfnUpDw.run m g, (θ_run Cert.PlainFfnUpDwIdeal.defs _ _).mono (fun _ h c => ?_) (Products.FfnUpDw.plain m' g')⟩
  exact ⟨(h c).1.trans (by rw [(hm c).1, (hm c).2]), (h c).2⟩

theorem frame_outProjDw : Cert.quiescent_OutProjDw := fun m g _ => Cert.OutProjDw.Gen.frame (F := Bits) m g

theorem frame_outProjDwIdeal : Cert.quiescent_OutProjDwIdeal := fun m g _ => Cert.OutProjDwIdeal.Gen.frame (F := Ideal) m g

theorem frame_plainOutProjDwIdeal : Cert.quiescent_PlainOutProjDwIdeal := fun m g _ =>
  (θ_run Cert.PlainOutProjDwIdeal.defs _ _).mono (fun r h => ⟨fun c => (h c).2, sem_eq_zero_of_no_sems (by decide) r.2⟩) (Products.OutProjDw.plain m g)

theorem algebraic_outProjDw : Cert.algebraic_OutProjDwIdeal_PlainOutProjDwIdeal := by
  intro m g m' g' _ hm
  refine ⟨_, Products.OutProjDw.run m g, (θ_run Cert.PlainOutProjDwIdeal.defs _ _).mono (fun _ h c => ?_) (Products.OutProjDw.plain m' g')⟩
  exact ⟨(h c).1.trans (by rw [(hm c).1, (hm c).2]), (h c).2⟩

theorem frame_projADw : Cert.quiescent_ProjADw := fun m g _ => Cert.ProjADw.Gen.frame (F := Bits) m g

theorem frame_projADwIdeal : Cert.quiescent_ProjADwIdeal := fun m g _ => Cert.ProjADwIdeal.Gen.frame (F := Ideal) m g

theorem frame_plainProjADwIdeal : Cert.quiescent_PlainProjADwIdeal := fun m g _ =>
  (θ_run Cert.PlainProjADwIdeal.defs _ _).mono (fun r h => ⟨fun c => (h c).2, sem_eq_zero_of_no_sems (by decide) r.2⟩) (Products.ProjADw.plain m g)

theorem algebraic_projADw : Cert.algebraic_ProjADwIdeal_PlainProjADwIdeal := by
  intro m g m' g' _ hm
  refine ⟨_, Products.ProjADw.run m g, (θ_run Cert.PlainProjADwIdeal.defs _ _).mono (fun _ h c => ?_) (Products.ProjADw.plain m' g')⟩
  exact ⟨(h c).1.trans (by rw [(hm c).1, (hm c).2]), (h c).2⟩

theorem frame_projZDw : Cert.quiescent_ProjZDw := fun m g _ => Cert.ProjZDw.Gen.frame (F := Bits) m g

theorem frame_projZDwIdeal : Cert.quiescent_ProjZDwIdeal := fun m g _ => Cert.ProjZDwIdeal.Gen.frame (F := Ideal) m g

theorem frame_plainProjZDwIdeal : Cert.quiescent_PlainProjZDwIdeal := fun m g _ =>
  (θ_run Cert.PlainProjZDwIdeal.defs _ _).mono (fun r h => ⟨fun c => (h c).2, sem_eq_zero_of_no_sems (by decide) r.2⟩) (Products.ProjZDw.plain m g)

theorem algebraic_projZDw : Cert.algebraic_ProjZDwIdeal_PlainProjZDwIdeal := by
  intro m g m' g' _ hm
  refine ⟨_, Products.ProjZDw.run m g, (θ_run Cert.PlainProjZDwIdeal.defs _ _).mono (fun _ h c => ?_) (Products.ProjZDw.plain m' g')⟩
  exact ⟨(h c).1.trans (by rw [(hm c).1, (hm c).2]), (h c).2⟩

theorem frame_projBDw : Cert.quiescent_ProjBDw := fun m g _ => Cert.ProjBDw.Gen.frame (F := Bits) m g

theorem frame_projBDwIdeal : Cert.quiescent_ProjBDwIdeal := fun m g _ => Cert.ProjBDwIdeal.Gen.frame (F := Ideal) m g

theorem frame_plainProjBDwIdeal : Cert.quiescent_PlainProjBDwIdeal := fun m g _ =>
  (θ_run Cert.PlainProjBDwIdeal.defs _ _).mono (fun r h => ⟨fun c => (h c).2, sem_eq_zero_of_no_sems (by decide) r.2⟩) (Products.ProjBDw.plain m g)

theorem algebraic_projBDw : Cert.algebraic_ProjBDwIdeal_PlainProjBDwIdeal := by
  intro m g m' g' _ hm
  refine ⟨_, Products.ProjBDw.run m g, (θ_run Cert.PlainProjBDwIdeal.defs _ _).mono (fun _ h c => ?_) (Products.ProjBDw.plain m' g')⟩
  exact ⟨(h c).1.trans (by rw [(hm c).1, (hm c).2]), (h c).2⟩

theorem frame_ffnAct : Cert.quiescent_FfnAct := fun m g _ => Cert.FfnAct.Gen.frame (F := Bits) m g

theorem frame_ffnActIdeal : Cert.quiescent_FfnActIdeal := fun m g _ => Cert.FfnActIdeal.Gen.frame (F := Ideal) m g

theorem frame_plainFfnActIdeal : Cert.quiescent_PlainFfnActIdeal := fun m g _ =>
  (θ_run Cert.PlainFfnActIdeal.defs _ _).mono (fun r h => ⟨fun c => (h c).2, sem_eq_zero_of_no_sems (by decide) r.2⟩) (FeedForward.Act.plain m g)

theorem algebraic_ffnAct : Cert.algebraic_FfnActIdeal_PlainFfnActIdeal := by
  intro m g m' g' _ hm
  refine ⟨_, FeedForward.Act.run m g, (θ_run Cert.PlainFfnActIdeal.defs _ _).mono (fun _ h c => ?_) (FeedForward.Act.plain m' g')⟩
  exact ⟨(h c).1.trans (by rw [(hm c).1, (hm c).2]), (h c).2⟩

theorem claim : Cert.Claim :=
  ⟨Cert.Kernel.Gen.facts, Cert.KernelIdeal.Gen.facts, Cert.ReferenceIdeal.Gen.facts, Cert.Reference.Gen.facts,
    Cert.Gather.Gen.facts, Cert.GatherIdeal.Gen.facts, Cert.StackIdeal.Gen.facts, Cert.Stack.Gen.facts,
    Cert.GatherSmall.Gen.facts, Cert.GatherSmallIdeal.Gen.facts, Cert.StackSmallIdeal.Gen.facts, Cert.StackSmall.Gen.facts,
    Cert.AdamIn.Gen.facts, Cert.AdamInIdeal.Gen.facts, Cert.PlainInIdeal.Gen.facts,
    Cert.AdamOut.Gen.facts, Cert.AdamOutIdeal.Gen.facts, Cert.PlainOutIdeal.Gen.facts,
    Cert.AdamUp.Gen.facts, Cert.AdamUpIdeal.Gen.facts, Cert.PlainUpIdeal.Gen.facts,
    Cert.AdamDown.Gen.facts, Cert.AdamDownIdeal.Gen.facts, Cert.PlainDownIdeal.Gen.facts,
    Cert.AdamConvA.Gen.facts, Cert.AdamConvAIdeal.Gen.facts, Cert.PlainConvAIdeal.Gen.facts,
    Cert.AdamConvF.Gen.facts, Cert.AdamConvFIdeal.Gen.facts, Cert.PlainConvFIdeal.Gen.facts,
    Cert.AdamSmall.Gen.facts, Cert.AdamSmallIdeal.Gen.facts, Cert.PlainSmallIdeal.Gen.facts,
    Cert.RmsFwd.Gen.facts, Cert.RmsFwdIdeal.Gen.facts, Cert.PlainRmsFwdIdeal.Gen.facts,
    Cert.RmsBwd.Gen.facts, Cert.RmsBwdIdeal.Gen.facts, Cert.PlainRmsBwdIdeal.Gen.facts,
    Cert.Loss.Gen.facts, Cert.LossIdeal.Gen.facts, Cert.PlainLossIdeal.Gen.facts,
    Cert.ProjA.Gen.facts, Cert.ProjAIdeal.Gen.facts, Cert.PlainProjAIdeal.Gen.facts,
    Cert.ProjZ.Gen.facts, Cert.ProjZIdeal.Gen.facts, Cert.PlainProjZIdeal.Gen.facts,
    Cert.ProjB.Gen.facts, Cert.ProjBIdeal.Gen.facts, Cert.PlainProjBIdeal.Gen.facts,
    Cert.OutProj.Gen.facts, Cert.OutProjIdeal.Gen.facts, Cert.PlainOutProjIdeal.Gen.facts,
    Cert.FfnUp.Gen.facts, Cert.FfnUpIdeal.Gen.facts, Cert.PlainFfnUpIdeal.Gen.facts,
    Cert.FfnDown.Gen.facts, Cert.FfnDownIdeal.Gen.facts, Cert.PlainFfnDownIdeal.Gen.facts,
    Cert.FfnDownDx.Gen.facts, Cert.FfnDownDxIdeal.Gen.facts, Cert.PlainFfnDownDxIdeal.Gen.facts,
    Cert.FfnGateDx.Gen.facts, Cert.FfnGateDxIdeal.Gen.facts, Cert.PlainFfnGateDxIdeal.Gen.facts,
    Cert.FfnUpDx.Gen.facts, Cert.FfnUpDxIdeal.Gen.facts, Cert.PlainFfnUpDxIdeal.Gen.facts,
    Cert.OutProjDx.Gen.facts, Cert.OutProjDxIdeal.Gen.facts, Cert.PlainOutProjDxIdeal.Gen.facts,
    Cert.ProjADx.Gen.facts, Cert.ProjADxIdeal.Gen.facts, Cert.PlainProjADxIdeal.Gen.facts,
    Cert.ProjZDx.Gen.facts, Cert.ProjZDxIdeal.Gen.facts, Cert.PlainProjZDxIdeal.Gen.facts,
    Cert.ProjBDx.Gen.facts, Cert.ProjBDxIdeal.Gen.facts, Cert.PlainProjBDxIdeal.Gen.facts,
    Cert.FfnDownDw.Gen.facts, Cert.FfnDownDwIdeal.Gen.facts, Cert.PlainFfnDownDwIdeal.Gen.facts,
    Cert.FfnUpDw.Gen.facts, Cert.FfnUpDwIdeal.Gen.facts, Cert.PlainFfnUpDwIdeal.Gen.facts,
    Cert.OutProjDw.Gen.facts, Cert.OutProjDwIdeal.Gen.facts, Cert.PlainOutProjDwIdeal.Gen.facts,
    Cert.ProjADw.Gen.facts, Cert.ProjADwIdeal.Gen.facts, Cert.PlainProjADwIdeal.Gen.facts,
    Cert.ProjZDw.Gen.facts, Cert.ProjZDwIdeal.Gen.facts, Cert.PlainProjZDwIdeal.Gen.facts,
    Cert.ProjBDw.Gen.facts, Cert.ProjBDwIdeal.Gen.facts, Cert.PlainProjBDwIdeal.Gen.facts,
    Cert.FfnAct.Gen.facts, Cert.FfnActIdeal.Gen.facts, Cert.PlainFfnActIdeal.Gen.facts,
    frame_kernel, frame_kernelIdeal, frame_referenceIdeal, frame_reference,
    frame_gather, frame_gatherIdeal, frame_stackIdeal, frame_stack,
    frame_gatherSmall, frame_gatherSmallIdeal, frame_stackSmallIdeal, frame_stackSmall,
    frame_adamIn, frame_adamInIdeal, frame_plainInIdeal,
    frame_adamOut, frame_adamOutIdeal, frame_plainOutIdeal,
    frame_adamUp, frame_adamUpIdeal, frame_plainUpIdeal,
    frame_adamDown, frame_adamDownIdeal, frame_plainDownIdeal,
    frame_adamConvA, frame_adamConvAIdeal, frame_plainConvAIdeal,
    frame_adamConvF, frame_adamConvFIdeal, frame_plainConvFIdeal,
    frame_adamSmall, frame_adamSmallIdeal, frame_plainSmallIdeal,
    frame_rmsFwd, frame_rmsFwdIdeal, frame_plainRmsFwdIdeal,
    frame_rmsBwd, frame_rmsBwdIdeal, frame_plainRmsBwdIdeal,
    frame_loss, frame_lossIdeal, frame_plainLossIdeal,
    frame_projA, frame_projAIdeal, frame_plainProjAIdeal,
    frame_projZ, frame_projZIdeal, frame_plainProjZIdeal,
    frame_projB, frame_projBIdeal, frame_plainProjBIdeal,
    frame_outProj, frame_outProjIdeal, frame_plainOutProjIdeal,
    frame_ffnUp, frame_ffnUpIdeal, frame_plainFfnUpIdeal,
    frame_ffnDown, frame_ffnDownIdeal, frame_plainFfnDownIdeal,
    frame_ffnDownDx, frame_ffnDownDxIdeal, frame_plainFfnDownDxIdeal,
    frame_ffnGateDx, frame_ffnGateDxIdeal, frame_plainFfnGateDxIdeal,
    frame_ffnUpDx, frame_ffnUpDxIdeal, frame_plainFfnUpDxIdeal,
    frame_outProjDx, frame_outProjDxIdeal, frame_plainOutProjDxIdeal,
    frame_projADx, frame_projADxIdeal, frame_plainProjADxIdeal,
    frame_projZDx, frame_projZDxIdeal, frame_plainProjZDxIdeal,
    frame_projBDx, frame_projBDxIdeal, frame_plainProjBDxIdeal,
    frame_ffnDownDw, frame_ffnDownDwIdeal, frame_plainFfnDownDwIdeal,
    frame_ffnUpDw, frame_ffnUpDwIdeal, frame_plainFfnUpDwIdeal,
    frame_outProjDw, frame_outProjDwIdeal, frame_plainOutProjDwIdeal,
    frame_projADw, frame_projADwIdeal, frame_plainProjADwIdeal,
    frame_projZDw, frame_projZDwIdeal, frame_plainProjZDwIdeal,
    frame_projBDw, frame_projBDwIdeal, frame_plainProjBDwIdeal,
    frame_ffnAct, frame_ffnActIdeal, frame_plainFfnActIdeal,
    trivial, algebraic, bitexact,
    trivial, algebraic_gather, bitexact_gather,
    trivial, algebraic_gatherSmall, bitexact_gatherSmall,
    trivial, algebraic_adamIn,
    trivial, algebraic_adamOut,
    trivial, algebraic_adamUp,
    trivial, algebraic_adamDown,
    trivial, algebraic_adamConvA,
    trivial, algebraic_adamConvF,
    trivial, algebraic_adamSmall,
    trivial, algebraic_rmsFwd,
    trivial, algebraic_rmsBwd,
    trivial, algebraic_loss,
    trivial, algebraic_projA,
    trivial, algebraic_projZ,
    trivial, algebraic_projB,
    trivial, algebraic_outProj,
    trivial, algebraic_ffnUp,
    trivial, algebraic_ffnDown,
    trivial, algebraic_ffnDownDx,
    trivial, algebraic_ffnGateDx,
    trivial, algebraic_ffnUpDx,
    trivial, algebraic_outProjDx,
    trivial, algebraic_projADx,
    trivial, algebraic_projZDx,
    trivial, algebraic_projBDx,
    trivial, algebraic_ffnDownDw,
    trivial, algebraic_ffnUpDw,
    trivial, algebraic_outProjDw,
    trivial, algebraic_projADw,
    trivial, algebraic_projZDw,
    trivial, algebraic_projBDw,
    trivial, algebraic_ffnAct⟩

end Cert.Proof

end
